-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdKernelIdeal_finite_fwd [hPre_finite_fwd : Cert.Pre_finite_fwd.Facts] (m : (ℓ : Loc Cert.FwdKernelIdeal.nD Cert.FwdKernelIdeal.τ Cert.FwdKernelIdeal.sig) → Buf (Elt Ideal) ℓ) : Prop :=
  ∀ c : Dev Cert.FwdKernelIdeal.nD,
    (Cert.Pre_finite_fwd.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2))).1 = (fun _ => 1#1)
    ∧ (Cert.Pre_finite_fwd.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2))).2.1 = (fun _ => 1#1)
    ∧ (Cert.Pre_finite_fwd.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2))).2.2 = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite_fwd [hPre_finite_fwd : Cert.Pre_finite_fwd.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))).1 = (fun _ => 1#1)
    ∧ (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))).2.1 = (fun _ => 1#1)
    ∧ (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))).2.2 = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_UpDwKernel (m : (ℓ : Loc Cert.UpDwKernel.nD Cert.UpDwKernel.τ Cert.UpDwKernel.sig) → Buf (Elt Bits) ℓ) : Prop :=
  True

def Pre_UpDwKernelIdeal (m : (ℓ : Loc Cert.UpDwKernelIdeal.nD Cert.UpDwKernelIdeal.τ Cert.UpDwKernelIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_UpDxKernel (m : (ℓ : Loc Cert.UpDxKernel.nD Cert.UpDxKernel.τ Cert.UpDxKernel.sig) → Buf (Elt Bits) ℓ) : Prop :=
  True

def Pre_UpDxKernelIdeal (m : (ℓ : Loc Cert.UpDxKernelIdeal.nD Cert.UpDxKernelIdeal.τ Cert.UpDxKernelIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_LastKernel (m : (ℓ : Loc Cert.LastKernel.nD Cert.LastKernel.τ Cert.LastKernel.sig) → Buf (Elt Bits) ℓ) : Prop :=
  True

def Pre_LastKernelIdeal (m : (ℓ : Loc Cert.LastKernelIdeal.nD Cert.LastKernelIdeal.τ Cert.LastKernelIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_DownDxKernel (m : (ℓ : Loc Cert.DownDxKernel.nD Cert.DownDxKernel.τ Cert.DownDxKernel.sig) → Buf (Elt Bits) ℓ) : Prop :=
  True

def Pre_DownDxKernelIdeal (m : (ℓ : Loc Cert.DownDxKernelIdeal.nD Cert.DownDxKernelIdeal.τ Cert.DownDxKernelIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDwKernel (m : (ℓ : Loc Cert.DownDwKernel.nD Cert.DownDwKernel.τ Cert.DownDwKernel.sig) → Buf (Elt Bits) ℓ) : Prop :=
  True

def Pre_DownDwKernelIdeal (m : (ℓ : Loc Cert.DownDwKernelIdeal.nD Cert.DownDwKernelIdeal.τ Cert.DownDwKernelIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_GluDwKernel (m : (ℓ : Loc Cert.GluDwKernel.nD Cert.GluDwKernel.τ Cert.GluDwKernel.sig) → Buf (Elt Bits) ℓ) : Prop :=
  True

def Pre_GluDwKernelIdeal (m : (ℓ : Loc Cert.GluDwKernelIdeal.nD Cert.GluDwKernelIdeal.τ Cert.GluDwKernelIdeal.sig) → Buf (Elt Ideal) ℓ) : Prop :=
  True

def Pre_GluDwReferenceIdeal (m : (ℓ : Loc Cert.GluDwReferenceIdeal.nD Cert.GluDwReferenceIdeal.τ Cert.GluDwReferenceIdeal.sig) → Buf (Elt Ideal) ℓ) : Prop :=
  True

def Pre_GluDyKernel (m : (ℓ : Loc Cert.GluDyKernel.nD Cert.GluDyKernel.τ Cert.GluDyKernel.sig) → Buf (Elt Bits) ℓ) : Prop :=
  True

def Pre_GluDyKernelIdeal (m : (ℓ : Loc Cert.GluDyKernelIdeal.nD Cert.GluDyKernelIdeal.τ Cert.GluDyKernelIdeal.sig) → Buf (Elt Ideal) ℓ) : Prop :=
  True

def Pre_GluDyReferenceIdeal (m : (ℓ : Loc Cert.GluDyReferenceIdeal.nD Cert.GluDyReferenceIdeal.τ Cert.GluDyReferenceIdeal.sig) → Buf (Elt Ideal) ℓ) : Prop :=
  True

def Pre_QueryKernel (m : (ℓ : Loc Cert.QueryKernel.nD Cert.QueryKernel.τ Cert.QueryKernel.sig) → Buf (Elt Bits) ℓ) : Prop :=
  True

def Pre_QueryKernelIdeal (m : (ℓ : Loc Cert.QueryKernelIdeal.nD Cert.QueryKernelIdeal.τ Cert.QueryKernelIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_SharedKernel (m : (ℓ : Loc Cert.SharedKernel.nD Cert.SharedKernel.τ Cert.SharedKernel.sig) → Buf (Elt Bits) ℓ) : Prop :=
  True

def Pre_SharedKernelIdeal (m : (ℓ : Loc Cert.SharedKernelIdeal.nD Cert.SharedKernelIdeal.τ Cert.SharedKernelIdeal.sig) → Buf (Elt Ideal) ℓ) : Prop :=
  True

def Pre_SharedReferenceIdeal (m : (ℓ : Loc Cert.SharedReferenceIdeal.nD Cert.SharedReferenceIdeal.τ Cert.SharedReferenceIdeal.sig) → Buf (Elt Ideal) ℓ) : Prop :=
  True

def Pre_OutDxKernel (m : (ℓ : Loc Cert.OutDxKernel.nD Cert.OutDxKernel.τ Cert.OutDxKernel.sig) → Buf (Elt Bits) ℓ) : Prop :=
  True

def Pre_OutDxKernelIdeal (m : (ℓ : Loc Cert.OutDxKernelIdeal.nD Cert.OutDxKernelIdeal.τ Cert.OutDxKernelIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutDwKernel (m : (ℓ : Loc Cert.OutDwKernel.nD Cert.OutDwKernel.τ Cert.OutDwKernel.sig) → Buf (Elt Bits) ℓ) : Prop :=
  True

def Pre_OutDwKernelIdeal (m : (ℓ : Loc Cert.OutDwKernelIdeal.nD Cert.OutDwKernelIdeal.τ Cert.OutDwKernelIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_QueryDwKernel (m : (ℓ : Loc Cert.QueryDwKernel.nD Cert.QueryDwKernel.τ Cert.QueryDwKernel.sig) → Buf (Elt Bits) ℓ) : Prop :=
  True

def Pre_QueryDwKernelIdeal (m : (ℓ : Loc Cert.QueryDwKernelIdeal.nD Cert.QueryDwKernelIdeal.τ Cert.QueryDwKernelIdeal.sig) → Buf (Elt Ideal) ℓ) : Prop :=
  True

def Pre_QueryDwReferenceIdeal (m : (ℓ : Loc Cert.QueryDwReferenceIdeal.nD Cert.QueryDwReferenceIdeal.τ Cert.QueryDwReferenceIdeal.sig) → Buf (Elt Ideal) ℓ) : Prop :=
  True

def Pre_SharedDwKernel (m : (ℓ : Loc Cert.SharedDwKernel.nD Cert.SharedDwKernel.τ Cert.SharedDwKernel.sig) → Buf (Elt Bits) ℓ) : Prop :=
  True

def Pre_SharedDwKernelIdeal (m : (ℓ : Loc Cert.SharedDwKernelIdeal.nD Cert.SharedDwKernelIdeal.τ Cert.SharedDwKernelIdeal.sig) → Buf (Elt Ideal) ℓ) : Prop :=
  True

def Pre_SharedDwReferenceIdeal (m : (ℓ : Loc Cert.SharedDwReferenceIdeal.nD Cert.SharedDwReferenceIdeal.τ Cert.SharedDwReferenceIdeal.sig) → Buf (Elt Ideal) ℓ) : Prop :=
  True

def Pre_SharedDxKernel (m : (ℓ : Loc Cert.SharedDxKernel.nD Cert.SharedDxKernel.τ Cert.SharedDxKernel.sig) → Buf (Elt Bits) ℓ) : Prop :=
  True

def Pre_SharedDxKernelIdeal (m : (ℓ : Loc Cert.SharedDxKernelIdeal.nD Cert.SharedDxKernelIdeal.τ Cert.SharedDxKernelIdeal.sig) → Buf (Elt Ideal) ℓ) : Prop :=
  True

def Pre_SharedDxReferenceIdeal (m : (ℓ : Loc Cert.SharedDxReferenceIdeal.nD Cert.SharedDxReferenceIdeal.τ Cert.SharedDxReferenceIdeal.sig) → Buf (Elt Ideal) ℓ) : Prop :=
  True

def Pre_QueryDxKernel (m : (ℓ : Loc Cert.QueryDxKernel.nD Cert.QueryDxKernel.τ Cert.QueryDxKernel.sig) → Buf (Elt Bits) ℓ) : Prop :=
  True

def Pre_QueryDxKernelIdeal (m : (ℓ : Loc Cert.QueryDxKernelIdeal.nD Cert.QueryDxKernelIdeal.τ Cert.QueryDxKernelIdeal.sig) → Buf (Elt Ideal) ℓ) : Prop :=
  True

def Pre_QueryDxReferenceIdeal (m : (ℓ : Loc Cert.QueryDxReferenceIdeal.nD Cert.QueryDxReferenceIdeal.τ Cert.QueryDxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ r.2.sem = fun _ => 0)

def quiescent_FwdKernelIdeal_pre_finite_fwd [hFwdKernelIdeal : Cert.FwdKernelIdeal.Facts] [hPre_finite_fwd : Cert.Pre_finite_fwd.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal_finite_fwd m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_FwdReferenceIdeal_pre_finite_fwd [hFwdReferenceIdeal : Cert.FwdReferenceIdeal.Facts] [hPre_finite_fwd : Cert.Pre_finite_fwd.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite_fwd m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_UpDwKernel [hUpDwKernel : Cert.UpDwKernel.Facts] : Prop :=
  ∀ (m : (ℓ : Loc Cert.UpDwKernel.nD Cert.UpDwKernel.τ Cert.UpDwKernel.sig) → Buf (Elt Bits) ℓ) (g : Dev Cert.UpDwKernel.nD → PrngReg), Pre_UpDwKernel m →
    θ_run (Cert.UpDwKernel.defs (F := Bits)) (onTc (τ := Cert.UpDwKernel.τ) (Cert.UpDwKernel.main (F := Bits))) ⟨m, fun _ => 0, g⟩ (fun r => (∀ c : Dev Cert.UpDwKernel.nD,
      r.2.mem ((c.tc : Thread Cert.UpDwKernel.nD Cert.UpDwKernel.τ).loc Cert.UpDwKernel.main_arg0) = m ((c.tc : Thread Cert.UpDwKernel.nD Cert.UpDwKernel.τ).loc Cert.UpDwKernel.main_arg0)
      ∧ r.2.mem ((c.tc : Thread Cert.UpDwKernel.nD Cert.UpDwKernel.τ).loc Cert.UpDwKernel.main_arg1) = m ((c.tc : Thread Cert.UpDwKernel.nD Cert.UpDwKernel.τ).loc Cert.UpDwKernel.main_arg1))
      ∧ r.2.sem = fun _ => 0)

def quiescent_UpDwKernelIdeal [hUpDwKernelIdeal : Cert.UpDwKernelIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg), Pre_UpDwKernelIdeal m →
    θ_run (Cert.UpDwKernelIdeal.defs (F := Ideal)) (onTc (τ := Cert.UpDwKernelIdeal.τ) (Cert.UpDwKernelIdeal.main (F := Ideal))) ⟨m, fun _ => 0, g⟩ (fun r => (∀ c : Dev Cert.UpDwKernelIdeal.nD,
      r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
      ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_UpDxKernel [hUpDxKernel : Cert.UpDxKernel.Facts] : Prop :=
  ∀ (m : (ℓ : Loc Cert.UpDxKernel.nD Cert.UpDxKernel.τ Cert.UpDxKernel.sig) → Buf (Elt Bits) ℓ) (g : Dev Cert.UpDxKernel.nD → PrngReg), Pre_UpDxKernel m →
    θ_run (Cert.UpDxKernel.defs (F := Bits)) (onTc (τ := Cert.UpDxKernel.τ) (Cert.UpDxKernel.main (F := Bits))) ⟨m, fun _ => 0, g⟩ (fun r => (∀ c : Dev Cert.UpDxKernel.nD,
      r.2.mem ((c.tc : Thread Cert.UpDxKernel.nD Cert.UpDxKernel.τ).loc Cert.UpDxKernel.main_arg0) = m ((c.tc : Thread Cert.UpDxKernel.nD Cert.UpDxKernel.τ).loc Cert.UpDxKernel.main_arg0)
      ∧ r.2.mem ((c.tc : Thread Cert.UpDxKernel.nD Cert.UpDxKernel.τ).loc Cert.UpDxKernel.main_arg1) = m ((c.tc : Thread Cert.UpDxKernel.nD Cert.UpDxKernel.τ).loc Cert.UpDxKernel.main_arg1)
      ∧ r.2.mem ((c.tc : Thread Cert.UpDxKernel.nD Cert.UpDxKernel.τ).loc Cert.UpDxKernel.main_arg2) = m ((c.tc : Thread Cert.UpDxKernel.nD Cert.UpDxKernel.τ).loc Cert.UpDxKernel.main_arg2)
      ∧ r.2.mem ((c.tc : Thread Cert.UpDxKernel.nD Cert.UpDxKernel.τ).loc Cert.UpDxKernel.main_arg3) = m ((c.tc : Thread Cert.UpDxKernel.nD Cert.UpDxKernel.τ).loc Cert.UpDxKernel.main_arg3)
      ∧ r.2.mem ((c.tc : Thread Cert.UpDxKernel.nD Cert.UpDxKernel.τ).loc Cert.UpDxKernel.main_arg4) = m ((c.tc : Thread Cert.UpDxKernel.nD Cert.UpDxKernel.τ).loc Cert.UpDxKernel.main_arg4))
      ∧ r.2.sem = fun _ => 0)

def quiescent_UpDxKernelIdeal [hUpDxKernelIdeal : Cert.UpDxKernelIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg), Pre_UpDxKernelIdeal m →
    θ_run (Cert.UpDxKernelIdeal.defs (F := Ideal)) (onTc (τ := Cert.UpDxKernelIdeal.τ) (Cert.UpDxKernelIdeal.main (F := Ideal))) ⟨m, fun _ => 0, g⟩ (fun r => (∀ c : Dev Cert.UpDxKernelIdeal.nD,
      r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
      ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1)
      ∧ r.2.mem ((c.tc : Thread Cert.UpDxKernelIdeal.nD Cert.UpDxKernelIdeal.τ).loc Cert.UpDxKernelIdeal.main_arg2) = m ((c.tc : Thread Cert.UpDxKernelIdeal.nD Cert.UpDxKernelIdeal.τ).loc Cert.UpDxKernelIdeal.main_arg2)
      ∧ r.2.mem ((c.tc : Thread Cert.UpDxKernelIdeal.nD Cert.UpDxKernelIdeal.τ).loc Cert.UpDxKernelIdeal.main_arg3) = m ((c.tc : Thread Cert.UpDxKernelIdeal.nD Cert.UpDxKernelIdeal.τ).loc Cert.UpDxKernelIdeal.main_arg3)
      ∧ r.2.mem ((c.tc : Thread Cert.UpDxKernelIdeal.nD Cert.UpDxKernelIdeal.τ).loc Cert.UpDxKernelIdeal.main_arg4) = m ((c.tc : Thread Cert.UpDxKernelIdeal.nD Cert.UpDxKernelIdeal.τ).loc Cert.UpDxKernelIdeal.main_arg4))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1)
      ∧ r.2.mem ((c.tc : Thread Cert.UpDxReferenceIdeal.nD Cert.UpDxReferenceIdeal.τ).loc Cert.UpDxReferenceIdeal.main_arg2) = m ((c.tc : Thread Cert.UpDxReferenceIdeal.nD Cert.UpDxReferenceIdeal.τ).loc Cert.UpDxReferenceIdeal.main_arg2)
      ∧ r.2.mem ((c.tc : Thread Cert.UpDxReferenceIdeal.nD Cert.UpDxReferenceIdeal.τ).loc Cert.UpDxReferenceIdeal.main_arg3) = m ((c.tc : Thread Cert.UpDxReferenceIdeal.nD Cert.UpDxReferenceIdeal.τ).loc Cert.UpDxReferenceIdeal.main_arg3)
      ∧ r.2.mem ((c.tc : Thread Cert.UpDxReferenceIdeal.nD Cert.UpDxReferenceIdeal.τ).loc Cert.UpDxReferenceIdeal.main_arg4) = m ((c.tc : Thread Cert.UpDxReferenceIdeal.nD Cert.UpDxReferenceIdeal.τ).loc Cert.UpDxReferenceIdeal.main_arg4))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_LastKernel [hLastKernel : Cert.LastKernel.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1)
      ∧ r.2.mem ((c.tc : Thread Cert.LastKernel.nD Cert.LastKernel.τ).loc Cert.LastKernel.main_arg2) = m ((c.tc : Thread Cert.LastKernel.nD Cert.LastKernel.τ).loc Cert.LastKernel.main_arg2))
      ∧ r.2.sem = fun _ => 0)

def quiescent_LastKernelIdeal [hLastKernelIdeal : Cert.LastKernelIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2))
      ∧ r.2.sem = fun _ => 0)

def quiescent_DownDxKernel [hDownDxKernel : Cert.DownDxKernel.Facts] : Prop :=
  ∀ (m : (ℓ : Loc Cert.DownDxKernel.nD Cert.DownDxKernel.τ Cert.DownDxKernel.sig) → Buf (Elt Bits) ℓ) (g : Dev Cert.DownDxKernel.nD → PrngReg), Pre_DownDxKernel m →
    θ_run (Cert.DownDxKernel.defs (F := Bits)) (onTc (τ := Cert.DownDxKernel.τ) (Cert.DownDxKernel.main (F := Bits))) ⟨m, fun _ => 0, g⟩ (fun r => (∀ c : Dev Cert.DownDxKernel.nD,
      r.2.mem ((c.tc : Thread Cert.DownDxKernel.nD Cert.DownDxKernel.τ).loc Cert.DownDxKernel.main_arg0) = m ((c.tc : Thread Cert.DownDxKernel.nD Cert.DownDxKernel.τ).loc Cert.DownDxKernel.main_arg0)
      ∧ r.2.mem ((c.tc : Thread Cert.DownDxKernel.nD Cert.DownDxKernel.τ).loc Cert.DownDxKernel.main_arg1) = m ((c.tc : Thread Cert.DownDxKernel.nD Cert.DownDxKernel.τ).loc Cert.DownDxKernel.main_arg1))
      ∧ r.2.sem = fun _ => 0)

def quiescent_DownDxKernelIdeal [hDownDxKernelIdeal : Cert.DownDxKernelIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg), Pre_DownDxKernelIdeal m →
    θ_run (Cert.DownDxKernelIdeal.defs (F := Ideal)) (onTc (τ := Cert.DownDxKernelIdeal.τ) (Cert.DownDxKernelIdeal.main (F := Ideal))) ⟨m, fun _ => 0, g⟩ (fun r => (∀ c : Dev Cert.DownDxKernelIdeal.nD,
      r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
      ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_DownDwKernel [hDownDwKernel : Cert.DownDwKernel.Facts] : Prop :=
  ∀ (m : (ℓ : Loc Cert.DownDwKernel.nD Cert.DownDwKernel.τ Cert.DownDwKernel.sig) → Buf (Elt Bits) ℓ) (g : Dev Cert.DownDwKernel.nD → PrngReg), Pre_DownDwKernel m →
    θ_run (Cert.DownDwKernel.defs (F := Bits)) (onTc (τ := Cert.DownDwKernel.τ) (Cert.DownDwKernel.main (F := Bits))) ⟨m, fun _ => 0, g⟩ (fun r => (∀ c : Dev Cert.DownDwKernel.nD,
      r.2.mem ((c.tc : Thread Cert.DownDwKernel.nD Cert.DownDwKernel.τ).loc Cert.DownDwKernel.main_arg0) = m ((c.tc : Thread Cert.DownDwKernel.nD Cert.DownDwKernel.τ).loc Cert.DownDwKernel.main_arg0)
      ∧ r.2.mem ((c.tc : Thread Cert.DownDwKernel.nD Cert.DownDwKernel.τ).loc Cert.DownDwKernel.main_arg1) = m ((c.tc : Thread Cert.DownDwKernel.nD Cert.DownDwKernel.τ).loc Cert.DownDwKernel.main_arg1))
      ∧ r.2.sem = fun _ => 0)

def quiescent_DownDwKernelIdeal [hDownDwKernelIdeal : Cert.DownDwKernelIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg), Pre_DownDwKernelIdeal m →
    θ_run (Cert.DownDwKernelIdeal.defs (F := Ideal)) (onTc (τ := Cert.DownDwKernelIdeal.τ) (Cert.DownDwKernelIdeal.main (F := Ideal))) ⟨m, fun _ => 0, g⟩ (fun r => (∀ c : Dev Cert.DownDwKernelIdeal.nD,
      r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
      ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1))
      ∧ r.2.sem = fun _ => 0)

def quiescent_GluDwKernel [hGluDwKernel : Cert.GluDwKernel.Facts] : Prop :=
  ∀ (m : (ℓ : Loc Cert.GluDwKernel.nD Cert.GluDwKernel.τ Cert.GluDwKernel.sig) → Buf (Elt Bits) ℓ) (g : Dev Cert.GluDwKernel.nD → PrngReg), Pre_GluDwKernel m →
    θ_run (Cert.GluDwKernel.defs (F := Bits)) (onTc (τ := Cert.GluDwKernel.τ) (Cert.GluDwKernel.main (F := Bits))) ⟨m, fun _ => 0, g⟩ (fun r => (∀ c : Dev Cert.GluDwKernel.nD,
      r.2.mem ((c.tc : Thread Cert.GluDwKernel.nD Cert.GluDwKernel.τ).loc Cert.GluDwKernel.main_arg0) = m ((c.tc : Thread Cert.GluDwKernel.nD Cert.GluDwKernel.τ).loc Cert.GluDwKernel.main_arg0)
      ∧ r.2.mem ((c.tc : Thread Cert.GluDwKernel.nD Cert.GluDwKernel.τ).loc Cert.GluDwKernel.main_arg1) = m ((c.tc : Thread Cert.GluDwKernel.nD Cert.GluDwKernel.τ).loc Cert.GluDwKernel.main_arg1))
      ∧ r.2.sem = fun _ => 0)

def quiescent_GluDwKernelIdeal [hGluDwKernelIdeal : Cert.GluDwKernelIdeal.Facts] : Prop :=
  ∀ (m : (ℓ : Loc Cert.GluDwKernelIdeal.nD Cert.GluDwKernelIdeal.τ Cert.GluDwKernelIdeal.sig) → Buf (Elt Ideal) ℓ) (g : Dev Cert.GluDwKernelIdeal.nD → PrngReg), Pre_GluDwKernelIdeal m →
    θ_run (Cert.GluDwKernelIdeal.defs (F := Ideal)) (onTc (τ := Cert.GluDwKernelIdeal.τ) (Cert.GluDwKernelIdeal.main (F := Ideal))) ⟨m, fun _ => 0, g⟩ (fun r => (∀ c : Dev Cert.GluDwKernelIdeal.nD,
      r.2.mem ((c.tc : Thread Cert.GluDwKernelIdeal.nD Cert.GluDwKernelIdeal.τ).loc Cert.GluDwKernelIdeal.main_arg0) = m ((c.tc : Thread Cert.GluDwKernelIdeal.nD Cert.GluDwKernelIdeal.τ).loc Cert.GluDwKernelIdeal.main_arg0)
      ∧ r.2.mem ((c.tc : Thread Cert.GluDwKernelIdeal.nD Cert.GluDwKernelIdeal.τ).loc Cert.GluDwKernelIdeal.main_arg1) = m ((c.tc : Thread Cert.GluDwKernelIdeal.nD Cert.GluDwKernelIdeal.τ).loc Cert.GluDwKernelIdeal.main_arg1))
      ∧ r.2.sem = fun _ => 0)

def quiescent_GluDwReferenceIdeal [hGluDwReferenceIdeal : Cert.GluDwReferenceIdeal.Facts] : Prop :=
  ∀ (m : (ℓ : Loc Cert.GluDwReferenceIdeal.nD Cert.GluDwReferenceIdeal.τ Cert.GluDwReferenceIdeal.sig) → Buf (Elt Ideal) ℓ) (g : Dev Cert.GluDwReferenceIdeal.nD → PrngReg), Pre_GluDwReferenceIdeal m →
    θ_run (Cert.GluDwReferenceIdeal.defs (F := Ideal)) (onTc (τ := Cert.GluDwReferenceIdeal.τ) (Cert.GluDwReferenceIdeal.main (F := Ideal))) ⟨m, fun _ => 0, g⟩ (fun r => (∀ c : Dev Cert.GluDwReferenceIdeal.nD,
      r.2.mem ((c.tc : Thread Cert.GluDwReferenceIdeal.nD Cert.GluDwReferenceIdeal.τ).loc Cert.GluDwReferenceIdeal.main_arg0) = m ((c.tc : Thread Cert.GluDwReferenceIdeal.nD Cert.GluDwReferenceIdeal.τ).loc Cert.GluDwReferenceIdeal.main_arg0)
      ∧ r.2.mem ((c.tc : Thread Cert.GluDwReferenceIdeal.nD Cert.GluDwReferenceIdeal.τ).loc Cert.GluDwReferenceIdeal.main_arg1) = m ((c.tc : Thread Cert.GluDwReferenceIdeal.nD Cert.GluDwReferenceIdeal.τ).loc Cert.GluDwReferenceIdeal.main_arg1))
      ∧ r.2.sem = fun _ => 0)

def quiescent_GluDyKernel [hGluDyKernel : Cert.GluDyKernel.Facts] : Prop :=
  ∀ (m : (ℓ : Loc Cert.GluDyKernel.nD Cert.GluDyKernel.τ Cert.GluDyKernel.sig) → Buf (Elt Bits) ℓ) (g : Dev Cert.GluDyKernel.nD → PrngReg), Pre_GluDyKernel m →
    θ_run (Cert.GluDyKernel.defs (F := Bits)) (onTc (τ := Cert.GluDyKernel.τ) (Cert.GluDyKernel.main (F := Bits))) ⟨m, fun _ => 0, g⟩ (fun r => (∀ c : Dev Cert.GluDyKernel.nD,
      r.2.mem ((c.tc : Thread Cert.GluDyKernel.nD Cert.GluDyKernel.τ).loc Cert.GluDyKernel.main_arg0) = m ((c.tc : Thread Cert.GluDyKernel.nD Cert.GluDyKernel.τ).loc Cert.GluDyKernel.main_arg0)
      ∧ r.2.mem ((c.tc : Thread Cert.GluDyKernel.nD Cert.GluDyKernel.τ).loc Cert.GluDyKernel.main_arg1) = m ((c.tc : Thread Cert.GluDyKernel.nD Cert.GluDyKernel.τ).loc Cert.GluDyKernel.main_arg1))
      ∧ r.2.sem = fun _ => 0)

def quiescent_GluDyKernelIdeal [hGluDyKernelIdeal : Cert.GluDyKernelIdeal.Facts] : Prop :=
  ∀ (m : (ℓ : Loc Cert.GluDyKernelIdeal.nD Cert.GluDyKernelIdeal.τ Cert.GluDyKernelIdeal.sig) → Buf (Elt Ideal) ℓ) (g : Dev Cert.GluDyKernelIdeal.nD → PrngReg), Pre_GluDyKernelIdeal m →
    θ_run (Cert.GluDyKernelIdeal.defs (F := Ideal)) (onTc (τ := Cert.GluDyKernelIdeal.τ) (Cert.GluDyKernelIdeal.main (F := Ideal))) ⟨m, fun _ => 0, g⟩ (fun r => (∀ c : Dev Cert.GluDyKernelIdeal.nD,
      r.2.mem ((c.tc : Thread Cert.GluDyKernelIdeal.nD Cert.GluDyKernelIdeal.τ).loc Cert.GluDyKernelIdeal.main_arg0) = m ((c.tc : Thread Cert.GluDyKernelIdeal.nD Cert.GluDyKernelIdeal.τ).loc Cert.GluDyKernelIdeal.main_arg0)
      ∧ r.2.mem ((c.tc : Thread Cert.GluDyKernelIdeal.nD Cert.GluDyKernelIdeal.τ).loc Cert.GluDyKernelIdeal.main_arg1) = m ((c.tc : Thread Cert.GluDyKernelIdeal.nD Cert.GluDyKernelIdeal.τ).loc Cert.GluDyKernelIdeal.main_arg1))
      ∧ r.2.sem = fun _ => 0)

def quiescent_GluDyReferenceIdeal [hGluDyReferenceIdeal : Cert.GluDyReferenceIdeal.Facts] : Prop :=
  ∀ (m : (ℓ : Loc Cert.GluDyReferenceIdeal.nD Cert.GluDyReferenceIdeal.τ Cert.GluDyReferenceIdeal.sig) → Buf (Elt Ideal) ℓ) (g : Dev Cert.GluDyReferenceIdeal.nD → PrngReg), Pre_GluDyReferenceIdeal m →
    θ_run (Cert.GluDyReferenceIdeal.defs (F := Ideal)) (onTc (τ := Cert.GluDyReferenceIdeal.τ) (Cert.GluDyReferenceIdeal.main (F := Ideal))) ⟨m, fun _ => 0, g⟩ (fun r => (∀ c : Dev Cert.GluDyReferenceIdeal.nD,
      r.2.mem ((c.tc : Thread Cert.GluDyReferenceIdeal.nD Cert.GluDyReferenceIdeal.τ).loc Cert.GluDyReferenceIdeal.main_arg0) = m ((c.tc : Thread Cert.GluDyReferenceIdeal.nD Cert.GluDyReferenceIdeal.τ).loc Cert.GluDyReferenceIdeal.main_arg0)
      ∧ r.2.mem ((c.tc : Thread Cert.GluDyReferenceIdeal.nD Cert.GluDyReferenceIdeal.τ).loc Cert.GluDyReferenceIdeal.main_arg1) = m ((c.tc : Thread Cert.GluDyReferenceIdeal.nD Cert.GluDyReferenceIdeal.τ).loc Cert.GluDyReferenceIdeal.main_arg1))
      ∧ r.2.sem = fun _ => 0)

def quiescent_QueryKernel [hQueryKernel : Cert.QueryKernel.Facts] : Prop :=
  ∀ (m : (ℓ : Loc Cert.QueryKernel.nD Cert.QueryKernel.τ Cert.QueryKernel.sig) → Buf (Elt Bits) ℓ) (g : Dev Cert.QueryKernel.nD → PrngReg), Pre_QueryKernel m →
    θ_run (Cert.QueryKernel.defs (F := Bits)) (onTc (τ := Cert.QueryKernel.τ) (Cert.QueryKernel.main (F := Bits))) ⟨m, fun _ => 0, g⟩ (fun r => (∀ c : Dev Cert.QueryKernel.nD,
      r.2.mem ((c.tc : Thread Cert.QueryKernel.nD Cert.QueryKernel.τ).loc Cert.QueryKernel.main_arg0) = m ((c.tc : Thread Cert.QueryKernel.nD Cert.QueryKernel.τ).loc Cert.QueryKernel.main_arg0)
      ∧ r.2.mem ((c.tc : Thread Cert.QueryKernel.nD Cert.QueryKernel.τ).loc Cert.QueryKernel.main_arg1) = m ((c.tc : Thread Cert.QueryKernel.nD Cert.QueryKernel.τ).loc Cert.QueryKernel.main_arg1))
      ∧ r.2.sem = fun _ => 0)

def quiescent_QueryKernelIdeal [hQueryKernelIdeal : Cert.QueryKernelIdeal.Facts] : Prop :=
  ∀ (m : (ℓ : Loc Cert.QueryKernelIdeal.nD Cert.QueryKernelIdeal.τ Cert.QueryKernelIdeal.sig) → Buf (Elt Ideal) ℓ) (g : Dev Cert.QueryKernelIdeal.nD → PrngReg), Pre_QueryKernelIdeal m →
    θ_run (Cert.QueryKernelIdeal.defs (F := Ideal)) (onTc (τ := Cert.QueryKernelIdeal.τ) (Cert.QueryKernelIdeal.main (F := Ideal))) ⟨m, fun _ => 0, g⟩ (fun r => (∀ c : Dev Cert.QueryKernelIdeal.nD,
      r.2.mem ((c.tc : Thread Cert.QueryKernelIdeal.nD Cert.QueryKernelIdeal.τ).loc Cert.QueryKernelIdeal.main_arg0) = m ((c.tc : Thread Cert.QueryKernelIdeal.nD Cert.QueryKernelIdeal.τ).loc Cert.QueryKernelIdeal.main_arg0)
      ∧ r.2.mem ((c.tc : Thread Cert.QueryKernelIdeal.nD Cert.QueryKernelIdeal.τ).loc Cert.QueryKernelIdeal.main_arg1) = m ((c.tc : Thread Cert.QueryKernelIdeal.nD Cert.QueryKernelIdeal.τ).loc Cert.QueryKernelIdeal.main_arg1))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_SharedKernel [hSharedKernel : Cert.SharedKernel.Facts] : Prop :=
  ∀ (m : (ℓ : Loc Cert.SharedKernel.nD Cert.SharedKernel.τ Cert.SharedKernel.sig) → Buf (Elt Bits) ℓ) (g : Dev Cert.SharedKernel.nD → PrngReg), Pre_SharedKernel m →
    θ_run (Cert.SharedKernel.defs (F := Bits)) (onTc (τ := Cert.SharedKernel.τ) (Cert.SharedKernel.main (F := Bits))) ⟨m, fun _ => 0, g⟩ (fun r => (∀ c : Dev Cert.SharedKernel.nD,
      r.2.mem ((c.tc : Thread Cert.SharedKernel.nD Cert.SharedKernel.τ).loc Cert.SharedKernel.main_arg0) = m ((c.tc : Thread Cert.SharedKernel.nD Cert.SharedKernel.τ).loc Cert.SharedKernel.main_arg0)
      ∧ r.2.mem ((c.tc : Thread Cert.SharedKernel.nD Cert.SharedKernel.τ).loc Cert.SharedKernel.main_arg1) = m ((c.tc : Thread Cert.SharedKernel.nD Cert.SharedKernel.τ).loc Cert.SharedKernel.main_arg1))
      ∧ r.2.sem = fun _ => 0)

def quiescent_SharedKernelIdeal [hSharedKernelIdeal : Cert.SharedKernelIdeal.Facts] : Prop :=
  ∀ (m : (ℓ : Loc Cert.SharedKernelIdeal.nD Cert.SharedKernelIdeal.τ Cert.SharedKernelIdeal.sig) → Buf (Elt Ideal) ℓ) (g : Dev Cert.SharedKernelIdeal.nD → PrngReg), Pre_SharedKernelIdeal m →
    θ_run (Cert.SharedKernelIdeal.defs (F := Ideal)) (onTc (τ := Cert.SharedKernelIdeal.τ) (Cert.SharedKernelIdeal.main (F := Ideal))) ⟨m, fun _ => 0, g⟩ (fun r => (∀ c : Dev Cert.SharedKernelIdeal.nD,
      r.2.mem ((c.tc : Thread Cert.SharedKernelIdeal.nD Cert.SharedKernelIdeal.τ).loc Cert.SharedKernelIdeal.main_arg0) = m ((c.tc : Thread Cert.SharedKernelIdeal.nD Cert.SharedKernelIdeal.τ).loc Cert.SharedKernelIdeal.main_arg0)
      ∧ r.2.mem ((c.tc : Thread Cert.SharedKernelIdeal.nD Cert.SharedKernelIdeal.τ).loc Cert.SharedKernelIdeal.main_arg1) = m ((c.tc : Thread Cert.SharedKernelIdeal.nD Cert.SharedKernelIdeal.τ).loc Cert.SharedKernelIdeal.main_arg1))
      ∧ r.2.sem = fun _ => 0)

def quiescent_SharedReferenceIdeal [hSharedReferenceIdeal : Cert.SharedReferenceIdeal.Facts] : Prop :=
  ∀ (m : (ℓ : Loc Cert.SharedReferenceIdeal.nD Cert.SharedReferenceIdeal.τ Cert.SharedReferenceIdeal.sig) → Buf (Elt Ideal) ℓ) (g : Dev Cert.SharedReferenceIdeal.nD → PrngReg), Pre_SharedReferenceIdeal m →
    θ_run (Cert.SharedReferenceIdeal.defs (F := Ideal)) (onTc (τ := Cert.SharedReferenceIdeal.τ) (Cert.SharedReferenceIdeal.main (F := Ideal))) ⟨m, fun _ => 0, g⟩ (fun r => (∀ c : Dev Cert.SharedReferenceIdeal.nD,
      r.2.mem ((c.tc : Thread Cert.SharedReferenceIdeal.nD Cert.SharedReferenceIdeal.τ).loc Cert.SharedReferenceIdeal.main_arg0) = m ((c.tc : Thread Cert.SharedReferenceIdeal.nD Cert.SharedReferenceIdeal.τ).loc Cert.SharedReferenceIdeal.main_arg0)
      ∧ r.2.mem ((c.tc : Thread Cert.SharedReferenceIdeal.nD Cert.SharedReferenceIdeal.τ).loc Cert.SharedReferenceIdeal.main_arg1) = m ((c.tc : Thread Cert.SharedReferenceIdeal.nD Cert.SharedReferenceIdeal.τ).loc Cert.SharedReferenceIdeal.main_arg1))
      ∧ r.2.sem = fun _ => 0)

def quiescent_OutDxKernel [hOutDxKernel : Cert.OutDxKernel.Facts] : Prop :=
  ∀ (m : (ℓ : Loc Cert.OutDxKernel.nD Cert.OutDxKernel.τ Cert.OutDxKernel.sig) → Buf (Elt Bits) ℓ) (g : Dev Cert.OutDxKernel.nD → PrngReg), Pre_OutDxKernel m →
    θ_run (Cert.OutDxKernel.defs (F := Bits)) (onTc (τ := Cert.OutDxKernel.τ) (Cert.OutDxKernel.main (F := Bits))) ⟨m, fun _ => 0, g⟩ (fun r => (∀ c : Dev Cert.OutDxKernel.nD,
      r.2.mem ((c.tc : Thread Cert.OutDxKernel.nD Cert.OutDxKernel.τ).loc Cert.OutDxKernel.main_arg0) = m ((c.tc : Thread Cert.OutDxKernel.nD Cert.OutDxKernel.τ).loc Cert.OutDxKernel.main_arg0)
      ∧ r.2.mem ((c.tc : Thread Cert.OutDxKernel.nD Cert.OutDxKernel.τ).loc Cert.OutDxKernel.main_arg1) = m ((c.tc : Thread Cert.OutDxKernel.nD Cert.OutDxKernel.τ).loc Cert.OutDxKernel.main_arg1))
      ∧ r.2.sem = fun _ => 0)

def quiescent_OutDxKernelIdeal [hOutDxKernelIdeal : Cert.OutDxKernelIdeal.Facts] : Prop :=
  ∀ (m : (ℓ : Loc Cert.OutDxKernelIdeal.nD Cert.OutDxKernelIdeal.τ Cert.OutDxKernelIdeal.sig) → Buf (Elt Ideal) ℓ) (g : Dev Cert.OutDxKernelIdeal.nD → PrngReg), Pre_OutDxKernelIdeal m →
    θ_run (Cert.OutDxKernelIdeal.defs (F := Ideal)) (onTc (τ := Cert.OutDxKernelIdeal.τ) (Cert.OutDxKernelIdeal.main (F := Ideal))) ⟨m, fun _ => 0, g⟩ (fun r => (∀ c : Dev Cert.OutDxKernelIdeal.nD,
      r.2.mem ((c.tc : Thread Cert.OutDxKernelIdeal.nD Cert.OutDxKernelIdeal.τ).loc Cert.OutDxKernelIdeal.main_arg0) = m ((c.tc : Thread Cert.OutDxKernelIdeal.nD Cert.OutDxKernelIdeal.τ).loc Cert.OutDxKernelIdeal.main_arg0)
      ∧ r.2.mem ((c.tc : Thread Cert.OutDxKernelIdeal.nD Cert.OutDxKernelIdeal.τ).loc Cert.OutDxKernelIdeal.main_arg1) = m ((c.tc : Thread Cert.OutDxKernelIdeal.nD Cert.OutDxKernelIdeal.τ).loc Cert.OutDxKernelIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_OutDwKernel [hOutDwKernel : Cert.OutDwKernel.Facts] : Prop :=
  ∀ (m : (ℓ : Loc Cert.OutDwKernel.nD Cert.OutDwKernel.τ Cert.OutDwKernel.sig) → Buf (Elt Bits) ℓ) (g : Dev Cert.OutDwKernel.nD → PrngReg), Pre_OutDwKernel m →
    θ_run (Cert.OutDwKernel.defs (F := Bits)) (onTc (τ := Cert.OutDwKernel.τ) (Cert.OutDwKernel.main (F := Bits))) ⟨m, fun _ => 0, g⟩ (fun r => (∀ c : Dev Cert.OutDwKernel.nD,
      r.2.mem ((c.tc : Thread Cert.OutDwKernel.nD Cert.OutDwKernel.τ).loc Cert.OutDwKernel.main_arg0) = m ((c.tc : Thread Cert.OutDwKernel.nD Cert.OutDwKernel.τ).loc Cert.OutDwKernel.main_arg0)
      ∧ r.2.mem ((c.tc : Thread Cert.OutDwKernel.nD Cert.OutDwKernel.τ).loc Cert.OutDwKernel.main_arg1) = m ((c.tc : Thread Cert.OutDwKernel.nD Cert.OutDwKernel.τ).loc Cert.OutDwKernel.main_arg1))
      ∧ r.2.sem = fun _ => 0)

def quiescent_OutDwKernelIdeal [hOutDwKernelIdeal : Cert.OutDwKernelIdeal.Facts] : Prop :=
  ∀ (m : (ℓ : Loc Cert.OutDwKernelIdeal.nD Cert.OutDwKernelIdeal.τ Cert.OutDwKernelIdeal.sig) → Buf (Elt Ideal) ℓ) (g : Dev Cert.OutDwKernelIdeal.nD → PrngReg), Pre_OutDwKernelIdeal m →
    θ_run (Cert.OutDwKernelIdeal.defs (F := Ideal)) (onTc (τ := Cert.OutDwKernelIdeal.τ) (Cert.OutDwKernelIdeal.main (F := Ideal))) ⟨m, fun _ => 0, g⟩ (fun r => (∀ c : Dev Cert.OutDwKernelIdeal.nD,
      r.2.mem ((c.tc : Thread Cert.OutDwKernelIdeal.nD Cert.OutDwKernelIdeal.τ).loc Cert.OutDwKernelIdeal.main_arg0) = m ((c.tc : Thread Cert.OutDwKernelIdeal.nD Cert.OutDwKernelIdeal.τ).loc Cert.OutDwKernelIdeal.main_arg0)
      ∧ r.2.mem ((c.tc : Thread Cert.OutDwKernelIdeal.nD Cert.OutDwKernelIdeal.τ).loc Cert.OutDwKernelIdeal.main_arg1) = m ((c.tc : Thread Cert.OutDwKernelIdeal.nD Cert.OutDwKernelIdeal.τ).loc Cert.OutDwKernelIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_QueryDwKernel [hQueryDwKernel : Cert.QueryDwKernel.Facts] : Prop :=
  ∀ (m : (ℓ : Loc Cert.QueryDwKernel.nD Cert.QueryDwKernel.τ Cert.QueryDwKernel.sig) → Buf (Elt Bits) ℓ) (g : Dev Cert.QueryDwKernel.nD → PrngReg), Pre_QueryDwKernel m →
    θ_run (Cert.QueryDwKernel.defs (F := Bits)) (onTc (τ := Cert.QueryDwKernel.τ) (Cert.QueryDwKernel.main (F := Bits))) ⟨m, fun _ => 0, g⟩ (fun r => (∀ c : Dev Cert.QueryDwKernel.nD,
      r.2.mem ((c.tc : Thread Cert.QueryDwKernel.nD Cert.QueryDwKernel.τ).loc Cert.QueryDwKernel.main_arg0) = m ((c.tc : Thread Cert.QueryDwKernel.nD Cert.QueryDwKernel.τ).loc Cert.QueryDwKernel.main_arg0)
      ∧ r.2.mem ((c.tc : Thread Cert.QueryDwKernel.nD Cert.QueryDwKernel.τ).loc Cert.QueryDwKernel.main_arg1) = m ((c.tc : Thread Cert.QueryDwKernel.nD Cert.QueryDwKernel.τ).loc Cert.QueryDwKernel.main_arg1))
      ∧ r.2.sem = fun _ => 0)

def quiescent_QueryDwKernelIdeal [hQueryDwKernelIdeal : Cert.QueryDwKernelIdeal.Facts] : Prop :=
  ∀ (m : (ℓ : Loc Cert.QueryDwKernelIdeal.nD Cert.QueryDwKernelIdeal.τ Cert.QueryDwKernelIdeal.sig) → Buf (Elt Ideal) ℓ) (g : Dev Cert.QueryDwKernelIdeal.nD → PrngReg), Pre_QueryDwKernelIdeal m →
    θ_run (Cert.QueryDwKernelIdeal.defs (F := Ideal)) (onTc (τ := Cert.QueryDwKernelIdeal.τ) (Cert.QueryDwKernelIdeal.main (F := Ideal))) ⟨m, fun _ => 0, g⟩ (fun r => (∀ c : Dev Cert.QueryDwKernelIdeal.nD,
      r.2.mem ((c.tc : Thread Cert.QueryDwKernelIdeal.nD Cert.QueryDwKernelIdeal.τ).loc Cert.QueryDwKernelIdeal.main_arg0) = m ((c.tc : Thread Cert.QueryDwKernelIdeal.nD Cert.QueryDwKernelIdeal.τ).loc Cert.QueryDwKernelIdeal.main_arg0)
      ∧ r.2.mem ((c.tc : Thread Cert.QueryDwKernelIdeal.nD Cert.QueryDwKernelIdeal.τ).loc Cert.QueryDwKernelIdeal.main_arg1) = m ((c.tc : Thread Cert.QueryDwKernelIdeal.nD Cert.QueryDwKernelIdeal.τ).loc Cert.QueryDwKernelIdeal.main_arg1))
      ∧ r.2.sem = fun _ => 0)

def quiescent_QueryDwReferenceIdeal [hQueryDwReferenceIdeal : Cert.QueryDwReferenceIdeal.Facts] : Prop :=
  ∀ (m : (ℓ : Loc Cert.QueryDwReferenceIdeal.nD Cert.QueryDwReferenceIdeal.τ Cert.QueryDwReferenceIdeal.sig) → Buf (Elt Ideal) ℓ) (g : Dev Cert.QueryDwReferenceIdeal.nD → PrngReg), Pre_QueryDwReferenceIdeal m →
    θ_run (Cert.QueryDwReferenceIdeal.defs (F := Ideal)) (onTc (τ := Cert.QueryDwReferenceIdeal.τ) (Cert.QueryDwReferenceIdeal.main (F := Ideal))) ⟨m, fun _ => 0, g⟩ (fun r => (∀ c : Dev Cert.QueryDwReferenceIdeal.nD,
      r.2.mem ((c.tc : Thread Cert.QueryDwReferenceIdeal.nD Cert.QueryDwReferenceIdeal.τ).loc Cert.QueryDwReferenceIdeal.main_arg0) = m ((c.tc : Thread Cert.QueryDwReferenceIdeal.nD Cert.QueryDwReferenceIdeal.τ).loc Cert.QueryDwReferenceIdeal.main_arg0)
      ∧ r.2.mem ((c.tc : Thread Cert.QueryDwReferenceIdeal.nD Cert.QueryDwReferenceIdeal.τ).loc Cert.QueryDwReferenceIdeal.main_arg1) = m ((c.tc : Thread Cert.QueryDwReferenceIdeal.nD Cert.QueryDwReferenceIdeal.τ).loc Cert.QueryDwReferenceIdeal.main_arg1))
      ∧ r.2.sem = fun _ => 0)

def quiescent_SharedDwKernel [hSharedDwKernel : Cert.SharedDwKernel.Facts] : Prop :=
  ∀ (m : (ℓ : Loc Cert.SharedDwKernel.nD Cert.SharedDwKernel.τ Cert.SharedDwKernel.sig) → Buf (Elt Bits) ℓ) (g : Dev Cert.SharedDwKernel.nD → PrngReg), Pre_SharedDwKernel m →
    θ_run (Cert.SharedDwKernel.defs (F := Bits)) (onTc (τ := Cert.SharedDwKernel.τ) (Cert.SharedDwKernel.main (F := Bits))) ⟨m, fun _ => 0, g⟩ (fun r => (∀ c : Dev Cert.SharedDwKernel.nD,
      r.2.mem ((c.tc : Thread Cert.SharedDwKernel.nD Cert.SharedDwKernel.τ).loc Cert.SharedDwKernel.main_arg0) = m ((c.tc : Thread Cert.SharedDwKernel.nD Cert.SharedDwKernel.τ).loc Cert.SharedDwKernel.main_arg0)
      ∧ r.2.mem ((c.tc : Thread Cert.SharedDwKernel.nD Cert.SharedDwKernel.τ).loc Cert.SharedDwKernel.main_arg1) = m ((c.tc : Thread Cert.SharedDwKernel.nD Cert.SharedDwKernel.τ).loc Cert.SharedDwKernel.main_arg1))
      ∧ r.2.sem = fun _ => 0)

def quiescent_SharedDwKernelIdeal [hSharedDwKernelIdeal : Cert.SharedDwKernelIdeal.Facts] : Prop :=
  ∀ (m : (ℓ : Loc Cert.SharedDwKernelIdeal.nD Cert.SharedDwKernelIdeal.τ Cert.SharedDwKernelIdeal.sig) → Buf (Elt Ideal) ℓ) (g : Dev Cert.SharedDwKernelIdeal.nD → PrngReg), Pre_SharedDwKernelIdeal m →
    θ_run (Cert.SharedDwKernelIdeal.defs (F := Ideal)) (onTc (τ := Cert.SharedDwKernelIdeal.τ) (Cert.SharedDwKernelIdeal.main (F := Ideal))) ⟨m, fun _ => 0, g⟩ (fun r => (∀ c : Dev Cert.SharedDwKernelIdeal.nD,
      r.2.mem ((c.tc : Thread Cert.SharedDwKernelIdeal.nD Cert.SharedDwKernelIdeal.τ).loc Cert.SharedDwKernelIdeal.main_arg0) = m ((c.tc : Thread Cert.SharedDwKernelIdeal.nD Cert.SharedDwKernelIdeal.τ).loc Cert.SharedDwKernelIdeal.main_arg0)
      ∧ r.2.mem ((c.tc : Thread Cert.SharedDwKernelIdeal.nD Cert.SharedDwKernelIdeal.τ).loc Cert.SharedDwKernelIdeal.main_arg1) = m ((c.tc : Thread Cert.SharedDwKernelIdeal.nD Cert.SharedDwKernelIdeal.τ).loc Cert.SharedDwKernelIdeal.main_arg1))
      ∧ r.2.sem = fun _ => 0)

def quiescent_SharedDwReferenceIdeal [hSharedDwReferenceIdeal : Cert.SharedDwReferenceIdeal.Facts] : Prop :=
  ∀ (m : (ℓ : Loc Cert.SharedDwReferenceIdeal.nD Cert.SharedDwReferenceIdeal.τ Cert.SharedDwReferenceIdeal.sig) → Buf (Elt Ideal) ℓ) (g : Dev Cert.SharedDwReferenceIdeal.nD → PrngReg), Pre_SharedDwReferenceIdeal m →
    θ_run (Cert.SharedDwReferenceIdeal.defs (F := Ideal)) (onTc (τ := Cert.SharedDwReferenceIdeal.τ) (Cert.SharedDwReferenceIdeal.main (F := Ideal))) ⟨m, fun _ => 0, g⟩ (fun r => (∀ c : Dev Cert.SharedDwReferenceIdeal.nD,
      r.2.mem ((c.tc : Thread Cert.SharedDwReferenceIdeal.nD Cert.SharedDwReferenceIdeal.τ).loc Cert.SharedDwReferenceIdeal.main_arg0) = m ((c.tc : Thread Cert.SharedDwReferenceIdeal.nD Cert.SharedDwReferenceIdeal.τ).loc Cert.SharedDwReferenceIdeal.main_arg0)
      ∧ r.2.mem ((c.tc : Thread Cert.SharedDwReferenceIdeal.nD Cert.SharedDwReferenceIdeal.τ).loc Cert.SharedDwReferenceIdeal.main_arg1) = m ((c.tc : Thread Cert.SharedDwReferenceIdeal.nD Cert.SharedDwReferenceIdeal.τ).loc Cert.SharedDwReferenceIdeal.main_arg1))
      ∧ r.2.sem = fun _ => 0)

def quiescent_SharedDxKernel [hSharedDxKernel : Cert.SharedDxKernel.Facts] : Prop :=
  ∀ (m : (ℓ : Loc Cert.SharedDxKernel.nD Cert.SharedDxKernel.τ Cert.SharedDxKernel.sig) → Buf (Elt Bits) ℓ) (g : Dev Cert.SharedDxKernel.nD → PrngReg), Pre_SharedDxKernel m →
    θ_run (Cert.SharedDxKernel.defs (F := Bits)) (onTc (τ := Cert.SharedDxKernel.τ) (Cert.SharedDxKernel.main (F := Bits))) ⟨m, fun _ => 0, g⟩ (fun r => (∀ c : Dev Cert.SharedDxKernel.nD,
      r.2.mem ((c.tc : Thread Cert.SharedDxKernel.nD Cert.SharedDxKernel.τ).loc Cert.SharedDxKernel.main_arg0) = m ((c.tc : Thread Cert.SharedDxKernel.nD Cert.SharedDxKernel.τ).loc Cert.SharedDxKernel.main_arg0)
      ∧ r.2.mem ((c.tc : Thread Cert.SharedDxKernel.nD Cert.SharedDxKernel.τ).loc Cert.SharedDxKernel.main_arg1) = m ((c.tc : Thread Cert.SharedDxKernel.nD Cert.SharedDxKernel.τ).loc Cert.SharedDxKernel.main_arg1))
      ∧ r.2.sem = fun _ => 0)

def quiescent_SharedDxKernelIdeal [hSharedDxKernelIdeal : Cert.SharedDxKernelIdeal.Facts] : Prop :=
  ∀ (m : (ℓ : Loc Cert.SharedDxKernelIdeal.nD Cert.SharedDxKernelIdeal.τ Cert.SharedDxKernelIdeal.sig) → Buf (Elt Ideal) ℓ) (g : Dev Cert.SharedDxKernelIdeal.nD → PrngReg), Pre_SharedDxKernelIdeal m →
    θ_run (Cert.SharedDxKernelIdeal.defs (F := Ideal)) (onTc (τ := Cert.SharedDxKernelIdeal.τ) (Cert.SharedDxKernelIdeal.main (F := Ideal))) ⟨m, fun _ => 0, g⟩ (fun r => (∀ c : Dev Cert.SharedDxKernelIdeal.nD,
      r.2.mem ((c.tc : Thread Cert.SharedDxKernelIdeal.nD Cert.SharedDxKernelIdeal.τ).loc Cert.SharedDxKernelIdeal.main_arg0) = m ((c.tc : Thread Cert.SharedDxKernelIdeal.nD Cert.SharedDxKernelIdeal.τ).loc Cert.SharedDxKernelIdeal.main_arg0)
      ∧ r.2.mem ((c.tc : Thread Cert.SharedDxKernelIdeal.nD Cert.SharedDxKernelIdeal.τ).loc Cert.SharedDxKernelIdeal.main_arg1) = m ((c.tc : Thread Cert.SharedDxKernelIdeal.nD Cert.SharedDxKernelIdeal.τ).loc Cert.SharedDxKernelIdeal.main_arg1))
      ∧ r.2.sem = fun _ => 0)

def quiescent_SharedDxReferenceIdeal [hSharedDxReferenceIdeal : Cert.SharedDxReferenceIdeal.Facts] : Prop :=
  ∀ (m : (ℓ : Loc Cert.SharedDxReferenceIdeal.nD Cert.SharedDxReferenceIdeal.τ Cert.SharedDxReferenceIdeal.sig) → Buf (Elt Ideal) ℓ) (g : Dev Cert.SharedDxReferenceIdeal.nD → PrngReg), Pre_SharedDxReferenceIdeal m →
    θ_run (Cert.SharedDxReferenceIdeal.defs (F := Ideal)) (onTc (τ := Cert.SharedDxReferenceIdeal.τ) (Cert.SharedDxReferenceIdeal.main (F := Ideal))) ⟨m, fun _ => 0, g⟩ (fun r => (∀ c : Dev Cert.SharedDxReferenceIdeal.nD,
      r.2.mem ((c.tc : Thread Cert.SharedDxReferenceIdeal.nD Cert.SharedDxReferenceIdeal.τ).loc Cert.SharedDxReferenceIdeal.main_arg0) = m ((c.tc : Thread Cert.SharedDxReferenceIdeal.nD Cert.SharedDxReferenceIdeal.τ).loc Cert.SharedDxReferenceIdeal.main_arg0)
      ∧ r.2.mem ((c.tc : Thread Cert.SharedDxReferenceIdeal.nD Cert.SharedDxReferenceIdeal.τ).loc Cert.SharedDxReferenceIdeal.main_arg1) = m ((c.tc : Thread Cert.SharedDxReferenceIdeal.nD Cert.SharedDxReferenceIdeal.τ).loc Cert.SharedDxReferenceIdeal.main_arg1))
      ∧ r.2.sem = fun _ => 0)

def quiescent_QueryDxKernel [hQueryDxKernel : Cert.QueryDxKernel.Facts] : Prop :=
  ∀ (m : (ℓ : Loc Cert.QueryDxKernel.nD Cert.QueryDxKernel.τ Cert.QueryDxKernel.sig) → Buf (Elt Bits) ℓ) (g : Dev Cert.QueryDxKernel.nD → PrngReg), Pre_QueryDxKernel m →
    θ_run (Cert.QueryDxKernel.defs (F := Bits)) (onTc (τ := Cert.QueryDxKernel.τ) (Cert.QueryDxKernel.main (F := Bits))) ⟨m, fun _ => 0, g⟩ (fun r => (∀ c : Dev Cert.QueryDxKernel.nD,
      r.2.mem ((c.tc : Thread Cert.QueryDxKernel.nD Cert.QueryDxKernel.τ).loc Cert.QueryDxKernel.main_arg0) = m ((c.tc : Thread Cert.QueryDxKernel.nD Cert.QueryDxKernel.τ).loc Cert.QueryDxKernel.main_arg0)
      ∧ r.2.mem ((c.tc : Thread Cert.QueryDxKernel.nD Cert.QueryDxKernel.τ).loc Cert.QueryDxKernel.main_arg1) = m ((c.tc : Thread Cert.QueryDxKernel.nD Cert.QueryDxKernel.τ).loc Cert.QueryDxKernel.main_arg1)
      ∧ r.2.mem ((c.tc : Thread Cert.QueryDxKernel.nD Cert.QueryDxKernel.τ).loc Cert.QueryDxKernel.main_arg2) = m ((c.tc : Thread Cert.QueryDxKernel.nD Cert.QueryDxKernel.τ).loc Cert.QueryDxKernel.main_arg2)
      ∧ r.2.mem ((c.tc : Thread Cert.QueryDxKernel.nD Cert.QueryDxKernel.τ).loc Cert.QueryDxKernel.main_arg3) = m ((c.tc : Thread Cert.QueryDxKernel.nD Cert.QueryDxKernel.τ).loc Cert.QueryDxKernel.main_arg3)
      ∧ r.2.mem ((c.tc : Thread Cert.QueryDxKernel.nD Cert.QueryDxKernel.τ).loc Cert.QueryDxKernel.main_arg4) = m ((c.tc : Thread Cert.QueryDxKernel.nD Cert.QueryDxKernel.τ).loc Cert.QueryDxKernel.main_arg4))
      ∧ r.2.sem = fun _ => 0)

def quiescent_QueryDxKernelIdeal [hQueryDxKernelIdeal : Cert.QueryDxKernelIdeal.Facts] : Prop :=
  ∀ (m : (ℓ : Loc Cert.QueryDxKernelIdeal.nD Cert.QueryDxKernelIdeal.τ Cert.QueryDxKernelIdeal.sig) → Buf (Elt Ideal) ℓ) (g : Dev Cert.QueryDxKernelIdeal.nD → PrngReg), Pre_QueryDxKernelIdeal m →
    θ_run (Cert.QueryDxKernelIdeal.defs (F := Ideal)) (onTc (τ := Cert.QueryDxKernelIdeal.τ) (Cert.QueryDxKernelIdeal.main (F := Ideal))) ⟨m, fun _ => 0, g⟩ (fun r => (∀ c : Dev Cert.QueryDxKernelIdeal.nD,
      r.2.mem ((c.tc : Thread Cert.QueryDxKernelIdeal.nD Cert.QueryDxKernelIdeal.τ).loc Cert.QueryDxKernelIdeal.main_arg0) = m ((c.tc : Thread Cert.QueryDxKernelIdeal.nD Cert.QueryDxKernelIdeal.τ).loc Cert.QueryDxKernelIdeal.main_arg0)
      ∧ r.2.mem ((c.tc : Thread Cert.QueryDxKernelIdeal.nD Cert.QueryDxKernelIdeal.τ).loc Cert.QueryDxKernelIdeal.main_arg1) = m ((c.tc : Thread Cert.QueryDxKernelIdeal.nD Cert.QueryDxKernelIdeal.τ).loc Cert.QueryDxKernelIdeal.main_arg1)
      ∧ r.2.mem ((c.tc : Thread Cert.QueryDxKernelIdeal.nD Cert.QueryDxKernelIdeal.τ).loc Cert.QueryDxKernelIdeal.main_arg2) = m ((c.tc : Thread Cert.QueryDxKernelIdeal.nD Cert.QueryDxKernelIdeal.τ).loc Cert.QueryDxKernelIdeal.main_arg2)
      ∧ r.2.mem ((c.tc : Thread Cert.QueryDxKernelIdeal.nD Cert.QueryDxKernelIdeal.τ).loc Cert.QueryDxKernelIdeal.main_arg3) = m ((c.tc : Thread Cert.QueryDxKernelIdeal.nD Cert.QueryDxKernelIdeal.τ).loc Cert.QueryDxKernelIdeal.main_arg3)
      ∧ r.2.mem ((c.tc : Thread Cert.QueryDxKernelIdeal.nD Cert.QueryDxKernelIdeal.τ).loc Cert.QueryDxKernelIdeal.main_arg4) = m ((c.tc : Thread Cert.QueryDxKernelIdeal.nD Cert.QueryDxKernelIdeal.τ).loc Cert.QueryDxKernelIdeal.main_arg4))
      ∧ r.2.sem = fun _ => 0)

def quiescent_QueryDxReferenceIdeal [hQueryDxReferenceIdeal : Cert.QueryDxReferenceIdeal.Facts] : Prop :=
  ∀ (m : (ℓ : Loc Cert.QueryDxReferenceIdeal.nD Cert.QueryDxReferenceIdeal.τ Cert.QueryDxReferenceIdeal.sig) → Buf (Elt Ideal) ℓ) (g : Dev Cert.QueryDxReferenceIdeal.nD → PrngReg), Pre_QueryDxReferenceIdeal m →
    θ_run (Cert.QueryDxReferenceIdeal.defs (F := Ideal)) (onTc (τ := Cert.QueryDxReferenceIdeal.τ) (Cert.QueryDxReferenceIdeal.main (F := Ideal))) ⟨m, fun _ => 0, g⟩ (fun r => (∀ c : Dev Cert.QueryDxReferenceIdeal.nD,
      r.2.mem ((c.tc : Thread Cert.QueryDxReferenceIdeal.nD Cert.QueryDxReferenceIdeal.τ).loc Cert.QueryDxReferenceIdeal.main_arg0) = m ((c.tc : Thread Cert.QueryDxReferenceIdeal.nD Cert.QueryDxReferenceIdeal.τ).loc Cert.QueryDxReferenceIdeal.main_arg0)
      ∧ r.2.mem ((c.tc : Thread Cert.QueryDxReferenceIdeal.nD Cert.QueryDxReferenceIdeal.τ).loc Cert.QueryDxReferenceIdeal.main_arg1) = m ((c.tc : Thread Cert.QueryDxReferenceIdeal.nD Cert.QueryDxReferenceIdeal.τ).loc Cert.QueryDxReferenceIdeal.main_arg1)
      ∧ r.2.mem ((c.tc : Thread Cert.QueryDxReferenceIdeal.nD Cert.QueryDxReferenceIdeal.τ).loc Cert.QueryDxReferenceIdeal.main_arg2) = m ((c.tc : Thread Cert.QueryDxReferenceIdeal.nD Cert.QueryDxReferenceIdeal.τ).loc Cert.QueryDxReferenceIdeal.main_arg2)
      ∧ r.2.mem ((c.tc : Thread Cert.QueryDxReferenceIdeal.nD Cert.QueryDxReferenceIdeal.τ).loc Cert.QueryDxReferenceIdeal.main_arg3) = m ((c.tc : Thread Cert.QueryDxReferenceIdeal.nD Cert.QueryDxReferenceIdeal.τ).loc Cert.QueryDxReferenceIdeal.main_arg3)
      ∧ r.2.mem ((c.tc : Thread Cert.QueryDxReferenceIdeal.nD Cert.QueryDxReferenceIdeal.τ).loc Cert.QueryDxReferenceIdeal.main_arg4) = m ((c.tc : Thread Cert.QueryDxReferenceIdeal.nD Cert.QueryDxReferenceIdeal.τ).loc Cert.QueryDxReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)) (v3 : (c : Dev Cert.KernelIdeal.nD) → Buf (Elt Ideal) ((c.tc : Thread Cert.KernelIdeal.nD Cert.KernelIdeal.τ).loc Cert.KernelIdeal.main_v44_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_v44_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FwdKernel_FwdKernelIdeal : Prop :=
  IdealRules.named_const.Statement Cert.FwdKernelIdeal.κ "mask" .f32 0xF149F2CA#32 ⊥

def algebraic_FwdKernelIdeal_FwdReferenceIdeal_pre_finite_fwd [hFwdKernelIdeal : Cert.FwdKernelIdeal.Facts] [hFwdReferenceIdeal : Cert.FwdReferenceIdeal.Facts] [hPre_finite_fwd : Cert.Pre_finite_fwd.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal_finite_fwd m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)) →
    ∃ (v0 : (c : Dev Cert.FwdKernelIdeal.nD) → Buf (Elt Ideal) ((c.tc : Thread Cert.FwdKernelIdeal.nD Cert.FwdKernelIdeal.τ).loc Cert.FwdKernelIdeal.main_v0_0)) (v1 : (c : Dev Cert.FwdKernelIdeal.nD) → Buf (Elt Ideal) ((c.tc : Thread Cert.FwdKernelIdeal.nD Cert.FwdKernelIdeal.τ).loc Cert.FwdKernelIdeal.main_v0_1)) (v2 : (c : Dev Cert.FwdKernelIdeal.nD) → Buf (Elt Ideal) ((c.tc : Thread Cert.FwdKernelIdeal.nD Cert.FwdKernelIdeal.τ).loc Cert.FwdKernelIdeal.main_v0_2)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v0_0) = v0 c
          ∧ r.2.mem ((c.tc : Thread Cert.FwdKernelIdeal.nD Cert.FwdKernelIdeal.τ).loc Cert.FwdKernelIdeal.main_v0_1) = v1 c
          ∧ r.2.mem ((c.tc : Thread Cert.FwdKernelIdeal.nD Cert.FwdKernelIdeal.τ).loc Cert.FwdKernelIdeal.main_v0_2) = v2 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v58) = v0 c
          ∧ r.2.mem ((c.tc : Thread Cert.FwdReferenceIdeal.nD Cert.FwdReferenceIdeal.τ).loc Cert.FwdReferenceIdeal.main_v41) = v1 c
          ∧ r.2.mem ((c.tc : Thread Cert.FwdReferenceIdeal.nD Cert.FwdReferenceIdeal.τ).loc Cert.FwdReferenceIdeal.main_v59) = v2 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v6) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_UpDwKernel_UpDwKernelIdeal : Prop :=
  True

def algebraic_UpDwKernelIdeal_UpDwReferenceIdeal [hUpDwKernelIdeal : Cert.UpDwKernelIdeal.Facts] [hUpDwReferenceIdeal : Cert.UpDwReferenceIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwKernelIdeal m →
    (∀ c : Dev Cert.UpDwKernelIdeal.nD,
      m' ((c.tc : Thread Cert.UpDwReferenceIdeal.nD Cert.UpDwReferenceIdeal.τ).loc Cert.UpDwReferenceIdeal.main_arg0) = m ((c.tc : Thread Cert.UpDwKernelIdeal.nD Cert.UpDwKernelIdeal.τ).loc Cert.UpDwKernelIdeal.main_arg0)
      ∧ m' ((c.tc : Thread Cert.UpDwReferenceIdeal.nD Cert.UpDwReferenceIdeal.τ).loc Cert.UpDwReferenceIdeal.main_arg1) = m ((c.tc : Thread Cert.UpDwKernelIdeal.nD Cert.UpDwKernelIdeal.τ).loc Cert.UpDwKernelIdeal.main_arg1)) →
    ∃ (v0 : (c : Dev Cert.UpDwKernelIdeal.nD) → Buf (Elt Ideal) ((c.tc : Thread Cert.UpDwKernelIdeal.nD Cert.UpDwKernelIdeal.τ).loc Cert.UpDwKernelIdeal.main_v0)),
      θ_run (Cert.UpDwKernelIdeal.defs (F := Ideal)) (onTc (τ := Cert.UpDwKernelIdeal.τ) (Cert.UpDwKernelIdeal.main (F := Ideal))) ⟨m, fun _ => 0, g⟩ (fun r => ∀ c : Dev Cert.UpDwKernelIdeal.nD,
          r.2.mem ((c.tc : Thread Cert.UpDwKernelIdeal.nD Cert.UpDwKernelIdeal.τ).loc Cert.UpDwKernelIdeal.main_v0) = v0 c
          ∧ r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
          ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v10) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_UpDxKernel_UpDxKernelIdeal : Prop :=
  True

def algebraic_UpDxKernelIdeal_UpDxReferenceIdeal [hUpDxKernelIdeal : Cert.UpDxKernelIdeal.Facts] [hUpDxReferenceIdeal : Cert.UpDxReferenceIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxKernelIdeal m →
    (∀ c : Dev Cert.UpDxKernelIdeal.nD,
      m' ((c.tc : Thread Cert.UpDxReferenceIdeal.nD Cert.UpDxReferenceIdeal.τ).loc Cert.UpDxReferenceIdeal.main_arg0) = m ((c.tc : Thread Cert.UpDxKernelIdeal.nD Cert.UpDxKernelIdeal.τ).loc Cert.UpDxKernelIdeal.main_arg0)
      ∧ m' ((c.tc : Thread Cert.UpDxReferenceIdeal.nD Cert.UpDxReferenceIdeal.τ).loc Cert.UpDxReferenceIdeal.main_arg1) = m ((c.tc : Thread Cert.UpDxKernelIdeal.nD Cert.UpDxKernelIdeal.τ).loc Cert.UpDxKernelIdeal.main_arg1)
      ∧ m' ((c.tc : Thread Cert.UpDxReferenceIdeal.nD Cert.UpDxReferenceIdeal.τ).loc Cert.UpDxReferenceIdeal.main_arg2) = m ((c.tc : Thread Cert.UpDxKernelIdeal.nD Cert.UpDxKernelIdeal.τ).loc Cert.UpDxKernelIdeal.main_arg2)
      ∧ m' ((c.tc : Thread Cert.UpDxReferenceIdeal.nD Cert.UpDxReferenceIdeal.τ).loc Cert.UpDxReferenceIdeal.main_arg3) = m ((c.tc : Thread Cert.UpDxKernelIdeal.nD Cert.UpDxKernelIdeal.τ).loc Cert.UpDxKernelIdeal.main_arg3)
      ∧ m' ((c.tc : Thread Cert.UpDxReferenceIdeal.nD Cert.UpDxReferenceIdeal.τ).loc Cert.UpDxReferenceIdeal.main_arg4) = m ((c.tc : Thread Cert.UpDxKernelIdeal.nD Cert.UpDxKernelIdeal.τ).loc Cert.UpDxKernelIdeal.main_arg4)) →
    ∃ (v0 : (c : Dev Cert.UpDxKernelIdeal.nD) → Buf (Elt Ideal) ((c.tc : Thread Cert.UpDxKernelIdeal.nD Cert.UpDxKernelIdeal.τ).loc Cert.UpDxKernelIdeal.main_v0_0)) (v1 : (c : Dev Cert.UpDxKernelIdeal.nD) → Buf (Elt Ideal) ((c.tc : Thread Cert.UpDxKernelIdeal.nD Cert.UpDxKernelIdeal.τ).loc Cert.UpDxKernelIdeal.main_v0_1)),
      θ_run (Cert.UpDxKernelIdeal.defs (F := Ideal)) (onTc (τ := Cert.UpDxKernelIdeal.τ) (Cert.UpDxKernelIdeal.main (F := Ideal))) ⟨m, fun _ => 0, g⟩ (fun r => ∀ c : Dev Cert.UpDxKernelIdeal.nD,
          r.2.mem ((c.tc : Thread Cert.UpDxKernelIdeal.nD Cert.UpDxKernelIdeal.τ).loc Cert.UpDxKernelIdeal.main_v0_0) = v0 c
          ∧ r.2.mem ((c.tc : Thread Cert.UpDxKernelIdeal.nD Cert.UpDxKernelIdeal.τ).loc Cert.UpDxKernelIdeal.main_v0_1) = v1 c
          ∧ r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
          ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1)
          ∧ r.2.mem ((c.tc : Thread Cert.UpDxKernelIdeal.nD Cert.UpDxKernelIdeal.τ).loc Cert.UpDxKernelIdeal.main_arg2) = m ((c.tc : Thread Cert.UpDxKernelIdeal.nD Cert.UpDxKernelIdeal.τ).loc Cert.UpDxKernelIdeal.main_arg2)
          ∧ r.2.mem ((c.tc : Thread Cert.UpDxKernelIdeal.nD Cert.UpDxKernelIdeal.τ).loc Cert.UpDxKernelIdeal.main_arg3) = m ((c.tc : Thread Cert.UpDxKernelIdeal.nD Cert.UpDxKernelIdeal.τ).loc Cert.UpDxKernelIdeal.main_arg3)
          ∧ r.2.mem ((c.tc : Thread Cert.UpDxKernelIdeal.nD Cert.UpDxKernelIdeal.τ).loc Cert.UpDxKernelIdeal.main_arg4) = m ((c.tc : Thread Cert.UpDxKernelIdeal.nD Cert.UpDxKernelIdeal.τ).loc Cert.UpDxKernelIdeal.main_arg4))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v47) = v0 c
          ∧ r.2.mem ((c.tc : Thread Cert.UpDxReferenceIdeal.nD Cert.UpDxReferenceIdeal.τ).loc Cert.UpDxReferenceIdeal.main_v48) = v1 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1)
          ∧ r.2.mem ((c.tc : Thread Cert.UpDxReferenceIdeal.nD Cert.UpDxReferenceIdeal.τ).loc Cert.UpDxReferenceIdeal.main_arg2) = m' ((c.tc : Thread Cert.UpDxReferenceIdeal.nD Cert.UpDxReferenceIdeal.τ).loc Cert.UpDxReferenceIdeal.main_arg2)
          ∧ r.2.mem ((c.tc : Thread Cert.UpDxReferenceIdeal.nD Cert.UpDxReferenceIdeal.τ).loc Cert.UpDxReferenceIdeal.main_arg3) = m' ((c.tc : Thread Cert.UpDxReferenceIdeal.nD Cert.UpDxReferenceIdeal.τ).loc Cert.UpDxReferenceIdeal.main_arg3)
          ∧ r.2.mem ((c.tc : Thread Cert.UpDxReferenceIdeal.nD Cert.UpDxReferenceIdeal.τ).loc Cert.UpDxReferenceIdeal.main_arg4) = m' ((c.tc : Thread Cert.UpDxReferenceIdeal.nD Cert.UpDxReferenceIdeal.τ).loc Cert.UpDxReferenceIdeal.main_arg4))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v0_0)) (v1 : (c : Dev Cert.DownKernelIdeal.nD) → Buf (Elt Ideal) ((c.tc : Thread Cert.DownKernelIdeal.nD Cert.DownKernelIdeal.τ).loc Cert.DownKernelIdeal.main_v0_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0_0) = v0 c
          ∧ r.2.mem ((c.tc : Thread Cert.DownKernelIdeal.nD Cert.DownKernelIdeal.τ).loc Cert.DownKernelIdeal.main_v0_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v6) = v0 c
          ∧ r.2.mem ((c.tc : Thread Cert.DownReferenceIdeal.nD Cert.DownReferenceIdeal.τ).loc Cert.DownReferenceIdeal.main_v21) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_LastKernel_LastKernelIdeal : Prop :=
  True

def algebraic_LastKernelIdeal_LastReferenceIdeal [hLastKernelIdeal : Cert.LastKernelIdeal.Facts] [hLastReferenceIdeal : Cert.LastReferenceIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)
      ∧ m' ((c.tc : Thread Cert.LastReferenceIdeal.nD Cert.LastReferenceIdeal.τ).loc Cert.LastReferenceIdeal.main_arg2) = m ((c.tc : Thread Cert.LastKernelIdeal.nD Cert.LastKernelIdeal.τ).loc Cert.LastKernelIdeal.main_arg2)) →
    ∃ (v0 : (c : Dev Cert.LastKernelIdeal.nD) → Buf (Elt Ideal) ((c.tc : Thread Cert.LastKernelIdeal.nD Cert.LastKernelIdeal.τ).loc Cert.LastKernelIdeal.main_v0)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          r.2.mem ((c.tc : Thread Cert.LastKernelIdeal.nD Cert.LastKernelIdeal.τ).loc Cert.LastKernelIdeal.main_v0) = v0 c
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
          ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v6) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2))

def preserves_DownDxKernel_DownDxKernelIdeal : Prop :=
  True

def algebraic_DownDxKernelIdeal_DownDxReferenceIdeal [hDownDxKernelIdeal : Cert.DownDxKernelIdeal.Facts] [hDownDxReferenceIdeal : Cert.DownDxReferenceIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxKernelIdeal m →
    (∀ c : Dev Cert.DownDxKernelIdeal.nD,
      m' ((c.tc : Thread Cert.DownDxReferenceIdeal.nD Cert.DownDxReferenceIdeal.τ).loc Cert.DownDxReferenceIdeal.main_arg0) = m ((c.tc : Thread Cert.DownDxKernelIdeal.nD Cert.DownDxKernelIdeal.τ).loc Cert.DownDxKernelIdeal.main_arg0)
      ∧ m' ((c.tc : Thread Cert.DownDxReferenceIdeal.nD Cert.DownDxReferenceIdeal.τ).loc Cert.DownDxReferenceIdeal.main_arg1) = m ((c.tc : Thread Cert.DownDxKernelIdeal.nD Cert.DownDxKernelIdeal.τ).loc Cert.DownDxKernelIdeal.main_arg1)) →
    ∃ (v0 : (c : Dev Cert.DownDxKernelIdeal.nD) → Buf (Elt Ideal) ((c.tc : Thread Cert.DownDxKernelIdeal.nD Cert.DownDxKernelIdeal.τ).loc Cert.DownDxKernelIdeal.main_v0)),
      θ_run (Cert.DownDxKernelIdeal.defs (F := Ideal)) (onTc (τ := Cert.DownDxKernelIdeal.τ) (Cert.DownDxKernelIdeal.main (F := Ideal))) ⟨m, fun _ => 0, g⟩ (fun r => ∀ c : Dev Cert.DownDxKernelIdeal.nD,
          r.2.mem ((c.tc : Thread Cert.DownDxKernelIdeal.nD Cert.DownDxKernelIdeal.τ).loc Cert.DownDxKernelIdeal.main_v0) = v0 c
          ∧ r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
          ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v6) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_DownDwKernel_DownDwKernelIdeal : Prop :=
  True

def algebraic_DownDwKernelIdeal_DownDwReferenceIdeal [hDownDwKernelIdeal : Cert.DownDwKernelIdeal.Facts] [hDownDwReferenceIdeal : Cert.DownDwReferenceIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwKernelIdeal m →
    (∀ c : Dev Cert.DownDwKernelIdeal.nD,
      m' ((c.tc : Thread Cert.DownDwReferenceIdeal.nD Cert.DownDwReferenceIdeal.τ).loc Cert.DownDwReferenceIdeal.main_arg0) = m ((c.tc : Thread Cert.DownDwKernelIdeal.nD Cert.DownDwKernelIdeal.τ).loc Cert.DownDwKernelIdeal.main_arg0)
      ∧ m' ((c.tc : Thread Cert.DownDwReferenceIdeal.nD Cert.DownDwReferenceIdeal.τ).loc Cert.DownDwReferenceIdeal.main_arg1) = m ((c.tc : Thread Cert.DownDwKernelIdeal.nD Cert.DownDwKernelIdeal.τ).loc Cert.DownDwKernelIdeal.main_arg1)) →
    ∃ (v0 : (c : Dev Cert.DownDwKernelIdeal.nD) → Buf (Elt Ideal) ((c.tc : Thread Cert.DownDwKernelIdeal.nD Cert.DownDwKernelIdeal.τ).loc Cert.DownDwKernelIdeal.main_v0)),
      θ_run (Cert.DownDwKernelIdeal.defs (F := Ideal)) (onTc (τ := Cert.DownDwKernelIdeal.τ) (Cert.DownDwKernelIdeal.main (F := Ideal))) ⟨m, fun _ => 0, g⟩ (fun r => ∀ c : Dev Cert.DownDwKernelIdeal.nD,
          r.2.mem ((c.tc : Thread Cert.DownDwKernelIdeal.nD Cert.DownDwKernelIdeal.τ).loc Cert.DownDwKernelIdeal.main_v0) = v0 c
          ∧ r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
          ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v8) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)) →
    ∃ (v0 : (c : Dev Cert.GluKernelIdeal.nD) → Buf (Elt Ideal) ((c.tc : Thread Cert.GluKernelIdeal.nD Cert.GluKernelIdeal.τ).loc Cert.GluKernelIdeal.main_v0)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v0) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v6) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1))

def preserves_GluDwKernel_GluDwKernelIdeal : Prop :=
  True

def algebraic_GluDwKernelIdeal_GluDwReferenceIdeal [hGluDwKernelIdeal : Cert.GluDwKernelIdeal.Facts] [hGluDwReferenceIdeal : Cert.GluDwReferenceIdeal.Facts] : Prop :=
  ∀ (m : (ℓ : Loc Cert.GluDwKernelIdeal.nD Cert.GluDwKernelIdeal.τ Cert.GluDwKernelIdeal.sig) → Buf (Elt Ideal) ℓ) (g : Dev Cert.GluDwKernelIdeal.nD → PrngReg)
    (m' : (ℓ : Loc Cert.GluDwReferenceIdeal.nD Cert.GluDwReferenceIdeal.τ Cert.GluDwReferenceIdeal.sig) → Buf (Elt Ideal) ℓ) (g' : Dev Cert.GluDwReferenceIdeal.nD → PrngReg), Pre_GluDwKernelIdeal m →
    (∀ c : Dev Cert.GluDwKernelIdeal.nD,
      m' ((c.tc : Thread Cert.GluDwReferenceIdeal.nD Cert.GluDwReferenceIdeal.τ).loc Cert.GluDwReferenceIdeal.main_arg0) = m ((c.tc : Thread Cert.GluDwKernelIdeal.nD Cert.GluDwKernelIdeal.τ).loc Cert.GluDwKernelIdeal.main_arg0)
      ∧ m' ((c.tc : Thread Cert.GluDwReferenceIdeal.nD Cert.GluDwReferenceIdeal.τ).loc Cert.GluDwReferenceIdeal.main_arg1) = m ((c.tc : Thread Cert.GluDwKernelIdeal.nD Cert.GluDwKernelIdeal.τ).loc Cert.GluDwKernelIdeal.main_arg1)) →
    ∃ (v0 : (c : Dev Cert.GluDwKernelIdeal.nD) → Buf (Elt Ideal) ((c.tc : Thread Cert.GluDwKernelIdeal.nD Cert.GluDwKernelIdeal.τ).loc Cert.GluDwKernelIdeal.main_v0)),
      θ_run (Cert.GluDwKernelIdeal.defs (F := Ideal)) (onTc (τ := Cert.GluDwKernelIdeal.τ) (Cert.GluDwKernelIdeal.main (F := Ideal))) ⟨m, fun _ => 0, g⟩ (fun r => ∀ c : Dev Cert.GluDwKernelIdeal.nD,
          r.2.mem ((c.tc : Thread Cert.GluDwKernelIdeal.nD Cert.GluDwKernelIdeal.τ).loc Cert.GluDwKernelIdeal.main_v0) = v0 c
          ∧ r.2.mem ((c.tc : Thread Cert.GluDwKernelIdeal.nD Cert.GluDwKernelIdeal.τ).loc Cert.GluDwKernelIdeal.main_arg0) = m ((c.tc : Thread Cert.GluDwKernelIdeal.nD Cert.GluDwKernelIdeal.τ).loc Cert.GluDwKernelIdeal.main_arg0)
          ∧ r.2.mem ((c.tc : Thread Cert.GluDwKernelIdeal.nD Cert.GluDwKernelIdeal.τ).loc Cert.GluDwKernelIdeal.main_arg1) = m ((c.tc : Thread Cert.GluDwKernelIdeal.nD Cert.GluDwKernelIdeal.τ).loc Cert.GluDwKernelIdeal.main_arg1))
      ∧ θ_run (Cert.GluDwReferenceIdeal.defs (F := Ideal)) (onTc (τ := Cert.GluDwReferenceIdeal.τ) (Cert.GluDwReferenceIdeal.main (F := Ideal))) ⟨m', fun _ => 0, g'⟩ (fun r => ∀ c : Dev Cert.GluDwReferenceIdeal.nD,
          r.2.mem ((c.tc : Thread Cert.GluDwReferenceIdeal.nD Cert.GluDwReferenceIdeal.τ).loc Cert.GluDwReferenceIdeal.main_v10) = v0 c
          ∧ r.2.mem ((c.tc : Thread Cert.GluDwReferenceIdeal.nD Cert.GluDwReferenceIdeal.τ).loc Cert.GluDwReferenceIdeal.main_arg0) = m' ((c.tc : Thread Cert.GluDwReferenceIdeal.nD Cert.GluDwReferenceIdeal.τ).loc Cert.GluDwReferenceIdeal.main_arg0)
          ∧ r.2.mem ((c.tc : Thread Cert.GluDwReferenceIdeal.nD Cert.GluDwReferenceIdeal.τ).loc Cert.GluDwReferenceIdeal.main_arg1) = m' ((c.tc : Thread Cert.GluDwReferenceIdeal.nD Cert.GluDwReferenceIdeal.τ).loc Cert.GluDwReferenceIdeal.main_arg1))

def preserves_GluDyKernel_GluDyKernelIdeal : Prop :=
  True

def algebraic_GluDyKernelIdeal_GluDyReferenceIdeal [hGluDyKernelIdeal : Cert.GluDyKernelIdeal.Facts] [hGluDyReferenceIdeal : Cert.GluDyReferenceIdeal.Facts] : Prop :=
  ∀ (m : (ℓ : Loc Cert.GluDyKernelIdeal.nD Cert.GluDyKernelIdeal.τ Cert.GluDyKernelIdeal.sig) → Buf (Elt Ideal) ℓ) (g : Dev Cert.GluDyKernelIdeal.nD → PrngReg)
    (m' : (ℓ : Loc Cert.GluDyReferenceIdeal.nD Cert.GluDyReferenceIdeal.τ Cert.GluDyReferenceIdeal.sig) → Buf (Elt Ideal) ℓ) (g' : Dev Cert.GluDyReferenceIdeal.nD → PrngReg), Pre_GluDyKernelIdeal m →
    (∀ c : Dev Cert.GluDyKernelIdeal.nD,
      m' ((c.tc : Thread Cert.GluDyReferenceIdeal.nD Cert.GluDyReferenceIdeal.τ).loc Cert.GluDyReferenceIdeal.main_arg0) = m ((c.tc : Thread Cert.GluDyKernelIdeal.nD Cert.GluDyKernelIdeal.τ).loc Cert.GluDyKernelIdeal.main_arg0)
      ∧ m' ((c.tc : Thread Cert.GluDyReferenceIdeal.nD Cert.GluDyReferenceIdeal.τ).loc Cert.GluDyReferenceIdeal.main_arg1) = m ((c.tc : Thread Cert.GluDyKernelIdeal.nD Cert.GluDyKernelIdeal.τ).loc Cert.GluDyKernelIdeal.main_arg1)) →
    ∃ (v0 : (c : Dev Cert.GluDyKernelIdeal.nD) → Buf (Elt Ideal) ((c.tc : Thread Cert.GluDyKernelIdeal.nD Cert.GluDyKernelIdeal.τ).loc Cert.GluDyKernelIdeal.main_v0)),
      θ_run (Cert.GluDyKernelIdeal.defs (F := Ideal)) (onTc (τ := Cert.GluDyKernelIdeal.τ) (Cert.GluDyKernelIdeal.main (F := Ideal))) ⟨m, fun _ => 0, g⟩ (fun r => ∀ c : Dev Cert.GluDyKernelIdeal.nD,
          r.2.mem ((c.tc : Thread Cert.GluDyKernelIdeal.nD Cert.GluDyKernelIdeal.τ).loc Cert.GluDyKernelIdeal.main_v0) = v0 c
          ∧ r.2.mem ((c.tc : Thread Cert.GluDyKernelIdeal.nD Cert.GluDyKernelIdeal.τ).loc Cert.GluDyKernelIdeal.main_arg0) = m ((c.tc : Thread Cert.GluDyKernelIdeal.nD Cert.GluDyKernelIdeal.τ).loc Cert.GluDyKernelIdeal.main_arg0)
          ∧ r.2.mem ((c.tc : Thread Cert.GluDyKernelIdeal.nD Cert.GluDyKernelIdeal.τ).loc Cert.GluDyKernelIdeal.main_arg1) = m ((c.tc : Thread Cert.GluDyKernelIdeal.nD Cert.GluDyKernelIdeal.τ).loc Cert.GluDyKernelIdeal.main_arg1))
      ∧ θ_run (Cert.GluDyReferenceIdeal.defs (F := Ideal)) (onTc (τ := Cert.GluDyReferenceIdeal.τ) (Cert.GluDyReferenceIdeal.main (F := Ideal))) ⟨m', fun _ => 0, g'⟩ (fun r => ∀ c : Dev Cert.GluDyReferenceIdeal.nD,
          r.2.mem ((c.tc : Thread Cert.GluDyReferenceIdeal.nD Cert.GluDyReferenceIdeal.τ).loc Cert.GluDyReferenceIdeal.main_v9) = v0 c
          ∧ r.2.mem ((c.tc : Thread Cert.GluDyReferenceIdeal.nD Cert.GluDyReferenceIdeal.τ).loc Cert.GluDyReferenceIdeal.main_arg0) = m' ((c.tc : Thread Cert.GluDyReferenceIdeal.nD Cert.GluDyReferenceIdeal.τ).loc Cert.GluDyReferenceIdeal.main_arg0)
          ∧ r.2.mem ((c.tc : Thread Cert.GluDyReferenceIdeal.nD Cert.GluDyReferenceIdeal.τ).loc Cert.GluDyReferenceIdeal.main_arg1) = m' ((c.tc : Thread Cert.GluDyReferenceIdeal.nD Cert.GluDyReferenceIdeal.τ).loc Cert.GluDyReferenceIdeal.main_arg1))

def preserves_QueryKernel_QueryKernelIdeal : Prop :=
  True

def algebraic_QueryKernelIdeal_QueryReferenceIdeal [hQueryKernelIdeal : Cert.QueryKernelIdeal.Facts] [hQueryReferenceIdeal : Cert.QueryReferenceIdeal.Facts] : Prop :=
  ∀ (m : (ℓ : Loc Cert.QueryKernelIdeal.nD Cert.QueryKernelIdeal.τ Cert.QueryKernelIdeal.sig) → Buf (Elt Ideal) ℓ) (g : Dev Cert.QueryKernelIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryKernelIdeal m →
    (∀ c : Dev Cert.QueryKernelIdeal.nD,
      m' ((c.tc : Thread Cert.QueryReferenceIdeal.nD Cert.QueryReferenceIdeal.τ).loc Cert.QueryReferenceIdeal.main_arg0) = m ((c.tc : Thread Cert.QueryKernelIdeal.nD Cert.QueryKernelIdeal.τ).loc Cert.QueryKernelIdeal.main_arg0)
      ∧ m' ((c.tc : Thread Cert.QueryReferenceIdeal.nD Cert.QueryReferenceIdeal.τ).loc Cert.QueryReferenceIdeal.main_arg1) = m ((c.tc : Thread Cert.QueryKernelIdeal.nD Cert.QueryKernelIdeal.τ).loc Cert.QueryKernelIdeal.main_arg1)) →
    ∃ (v0 : (c : Dev Cert.QueryKernelIdeal.nD) → Buf (Elt Ideal) ((c.tc : Thread Cert.QueryKernelIdeal.nD Cert.QueryKernelIdeal.τ).loc Cert.QueryKernelIdeal.main_v0)),
      θ_run (Cert.QueryKernelIdeal.defs (F := Ideal)) (onTc (τ := Cert.QueryKernelIdeal.τ) (Cert.QueryKernelIdeal.main (F := Ideal))) ⟨m, fun _ => 0, g⟩ (fun r => ∀ c : Dev Cert.QueryKernelIdeal.nD,
          r.2.mem ((c.tc : Thread Cert.QueryKernelIdeal.nD Cert.QueryKernelIdeal.τ).loc Cert.QueryKernelIdeal.main_v0) = v0 c
          ∧ r.2.mem ((c.tc : Thread Cert.QueryKernelIdeal.nD Cert.QueryKernelIdeal.τ).loc Cert.QueryKernelIdeal.main_arg0) = m ((c.tc : Thread Cert.QueryKernelIdeal.nD Cert.QueryKernelIdeal.τ).loc Cert.QueryKernelIdeal.main_arg0)
          ∧ r.2.mem ((c.tc : Thread Cert.QueryKernelIdeal.nD Cert.QueryKernelIdeal.τ).loc Cert.QueryKernelIdeal.main_arg1) = m ((c.tc : Thread Cert.QueryKernelIdeal.nD Cert.QueryKernelIdeal.τ).loc Cert.QueryKernelIdeal.main_arg1))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v3) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1))

def preserves_SharedKernel_SharedKernelIdeal : Prop :=
  True

def algebraic_SharedKernelIdeal_SharedReferenceIdeal [hSharedKernelIdeal : Cert.SharedKernelIdeal.Facts] [hSharedReferenceIdeal : Cert.SharedReferenceIdeal.Facts] : Prop :=
  ∀ (m : (ℓ : Loc Cert.SharedKernelIdeal.nD Cert.SharedKernelIdeal.τ Cert.SharedKernelIdeal.sig) → Buf (Elt Ideal) ℓ) (g : Dev Cert.SharedKernelIdeal.nD → PrngReg)
    (m' : (ℓ : Loc Cert.SharedReferenceIdeal.nD Cert.SharedReferenceIdeal.τ Cert.SharedReferenceIdeal.sig) → Buf (Elt Ideal) ℓ) (g' : Dev Cert.SharedReferenceIdeal.nD → PrngReg), Pre_SharedKernelIdeal m →
    (∀ c : Dev Cert.SharedKernelIdeal.nD,
      m' ((c.tc : Thread Cert.SharedReferenceIdeal.nD Cert.SharedReferenceIdeal.τ).loc Cert.SharedReferenceIdeal.main_arg0) = m ((c.tc : Thread Cert.SharedKernelIdeal.nD Cert.SharedKernelIdeal.τ).loc Cert.SharedKernelIdeal.main_arg0)
      ∧ m' ((c.tc : Thread Cert.SharedReferenceIdeal.nD Cert.SharedReferenceIdeal.τ).loc Cert.SharedReferenceIdeal.main_arg1) = m ((c.tc : Thread Cert.SharedKernelIdeal.nD Cert.SharedKernelIdeal.τ).loc Cert.SharedKernelIdeal.main_arg1)) →
    ∃ (v0 : (c : Dev Cert.SharedKernelIdeal.nD) → Buf (Elt Ideal) ((c.tc : Thread Cert.SharedKernelIdeal.nD Cert.SharedKernelIdeal.τ).loc Cert.SharedKernelIdeal.main_v0)),
      θ_run (Cert.SharedKernelIdeal.defs (F := Ideal)) (onTc (τ := Cert.SharedKernelIdeal.τ) (Cert.SharedKernelIdeal.main (F := Ideal))) ⟨m, fun _ => 0, g⟩ (fun r => ∀ c : Dev Cert.SharedKernelIdeal.nD,
          r.2.mem ((c.tc : Thread Cert.SharedKernelIdeal.nD Cert.SharedKernelIdeal.τ).loc Cert.SharedKernelIdeal.main_v0) = v0 c
          ∧ r.2.mem ((c.tc : Thread Cert.SharedKernelIdeal.nD Cert.SharedKernelIdeal.τ).loc Cert.SharedKernelIdeal.main_arg0) = m ((c.tc : Thread Cert.SharedKernelIdeal.nD Cert.SharedKernelIdeal.τ).loc Cert.SharedKernelIdeal.main_arg0)
          ∧ r.2.mem ((c.tc : Thread Cert.SharedKernelIdeal.nD Cert.SharedKernelIdeal.τ).loc Cert.SharedKernelIdeal.main_arg1) = m ((c.tc : Thread Cert.SharedKernelIdeal.nD Cert.SharedKernelIdeal.τ).loc Cert.SharedKernelIdeal.main_arg1))
      ∧ θ_run (Cert.SharedReferenceIdeal.defs (F := Ideal)) (onTc (τ := Cert.SharedReferenceIdeal.τ) (Cert.SharedReferenceIdeal.main (F := Ideal))) ⟨m', fun _ => 0, g'⟩ (fun r => ∀ c : Dev Cert.SharedReferenceIdeal.nD,
          r.2.mem ((c.tc : Thread Cert.SharedReferenceIdeal.nD Cert.SharedReferenceIdeal.τ).loc Cert.SharedReferenceIdeal.main_v3) = v0 c
          ∧ r.2.mem ((c.tc : Thread Cert.SharedReferenceIdeal.nD Cert.SharedReferenceIdeal.τ).loc Cert.SharedReferenceIdeal.main_arg0) = m' ((c.tc : Thread Cert.SharedReferenceIdeal.nD Cert.SharedReferenceIdeal.τ).loc Cert.SharedReferenceIdeal.main_arg0)
          ∧ r.2.mem ((c.tc : Thread Cert.SharedReferenceIdeal.nD Cert.SharedReferenceIdeal.τ).loc Cert.SharedReferenceIdeal.main_arg1) = m' ((c.tc : Thread Cert.SharedReferenceIdeal.nD Cert.SharedReferenceIdeal.τ).loc Cert.SharedReferenceIdeal.main_arg1))

def preserves_OutDxKernel_OutDxKernelIdeal : Prop :=
  True

def algebraic_OutDxKernelIdeal_OutDxReferenceIdeal [hOutDxKernelIdeal : Cert.OutDxKernelIdeal.Facts] [hOutDxReferenceIdeal : Cert.OutDxReferenceIdeal.Facts] : Prop :=
  ∀ (m : (ℓ : Loc Cert.OutDxKernelIdeal.nD Cert.OutDxKernelIdeal.τ Cert.OutDxKernelIdeal.sig) → Buf (Elt Ideal) ℓ) (g : Dev Cert.OutDxKernelIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxKernelIdeal m →
    (∀ c : Dev Cert.OutDxKernelIdeal.nD,
      m' ((c.tc : Thread Cert.OutDxReferenceIdeal.nD Cert.OutDxReferenceIdeal.τ).loc Cert.OutDxReferenceIdeal.main_arg0) = m ((c.tc : Thread Cert.OutDxKernelIdeal.nD Cert.OutDxKernelIdeal.τ).loc Cert.OutDxKernelIdeal.main_arg0)
      ∧ m' ((c.tc : Thread Cert.OutDxReferenceIdeal.nD Cert.OutDxReferenceIdeal.τ).loc Cert.OutDxReferenceIdeal.main_arg1) = m ((c.tc : Thread Cert.OutDxKernelIdeal.nD Cert.OutDxKernelIdeal.τ).loc Cert.OutDxKernelIdeal.main_arg1)) →
    ∃ (v0 : (c : Dev Cert.OutDxKernelIdeal.nD) → Buf (Elt Ideal) ((c.tc : Thread Cert.OutDxKernelIdeal.nD Cert.OutDxKernelIdeal.τ).loc Cert.OutDxKernelIdeal.main_v0)),
      θ_run (Cert.OutDxKernelIdeal.defs (F := Ideal)) (onTc (τ := Cert.OutDxKernelIdeal.τ) (Cert.OutDxKernelIdeal.main (F := Ideal))) ⟨m, fun _ => 0, g⟩ (fun r => ∀ c : Dev Cert.OutDxKernelIdeal.nD,
          r.2.mem ((c.tc : Thread Cert.OutDxKernelIdeal.nD Cert.OutDxKernelIdeal.τ).loc Cert.OutDxKernelIdeal.main_v0) = v0 c
          ∧ r.2.mem ((c.tc : Thread Cert.OutDxKernelIdeal.nD Cert.OutDxKernelIdeal.τ).loc Cert.OutDxKernelIdeal.main_arg0) = m ((c.tc : Thread Cert.OutDxKernelIdeal.nD Cert.OutDxKernelIdeal.τ).loc Cert.OutDxKernelIdeal.main_arg0)
          ∧ r.2.mem ((c.tc : Thread Cert.OutDxKernelIdeal.nD Cert.OutDxKernelIdeal.τ).loc Cert.OutDxKernelIdeal.main_arg1) = m ((c.tc : Thread Cert.OutDxKernelIdeal.nD Cert.OutDxKernelIdeal.τ).loc Cert.OutDxKernelIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v4) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v0_0)) (v1 : (c : Dev Cert.OutKernelIdeal.nD) → Buf (Elt Ideal) ((c.tc : Thread Cert.OutKernelIdeal.nD Cert.OutKernelIdeal.τ).loc Cert.OutKernelIdeal.main_v0_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0_0) = v0 c
          ∧ r.2.mem ((c.tc : Thread Cert.OutKernelIdeal.nD Cert.OutKernelIdeal.τ).loc Cert.OutKernelIdeal.main_v0_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_v18) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_OutDwKernel_OutDwKernelIdeal : Prop :=
  True

def algebraic_OutDwKernelIdeal_OutDwReferenceIdeal [hOutDwKernelIdeal : Cert.OutDwKernelIdeal.Facts] [hOutDwReferenceIdeal : Cert.OutDwReferenceIdeal.Facts] : Prop :=
  ∀ (m : (ℓ : Loc Cert.OutDwKernelIdeal.nD Cert.OutDwKernelIdeal.τ Cert.OutDwKernelIdeal.sig) → Buf (Elt Ideal) ℓ) (g : Dev Cert.OutDwKernelIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwKernelIdeal m →
    (∀ c : Dev Cert.OutDwKernelIdeal.nD,
      m' ((c.tc : Thread Cert.OutDwReferenceIdeal.nD Cert.OutDwReferenceIdeal.τ).loc Cert.OutDwReferenceIdeal.main_arg0) = m ((c.tc : Thread Cert.OutDwKernelIdeal.nD Cert.OutDwKernelIdeal.τ).loc Cert.OutDwKernelIdeal.main_arg0)
      ∧ m' ((c.tc : Thread Cert.OutDwReferenceIdeal.nD Cert.OutDwReferenceIdeal.τ).loc Cert.OutDwReferenceIdeal.main_arg1) = m ((c.tc : Thread Cert.OutDwKernelIdeal.nD Cert.OutDwKernelIdeal.τ).loc Cert.OutDwKernelIdeal.main_arg1)) →
    ∃ (v0 : (c : Dev Cert.OutDwKernelIdeal.nD) → Buf (Elt Ideal) ((c.tc : Thread Cert.OutDwKernelIdeal.nD Cert.OutDwKernelIdeal.τ).loc Cert.OutDwKernelIdeal.main_v0)),
      θ_run (Cert.OutDwKernelIdeal.defs (F := Ideal)) (onTc (τ := Cert.OutDwKernelIdeal.τ) (Cert.OutDwKernelIdeal.main (F := Ideal))) ⟨m, fun _ => 0, g⟩ (fun r => ∀ c : Dev Cert.OutDwKernelIdeal.nD,
          r.2.mem ((c.tc : Thread Cert.OutDwKernelIdeal.nD Cert.OutDwKernelIdeal.τ).loc Cert.OutDwKernelIdeal.main_v0) = v0 c
          ∧ r.2.mem ((c.tc : Thread Cert.OutDwKernelIdeal.nD Cert.OutDwKernelIdeal.τ).loc Cert.OutDwKernelIdeal.main_arg0) = m ((c.tc : Thread Cert.OutDwKernelIdeal.nD Cert.OutDwKernelIdeal.τ).loc Cert.OutDwKernelIdeal.main_arg0)
          ∧ r.2.mem ((c.tc : Thread Cert.OutDwKernelIdeal.nD Cert.OutDwKernelIdeal.τ).loc Cert.OutDwKernelIdeal.main_arg1) = m ((c.tc : Thread Cert.OutDwKernelIdeal.nD Cert.OutDwKernelIdeal.τ).loc Cert.OutDwKernelIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v5) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_QueryDwKernel_QueryDwKernelIdeal : Prop :=
  True

def algebraic_QueryDwKernelIdeal_QueryDwReferenceIdeal [hQueryDwKernelIdeal : Cert.QueryDwKernelIdeal.Facts] [hQueryDwReferenceIdeal : Cert.QueryDwReferenceIdeal.Facts] : Prop :=
  ∀ (m : (ℓ : Loc Cert.QueryDwKernelIdeal.nD Cert.QueryDwKernelIdeal.τ Cert.QueryDwKernelIdeal.sig) → Buf (Elt Ideal) ℓ) (g : Dev Cert.QueryDwKernelIdeal.nD → PrngReg)
    (m' : (ℓ : Loc Cert.QueryDwReferenceIdeal.nD Cert.QueryDwReferenceIdeal.τ Cert.QueryDwReferenceIdeal.sig) → Buf (Elt Ideal) ℓ) (g' : Dev Cert.QueryDwReferenceIdeal.nD → PrngReg), Pre_QueryDwKernelIdeal m →
    (∀ c : Dev Cert.QueryDwKernelIdeal.nD,
      m' ((c.tc : Thread Cert.QueryDwReferenceIdeal.nD Cert.QueryDwReferenceIdeal.τ).loc Cert.QueryDwReferenceIdeal.main_arg0) = m ((c.tc : Thread Cert.QueryDwKernelIdeal.nD Cert.QueryDwKernelIdeal.τ).loc Cert.QueryDwKernelIdeal.main_arg0)
      ∧ m' ((c.tc : Thread Cert.QueryDwReferenceIdeal.nD Cert.QueryDwReferenceIdeal.τ).loc Cert.QueryDwReferenceIdeal.main_arg1) = m ((c.tc : Thread Cert.QueryDwKernelIdeal.nD Cert.QueryDwKernelIdeal.τ).loc Cert.QueryDwKernelIdeal.main_arg1)) →
    ∃ (v0 : (c : Dev Cert.QueryDwKernelIdeal.nD) → Buf (Elt Ideal) ((c.tc : Thread Cert.QueryDwKernelIdeal.nD Cert.QueryDwKernelIdeal.τ).loc Cert.QueryDwKernelIdeal.main_v0)),
      θ_run (Cert.QueryDwKernelIdeal.defs (F := Ideal)) (onTc (τ := Cert.QueryDwKernelIdeal.τ) (Cert.QueryDwKernelIdeal.main (F := Ideal))) ⟨m, fun _ => 0, g⟩ (fun r => ∀ c : Dev Cert.QueryDwKernelIdeal.nD,
          r.2.mem ((c.tc : Thread Cert.QueryDwKernelIdeal.nD Cert.QueryDwKernelIdeal.τ).loc Cert.QueryDwKernelIdeal.main_v0) = v0 c
          ∧ r.2.mem ((c.tc : Thread Cert.QueryDwKernelIdeal.nD Cert.QueryDwKernelIdeal.τ).loc Cert.QueryDwKernelIdeal.main_arg0) = m ((c.tc : Thread Cert.QueryDwKernelIdeal.nD Cert.QueryDwKernelIdeal.τ).loc Cert.QueryDwKernelIdeal.main_arg0)
          ∧ r.2.mem ((c.tc : Thread Cert.QueryDwKernelIdeal.nD Cert.QueryDwKernelIdeal.τ).loc Cert.QueryDwKernelIdeal.main_arg1) = m ((c.tc : Thread Cert.QueryDwKernelIdeal.nD Cert.QueryDwKernelIdeal.τ).loc Cert.QueryDwKernelIdeal.main_arg1))
      ∧ θ_run (Cert.QueryDwReferenceIdeal.defs (F := Ideal)) (onTc (τ := Cert.QueryDwReferenceIdeal.τ) (Cert.QueryDwReferenceIdeal.main (F := Ideal))) ⟨m', fun _ => 0, g'⟩ (fun r => ∀ c : Dev Cert.QueryDwReferenceIdeal.nD,
          r.2.mem ((c.tc : Thread Cert.QueryDwReferenceIdeal.nD Cert.QueryDwReferenceIdeal.τ).loc Cert.QueryDwReferenceIdeal.main_v6) = v0 c
          ∧ r.2.mem ((c.tc : Thread Cert.QueryDwReferenceIdeal.nD Cert.QueryDwReferenceIdeal.τ).loc Cert.QueryDwReferenceIdeal.main_arg0) = m' ((c.tc : Thread Cert.QueryDwReferenceIdeal.nD Cert.QueryDwReferenceIdeal.τ).loc Cert.QueryDwReferenceIdeal.main_arg0)
          ∧ r.2.mem ((c.tc : Thread Cert.QueryDwReferenceIdeal.nD Cert.QueryDwReferenceIdeal.τ).loc Cert.QueryDwReferenceIdeal.main_arg1) = m' ((c.tc : Thread Cert.QueryDwReferenceIdeal.nD Cert.QueryDwReferenceIdeal.τ).loc Cert.QueryDwReferenceIdeal.main_arg1))

def preserves_SharedDwKernel_SharedDwKernelIdeal : Prop :=
  True

def algebraic_SharedDwKernelIdeal_SharedDwReferenceIdeal [hSharedDwKernelIdeal : Cert.SharedDwKernelIdeal.Facts] [hSharedDwReferenceIdeal : Cert.SharedDwReferenceIdeal.Facts] : Prop :=
  ∀ (m : (ℓ : Loc Cert.SharedDwKernelIdeal.nD Cert.SharedDwKernelIdeal.τ Cert.SharedDwKernelIdeal.sig) → Buf (Elt Ideal) ℓ) (g : Dev Cert.SharedDwKernelIdeal.nD → PrngReg)
    (m' : (ℓ : Loc Cert.SharedDwReferenceIdeal.nD Cert.SharedDwReferenceIdeal.τ Cert.SharedDwReferenceIdeal.sig) → Buf (Elt Ideal) ℓ) (g' : Dev Cert.SharedDwReferenceIdeal.nD → PrngReg), Pre_SharedDwKernelIdeal m →
    (∀ c : Dev Cert.SharedDwKernelIdeal.nD,
      m' ((c.tc : Thread Cert.SharedDwReferenceIdeal.nD Cert.SharedDwReferenceIdeal.τ).loc Cert.SharedDwReferenceIdeal.main_arg0) = m ((c.tc : Thread Cert.SharedDwKernelIdeal.nD Cert.SharedDwKernelIdeal.τ).loc Cert.SharedDwKernelIdeal.main_arg0)
      ∧ m' ((c.tc : Thread Cert.SharedDwReferenceIdeal.nD Cert.SharedDwReferenceIdeal.τ).loc Cert.SharedDwReferenceIdeal.main_arg1) = m ((c.tc : Thread Cert.SharedDwKernelIdeal.nD Cert.SharedDwKernelIdeal.τ).loc Cert.SharedDwKernelIdeal.main_arg1)) →
    ∃ (v0 : (c : Dev Cert.SharedDwKernelIdeal.nD) → Buf (Elt Ideal) ((c.tc : Thread Cert.SharedDwKernelIdeal.nD Cert.SharedDwKernelIdeal.τ).loc Cert.SharedDwKernelIdeal.main_v0)),
      θ_run (Cert.SharedDwKernelIdeal.defs (F := Ideal)) (onTc (τ := Cert.SharedDwKernelIdeal.τ) (Cert.SharedDwKernelIdeal.main (F := Ideal))) ⟨m, fun _ => 0, g⟩ (fun r => ∀ c : Dev Cert.SharedDwKernelIdeal.nD,
          r.2.mem ((c.tc : Thread Cert.SharedDwKernelIdeal.nD Cert.SharedDwKernelIdeal.τ).loc Cert.SharedDwKernelIdeal.main_v0) = v0 c
          ∧ r.2.mem ((c.tc : Thread Cert.SharedDwKernelIdeal.nD Cert.SharedDwKernelIdeal.τ).loc Cert.SharedDwKernelIdeal.main_arg0) = m ((c.tc : Thread Cert.SharedDwKernelIdeal.nD Cert.SharedDwKernelIdeal.τ).loc Cert.SharedDwKernelIdeal.main_arg0)
          ∧ r.2.mem ((c.tc : Thread Cert.SharedDwKernelIdeal.nD Cert.SharedDwKernelIdeal.τ).loc Cert.SharedDwKernelIdeal.main_arg1) = m ((c.tc : Thread Cert.SharedDwKernelIdeal.nD Cert.SharedDwKernelIdeal.τ).loc Cert.SharedDwKernelIdeal.main_arg1))
      ∧ θ_run (Cert.SharedDwReferenceIdeal.defs (F := Ideal)) (onTc (τ := Cert.SharedDwReferenceIdeal.τ) (Cert.SharedDwReferenceIdeal.main (F := Ideal))) ⟨m', fun _ => 0, g'⟩ (fun r => ∀ c : Dev Cert.SharedDwReferenceIdeal.nD,
          r.2.mem ((c.tc : Thread Cert.SharedDwReferenceIdeal.nD Cert.SharedDwReferenceIdeal.τ).loc Cert.SharedDwReferenceIdeal.main_v5) = v0 c
          ∧ r.2.mem ((c.tc : Thread Cert.SharedDwReferenceIdeal.nD Cert.SharedDwReferenceIdeal.τ).loc Cert.SharedDwReferenceIdeal.main_arg0) = m' ((c.tc : Thread Cert.SharedDwReferenceIdeal.nD Cert.SharedDwReferenceIdeal.τ).loc Cert.SharedDwReferenceIdeal.main_arg0)
          ∧ r.2.mem ((c.tc : Thread Cert.SharedDwReferenceIdeal.nD Cert.SharedDwReferenceIdeal.τ).loc Cert.SharedDwReferenceIdeal.main_arg1) = m' ((c.tc : Thread Cert.SharedDwReferenceIdeal.nD Cert.SharedDwReferenceIdeal.τ).loc Cert.SharedDwReferenceIdeal.main_arg1))

def preserves_SharedDxKernel_SharedDxKernelIdeal : Prop :=
  True

def algebraic_SharedDxKernelIdeal_SharedDxReferenceIdeal [hSharedDxKernelIdeal : Cert.SharedDxKernelIdeal.Facts] [hSharedDxReferenceIdeal : Cert.SharedDxReferenceIdeal.Facts] : Prop :=
  ∀ (m : (ℓ : Loc Cert.SharedDxKernelIdeal.nD Cert.SharedDxKernelIdeal.τ Cert.SharedDxKernelIdeal.sig) → Buf (Elt Ideal) ℓ) (g : Dev Cert.SharedDxKernelIdeal.nD → PrngReg)
    (m' : (ℓ : Loc Cert.SharedDxReferenceIdeal.nD Cert.SharedDxReferenceIdeal.τ Cert.SharedDxReferenceIdeal.sig) → Buf (Elt Ideal) ℓ) (g' : Dev Cert.SharedDxReferenceIdeal.nD → PrngReg), Pre_SharedDxKernelIdeal m →
    (∀ c : Dev Cert.SharedDxKernelIdeal.nD,
      m' ((c.tc : Thread Cert.SharedDxReferenceIdeal.nD Cert.SharedDxReferenceIdeal.τ).loc Cert.SharedDxReferenceIdeal.main_arg0) = m ((c.tc : Thread Cert.SharedDxKernelIdeal.nD Cert.SharedDxKernelIdeal.τ).loc Cert.SharedDxKernelIdeal.main_arg0)
      ∧ m' ((c.tc : Thread Cert.SharedDxReferenceIdeal.nD Cert.SharedDxReferenceIdeal.τ).loc Cert.SharedDxReferenceIdeal.main_arg1) = m ((c.tc : Thread Cert.SharedDxKernelIdeal.nD Cert.SharedDxKernelIdeal.τ).loc Cert.SharedDxKernelIdeal.main_arg1)) →
    ∃ (v0 : (c : Dev Cert.SharedDxKernelIdeal.nD) → Buf (Elt Ideal) ((c.tc : Thread Cert.SharedDxKernelIdeal.nD Cert.SharedDxKernelIdeal.τ).loc Cert.SharedDxKernelIdeal.main_v0)),
      θ_run (Cert.SharedDxKernelIdeal.defs (F := Ideal)) (onTc (τ := Cert.SharedDxKernelIdeal.τ) (Cert.SharedDxKernelIdeal.main (F := Ideal))) ⟨m, fun _ => 0, g⟩ (fun r => ∀ c : Dev Cert.SharedDxKernelIdeal.nD,
          r.2.mem ((c.tc : Thread Cert.SharedDxKernelIdeal.nD Cert.SharedDxKernelIdeal.τ).loc Cert.SharedDxKernelIdeal.main_v0) = v0 c
          ∧ r.2.mem ((c.tc : Thread Cert.SharedDxKernelIdeal.nD Cert.SharedDxKernelIdeal.τ).loc Cert.SharedDxKernelIdeal.main_arg0) = m ((c.tc : Thread Cert.SharedDxKernelIdeal.nD Cert.SharedDxKernelIdeal.τ).loc Cert.SharedDxKernelIdeal.main_arg0)
          ∧ r.2.mem ((c.tc : Thread Cert.SharedDxKernelIdeal.nD Cert.SharedDxKernelIdeal.τ).loc Cert.SharedDxKernelIdeal.main_arg1) = m ((c.tc : Thread Cert.SharedDxKernelIdeal.nD Cert.SharedDxKernelIdeal.τ).loc Cert.SharedDxKernelIdeal.main_arg1))
      ∧ θ_run (Cert.SharedDxReferenceIdeal.defs (F := Ideal)) (onTc (τ := Cert.SharedDxReferenceIdeal.τ) (Cert.SharedDxReferenceIdeal.main (F := Ideal))) ⟨m', fun _ => 0, g'⟩ (fun r => ∀ c : Dev Cert.SharedDxReferenceIdeal.nD,
          r.2.mem ((c.tc : Thread Cert.SharedDxReferenceIdeal.nD Cert.SharedDxReferenceIdeal.τ).loc Cert.SharedDxReferenceIdeal.main_v4) = v0 c
          ∧ r.2.mem ((c.tc : Thread Cert.SharedDxReferenceIdeal.nD Cert.SharedDxReferenceIdeal.τ).loc Cert.SharedDxReferenceIdeal.main_arg0) = m' ((c.tc : Thread Cert.SharedDxReferenceIdeal.nD Cert.SharedDxReferenceIdeal.τ).loc Cert.SharedDxReferenceIdeal.main_arg0)
          ∧ r.2.mem ((c.tc : Thread Cert.SharedDxReferenceIdeal.nD Cert.SharedDxReferenceIdeal.τ).loc Cert.SharedDxReferenceIdeal.main_arg1) = m' ((c.tc : Thread Cert.SharedDxReferenceIdeal.nD Cert.SharedDxReferenceIdeal.τ).loc Cert.SharedDxReferenceIdeal.main_arg1))

def preserves_QueryDxKernel_QueryDxKernelIdeal : Prop :=
  True

def algebraic_QueryDxKernelIdeal_QueryDxReferenceIdeal [hQueryDxKernelIdeal : Cert.QueryDxKernelIdeal.Facts] [hQueryDxReferenceIdeal : Cert.QueryDxReferenceIdeal.Facts] : Prop :=
  ∀ (m : (ℓ : Loc Cert.QueryDxKernelIdeal.nD Cert.QueryDxKernelIdeal.τ Cert.QueryDxKernelIdeal.sig) → Buf (Elt Ideal) ℓ) (g : Dev Cert.QueryDxKernelIdeal.nD → PrngReg)
    (m' : (ℓ : Loc Cert.QueryDxReferenceIdeal.nD Cert.QueryDxReferenceIdeal.τ Cert.QueryDxReferenceIdeal.sig) → Buf (Elt Ideal) ℓ) (g' : Dev Cert.QueryDxReferenceIdeal.nD → PrngReg), Pre_QueryDxKernelIdeal m →
    (∀ c : Dev Cert.QueryDxKernelIdeal.nD,
      m' ((c.tc : Thread Cert.QueryDxReferenceIdeal.nD Cert.QueryDxReferenceIdeal.τ).loc Cert.QueryDxReferenceIdeal.main_arg0) = m ((c.tc : Thread Cert.QueryDxKernelIdeal.nD Cert.QueryDxKernelIdeal.τ).loc Cert.QueryDxKernelIdeal.main_arg0)
      ∧ m' ((c.tc : Thread Cert.QueryDxReferenceIdeal.nD Cert.QueryDxReferenceIdeal.τ).loc Cert.QueryDxReferenceIdeal.main_arg1) = m ((c.tc : Thread Cert.QueryDxKernelIdeal.nD Cert.QueryDxKernelIdeal.τ).loc Cert.QueryDxKernelIdeal.main_arg1)
      ∧ m' ((c.tc : Thread Cert.QueryDxReferenceIdeal.nD Cert.QueryDxReferenceIdeal.τ).loc Cert.QueryDxReferenceIdeal.main_arg2) = m ((c.tc : Thread Cert.QueryDxKernelIdeal.nD Cert.QueryDxKernelIdeal.τ).loc Cert.QueryDxKernelIdeal.main_arg2)
      ∧ m' ((c.tc : Thread Cert.QueryDxReferenceIdeal.nD Cert.QueryDxReferenceIdeal.τ).loc Cert.QueryDxReferenceIdeal.main_arg3) = m ((c.tc : Thread Cert.QueryDxKernelIdeal.nD Cert.QueryDxKernelIdeal.τ).loc Cert.QueryDxKernelIdeal.main_arg3)
      ∧ m' ((c.tc : Thread Cert.QueryDxReferenceIdeal.nD Cert.QueryDxReferenceIdeal.τ).loc Cert.QueryDxReferenceIdeal.main_arg4) = m ((c.tc : Thread Cert.QueryDxKernelIdeal.nD Cert.QueryDxKernelIdeal.τ).loc Cert.QueryDxKernelIdeal.main_arg4)) →
    ∃ (v0 : (c : Dev Cert.QueryDxKernelIdeal.nD) → Buf (Elt Ideal) ((c.tc : Thread Cert.QueryDxKernelIdeal.nD Cert.QueryDxKernelIdeal.τ).loc Cert.QueryDxKernelIdeal.main_v0_0)) (v1 : (c : Dev Cert.QueryDxKernelIdeal.nD) → Buf (Elt Ideal) ((c.tc : Thread Cert.QueryDxKernelIdeal.nD Cert.QueryDxKernelIdeal.τ).loc Cert.QueryDxKernelIdeal.main_v0_1)),
      θ_run (Cert.QueryDxKernelIdeal.defs (F := Ideal)) (onTc (τ := Cert.QueryDxKernelIdeal.τ) (Cert.QueryDxKernelIdeal.main (F := Ideal))) ⟨m, fun _ => 0, g⟩ (fun r => ∀ c : Dev Cert.QueryDxKernelIdeal.nD,
          r.2.mem ((c.tc : Thread Cert.QueryDxKernelIdeal.nD Cert.QueryDxKernelIdeal.τ).loc Cert.QueryDxKernelIdeal.main_v0_0) = v0 c
          ∧ r.2.mem ((c.tc : Thread Cert.QueryDxKernelIdeal.nD Cert.QueryDxKernelIdeal.τ).loc Cert.QueryDxKernelIdeal.main_v0_1) = v1 c
          ∧ r.2.mem ((c.tc : Thread Cert.QueryDxKernelIdeal.nD Cert.QueryDxKernelIdeal.τ).loc Cert.QueryDxKernelIdeal.main_arg0) = m ((c.tc : Thread Cert.QueryDxKernelIdeal.nD Cert.QueryDxKernelIdeal.τ).loc Cert.QueryDxKernelIdeal.main_arg0)
          ∧ r.2.mem ((c.tc : Thread Cert.QueryDxKernelIdeal.nD Cert.QueryDxKernelIdeal.τ).loc Cert.QueryDxKernelIdeal.main_arg1) = m ((c.tc : Thread Cert.QueryDxKernelIdeal.nD Cert.QueryDxKernelIdeal.τ).loc Cert.QueryDxKernelIdeal.main_arg1)
          ∧ r.2.mem ((c.tc : Thread Cert.QueryDxKernelIdeal.nD Cert.QueryDxKernelIdeal.τ).loc Cert.QueryDxKernelIdeal.main_arg2) = m ((c.tc : Thread Cert.QueryDxKernelIdeal.nD Cert.QueryDxKernelIdeal.τ).loc Cert.QueryDxKernelIdeal.main_arg2)
          ∧ r.2.mem ((c.tc : Thread Cert.QueryDxKernelIdeal.nD Cert.QueryDxKernelIdeal.τ).loc Cert.QueryDxKernelIdeal.main_arg3) = m ((c.tc : Thread Cert.QueryDxKernelIdeal.nD Cert.QueryDxKernelIdeal.τ).loc Cert.QueryDxKernelIdeal.main_arg3)
          ∧ r.2.mem ((c.tc : Thread Cert.QueryDxKernelIdeal.nD Cert.QueryDxKernelIdeal.τ).loc Cert.QueryDxKernelIdeal.main_arg4) = m ((c.tc : Thread Cert.QueryDxKernelIdeal.nD Cert.QueryDxKernelIdeal.τ).loc Cert.QueryDxKernelIdeal.main_arg4))
      ∧ θ_run (Cert.QueryDxReferenceIdeal.defs (F := Ideal)) (onTc (τ := Cert.QueryDxReferenceIdeal.τ) (Cert.QueryDxReferenceIdeal.main (F := Ideal))) ⟨m', fun _ => 0, g'⟩ (fun r => ∀ c : Dev Cert.QueryDxReferenceIdeal.nD,
          r.2.mem ((c.tc : Thread Cert.QueryDxReferenceIdeal.nD Cert.QueryDxReferenceIdeal.τ).loc Cert.QueryDxReferenceIdeal.main_v43) = v0 c
          ∧ r.2.mem ((c.tc : Thread Cert.QueryDxReferenceIdeal.nD Cert.QueryDxReferenceIdeal.τ).loc Cert.QueryDxReferenceIdeal.main_v44) = v1 c
          ∧ r.2.mem ((c.tc : Thread Cert.QueryDxReferenceIdeal.nD Cert.QueryDxReferenceIdeal.τ).loc Cert.QueryDxReferenceIdeal.main_arg0) = m' ((c.tc : Thread Cert.QueryDxReferenceIdeal.nD Cert.QueryDxReferenceIdeal.τ).loc Cert.QueryDxReferenceIdeal.main_arg0)
          ∧ r.2.mem ((c.tc : Thread Cert.QueryDxReferenceIdeal.nD Cert.QueryDxReferenceIdeal.τ).loc Cert.QueryDxReferenceIdeal.main_arg1) = m' ((c.tc : Thread Cert.QueryDxReferenceIdeal.nD Cert.QueryDxReferenceIdeal.τ).loc Cert.QueryDxReferenceIdeal.main_arg1)
          ∧ r.2.mem ((c.tc : Thread Cert.QueryDxReferenceIdeal.nD Cert.QueryDxReferenceIdeal.τ).loc Cert.QueryDxReferenceIdeal.main_arg2) = m' ((c.tc : Thread Cert.QueryDxReferenceIdeal.nD Cert.QueryDxReferenceIdeal.τ).loc Cert.QueryDxReferenceIdeal.main_arg2)
          ∧ r.2.mem ((c.tc : Thread Cert.QueryDxReferenceIdeal.nD Cert.QueryDxReferenceIdeal.τ).loc Cert.QueryDxReferenceIdeal.main_arg3) = m' ((c.tc : Thread Cert.QueryDxReferenceIdeal.nD Cert.QueryDxReferenceIdeal.τ).loc Cert.QueryDxReferenceIdeal.main_arg3)
          ∧ r.2.mem ((c.tc : Thread Cert.QueryDxReferenceIdeal.nD Cert.QueryDxReferenceIdeal.τ).loc Cert.QueryDxReferenceIdeal.main_arg4) = m' ((c.tc : Thread Cert.QueryDxReferenceIdeal.nD Cert.QueryDxReferenceIdeal.τ).loc Cert.QueryDxReferenceIdeal.main_arg4))

def Claim : Prop :=
  ∃ (hKernel : Cert.Kernel.Facts) (hKernelIdeal : Cert.KernelIdeal.Facts) (hReferenceIdeal : Cert.ReferenceIdeal.Facts) (hFwdKernel : Cert.FwdKernel.Facts) (hFwdKernelIdeal : Cert.FwdKernelIdeal.Facts) (hFwdReferenceIdeal : Cert.FwdReferenceIdeal.Facts) (hUpKernel : Cert.UpKernel.Facts) (hUpKernelIdeal : Cert.UpKernelIdeal.Facts) (hUpReferenceIdeal : Cert.UpReferenceIdeal.Facts) (hUpDwKernel : Cert.UpDwKernel.Facts) (hUpDwKernelIdeal : Cert.UpDwKernelIdeal.Facts) (hUpDwReferenceIdeal : Cert.UpDwReferenceIdeal.Facts) (hUpDxKernel : Cert.UpDxKernel.Facts) (hUpDxKernelIdeal : Cert.UpDxKernelIdeal.Facts) (hUpDxReferenceIdeal : Cert.UpDxReferenceIdeal.Facts) (hDownKernel : Cert.DownKernel.Facts) (hDownKernelIdeal : Cert.DownKernelIdeal.Facts) (hDownReferenceIdeal : Cert.DownReferenceIdeal.Facts) (hLastKernel : Cert.LastKernel.Facts) (hLastKernelIdeal : Cert.LastKernelIdeal.Facts) (hLastReferenceIdeal : Cert.LastReferenceIdeal.Facts) (hDownDxKernel : Cert.DownDxKernel.Facts) (hDownDxKernelIdeal : Cert.DownDxKernelIdeal.Facts) (hDownDxReferenceIdeal : Cert.DownDxReferenceIdeal.Facts) (hDownDwKernel : Cert.DownDwKernel.Facts) (hDownDwKernelIdeal : Cert.DownDwKernelIdeal.Facts) (hDownDwReferenceIdeal : Cert.DownDwReferenceIdeal.Facts) (hGluKernel : Cert.GluKernel.Facts) (hGluKernelIdeal : Cert.GluKernelIdeal.Facts) (hGluReferenceIdeal : Cert.GluReferenceIdeal.Facts) (hGluDwKernel : Cert.GluDwKernel.Facts) (hGluDwKernelIdeal : Cert.GluDwKernelIdeal.Facts) (hGluDwReferenceIdeal : Cert.GluDwReferenceIdeal.Facts) (hGluDyKernel : Cert.GluDyKernel.Facts) (hGluDyKernelIdeal : Cert.GluDyKernelIdeal.Facts) (hGluDyReferenceIdeal : Cert.GluDyReferenceIdeal.Facts) (hQueryKernel : Cert.QueryKernel.Facts) (hQueryKernelIdeal : Cert.QueryKernelIdeal.Facts) (hQueryReferenceIdeal : Cert.QueryReferenceIdeal.Facts) (hSharedKernel : Cert.SharedKernel.Facts) (hSharedKernelIdeal : Cert.SharedKernelIdeal.Facts) (hSharedReferenceIdeal : Cert.SharedReferenceIdeal.Facts) (hOutDxKernel : Cert.OutDxKernel.Facts) (hOutDxKernelIdeal : Cert.OutDxKernelIdeal.Facts) (hOutDxReferenceIdeal : Cert.OutDxReferenceIdeal.Facts) (hOutKernel : Cert.OutKernel.Facts) (hOutKernelIdeal : Cert.OutKernelIdeal.Facts) (hOutReferenceIdeal : Cert.OutReferenceIdeal.Facts) (hOutDwKernel : Cert.OutDwKernel.Facts) (hOutDwKernelIdeal : Cert.OutDwKernelIdeal.Facts) (hOutDwReferenceIdeal : Cert.OutDwReferenceIdeal.Facts) (hQueryDwKernel : Cert.QueryDwKernel.Facts) (hQueryDwKernelIdeal : Cert.QueryDwKernelIdeal.Facts) (hQueryDwReferenceIdeal : Cert.QueryDwReferenceIdeal.Facts) (hSharedDwKernel : Cert.SharedDwKernel.Facts) (hSharedDwKernelIdeal : Cert.SharedDwKernelIdeal.Facts) (hSharedDwReferenceIdeal : Cert.SharedDwReferenceIdeal.Facts) (hSharedDxKernel : Cert.SharedDxKernel.Facts) (hSharedDxKernelIdeal : Cert.SharedDxKernelIdeal.Facts) (hSharedDxReferenceIdeal : Cert.SharedDxReferenceIdeal.Facts) (hQueryDxKernel : Cert.QueryDxKernel.Facts) (hQueryDxKernelIdeal : Cert.QueryDxKernelIdeal.Facts) (hQueryDxReferenceIdeal : Cert.QueryDxReferenceIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FwdKernel (hFwdKernel := hFwdKernel)
    ∧ quiescent_FwdKernelIdeal (hFwdKernelIdeal := hFwdKernelIdeal)
    ∧ quiescent_FwdKernelIdeal_pre_finite_fwd (hFwdKernelIdeal := hFwdKernelIdeal) (hPre_finite_fwd := hPre_finite_fwd)
    ∧ quiescent_FwdReferenceIdeal (hFwdReferenceIdeal := hFwdReferenceIdeal)
    ∧ quiescent_FwdReferenceIdeal_pre_finite_fwd (hFwdReferenceIdeal := hFwdReferenceIdeal) (hPre_finite_fwd := hPre_finite_fwd)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_UpDwKernel (hUpDwKernel := hUpDwKernel)
    ∧ quiescent_UpDwKernelIdeal (hUpDwKernelIdeal := hUpDwKernelIdeal)
    ∧ quiescent_UpDwReferenceIdeal (hUpDwReferenceIdeal := hUpDwReferenceIdeal)
    ∧ quiescent_UpDxKernel (hUpDxKernel := hUpDxKernel)
    ∧ quiescent_UpDxKernelIdeal (hUpDxKernelIdeal := hUpDxKernelIdeal)
    ∧ quiescent_UpDxReferenceIdeal (hUpDxReferenceIdeal := hUpDxReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_LastKernel (hLastKernel := hLastKernel)
    ∧ quiescent_LastKernelIdeal (hLastKernelIdeal := hLastKernelIdeal)
    ∧ quiescent_LastReferenceIdeal (hLastReferenceIdeal := hLastReferenceIdeal)
    ∧ quiescent_DownDxKernel (hDownDxKernel := hDownDxKernel)
    ∧ quiescent_DownDxKernelIdeal (hDownDxKernelIdeal := hDownDxKernelIdeal)
    ∧ quiescent_DownDxReferenceIdeal (hDownDxReferenceIdeal := hDownDxReferenceIdeal)
    ∧ quiescent_DownDwKernel (hDownDwKernel := hDownDwKernel)
    ∧ quiescent_DownDwKernelIdeal (hDownDwKernelIdeal := hDownDwKernelIdeal)
    ∧ quiescent_DownDwReferenceIdeal (hDownDwReferenceIdeal := hDownDwReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_GluDwKernel (hGluDwKernel := hGluDwKernel)
    ∧ quiescent_GluDwKernelIdeal (hGluDwKernelIdeal := hGluDwKernelIdeal)
    ∧ quiescent_GluDwReferenceIdeal (hGluDwReferenceIdeal := hGluDwReferenceIdeal)
    ∧ quiescent_GluDyKernel (hGluDyKernel := hGluDyKernel)
    ∧ quiescent_GluDyKernelIdeal (hGluDyKernelIdeal := hGluDyKernelIdeal)
    ∧ quiescent_GluDyReferenceIdeal (hGluDyReferenceIdeal := hGluDyReferenceIdeal)
    ∧ quiescent_QueryKernel (hQueryKernel := hQueryKernel)
    ∧ quiescent_QueryKernelIdeal (hQueryKernelIdeal := hQueryKernelIdeal)
    ∧ quiescent_QueryReferenceIdeal (hQueryReferenceIdeal := hQueryReferenceIdeal)
    ∧ quiescent_SharedKernel (hSharedKernel := hSharedKernel)
    ∧ quiescent_SharedKernelIdeal (hSharedKernelIdeal := hSharedKernelIdeal)
    ∧ quiescent_SharedReferenceIdeal (hSharedReferenceIdeal := hSharedReferenceIdeal)
    ∧ quiescent_OutDxKernel (hOutDxKernel := hOutDxKernel)
    ∧ quiescent_OutDxKernelIdeal (hOutDxKernelIdeal := hOutDxKernelIdeal)
    ∧ quiescent_OutDxReferenceIdeal (hOutDxReferenceIdeal := hOutDxReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_OutDwKernel (hOutDwKernel := hOutDwKernel)
    ∧ quiescent_OutDwKernelIdeal (hOutDwKernelIdeal := hOutDwKernelIdeal)
    ∧ quiescent_OutDwReferenceIdeal (hOutDwReferenceIdeal := hOutDwReferenceIdeal)
    ∧ quiescent_QueryDwKernel (hQueryDwKernel := hQueryDwKernel)
    ∧ quiescent_QueryDwKernelIdeal (hQueryDwKernelIdeal := hQueryDwKernelIdeal)
    ∧ quiescent_QueryDwReferenceIdeal (hQueryDwReferenceIdeal := hQueryDwReferenceIdeal)
    ∧ quiescent_SharedDwKernel (hSharedDwKernel := hSharedDwKernel)
    ∧ quiescent_SharedDwKernelIdeal (hSharedDwKernelIdeal := hSharedDwKernelIdeal)
    ∧ quiescent_SharedDwReferenceIdeal (hSharedDwReferenceIdeal := hSharedDwReferenceIdeal)
    ∧ quiescent_SharedDxKernel (hSharedDxKernel := hSharedDxKernel)
    ∧ quiescent_SharedDxKernelIdeal (hSharedDxKernelIdeal := hSharedDxKernelIdeal)
    ∧ quiescent_SharedDxReferenceIdeal (hSharedDxReferenceIdeal := hSharedDxReferenceIdeal)
    ∧ quiescent_QueryDxKernel (hQueryDxKernel := hQueryDxKernel)
    ∧ quiescent_QueryDxKernelIdeal (hQueryDxKernelIdeal := hQueryDxKernelIdeal)
    ∧ quiescent_QueryDxReferenceIdeal (hQueryDxReferenceIdeal := hQueryDxReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FwdKernel_FwdKernelIdeal
    ∧ algebraic_FwdKernelIdeal_FwdReferenceIdeal_pre_finite_fwd (hFwdKernelIdeal := hFwdKernelIdeal) (hFwdReferenceIdeal := hFwdReferenceIdeal) (hPre_finite_fwd := hPre_finite_fwd)
    ∧ preserves_UpKernel_UpKernelIdeal
    ∧ algebraic_UpKernelIdeal_UpReferenceIdeal (hUpKernelIdeal := hUpKernelIdeal) (hUpReferenceIdeal := hUpReferenceIdeal)
    ∧ preserves_UpDwKernel_UpDwKernelIdeal
    ∧ algebraic_UpDwKernelIdeal_UpDwReferenceIdeal (hUpDwKernelIdeal := hUpDwKernelIdeal) (hUpDwReferenceIdeal := hUpDwReferenceIdeal)
    ∧ preserves_UpDxKernel_UpDxKernelIdeal
    ∧ algebraic_UpDxKernelIdeal_UpDxReferenceIdeal (hUpDxKernelIdeal := hUpDxKernelIdeal) (hUpDxReferenceIdeal := hUpDxReferenceIdeal)
    ∧ preserves_DownKernel_DownKernelIdeal
    ∧ algebraic_DownKernelIdeal_DownReferenceIdeal (hDownKernelIdeal := hDownKernelIdeal) (hDownReferenceIdeal := hDownReferenceIdeal)
    ∧ preserves_LastKernel_LastKernelIdeal
    ∧ algebraic_LastKernelIdeal_LastReferenceIdeal (hLastKernelIdeal := hLastKernelIdeal) (hLastReferenceIdeal := hLastReferenceIdeal)
    ∧ preserves_DownDxKernel_DownDxKernelIdeal
    ∧ algebraic_DownDxKernelIdeal_DownDxReferenceIdeal (hDownDxKernelIdeal := hDownDxKernelIdeal) (hDownDxReferenceIdeal := hDownDxReferenceIdeal)
    ∧ preserves_DownDwKernel_DownDwKernelIdeal
    ∧ algebraic_DownDwKernelIdeal_DownDwReferenceIdeal (hDownDwKernelIdeal := hDownDwKernelIdeal) (hDownDwReferenceIdeal := hDownDwReferenceIdeal)
    ∧ preserves_GluKernel_GluKernelIdeal
    ∧ algebraic_GluKernelIdeal_GluReferenceIdeal (hGluKernelIdeal := hGluKernelIdeal) (hGluReferenceIdeal := hGluReferenceIdeal)
    ∧ preserves_GluDwKernel_GluDwKernelIdeal
    ∧ algebraic_GluDwKernelIdeal_GluDwReferenceIdeal (hGluDwKernelIdeal := hGluDwKernelIdeal) (hGluDwReferenceIdeal := hGluDwReferenceIdeal)
    ∧ preserves_GluDyKernel_GluDyKernelIdeal
    ∧ algebraic_GluDyKernelIdeal_GluDyReferenceIdeal (hGluDyKernelIdeal := hGluDyKernelIdeal) (hGluDyReferenceIdeal := hGluDyReferenceIdeal)
    ∧ preserves_QueryKernel_QueryKernelIdeal
    ∧ algebraic_QueryKernelIdeal_QueryReferenceIdeal (hQueryKernelIdeal := hQueryKernelIdeal) (hQueryReferenceIdeal := hQueryReferenceIdeal)
    ∧ preserves_SharedKernel_SharedKernelIdeal
    ∧ algebraic_SharedKernelIdeal_SharedReferenceIdeal (hSharedKernelIdeal := hSharedKernelIdeal) (hSharedReferenceIdeal := hSharedReferenceIdeal)
    ∧ preserves_OutDxKernel_OutDxKernelIdeal
    ∧ algebraic_OutDxKernelIdeal_OutDxReferenceIdeal (hOutDxKernelIdeal := hOutDxKernelIdeal) (hOutDxReferenceIdeal := hOutDxReferenceIdeal)
    ∧ preserves_OutKernel_OutKernelIdeal
    ∧ algebraic_OutKernelIdeal_OutReferenceIdeal (hOutKernelIdeal := hOutKernelIdeal) (hOutReferenceIdeal := hOutReferenceIdeal)
    ∧ preserves_OutDwKernel_OutDwKernelIdeal
    ∧ algebraic_OutDwKernelIdeal_OutDwReferenceIdeal (hOutDwKernelIdeal := hOutDwKernelIdeal) (hOutDwReferenceIdeal := hOutDwReferenceIdeal)
    ∧ preserves_QueryDwKernel_QueryDwKernelIdeal
    ∧ algebraic_QueryDwKernelIdeal_QueryDwReferenceIdeal (hQueryDwKernelIdeal := hQueryDwKernelIdeal) (hQueryDwReferenceIdeal := hQueryDwReferenceIdeal)
    ∧ preserves_SharedDwKernel_SharedDwKernelIdeal
    ∧ algebraic_SharedDwKernelIdeal_SharedDwReferenceIdeal (hSharedDwKernelIdeal := hSharedDwKernelIdeal) (hSharedDwReferenceIdeal := hSharedDwReferenceIdeal)
    ∧ preserves_SharedDxKernel_SharedDxKernelIdeal
    ∧ algebraic_SharedDxKernelIdeal_SharedDxReferenceIdeal (hSharedDxKernelIdeal := hSharedDxKernelIdeal) (hSharedDxReferenceIdeal := hSharedDxReferenceIdeal)
    ∧ preserves_QueryDxKernel_QueryDxKernelIdeal
    ∧ algebraic_QueryDxKernelIdeal_QueryDxReferenceIdeal (hQueryDxKernelIdeal := hQueryDxKernelIdeal) (hQueryDxReferenceIdeal := hQueryDxReferenceIdeal)
-- ==== Pre_finite.lean ====
abbrev S4096x1024 : Shape := ⟨2, ![4096, 1024]⟩
abbrev S4096x2048 : Shape := ⟨2, ![4096, 2048]⟩
abbrev S4096x16 : Shape := ⟨2, ![4096, 16]⟩
abbrev S_ : Shape := ⟨0, ![]⟩

class Facts : Prop where
  bcast_S_S4096x1024 : S_.BroadcastsInDim S4096x1024 (![] : Fin 0 → Fin S4096x1024.rank)
  bcast_S_S4096x2048 : S_.BroadcastsInDim S4096x2048 (![] : Fin 0 → Fin S4096x2048.rank)
  bcast_S_S4096x16 : S_.BroadcastsInDim S4096x16 (![] : Fin 0 → Fin S4096x16.rank)

variable [Facts]

def fn {F : FTy → Type} [FloatOps F] (main_arg0 : FVec F S4096x1024 .f32) (main_arg1 : FVec F S4096x2048 .f32) (main_arg2 : FVec F S4096x16 .f32) (main_arg3 : FVec F S4096x1024 .f32) : IVec S4096x1024 1 × IVec S4096x2048 1 × IVec S4096x16 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S4096x16 .f32 := Host.absf main_arg2
  let main_cst_1 : FVec F S_ .f32 := constant S_ .f32 0x7F800000#32
  let main_v7 : FVec F S4096x16 .f32 := broadcastInDim S4096x16 ![] bcast_S_S4096x16 main_cst_1
  let main_v8 : IVec S4096x16 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_fwd.lean ====
abbrev S4096x1024 : Shape := ⟨2, ![4096, 1024]⟩
abbrev S4096x2048 : Shape := ⟨2, ![4096, 2048]⟩
abbrev S16x1x4096 : Shape := ⟨3, ![16, 1, 4096]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x2048 : S_.BroadcastsInDim S4096x2048 (![] : Fin 0 → Fin S4096x2048.rank)
  bcast_S_S16x1x4096 : S_.BroadcastsInDim S16x1x4096 (![] : Fin 0 → Fin S16x1x4096.rank)

variable [Facts]

def fn {F : FTy → Type} [FloatOps F] (main_arg0 : FVec F S4096x1024 .bf16) (main_arg1 : FVec F S4096x2048 .bf16) (main_arg2 : FVec F S16x1x4096 .f32) : IVec S4096x1024 1 × IVec S4096x2048 1 × IVec S16x1x4096 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_v8 : FVec F S16x1x4096 .f32 := Host.absf main_arg2
  let main_cst_1 : FVec F S_ .f32 := constant S_ .f32 0x7F800000#32
  let main_v9 : FVec F S16x1x4096 .f32 := broadcastInDim S16x1x4096 ![] bcast_S_S16x1x4096 main_cst_1
  let main_v10 : IVec S16x1x4096 1 := cmpf .olt main_v8 main_v9
  (main_v3, main_v7, main_v10)
-- ==== Kernel.lean ====
abbrev S4096x1024 : Shape := ⟨2, ![4096, 1024]⟩
abbrev S4096x2048 : Shape := ⟨2, ![4096, 2048]⟩
abbrev S4096x16 : Shape := ⟨2, ![4096, 16]⟩
abbrev S36 : Shape := ⟨1, ![36]⟩
abbrev S4096x16x64 : Shape := ⟨3, ![4096, 16, 64]⟩
abbrev S16x4096 : Shape := ⟨2, ![16, 4096]⟩
abbrev S16x1x4096 : Shape := ⟨3, ![16, 1, 4096]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096x1 : Shape := ⟨3, ![16, 4096, 1]⟩
abbrev S16x64x4096 : Shape := ⟨3, ![16, 64, 4096]⟩
abbrev S1024x4096 : Shape := ⟨2, ![1024, 4096]⟩
abbrev S512x128 : Shape := ⟨2, ![512, 128]⟩
abbrev S1 : Shape := ⟨1, ![1]⟩
abbrev S2x512x1 : Shape := ⟨3, ![2, 512, 1]⟩
abbrev S2x1x512 : Shape := ⟨3, ![2, 1, 512]⟩
abbrev S128x4096 : Shape := ⟨2, ![128, 4096]⟩
abbrev S512x64 : Shape := ⟨2, ![512, 64]⟩
abbrev S512x512 : Shape := ⟨2, ![512, 512]⟩
abbrev S1x512x1 : Shape := ⟨3, ![1, 512, 1]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩
abbrev S64x512 : Shape := ⟨2, ![64, 512]⟩
abbrev S128x512 : Shape := ⟨2, ![128, 512]⟩

abbrev nBuf : Space → Nat
  | .hbm => 57
  | .vmem => 23
  | .smem => 2
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x16, .f32⟩
  | .hbm, ⟨3, _⟩ => ⟨S4096x1024, .f32⟩
  | .hbm, ⟨4, _⟩ => ⟨S4096x16x64, .f32⟩
  | .hbm, ⟨5, _⟩ => ⟨S4096x1024, .f32⟩
  | .hbm, ⟨6, _⟩ => ⟨S4096x16x64, .f32⟩
  | .hbm, ⟨7, _⟩ => ⟨S4096x1024, .f32⟩
  | .hbm, ⟨8, _⟩ => ⟨S4096x16x64, .f32⟩
  | .hbm, ⟨9, _⟩ => ⟨S16x4096, .f32⟩
  | .hbm, ⟨10, _⟩ => ⟨S16x1x4096, .f32⟩
  | .hbm, ⟨11, _⟩ => ⟨S16x4096x4096, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S16x4096x4096, .f32⟩
  | .hbm, ⟨16, _⟩ => ⟨S16x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S16x4096x4096, .i1⟩
  | .hbm, ⟨24, _⟩ => ⟨S_, .f32⟩
  | .hbm, ⟨25, _⟩ => ⟨S16x4096x4096, .f32⟩
  | .hbm, ⟨26, _⟩ => ⟨S16x4096x4096, .f32⟩
  | .hbm, ⟨27, _⟩ => ⟨S_, .f32⟩
  | .hbm, ⟨28, _⟩ => ⟨S16x4096, .f32⟩
  | .hbm, ⟨29, _⟩ => ⟨S16x4096x1, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S_, .f32⟩
  | .hbm, ⟨34, _⟩ => ⟨S16x4096, .f32⟩
  | .hbm, ⟨35, _⟩ => ⟨S16x4096x1, .f32⟩
  | .hbm, ⟨36, _⟩ => ⟨S16x4096x1, .f32⟩
  | .hbm, ⟨37, _⟩ => ⟨S16x4096x1, .f32⟩
  | .hbm, ⟨38, _⟩ => ⟨S16x1x4096, .f32⟩
  | .hbm, ⟨39, _⟩ => ⟨S16x4096x4096, .f32⟩
  | .hbm, ⟨40, _⟩ => ⟨S16x4096x4096, .f32⟩
  | .hbm, ⟨41, _⟩ => ⟨S16x64x4096, .f32⟩
  | .hbm, ⟨42, _⟩ => ⟨S4096x16x64, .f32⟩
  | .hbm, ⟨43, _⟩ => ⟨S4096x16x64, .f32⟩
  | .hbm, ⟨44, _⟩ => ⟨S4096x16x64, .f32⟩
  | .hbm, ⟨45, _⟩ => ⟨S_, .f32⟩
  | .hbm, ⟨46, _⟩ => ⟨S4096x16, .f32⟩
  | .hbm, ⟨47, _⟩ => ⟨S16x4096, .f32⟩
  | .hbm, ⟨48, _⟩ => ⟨S16x1x4096, .f32⟩
  | .hbm, ⟨49, _⟩ => ⟨S4096x1024, .bf16⟩
  | .hbm, ⟨50, _⟩ => ⟨S4096x2048, .bf16⟩
  | .hbm, ⟨51, _⟩ => ⟨S16x4096x1, .f32⟩
  | .hbm, ⟨52, _⟩ => ⟨S4096x1024, .bf16⟩
  | .hbm, ⟨53, _⟩ => ⟨S1024x4096, .f32⟩
  | .hbm, ⟨54, _⟩ => ⟨S4096x1024, .f32⟩
  | .hbm, ⟨55, _⟩ => ⟨S4096x1024, .f32⟩
  | .hbm, ⟨56, _⟩ => ⟨S16x1x4096, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S2x512x1, .f32⟩
  | .local _ .vmem, ⟨7, _⟩ => ⟨S2x512x1, .f32⟩
  | .local _ .vmem, ⟨8, _⟩ => ⟨S512x128, .bf16⟩
  | .local _ .vmem, ⟨9, _⟩ => ⟨S512x128, .bf16⟩
  | .local _ .vmem, ⟨10, _⟩ => ⟨S2x1x512, .f32⟩
  | .local _ .vmem, ⟨11, _⟩ => ⟨S2x1x512, .f32⟩
  | .local _ .vmem, ⟨12, _⟩ => ⟨S2x1x512, .f32⟩
  | .local _ .vmem, ⟨13, _⟩ => ⟨S2x1x512, .f32⟩
  | .local _ .vmem, ⟨14, _⟩ => ⟨S128x4096, .f32⟩
  | .local _ .vmem, ⟨15, _⟩ => ⟨S128x4096, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S2x1x512, .f32⟩
  | .local _ .vmem, ⟨21, _⟩ => ⟨S2x1x512, .f32⟩
  | .local _ .vmem, ⟨22, _⟩ => ⟨S2x512x1, .f32⟩
  | .local _ .smem, ⟨0, _⟩ => ⟨S36, .i32⟩
  | .local _ .smem, ⟨1, _⟩ => ⟨S36, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44_0 : Ref sig .tc := ⟨.hbm, 53, rfl⟩
abbrev main_v44_1 : Ref sig .tc := ⟨.hbm, 54, rfl⟩
abbrev main_v44_2 : Ref sig .tc := ⟨.hbm, 55, rfl⟩
abbrev main_v44_3 : Ref sig .tc := ⟨.hbm, 56, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v19 : BitVec 32 := Scalar.muli v1 c512_i32
  v19
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c0_40 : Index := 0#32
  let c512_i32 : BitVec 32 := 512#32
  let v19 : BitVec 32 := Scalar.muli v1 c512_i32
  let v20 : BitVec 32 := v19
  let v67 : Index := Scalar.indexCast v20
  ![0, v67.toNat]
def k0_off3 (v1 : BitVec 32) : Fin 2 → Nat :=
  let c64_79 : Index := 64#32
  let c512_i32 : BitVec 32 := 512#32
  let v19 : BitVec 32 := Scalar.muli v1 c512_i32
  let v20 : BitVec 32 := v19
  let v122 : Index := Scalar.indexCast v20
  ![64, v122.toNat]
def k0_mult2 (v1 : BitVec 32) : BitVec 32 :=
  let c512_i32 : BitVec 32 := 512#32
  let v19 : BitVec 32 := Scalar.muli v1 c512_i32
  v19
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off4 (v1 : BitVec 32) : Fin 2 → Nat :=
  let c0_41 : Index := 0#32
  let c512_i32 : BitVec 32 := 512#32
  let v19 : BitVec 32 := Scalar.muli v1 c512_i32
  let v20 : BitVec 32 := v19
  let v72 : Index := Scalar.indexCast v20
  ![0, v72.toNat]
def k0_off5 (v1 : BitVec 32) : Fin 2 → Nat :=
  let c64_81 : Index := 64#32
  let c512_i32 : BitVec 32 := 512#32
  let v19 : BitVec 32 := Scalar.muli v1 c512_i32
  let v20 : BitVec 32 := v19
  let v132 : Index := Scalar.indexCast v20
  ![64, v132.toNat]

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off2 v1) a + S64x512.size a ≤ S128x4096.size a) ∧
  (∀ (k0_h3 : k0_cond3 v1 v3 = 1#1), ∀ a, (k0_off3 v1) a + S64x512.size a ≤ S128x4096.size a) ∧
  (∀ (k0_h4 : k0_cond4 v1 v3 = 1#1), 512 ∣ (k0_mult2 v1).toNat) ∧
  (∀ (k0_h4 : k0_cond4 v1 v3 = 1#1), ∀ a, (k0_off4 v1) a + S64x512.size a ≤ S128x4096.size a) ∧
  (∀ (k0_h4 : k0_cond4 v1 v3 = 1#1), ∀ a, (k0_off5 v1) a + S64x512.size a ≤ S128x4096.size a)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S64x512.size a ≤ S128x4096.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v1) a + S64x512.size a ≤ S128x4096.size a := fun v1 v3 k0_hw1 k0_h3 => k0_hw1.2.2.1 k0_h3
theorem k0_mult2_dvd : ∀ (v1 : BitVec 32) (v3 : BitVec 32) (k0_hw1 : k0_chk1 v1 v3), ∀ (k0_h4 : k0_cond4 v1 v3 = 1#1), 512 ∣ (k0_mult2 v1).toNat := fun v1 v3 k0_hw1 k0_h4 => k0_hw1.2.2.2.1 k0_h4
theorem k0_off4_inb : ∀ (v1 : BitVec 32) (v3 : BitVec 32) (k0_hw1 : k0_chk1 v1 v3), ∀ (k0_h4 : k0_cond4 v1 v3 = 1#1), ∀ a, (k0_off4 v1) a + S64x512.size a ≤ S128x4096.size a := fun v1 v3 k0_hw1 k0_h4 => k0_hw1.2.2.2.2.1 k0_h4
theorem k0_off5_inb : ∀ (v1 : BitVec 32) (v3 : BitVec 32) (k0_hw1 : k0_chk1 v1 v3), ∀ (k0_h4 : k0_cond4 v1 v3 = 1#1), ∀ a, (k0_off5 v1) a + S64x512.size a ≤ S128x4096.size a := fun v1 v3 k0_hw1 k0_h4 => k0_hw1.2.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def k0_cond5 (v1 : BitVec 32) : BitVec 1 :=
  let c7_i32 : BitVec 32 := 7#32
  let v16 : BitVec 1 := Scalar.cmpi .eq v1 c7_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c8_i32 : BitVec 32 := 8#32
  let v2 : BitVec 32 := Scalar.addi c8_i32 arg0
  let c0_i32 : BitVec 32 := 0#32
  ![v1.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_10 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, c0_i32.toNat, v1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x2048 : Shape := ⟨2, ![4096, 2048]⟩
abbrev S4096x16 : Shape := ⟨2, ![4096, 16]⟩
abbrev S4096x16x64 : Shape := ⟨3, ![4096, 16, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩
abbrev S16x4096x64 : Shape := ⟨3, ![16, 4096, 64]⟩
abbrev S1024x4096 : Shape := ⟨2, ![1024, 4096]⟩

abbrev nBuf : Space → Nat
  | .hbm => 123
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x16, .f32⟩
  | .hbm, ⟨3, _⟩ => ⟨S4096x1024, .f32⟩
  | .hbm, ⟨4, _⟩ => ⟨S4096x16x64, .f32⟩
  | .hbm, ⟨5, _⟩ => ⟨S4096x1024, .f32⟩
  | .hbm, ⟨6, _⟩ => ⟨S4096x16x64, .f32⟩
  | .hbm, ⟨7, _⟩ => ⟨S4096x1024, .f32⟩
  | .hbm, ⟨8, _⟩ => ⟨S4096x16x64, .f32⟩
  | .hbm, ⟨9, _⟩ => ⟨S16x4096x4096, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S16x4096, .f32⟩
  | .hbm, ⟨14, _⟩ => ⟨S16x4096x1, .f32⟩
  | .hbm, ⟨15, _⟩ => ⟨S16x4096x4096, .f32⟩
  | .hbm, ⟨16, _⟩ => ⟨S16x4096x4096, .f32⟩
  | .hbm, ⟨17, _⟩ => ⟨S16x4096, .f32⟩
  | .hbm, ⟨18, _⟩ => ⟨S16x1x4096, .f32⟩
  | .hbm, ⟨19, _⟩ => ⟨S16x4096x4096, .f32⟩
  | .hbm, ⟨20, _⟩ => ⟨S16x4096x4096, .f32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S16x4096x4096, .i1⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096x4096, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x4096, .f32⟩
  | .hbm, ⟨38, _⟩ => ⟨S16x4096x4096, .i1⟩
  | .hbm, ⟨39, _⟩ => ⟨S16x4096x4096, .f32⟩
  | .hbm, ⟨40, _⟩ => ⟨S_, .f32⟩
  | .hbm, ⟨41, _⟩ => ⟨S16x4096, .f32⟩
  | .hbm, ⟨42, _⟩ => ⟨S_, .f32⟩
  | .hbm, ⟨43, _⟩ => ⟨S16x4096, .f32⟩
  | .hbm, ⟨44, _⟩ => ⟨S16x4096, .f32⟩
  | .hbm, ⟨45, _⟩ => ⟨S_, .f32⟩
  | .hbm, ⟨46, _⟩ => ⟨S16x4096, .f32⟩
  | .hbm, ⟨47, _⟩ => ⟨S16x4096, .i1⟩
  | .hbm, ⟨48, _⟩ => ⟨S_, .f32⟩
  | .hbm, ⟨49, _⟩ => ⟨S16x4096, .f32⟩
  | .hbm, ⟨50, _⟩ => ⟨S16x4096, .i1⟩
  | .hbm, ⟨51, _⟩ => ⟨S_, .f32⟩
  | .hbm, ⟨52, _⟩ => ⟨S16x4096, .f32⟩
  | .hbm, ⟨53, _⟩ => ⟨S_, .f32⟩
  | .hbm, ⟨54, _⟩ => ⟨S16x4096, .f32⟩
  | .hbm, ⟨55, _⟩ => ⟨S_, .f32⟩
  | .hbm, ⟨56, _⟩ => ⟨S16x4096, .f32⟩
  | .hbm, ⟨57, _⟩ => ⟨S16x4096, .f32⟩
  | .hbm, ⟨58, _⟩ => ⟨S16x4096, .f32⟩
  | .hbm, ⟨59, _⟩ => ⟨S16x4096x1, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S16x4096x4096, .f32⟩
  | .hbm, ⟨67, _⟩ => ⟨S16x4096x4096, .f32⟩
  | .hbm, ⟨68, _⟩ => ⟨S16x4096x1, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S16x64x4096, .f32⟩
  | .hbm, ⟨73, _⟩ => ⟨S4096x16x64, .f32⟩
  | .hbm, ⟨74, _⟩ => ⟨S4096x16x64, .f32⟩
  | .hbm, ⟨75, _⟩ => ⟨S16x64x4096, .f32⟩
  | .hbm, ⟨76, _⟩ => ⟨S16x4096x4096, .f32⟩
  | .hbm, ⟨77, _⟩ => ⟨S16x64x4096, .f32⟩
  | .hbm, ⟨78, _⟩ => ⟨S4096x16x64, .f32⟩
  | .hbm, ⟨79, _⟩ => ⟨S16x4096x4096, .f32⟩
  | .hbm, ⟨80, _⟩ => ⟨S16x4096x4096, .f32⟩
  | .hbm, ⟨81, _⟩ => ⟨S16x4096x4096, .f32⟩
  | .hbm, ⟨82, _⟩ => ⟨S_, .f32⟩
  | .hbm, ⟨83, _⟩ => ⟨S16x4096, .f32⟩
  | .hbm, ⟨84, _⟩ => ⟨S16x4096x1, .f32⟩
  | .hbm, ⟨85, _⟩ => ⟨S16x4096x1, .f32⟩
  | .hbm, ⟨86, _⟩ => ⟨S16x4096x4096, .f32⟩
  | .hbm, ⟨87, _⟩ => ⟨S16x4096x4096, .f32⟩
  | .hbm, ⟨88, _⟩ => ⟨S_, .f32⟩
  | .hbm, ⟨89, _⟩ => ⟨S16x4096, .f32⟩
  | .hbm, ⟨90, _⟩ => ⟨S16x4096x4096, .f32⟩
  | .hbm, ⟨91, _⟩ => ⟨S16x4096x4096, .f32⟩
  | .hbm, ⟨92, _⟩ => ⟨S16x4096x4096, .f32⟩
  | .hbm, ⟨93, _⟩ => ⟨S_, .f32⟩
  | .hbm, ⟨94, _⟩ => ⟨S16x4096x4096, .f32⟩
  | .hbm, ⟨95, _⟩ => ⟨S16x4096x4096, .f32⟩
  | .hbm, ⟨96, _⟩ => ⟨S16x4096x4096, .f32⟩
  | .hbm, ⟨97, _⟩ => ⟨S_, .f32⟩
  | .hbm, ⟨98, _⟩ => ⟨S16x4096, .f32⟩
  | .hbm, ⟨99, _⟩ => ⟨S16x1x4096, .f32⟩
  | .hbm, ⟨100, _⟩ => ⟨S_, .f32⟩
  | .hbm, ⟨101, _⟩ => ⟨S16x4096, .f32⟩
  | .hbm, ⟨102, _⟩ => ⟨S4096x16, .f32⟩
  | .hbm, ⟨103, _⟩ => ⟨S_, .f32⟩
  | .hbm, ⟨104, _⟩ => ⟨S16x4096, .f32⟩
  | .hbm, ⟨105, _⟩ => ⟨S16x4096x1, .f32⟩
  | .hbm, ⟨106, _⟩ => ⟨S_, .f32⟩
  | .hbm, ⟨107, _⟩ => ⟨S16x4096, .f32⟩
  | .hbm, ⟨108, _⟩ => ⟨S4096x16, .f32⟩
  | .hbm, ⟨109, _⟩ => ⟨S4096x16, .f32⟩
  | .hbm, ⟨110, _⟩ => ⟨S_, .f32⟩
  | .hbm, ⟨111, _⟩ => ⟨S16x4096x4096, .f32⟩
  | .hbm, ⟨112, _⟩ => ⟨S16x4096x4096, .f32⟩
  | .hbm, ⟨113, _⟩ => ⟨S16x4096x64, .f32⟩
  | .hbm, ⟨114, _⟩ => ⟨S4096x16x64, .f32⟩
  | .hbm, ⟨115, _⟩ => ⟨S16x4096x64, .f32⟩
  | .hbm, ⟨116, _⟩ => ⟨S4096x16x64, .f32⟩
  | .hbm, ⟨117, _⟩ => ⟨S4096x1024, .f32⟩
  | .hbm, ⟨118, _⟩ => ⟨S1024x4096, .f32⟩
  | .hbm, ⟨119, _⟩ => ⟨S4096x1024, .f32⟩
  | .hbm, ⟨120, _⟩ => ⟨S4096x1024, .f32⟩
  | .hbm, ⟨121, _⟩ => ⟨S16x4096, .f32⟩
  | .hbm, ⟨122, _⟩ => ⟨S16x1x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_v22_1 : Ref sig .tc := ⟨.hbm, 29, rfl⟩
abbrev main_call0_v2 : Ref sig .tc := ⟨.hbm, 30, rfl⟩
abbrev main_v22_0 : Ref sig .tc := ⟨.hbm, 31, rfl⟩
abbrev main_call0_cst : Ref sig .tc := ⟨.hbm, 32, rfl⟩
abbrev main_v22_2 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call1_cst : Ref sig .tc := ⟨.hbm, 93, rfl⟩
abbrev main_call1_v0 : Ref sig .tc := ⟨.hbm, 94, rfl⟩
abbrev main_v70 : Ref sig .tc := ⟨.hbm, 95, rfl⟩
abbrev main_v71 : Ref sig .tc := ⟨.hbm, 96, rfl⟩
abbrev main_cst_13 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩

abbrev nD : Nat := 1
abbrev τ : Topo := Topo.v7x

variable {F : FTy → Type} [FloatOps F]
-- ==== FwdKernel.lean ====
abbrev S4096x1024 : Shape := ⟨2, ![4096, 1024]⟩
abbrev S4096x2048 : Shape := ⟨2, ![4096, 2048]⟩
abbrev S16x1x4096 : Shape := ⟨3, ![16, 1, 4096]⟩
abbrev S512x128 : Shape := ⟨2, ![512, 128]⟩
abbrev S2x1x512 : Shape := ⟨3, ![2, 1, 512]⟩
abbrev S2x512x1 : Shape := ⟨3, ![2, 512, 1]⟩
abbrev S2x512x64 : Shape := ⟨3, ![2, 512, 64]⟩
abbrev S512x64 : Shape := ⟨2, ![512, 64]⟩
abbrev S1x1x512 : Shape := ⟨3, ![1, 1, 512]⟩
abbrev S1x512 : Shape := ⟨2, ![1, 512]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1x512x64 : Shape := ⟨3, ![1, 512, 64]⟩
abbrev S128x512 : Shape := ⟨2, ![128, 512]⟩

abbrev nBuf : Space → Nat
  | .hbm => 6
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S16x1x4096, .f32⟩
  | .hbm, ⟨3, _⟩ => ⟨S4096x1024, .bf16⟩
  | .hbm, ⟨4, _⟩ => ⟨S4096x1024, .f32⟩
  | .hbm, ⟨5, _⟩ => ⟨S16x1x4096, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S2x1x512, .f32⟩
  | .local _ .vmem, ⟨7, _⟩ => ⟨S2x1x512, .f32⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S2x1x512, .f32⟩
  | .local _ .vmem, ⟨13, _⟩ => ⟨S2x1x512, .f32⟩
  | .local _ .vmem, ⟨14, _⟩ => ⟨S2x512x1, .f32⟩
  | .local _ .vmem, ⟨15, _⟩ => ⟨S2x512x1, .f32⟩
  | .local _ .vmem, ⟨16, _⟩ => ⟨S2x512x64, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 8], ![false, false, false]⟩

def k0_cond4 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c8_i32 : BitVec 32 := 8#32
  let v1 : BitVec 32 := Scalar.addi c8_i32 arg0
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== FwdKernelIdeal.lean ====
variable {F : FTy → Type} [FloatOps F] [Named F]
def κ : String → Option EReal := fun
  | "mask" => some ⊥
  | _ => none
-- ==== FwdReferenceIdeal.lean ====
abbrev S4096x1024 : Shape := ⟨2, ![4096, 1024]⟩
abbrev S4096x2048 : Shape := ⟨2, ![4096, 2048]⟩
abbrev S16x1x4096 : Shape := ⟨3, ![16, 1, 4096]⟩
abbrev S4096x16x64 : Shape := ⟨3, ![4096, 16, 64]⟩
abbrev S16x4096 : Shape := ⟨2, ![16, 4096]⟩
abbrev S4096x16 : Shape := ⟨2, ![4096, 16]⟩
abbrev S16x4096x4096 : Shape := ⟨3, ![16, 4096, 4096]⟩
abbrev S_ : Shape := ⟨0, ![]⟩
abbrev S16x4096x1 : Shape := ⟨3, ![16, 4096, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S16x1x4096, .f32⟩
  | .hbm, ⟨3, _⟩ => ⟨S4096x1024, .f32⟩
  | .hbm, ⟨4, _⟩ => ⟨S4096x16x64, .f32⟩
  | .hbm, ⟨5, _⟩ => ⟨S4096x1024, .bf16⟩
  | .hbm, ⟨6, _⟩ => ⟨S4096x1024, .f32⟩
  | .hbm, ⟨7, _⟩ => ⟨S4096x16x64, .f32⟩
  | .hbm, ⟨8, _⟩ => ⟨S4096x1024, .bf16⟩
  | .hbm, ⟨9, _⟩ => ⟨S4096x1024, .f32⟩
  | .hbm, ⟨10, _⟩ => ⟨S4096x16x64, .f32⟩
  | .hbm, ⟨11, _⟩ => ⟨S16x4096, .f32⟩
  | .hbm, ⟨12, _⟩ => ⟨S4096x16, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x4096, .f32⟩
  | .hbm, ⟨22, _⟩ => ⟨S16x1x4096, .f32⟩
  | .hbm, ⟨23, _⟩ => ⟨S16x4096x4096, .f32⟩
  | .hbm, ⟨24, _⟩ => ⟨S16x4096x4096, .f32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S16x4096x4096, .i1⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096, .f32⟩
  | .hbm, ⟨38, _⟩ => ⟨S_, .f32⟩
  | .hbm, ⟨39, _⟩ => ⟨S16x4096, .f32⟩
  | .hbm, ⟨40, _⟩ => ⟨S16x4096, .f32⟩
  | .hbm, ⟨41, _⟩ => ⟨S16x4096x1, .f32⟩
  | .hbm, ⟨42, _⟩ => ⟨S16x4096x4096, .f32⟩
  | .hbm, ⟨43, _⟩ => ⟨S16x4096x4096, .f32⟩
  | .hbm, ⟨44, _⟩ => ⟨S16x4096x4096, .f32⟩
  | .hbm, ⟨45, _⟩ => ⟨S_, .f32⟩
  | .hbm, ⟨46, _⟩ => ⟨S16x4096, .f32⟩
  | .hbm, ⟨47, _⟩ => ⟨S16x4096x1, .f32⟩
  | .hbm, ⟨48, _⟩ => ⟨S16x4096x4096, .f32⟩
  | .hbm, ⟨49, _⟩ => ⟨S16x4096x4096, .f32⟩
  | .hbm, ⟨50, _⟩ => ⟨S16x64x4096, .f32⟩
  | .hbm, ⟨51, _⟩ => ⟨S4096x16x64, .f32⟩
  | .hbm, ⟨52, _⟩ => ⟨S4096x1024, .f32⟩
  | .hbm, ⟨53, _⟩ => ⟨S16x4096x4096, .f32⟩
  | .hbm, ⟨54, _⟩ => ⟨S_, .f32⟩
  | .hbm, ⟨55, _⟩ => ⟨S16x4096x4096, .f32⟩
  | .hbm, ⟨56, _⟩ => ⟨S16x4096x4096, .f32⟩
  | .hbm, ⟨57, _⟩ => ⟨S16x1x4096, .f32⟩
  | .hbm, ⟨58, _⟩ => ⟨S16x4096x4096, .f32⟩
  | .hbm, ⟨59, _⟩ => ⟨S16x4096x4096, .f32⟩
  | .hbm, ⟨60, _⟩ => ⟨S4096, .i32⟩
  | .hbm, ⟨61, _⟩ => ⟨S1x4096, .i32⟩
  | .hbm, ⟨62, _⟩ => ⟨S4096x1, .i32⟩
  | .hbm, ⟨63, _⟩ => ⟨S4096x4096, .i32⟩
  | .hbm, ⟨64, _⟩ => ⟨S4096x4096, .i32⟩
  | .hbm, ⟨65, _⟩ => ⟨S4096x4096, .i1⟩
  | .hbm, ⟨66, _⟩ => ⟨S_, .f32⟩
  | .hbm, ⟨67, _⟩ => ⟨S_, .f32⟩
  | .hbm, ⟨68, _⟩ => ⟨S16x4096x4096, .i1⟩
  | .hbm, ⟨69, _⟩ => ⟨S16x4096x4096, .f32⟩
  | .hbm, ⟨70, _⟩ => ⟨S16x4096x4096, .f32⟩
  | .hbm, ⟨71, _⟩ => ⟨S16x4096x4096, .f32⟩
  | .hbm, ⟨72, _⟩ => ⟨S_, .f32⟩
  | .hbm, ⟨73, _⟩ => ⟨S16x4096, .f32⟩
  | .hbm, ⟨74, _⟩ => ⟨S16x4096, .f32⟩
  | .hbm, ⟨75, _⟩ => ⟨S4096x1024, .bf16⟩
  | .hbm, ⟨76, _⟩ => ⟨S16x1x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_5 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== UpKernel.lean ====
abbrev S4096x1024 : Shape := ⟨2, ![4096, 1024]⟩
abbrev S8x704x1024 : Shape := ⟨3, ![8, 704, 1024]⟩
abbrev S8x4096x704 : Shape := ⟨3, ![8, 4096, 704]⟩
abbrev S2048x1024 : Shape := ⟨2, ![2048, 1024]⟩
abbrev S1x704x1024 : Shape := ⟨3, ![1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x704x1024, .bf16⟩
  | .hbm, ⟨2, _⟩ => ⟨S8x4096x704, .f32⟩
  | .local _ .vmem, ⟨0, _⟩ => ⟨S2048x1024, .bf16⟩
  | .local _ .vmem, ⟨1, _⟩ => ⟨S2048x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x2048x704, .f32⟩
  | .local _ .vmem, ⟨5, _⟩ => ⟨S1x2048x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x1024 : Shape := ⟨2, ![4096, 1024]⟩
abbrev S8x704x1024 : Shape := ⟨3, ![8, 704, 1024]⟩
abbrev S5632x1024 : Shape := ⟨2, ![5632, 1024]⟩
abbrev S1024x5632 : Shape := ⟨2, ![1024, 5632]⟩
abbrev S4096x5632 : Shape := ⟨2, ![4096, 5632]⟩
abbrev S4096x8x704 : Shape := ⟨3, ![4096, 8, 704]⟩
abbrev S8x4096x704 : Shape := ⟨3, ![8, 4096, 704]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x704x1024, .bf16⟩
  | .hbm, ⟨2, _⟩ => ⟨S4096x1024, .f32⟩
  | .hbm, ⟨3, _⟩ => ⟨S8x704x1024, .f32⟩
  | .hbm, ⟨4, _⟩ => ⟨S5632x1024, .f32⟩
  | .hbm, ⟨5, _⟩ => ⟨S1024x5632, .f32⟩
  | .hbm, ⟨6, _⟩ => ⟨S4096x5632, .f32⟩
  | .hbm, ⟨7, _⟩ => ⟨S4096x8x704, .f32⟩
  | .hbm, ⟨8, _⟩ => ⟨S8x4096x704, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== UpDwKernel.lean ====
abbrev S8x4096x704 : Shape := ⟨3, ![8, 4096, 704]⟩
abbrev S4096x1024 : Shape := ⟨2, ![4096, 1024]⟩
abbrev S8x704x1024 : Shape := ⟨3, ![8, 704, 1024]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x704, .bf16⟩
  | .hbm, ⟨1, _⟩ => ⟨S4096x1024, .bf16⟩
  | .hbm, ⟨2, _⟩ => ⟨S8x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S8x4096x704 : Shape := ⟨3, ![8, 4096, 704]⟩
abbrev S4096x1024 : Shape := ⟨2, ![4096, 1024]⟩
abbrev S4096x8x704 : Shape := ⟨3, ![4096, 8, 704]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x1024, .bf16⟩
  | .hbm, ⟨2, _⟩ => ⟨S8x4096x704, .f32⟩
  | .hbm, ⟨3, _⟩ => ⟨S4096x8x704, .f32⟩
  | .hbm, ⟨4, _⟩ => ⟨S4096x5632, .f32⟩
  | .hbm, ⟨5, _⟩ => ⟨S_, .f32⟩
  | .hbm, ⟨6, _⟩ => ⟨S1024x5632, .f32⟩
  | .hbm, ⟨7, _⟩ => ⟨S4096x1024, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S8x704x1024, .f32⟩
  | .hbm, ⟨13, _⟩ => ⟨S8x704x1024, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== UpDxKernel.lean ====
abbrev S8x4096x704 : Shape := ⟨3, ![8, 4096, 704]⟩
abbrev S8x704x1024 : Shape := ⟨3, ![8, 704, 1024]⟩
abbrev S4096x1024 : Shape := ⟨2, ![4096, 1024]⟩
abbrev S1x1024 : Shape := ⟨2, ![1, 1024]⟩
abbrev S4x512x704 : Shape := ⟨3, ![4, 512, 704]⟩
abbrev S4x704x1024 : Shape := ⟨3, ![4, 704, 1024]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8x4096x704, .bf16⟩
  | .hbm, ⟨1, _⟩ => ⟨S8x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S4x704x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 2], ![false, false, false]⟩

def k0_cond4 (i : grid0.Coords) : BitVec 1 :=
  let arg2 : BitVec 32 := BitVec.ofNat 32 (i 2).val
  let c1_i32 : BitVec 32 := 1#32
  let v36 : BitVec 1 := Scalar.cmpi .eq arg2 c1_i32
  let v37 : BitVec 32 := Scalar.extui v36
  let c0_i32_30 : BitVec 32 := 0#32
  let v38 : BitVec 1 := Scalar.cmpi .ne v37 c0_i32_30
  v38

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let arg2 : BitVec 32 := BitVec.ofNat 32 (i 2).val
  let c0_i32_24 : BitVec 32 := 0#32
  let v26 : BitVec 1 := Scalar.cmpi .eq arg2 c0_i32_24
  let v27 : BitVec 1 := Scalar.andi v25 v26
  let v28 : BitVec 32 := Scalar.extui v27
  let c0_i32_25 : BitVec 32 := 0#32
  let v29 : BitVec 1 := Scalar.cmpi .ne v28 c0_i32_25
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== UpDxReferenceIdeal.lean ====
abbrev S8x4096x704 : Shape := ⟨3, ![8, 4096, 704]⟩
abbrev S8x704x1024 : Shape := ⟨3, ![8, 704, 1024]⟩
abbrev S4096x1024 : Shape := ⟨2, ![4096, 1024]⟩
abbrev S1x1024 : Shape := ⟨2, ![1, 1024]⟩
abbrev S5632x1024 : Shape := ⟨2, ![5632, 1024]⟩
abbrev S1024x5632 : Shape := ⟨2, ![1024, 5632]⟩
abbrev S4096x8x704 : Shape := ⟨3, ![4096, 8, 704]⟩
abbrev S4096x5632 : Shape := ⟨2, ![4096, 5632]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x704x1024, .f32⟩
  | .hbm, ⟨6, _⟩ => ⟨S5632x1024, .f32⟩
  | .hbm, ⟨7, _⟩ => ⟨S1024x5632, .f32⟩
  | .hbm, ⟨8, _⟩ => ⟨S8x4096x704, .f32⟩
  | .hbm, ⟨9, _⟩ => ⟨S4096x8x704, .f32⟩
  | .hbm, ⟨10, _⟩ => ⟨S4096x5632, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x5632, .f32⟩
  | .hbm, ⟨33, _⟩ => ⟨S5632x1024, .f32⟩
  | .hbm, ⟨34, _⟩ => ⟨S1024x5632, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1x1024, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== DownKernel.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S4x704x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownReferenceIdeal.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S4096x4x704 : Shape := ⟨3, ![4096, 4, 704]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4x4096x704, .f32⟩
  | .hbm, ⟨5, _⟩ => ⟨S4096x4x704, .f32⟩
  | .hbm, ⟨6, _⟩ => ⟨S4096x2816, .f32⟩
  | .hbm, ⟨7, _⟩ => ⟨S4x704x1024, .f32⟩
  | .hbm, ⟨8, _⟩ => ⟨S2816x1024, .f32⟩
  | .hbm, ⟨9, _⟩ => ⟨S4096x1024, .f32⟩
  | .hbm, ⟨10, _⟩ => ⟨S4096x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== LastKernel.lean ====
abbrev S4x4096x704 : Shape := ⟨3, ![4, 4096, 704]⟩
abbrev S4x704x1024 : Shape := ⟨3, ![4, 704, 1024]⟩
abbrev S4096x1024 : Shape := ⟨2, ![4096, 1024]⟩
abbrev S4x1024x704 : Shape := ⟨3, ![4, 1024, 704]⟩
abbrev S4x704x512 : Shape := ⟨3, ![4, 704, 512]⟩
abbrev S1024x512 : Shape := ⟨2, ![1024, 512]⟩
abbrev S1x1024x704 : Shape := ⟨3, ![1, 1024, 704]⟩
abbrev S1024x704 : Shape := ⟨2, ![1024, 704]⟩
abbrev S1x704x512 : Shape := ⟨3, ![1, 704, 512]⟩
abbrev S704x512 : Shape := ⟨2, ![704, 512]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x704x512, .bf16⟩
  | .local _ .vmem, ⟨3, _⟩ => ⟨S4x704x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== LastReferenceIdeal.lean ====
abbrev S4x4096x704 : Shape := ⟨3, ![4, 4096, 704]⟩
abbrev S4x704x1024 : Shape := ⟨3, ![4, 704, 1024]⟩
abbrev S4096x1024 : Shape := ⟨2, ![4096, 1024]⟩
abbrev S4096x4x704 : Shape := ⟨3, ![4096, 4, 704]⟩
abbrev S4096x2816 : Shape := ⟨2, ![4096, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4x4096x704, .f32⟩
  | .hbm, ⟨4, _⟩ => ⟨S4096x4x704, .f32⟩
  | .hbm, ⟨5, _⟩ => ⟨S4096x2816, .f32⟩
  | .hbm, ⟨6, _⟩ => ⟨S4x704x1024, .f32⟩
  | .hbm, ⟨7, _⟩ => ⟨S2816x1024, .f32⟩
  | .hbm, ⟨8, _⟩ => ⟨S4096x1024, .f32⟩
  | .hbm, ⟨9, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDxKernel.lean ====
abbrev S4096x1024 : Shape := ⟨2, ![4096, 1024]⟩
abbrev S4x704x1024 : Shape := ⟨3, ![4, 704, 1024]⟩
abbrev S4x4096x704 : Shape := ⟨3, ![4, 4096, 704]⟩
abbrev S2048x1024 : Shape := ⟨2, ![2048, 1024]⟩
abbrev S1x704x1024 : Shape := ⟨3, ![1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4x704x1024, .bf16⟩
  | .hbm, ⟨2, _⟩ => ⟨S4x4096x704, .f32⟩
  | .local _ .vmem, ⟨0, _⟩ => ⟨S2048x1024, .f32⟩
  | .local _ .vmem, ⟨1, _⟩ => ⟨S2048x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S1x2048x704, .f32⟩
  | .local _ .vmem, ⟨5, _⟩ => ⟨S1x2048x704, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S4096x1024 : Shape := ⟨2, ![4096, 1024]⟩
abbrev S4x704x1024 : Shape := ⟨3, ![4, 704, 1024]⟩
abbrev S_ : Shape := ⟨0, ![]⟩
abbrev S4096x2816 : Shape := ⟨2, ![4096, 2816]⟩
abbrev S2816x1024 : Shape := ⟨2, ![2816, 1024]⟩
abbrev S4096x4x704 : Shape := ⟨3, ![4096, 4, 704]⟩
abbrev S4x4096x704 : Shape := ⟨3, ![4, 4096, 704]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x704x1024, .bf16⟩
  | .hbm, ⟨2, _⟩ => ⟨S_, .f32⟩
  | .hbm, ⟨3, _⟩ => ⟨S4096x2816, .f32⟩
  | .hbm, ⟨4, _⟩ => ⟨S4x704x1024, .f32⟩
  | .hbm, ⟨5, _⟩ => ⟨S2816x1024, .f32⟩
  | .hbm, ⟨6, _⟩ => ⟨S4096x1024, .f32⟩
  | .hbm, ⟨7, _⟩ => ⟨S4096x2816, .f32⟩
  | .hbm, ⟨8, _⟩ => ⟨S4096x4x704, .f32⟩
  | .hbm, ⟨9, _⟩ => ⟨S4x4096x704, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDwKernel.lean ====
abbrev S4x4096x704 : Shape := ⟨3, ![4, 4096, 704]⟩
abbrev S4096x1024 : Shape := ⟨2, ![4096, 1024]⟩
abbrev S4x704x1024 : Shape := ⟨3, ![4, 704, 1024]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .f32⟩
  | .local _ .vmem, ⟨3, _⟩ => ⟨S1024x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S4x4096x704 : Shape := ⟨3, ![4, 4096, 704]⟩
abbrev S4096x1024 : Shape := ⟨2, ![4096, 1024]⟩
abbrev S_ : Shape := ⟨0, ![]⟩
abbrev S2816x1024 : Shape := ⟨2, ![2816, 1024]⟩
abbrev S4096x4x704 : Shape := ⟨3, ![4096, 4, 704]⟩
abbrev S4096x2816 : Shape := ⟨2, ![4096, 2816]⟩
abbrev S1024x2816 : Shape := ⟨2, ![1024, 2816]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4x4096x704, .f32⟩
  | .hbm, ⟨5, _⟩ => ⟨S4096x4x704, .f32⟩
  | .hbm, ⟨6, _⟩ => ⟨S4096x2816, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S4x704x1024, .f32⟩
  | .hbm, ⟨11, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GluKernel.lean ====
abbrev S4096x1024 : Shape := ⟨2, ![4096, 1024]⟩
abbrev S8x1024x256 : Shape := ⟨3, ![8, 1024, 256]⟩
abbrev S8x4096x256 : Shape := ⟨3, ![8, 4096, 256]⟩
abbrev S1x1024x256 : Shape := ⟨3, ![1, 1024, 256]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x1024x256, .bf16⟩
  | .hbm, ⟨2, _⟩ => ⟨S8x4096x256, .f32⟩
  | .local _ .vmem, ⟨0, _⟩ => ⟨S4096x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x4096x256, .f32⟩
  | .local _ .vmem, ⟨4, _⟩ => ⟨S1x4096x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluReferenceIdeal.lean ====
abbrev S4096x1024 : Shape := ⟨2, ![4096, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S4096x2048 : Shape := ⟨2, ![4096, 2048]⟩
abbrev S4096x8x256 : Shape := ⟨3, ![4096, 8, 256]⟩
abbrev S8x4096x256 : Shape := ⟨3, ![8, 4096, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x256, .bf16⟩
  | .hbm, ⟨2, _⟩ => ⟨S4096x1024, .f32⟩
  | .hbm, ⟨3, _⟩ => ⟨S8x1024x256, .f32⟩
  | .hbm, ⟨4, _⟩ => ⟨S1024x8x256, .f32⟩
  | .hbm, ⟨5, _⟩ => ⟨S1024x2048, .f32⟩
  | .hbm, ⟨6, _⟩ => ⟨S4096x2048, .f32⟩
  | .hbm, ⟨7, _⟩ => ⟨S4096x8x256, .f32⟩
  | .hbm, ⟨8, _⟩ => ⟨S8x4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== GluDwKernel.lean ====
abbrev S4096x1024 : Shape := ⟨2, ![4096, 1024]⟩
abbrev S8x4096x256 : Shape := ⟨3, ![8, 4096, 256]⟩
abbrev S8x1024x256 : Shape := ⟨3, ![8, 1024, 256]⟩
abbrev S1x4096x256 : Shape := ⟨3, ![1, 4096, 256]⟩
abbrev S1x1024x256 : Shape := ⟨3, ![1, 1024, 256]⟩
abbrev S4096x256 : Shape := ⟨2, ![4096, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x4096x256, .bf16⟩
  | .hbm, ⟨2, _⟩ => ⟨S8x1024x256, .bf16⟩
  | .local _ .vmem, ⟨0, _⟩ => ⟨S4096x1024, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x1024x256, .bf16⟩
  | .local _ .vmem, ⟨4, _⟩ => ⟨S1x1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDwReferenceIdeal.lean ====
abbrev S4096x1024 : Shape := ⟨2, ![4096, 1024]⟩
abbrev S8x4096x256 : Shape := ⟨3, ![8, 4096, 256]⟩
abbrev S4096x8x256 : Shape := ⟨3, ![4096, 8, 256]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x4096x256, .bf16⟩
  | .hbm, ⟨2, _⟩ => ⟨S8x4096x256, .f32⟩
  | .hbm, ⟨3, _⟩ => ⟨S4096x8x256, .f32⟩
  | .hbm, ⟨4, _⟩ => ⟨S4096x2048, .f32⟩
  | .hbm, ⟨5, _⟩ => ⟨S_, .f32⟩
  | .hbm, ⟨6, _⟩ => ⟨S1024x2048, .f32⟩
  | .hbm, ⟨7, _⟩ => ⟨S4096x1024, .f32⟩
  | .hbm, ⟨8, _⟩ => ⟨S4096x2048, .f32⟩
  | .hbm, ⟨9, _⟩ => ⟨S2048x1024, .f32⟩
  | .hbm, ⟨10, _⟩ => ⟨S1024x2048, .f32⟩
  | .hbm, ⟨11, _⟩ => ⟨S1024x8x256, .f32⟩
  | .hbm, ⟨12, _⟩ => ⟨S8x1024x256, .f32⟩
  | .hbm, ⟨13, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== GluDyKernel.lean ====
abbrev S8x4096x256 : Shape := ⟨3, ![8, 4096, 256]⟩
abbrev S8x1024x256 : Shape := ⟨3, ![8, 1024, 256]⟩
abbrev S4096x1024 : Shape := ⟨2, ![4096, 1024]⟩
abbrev S8x2048x256 : Shape := ⟨3, ![8, 2048, 256]⟩
abbrev S2048x1024 : Shape := ⟨2, ![2048, 1024]⟩
abbrev S1x2048x256 : Shape := ⟨3, ![1, 2048, 256]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8x4096x256, .bf16⟩
  | .hbm, ⟨1, _⟩ => ⟨S8x1024x256, .bf16⟩
  | .hbm, ⟨2, _⟩ => ⟨S4096x1024, .bf16⟩
  | .local _ .vmem, ⟨0, _⟩ => ⟨S8x2048x256, .bf16⟩
  | .local _ .vmem, ⟨1, _⟩ => ⟨S8x2048x256, .bf16⟩
  | .local _ .vmem, ⟨2, _⟩ => ⟨S8x1024x256, .bf16⟩
  | .local _ .vmem, ⟨3, _⟩ => ⟨S2048x1024, .bf16⟩
  | .local _ .vmem, ⟨4, _⟩ => ⟨S2048x1024, .bf16⟩
  | _, _ => ⟨S8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDyReferenceIdeal.lean ====
abbrev S8x4096x256 : Shape := ⟨3, ![8, 4096, 256]⟩
abbrev S8x1024x256 : Shape := ⟨3, ![8, 1024, 256]⟩
abbrev S4096x8x256 : Shape := ⟨3, ![4096, 8, 256]⟩
abbrev S4096x2048 : Shape := ⟨2, ![4096, 2048]⟩
abbrev S_ : Shape := ⟨0, ![]⟩
abbrev S4096x1024 : Shape := ⟨2, ![4096, 1024]⟩
abbrev S1024x8x256 : Shape := ⟨3, ![1024, 8, 256]⟩
abbrev S1024x2048 : Shape := ⟨2, ![1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x4096x256, .bf16⟩
  | .hbm, ⟨1, _⟩ => ⟨S8x1024x256, .bf16⟩
  | .hbm, ⟨2, _⟩ => ⟨S8x4096x256, .f32⟩
  | .hbm, ⟨3, _⟩ => ⟨S4096x8x256, .f32⟩
  | .hbm, ⟨4, _⟩ => ⟨S4096x2048, .f32⟩
  | .hbm, ⟨5, _⟩ => ⟨S_, .f32⟩
  | .hbm, ⟨6, _⟩ => ⟨S4096x1024, .f32⟩
  | .hbm, ⟨7, _⟩ => ⟨S8x1024x256, .f32⟩
  | .hbm, ⟨8, _⟩ => ⟨S1024x8x256, .f32⟩
  | .hbm, ⟨9, _⟩ => ⟨S1024x2048, .f32⟩
  | .hbm, ⟨10, _⟩ => ⟨S4096x2048, .f32⟩
  | .hbm, ⟨11, _⟩ => ⟨S4096x1024, .f32⟩
  | .hbm, ⟨12, _⟩ => ⟨S4096x1024, .bf16⟩
  | _, _ => ⟨S8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== QueryKernel.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryReferenceIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SharedKernel.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SharedReferenceIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutDxKernel.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutKernel.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutReferenceIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutDwKernel.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QueryDwKernel.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryDwReferenceIdeal.lean ====
abbrev S4096x1024 : Shape := ⟨2, ![4096, 1024]⟩
abbrev S1024x4096 : Shape := ⟨2, ![1024, 4096]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SharedDwKernel.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SharedDwReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SharedDxKernel.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SharedDxReferenceIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QueryDxKernel.lean ====
abbrev S1024x4096 : Shape := ⟨2, ![1024, 4096]⟩
abbrev S1024x1024 : Shape := ⟨2, ![1024, 1024]⟩
abbrev S4096x1024 : Shape := ⟨2, ![4096, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S1024x4096, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== QueryDxReferenceIdeal.lean ====
abbrev S1024x4096 : Shape := ⟨2, ![1024, 4096]⟩
abbrev S1024x1024 : Shape := ⟨2, ![1024, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1024x1024, .f32⟩
  | .hbm, ⟨30, _⟩ => ⟨S1024x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Proof.Real.lean ====
module

public import Idealize.ShloMosaic.PureOps.Ideal
public import Idealize.ShloMosaic.Lib.IdealHost
public import Idealize.ShloMosaic.Lib.Pointwise.Tactic

/-! The attention's gradients over the real numbers: causal weights with a gate on the keys, and what the two ways of
differentiating them come to. -/

@[expose] public section

noncomputable section

namespace Attn

open Idealize.ShloMosaic

/-- A sum of real numbers taken among the extended ones. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem eighth_f32 : Ideal.ofBits .f32 0x3E000000#32 = ((0.125 : ℝ) : EReal) := by
  simp [Ideal.ofBits, Ideal.ieee, -EReal.coe_mul]; norm_num
theorem eighth_bf16 : Ideal.ofBits .bf16 0x3E00#16 = ((0.125 : ℝ) : EReal) := by
  simp [Ideal.ofBits, Ideal.ieee, -EReal.coe_mul]; norm_num

theorem neg_inf : Ideal.ofBits .f32 0xFF800000#32 = (⊥ : EReal) := by
  simp [Ideal.ofBits, Ideal.ieee]
theorem pos_inf : Ideal.ofBits .f32 0x7F800000#32 = (⊤ : EReal) := by
  simp [Ideal.ofBits, Ideal.ieee]

theorem toInt_small (a : ℕ) (ha : a < 2 ^ 31) : (BitVec.ofNat 32 a).toInt = a := by
  rw [BitVec.toInt_eq_toNat_cond, BitVec.toNat_ofNat, Nat.mod_eq_of_lt (by omega), if_pos (by omega)]

/-- Signed comparisons of small numbers' words. -/
theorem sgt_ofNat (a b : ℕ) (ha : a < 2 ^ 31) (hb : b < 2 ^ 31) :
    IntOp.cmpi .sgt (BitVec.ofNat 32 a) (BitVec.ofNat 32 b) = if b < a then 1#1 else 0#1 := by
  simp only [IntOp.cmpi, BitVec.slt_eq_decide, toInt_small a ha, toInt_small b hb]
  by_cases h : b < a
  · simp [h]
  · simp [h]
theorem sle_ofNat (a b : ℕ) (ha : a < 2 ^ 31) (hb : b < 2 ^ 31) :
    IntOp.cmpi .sle (BitVec.ofNat 32 a) (BitVec.ofNat 32 b) = if a ≤ b then 1#1 else 0#1 := by
  simp only [IntOp.cmpi, BitVec.sle_eq_decide, toInt_small a ha, toInt_small b hb]
  by_cases h : a ≤ b
  · simp [h]
  · simp [h]

/-- The numbers the launch is given: queries, keys, values, the results' cotangent, head by head, and the gates. -/
structure Data where
  q : Fin 16 → Fin 4096 → Fin 64 → ℝ
  k : Fin 16 → Fin 4096 → Fin 64 → ℝ
  v : Fin 16 → Fin 4096 → Fin 64 → ℝ
  o : Fin 16 → Fin 4096 → Fin 64 → ℝ
  c : Fin 16 → Fin 4096 → ℝ

namespace Data
variable (X : Data) (h : Fin 16) (t s : Fin 4096) (d : Fin 64) (M : ℝ)

/-- The scores of a query, up to what all of its keys share. -/
def A : ℝ := (∑ d, X.q h t d * X.k h s d) * 0.125 - X.c h s
/-- Their exponentials over a shift, none of a later key. -/
def E : ℝ := if s ≤ t then Real.exp (X.A h t s - M) else 0
def Z : ℝ := ∑ s, X.E h t s M
/-- The weights, whatever the shift. -/
def P : ℝ := X.E h t s 0 / X.Z h t 0
/-- The weights' cotangent, its mean, and the scores' cotangent. -/
def dP : ℝ := ∑ d, X.v h s d * X.o h t d
def D : ℝ := ∑ s, X.P h t s * X.dP h t s
def dS : ℝ := X.P h t s * (X.dP h t s - X.D h t)
/-- The four gradients. -/
def dQ : ℝ := (∑ s, X.k h s d * X.dS h t s) * 0.125
def dK : ℝ := ∑ t, X.dS h t s * (X.q h t d * 0.125)
def dV : ℝ := ∑ t, X.P h t s * X.o h t d
def dC : ℝ := -∑ t, X.dS h t s

theorem E_nonneg : 0 ≤ X.E h t s M := by
  unfold E; split
  · exact (Real.exp_pos _).le
  · exact le_rfl

theorem Z_pos : 0 < X.Z h t M := by
  unfold Z
  refine Finset.sum_pos' (fun s _ => X.E_nonneg h t s M) ⟨t, Finset.mem_univ _, ?_⟩
  unfold E; rw [if_pos le_rfl]; exact Real.exp_pos _

theorem E_shift : X.E h t s M = X.E h t s 0 * Real.exp (-M) := by
  unfold E; split
  · rw [← Real.exp_add]; congr 1; ring
  · rw [zero_mul]

theorem Z_shift : X.Z h t M = X.Z h t 0 * Real.exp (-M) := by
  unfold Z; rw [Finset.sum_mul]; exact Finset.sum_congr rfl fun s _ => X.E_shift h t s M

theorem P_eq : X.P h t s = X.E h t s M / X.Z h t M := by
  rw [E_shift, Z_shift, mul_div_mul_right _ _ (Real.exp_pos _).ne', P]

theorem P_late (hs : ¬ s ≤ t) : X.P h t s = 0 := by
  unfold P E; rw [if_neg hs, zero_div]
theorem dS_late (hs : ¬ s ≤ t) : X.dS h t s = 0 := by
  unfold dS; rw [X.P_late h t s hs, zero_mul]

theorem P_sum : ∑ s, X.P h t s = 1 := by
  unfold P; rw [← Finset.sum_div]; exact div_self (X.Z_pos h t 0).ne'

/-- A weight from the logarithm of its row's sum. -/
theorem P_lse (hs : s ≤ t) : Real.exp ((∑ d, X.k h s d * (X.q h t d * 0.125)) - X.c h s - (M + Real.log (X.Z h t M))) = X.P h t s := by
  have e : (∑ d, X.k h s d * (X.q h t d * 0.125)) = (∑ d, X.q h t d * X.k h s d) * 0.125 := by
    rw [Finset.sum_mul]; exact Finset.sum_congr rfl fun d _ => by ring
  rw [X.P_eq h t s M, e, ← sub_sub, Real.exp_sub, Real.exp_log (X.Z_pos h t M)]
  unfold E; rw [if_pos hs]; rfl

/-- The mean as the results' own product with their cotangent. -/
theorem D_eq : ∑ d, X.o h t d * (∑ s, X.v h s d * X.P h t s) = X.D h t := by
  unfold D dP
  simp only [Finset.mul_sum]
  rw [Finset.sum_comm]
  exact Finset.sum_congr rfl fun s _ => Finset.sum_congr rfl fun d _ => by ring

/-- A row's score cotangents sum to nothing. -/
theorem dS_sum : ∑ s, X.dS h t s = 0 := by
  unfold dS
  simp only [mul_sub, Finset.sum_sub_distrib, ← Finset.sum_mul, P_sum, one_mul]
  unfold D; exact sub_self _

/-- The scores' cotangent as the quotient's derivative gives it. -/
theorem dS_quot : (X.dP h t s / X.Z h t M + -∑ s', X.dP h t s' * (1 / (X.Z h t M * X.Z h t M)) * X.E h t s' M) * X.E h t s M = X.dS h t s := by
  have hz := (X.Z_pos h t M).ne'
  have e : ∑ s', X.dP h t s' * (1 / (X.Z h t M * X.Z h t M)) * X.E h t s' M = X.D h t / X.Z h t M := by
    unfold D; rw [Finset.sum_div]
    exact Finset.sum_congr rfl fun s' _ => by rw [X.P_eq h t s' M]; field_simp
  rw [e]; unfold dS; rw [X.P_eq h t s M]; field_simp; ring

theorem dQ_eq : ∑ s, X.dS h t s * 0.125 * X.k h s d = X.dQ h t d := by
  unfold dQ; rw [Finset.sum_mul]; exact Finset.sum_congr rfl fun s _ => by ring
end Data

/-- The column of a head's coordinate among all heads. -/
abbrev hd (h : Fin 16) (d : Fin 64) : Fin 1024 := ⟨h.val * 64 + d.val, by omega⟩
abbrev hdv (h : Fin 16) (d : Fin 64) : Fin 2048 := ⟨1024 + (h.val * 64 + d.val), by omega⟩
/-- A column's head and coordinate. -/
abbrev ch (e : Fin 1024) : Fin 16 := ⟨e.val / 64, by omega⟩
abbrev cd (e : Fin 1024) : Fin 64 := ⟨e.val % 64, by omega⟩

/-- The arguments hold these numbers. -/
structure Data.Args (X : Data) (x0 : (⟨2, ![4096, 1024]⟩ : Shape).Idx → EReal) (x1 : (⟨2, ![4096, 2048]⟩ : Shape).Idx → EReal)
    (x2 : (⟨2, ![4096, 16]⟩ : Shape).Idx → EReal) (x3 : (⟨2, ![4096, 1024]⟩ : Shape).Idx → EReal) : Prop where
  q : ∀ h t d, x0 (ix2 t (hd h d)) = (X.q h t d : EReal)
  k : ∀ h t d, x1 (ix2 t ⟨h.val * 64 + d.val, by omega⟩) = (X.k h t d : EReal)
  v : ∀ h t d, x1 (ix2 t (hdv h d)) = (X.v h t d : EReal)
  c : ∀ h t, x2 (ix2 t h) = (X.c h t : EReal)
  o : ∀ h t d, x3 (ix2 t (hd h d)) = (X.o h t d : EReal)

/-- A row's maximum is a number where each entry is one or −∞ and one of them is a number. -/
theorem max_real (f : Fin 4096 → EReal) (h : ∀ s, f s ≠ ⊤) (t : Fin 4096) (ht : f t ≠ ⊥) :
    ∃ M : ℝ, Finset.univ.fold max ⊥ f = (M : EReal) := by
  have h1 : Finset.univ.fold max ⊥ f ≠ ⊤ := ne_of_lt ((Finset.fold_max_lt _).mpr ⟨bot_lt_top, fun s _ => lt_top_iff_ne_top.mpr (h s)⟩)
  have h2 : Finset.univ.fold max ⊥ f ≠ ⊥ := ne_of_gt ((Finset.lt_fold_max _).mpr (.inr ⟨t, Finset.mem_univ _, bot_lt_iff_ne_bot.mpr ht⟩))
  exact ⟨_, (EReal.coe_toReal h1 h2).symm⟩

/-- So is that of a row of numbers cut off by a mask. -/
theorem max_masked (f : Fin 4096 → EReal) (g : Fin 4096 → ℝ) (t : Fin 4096) (h : ∀ s, f s = if s ≤ t then (g s : EReal) else ⊥) :
    ∃ M : ℝ, Finset.univ.fold max ⊥ f = (M : EReal) := by
  refine max_real f (fun s => ?_) t ?_
  · rw [h]; split
    · exact EReal.coe_ne_top _
    · exact bot_ne_top
  · rw [h, if_pos le_rfl]; exact EReal.coe_ne_bot _

/-- The same for any operation that takes the larger. -/
theorem max_masked' (op : EReal → EReal → EReal) [Std.Commutative op] [Std.Associative op] (ho : op = fun a b => max a b) (f : Fin 4096 → EReal) (g : Fin 4096 → ℝ) (t : Fin 4096)
    (h : ∀ s, f s = if s ≤ t then (g s : EReal) else ⊥) : ∃ M : ℝ, Finset.univ.fold op ⊥ f = (M : EReal) := by
  subst ho; exact max_masked f g t h

end Attn

end
-- ==== Proof.FwdReal.lean ====
module

public import proofs.«01_k».proof.Proof.Real

/-! The attention's results over the real numbers, and the sums of a row kept up key block by key block under a maximum that grows. -/

@[expose] public section

noncomputable section

namespace Attn

open Idealize.ShloMosaic

/-- The arguments of the attention hold these numbers. -/
structure Data.FwdArgs (X : Data) (x0 : (⟨2, ![4096, 1024]⟩ : Shape).Idx → EReal) (x1 : (⟨2, ![4096, 2048]⟩ : Shape).Idx → EReal)
    (x2 : (⟨3, ![16, 1, 4096]⟩ : Shape).Idx → EReal) : Prop where
  q : ∀ h t d, x0 (ix2 t (hd h d)) = (X.q h t d : EReal)
  k : ∀ h t d, x1 (ix2 t ⟨h.val * 64 + d.val, by omega⟩) = (X.k h t d : EReal)
  v : ∀ h t d, x1 (ix2 t (hdv h d)) = (X.v h t d : EReal)
  c : ∀ h t, x2 (ix3 h 0 t) = (X.c h t : EReal)

/-- A sum over the rows before a bound, the bound moved on by a block. -/
theorem sum_before (g : Fin 4096 → ℝ) (j : ℕ) (hj : j < 8) :
    (∑ s, if s.val < 512 * (j + 1) then g s else 0) = (∑ s, if s.val < 512 * j then g s else 0) + ∑ c : Fin 512, g ⟨512 * j + c.val, by omega⟩ := by
  have e : ∀ n, n ≤ 4096 → (∑ s : Fin 4096, if s.val < n then g s else 0) = ∑ i ∈ Finset.range n, if h : i < 4096 then g ⟨i, h⟩ else 0 := by
    intro n hn
    rw [← Finset.sum_subset (Finset.range_subset_range.mpr hn) (f := fun i => if i < n then (if h : i < 4096 then g ⟨i, h⟩ else 0) else 0)
      (fun i _ hi => if_neg (by simpa using hi)) |>.trans (Finset.sum_range _) |>.trans (Finset.sum_congr rfl fun s _ => by rw [dif_pos s.isLt])]
    exact Finset.sum_congr rfl fun i hi => if_pos (Finset.mem_range.mp hi)
  rw [e _ (by omega), e _ (by omega), Nat.mul_succ, Finset.sum_range_add, Finset.sum_range (n := 512)]
  exact congrArg (_ + ·) (Finset.sum_congr rfl fun c _ => dif_pos (by omega))

namespace Data
variable (X : Data) (h : Fin 16) (t : Fin 4096)

/-- The attention's result, and the logarithm of a row's sum. -/
def O (d : Fin 64) : ℝ := ∑ s, X.P h t s * X.v h s d
def lse : ℝ := Real.log (X.Z h t 0)

/-- A weighted sum of a row's exponentials, of the keys before a bound. -/
def part (n : ℕ) (M : ℝ) (w : Fin 4096 → ℝ) : ℝ := ∑ s, if s.val < n then X.E h t s M * w s else 0

/-- What is kept of a row once the keys before a bound are taken in: their maximum (or another number), the sum of their exponentials over it and
the sums weighted by the values. -/
def Kept (n : ℕ) (m l : EReal) (a : Fin 64 → EReal) : Prop :=
  (n = 0 ∧ m = ⊥ ∧ l = 0 ∧ ∀ d, a d = 0)
  ∨ ∃ M : ℝ, m = M ∧ l = (X.part h t n M (fun _ => 1) : EReal) ∧ ∀ d, a d = (X.part h t n M (fun s => X.v h s d) : EReal)

theorem E_move (s : Fin 4096) (M M' : ℝ) : Real.exp (M - M') * X.E h t s M = X.E h t s M' := by
  unfold E; split
  · rw [← Real.exp_add]; congr 1; ring
  · rw [mul_zero]

theorem part_move (n : ℕ) (M M' : ℝ) (w : Fin 4096 → ℝ) : Real.exp (M - M') * X.part h t n M w = X.part h t n M' w := by
  unfold part
  rw [Finset.mul_sum]
  refine Finset.sum_congr rfl fun s _ => ?_
  rw [mul_ite, mul_zero, ← mul_assoc, E_move]

theorem part_next (j : ℕ) (hj : j < 8) (M : ℝ) (w : Fin 4096 → ℝ) :
    X.part h t (512 * (j + 1)) M w = X.part h t (512 * j) M w + ∑ c : Fin 512, X.E h t ⟨512 * j + c.val, by omega⟩ M * w ⟨512 * j + c.val, by omega⟩ :=
  sum_before _ j hj

theorem part_zero (M : ℝ) (w : Fin 4096 → ℝ) : X.part h t 0 M w = 0 :=
  Finset.sum_eq_zero fun s _ => if_neg (Nat.not_lt_zero _)

/-- The greatest of a block's scores, none of a later key, is a number where the block's first key is not later. -/
theorem block_max (j : ℕ) (hj : j < 8) (f : Fin 512 → EReal)
    (hf : ∀ c : Fin 512, f c = if 512 * j + c.val ≤ t.val then (X.A h t ⟨512 * j + c.val, by omega⟩ : EReal) else ⊥) (ht : 512 * j ≤ t.val) :
    ∃ M : ℝ, Finset.univ.fold max ⊥ f = (M : EReal) := by
  have h1 : Finset.univ.fold max ⊥ f ≠ ⊤ := ne_of_lt ((Finset.fold_max_lt _).mpr ⟨bot_lt_top, fun c _ => by
    rw [hf]; split
    · exact EReal.coe_lt_top _
    · exact bot_lt_top⟩)
  have h2 : Finset.univ.fold max ⊥ f ≠ ⊥ := ne_of_gt ((Finset.lt_fold_max _).mpr (.inr ⟨0, Finset.mem_univ _, by
    rw [hf, if_pos (by simpa using ht)]; exact EReal.bot_lt_coe _⟩))
  exact ⟨_, (EReal.coe_toReal h1 h2).symm⟩

theorem block_exp (j : ℕ) (hj : j < 8) (f : Fin 512 → EReal) (M : ℝ)
    (hf : ∀ c : Fin 512, f c = if 512 * j + c.val ≤ t.val then (X.A h t ⟨512 * j + c.val, by omega⟩ : EReal) else ⊥) (c : Fin 512) :
    Ideal.exp (f c - M) = (X.E h t ⟨512 * j + c.val, by omega⟩ M : EReal) := by
  rw [hf]
  unfold E
  by_cases hc : 512 * j + c.val ≤ t.val
  · rw [if_pos hc, if_pos (Fin.le_def.mpr hc), ← EReal.coe_sub, Ideal.exp_coe]
  · rw [if_neg hc, if_neg (fun hh => hc (Fin.le_def.mp hh)), EReal.bot_sub, Ideal.exp_bot]; rfl

/-- A block of keys taken in. -/
theorem Kept.next {m l : EReal} {a : Fin 64 → EReal} (j : ℕ) (hj : j < 8) (K : X.Kept h t (512 * j) m l a) (ht : 512 * j ≤ t.val) (f : Fin 512 → EReal)
    (hf : ∀ c : Fin 512, f c = if 512 * j + c.val ≤ t.val then (X.A h t ⟨512 * j + c.val, by omega⟩ : EReal) else ⊥)
    (v : Fin 512 → Fin 64 → EReal) (hv : ∀ (c : Fin 512) (d : Fin 64), v c d = (X.v h ⟨512 * j + c.val, by omega⟩ d : EReal))
    (m' l' : EReal) (a' : Fin 64 → EReal)
    (hm : m' = max m (Finset.univ.fold max ⊥ f))
    (hl : l' = Ideal.exp (m - m') * l + ∑ c, Ideal.exp (f c - m'))
    (ha : ∀ d, a' d = Ideal.exp (m - m') * a d + (∑ c, Ideal.exp (f c - m') * v c d + ∑ c, (Ideal.exp (f c - m') - Ideal.exp (f c - m')) * v c d)) :
    X.Kept h t (512 * (j + 1)) m' l' a' := by
  obtain ⟨M0, hM0⟩ := X.block_max h t j hj f hf ht
  rw [hM0] at hm
  have hM : ∃ M : ℝ, m' = M := by
    rcases K with ⟨-, e, -⟩ | ⟨M, e, -⟩
    · exact ⟨M0, by rw [hm, e]; exact max_eq_right bot_le⟩
    · exact ⟨max M M0, by rw [hm, e]; exact (EReal.coe_strictMono.monotone.map_max).symm⟩
  obtain ⟨M', hM'⟩ := hM
  subst hM'
  have old : ∀ (x : EReal) (w : Fin 4096 → ℝ), ((∃ M : ℝ, m = M ∧ x = (X.part h t (512 * j) M w : EReal)) ∨ 512 * j = 0 ∧ m = ⊥ ∧ x = 0) →
      Ideal.exp (m - M') * x = (X.part h t (512 * j) M' w : EReal) := by
    rintro x w (⟨M, rfl, rfl⟩ | ⟨e, rfl, rfl⟩)
    · rw [← EReal.coe_sub, Ideal.exp_coe, ← EReal.coe_mul, part_move]
    · rw [e, part_zero, mul_zero]; rfl
  refine .inr ⟨M', rfl, ?_, fun d => ?_⟩
  · rw [hl, part_next _ _ _ j hj, old l (fun _ => 1) (by
      rcases K with ⟨e, e1, e2, -⟩ | ⟨M, e1, e2, -⟩
      · exact .inr ⟨e, e1, e2⟩
      · exact .inl ⟨M, e1, e2⟩)]
    simp only [X.block_exp h t j hj f M' hf, coe_sum, ← EReal.coe_add, mul_one]
  · rw [ha, part_next _ _ _ j hj, old (a d) (fun s => X.v h s d) (by
      rcases K with ⟨e, e1, -, e2⟩ | ⟨M, e1, -, e2⟩
      · exact .inr ⟨e, e1, e2 d⟩
      · exact .inl ⟨M, e1, e2 d⟩)]
    simp only [X.block_exp h t j hj f M' hf, hv, ← EReal.coe_sub, ← EReal.coe_mul, coe_sum, ← EReal.coe_add, sub_self, zero_mul, Finset.sum_const_zero, add_zero]

theorem part_all (n : ℕ) (hn : t.val < n) (M : ℝ) (w : Fin 4096 → ℝ) : X.part h t n M w = ∑ s, X.E h t s M * w s := by
  refine Finset.sum_congr rfl fun s _ => ?_
  by_cases hs : s.val < n
  · rw [if_pos hs]
  · rw [if_neg hs]
    unfold E
    rw [if_neg (fun hh => hs (lt_of_le_of_lt (Fin.le_def.mp hh) hn)), zero_mul]

/-- What is kept once all of a row's keys are taken in gives the row's results. -/
theorem Kept.done {m l : EReal} {a : Fin 64 → EReal} (n : ℕ) (hn : t.val < n) (K : X.Kept h t n m l a) :
    m + Ideal.log l = (X.lse h t : EReal) ∧ ∀ d, Ideal.div (a d) l = (X.O h t d : EReal) := by
  rcases K with ⟨rfl, -⟩ | ⟨M, rfl, rfl, e⟩
  · exact absurd hn (Nat.not_lt_zero _)
  have hz := X.Z_pos h t M
  have el : X.part h t n M (fun _ => 1) = X.Z h t M := by
    rw [part_all _ _ _ n hn]; unfold Z; exact Finset.sum_congr rfl fun s _ => mul_one _
  refine ⟨?_, fun d => ?_⟩
  · rw [el, Ideal.log_coe, if_neg hz.not_ge, ← EReal.coe_add]
    unfold lse
    rw [Z_shift, Real.log_mul (X.Z_pos h t 0).ne' (Real.exp_pos _).ne', Real.log_exp]
    congr 1; ring
  · rw [e, el, Ideal.div_coe hz.ne', ← EReal.coe_mul, part_all _ _ _ n hn]
    unfold O
    rw [Finset.sum_mul]
    congr 1
    exact Finset.sum_congr rfl fun s _ => by rw [X.P_eq h t s M]; ring

end Data

end Attn

end
-- ==== Proof.FwdPay.lean ====
module

public import proofs.«01_k».proof.Proof.FwdReal
public import proofs.«01_k».proof.Proof.Gen.FwdKernelIdeal.Skeleton
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape

/-! What the attention's body computes from its blocks, at an entry. -/

@[expose] public section

set_option maxRecDepth 16384

noncomputable section

namespace Cert.FwdKernelIdeal.Hand

open Cert.FwdKernelIdeal Cert.FwdKernelIdeal.Gen Attn
open Idealize.ShloMosaic

theorem mask_bot : (Named.named (F := Ideal) κ "mask" 4048155338#32 : Ideal .f32) = (⊥ : EReal) := IdealRules.named_const.ideal_named_scalar _ _ _ _ rfl

theorem pay1_at (e : Fin 2) (r : Fin 512) : k0_pay1 (F := Ideal) (ix3 e r 0) = (⊥ : EReal) := by
  unfold k0_pay1
  pointwise
  exact mask_bot
theorem pay2_at (e : Fin 2) (r : Fin 512) : k0_pay2 (F := Ideal) (ix3 e r 0) = (0 : EReal) := by
  unfold k0_pay2
  pointwise
theorem pay3_at (e : Fin 2) (r : Fin 512) (d : Fin 64) : k0_pay3 (F := Ideal) (ix3 e r d) = (0 : EReal) := by
  unfold k0_pay3
  pointwise

/-- A score of two blocks. -/
def score (q k : Vec Ideal S512x64 .bf16) (g : Vec Ideal S1x1x512 .f32) (r c : Fin 512) : EReal :=
  (∑ d : Fin 64, q (ix2 r d) * ((0.125 : ℝ) : EReal) * k (ix2 c d)) - g (ix3 0 0 c)

theorem pay11_at (q k : Vec Ideal S512x64 .bf16) (g : Vec Ideal S1x1x512 .f32) (r c : Fin 512) : k0_pay11 (F := Ideal) q k g (ix2 r c) = score q k g r c := by
  unfold k0_pay11 score
  pointwise
  simp only [eighth_bf16]

theorem pay22_at (q k : Vec Ideal S512x64 .bf16) (g : Vec Ideal S1x1x512 .f32) (r c : Fin 512) :
    k0_pay22 (F := Ideal) q k g (ix2 r c) = if c ≤ r then score q k g r c else ⊥ := by
  unfold k0_pay22 score
  pointwise
  simp only [eighth_bf16]
  rw [mask_bot]
  have hc : IntOp.cmpi CmpIPredicate.sgt (BitVec.ofNat 32 c.val) (BitVec.ofNat 32 r.val) = if r < c then 1#1 else 0#1 := by
    have hs := c.isLt
    have ht := r.isLt
    exact sgt_ofNat _ _ (by omega) (by omega)
  rw [hc]
  by_cases h : r < c
  · rw [if_pos h, if_neg (not_le.mpr h)]; rfl
  · rw [if_neg h, if_pos (not_lt.mp h)]; rfl

/-- The maximum of the scores and of what is kept of it. -/
def top (S : FVec Ideal S512x512 .f32) (m : Vec Ideal S1x512x1 .f32) : FVec Ideal S512x1 .f32 :=
  maximumf (shapeCast S512x1 m shapeCasts_S1x512x1_S512x1)
    (shapeCast S512x1 (multiReduction .maximumf [1] S512 S 0xFF800000#32 reduces_S512x512_S512 (.inl rfl) rfl) shapeCasts_S512_S512x1)

theorem top_at (S : FVec Ideal S512x512 .f32) (m : Vec Ideal S1x512x1 .f32) (r : Fin 512) :
    top S m (ix2 r 0) = max (m (ix3 0 r 0) : EReal) (Finset.univ.fold max (⊥ : EReal) fun c : Fin 512 => S (ix2 r c)) := by
  unfold top
  pointwise
  rw [Attn.neg_inf]

theorem pay4_at (n : FVec Ideal S512x1 .f32) (m : Vec Ideal S1x512x1 .f32) (r : Fin 512) :
    k0_pay4 (F := Ideal) n m (ix2 r 0) = Ideal.exp (m (ix3 0 r 0) - n (ix2 r 0) : EReal) := by
  unfold k0_pay4
  pointwise

theorem pay5_at (S : FVec Ideal S512x512 .f32) (n : FVec Ideal S512x1 .f32) (r c : Fin 512) :
    k0_pay5 (F := Ideal) S n (ix2 r c) = Ideal.exp (S (ix2 r c) - n (ix2 r 0) : EReal) := by
  unfold k0_pay5
  pointwise

theorem pay6_at (S : FVec Ideal S512x512 .f32) (n : FVec Ideal S512x1 .f32) (m l : Vec Ideal S1x512x1 .f32) (r : Fin 512) :
    k0_pay6 (F := Ideal) S n m l (ix3 0 r 0)
      = (Ideal.exp (m (ix3 0 r 0) - n (ix2 r 0) : EReal) * l (ix3 0 r 0) + ∑ c : Fin 512, Ideal.exp (S (ix2 r c) - n (ix2 r 0) : EReal) : EReal) := by
  unfold k0_pay6
  pointwise
  simp only [pay4_at, pay5_at]

theorem pay7_at (v : Vec Ideal S512x64 .bf16) (S : FVec Ideal S512x512 .f32) (n : FVec Ideal S512x1 .f32) (m : Vec Ideal S1x512x1 .f32) (a : Vec Ideal S1x512x64 .f32)
    (r : Fin 512) (d : Fin 64) :
    k0_pay7 (F := Ideal) v S n m a (ix3 0 r d)
      = (Ideal.exp (m (ix3 0 r 0) - n (ix2 r 0) : EReal) * a (ix3 0 r d)
        + (∑ c : Fin 512, Ideal.exp (S (ix2 r c) - n (ix2 r 0) : EReal) * v (ix2 c d)
          + ∑ c : Fin 512, (Ideal.exp (S (ix2 r c) - n (ix2 r 0) : EReal) - Ideal.exp (S (ix2 r c) - n (ix2 r 0) : EReal)) * v (ix2 c d)) : EReal) := by
  unfold k0_pay7
  pointwise
  simp only [pay4_at, pay5_at]

theorem pay8_at (n : FVec Ideal S512x1 .f32) (r : Fin 512) : k0_pay8 (F := Ideal) n (ix3 0 r 0) = n (ix2 r 0) := by
  unfold k0_pay8
  pointwise

theorem pay10_at (m l : Vec Ideal S1x512x1 .f32) (r : Fin 512) : k0_pay10 (F := Ideal) m l (ix3 0 0 r) = (m (ix3 0 r 0) + Ideal.log (l (ix3 0 r 0)) : EReal) := by
  unfold k0_pay10
  pointwise

theorem pay39_at (a : Vec Ideal S1x512x64 .f32) (l : Vec Ideal S1x512x1 .f32) (r : Fin 512) (d : Fin 64) :
    k0_pay39 (F := Ideal) a l (ix2 r d) = Ideal.div (a (ix3 0 r d)) (l (ix3 0 r 0)) := by
  unfold k0_pay39
  pointwise

end Cert.FwdKernelIdeal.Hand

end
-- ==== Proof.FwdRun.lean ====
module

public import proofs.«01_k».proof.Proof.FwdPay
public import proofs.«01_k».proof.Proof.Gen.FwdKernelIdeal.Value
public import Idealize.ShloMosaic.Lib.Pipeline.ValueKit
public import Idealize.ShloMosaic.Lib.Pipeline.ReadBack

/-! What one point of the attention's launch leaves in what is kept of two heads' rows. -/

@[expose] public section

set_option maxRecDepth 16384

noncomputable section

namespace Cert.FwdKernelIdeal.Hand

open Cert.FwdKernelIdeal Cert.FwdKernelIdeal.Gen Attn
open Idealize.ShloMosaic Idealize.ShloMosaic.TcCoe Idealize.SL.Sem
open Idealize.ShloMosaic.Pipeline (Window Dat)

/-- The two heads' parts of a block of columns, of what is kept of the rows, of their sums and of a row of numbers. -/
abbrev h0 : Rect S512x128 := Rect.unit ![0, 0] ![512, 64] inb_S512x128_S512x64_0_0
abbrev h1 : Rect S512x128 := Rect.unit ![0, 64] ![512, 64] inb_S512x128_S512x64_0_64
abbrev m0 : Rect S2x512x1 := Rect.unit ![0, 0, 0] ![1, 512, 1] inb_S2x512x1_S1x512x1_0_0_0
abbrev m1 : Rect S2x512x1 := Rect.unit ![1, 0, 0] ![1, 512, 1] inb_S2x512x1_S1x512x1_1_0_0
abbrev a0 : Rect S2x512x64 := Rect.unit ![0, 0, 0] ![1, 512, 64] inb_S2x512x64_S1x512x64_0_0_0
abbrev a1 : Rect S2x512x64 := Rect.unit ![1, 0, 0] ![1, 512, 64] inb_S2x512x64_S1x512x64_1_0_0
abbrev g0 : Rect S2x1x512 := Rect.unit ![0, 0, 0] ![1, 1, 512] inb_S2x1x512_S1x1x512_0_0_0
abbrev g1 : Rect S2x1x512 := Rect.unit ![1, 0, 0] ![1, 1, 512] inb_S2x1x512_S1x1x512_1_0_0

/-- A head's column of a block. -/
def two (e : Fin 2) (d : Fin 64) : Fin 128 := ⟨e.val * 64 + d.val, by omega⟩

theorem h0_idx (r : Fin 512) (d : Fin 64) : h0.emb (ix2 r d) = ix2 r (two 0 d) := by
  funext a
  match a with
  | ⟨0, _⟩ => exact Fin.ext (by simp [two])
  | ⟨1, _⟩ => exact Fin.ext (by simp [two])
theorem m0_idx (r : Fin 512) : m0.emb (ix3 0 r 0) = ix3 0 r 0 := by
  funext a
  match a with
  | ⟨0, _⟩ => exact Fin.ext (by simp)
  | ⟨1, _⟩ => exact Fin.ext (by simp)
  | ⟨2, _⟩ => exact Fin.ext (by simp)
theorem a0_idx (r : Fin 512) (d : Fin 64) : a0.emb (ix3 0 r d) = ix3 0 r d := by
  funext a
  match a with
  | ⟨0, _⟩ => exact Fin.ext (by simp)
  | ⟨1, _⟩ => exact Fin.ext (by simp)
  | ⟨2, _⟩ => exact Fin.ext (by simp)
theorem g0_idx (r : Fin 512) : g0.emb (ix3 0 0 r) = ix3 0 0 r := by
  funext a
  match a with
  | ⟨0, _⟩ => exact Fin.ext (by simp)
  | ⟨1, _⟩ => exact Fin.ext (by simp)
  | ⟨2, _⟩ => exact Fin.ext (by simp)
theorem h1_idx (r : Fin 512) (d : Fin 64) : h1.emb (ix2 r d) = ix2 r (two 1 d) := by
  funext a
  match a with
  | ⟨0, _⟩ => exact Fin.ext (by simp [two])
  | ⟨1, _⟩ => exact Fin.ext (by simp [two])
theorem m1_idx (r : Fin 512) : m1.emb (ix3 0 r 0) = ix3 1 r 0 := by
  funext a
  match a with
  | ⟨0, _⟩ => exact Fin.ext (by simp)
  | ⟨1, _⟩ => exact Fin.ext (by simp)
  | ⟨2, _⟩ => exact Fin.ext (by simp)
theorem a1_idx (r : Fin 512) (d : Fin 64) : a1.emb (ix3 0 r d) = ix3 1 r d := by
  funext a
  match a with
  | ⟨0, _⟩ => exact Fin.ext (by simp)
  | ⟨1, _⟩ => exact Fin.ext (by simp)
  | ⟨2, _⟩ => exact Fin.ext (by simp)
theorem g1_idx (r : Fin 512) : g1.emb (ix3 0 0 r) = ix3 1 0 r := by
  funext a
  match a with
  | ⟨0, _⟩ => exact Fin.ext (by simp)
  | ⟨1, _⟩ => exact Fin.ext (by simp)
  | ⟨2, _⟩ => exact Fin.ext (by simp)

theorem lo_h (r : Fin 512) (d : Fin 64) : (ix2 r (two 0 d) : S512x128.Idx) ∉ h1.set := fun h => by
  have := (Rect.mem_set_unit.mp h) (1 : Fin 2)
  simp [two] at this
  omega
theorem lo_m (r : Fin 512) : (ix3 0 r 0 : S2x512x1.Idx) ∉ m1.set := fun h => by
  have := (Rect.mem_set_unit.mp h) (0 : Fin 3)
  simp at this
theorem lo_a (r : Fin 512) (d : Fin 64) : (ix3 0 r d : S2x512x64.Idx) ∉ a1.set := fun h => by
  have := (Rect.mem_set_unit.mp h) (0 : Fin 3)
  simp at this
theorem lo_g (r : Fin 512) : (ix3 0 0 r : S2x1x512.Idx) ∉ g1.set := fun h => by
  have := (Rect.mem_set_unit.mp h) (0 : Fin 3)
  simp at this

/-- An entry that the last store covers, and one that the store before it covers and the last does not. -/
theorem canon_hi {s : Shape} {e : EltTy} (r1 : Rect s) (p1 : r1.shape.Idx → Elt Ideal e) (L : List (View.Piece (Elt Ideal) s e)) (x) {y : s.Idx} (h : r1.emb x = y) :
    View.canon (⟨r1, p1⟩ :: L) y = p1 x := by subst h; exact View.canon_cons_emb r1 p1 L x
theorem canon_lo {s : Shape} {e : EltTy} (r1 r0 : Rect s) (p1 : r1.shape.Idx → Elt Ideal e) (p0 : r0.shape.Idx → Elt Ideal e) (L : List (View.Piece (Elt Ideal) s e)) (x) {y : s.Idx}
    (h : r0.emb x = y) (hn : y ∉ r1.set) : View.canon (⟨r1, p1⟩ :: ⟨r0, p0⟩ :: L) y = p0 x :=
  (View.canon_cons_of_not_mem ⟨r1, p1⟩ _ hn).trans (canon_hi r0 p0 L x h)

/-- One row taken a block of keys further, by the block's scores and values: its maximum, sum and weighted sums. -/
def Row (f : Fin 512 → EReal) (v : Fin 512 → Fin 64 → EReal) (m l : EReal) (a : Fin 64 → EReal) (m' l' : EReal) (a' : Fin 64 → EReal) : Prop :=
  m' = max m (Finset.univ.fold max ⊥ f) ∧ l' = Ideal.exp (m - m') * l + ∑ c, Ideal.exp (f c - m')
    ∧ ∀ d, a' d = Ideal.exp (m - m') * a d + (∑ c, Ideal.exp (f c - m') * v c d + ∑ c, (Ideal.exp (f c - m') - Ideal.exp (f c - m')) * v c d)

/-- The rows of two heads taken further. -/
def Step (f : Fin 2 → Fin 512 → Fin 512 → EReal) (x2 : Vec Ideal S512x128 .bf16) (m l : Vec Ideal S2x512x1 .f32) (a : Vec Ideal S2x512x64 .f32)
    (m' l' : Vec Ideal S2x512x1 .f32) (a' : Vec Ideal S2x512x64 .f32) : Prop :=
  ∀ e r, Row (f e r) (fun c d => x2 (ix2 c (two e d))) (m (ix3 e r 0)) (l (ix3 e r 0)) (fun d => a (ix3 e r d)) (m' (ix3 e r 0)) (l' (ix3 e r 0)) (fun d => a' (ix3 e r d))

theorem row_of (S : FVec Ideal S512x512 .f32) (v : Vec Ideal S512x64 .bf16) (m l : Vec Ideal S1x512x1 .f32) (a : Vec Ideal S1x512x64 .f32) (r : Fin 512) :
    Row (fun c => S (ix2 r c)) (fun c d => v (ix2 c d)) (m (ix3 0 r 0)) (l (ix3 0 r 0)) (fun d => a (ix3 0 r d))
      (k0_pay8 (F := Ideal) (top S m) (ix3 0 r 0)) (k0_pay6 (F := Ideal) S (top S m) m l (ix3 0 r 0)) (fun d => k0_pay7 (F := Ideal) v S (top S m) m a (ix3 0 r d)) := by
  rw [pay8_at]
  exact ⟨top_at S m r, pay6_at S _ m l r, fun d => pay7_at v S _ m a r d⟩

theorem step_of (f : Fin 2 → Fin 512 → Fin 512 → EReal) (x2 : Vec Ideal S512x128 .bf16) (m l : Vec Ideal S2x512x1 .f32) (a : Vec Ideal S2x512x64 .f32) (S0 S1 : FVec Ideal S512x512 .f32)
    (hS0 : ∀ r c, S0 (ix2 r c) = f 0 r c) (hS1 : ∀ r c, S1 (ix2 r c) = f 1 r c) (Lm Ll : List (View.Piece (Elt Ideal) S2x512x1 .f32)) (La : List (View.Piece (Elt Ideal) S2x512x64 .f32)) :
    Step f x2 m l a
      (View.canon (⟨m1, k0_pay8 (F := Ideal) (top S1 (View.ld m m1))⟩ :: ⟨m0, k0_pay8 (F := Ideal) (top S0 (View.ld m m0))⟩ :: Lm))
      (View.canon (⟨m1, k0_pay6 (F := Ideal) S1 (top S1 (View.ld m m1)) (View.ld m m1) (View.ld l m1)⟩ :: ⟨m0, k0_pay6 (F := Ideal) S0 (top S0 (View.ld m m0)) (View.ld m m0) (View.ld l m0)⟩ :: Ll))
      (View.canon (⟨a1, k0_pay7 (F := Ideal) (View.ld x2 h1) S1 (top S1 (View.ld m m1)) (View.ld m m1) (View.ld a a1)⟩
        :: ⟨a0, k0_pay7 (F := Ideal) (View.ld x2 h0) S0 (top S0 (View.ld m m0)) (View.ld m m0) (View.ld a a0)⟩ :: La)) := by
  intro e r
  match e with
  | 0 =>
    rw [canon_lo m1 m0 _ _ _ _ (m0_idx r) (lo_m r), canon_lo m1 m0 _ _ _ _ (m0_idx r) (lo_m r)]
    have k := row_of S0 (View.ld x2 h0) (View.ld m m0) (View.ld l m0) (View.ld a a0) r
    have em : View.ld m m0 (ix3 0 r 0) = m (ix3 0 r 0) := congrArg m (m0_idx r)
    have el : View.ld l m0 (ix3 0 r 0) = l (ix3 0 r 0) := congrArg l (m0_idx r)
    have ea : (fun d => View.ld a a0 (ix3 0 r d)) = fun d => a (ix3 0 r d) := funext fun d => congrArg a (a0_idx r d)
    have ev : (fun c d => View.ld x2 h0 (ix2 c d)) = fun c d => x2 (ix2 c (two 0 d)) := funext fun c => funext fun d => congrArg x2 (h0_idx c d)
    rw [em, el, ea, ev, funext (hS0 r)] at k
    exact ⟨k.1, k.2.1, fun d => (canon_lo a1 a0 _ _ _ _ (a0_idx r d) (lo_a r d)).trans (k.2.2 d)⟩
  | 1 =>
    rw [canon_hi m1 _ _ _ (m1_idx r), canon_hi m1 _ _ _ (m1_idx r)]
    have k := row_of S1 (View.ld x2 h1) (View.ld m m1) (View.ld l m1) (View.ld a a1) r
    have em : View.ld m m1 (ix3 0 r 0) = m (ix3 1 r 0) := congrArg m (m1_idx r)
    have el : View.ld l m1 (ix3 0 r 0) = l (ix3 1 r 0) := congrArg l (m1_idx r)
    have ea : (fun d => View.ld a a1 (ix3 0 r d)) = fun d => a (ix3 1 r d) := funext fun d => congrArg a (a1_idx r d)
    have ev : (fun c d => View.ld x2 h1 (ix2 c d)) = fun c d => x2 (ix2 c (two 1 d)) := funext fun c => funext fun d => congrArg x2 (h1_idx c d)
    rw [em, el, ea, ev, funext (hS1 r)] at k
    exact ⟨k.1, k.2.1, fun d => (canon_hi a1 _ _ _ (a1_idx r d)).trans (k.2.2 d)⟩

/-- The scores of two heads' blocks, and the same with the keys after the row masked. -/
def full (x0 x1 : Vec Ideal S512x128 .bf16) (x3 : Vec Ideal S2x1x512 .f32) (e : Fin 2) (r c : Fin 512) : EReal :=
  (∑ d : Fin 64, x0 (ix2 r (two e d)) * ((0.125 : ℝ) : EReal) * x1 (ix2 c (two e d))) - x3 (ix3 e 0 c)
def masked (x0 x1 : Vec Ideal S512x128 .bf16) (x3 : Vec Ideal S2x1x512 .f32) (e : Fin 2) (r c : Fin 512) : EReal := if c ≤ r then full x0 x1 x3 e r c else ⊥

theorem score0 (x0 x1 : Vec Ideal S512x128 .bf16) (x3 : Vec Ideal S2x1x512 .f32) (r c : Fin 512) :
    score (View.ld x0 h0) (View.ld x1 h0) (View.ld x3 g0) r c = full x0 x1 x3 0 r c :=
  congrArg₂ (fun s g : EReal => s - g) (Finset.sum_congr rfl fun d _ => congrArg₂ (fun a b : EReal => a * ((0.125 : ℝ) : EReal) * b) (congrArg x0 (h0_idx r d)) (congrArg x1 (h0_idx c d)))
    (congrArg x3 (g0_idx c))
theorem score1 (x0 x1 : Vec Ideal S512x128 .bf16) (x3 : Vec Ideal S2x1x512 .f32) (r c : Fin 512) :
    score (View.ld x0 h1) (View.ld x1 h1) (View.ld x3 g1) r c = full x0 x1 x3 1 r c :=
  congrArg₂ (fun s g : EReal => s - g) (Finset.sum_congr rfl fun d _ => congrArg₂ (fun a b : EReal => a * ((0.125 : ℝ) : EReal) * b) (congrArg x0 (h1_idx r d)) (congrArg x1 (h1_idx c d)))
    (congrArg x3 (g1_idx c))

theorem full0 (x0 x1 : Vec Ideal S512x128 .bf16) (x3 : Vec Ideal S2x1x512 .f32) (r c : Fin 512) :
    k0_pay11 (F := Ideal) (View.ld x0 h0) (View.ld x1 h0) (View.ld x3 g0) (ix2 r c) = full x0 x1 x3 0 r c := (pay11_at _ _ _ r c).trans (score0 x0 x1 x3 r c)
theorem masked0 (x0 x1 : Vec Ideal S512x128 .bf16) (x3 : Vec Ideal S2x1x512 .f32) (r c : Fin 512) :
    k0_pay22 (F := Ideal) (View.ld x0 h0) (View.ld x1 h0) (View.ld x3 g0) (ix2 r c) = masked x0 x1 x3 0 r c := (pay22_at _ _ _ r c).trans (by rw [score0]; rfl)
theorem full1 (x0 x1 : Vec Ideal S512x128 .bf16) (x3 : Vec Ideal S2x1x512 .f32) (r c : Fin 512) :
    k0_pay11 (F := Ideal) (View.ld x0 h1) (View.ld x1 h1) (View.ld x3 g1) (ix2 r c) = full x0 x1 x3 1 r c := (pay11_at _ _ _ r c).trans (score1 x0 x1 x3 r c)
theorem masked1 (x0 x1 : Vec Ideal S512x128 .bf16) (x3 : Vec Ideal S2x1x512 .f32) (r c : Fin 512) :
    k0_pay22 (F := Ideal) (View.ld x0 h1) (View.ld x1 h1) (View.ld x3 g1) (ix2 r c) = masked x0 x1 x3 1 r c := (pay22_at _ _ _ r c).trans (by rw [score1]; rfl)

variable (m : (ℓ : Loc nD τ sig) → Buf (Elt Ideal) ℓ) (c : Dev nD)
abbrev pred (t : Fin cfg0.N) : t.val - 1 < cfg0.N := Nat.lt_of_le_of_lt (Nat.sub_le _ _) t.isLt
/-- What is kept after a point: the maxima, the sums and the weighted sums. -/
abbrev keptM (n : ℕ) (h : n < cfg0.N) : Vec Ideal S2x512x1 .f32 := (outsAt0 m c n h).2.2.2.1
abbrev keptL (n : ℕ) (h : n < cfg0.N) : Vec Ideal S2x512x1 .f32 := (outsAt0 m c n h).2.2.2.2.1
abbrev keptA (n : ℕ) (h : n < cfg0.N) : Vec Ideal S2x512x64 .f32 := (outsAt0 m c n h).2.2.2.2.2

theorem stepF (t : Fin cfg0.N) (c0 : ¬t.val % 8 = 0) (c1 : t.val % 8 + 1 ≤ t.val / 8 % 8) (c2 : ¬t.val / 8 % 8 = t.val % 8) (c3 : ¬t.val % 8 = 7) :
    Step (full (iblk m c 0 t) (iblk m c 1 t) (iblk m c 3 t)) (iblk m c 2 t) (keptM m c (t.val - 1) (pred t)) (keptL m c (t.val - 1) (pred t)) (keptA m c (t.val - 1) (pred t))
      (keptM m c t.val t.isLt) (keptL m c t.val t.isLt) (keptA m c t.val t.isLt) := by
  unfold keptM keptL keptA
  rw [outsAt0_F m c t c0 c1 c2 c3]
  frame_out
  simp only [read_unread_whole]
  exact step_of _ _ _ _ _ _ _ (full0 _ _ _) (full1 _ _ _) _ _ _

theorem stepD (t : Fin cfg0.N) (c0 : t.val % 8 = 0) (c1 : t.val % 8 + 1 ≤ t.val / 8 % 8) (c2 : ¬t.val / 8 % 8 = t.val % 8) (c3 : ¬t.val % 8 = 7) :
    Step (full (iblk m c 0 t) (iblk m c 1 t) (iblk m c 3 t)) (iblk m c 2 t) (k0_pay1 (F := Ideal)) (k0_pay2 (F := Ideal)) (k0_pay3 (F := Ideal))
      (keptM m c t.val t.isLt) (keptL m c t.val t.isLt) (keptA m c t.val t.isLt) := by
  unfold keptM keptL keptA
  rw [outsAt0_D m c t c0 c1 c2 c3]
  frame_out
  simp (discharger := decide) only [↓View.readCov_skip, ↓View.readCov_fill]
  exact step_of _ _ _ _ _ _ _ (full0 _ _ _) (full1 _ _ _) _ _ _

theorem stepA (t : Fin cfg0.N) (c0 : t.val % 8 = 0) (c1 : ¬t.val % 8 + 1 ≤ t.val / 8 % 8) (c2 : t.val / 8 % 8 = t.val % 8) (c3 : ¬t.val % 8 = 7) :
    Step (masked (iblk m c 0 t) (iblk m c 1 t) (iblk m c 3 t)) (iblk m c 2 t) (k0_pay1 (F := Ideal)) (k0_pay2 (F := Ideal)) (k0_pay3 (F := Ideal))
      (keptM m c t.val t.isLt) (keptL m c t.val t.isLt) (keptA m c t.val t.isLt) := by
  unfold keptM keptL keptA
  rw [outsAt0_A m c t c0 c1 c2 c3]
  frame_out
  simp (discharger := decide) only [↓View.readCov_skip, ↓View.readCov_fill]
  exact step_of _ _ _ _ _ _ _ (masked0 _ _ _) (masked1 _ _ _) _ _ _

theorem stepE (t : Fin cfg0.N) (c0 : ¬t.val % 8 = 0) (c1 : ¬t.val % 8 + 1 ≤ t.val / 8 % 8) (c2 : t.val / 8 % 8 = t.val % 8) (c3 : ¬t.val % 8 = 7) :
    Step (masked (iblk m c 0 t) (iblk m c 1 t) (iblk m c 3 t)) (iblk m c 2 t) (keptM m c (t.val - 1) (pred t)) (keptL m c (t.val - 1) (pred t)) (keptA m c (t.val - 1) (pred t))
      (keptM m c t.val t.isLt) (keptL m c t.val t.isLt) (keptA m c t.val t.isLt) := by
  unfold keptM keptL keptA
  rw [outsAt0_E m c t c0 c1 c2 c3]
  frame_out
  simp only [read_unread_whole]
  exact step_of _ _ _ _ _ _ _ (masked0 _ _ _) (masked1 _ _ _) _ _ _

theorem stepG (t : Fin cfg0.N) (c0 : ¬t.val % 8 = 0) (c1 : ¬t.val % 8 + 1 ≤ t.val / 8 % 8) (c2 : t.val / 8 % 8 = t.val % 8) (c3 : t.val % 8 = 7) :
    Step (masked (iblk m c 0 t) (iblk m c 1 t) (iblk m c 3 t)) (iblk m c 2 t) (keptM m c (t.val - 1) (pred t)) (keptL m c (t.val - 1) (pred t)) (keptA m c (t.val - 1) (pred t))
      (keptM m c t.val t.isLt) (keptL m c t.val t.isLt) (keptA m c t.val t.isLt) := by
  unfold keptM keptL keptA
  rw [outsAt0_G m c t c0 c1 c2 c3]
  frame_out
  simp only [read_unread_whole]
  exact step_of _ _ _ _ _ _ _ (masked0 _ _ _) (masked1 _ _ _) _ _ _

/-- At the other points what is kept stays as it was. -/
theorem stepB (t : Fin cfg0.N) (c0 : ¬t.val % 8 = 0) (c1 : ¬t.val % 8 + 1 ≤ t.val / 8 % 8) (c2 : ¬t.val / 8 % 8 = t.val % 8) :
    keptM m c t.val t.isLt = keptM m c (t.val - 1) (pred t) ∧ keptL m c t.val t.isLt = keptL m c (t.val - 1) (pred t) ∧ keptA m c t.val t.isLt = keptA m c (t.val - 1) (pred t) := by
  unfold keptM keptL keptA
  by_cases c3 : t.val % 8 = 7
  · rw [outsAt0_C m c t c0 c1 c2 c3]
    exact ⟨rfl, rfl, rfl⟩
  · rw [outsAt0_B m c t c0 c1 c2 c3]
    exact ⟨rfl, rfl, rfl⟩

/-- What is written back of what is kept. -/
def Out (m l : Vec Ideal S2x512x1 .f32) (a : Vec Ideal S2x512x64 .f32) (o : Vec Ideal S512x128 .bf16) (o' : Vec Ideal S512x128 .f32) (s : Vec Ideal S2x1x512 .f32) : Prop :=
  ∀ e r, (∀ d, o (ix2 r (two e d)) = Ideal.div (a (ix3 e r d)) (l (ix3 e r 0))) ∧ (∀ d, o' (ix2 r (two e d)) = Ideal.div (a (ix3 e r d)) (l (ix3 e r 0)))
    ∧ s (ix3 e 0 r) = (m (ix3 e r 0) + Ideal.log (l (ix3 e r 0)) : EReal)

theorem out_of (m l : Vec Ideal S2x512x1 .f32) (a : Vec Ideal S2x512x64 .f32) :
    Out m l a (View.canon [⟨h1, k0_pay43 (F := Ideal) (View.ld a a1) (View.ld l m1)⟩, ⟨h0, k0_pay40 (F := Ideal) (View.ld a a0) (View.ld l m0)⟩])
      (View.canon [⟨h1, k0_pay39 (F := Ideal) (View.ld a a1) (View.ld l m1)⟩, ⟨h0, k0_pay39 (F := Ideal) (View.ld a a0) (View.ld l m0)⟩])
      (View.canon [⟨g1, k0_pay10 (F := Ideal) (View.ld m m1) (View.ld l m1)⟩, ⟨g0, k0_pay10 (F := Ideal) (View.ld m m0) (View.ld l m0)⟩]) := by
  have e1 (p : Vec Ideal S2x512x1 .f32) (r : Fin 512) : View.ld p m1 (ix3 0 r 0) = p (ix3 1 r 0) := congrArg p (m1_idx r)
  have e0 (p : Vec Ideal S2x512x1 .f32) (r : Fin 512) : View.ld p m0 (ix3 0 r 0) = p (ix3 0 r 0) := congrArg p (m0_idx r)
  have d1 (r : Fin 512) (d : Fin 64) : k0_pay39 (F := Ideal) (View.ld a a1) (View.ld l m1) (ix2 r d) = Ideal.div (a (ix3 1 r d)) (l (ix3 1 r 0)) :=
    (pay39_at _ _ r d).trans (congrArg₂ Ideal.div (congrArg a (a1_idx r d)) (e1 l r))
  have d0 (r : Fin 512) (d : Fin 64) : k0_pay39 (F := Ideal) (View.ld a a0) (View.ld l m0) (ix2 r d) = Ideal.div (a (ix3 0 r d)) (l (ix3 0 r 0)) :=
    (pay39_at _ _ r d).trans (congrArg₂ Ideal.div (congrArg a (a0_idx r d)) (e0 l r))
  intro e r
  match e with
  | 0 => exact ⟨fun d => (canon_lo h1 h0 _ _ _ _ (h0_idx r d) (lo_h r d)).trans (d0 r d), fun d => (canon_lo h1 h0 _ _ _ _ (h0_idx r d) (lo_h r d)).trans (d0 r d),
      (canon_lo g1 g0 _ _ _ _ (g0_idx r) (lo_g r)).trans ((pay10_at _ _ r).trans (congrArg₂ (fun a b : EReal => a + Ideal.log b) (e0 m r) (e0 l r)))⟩
  | 1 => exact ⟨fun d => (canon_hi h1 _ _ _ (h1_idx r d)).trans (d1 r d), fun d => (canon_hi h1 _ _ _ (h1_idx r d)).trans (d1 r d),
      (canon_hi g1 _ _ _ (g1_idx r)).trans ((pay10_at _ _ r).trans (congrArg₂ (fun a b : EReal => a + Ideal.log b) (e1 m r) (e1 l r)))⟩

theorem written (t : Fin cfg0.N) (c3 : t.val % 8 = 7) :
    Out (keptM m c t.val t.isLt) (keptL m c t.val t.isLt) (keptA m c t.val t.isLt) (outsAt0 m c t.val t.isLt).1 (outsAt0 m c t.val t.isLt).2.1 (outsAt0 m c t.val t.isLt).2.2.1 := by
  by_cases c2 : t.val / 8 % 8 = t.val % 8
  · unfold keptM keptL keptA
    rw [outsAt0_G m c t (by omega) (by omega) c2 c3]
    frame_out
    simp only [read_unread_whole, View.readCov_eq_canon']
    exact out_of _ _ _
  · obtain ⟨hm, hl, ha⟩ := stepB m c t (by omega) (by omega) c2
    rw [hm, hl, ha]
    rw [outsAt0_C m c t (by omega) (by omega) c2 c3]
    frame_out
    simp only [read_unread_whole]
    exact out_of _ _ _
end Cert.FwdKernelIdeal.Hand
end
-- ==== Proof.FwdRef.lean ====
module

public import proofs.«01_k».proof.Proof.FwdReal
public import proofs.«01_k».proof.Proof.Gen.FwdReferenceIdeal.Read
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape

/-! The stages of the attention's reference over the extended reals, where the arguments are real numbers. -/

@[expose] public section

set_option maxRecDepth 16384

noncomputable section

namespace Cert.FwdReferenceIdeal.Hand

open Cert.FwdReferenceIdeal Cert.FwdReferenceIdeal.Gen Cert.FwdReferenceIdeal.Read Attn
open Idealize.ShloMosaic

variable (X : Data) (x0 : FVec Ideal S4096x1024 .bf16) (x1 : FVec Ideal S4096x2048 .bf16) (x2 : FVec Ideal S16x1x4096 .f32)
  (H : X.FwdArgs x0 x1 x2)
include H

theorem r1 (h : Fin 16) (t : Fin 4096) (d : Fin 64) : val_main_v1 (F := Ideal) x0 (ix3 t h d) = (X.q h t d : EReal) := by
  unfold val_main_v1 val_main_v0; pointwise; exact H.q h t d
theorem r4 (h : Fin 16) (t : Fin 4096) (d : Fin 64) : val_main_v4 (F := Ideal) x1 (ix3 t h d) = (X.k h t d : EReal) := by
  unfold val_main_v4 val_main_v3 val_main_v2; pointwise; exact H.k h t d
theorem r7 (h : Fin 16) (t : Fin 4096) (d : Fin 64) : val_main_v7 (F := Ideal) x1 (ix3 t h d) = (X.v h t d : EReal) := by
  unfold val_main_v7 val_main_v6 val_main_v5; pointwise; exact H.v h t d
theorem r8 (h : Fin 16) (t : Fin 4096) : val_main_v8 (F := Ideal) x2 (ix2 h t) = (X.c h t : EReal) := by
  unfold val_main_v8; pointwise; exact H.c h t

theorem r20 (h : Fin 16) (t s : Fin 4096) : val_main_v20 (F := Ideal) x0 x1 x2 (ix3 h t s) = ((X.A h t s + X.c h t : ℝ) : EReal) := by
  unfold val_main_v20 val_main_v19 val_main_v18 val_main_v17 val_main_v16 val_main_v15 val_main_v14 val_main_v13 val_main_v12 val_main_v11 val_main_v10 val_main_v9 val_main_cst
  pointwise
  simp only [r1 X x0 x1 x2 H, r4 X x0 x1 x2 H, r8 X x0 x1 x2 H, eighth_f32, ← EReal.coe_mul, ← EReal.coe_add, ← EReal.coe_sub, coe_sum]
  unfold Data.A
  congr 1; ring

theorem r47 (h : Fin 16) (t s : Fin 4096) : val_main_v47 (F := Ideal) x0 x1 x2 (ix3 h t s) = (X.A h t s : EReal) := by
  unfold val_main_v47 val_main_v46 val_main_v45 val_main_v44 val_main_v43 val_main_v42 val_main_cst_4
  pointwise
  simp only [r1 X x0 x1 x2 H, r4 X x0 x1 x2 H, r8 X x0 x1 x2 H, eighth_f32, ← EReal.coe_mul, ← EReal.coe_add, ← EReal.coe_sub, coe_sum]
  unfold Data.A
  rfl

omit H in
theorem c0 (h : Fin 16) (t s : Fin 4096) : val_main_call0_v1 (F := Ideal) (ix3 h t s) = if s ≤ t then 1#1 else 0#1 := by
  unfold val_main_call0_v1 val_main_v26 val_main_v25 val_main_v24 val_main_v23 val_main_v22 val_main_v21
  pointwise
  exact sle_ofNat _ _ (by omega) (by omega)

omit H in
theorem c1 (h : Fin 16) (t s : Fin 4096) : val_main_call1_v1 (F := Ideal) (ix3 h t s) = if s ≤ t then 1#1 else 0#1 :=
  c0 h t s

theorem r27 (h : Fin 16) (t s : Fin 4096) : val_main_v27 (F := Ideal) x0 x1 x2 (ix3 h t s) = if s ≤ t then ((X.A h t s + X.c h t : ℝ) : EReal) else ⊥ := by
  unfold val_main_v27 val_main_call0_v2 val_main_call0_v0 val_main_cst_0
  pointwise
  rw [c0, r20 X x0 x1 x2 H]
  rw [show (id (constant (F := Ideal) S_ FTy.f32 4286578688#32) ix0 : EReal) = ⊥ from neg_inf]
  split <;> rfl

theorem r54 (h : Fin 16) (t s : Fin 4096) : val_main_v54 (F := Ideal) x0 x1 x2 (ix3 h t s) = if s ≤ t then (X.A h t s : EReal) else ⊥ := by
  unfold val_main_v54 val_main_call1_v2 val_main_call1_v0 val_main_cst_5
  pointwise
  rw [c1, r47 X x0 x1 x2 H]
  rw [show (id (constant (F := Ideal) S_ FTy.f32 4286578688#32) ix0 : EReal) = ⊥ from neg_inf]
  split <;> rfl

theorem r55 (h : Fin 16) (t s : Fin 4096) : val_main_v55 (F := Ideal) x0 x1 x2 (ix3 h t s) = (X.E h t s 0 : EReal) := by
  unfold val_main_v55
  pointwise
  rw [r54 X x0 x1 x2 H]
  unfold Data.E
  split
  · rw [Ideal.exp_coe, sub_zero]
  · rw [Ideal.exp_bot]; rfl

/-- The rows' log-sums. -/
theorem value59 : val_main_v59 (F := Ideal) x0 x1 x2 = fun y => (X.lse (y 0) (y 2) : EReal) := by
  funext y
  obtain ⟨h, z, t, rfl⟩ : ∃ (h : Fin 16) (z : Fin 1) (t : Fin 4096), y = ix3 h z t := ⟨y 0, y 1, y 2, (ix3_eta y).symm⟩
  obtain rfl : z = 0 := Fin.ext (Nat.lt_one_iff.mp z.isLt)
  show _ = (X.lse h t : EReal)
  unfold val_main_v59 val_main_v57 val_main_v56 val_main_cst_6
  pointwise
  simp only [r55 X x0 x1 x2 H, coe_sum]
  exact (Ideal.log_coe _).trans (if_neg (X.Z_pos h t 0).not_ge)

theorem r30 : ∃ M : Fin 16 → Fin 4096 → ℝ, ∀ h t, val_main_v30 (F := Ideal) x0 x1 x2 (ix2 h t) = ((M h t + X.c h t : ℝ) : EReal) := by
  suffices e : ∀ h t, ∃ M : ℝ, val_main_v30 (F := Ideal) x0 x1 x2 (ix2 h t) = (M : EReal) by
    choose M hM using e
    exact ⟨fun h t => M h t - X.c h t, fun h t => by rw [hM, sub_add_cancel]⟩
  intro h t
  unfold val_main_v30 val_main_v29 val_main_v28 val_main_cst_1 val_main_cst_2
  rw [Idealize.ShloMosaic.maximumf_apply, Host.reduce_eq_fold]
  pointwise
  rw [neg_inf]
  obtain ⟨M, hM⟩ := max_masked (fun s => val_main_v27 (F := Ideal) x0 x1 x2 (ix3 h t s)) _ t (r27 X x0 x1 x2 H h t)
  exact ⟨M, (max_eq_right bot_le).trans hM⟩

variable (M : Fin 16 → Fin 4096 → ℝ) (hM : ∀ h t, val_main_v30 (F := Ideal) x0 x1 x2 (ix2 h t) = ((M h t + X.c h t : ℝ) : EReal))
include hM

theorem r34 (h : Fin 16) (t s : Fin 4096) : val_main_v34 (F := Ideal) x0 x1 x2 (ix3 h t s) = (X.E h t s (M h t) : EReal) := by
  unfold val_main_v34 val_main_v33 val_main_v32 val_main_v31
  pointwise
  rw [r27 X x0 x1 x2 H, hM]
  unfold Data.E
  split
  · rw [← EReal.coe_sub, Ideal.exp_coe]; congr 2; ring
  · rw [EReal.bot_sub, Ideal.exp_bot]; rfl

theorem r35 (h : Fin 16) (t : Fin 4096) : val_main_v35 (F := Ideal) x0 x1 x2 (ix2 h t) = (X.Z h t (M h t) : EReal) := by
  unfold val_main_v35 val_main_cst_3
  pointwise
  simp only [r34 X x0 x1 x2 H M hM, coe_sum]
  rfl

theorem r38 (h : Fin 16) (t s : Fin 4096) : val_main_v38 (F := Ideal) x0 x1 x2 (ix3 h t s) = (X.P h t s : EReal) := by
  unfold val_main_v38 val_main_v37 val_main_v36
  pointwise
  rw [r35 X x0 x1 x2 H M hM, r34 X x0 x1 x2 H M hM, Ideal.div_coe (X.Z_pos h t _).ne', ← EReal.coe_mul, X.P_eq h t s (M h t)]
  congr 1; ring

omit hM in
/-- The attention's result. -/
theorem value41 : val_main_v41 (F := Ideal) x0 x1 x2 = fun y => (X.O (ch (y 1)) (y 0) (cd (y 1)) : EReal) := by
  obtain ⟨M, hM⟩ := r30 X x0 x1 x2 H
  funext y
  obtain ⟨t, e, rfl⟩ : ∃ (t : Fin 4096) (e : Fin 1024), y = ix2 t e := ⟨y 0, y 1, (ix2_eta y).symm⟩
  show _ = (X.O (ch e) t (cd e) : EReal)
  unfold val_main_v41 val_main_v40 val_main_v39
  pointwise
  simp only [r7 X x0 x1 x2 H, r38 X x0 x1 x2 H M hM, ← EReal.coe_mul, coe_sum]
  unfold Data.O
  exact congrArg _ (Finset.sum_congr rfl fun s _ => mul_comm _ _)

omit hM in
theorem value58 : val_main_v58 (F := Ideal) x0 x1 x2 = fun y => (X.O (ch (y 1)) (y 0) (cd (y 1)) : EReal) :=
  value41 X x0 x1 x2 H

end Cert.FwdReferenceIdeal.Hand

end
-- ==== Proof.Setup.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! The launch set-up of the attention backward kernel: the buffers when the region is entered, the two
prefetched tables, the windows' blocks, the staging memrefs and the frame claim's post. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S36 .i32 := Memref.whole main_c
abbrev htbM0_0 : tbM0_0.IsWhole := Memref.isWhole_whole _
abbrev tbM0_1 : Memref sig .tc .smem S36 .i32 := Memref.whole main_c_0
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

abbrev ms0_0 (hO : Ok m) (t : Fin (cfgM m hO).N) : Memref sig .tc .vmem S512x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2x512x1 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x128 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S2x1x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S2x1x512 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S128x4096 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S512x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S512x128 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S2x1x512 .f32 := spec0_10.stage ((cfgM m hO).slots t 10)
abbrev hs0_10 (hO : Ok m) (t : Fin (cfgM m hO).N) : (ms0_10 m hO t).IsWhole := hstage0_10 (((cfgM m hO).slots t 10).cast nbuf0_10)
abbrev scM0_0 : Memref sig .tc .vmem S2x512x1 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The kernel body at point `t`, on what the pipeline calls it with. -/
abbrev bodyAt0 (a : (pcfg0 (F := F)).Adm) (t : Fin (cfg0 a).N) : Prog (TpuEff nD τ sig (Elt F) Λ₀ .tc) PUnit :=
  cc0_attn_bwd (grid0.coords t) (Memref.whole main_c) (Memref.isWhole_whole _) (Memref.whole main_c_0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _)

end Cert.KernelIdeal.Hand

end
-- ==== Proof.Steps.lean ====
module

public import proofs.«01_k».proof.Proof.Setup
public import Idealize.ShloMosaic.Lib.VecWindow

/-! What one grid point does to the buffers it carries, as functions of what the buffers hold: each
output block is the old block with the two head halves laid over it. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev rh0 : Rect S512x128 := Rect.unit ![0, 0] S512x64.size inb_S512x128_S512x64_0_0
abbrev rh1 : Rect S512x128 := Rect.unit ![0, 64] S512x64.size inb_S512x128_S512x64_0_64
abbrev rc0 : Rect S2x512x1 := Rect.unit ![0, 0, 0] S1x512x1.size inb_S2x512x1_S1x512x1_0_0_0
abbrev rc1 : Rect S2x512x1 := Rect.unit ![1, 0, 0] S1x512x1.size inb_S2x512x1_S1x512x1_1_0_0
abbrev rl0 : Rect S2x1x512 := Rect.unit ![0, 0, 0] S1x1x512.size inb_S2x1x512_S1x1x512_0_0_0
abbrev rl1 : Rect S2x1x512 := Rect.unit ![1, 0, 0] S1x1x512.size inb_S2x1x512_S1x1x512_1_0_0

theorem read_writes_overlay {sig : RefSig} {κ : Kind} {sp : Space} {s : Shape} {e : EltTy} {Val : EltTy → Type}
    (v : View sig κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ := r.exists_idx_of_mem hy
    exact (View.read_writes_cons_emb v f r w L x).trans (r.overlay_emb _ _ x).symm
  · exact (View.read_writes_cons_miss v f ⟨r, w⟩ L y hy).trans (r.overlay_of_not_mem _ _ hy).symm

/-- A load after a list of stores, as a load of the laid-over contents. -/
theorem readAt_writes {sig : RefSig} {κ : Kind} {sp : Space} {s : Shape} {e : EltTy} {Val : EltTy → Type}
    (v : View sig κ sp s e) (f : v.ty.Contents Val) (r : Rect s) :
    v.readAt Val r.toLoadRect f = View.ld (v.read Val f) r := rfl

theorem ld_overlay {s : Shape} {e : EltTy} {Val : EltTy → Type} (r r' : Rect s) (X : s.Idx → Val e) (w : r.shape.Idx → Val e)
    (h : ∀ x, r'.idx x ∉ r.set) : View.ld (Val := Val) (e' := e) (r.overlay X w) r' = View.ld (Val := Val) (e' := e) X r' :=
  funext fun x => r.overlay_of_not_mem X w (h x)

section
variable {sig : RefSig} {κ : Kind} {sp : Space} {s : Shape} {e : EltTy} {Val : EltTy → Type} (v : View sig κ sp s e) (f : v.ty.Contents Val)
  (r0 r1 rw : Rect s)

/-- What two stores leave. -/
theorem rd2 (p0 : r0.shape.Idx → Val e) (p1 : r1.shape.Idx → Val e) :
    v.read Val (v.writes Val f [⟨r1, p1⟩, ⟨r0, p0⟩]) = r1.overlay (r0.overlay (v.read Val f) p0) p1 := by
  rw [read_writes_overlay, read_writes_overlay]; rfl

/-- What two stores leave, the second's payload computed from a load after the first. -/
theorem rd2q (p0 : r0.shape.Idx → Val e) (P1 : (r1.shape.Idx → Val e) → r1.shape.Idx → Val e) (h : ∀ x, r1.idx x ∉ r0.set) :
    v.read Val (v.writes Val f [⟨r1, P1 (v.readAt Val r1.toLoadRect (v.writes Val f [⟨r0, p0⟩]))⟩, ⟨r0, p0⟩])
      = r1.overlay (r0.overlay (v.read Val f) p0) (P1 (View.ld (Val := Val) (e' := e) (v.read Val f) r1)) := by
  rw [rd2, readAt_writes, read_writes_overlay, ld_overlay _ _ _ _ h]; rfl

/-- What a whole fill and two stores leave. -/
theorem rd3 (Z : s.Idx → Val e) (off : Fin s.rank → ℕ) (inb : ∀ a, off a + s.size a ≤ s.size a)
    (p0 : r0.shape.Idx → Val e) (p1 : r1.shape.Idx → Val e) :
    v.read Val (v.writes Val f [⟨r1, p1⟩, ⟨r0, p0⟩, ⟨Rect.unit off s.size inb, Z⟩]) = r1.overlay (r0.overlay Z p0) p1 := by
  rw [read_writes_overlay, read_writes_overlay, View.read_writes_full]

/-- A load after a whole fill, -/
theorem cov1 [∀ e, Nonempty (Val e)] (Z : s.Idx → Val e) (off : Fin s.rank → ℕ) (inb : ∀ a, off a + s.size a ≤ s.size a) :
    v.readCov [⟨Rect.unit off s.size inb, Z⟩] r0.toLoadRect = View.ld (Val := Val) (e' := e) Z r0 := by
  unfold View.readCov
  rw [readAt_writes, View.read_writes_full]

/-- and after a whole fill and a store elsewhere. -/
theorem cov2 [∀ e, Nonempty (Val e)] (Z : s.Idx → Val e) (off : Fin s.rank → ℕ) (inb : ∀ a, off a + s.size a ≤ s.size a)
    (p0 : r0.shape.Idx → Val e) (h : ∀ x, r1.idx x ∉ r0.set) :
    v.readCov [⟨r0, p0⟩, ⟨Rect.unit off s.size inb, Z⟩] r1.toLoadRect = View.ld (Val := Val) (e' := e) Z r1 := by
  unfold View.readCov
  rw [readAt_writes, read_writes_overlay, ld_overlay _ _ _ _ h, View.read_writes_full]

/-- A load the stores cover, over any contents before them. -/
theorem readCov_ld [∀ e, Nonempty (Val e)] (L : List (View.Piece Val s e)) (r : Rect s) (h : ∀ y, ∃ p ∈ L, y ∈ p.1.set) :
    v.readCov L r.toLoadRect = View.ld (Val := Val) (e' := e) (v.read Val (v.writes Val f L)) r := by
  unfold View.readCov
  rw [readAt_writes, View.read_writes_of_cover v v.junk v f L h]

end

theorem cover_c (y : S2x512x1.Idx) : y ∈ rc1.set ∨ y ∈ rc0.set := by
  have h := (y 0).isLt
  rcases Nat.lt_or_ge (y 0).val 1 with h1 | h1
  · right; rw [Rect.mem_set_unit]; intro a
    match a with
    | ⟨0, _⟩ => exact ⟨Nat.zero_le _, h1⟩
    | ⟨1, _⟩ => exact ⟨Nat.zero_le _, (y 1).isLt⟩
    | ⟨2, _⟩ => exact ⟨Nat.zero_le _, (y 2).isLt⟩
  · left; rw [Rect.mem_set_unit]; intro a
    match a with
    | ⟨0, _⟩ => exact ⟨h1, h⟩
    | ⟨1, _⟩ => exact ⟨Nat.zero_le _, (y 1).isLt⟩
    | ⟨2, _⟩ => exact ⟨Nat.zero_le _, (y 2).isLt⟩

theorem miss_h (x) : rh1.idx x ∉ rh0.set := fun h => by
  have := (Rect.mem_set_unit.mp h) (1 : Fin 2)
  simp [LoadRect.idx, Rect.unit] at this

theorem miss_c (x) : rc1.idx x ∉ rc0.set := fun h => by
  have := (Rect.mem_set_unit.mp h) (0 : Fin 3)
  simp [LoadRect.idx, Rect.unit] at this

theorem miss_q (o0 o1 : Fin 2 → ℕ) (h0 : ∀ a, o0 a + S64x512.size a ≤ S128x4096.size a) (h1 : ∀ a, o1 a + S64x512.size a ≤ S128x4096.size a)
    (hd : o0 0 + 64 ≤ o1 0) (x) : (Rect.unit (s := S128x4096) o1 S64x512.size h1).idx x ∉ (Rect.unit (s := S128x4096) o0 S64x512.size h0).set := fun h => by
  have := (Rect.mem_set_unit.mp h) (0 : Fin 2)
  simp [LoadRect.idx, Rect.unit] at this
  omega

section
variable (x0 x1 x2 : Vec F S512x128 .bf16) (x3 : Vec F S2x512x1 .f32) (x4 : Vec F S512x128 .bf16) (x5 x6 : Vec F S2x1x512 .f32)

/-- The value gradient block after a full tile. -/
def dvF (x0 x1 x2 : Vec F S512x128 .bf16) (x3 : Vec F S2x512x1 .f32) (x4 : Vec F S512x128 .bf16) (x5 x6 : Vec F S2x1x512 .f32) (old : Vec F S512x128 .f32) : Vec F S512x128 .f32 :=
  rh1.overlay (rh0.overlay old (k0_pay18 (View.ld x0 rh0) (View.ld x1 rh0) (View.ld x4 rh0) (View.ld x3 rc0) (View.ld x5 rl0) (View.ld old rh0))) (k0_pay29 (k0_pay24 (View.ld x4 rh1)) (k0_pay25 (View.ld x0 rh1) (View.ld x1 rh1)) (View.ld x3 rc1) (View.ld x5 rl1) (View.ld old rh1))

/-- The key gradient block after a full tile. -/
def dkF (x0 x1 x2 : Vec F S512x128 .bf16) (x3 : Vec F S2x512x1 .f32) (x4 : Vec F S512x128 .bf16) (x5 x6 : Vec F S2x1x512 .f32) (old : Vec F S512x128 .f32) : Vec F S512x128 .f32 :=
  rh1.overlay (rh0.overlay old (k0_pay19 (k0_pay12 (View.ld x0 rh0)) (k0_pay17 (View.ld x0 rh0) (View.ld x1 rh0) (View.ld x4 rh0) (View.ld x3 rc0) (View.ld x5 rl0) (View.ld x2 rh0) (View.ld x6 rl0)) (View.ld old rh0))) (k0_pay30 (k0_pay22 (View.ld x0 rh1)) (k0_pay24 (View.ld x4 rh1)) (k0_pay25 (View.ld x0 rh1) (View.ld x1 rh1)) (View.ld x3 rc1) (View.ld x5 rl1) (View.ld x2 rh1) (View.ld x6 rl1) (View.ld old rh1))

/-- The gate scratch after a full tile. -/
def dsF (x0 x1 x2 : Vec F S512x128 .bf16) (x3 : Vec F S2x512x1 .f32) (x4 : Vec F S512x128 .bf16) (x5 x6 : Vec F S2x1x512 .f32) (old : Vec F S2x512x1 .f32) : Vec F S2x512x1 .f32 :=
  rc1.overlay (rc0.overlay old (k0_pay20 (k0_pay16 (View.ld x0 rh0) (View.ld x1 rh0) (View.ld x4 rh0) (View.ld x3 rc0) (View.ld x5 rl0) (View.ld x2 rh0) (View.ld x6 rl0)) (View.ld old rc0))) (k0_pay5 (k0_pay31 (View.ld old rc1)) (k0_pay32 (k0_pay24 (View.ld x4 rh1)) (k0_pay25 (View.ld x0 rh1) (View.ld x1 rh1)) (View.ld x3 rc1) (View.ld x5 rl1) (View.ld x2 rh1) (View.ld x6 rl1)))

/-- The query gradient column block after a full tile. -/
def dqF (x0 x1 x2 : Vec F S512x128 .bf16) (x3 : Vec F S2x512x1 .f32) (x4 : Vec F S512x128 .bf16) (x5 x6 : Vec F S2x1x512 .f32) (o0 o1 : Fin 2 → ℕ) (h0 : ∀ a, o0 a + S64x512.size a ≤ S128x4096.size a) (h1 : ∀ a, o1 a + S64x512.size a ≤ S128x4096.size a) (old : Vec F S128x4096 .f32) : Vec F S128x4096 .f32 :=
  (Rect.unit (s := S128x4096) o1 S64x512.size h1).overlay ((Rect.unit (s := S128x4096) o0 S64x512.size h0).overlay old (k0_pay21 (k0_pay13 (View.ld x1 rh0)) (k0_pay17 (View.ld x0 rh0) (View.ld x1 rh0) (View.ld x4 rh0) (View.ld x3 rc0) (View.ld x5 rl0) (View.ld x2 rh0) (View.ld x6 rl0)) (View.ld old (Rect.unit (s := S128x4096) o0 S64x512.size h0)))) (k0_pay6 (k0_pay23 (View.ld x1 rh1)) (k0_pay28 (k0_pay24 (View.ld x4 rh1)) (k0_pay25 (View.ld x0 rh1) (View.ld x1 rh1)) (View.ld x3 rc1) (View.ld x5 rl1) (View.ld x2 rh1) (View.ld x6 rl1)) (View.ld old (Rect.unit (s := S128x4096) o1 S64x512.size h1)))

/-- The value gradient block after a diagonal tile. -/
def dvT (x0 x1 x2 : Vec F S512x128 .bf16) (x3 : Vec F S2x512x1 .f32) (x4 : Vec F S512x128 .bf16) (x5 x6 : Vec F S2x1x512 .f32) (old : Vec F S512x128 .f32) : Vec F S512x128 .f32 :=
  rh1.overlay (rh0.overlay old (k0_pay40 (k0_pay35 (View.ld x4 rh0)) (k0_pay36 (View.ld x0 rh0) (View.ld x1 rh0) (View.ld x3 rc0) (View.ld x5 rl0)) (k0_pay39 (View.ld old rh0)))) (k0_pay50 (k0_pay44 (View.ld x0 rh1)) (k0_pay45 (View.ld x1 rh1)) (View.ld x4 rh1) (View.ld x3 rc1) (View.ld x5 rl1) (View.ld old rh1))

/-- The key gradient block after a diagonal tile. -/
def dkT (x0 x1 x2 : Vec F S512x128 .bf16) (x3 : Vec F S2x512x1 .f32) (x4 : Vec F S512x128 .bf16) (x5 x6 : Vec F S2x1x512 .f32) (old : Vec F S512x128 .f32) : Vec F S512x128 .f32 :=
  rh1.overlay (rh0.overlay old (k0_pay41 (k0_pay33 (View.ld x0 rh0)) (k0_pay38 (View.ld x0 rh0) (View.ld x1 rh0) (View.ld x4 rh0) (View.ld x3 rc0) (View.ld x5 rl0) (View.ld x2 rh0) (View.ld x6 rl0)) (View.ld old rh0))) (k0_pay7 (k0_pay51 (View.ld old rh1)) (k0_pay52 (k0_pay44 (View.ld x0 rh1)) (k0_pay45 (View.ld x1 rh1)) (View.ld x4 rh1) (View.ld x3 rc1) (View.ld x5 rl1) (View.ld x2 rh1) (View.ld x6 rl1)))

/-- The gate scratch after a diagonal tile. -/
def dsT (x0 x1 x2 : Vec F S512x128 .bf16) (x3 : Vec F S2x512x1 .f32) (x4 : Vec F S512x128 .bf16) (x5 x6 : Vec F S2x1x512 .f32) (old : Vec F S2x512x1 .f32) : Vec F S2x512x1 .f32 :=
  rc1.overlay (rc0.overlay old (k0_pay42 (k0_pay37 (View.ld x0 rh0) (View.ld x1 rh0) (View.ld x4 rh0) (View.ld x3 rc0) (View.ld x5 rl0) (View.ld x2 rh0) (View.ld x6 rl0)) (View.ld old rc0))) (k0_pay8 (k0_pay48 (k0_pay44 (View.ld x0 rh1)) (k0_pay45 (View.ld x1 rh1)) (View.ld x4 rh1) (View.ld x3 rc1) (View.ld x5 rl1) (View.ld x2 rh1) (View.ld x6 rl1)) (View.ld old rc1))

/-- The query gradient column block after a diagonal tile. -/
def dqT (x0 x1 x2 : Vec F S512x128 .bf16) (x3 : Vec F S2x512x1 .f32) (x4 : Vec F S512x128 .bf16) (x5 x6 : Vec F S2x1x512 .f32) (o0 o1 : Fin 2 → ℕ) (h0 : ∀ a, o0 a + S64x512.size a ≤ S128x4096.size a) (h1 : ∀ a, o1 a + S64x512.size a ≤ S128x4096.size a) (old : Vec F S128x4096 .f32) : Vec F S128x4096 .f32 :=
  (Rect.unit (s := S128x4096) o1 S64x512.size h1).overlay ((Rect.unit (s := S128x4096) o0 S64x512.size h0).overlay old (k0_pay43 (k0_pay34 (View.ld x1 rh0)) (k0_pay38 (View.ld x0 rh0) (View.ld x1 rh0) (View.ld x4 rh0) (View.ld x3 rc0) (View.ld x5 rl0) (View.ld x2 rh0) (View.ld x6 rl0)) (View.ld old (Rect.unit (s := S128x4096) o0 S64x512.size h0)))) (k0_pay9 (k0_pay45 (View.ld x1 rh1)) (k0_pay49 (k0_pay44 (View.ld x0 rh1)) (k0_pay45 (View.ld x1 rh1)) (View.ld x4 rh1) (View.ld x3 rc1) (View.ld x5 rl1) (View.ld x2 rh1) (View.ld x6 rl1)) (View.ld old (Rect.unit (s := S128x4096) o1 S64x512.size h1)))

end

/-- The gate gradient of the keys, both halves, taken from the scratch. -/
def dckOut (z : Vec F S2x512x1 .f32) (old : Vec F S2x1x512 .f32) : Vec F S2x1x512 .f32 :=
  rl1.overlay (rl0.overlay old (k0_pay10 (View.ld z rc0))) (k0_pay11 (View.ld z rc1))

/-- The two table words the body reads at a grid point. -/
abbrev w0 (c : Dev nD) (i : grid0.Coords) (xt : TbBuf0 (F := F) c tbM0_0) : BitVec 32 :=
  View.readAt (Elt F) tbM0_0.view (Rect.unit (s := S36) (k0_off1 i) S1.size (k0_off1_inb i)).toLoadRect xt (Shape.Idx.first (numel1_S1.symm ▸ Nat.one_pos))
abbrev w1 (c : Dev nD) (i : grid0.Coords) (xt : TbBuf0 (F := F) c tbM0_1) : BitVec 32 :=
  View.readAt (Elt F) tbM0_1.view (Rect.unit (s := S36) (k0_off1 i) S1.size (k0_off1_inb i)).toLoadRect xt (Shape.Idx.first (numel1_S1.symm ▸ Nat.one_pos))

end Cert.KernelIdeal.Hand

end
-- ==== Proof.BodyF.lean ====
module

public import proofs.«01_k».proof.Proof.Steps

/-! One grid point of the kernel, run on a full tile (query block after key block). -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The body's triple: every buffer by what it holds before and after. -/
theorem runF (c : Dev nD) (i : grid0.Coords)
    (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2x512x1 .f32) (harg7 : arg7.IsWhole) (arg8 : Memref sig .tc .vmem S512x128 .bf16) (harg8 : arg8.IsWhole) (arg9 : Memref sig .tc .vmem S2x1x512 .f32) (harg9 : arg9.IsWhole) (arg10 : Memref sig .tc .vmem S2x1x512 .f32) (harg10 : arg10.IsWhole) (arg11 : Memref sig .tc .vmem S128x4096 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S2x1x512 .f32) (harg14 : arg14.IsWhole) (arg15 : Memref sig .tc .vmem S2x512x1 .f32) (harg15 : arg15.IsWhole)
    (x0 : Vec F S512x128 .bf16) (x1 : Vec F S512x128 .bf16) (x2 : Vec F S512x128 .bf16) (x3 : Vec F S2x512x1 .f32) (x4 : Vec F S512x128 .bf16) (x5 : Vec F S2x1x512 .f32) (x6 : Vec F S2x1x512 .f32) (y7 : Vec F S128x4096 .f32) (y8 : Vec F S512x128 .f32) (y9 : Vec F S512x128 .f32) (y10 : Vec F S2x1x512 .f32) (z : Vec F S2x512x1 .f32) (xt0 : TbBuf0 (F := F) c tbM0_0) (xt1 : TbBuf0 (F := F) c tbM0_1)
    (hchk : k0_chk1 (w0 c i xt0) (w1 c i xt1)) (h1 : ¬ k0_cond1 i = 1#1) (h2 : ¬ k0_cond2 (w0 c i xt0) (w1 c i xt1) = 1#1) (h3 : k0_cond3 (w0 c i xt0) (w1 c i xt1) = 1#1) (h4 : ¬ k0_cond4 (w0 c i xt0) (w1 c i xt1) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare y7 ∗ owns (c : Thread nD τ) arg12 fullShare y8 ∗ owns (c : Thread nD τ) arg13 fullShare y9 ∗ owns (c : Thread nD τ) arg14 fullShare y10 ∗ owns (c : Thread nD τ) arg15 fullShare z ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (dqF x0 x1 x2 x3 x4 x5 x6 (k0_off2 (w0 c i xt0)) (k0_off3 (w0 c i xt0)) (k0_off2_inb _ _ hchk h3) (k0_off3_inb _ _ hchk h3) y7) ∗ owns (c : Thread nD τ) arg12 fullShare (dkF x0 x1 x2 x3 x4 x5 x6 y8) ∗ owns (c : Thread nD τ) arg13 fullShare (dvF x0 x1 x2 x3 x4 x5 x6 y9) ∗ owns (c : Thread nD τ) arg14 fullShare (if k0_cond5 (w0 c i xt0) = 1#1 then dckOut (dsF x0 x1 x2 x3 x4 x5 x6 z) y10 else y10) ∗ owns (c : Thread nD τ) arg15 fullShare (dsF x0 x1 x2 x3 x4 x5 x6 z) ∗ tbPt0 c tbM0_0 xt0 ∗ tbPt0 c tbM0_1 xt1) -∗ K ⟨⟩))
      ⊢ wp frame (wpE (defs₀ (F := F)) Variants.none c none) E (cc0_attn_bwd i tbM0_0 htbM0_0 tbM0_1 htbM0_1 arg4 harg4 arg5 harg5 arg6 harg6 arg7 harg7 arg8 harg8 arg9 harg9 arg10 harg10 arg11 harg11 arg12 harg12 arg13 harg13 arg14 harg14 arg15 harg15) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, HT0, HT1, Hk⟩
  subst hf0; subst hf1; subst hf2; subst hf3; subst hf4; subst hf5; subst hf6; subst hf7; subst hf8; subst hf9; subst hf10; subst hf11
  sl_exec
  sl_step
  iapply Hk
  have hds : arg15.view.read (Elt F) (arg15.view.writes (Elt F) f11 (runF.sl.H11_2 c arg4 arg5 arg6 arg7 arg8 arg9 arg10 arg15 f0 f1 f2 f3 f4 f5 f6 f11)) = dsF (arg4.view.read (Elt F) f0) (arg5.view.read (Elt F) f1) (arg6.view.read (Elt F) f2) (arg7.view.read (Elt F) f3) (arg8.view.read (Elt F) f4) (arg9.view.read (Elt F) f5) (arg10.view.read (Elt F) f6) (arg15.view.read (Elt F) f11) :=
    rd2 _ _ _ _ _ _
  have hcv : ∀ y, ∃ p ∈ (runF.sl.H11_2 c arg4 arg5 arg6 arg7 arg8 arg9 arg10 arg15 f0 f1 f2 f3 f4 f5 f6 f11), y ∈ p.1.set := fun y => by
    rcases cover_c y with h | h
    · exact ⟨_, List.mem_cons_self .., h⟩
    · exact ⟨_, List.mem_cons_of_mem _ (List.mem_cons_self ..), h⟩
  have hv0 : runF.sl.v19_1 c arg4 arg5 arg6 arg7 arg8 arg9 arg10 arg15 f0 f1 f2 f3 f4 f5 f6 f11 = View.ld (dsF (arg4.view.read (Elt F) f0) (arg5.view.read (Elt F) f1) (arg6.view.read (Elt F) f2) (arg7.view.read (Elt F) f3) (arg8.view.read (Elt F) f4) (arg9.view.read (Elt F) f5) (arg10.view.read (Elt F) f6) (arg15.view.read (Elt F) f11)) rc0 :=
    (readCov_ld _ f11 _ rc0 hcv).trans (by rw [hds])
  have hv1 : runF.sl.v28 c arg4 arg5 arg6 arg7 arg8 arg9 arg10 arg15 f0 f1 f2 f3 f4 f5 f6 f11 = View.ld (dsF (arg4.view.read (Elt F) f0) (arg5.view.read (Elt F) f1) (arg6.view.read (Elt F) f2) (arg7.view.read (Elt F) f3) (arg8.view.read (Elt F) f4) (arg9.view.read (Elt F) f5) (arg10.view.read (Elt F) f6) (arg15.view.read (Elt F) f11)) rc1 :=
    (readCov_ld _ f11 _ rc1 hcv).trans (by rw [hds])
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    exact rd2q _ _ (Rect.unit (s := S128x4096) (k0_off2 (w0 c i xt0)) S64x512.size (k0_off2_inb _ _ hchk h3)) (Rect.unit (s := S128x4096) (k0_off3 (w0 c i xt0)) S64x512.size (k0_off3_inb _ _ hchk h3)) _ (fun o => k0_pay6 (k0_pay23 (View.ld (arg5.view.read (Elt F) f1) rh1)) (k0_pay28 (k0_pay24 (View.ld (arg8.view.read (Elt F) f4) rh1)) (k0_pay25 (View.ld (arg4.view.read (Elt F) f0) rh1) (View.ld (arg5.view.read (Elt F) f1) rh1)) (View.ld (arg7.view.read (Elt F) f3) rc1) (View.ld (arg9.view.read (Elt F) f5) rl1) (View.ld (arg6.view.read (Elt F) f2) rh1) (View.ld (arg10.view.read (Elt F) f6) rl1)) o) (miss_q _ _ _ _ (le_refl 64))
  isplitl [H8]
  · iexists _; isplitr; swap; · iexact H8
    ipureintro
    exact rd2 _ _ rh0 rh1 _ _
  isplitl [H9]
  · iexists _; isplitr; swap; · iexact H9
    ipureintro
    exact rd2 _ _ rh0 rh1 _ _
  isplitl [H10]
  · iexists _; isplitr; swap; · iexact H10
    ipureintro
    by_cases h5 : k0_cond5 (w0 c i xt0) = 1#1
    · rw [if_pos h5, dif_pos (show k0_cond5 (runF.sl.r c i xt0) = 1#1 from h5), hv0, hv1]; exact rd2 _ _ rl0 rl1 _ _
    · rw [if_neg h5, dif_neg (show ¬ k0_cond5 (runF.sl.r c i xt0) = 1#1 from h5)]
  isplitl [H11]
  · iexists _; isplitr; swap; · iexact H11
    ipureintro
    exact hds
  isplitl [HT0]
  · iexact HT0
  iexact HT1

end Cert.KernelIdeal.Hand

end
-- ==== Proof.BodyT.lean ====
module

public import proofs.«01_k».proof.Proof.Steps

/-! One grid point of the kernel, run on a diagonal tile. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1000000 in
/-- The body's triple: every buffer by what it holds before and after. -/
theorem runT (c : Dev nD) (i : grid0.Coords)
    (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2x512x1 .f32) (harg7 : arg7.IsWhole) (arg8 : Memref sig .tc .vmem S512x128 .bf16) (harg8 : arg8.IsWhole) (arg9 : Memref sig .tc .vmem S2x1x512 .f32) (harg9 : arg9.IsWhole) (arg10 : Memref sig .tc .vmem S2x1x512 .f32) (harg10 : arg10.IsWhole) (arg11 : Memref sig .tc .vmem S128x4096 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S2x1x512 .f32) (harg14 : arg14.IsWhole) (arg15 : Memref sig .tc .vmem S2x512x1 .f32) (harg15 : arg15.IsWhole)
    (x0 : Vec F S512x128 .bf16) (x1 : Vec F S512x128 .bf16) (x2 : Vec F S512x128 .bf16) (x3 : Vec F S2x512x1 .f32) (x4 : Vec F S512x128 .bf16) (x5 : Vec F S2x1x512 .f32) (x6 : Vec F S2x1x512 .f32) (y7 : Vec F S128x4096 .f32) (y8 : Vec F S512x128 .f32) (y9 : Vec F S512x128 .f32) (y10 : Vec F S2x1x512 .f32) (z : Vec F S2x512x1 .f32) (xt0 : TbBuf0 (F := F) c tbM0_0) (xt1 : TbBuf0 (F := F) c tbM0_1)
    (hchk : k0_chk1 (w0 c i xt0) (w1 c i xt1)) (h2 : k0_cond2 (w0 c i xt0) (w1 c i xt1) = 1#1) (h3 : ¬ k0_cond3 (w0 c i xt0) (w1 c i xt1) = 1#1) (h4 : k0_cond4 (w0 c i xt0) (w1 c i xt1) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare y7 ∗ owns (c : Thread nD τ) arg12 fullShare y8 ∗ owns (c : Thread nD τ) arg13 fullShare y9 ∗ owns (c : Thread nD τ) arg14 fullShare y10 ∗ owns (c : Thread nD τ) arg15 fullShare z ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (dqT x0 x1 x2 x3 x4 x5 x6 (k0_off4 (w0 c i xt0)) (k0_off5 (w0 c i xt0)) (k0_off4_inb _ _ hchk h4) (k0_off5_inb _ _ hchk h4) (if k0_cond1 i = 1#1 then k0_pay1 else y7)) ∗ owns (c : Thread nD τ) arg12 fullShare (dkT x0 x1 x2 x3 x4 x5 x6 k0_pay2) ∗ owns (c : Thread nD τ) arg13 fullShare (dvT x0 x1 x2 x3 x4 x5 x6 k0_pay3) ∗ owns (c : Thread nD τ) arg14 fullShare (if k0_cond5 (w0 c i xt0) = 1#1 then dckOut (dsT x0 x1 x2 x3 x4 x5 x6 k0_pay4) y10 else y10) ∗ owns (c : Thread nD τ) arg15 fullShare (dsT x0 x1 x2 x3 x4 x5 x6 k0_pay4) ∗ tbPt0 c tbM0_0 xt0 ∗ tbPt0 c tbM0_1 xt1) -∗ K ⟨⟩))
      ⊢ wp frame (wpE (defs₀ (F := F)) Variants.none c none) E (cc0_attn_bwd i tbM0_0 htbM0_0 tbM0_1 htbM0_1 arg4 harg4 arg5 harg5 arg6 harg6 arg7 harg7 arg8 harg8 arg9 harg9 arg10 harg10 arg11 harg11 arg12 harg12 arg13 harg13 arg14 harg14 arg15 harg15) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, HT0, HT1, Hk⟩
  subst hf0; subst hf1; subst hf2; subst hf3; subst hf4; subst hf5; subst hf6; subst hf7; subst hf8; subst hf9; subst hf10; subst hf11
  sl_exec
  sl_step
  iapply Hk
  have hl0ds : runT.sl.v64 (F := F) c arg15 = View.ld (Val := Elt F) (e' := .f32) k0_pay4 rc0 := cov1 (Val := Elt F) (e := .f32) arg15.view rc0 k0_pay4 ![0, 0, 0] inb_S2x512x1_S2x512x1_0_0_0
  have hl1ds : runT.sl.v124 (F := F) c arg4 arg5 arg6 arg7 arg8 arg9 arg10 arg15 f0 f1 f2 f3 f4 f5 f6 = View.ld (Val := Elt F) (e' := .f32) k0_pay4 rc1 := cov2 (Val := Elt F) (e := .f32) arg15.view rc0 rc1 k0_pay4 ![0, 0, 0] inb_S2x512x1_S2x512x1_0_0_0 _ miss_c
  have hfds : arg15.view.read (Elt F) (arg15.view.writes (Elt F) f11 (runT.sl.H11_3 c arg4 arg5 arg6 arg7 arg8 arg9 arg10 arg15 f0 f1 f2 f3 f4 f5 f6))
      = rc1.overlay (rc0.overlay k0_pay4 (k0_pay42 (k0_pay37 (View.ld (arg4.view.read (Elt F) f0) rh0) (View.ld (arg5.view.read (Elt F) f1) rh0) (View.ld (arg8.view.read (Elt F) f4) rh0) (View.ld (arg7.view.read (Elt F) f3) rc0) (View.ld (arg9.view.read (Elt F) f5) rl0) (View.ld (arg6.view.read (Elt F) f2) rh0) (View.ld (arg10.view.read (Elt F) f6) rl0)) (runT.sl.v64 (F := F) c arg15))) (k0_pay8 (k0_pay48 (k0_pay44 (View.ld (arg4.view.read (Elt F) f0) rh1)) (k0_pay45 (View.ld (arg5.view.read (Elt F) f1) rh1)) (View.ld (arg8.view.read (Elt F) f4) rh1) (View.ld (arg7.view.read (Elt F) f3) rc1) (View.ld (arg9.view.read (Elt F) f5) rl1) (View.ld (arg6.view.read (Elt F) f2) rh1) (View.ld (arg10.view.read (Elt F) f6) rl1)) (runT.sl.v124 (F := F) c arg4 arg5 arg6 arg7 arg8 arg9 arg10 arg15 f0 f1 f2 f3 f4 f5 f6)) :=
    rd3 (Val := Elt F) (e := .f32) arg15.view f11 rc0 rc1 k0_pay4 ![0, 0, 0] inb_S2x512x1_S2x512x1_0_0_0 _ _
  rw [hl0ds, hl1ds] at hfds
  have hl0dk : runT.sl.v59 (F := F) c arg12 = View.ld (Val := Elt F) (e' := .f32) k0_pay2 rh0 := cov1 (Val := Elt F) (e := .f32) arg12.view rh0 k0_pay2 ![0, 0] inb_S512x128_S512x128_0_0
  have hl1dk : runT.sl.v119 (F := F) c arg4 arg5 arg6 arg7 arg8 arg9 arg10 arg12 f0 f1 f2 f3 f4 f5 f6 = View.ld (Val := Elt F) (e' := .f32) k0_pay2 rh1 := cov2 (Val := Elt F) (e := .f32) arg12.view rh0 rh1 k0_pay2 ![0, 0] inb_S512x128_S512x128_0_0 _ miss_h
  have hfdk : arg12.view.read (Elt F) (arg12.view.writes (Elt F) f8 (runT.sl.H8_3 c arg4 arg5 arg6 arg7 arg8 arg9 arg10 arg12 f0 f1 f2 f3 f4 f5 f6))
      = rh1.overlay (rh0.overlay k0_pay2 (k0_pay41 (k0_pay33 (View.ld (arg4.view.read (Elt F) f0) rh0)) (k0_pay38 (View.ld (arg4.view.read (Elt F) f0) rh0) (View.ld (arg5.view.read (Elt F) f1) rh0) (View.ld (arg8.view.read (Elt F) f4) rh0) (View.ld (arg7.view.read (Elt F) f3) rc0) (View.ld (arg9.view.read (Elt F) f5) rl0) (View.ld (arg6.view.read (Elt F) f2) rh0) (View.ld (arg10.view.read (Elt F) f6) rl0)) (runT.sl.v59 (F := F) c arg12))) (k0_pay7 (k0_pay51 (runT.sl.v119 (F := F) c arg4 arg5 arg6 arg7 arg8 arg9 arg10 arg12 f0 f1 f2 f3 f4 f5 f6)) (k0_pay52 (k0_pay44 (View.ld (arg4.view.read (Elt F) f0) rh1)) (k0_pay45 (View.ld (arg5.view.read (Elt F) f1) rh1)) (View.ld (arg8.view.read (Elt F) f4) rh1) (View.ld (arg7.view.read (Elt F) f3) rc1) (View.ld (arg9.view.read (Elt F) f5) rl1) (View.ld (arg6.view.read (Elt F) f2) rh1) (View.ld (arg10.view.read (Elt F) f6) rl1))) :=
    rd3 (Val := Elt F) (e := .f32) arg12.view f8 rh0 rh1 k0_pay2 ![0, 0] inb_S512x128_S512x128_0_0 _ _
  rw [hl0dk, hl1dk] at hfdk
  have hl0dv : runT.sl.v53 (F := F) c arg13 = View.ld (Val := Elt F) (e' := .f32) k0_pay3 rh0 := cov1 (Val := Elt F) (e := .f32) arg13.view rh0 k0_pay3 ![0, 0] inb_S512x128_S512x128_0_0
  have hl1dv : runT.sl.v113 (F := F) c arg4 arg5 arg7 arg8 arg9 arg13 f0 f1 f3 f4 f5 = View.ld (Val := Elt F) (e' := .f32) k0_pay3 rh1 := cov2 (Val := Elt F) (e := .f32) arg13.view rh0 rh1 k0_pay3 ![0, 0] inb_S512x128_S512x128_0_0 _ miss_h
  have hfdv : arg13.view.read (Elt F) (arg13.view.writes (Elt F) f9 (runT.sl.H9_3 c arg4 arg5 arg7 arg8 arg9 arg13 f0 f1 f3 f4 f5))
      = rh1.overlay (rh0.overlay k0_pay3 (k0_pay40 (k0_pay35 (View.ld (arg8.view.read (Elt F) f4) rh0)) (k0_pay36 (View.ld (arg4.view.read (Elt F) f0) rh0) (View.ld (arg5.view.read (Elt F) f1) rh0) (View.ld (arg7.view.read (Elt F) f3) rc0) (View.ld (arg9.view.read (Elt F) f5) rl0)) (k0_pay39 (runT.sl.v53 (F := F) c arg13)))) (k0_pay50 (k0_pay44 (View.ld (arg4.view.read (Elt F) f0) rh1)) (k0_pay45 (View.ld (arg5.view.read (Elt F) f1) rh1)) (View.ld (arg8.view.read (Elt F) f4) rh1) (View.ld (arg7.view.read (Elt F) f3) rc1) (View.ld (arg9.view.read (Elt F) f5) rl1) (runT.sl.v113 (F := F) c arg4 arg5 arg7 arg8 arg9 arg13 f0 f1 f3 f4 f5)) :=
    rd3 (Val := Elt F) (e := .f32) arg13.view f9 rh0 rh1 k0_pay3 ![0, 0] inb_S512x128_S512x128_0_0 _ _
  rw [hl0dv, hl1dv] at hfdv
  have hds : arg15.view.read (Elt F) (arg15.view.writes (Elt F) f11 (runT.sl.H11_3 c arg4 arg5 arg6 arg7 arg8 arg9 arg10 arg15 f0 f1 f2 f3 f4 f5 f6)) = dsT (arg4.view.read (Elt F) f0) (arg5.view.read (Elt F) f1) (arg6.view.read (Elt F) f2) (arg7.view.read (Elt F) f3) (arg8.view.read (Elt F) f4) (arg9.view.read (Elt F) f5) (arg10.view.read (Elt F) f6) k0_pay4 :=
    hfds
  have hcv : ∀ y, ∃ p ∈ (runT.sl.H11_3 c arg4 arg5 arg6 arg7 arg8 arg9 arg10 arg15 f0 f1 f2 f3 f4 f5 f6), y ∈ p.1.set := fun y => by
    rcases cover_c y with h | h
    · exact ⟨_, List.mem_cons_self .., h⟩
    · exact ⟨_, List.mem_cons_of_mem _ (List.mem_cons_self ..), h⟩
  have hv0 : runT.sl.v19_1 c arg4 arg5 arg6 arg7 arg8 arg9 arg10 arg15 f0 f1 f2 f3 f4 f5 f6 = View.ld (dsT (arg4.view.read (Elt F) f0) (arg5.view.read (Elt F) f1) (arg6.view.read (Elt F) f2) (arg7.view.read (Elt F) f3) (arg8.view.read (Elt F) f4) (arg9.view.read (Elt F) f5) (arg10.view.read (Elt F) f6) k0_pay4) rc0 :=
    (readCov_ld _ f11 _ rc0 hcv).trans (by rw [hds])
  have hv1 : runT.sl.v28 c arg4 arg5 arg6 arg7 arg8 arg9 arg10 arg15 f0 f1 f2 f3 f4 f5 f6 = View.ld (dsT (arg4.view.read (Elt F) f0) (arg5.view.read (Elt F) f1) (arg6.view.read (Elt F) f2) (arg7.view.read (Elt F) f3) (arg8.view.read (Elt F) f4) (arg9.view.read (Elt F) f5) (arg10.view.read (Elt F) f6) k0_pay4) rc1 :=
    (readCov_ld _ f11 _ rc1 hcv).trans (by rw [hds])
  isplitl [H0]
  · iexists _; isplitr; swap; · iexact H0
    ipureintro
    rfl
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rfl
  isplitl [H7]
  · iexists _; isplitr; swap; · iexact H7
    ipureintro
    have hz : arg11.view.read (Elt F) (if hc : k0_cond1 i = 1#1 then arg11.view.writes (Elt F) f7 [⟨Rect.unit ![0, 0] ![128, 4096] inb_S128x4096_S128x4096_0_0, k0_pay1⟩] else f7)
        = if k0_cond1 i = 1#1 then k0_pay1 else arg11.view.read (Elt F) f7 := by
      split
      · exact View.read_writes_full _ _ _ _ _
      · rfl
    rw [← hz]
    exact rd2q _ _ (Rect.unit (s := S128x4096) (k0_off4 (w0 c i xt0)) S64x512.size (k0_off4_inb _ _ hchk h4)) (Rect.unit (s := S128x4096) (k0_off5 (w0 c i xt0)) S64x512.size (k0_off5_inb _ _ hchk h4)) _ (fun o => k0_pay9 (k0_pay45 (View.ld (arg5.view.read (Elt F) f1) rh1)) (k0_pay49 (k0_pay44 (View.ld (arg4.view.read (Elt F) f0) rh1)) (k0_pay45 (View.ld (arg5.view.read (Elt F) f1) rh1)) (View.ld (arg8.view.read (Elt F) f4) rh1) (View.ld (arg7.view.read (Elt F) f3) rc1) (View.ld (arg9.view.read (Elt F) f5) rl1) (View.ld (arg6.view.read (Elt F) f2) rh1) (View.ld (arg10.view.read (Elt F) f6) rl1)) o) (miss_q _ _ _ _ (le_refl 64))
  isplitl [H8]
  · iexists _; isplitr; swap; · iexact H8
    ipureintro
    exact hfdk
  isplitl [H9]
  · iexists _; isplitr; swap; · iexact H9
    ipureintro
    exact hfdv
  isplitl [H10]
  · iexists _; isplitr; swap; · iexact H10
    ipureintro
    by_cases h5 : k0_cond5 (w0 c i xt0) = 1#1
    · rw [if_pos h5, dif_pos (show k0_cond5 (runT.sl.r c i xt0) = 1#1 from h5), hv0, hv1]; exact rd2 _ _ rl0 rl1 _ _
    · rw [if_neg h5, dif_neg (show ¬ k0_cond5 (runT.sl.r c i xt0) = 1#1 from h5)]
  isplitl [H11]
  · iexists _; isplitr; swap; · iexact H11
    ipureintro
    exact hds
  isplitl [HT0]
  · iexact HT0
  iexact HT1

end Cert.KernelIdeal.Hand

end
-- ==== Proof.Tables.lean ====
module

public import proofs.«01_k».proof.Proof.Setup
public import Idealize.ShloMosaic.Lib.StableHlo.RunRead
public import Idealize.ShloMosaic.Lib.Affine

/-! The two prefetched tables: the tiles of the lower triangle, column by column. Grid point `(h, s)` works on
query block `lit0 s` and key block `lit1 s`; from this the side condition of the launch and the body's
conditions are decided once over the 36 tiles. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL.Sem

variable {F : FTy → Type} [FloatOps F] [Named F]

variable (m : (ℓ : Loc nD τ sig) → Buf (Elt F) ℓ)

theorem tbl_zero : tbl m 0 = fun i => lit0 (S36.rowMajor i) := by
  show StableHlo.after hostOps0 (fun b => m (0, b)) (Proc.devRef .tc main_c) = _
  after_reads_simp
  rfl

theorem tbl_one : tbl m 1 = fun i => lit1 (S36.rowMajor i) := by
  show StableHlo.after hostOps0 (fun b => m (0, b)) (Proc.devRef .tc main_c_0) = _
  after_reads_simp
  rfl

/-- The tile of a grid point. -/
abbrev tileOf (i : grid0.Coords) : Fin 36 := i 1

/-- A one-word rectangle at the tile's index names the table's element there. -/
theorem rowMajor_word (i : grid0.Coords) (x : S36.Idx) (h : (x 0).val = (k0_off1 i) 0) : S36.rowMajor x = tileOf i := by
  apply Fin.ext
  have h2 : (S36.rowMajor x).val = (x 0).val := by
    show (Shape.rowMajorPi S36.size x).val = _
    rw [Shape.rowMajorPi_succ_val]
    simp
    exact Nat.lt_one_iff.mp (lt_of_lt_of_eq (Fin.isLt _) (by simp))
  rw [h2, h]
  show (Scalar.indexCast (BitVec.ofNat 32 (i 1).val)).toNat = (i 1).val
  have := (i 1).isLt
  have h3 : (i 1).val < 36 := this
  simp [Scalar.indexCast]
  omega

theorem at_zero (i : grid0.Coords) : (tbl m).at 0 (Rect.unit (s := S36) (k0_off1 i) S1.size (k0_off1_inb i)) numel1_S1 = lit0 (tileOf i) := by
  show tbl m 0 _ = _
  rw [tbl_zero]
  exact congrArg lit0 (rowMajor_word i _ (by simp [LoadRect.idx, Rect.unit, Rect.emb]; try rfl))

theorem at_one (i : grid0.Coords) : (tbl m).at 1 (Rect.unit (s := S36) (k0_off1 i) S1.size (k0_off1_inb i)) numel1_S1 = lit1 (tileOf i) := by
  show tbl m 1 _ = _
  rw [tbl_one]
  exact congrArg lit1 (rowMajor_word i _ (by simp [LoadRect.idx, Rect.unit, Rect.emb]; try rfl))

theorem atD_zero (i : grid0.Coords) : (tbl m).atD 0 (k0_off1 i) = lit0 (tileOf i) := by
  refine (dif_pos (fun a => by match a with | ⟨0, _⟩ => exact k0_off1_inb i 0)).trans ?_
  rw [tbl_zero]
  exact congrArg lit0 (rowMajor_word i _ rfl)

theorem atD_one (i : grid0.Coords) : (tbl m).atD 1 (k0_off1 i) = lit1 (tileOf i) := by
  refine (dif_pos (fun a => by match a with | ⟨0, _⟩ => exact k0_off1_inb i 0)).trans ?_
  rw [tbl_one]
  exact congrArg lit1 (rowMajor_word i _ rfl)

theorem lit0_lt : ∀ s, (lit0 s).toNat < 8 := by decide +kernel
theorem lit1_lt : ∀ s, (lit1 s).toNat < 8 := by decide +kernel
theorem chk_lit : ∀ s, k0_chk1 (lit0 s) (lit1 s) := by decide +kernel

theorem coord0_toNat (i : grid0.Coords) : (BitVec.ofNat 32 (i 0).val).toNat = (i 0).val := by
  have h : (i 0).val < 8 := (i 0).isLt
  simp; omega

theorem coord0_add (i : grid0.Coords) : (Scalar.addi 8#32 (BitVec.ofNat 32 (i 0).val)).toNat = 8 + (i 0).val := by
  have h : (i 0).val < 8 := (i 0).isLt
  simp [Scalar.addi, IntOp.addi]; omega

theorem tr0 (i : grid0.Coords) : cc0_transform_0 k0_off1_inb numel1_S1 (tbl m) i = ![(lit0 (tileOf i)).toNat, (i 0).val] := by
  have h := at_zero m i
  have h0 := coord0_toNat i
  show ![((tbl m).at 0 (Rect.unit (s := S36) (k0_off1 i) S1.size (k0_off1_inb i)) numel1_S1).toNat, (BitVec.ofNat 32 (i 0).val).toNat] = _
  rw [h, h0]

theorem tr1 (i : grid0.Coords) : cc0_transform_1 k0_off1_inb numel1_S1 (tbl m) i = ![(lit1 (tileOf i)).toNat, (i 0).val] := by
  have h := at_one m i
  have h0 := coord0_toNat i
  show ![((tbl m).at 1 (Rect.unit (s := S36) (k0_off1 i) S1.size (k0_off1_inb i)) numel1_S1).toNat, (BitVec.ofNat 32 (i 0).val).toNat] = _
  rw [h, h0]

theorem tr2 (i : grid0.Coords) : cc0_transform_2 k0_off1_inb numel1_S1 (tbl m) i = ![(lit1 (tileOf i)).toNat, 8 + (i 0).val] := by
  have h := at_one m i
  have h0 := coord0_toNat i
  have h1 := coord0_add i
  show ![((tbl m).at 1 (Rect.unit (s := S36) (k0_off1 i) S1.size (k0_off1_inb i)) numel1_S1).toNat, (Scalar.addi 8#32 (BitVec.ofNat 32 (i 0).val)).toNat] = _
  rw [h, h1]

theorem tr3 (i : grid0.Coords) : cc0_transform_3 k0_off1_inb numel1_S1 (tbl m) i = ![(i 0).val, (lit1 (tileOf i)).toNat, 0] := by
  have h := at_one m i
  have h0 := coord0_toNat i
  show ![(BitVec.ofNat 32 (i 0).val).toNat, ((tbl m).at 1 (Rect.unit (s := S36) (k0_off1 i) S1.size (k0_off1_inb i)) numel1_S1).toNat, 0] = _
  rw [h, h0]

theorem tr4 (i : grid0.Coords) : cc0_transform_4 k0_off1_inb numel1_S1 (tbl m) i = ![(lit0 (tileOf i)).toNat, (i 0).val] := by
  have h := at_zero m i
  have h0 := coord0_toNat i
  show ![((tbl m).at 0 (Rect.unit (s := S36) (k0_off1 i) S1.size (k0_off1_inb i)) numel1_S1).toNat, (BitVec.ofNat 32 (i 0).val).toNat] = _
  rw [h, h0]

theorem tr5 (i : grid0.Coords) : cc0_transform_5 k0_off1_inb numel1_S1 (tbl m) i = ![(i 0).val, 0, (lit0 (tileOf i)).toNat] := by
  have h := at_zero m i
  have h0 := coord0_toNat i
  show ![(BitVec.ofNat 32 (i 0).val).toNat, 0, ((tbl m).at 0 (Rect.unit (s := S36) (k0_off1 i) S1.size (k0_off1_inb i)) numel1_S1).toNat] = _
  rw [h, h0]

theorem tr6 (i : grid0.Coords) : cc0_transform_6 k0_off1_inb numel1_S1 (tbl m) i = ![(i 0).val, 0, (lit0 (tileOf i)).toNat] := by
  have h := at_zero m i
  have h0 := coord0_toNat i
  show ![(BitVec.ofNat 32 (i 0).val).toNat, 0, ((tbl m).at 0 (Rect.unit (s := S36) (k0_off1 i) S1.size (k0_off1_inb i)) numel1_S1).toNat] = _
  rw [h, h0]

theorem tr8 (i : grid0.Coords) : cc0_transform_8 k0_off1_inb numel1_S1 (tbl m) i = ![(lit1 (tileOf i)).toNat, (i 0).val] := by
  have h := at_one m i
  have h0 := coord0_toNat i
  show ![((tbl m).at 1 (Rect.unit (s := S36) (k0_off1 i) S1.size (k0_off1_inb i)) numel1_S1).toNat, (BitVec.ofNat 32 (i 0).val).toNat] = _
  rw [h, h0]

theorem tr9 (i : grid0.Coords) : cc0_transform_9 k0_off1_inb numel1_S1 (tbl m) i = ![(lit1 (tileOf i)).toNat, (i 0).val] := by
  have h := at_one m i
  have h0 := coord0_toNat i
  show ![((tbl m).at 1 (Rect.unit (s := S36) (k0_off1 i) S1.size (k0_off1_inb i)) numel1_S1).toNat, (BitVec.ofNat 32 (i 0).val).toNat] = _
  rw [h, h0]

theorem tr10 (i : grid0.Coords) : cc0_transform_10 k0_off1_inb numel1_S1 (tbl m) i = ![(i 0).val, 0, (lit1 (tileOf i)).toNat] := by
  have h := at_one m i
  have h0 := coord0_toNat i
  show ![(BitVec.ofNat 32 (i 0).val).toNat, 0, ((tbl m).at 1 (Rect.unit (s := S36) (k0_off1 i) S1.size (k0_off1_inb i)) numel1_S1).toNat] = _
  rw [h, h0]

theorem blk0 (i : grid0.Coords) : ∀ a, (![(lit0 (tileOf i)).toNat, (i 0).val] a + 1) * S512x128.size a ≤ S4096x1024.size a := by
  have h := lit0_lt (tileOf i)
  have h1 := lit1_lt (tileOf i)
  have h0 : (i 0).val < 8 := (i 0).isLt
  intro a
  match a with
  | ⟨0, _⟩ => simp; try omega
  | ⟨1, _⟩ => simp; try omega

theorem blk1 (i : grid0.Coords) : ∀ a, (![(lit1 (tileOf i)).toNat, (i 0).val] a + 1) * S512x128.size a ≤ S4096x2048.size a := by
  have h := lit0_lt (tileOf i)
  have h1 := lit1_lt (tileOf i)
  have h0 : (i 0).val < 8 := (i 0).isLt
  intro a
  match a with
  | ⟨0, _⟩ => simp; try omega
  | ⟨1, _⟩ => simp; try omega

theorem blk2 (i : grid0.Coords) : ∀ a, (![(lit1 (tileOf i)).toNat, 8 + (i 0).val] a + 1) * S512x128.size a ≤ S4096x2048.size a := by
  have h := lit0_lt (tileOf i)
  have h1 := lit1_lt (tileOf i)
  have h0 : (i 0).val < 8 := (i 0).isLt
  intro a
  match a with
  | ⟨0, _⟩ => simp; try omega
  | ⟨1, _⟩ => simp; try omega

theorem blk3 (i : grid0.Coords) : ∀ a, (![(i 0).val, (lit1 (tileOf i)).toNat, 0] a + 1) * S2x512x1.size a ≤ S16x4096x1.size a := by
  have h := lit0_lt (tileOf i)
  have h1 := lit1_lt (tileOf i)
  have h0 : (i 0).val < 8 := (i 0).isLt
  intro a
  match a with
  | ⟨0, _⟩ => simp; try omega
  | ⟨1, _⟩ => simp; try omega
  | ⟨2, _⟩ => simp; try omega

theorem blk4 (i : grid0.Coords) : ∀ a, (![(lit0 (tileOf i)).toNat, (i 0).val] a + 1) * S512x128.size a ≤ S4096x1024.size a := by
  have h := lit0_lt (tileOf i)
  have h1 := lit1_lt (tileOf i)
  have h0 : (i 0).val < 8 := (i 0).isLt
  intro a
  match a with
  | ⟨0, _⟩ => simp; try omega
  | ⟨1, _⟩ => simp; try omega

theorem blk5 (i : grid0.Coords) : ∀ a, (![(i 0).val, 0, (lit0 (tileOf i)).toNat] a + 1) * S2x1x512.size a ≤ S16x1x4096.size a := by
  have h := lit0_lt (tileOf i)
  have h1 := lit1_lt (tileOf i)
  have h0 : (i 0).val < 8 := (i 0).isLt
  intro a
  match a with
  | ⟨0, _⟩ => simp; try omega
  | ⟨1, _⟩ => simp; try omega
  | ⟨2, _⟩ => simp; try omega

theorem blk6 (i : grid0.Coords) : ∀ a, (![(i 0).val, 0, (lit0 (tileOf i)).toNat] a + 1) * S2x1x512.size a ≤ S16x1x4096.size a := by
  have h := lit0_lt (tileOf i)
  have h1 := lit1_lt (tileOf i)
  have h0 : (i 0).val < 8 := (i 0).isLt
  intro a
  match a with
  | ⟨0, _⟩ => simp; try omega
  | ⟨1, _⟩ => simp; try omega
  | ⟨2, _⟩ => simp; try omega

theorem blk8 (i : grid0.Coords) : ∀ a, (![(lit1 (tileOf i)).toNat, (i 0).val] a + 1) * S512x128.size a ≤ S4096x1024.size a := by
  have h := lit0_lt (tileOf i)
  have h1 := lit1_lt (tileOf i)
  have h0 : (i 0).val < 8 := (i 0).isLt
  intro a
  match a with
  | ⟨0, _⟩ => simp; try omega
  | ⟨1, _⟩ => simp; try omega

theorem blk9 (i : grid0.Coords) : ∀ a, (![(lit1 (tileOf i)).toNat, (i 0).val] a + 1) * S512x128.size a ≤ S4096x1024.size a := by
  have h := lit0_lt (tileOf i)
  have h1 := lit1_lt (tileOf i)
  have h0 : (i 0).val < 8 := (i 0).isLt
  intro a
  match a with
  | ⟨0, _⟩ => simp; try omega
  | ⟨1, _⟩ => simp; try omega

theorem blk10 (i : grid0.Coords) : ∀ a, (![(i 0).val, 0, (lit1 (tileOf i)).toNat] a + 1) * S2x1x512.size a ≤ S16x1x4096.size a := by
  have h := lit0_lt (tileOf i)
  have h1 := lit1_lt (tileOf i)
  have h0 : (i 0).val < 8 := (i 0).isLt
  intro a
  match a with
  | ⟨0, _⟩ => simp; try omega
  | ⟨1, _⟩ => simp; try omega
  | ⟨2, _⟩ => simp; try omega

/-- The launch's side condition of the tables. -/
theorem ok : Ok m := by
  refine ⟨fun i => ⟨by rw [tr0]; exact blk0 i, .inr (Affine.block_words_dvd (by decide) (by decide))⟩,
    fun i => ⟨by rw [tr1]; exact blk1 i, .inr (Affine.block_words_dvd (by decide) (by decide))⟩,
    fun i => ⟨by rw [tr2]; exact blk2 i, .inr (Affine.block_words_dvd (by decide) (by decide))⟩,
    fun i => ⟨by rw [tr3]; exact blk3 i, .inl rfl⟩,
    fun i => ⟨by rw [tr4]; exact blk4 i, .inr (Affine.block_words_dvd (by decide) (by decide))⟩,
    fun i => ⟨by rw [tr5]; exact blk5 i, .inl rfl⟩,
    fun i => ⟨by rw [tr6]; exact blk6 i, .inl rfl⟩,
    fun i => ⟨by rw [tr8]; exact blk8 i, .inl rfl⟩,
    fun i => ⟨by rw [tr9]; exact blk9 i, .inl rfl⟩,
    fun i => ⟨by rw [tr10]; exact blk10 i, .inl rfl⟩⟩

theorem w0_eq (c : Dev nD) (i : grid0.Coords) : View.readAt (Elt F) tbM0_0.view (Rect.unit (s := S36) (k0_off1 i) S1.size (k0_off1_inb i)).toLoadRect (tbl m 0) (Shape.Idx.first (numel1_S1.symm ▸ Nat.one_pos)) = lit0 (tileOf i) := at_zero m i
theorem w1_eq (c : Dev nD) (i : grid0.Coords) : View.readAt (Elt F) tbM0_1.view (Rect.unit (s := S36) (k0_off1 i) S1.size (k0_off1_inb i)).toLoadRect (tbl m 1) (Shape.Idx.first (numel1_S1.symm ▸ Nat.one_pos)) = lit1 (tileOf i) := at_one m i

/-- What the body checks of the two table words holds at every grid point. -/
theorem chk (c : Dev nD) (i : grid0.Coords) :
    k0_chk1 (View.readAt (Elt F) tbM0_0.view (Rect.unit (s := S36) (k0_off1 i) S1.size (k0_off1_inb i)).toLoadRect (tbl m 0) (Shape.Idx.first (numel1_S1.symm ▸ Nat.one_pos)))
      (View.readAt (Elt F) tbM0_1.view (Rect.unit (s := S36) (k0_off1 i) S1.size (k0_off1_inb i)).toLoadRect (tbl m 1) (Shape.Idx.first (numel1_S1.symm ▸ Nat.one_pos))) := by
  rw [w0_eq m c, w1_eq m c]; exact chk_lit _

/-- Each tile is on the diagonal or below it, -/
theorem lit_cases : ∀ s, (k0_cond2 (lit0 s) (lit1 s) = 1#1 ∧ ¬ k0_cond3 (lit0 s) (lit1 s) = 1#1 ∧ k0_cond4 (lit0 s) (lit1 s) = 1#1)
    ∨ (s ≠ 0 ∧ ¬ k0_cond2 (lit0 s) (lit1 s) = 1#1 ∧ k0_cond3 (lit0 s) (lit1 s) = 1#1 ∧ ¬ k0_cond4 (lit0 s) (lit1 s) = 1#1) := by decide +kernel

/-- and the first condition of the body holds at the first tile alone. -/
theorem cond1_iff (i : grid0.Coords) : k0_cond1 i = 1#1 ↔ tileOf i = 0 := by
  have key : ∀ s : Fin 36, (Scalar.cmpi .ne (Scalar.extui (Scalar.cmpi .eq (BitVec.ofNat 32 s.val) 0#32) : BitVec 32) 0#32 : BitVec 1) = 1#1 ↔ s = 0 := by decide +kernel
  exact key (tileOf i)

end Cert.KernelIdeal.Hand

end
-- ==== Proof.Vals.lean ====
module

public import proofs.«01_k».proof.Proof.BodyF
public import proofs.«01_k».proof.Proof.BodyT
public import proofs.«01_k».proof.Proof.Tables

/-! What the buffers hold along the grid: one recursion over the points, a step of it a diagonal tile or a full one. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- What is carried from point to point: the query gradient's block, the key and value gradients' blocks and the
gate scratch. -/
structure St (F : FTy → Type) where
  q : Vec F S128x4096 .f32
  k : Vec F S512x128 .f32
  v : Vec F S512x128 .f32
  s : Vec F S2x512x1 .f32

/-- The offsets of the tile's two column blocks in the query gradient. -/
abbrev qo0 (s : Fin 36) : Fin 2 → ℕ := ![0, 512 * (lit0 s).toNat]
abbrev qo1 (s : Fin 36) : Fin 2 → ℕ := ![64, 512 * (lit0 s).toNat]
theorem qo0_inb (s : Fin 36) : ∀ a, qo0 s a + S64x512.size a ≤ S128x4096.size a := by
  have h := lit0_lt s
  intro a
  match a with
  | ⟨0, _⟩ => simp
  | ⟨1, _⟩ => simp; omega
theorem qo1_inb (s : Fin 36) : ∀ a, qo1 s a + S64x512.size a ≤ S128x4096.size a := by
  have h := lit0_lt s
  intro a
  match a with
  | ⟨0, _⟩ => simp
  | ⟨1, _⟩ => simp; omega
theorem off2_lit : ∀ s a, k0_off2 (lit0 s) a = qo0 s a := by decide +kernel
theorem off3_lit : ∀ s a, k0_off3 (lit0 s) a = qo1 s a := by decide +kernel
theorem off4_lit : ∀ s a, k0_off4 (lit0 s) a = qo0 s a := by decide +kernel
theorem off5_lit : ∀ s a, k0_off5 (lit0 s) a = qo1 s a := by decide +kernel

/-- The tile of a diagonal. -/
abbrev Diag (s : Fin 36) : Prop := k0_cond2 (lit0 s) (lit1 s) = 1#1

theorem diag_conds : ∀ s, Diag s → ¬ k0_cond3 (lit0 s) (lit1 s) = 1#1 ∧ k0_cond4 (lit0 s) (lit1 s) = 1#1 := by decide +kernel
theorem full_conds : ∀ s, ¬ Diag s → s ≠ 0 ∧ k0_cond3 (lit0 s) (lit1 s) = 1#1 ∧ ¬ k0_cond4 (lit0 s) (lit1 s) = 1#1 := by decide +kernel

section
variable (hO : Ok m) (c : Dev nD)

/-- One grid point. -/
def step (t : Fin grid0.N) (σ : St F) : St F :=
  if Diag (tileOf (grid0.coords t)) then
    { q := dqT (iblk m hO c 0 t) (iblk m hO c 1 t) (iblk m hO c 2 t) (iblk m hO c 3 t) (iblk m hO c 4 t) (iblk m hO c 5 t) (iblk m hO c 6 t) (qo0 (tileOf (grid0.coords t))) (qo1 (tileOf (grid0.coords t))) (qo0_inb _) (qo1_inb _) (if k0_cond1 (grid0.coords t) = 1#1 then k0_pay1 else σ.q)
      k := dkT (iblk m hO c 0 t) (iblk m hO c 1 t) (iblk m hO c 2 t) (iblk m hO c 3 t) (iblk m hO c 4 t) (iblk m hO c 5 t) (iblk m hO c 6 t) k0_pay2
      v := dvT (iblk m hO c 0 t) (iblk m hO c 1 t) (iblk m hO c 2 t) (iblk m hO c 3 t) (iblk m hO c 4 t) (iblk m hO c 5 t) (iblk m hO c 6 t) k0_pay3
      s := dsT (iblk m hO c 0 t) (iblk m hO c 1 t) (iblk m hO c 2 t) (iblk m hO c 3 t) (iblk m hO c 4 t) (iblk m hO c 5 t) (iblk m hO c 6 t) k0_pay4 }
  else
    { q := dqF (iblk m hO c 0 t) (iblk m hO c 1 t) (iblk m hO c 2 t) (iblk m hO c 3 t) (iblk m hO c 4 t) (iblk m hO c 5 t) (iblk m hO c 6 t) (qo0 (tileOf (grid0.coords t))) (qo1 (tileOf (grid0.coords t))) (qo0_inb _) (qo1_inb _) σ.q
      k := dkF (iblk m hO c 0 t) (iblk m hO c 1 t) (iblk m hO c 2 t) (iblk m hO c 3 t) (iblk m hO c 4 t) (iblk m hO c 5 t) (iblk m hO c 6 t) σ.k
      v := dvF (iblk m hO c 0 t) (iblk m hO c 1 t) (iblk m hO c 2 t) (iblk m hO c 3 t) (iblk m hO c 4 t) (iblk m hO c 5 t) (iblk m hO c 6 t) σ.v
      s := dsF (iblk m hO c 0 t) (iblk m hO c 1 t) (iblk m hO c 2 t) (iblk m hO c 3 t) (iblk m hO c 4 t) (iblk m hO c 5 t) (iblk m hO c 6 t) σ.s }

/-- What is held before the point of a number: at first nothing that is read. -/
def stAt : ℕ → St F
  | 0 => ⟨k0_pay1, k0_pay2, k0_pay3, k0_pay4⟩
  | n + 1 => if h : n < grid0.N then step m hO c ⟨n, h⟩ (stAt n) else stAt n

theorem stAt_succ (t : Fin grid0.N) : stAt m hO c (t.val + 1) = step m hO c t (stAt m hO c t.val) := by
  rw [stAt, dif_pos t.isLt]
end

theorem dqF_congr (x0 x1 x2 : Vec F S512x128 .bf16) (x3 : Vec F S2x512x1 .f32) (x4 : Vec F S512x128 .bf16) (x5 x6 : Vec F S2x1x512 .f32) (o0 o1 p0 p1 : Fin 2 → ℕ)
    (h0 h1 g0 g1) (old : Vec F S128x4096 .f32) (e0 : o0 = p0) (e1 : o1 = p1) :
    dqF x0 x1 x2 x3 x4 x5 x6 o0 o1 h0 h1 old = dqF x0 x1 x2 x3 x4 x5 x6 p0 p1 g0 g1 old := by subst e0; subst e1; rfl
theorem dqT_congr (x0 x1 x2 : Vec F S512x128 .bf16) (x3 : Vec F S2x512x1 .f32) (x4 : Vec F S512x128 .bf16) (x5 x6 : Vec F S2x1x512 .f32) (o0 o1 p0 p1 : Fin 2 → ℕ)
    (h0 h1 g0 g1) (old : Vec F S128x4096 .f32) (e0 : o0 = p0) (e1 : o1 = p1) :
    dqT x0 x1 x2 x3 x4 x5 x6 o0 o1 h0 h1 old = dqT x0 x1 x2 x3 x4 x5 x6 p0 p1 g0 g1 old := by subst e0; subst e1; rfl

theorem cover_l (y : S2x1x512.Idx) : y ∈ rl1.set ∨ y ∈ rl0.set := by
  have h := (y 0).isLt
  rcases Nat.lt_or_ge (y 0).val 1 with h1 | h1
  · right; rw [Rect.mem_set_unit]; intro a
    match a with
    | ⟨0, _⟩ => exact ⟨Nat.zero_le _, h1⟩
    | ⟨1, _⟩ => exact ⟨Nat.zero_le _, (y 1).isLt⟩
    | ⟨2, _⟩ => exact ⟨Nat.zero_le _, (y 2).isLt⟩
  · left; rw [Rect.mem_set_unit]; intro a
    match a with
    | ⟨0, _⟩ => exact ⟨h1, h⟩
    | ⟨1, _⟩ => exact ⟨Nat.zero_le _, (y 1).isLt⟩
    | ⟨2, _⟩ => exact ⟨Nat.zero_le _, (y 2).isLt⟩

/-- The gate gradient written is the scratch's, whatever the block held. -/
theorem dckOut_any (z : Vec F S2x512x1 .f32) (y y' : Vec F S2x1x512 .f32) : dckOut z y = dckOut z y' := by
  funext i
  unfold dckOut
  by_cases h1 : i ∈ rl1.set
  · obtain ⟨x, rfl⟩ := rl1.exists_idx_of_mem h1
    exact (rl1.overlay_emb _ _ x).trans (rl1.overlay_emb _ _ x).symm
  · rw [rl1.overlay_of_not_mem _ _ h1, rl1.overlay_of_not_mem _ _ h1]
    obtain ⟨x, rfl⟩ := rl0.exists_idx_of_mem ((cover_l i).resolve_left h1)
    exact (rl0.overlay_emb _ _ x).trans (rl0.overlay_emb _ _ x).symm

/-- Contents that nothing reads. -/
def anyC : Vec F S2x1x512 .f32 := k0_pay10 (View.ld (Val := Elt F) (e' := .f32) k0_pay4 rc0) |> fun p => rl1.overlay (rl0.overlay (fun _ => p (Shape.Idx.first (by decide))) p) p

set_option maxHeartbeats 1000000 in
/-- The body at a point, in terms of the step: the carried buffers need hold their contents only where they are read. -/
theorem run_at (hO : Ok m) (c : Dev nD) (t : Fin grid0.N) (σ : St F) (y7 : Vec F S128x4096 .f32) (y8 y9 : Vec F S512x128 .f32) (y10 : Vec F S2x1x512 .f32) (z : Vec F S2x512x1 .f32)
    (hq : tileOf (grid0.coords t) ≠ 0 → y7 = σ.q) (hf : ¬ Diag (tileOf (grid0.coords t)) → y8 = σ.k ∧ y9 = σ.v ∧ z = σ.s)
    (E : Set ℕ) (K : PUnit → sProp 𝕄) :
    iprop(owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (iblk m hO c 4 t) ∗ owns (c : Thread nD τ) (ms0_5 m hO t) fullShare (iblk m hO c 5 t) ∗ owns (c : Thread nD τ) (ms0_6 m hO t) fullShare (iblk m hO c 6 t) ∗ owns (c : Thread nD τ) (ms0_7 m hO t) fullShare y7 ∗ owns (c : Thread nD τ) (ms0_8 m hO t) fullShare y8 ∗ owns (c : Thread nD τ) (ms0_9 m hO t) fullShare y9 ∗ owns (c : Thread nD τ) (ms0_10 m hO t) fullShare y10 ∗ owns (c : Thread nD τ) scM0_0 fullShare z ∗ tbPt0 c tbM0_0 (tbl m 0) ∗ tbPt0 c tbM0_1 (tbl m 1)
        ∗ (iprop(owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare (iblk m hO c 4 t) ∗ owns (c : Thread nD τ) (ms0_5 m hO t) fullShare (iblk m hO c 5 t) ∗ owns (c : Thread nD τ) (ms0_6 m hO t) fullShare (iblk m hO c 6 t) ∗ owns (c : Thread nD τ) (ms0_7 m hO t) fullShare (step m hO c t σ).q ∗ owns (c : Thread nD τ) (ms0_8 m hO t) fullShare (step m hO c t σ).k ∗ owns (c : Thread nD τ) (ms0_9 m hO t) fullShare (step m hO c t σ).v ∗ owns (c : Thread nD τ) (ms0_10 m hO t) fullShare (if k0_cond5 (lit0 (tileOf (grid0.coords t))) = 1#1 then dckOut (step m hO c t σ).s anyC else y10) ∗ owns (c : Thread nD τ) scM0_0 fullShare (step m hO c t σ).s ∗ tbPt0 c tbM0_0 (tbl m 0) ∗ tbPt0 c tbM0_1 (tbl m 1)) -∗ K ⟨⟩))
      ⊢ wp frame (wpE (defs₀ (F := F)) Variants.none c none) E (bodyAt0 (adm m hO) t) K := by
  have W0 : (w0 c (grid0.coords t) (tbl m 0)) = lit0 (tileOf (grid0.coords t)) := w0_eq m c _
  have W1 : (w1 c (grid0.coords t) (tbl m 1)) = lit1 (tileOf (grid0.coords t)) := w1_eq m c _
  by_cases hd : Diag (tileOf (grid0.coords t))
  · obtain ⟨h3, h4⟩ := diag_conds _ hd
    have g2 : k0_cond2 (w0 c (grid0.coords t) (tbl m 0)) (w1 c (grid0.coords t) (tbl m 1)) = 1#1 := by rw [W0, W1]; exact hd
    have g3 : ¬ k0_cond3 (w0 c (grid0.coords t) (tbl m 0)) (w1 c (grid0.coords t) (tbl m 1)) = 1#1 := by rw [W0, W1]; exact h3
    have g4 : k0_cond4 (w0 c (grid0.coords t) (tbl m 0)) (w1 c (grid0.coords t) (tbl m 1)) = 1#1 := by rw [W0, W1]; exact h4
    have e7 : dqT (iblk m hO c 0 t) (iblk m hO c 1 t) (iblk m hO c 2 t) (iblk m hO c 3 t) (iblk m hO c 4 t) (iblk m hO c 5 t) (iblk m hO c 6 t) (k0_off4 (w0 c (grid0.coords t) (tbl m 0))) (k0_off5 (w0 c (grid0.coords t) (tbl m 0))) (k0_off4_inb _ _ (chk m c _) g4) (k0_off5_inb _ _ (chk m c _) g4) (if k0_cond1 (grid0.coords t) = 1#1 then k0_pay1 else y7)
        = (step m hO c t σ).q := by
      unfold step; rw [if_pos hd]
      refine (dqT_congr _ _ _ _ _ _ _ _ _ _ _ _ _ (qo0_inb _) (qo1_inb _) _ (by rw [W0]; exact funext (off4_lit _)) (by rw [W0]; exact funext (off5_lit _))).trans ?_
      by_cases h1 : k0_cond1 (grid0.coords t) = 1#1
      · rw [if_pos h1, if_pos h1]
      · rw [if_neg h1, if_neg h1, hq (fun h => h1 ((cond1_iff _).mpr h))]
    have e8 : dkT (iblk m hO c 0 t) (iblk m hO c 1 t) (iblk m hO c 2 t) (iblk m hO c 3 t) (iblk m hO c 4 t) (iblk m hO c 5 t) (iblk m hO c 6 t) k0_pay2 = (step m hO c t σ).k := by unfold step; rw [if_pos hd]
    have e9 : dvT (iblk m hO c 0 t) (iblk m hO c 1 t) (iblk m hO c 2 t) (iblk m hO c 3 t) (iblk m hO c 4 t) (iblk m hO c 5 t) (iblk m hO c 6 t) k0_pay3 = (step m hO c t σ).v := by unfold step; rw [if_pos hd]
    have es : dsT (iblk m hO c 0 t) (iblk m hO c 1 t) (iblk m hO c 2 t) (iblk m hO c 3 t) (iblk m hO c 4 t) (iblk m hO c 5 t) (iblk m hO c 6 t) k0_pay4 = (step m hO c t σ).s := by unfold step; rw [if_pos hd]
    rw [← e7, ← e8, ← e9, ← es, ← W0, dckOut_any _ anyC y10]
    exact runT c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) y7 y8 y9 y10 z (tbl m 0) (tbl m 1) (chk m c _) g2 g3 g4 E K
  · obtain ⟨h0, h3, h4⟩ := full_conds _ hd
    have g2 : ¬ k0_cond2 (w0 c (grid0.coords t) (tbl m 0)) (w1 c (grid0.coords t) (tbl m 1)) = 1#1 := by rw [W0, W1]; exact hd
    have g3 : k0_cond3 (w0 c (grid0.coords t) (tbl m 0)) (w1 c (grid0.coords t) (tbl m 1)) = 1#1 := by rw [W0, W1]; exact h3
    have g4 : ¬ k0_cond4 (w0 c (grid0.coords t) (tbl m 0)) (w1 c (grid0.coords t) (tbl m 1)) = 1#1 := by rw [W0, W1]; exact h4
    obtain ⟨rfl, rfl, rfl⟩ := hf hd
    obtain rfl := hq h0
    have e7 : dqF (iblk m hO c 0 t) (iblk m hO c 1 t) (iblk m hO c 2 t) (iblk m hO c 3 t) (iblk m hO c 4 t) (iblk m hO c 5 t) (iblk m hO c 6 t) (k0_off2 (w0 c (grid0.coords t) (tbl m 0))) (k0_off3 (w0 c (grid0.coords t) (tbl m 0))) (k0_off2_inb _ _ (chk m c _) g3) (k0_off3_inb _ _ (chk m c _) g3) σ.q
        = (step m hO c t σ).q := by
      unfold step; rw [if_neg hd]
      exact dqF_congr _ _ _ _ _ _ _ _ _ _ _ _ _ (qo0_inb _) (qo1_inb _) _ (by rw [W0]; exact funext (off2_lit _)) (by rw [W0]; exact funext (off3_lit _))
    have e8 : dkF (iblk m hO c 0 t) (iblk m hO c 1 t) (iblk m hO c 2 t) (iblk m hO c 3 t) (iblk m hO c 4 t) (iblk m hO c 5 t) (iblk m hO c 6 t) σ.k = (step m hO c t σ).k := by unfold step; rw [if_neg hd]
    have e9 : dvF (iblk m hO c 0 t) (iblk m hO c 1 t) (iblk m hO c 2 t) (iblk m hO c 3 t) (iblk m hO c 4 t) (iblk m hO c 5 t) (iblk m hO c 6 t) σ.v = (step m hO c t σ).v := by unfold step; rw [if_neg hd]
    have es : dsF (iblk m hO c 0 t) (iblk m hO c 1 t) (iblk m hO c 2 t) (iblk m hO c 3 t) (iblk m hO c 4 t) (iblk m hO c 5 t) (iblk m hO c 6 t) σ.s = (step m hO c t σ).s := by unfold step; rw [if_neg hd]
    rw [← e7, ← e8, ← e9, ← es, ← W0, dckOut_any _ anyC y10]
    exact runF c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) σ.q σ.k σ.v y10 σ.s (tbl m 0) (tbl m 1) (chk m c _) (fun h => h0 ((cond1_iff _).mp h)) g2 g3 g4 E K

end Cert.KernelIdeal.Hand

end
-- ==== Proof.Sched.lean ====
module

public import proofs.«01_k».proof.Proof.Vals

/-! Where blocks are written back, and what each buffer holds fresh. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

variable (hO : Ok m) (c : Dev nD)

/-! ### Where the results are written back -/

theorem idx7 (t : Fin grid0.N) : ((cfgM m hO).win 7).index t = ![((grid0.coords t) 0).val, 0] := by
  have h0 := coord0_toNat (grid0.coords t)
  show ![(BitVec.ofNat 32 ((grid0.coords t) 0).val).toNat, 0] = _
  rw [h0]
theorem idx8 (t : Fin grid0.N) : ((cfgM m hO).win 8).index t = ![(lit1 (tileOf (grid0.coords t))).toNat, ((grid0.coords t) 0).val] := tr8 m _
theorem idx9 (t : Fin grid0.N) : ((cfgM m hO).win 9).index t = ![(lit1 (tileOf (grid0.coords t))).toNat, ((grid0.coords t) 0).val] := tr9 m _
theorem idx10 (t : Fin grid0.N) : ((cfgM m hO).win 10).index t = ![((grid0.coords t) 0).val, 0, (lit1 (tileOf (grid0.coords t))).toNat] := tr10 m _

/-- The last tile of a column of tiles. -/
abbrev ColEnd (s : Fin 36) : Prop := k0_cond5 (lit0 s) = 1#1

theorem sched7 : ∀ t : Fin grid0.N, tileOf (grid0.coords t) ≠ 35 → ∃ h : t.val + 1 < grid0.N, (grid0.coords ⟨t.val + 1, h⟩ 0).val = (grid0.coords t 0).val := by decide +kernel
theorem sched7' : ∀ t : Fin grid0.N, tileOf (grid0.coords t) = 35 → ∀ h : t.val + 1 < grid0.N, (grid0.coords ⟨t.val + 1, h⟩ 0).val ≠ (grid0.coords t 0).val := by decide +kernel
theorem sched8 : ∀ t : Fin grid0.N, ¬ ColEnd (tileOf (grid0.coords t)) → ∃ h : t.val + 1 < grid0.N, (grid0.coords ⟨t.val + 1, h⟩ 0).val = (grid0.coords t 0).val
    ∧ lit1 (tileOf (grid0.coords ⟨t.val + 1, h⟩)) = lit1 (tileOf (grid0.coords t)) := by decide +kernel
theorem sched8' : ∀ t : Fin grid0.N, ColEnd (tileOf (grid0.coords t)) → ∀ h : t.val + 1 < grid0.N,
    (lit1 (tileOf (grid0.coords ⟨t.val + 1, h⟩))).toNat ≠ (lit1 (tileOf (grid0.coords t))).toNat := by decide +kernel
theorem before7 : ∀ n : ℕ, ∀ h : n + 1 < grid0.N, tileOf (grid0.coords ⟨n + 1, h⟩) ≠ 0 → tileOf (grid0.coords ⟨n, Nat.lt_of_succ_lt h⟩) ≠ 35 := by
  have h : ∀ t : Fin grid0.N, ∀ h : t.val + 1 < grid0.N, tileOf (grid0.coords ⟨t.val + 1, h⟩) ≠ 0 → tileOf (grid0.coords t) ≠ 35 := by decide +kernel
  exact fun n hn => h ⟨n, Nat.lt_of_succ_lt hn⟩ hn
theorem before8 : ∀ n : ℕ, ∀ h : n + 1 < grid0.N, ¬ Diag (tileOf (grid0.coords ⟨n + 1, h⟩)) → ¬ ColEnd (tileOf (grid0.coords ⟨n, Nat.lt_of_succ_lt h⟩)) := by
  have h : ∀ t : Fin grid0.N, ∀ h : t.val + 1 < grid0.N, ¬ Diag (tileOf (grid0.coords ⟨t.val + 1, h⟩)) → ¬ ColEnd (tileOf (grid0.coords t)) := by decide +kernel
  exact fun n hn => h ⟨n, Nat.lt_of_succ_lt hn⟩ hn
theorem first_tile : ∀ h : 0 < grid0.N, tileOf (grid0.coords ⟨0, h⟩) = 0 := by decide +kernel
theorem first_diag : ∀ h : 0 < grid0.N, Diag (tileOf (grid0.coords ⟨0, h⟩)) := by decide +kernel

theorem at_first (t : Fin grid0.N) (e : t.val = 0) : Diag (tileOf (grid0.coords t)) := by
  obtain rfl : t = ⟨0, by decide⟩ := Fin.ext e
  exact first_diag _
theorem flush_off (w : Fin 11) (t : Fin grid0.N) (h : t.val + 1 < grid0.N) (e : ((cfgM m hO).win w).index ⟨t.val + 1, h⟩ = ((cfgM m hO).win w).index t) :
    ((cfgM m hO).win w).flush t = false := by
  rw [Pipeline.Window.flush_eq_flushF]
  unfold Pipeline.Window.flushF
  have h2 : ¬ (t.val + 1 = grid0.N) := Nat.ne_of_lt h
  have h3 : ¬ ∃ h : t.val + 1 < grid0.N, ∃ a, ((cfgM m hO).win w).index ⟨t.val + 1, h⟩ a ≠ ((cfgM m hO).win w).index t a :=
    fun ⟨_, a, ha⟩ => ha (congrFun e a)
  rw [decide_eq_false h2, decide_eq_false h3]
  simp

theorem flush_on (w : Fin 11) (ho : ((cfgM m hO).win w).isOut = true) (t : Fin grid0.N)
    (e : ∀ h : t.val + 1 < grid0.N, ((cfgM m hO).win w).index ⟨t.val + 1, h⟩ ≠ ((cfgM m hO).win w).index t) :
    ((cfgM m hO).win w).flush t = true := by
  rw [Pipeline.Window.flush_eq_flushF]
  unfold Pipeline.Window.flushF
  rw [ho, Bool.true_and]
  by_cases h : t.val + 1 < grid0.N
  · have h3 : ∃ h : t.val + 1 < grid0.N, ∃ a, ((cfgM m hO).win w).index ⟨t.val + 1, h⟩ a ≠ ((cfgM m hO).win w).index t a := by
      by_contra hn
      exact e h (funext fun a => by by_contra hh; exact hn ⟨h, a, hh⟩)
    rw [decide_eq_true h3, Bool.or_true]
  · have h2 : t.val + 1 = grid0.N := Nat.le_antisymm t.isLt (Nat.le_of_not_lt h)
    rw [decide_eq_true h2, Bool.true_or]

theorem flush7 (t : Fin grid0.N) : ((cfgM m hO).win 7).flush t = true ↔ tileOf (grid0.coords t) = 35 := by
  refine ⟨fun h => ?_, fun h => flush_on m hO 7 rfl t fun hh e => sched7' t h hh ?_⟩
  · by_contra hn
    obtain ⟨hh, e⟩ := sched7 t hn
    exact Bool.false_ne_true ((flush_off m hO 7 t hh (by rw [idx7, idx7, e])).symm.trans h)
  · rw [idx7, idx7] at e; exact congrFun e 0
theorem flush8 (t : Fin grid0.N) : ((cfgM m hO).win 8).flush t = true ↔ ColEnd (tileOf (grid0.coords t)) := by
  refine ⟨fun h => ?_, fun h => flush_on m hO 8 rfl t fun hh e => sched8' t h hh ?_⟩
  · by_contra hn
    obtain ⟨hh, e, e'⟩ := sched8 t hn
    exact Bool.false_ne_true ((flush_off m hO 8 t hh (by rw [idx8, idx8, e, e'])).symm.trans h)
  · rw [idx8, idx8] at e; exact congrFun e 0
theorem flush9 (t : Fin grid0.N) : ((cfgM m hO).win 9).flush t = true ↔ ColEnd (tileOf (grid0.coords t)) := by
  refine ⟨fun h => ?_, fun h => flush_on m hO 9 rfl t fun hh e => sched8' t h hh ?_⟩
  · by_contra hn
    obtain ⟨hh, e, e'⟩ := sched8 t hn
    exact Bool.false_ne_true ((flush_off m hO 9 t hh (by rw [idx9, idx9, e, e'])).symm.trans h)
  · rw [idx9, idx9] at e; exact congrFun e 0
theorem flush10 (t : Fin grid0.N) : ((cfgM m hO).win 10).flush t = true ↔ ColEnd (tileOf (grid0.coords t)) := by
  refine ⟨fun h => ?_, fun h => flush_on m hO 10 rfl t fun hh e => sched8' t h hh ?_⟩
  · by_contra hn
    obtain ⟨hh, e, e'⟩ := sched8 t hn
    exact Bool.false_ne_true ((flush_off m hO 10 t hh (by rw [idx10, idx10, e, e'])).symm.trans h)
  · rw [idx10, idx10] at e; exact congrFun e 2

/-! ### Points that store nothing -/

theorem idle_0 (t : Fin grid0.N) : (cfgM m hO).idle 0 (grid0.coords t) = false := rfl
theorem idle_1 (t : Fin grid0.N) : (cfgM m hO).idle 1 (grid0.coords t) = false := rfl
theorem idle_2 (t : Fin grid0.N) : (cfgM m hO).idle 2 (grid0.coords t) = false := rfl
theorem idle_3 (t : Fin grid0.N) : (cfgM m hO).idle 3 (grid0.coords t) = false := rfl
theorem idle_4 (t : Fin grid0.N) : (cfgM m hO).idle 4 (grid0.coords t) = false := rfl
theorem idle_5 (t : Fin grid0.N) : (cfgM m hO).idle 5 (grid0.coords t) = false := rfl
theorem idle_6 (t : Fin grid0.N) : (cfgM m hO).idle 6 (grid0.coords t) = false := rfl
theorem off3 (a b c : Bool) (h : b = true ∨ c = true) : (!a && !b && !c) = false := by
  rcases h with rfl | rfl <;> cases a <;> simp
theorem stores (i : grid0.Coords) : (k0_cond3 ((tbl m).atD 0 (k0_off1 i)) ((tbl m).atD 1 (k0_off1 i)) == 1#1) = true
    ∨ (k0_cond4 ((tbl m).atD 0 (k0_off1 i)) ((tbl m).atD 1 (k0_off1 i)) == 1#1) = true := by
  have h := lit_cases (tileOf i)
  have e0 := atD_zero m i
  have e1 := atD_one m i
  rw [e0, e1]
  exact h.elim (fun h => Or.inr (beq_iff_eq.mpr h.2.2)) (fun h => Or.inl (beq_iff_eq.mpr h.2.2.1))
theorem idle_7 (t : Fin grid0.N) : (cfgM m hO).idle 7 (grid0.coords t) = false := off3 _ _ _ (stores m (grid0.coords t))
theorem idle_8 (t : Fin grid0.N) : (cfgM m hO).idle 8 (grid0.coords t) = false := off3 _ _ _ (stores m (grid0.coords t))
theorem idle_9 (t : Fin grid0.N) : (cfgM m hO).idle 9 (grid0.coords t) = false := idle_8 m hO t
theorem idle_10 (t : Fin grid0.N) : (cfgM m hO).idle 10 (grid0.coords t) = !(k0_cond5 (lit0 (tileOf (grid0.coords t))) == 1#1) := by
  show (!(k0_cond5 ((tbl m).atD 0 (k0_off1 (grid0.coords t))) == 1#1)) = _
  rw [atD_zero]

theorem fresh7 : ∀ n : ℕ, ∀ h : n < grid0.N, tileOf (grid0.coords ⟨n, h⟩) ≠ 0 → (cfgM m hO).fresh 7 n = false
  | 0, h, hn => absurd (first_tile h) hn
  | n + 1, h, hn => by
    rw [Pipeline.Cfg.fresh_succ (cfgM m hO) 7 n (Nat.lt_of_succ_lt h)]
    rw [show (cfgM m hO).idle 7 ((cfgM m hO).grid.coords ⟨n, Nat.lt_of_succ_lt h⟩) = false from idle_7 m hO ⟨n, Nat.lt_of_succ_lt h⟩,
      show ((cfgM m hO).win 7).flush ⟨n, Nat.lt_of_succ_lt h⟩ = false from Bool.eq_false_iff.mpr fun e => before7 n h hn ((flush7 m hO _).mp e)]
    rfl
theorem fresh8 : ∀ n : ℕ, ∀ h : n < grid0.N, ¬ Diag (tileOf (grid0.coords ⟨n, h⟩)) → (cfgM m hO).fresh 8 n = false
  | 0, h, hn => absurd (first_diag h) hn
  | n + 1, h, hn => by
    rw [Pipeline.Cfg.fresh_succ (cfgM m hO) 8 n (Nat.lt_of_succ_lt h)]
    rw [show (cfgM m hO).idle 8 ((cfgM m hO).grid.coords ⟨n, Nat.lt_of_succ_lt h⟩) = false from idle_8 m hO ⟨n, Nat.lt_of_succ_lt h⟩,
      show ((cfgM m hO).win 8).flush ⟨n, Nat.lt_of_succ_lt h⟩ = false from Bool.eq_false_iff.mpr fun e => before8 n h hn ((flush8 m hO _).mp e)]
    rfl
theorem fresh9 : ∀ n : ℕ, ∀ h : n < grid0.N, ¬ Diag (tileOf (grid0.coords ⟨n, h⟩)) → (cfgM m hO).fresh 9 n = false
  | 0, h, hn => absurd (first_diag h) hn
  | n + 1, h, hn => by
    rw [Pipeline.Cfg.fresh_succ (cfgM m hO) 9 n (Nat.lt_of_succ_lt h)]
    rw [show (cfgM m hO).idle 9 ((cfgM m hO).grid.coords ⟨n, Nat.lt_of_succ_lt h⟩) = false from idle_9 m hO ⟨n, Nat.lt_of_succ_lt h⟩,
      show ((cfgM m hO).win 9).flush ⟨n, Nat.lt_of_succ_lt h⟩ = false from Bool.eq_false_iff.mpr fun e => before8 n h hn ((flush9 m hO _).mp e)]
    rfl

end Cert.KernelIdeal.Hand

end
-- ==== Proof.Elem.lean ====
module

public import proofs.«01_k».proof.Proof.Vals
public import proofs.«01_k».proof.Proof.Real
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape

/-! What the tile's functions are over the extended reals, element by element, where every block holds real numbers. -/

@[expose] public section

set_option maxRecDepth 16384

noncomputable section

namespace Cert.KernelIdeal.Hand

open Cert.KernelIdeal.Gen
open Idealize.ShloMosaic Idealize.ShloMosaic.TcCoe Idealize.ShloMosaic.Tactic

open Attn

section half
variable {F : FTy → Type} [FloatOps F] [Named F]

/-- One head's score gradient from its weights. -/
def dsOf (W : FVec F S512x512 .f32) (V O : Vec F S512x64 .bf16) (D : Vec F S1x1x512 .f32) : FVec F S512x512 .f32 :=
  mulf W (subf (matmul dot_S512x64_S512x64_S512x512_1_1_0_0_n_n none (shapeCast S512x64 V shapeCasts_S512x64_S512x64) (k0_pay35 O) (constant S512x512 .f32 0x00000000#32))
    (broadcastTo S512x512 (shapeCast S1x512 D shapeCasts_S1x1x512_S1x512) broadcasts_S1x512_S512x512))
/-- One head's share added to its half of each gradient. -/
def hv (W : FVec F S512x512 .f32) (O : Vec F S512x64 .bf16) (old : Vec F S512x64 .f32) : FVec F S512x64 .f32 :=
  k0_pay40 (k0_pay35 O) W (k0_pay39 old)
def hk (S : FVec F S512x512 .f32) (Q : Vec F S512x64 .bf16) (old : Vec F S512x64 .f32) : FVec F S512x64 .f32 :=
  k0_pay41 (k0_pay33 Q) (truncf .bf16 S bitsLt_bf16_f32) old
def hq (S : FVec F S512x512 .f32) (K : Vec F S512x64 .bf16) (old : Vec F S64x512 .f32) : FVec F S64x512 .f32 :=
  k0_pay43 (k0_pay34 K) (truncf .bf16 S bitsLt_bf16_f32) old

variable (W0 W1 : FVec F S512x512 .f32) (x0 x1 x2 : Vec F S512x128 .bf16) (x3 : Vec F S2x512x1 .f32) (x4 : Vec F S512x128 .bf16) (x5 x6 : Vec F S2x1x512 .f32)

/-- The four steps, the weights of the two heads given. -/
def dvG (old : Vec F S512x128 .f32) : Vec F S512x128 .f32 :=
  rh1.overlay (rh0.overlay old (hv W0 (View.ld x4 rh0) (View.ld old rh0))) (hv W1 (View.ld x4 rh1) (View.ld old rh1))
def dkG (old : Vec F S512x128 .f32) : Vec F S512x128 .f32 :=
  rh1.overlay (rh0.overlay old (hk (dsOf W0 (View.ld x2 rh0) (View.ld x4 rh0) (View.ld x6 rl0)) (View.ld x0 rh0) (View.ld old rh0)))
    (hk (dsOf W1 (View.ld x2 rh1) (View.ld x4 rh1) (View.ld x6 rl1)) (View.ld x0 rh1) (View.ld old rh1))
def dsG (old : Vec F S2x512x1 .f32) : Vec F S2x512x1 .f32 :=
  rc1.overlay (rc0.overlay old (k0_pay42 (dsOf W0 (View.ld x2 rh0) (View.ld x4 rh0) (View.ld x6 rl0)) (View.ld old rc0)))
    (k0_pay42 (dsOf W1 (View.ld x2 rh1) (View.ld x4 rh1) (View.ld x6 rl1)) (View.ld old rc1))
def dqG (o0 o1 : Fin 2 → ℕ) (h0 : ∀ a, o0 a + S64x512.size a ≤ S128x4096.size a) (h1 : ∀ a, o1 a + S64x512.size a ≤ S128x4096.size a) (old : Vec F S128x4096 .f32) : Vec F S128x4096 .f32 :=
  (Rect.unit (s := S128x4096) o1 S64x512.size h1).overlay ((Rect.unit (s := S128x4096) o0 S64x512.size h0).overlay old
    (hq (dsOf W0 (View.ld x2 rh0) (View.ld x4 rh0) (View.ld x6 rl0)) (View.ld x1 rh0) (View.ld old (Rect.unit (s := S128x4096) o0 S64x512.size h0))))
    (hq (dsOf W1 (View.ld x2 rh1) (View.ld x4 rh1) (View.ld x6 rl1)) (View.ld x1 rh1) (View.ld old (Rect.unit (s := S128x4096) o1 S64x512.size h1)))

theorem dvF_eq (old) : dvF x0 x1 x2 x3 x4 x5 x6 old = dvG (k0_pay15 (View.ld x0 rh0) (View.ld x1 rh0) (View.ld x3 rc0) (View.ld x5 rl0)) (k0_pay15 (View.ld x0 rh1) (View.ld x1 rh1) (View.ld x3 rc1) (View.ld x5 rl1)) x4 old := rfl
theorem dkF_eq (old) : dkF x0 x1 x2 x3 x4 x5 x6 old = dkG (k0_pay15 (View.ld x0 rh0) (View.ld x1 rh0) (View.ld x3 rc0) (View.ld x5 rl0)) (k0_pay15 (View.ld x0 rh1) (View.ld x1 rh1) (View.ld x3 rc1) (View.ld x5 rl1)) x0 x2 x4 x6 old := rfl
theorem dsF_eq (old) : dsF x0 x1 x2 x3 x4 x5 x6 old = dsG (k0_pay15 (View.ld x0 rh0) (View.ld x1 rh0) (View.ld x3 rc0) (View.ld x5 rl0)) (k0_pay15 (View.ld x0 rh1) (View.ld x1 rh1) (View.ld x3 rc1) (View.ld x5 rl1)) x2 x4 x6 old := rfl
theorem dqF_eq (o0 o1 h0 h1 old) : dqF x0 x1 x2 x3 x4 x5 x6 o0 o1 h0 h1 old = dqG (k0_pay15 (View.ld x0 rh0) (View.ld x1 rh0) (View.ld x3 rc0) (View.ld x5 rl0)) (k0_pay15 (View.ld x0 rh1) (View.ld x1 rh1) (View.ld x3 rc1) (View.ld x5 rl1)) x1 x2 x4 x6 o0 o1 h0 h1 old := rfl
theorem dvT_eq (old) : dvT x0 x1 x2 x3 x4 x5 x6 old = dvG (k0_pay36 (View.ld x0 rh0) (View.ld x1 rh0) (View.ld x3 rc0) (View.ld x5 rl0)) (k0_pay36 (View.ld x0 rh1) (View.ld x1 rh1) (View.ld x3 rc1) (View.ld x5 rl1)) x4 old := rfl
theorem dkT_eq (old) : dkT x0 x1 x2 x3 x4 x5 x6 old = dkG (k0_pay36 (View.ld x0 rh0) (View.ld x1 rh0) (View.ld x3 rc0) (View.ld x5 rl0)) (k0_pay36 (View.ld x0 rh1) (View.ld x1 rh1) (View.ld x3 rc1) (View.ld x5 rl1)) x0 x2 x4 x6 old := rfl
theorem dsT_eq (old) : dsT x0 x1 x2 x3 x4 x5 x6 old = dsG (k0_pay36 (View.ld x0 rh0) (View.ld x1 rh0) (View.ld x3 rc0) (View.ld x5 rl0)) (k0_pay36 (View.ld x0 rh1) (View.ld x1 rh1) (View.ld x3 rc1) (View.ld x5 rl1)) x2 x4 x6 old := rfl
theorem dqT_eq (o0 o1 h0 h1 old) : dqT x0 x1 x2 x3 x4 x5 x6 o0 o1 h0 h1 old = dqG (k0_pay36 (View.ld x0 rh0) (View.ld x1 rh0) (View.ld x3 rc0) (View.ld x5 rl0)) (k0_pay36 (View.ld x0 rh1) (View.ld x1 rh1) (View.ld x3 rc1) (View.ld x5 rl1)) x1 x2 x4 x6 o0 o1 h0 h1 old := rfl

end half

section ideal
variable (q k v o : Fin 512 → Fin 64 → ℝ) (c l δ : Fin 512 → ℝ) (w : Fin 512 → Fin 512 → ℝ)

/-- A tile's weights before any mask, key by query, -/
def tE (s t : Fin 512) : ℝ := Real.exp ((∑ d, k s d * (q t d * 0.125)) - c s - l t)
/-- and where later keys are masked. -/
def tM (s t : Fin 512) : ℝ := if t < s then 0 else Real.exp ((∑ d, k s d * (q t d * 0.125)) - c s - l t)
/-- The score gradient. -/
def tS (s t : Fin 512) : ℝ := w s t * ((∑ d, v s d * o t d) - δ t)

variable (Q K V O : Vec Ideal S512x64 .bf16) (C : Vec Ideal S1x512x1 .f32) (L D : Vec Ideal S1x1x512 .f32)
  (W : FVec Ideal S512x512 .f32)

theorem pay15_ideal
    (hQ : ∀ t d, Q (ix2 t d) = (q t d : EReal)) (hK : ∀ t d, K (ix2 t d) = (k t d : EReal))
    (hC : ∀ s, C (ix3 0 s 0) = (c s : EReal)) (hL : ∀ s, L (ix3 0 0 s) = (l s : EReal)) (s t : Fin 512) :
    k0_pay15 (F := Ideal) Q K C L (ix2 s t) = ((tE q k c l s t : ℝ) : EReal) := by
  unfold k0_pay15 k0_pay13 k0_pay12
  pointwise
  simp only [hQ, hK, hC, hL, eighth_bf16, ← EReal.coe_mul, ← EReal.coe_sub, coe_sum, Ideal.exp_coe]
  rfl

theorem pay36_ideal
    (hQ : ∀ t d, Q (ix2 t d) = (q t d : EReal)) (hK : ∀ t d, K (ix2 t d) = (k t d : EReal))
    (hC : ∀ s, C (ix3 0 s 0) = (c s : EReal)) (hL : ∀ s, L (ix3 0 0 s) = (l s : EReal)) (s t : Fin 512) :
    k0_pay36 (F := Ideal) Q K C L (ix2 s t) = ((tM q k c l s t : ℝ) : EReal) := by
  unfold k0_pay36 k0_pay34 k0_pay33
  pointwise
  simp only [hQ, hK, hC, hL, eighth_bf16, ← EReal.coe_mul, ← EReal.coe_sub, coe_sum, Ideal.exp_coe]
  rw [show (Named.named (F := Ideal) κ "mask" 4048155338#32 : Ideal .f32) = (⊥ : EReal) from IdealRules.named_const.ideal_named_scalar _ _ _ _ rfl]
  have hc : IntOp.cmpi CmpIPredicate.sgt (BitVec.ofNat 32 s.val) (BitVec.ofNat 32 t.val) = if t < s then 1#1 else 0#1 := by
    have hs := s.isLt
    have ht := t.isLt
    exact sgt_ofNat _ _ (by omega) (by omega)
  rw [hc]
  unfold tM
  split
  · rw [show Scalar.select 1#1 (⊥ : EReal) _ = ⊥ from rfl, EReal.bot_sub, Ideal.exp_bot]; rfl
  · rw [show ∀ x : EReal, Scalar.select 0#1 (⊥ : EReal) x = x from fun _ => rfl, ← EReal.coe_sub, Ideal.exp_coe]

theorem dsOf_ideal (hV : ∀ t d, V (ix2 t d) = (v t d : EReal)) (hO : ∀ t d, O (ix2 t d) = (o t d : EReal))
    (hD : ∀ s, D (ix3 0 0 s) = (δ s : EReal)) (hW : ∀ s t, W (ix2 s t) = (w s t : EReal)) (s t : Fin 512) :
    dsOf (F := Ideal) W V O D (ix2 s t) = ((tS v o δ w s t : ℝ) : EReal) := by
  unfold dsOf k0_pay35
  pointwise
  simp only [hV, hO, hD, hW, ← EReal.coe_mul, ← EReal.coe_sub, coe_sum]
  rfl

theorem hv_ideal (hO : ∀ t d, O (ix2 t d) = (o t d : EReal)) (hW : ∀ s t, W (ix2 s t) = (w s t : EReal)) (old : Vec Ideal S512x64 .f32) (s : Fin 512) (d : Fin 64) :
    hv (F := Ideal) W O old (ix2 s d) = old (ix2 s d) + ((∑ t, w s t * o t d : ℝ) : EReal) := by
  unfold hv k0_pay40 k0_pay39 k0_pay35
  pointwise
  simp only [hO, hW, ← EReal.coe_mul, coe_sum]

theorem hk_ideal (hQ : ∀ t d, Q (ix2 t d) = (q t d : EReal)) (hW : ∀ s t, W (ix2 s t) = (w s t : EReal)) (old : Vec Ideal S512x64 .f32) (s : Fin 512) (d : Fin 64) :
    hk (F := Ideal) W Q old (ix2 s d) = old (ix2 s d) + ((∑ t, w s t * (q t d * 0.125) : ℝ) : EReal) := by
  unfold hk k0_pay41 k0_pay33
  pointwise
  simp only [hQ, hW, eighth_bf16, ← EReal.coe_mul, coe_sum]

theorem hq_ideal (hK : ∀ t d, K (ix2 t d) = (k t d : EReal)) (hW : ∀ s t, W (ix2 s t) = (w s t : EReal)) (old : Vec Ideal S64x512 .f32) (d : Fin 64) (t : Fin 512) :
    hq (F := Ideal) W K old (ix2 d t) = old (ix2 d t) + (((∑ s, k s d * w s t) * 0.125 : ℝ) : EReal) := by
  unfold hq k0_pay43 k0_pay34
  pointwise
  simp only [hK, hW, eighth_f32, ← EReal.coe_mul, coe_sum]

theorem hs_ideal (hW : ∀ s t, W (ix2 s t) = (w s t : EReal)) (old : Vec Ideal S1x512x1 .f32) (s : Fin 512) :
    k0_pay42 (F := Ideal) W old (ix3 0 s 0) = old (ix3 0 s 0) - ((∑ t, w s t : ℝ) : EReal) := by
  unfold k0_pay42
  pointwise
  simp only [hW, coe_sum]
end ideal

/-- The column of a block of two heads. -/
abbrev col (a : Fin 2) (d : Fin 64) : Fin 128 := ⟨64 * a.val + d.val, by omega⟩

/-- What the seven blocks hold at a point. -/
structure Blk where
  q : Fin 2 → Fin 512 → Fin 64 → ℝ
  k : Fin 2 → Fin 512 → Fin 64 → ℝ
  v : Fin 2 → Fin 512 → Fin 64 → ℝ
  c : Fin 2 → Fin 512 → ℝ
  o : Fin 2 → Fin 512 → Fin 64 → ℝ
  l : Fin 2 → Fin 512 → ℝ
  δ : Fin 2 → Fin 512 → ℝ

namespace Blk
variable (B : Blk)

/-- A full tile's weights, and a diagonal one's. -/
def wF (a : Fin 2) : Fin 512 → Fin 512 → ℝ := tE (B.q a) (B.k a) (B.c a) (B.l a)
def wT (a : Fin 2) : Fin 512 → Fin 512 → ℝ := tM (B.q a) (B.k a) (B.c a) (B.l a)
def dS (w : Fin 2 → Fin 512 → Fin 512 → ℝ) (a : Fin 2) : Fin 512 → Fin 512 → ℝ := tS (B.v a) (B.o a) (B.δ a) (w a)

/-- The blocks hold these numbers. -/
structure Holds (x0 x1 x2 : Vec Ideal S512x128 .bf16) (x3 : Vec Ideal S2x512x1 .f32) (x4 : Vec Ideal S512x128 .bf16) (x5 x6 : Vec Ideal S2x1x512 .f32) : Prop where
  q : ∀ a t d, x0 (ix2 t (col a d)) = (B.q a t d : EReal)
  k : ∀ a t d, x1 (ix2 t (col a d)) = (B.k a t d : EReal)
  v : ∀ a t d, x2 (ix2 t (col a d)) = (B.v a t d : EReal)
  c : ∀ a t, x3 (ix3 a t 0) = (B.c a t : EReal)
  o : ∀ a t d, x4 (ix2 t (col a d)) = (B.o a t d : EReal)
  l : ∀ a t, x5 (ix3 a 0 t) = (B.l a t : EReal)
  δ : ∀ a t, x6 (ix3 a 0 t) = (B.δ a t : EReal)
end Blk

theorem rh0_idx (s : Fin 512) (d : Fin 64) : rh0.idx (ix2 s d) = ix2 s (col 0 d) := by
  funext a
  match a with
  | ⟨0, _⟩ => exact Fin.ext (by simp [LoadRect.idx, Rect.unit])
  | ⟨1, _⟩ => exact Fin.ext (by simp [LoadRect.idx, Rect.unit])
theorem rh1_idx (s : Fin 512) (d : Fin 64) : rh1.idx (ix2 s d) = ix2 s (col 1 d) := by
  funext a
  match a with
  | ⟨0, _⟩ => exact Fin.ext (by simp [LoadRect.idx, Rect.unit])
  | ⟨1, _⟩ => exact Fin.ext (by simp [LoadRect.idx, Rect.unit])
theorem rc0_idx (s : Fin 512) : rc0.idx (ix3 0 s 0) = ix3 0 s 0 := by
  funext a
  match a with
  | ⟨0, _⟩ => exact Fin.ext (by simp [LoadRect.idx, Rect.unit])
  | ⟨1, _⟩ => exact Fin.ext (by simp [LoadRect.idx, Rect.unit])
  | ⟨2, _⟩ => exact Fin.ext (by simp [LoadRect.idx, Rect.unit])
theorem rc1_idx (s : Fin 512) : rc1.idx (ix3 0 s 0) = ix3 1 s 0 := by
  funext a
  match a with
  | ⟨0, _⟩ => exact Fin.ext (by simp [LoadRect.idx, Rect.unit])
  | ⟨1, _⟩ => exact Fin.ext (by simp [LoadRect.idx, Rect.unit])
  | ⟨2, _⟩ => exact Fin.ext (by simp [LoadRect.idx, Rect.unit])
theorem rl0_idx (s : Fin 512) : rl0.idx (ix3 0 0 s) = ix3 0 0 s := by
  funext a
  match a with
  | ⟨0, _⟩ => exact Fin.ext (by simp [LoadRect.idx, Rect.unit])
  | ⟨1, _⟩ => exact Fin.ext (by simp [LoadRect.idx, Rect.unit])
  | ⟨2, _⟩ => exact Fin.ext (by simp [LoadRect.idx, Rect.unit])
theorem rl1_idx (s : Fin 512) : rl1.idx (ix3 0 0 s) = ix3 1 0 s := by
  funext a
  match a with
  | ⟨0, _⟩ => exact Fin.ext (by simp [LoadRect.idx, Rect.unit])
  | ⟨1, _⟩ => exact Fin.ext (by simp [LoadRect.idx, Rect.unit])
  | ⟨2, _⟩ => exact Fin.ext (by simp [LoadRect.idx, Rect.unit])

/-- An element of a block two parts are laid over, in the upper part and in the lower. -/
theorem over_hi {s : Shape} {α : Type} (r0 r1 : Rect s) (X : s.Idx → α) (p0 : r0.shape.Idx → α) (p1 : r1.shape.Idx → α) (x) (y : s.Idx) (h : r1.idx x = y) :
    r1.overlay (r0.overlay X p0) p1 y = p1 x := by subst h; exact r1.overlay_emb _ _ x
theorem over_lo {s : Shape} {α : Type} (r0 r1 : Rect s) (X : s.Idx → α) (p0 : r0.shape.Idx → α) (p1 : r1.shape.Idx → α) (x) (y : s.Idx) (h : r0.idx x = y) (hn : y ∉ r1.set) :
    r1.overlay (r0.overlay X p0) p1 y = p0 x := by subst h; rw [r1.overlay_of_not_mem _ _ hn]; exact r0.overlay_emb _ _ x

theorem lo_h (s : Fin 512) (d : Fin 64) : (ix2 s (col 0 d) : S512x128.Idx) ∉ rh1.set := fun h => by
  have := (Rect.mem_set_unit.mp h) (1 : Fin 2)
  simp at this
  omega
theorem lo_c (s : Fin 512) : (ix3 0 s 0 : S2x512x1.Idx) ∉ rc1.set := fun h => by
  have := (Rect.mem_set_unit.mp h) (0 : Fin 3)
  simp at this

theorem ld_h0 {x : Vec Ideal S512x128 .bf16} {f : Fin 2 → Fin 512 → Fin 64 → ℝ} (h : ∀ a t d, x (ix2 t (col a d)) = (f a t d : EReal)) (t : Fin 512) (d : Fin 64) :
    View.ld (Val := Elt Ideal) (e' := .bf16) x rh0 (ix2 t d) = (f 0 t d : EReal) := (congrArg x (rh0_idx t d)).trans (h 0 t d)
theorem ld_h1 {x : Vec Ideal S512x128 .bf16} {f : Fin 2 → Fin 512 → Fin 64 → ℝ} (h : ∀ a t d, x (ix2 t (col a d)) = (f a t d : EReal)) (t : Fin 512) (d : Fin 64) :
    View.ld (Val := Elt Ideal) (e' := .bf16) x rh1 (ix2 t d) = (f 1 t d : EReal) := (congrArg x (rh1_idx t d)).trans (h 1 t d)
theorem ld_c0 {x : Vec Ideal S2x512x1 .f32} {f : Fin 2 → Fin 512 → ℝ} (h : ∀ a t, x (ix3 a t 0) = (f a t : EReal)) (t : Fin 512) :
    View.ld (Val := Elt Ideal) (e' := .f32) x rc0 (ix3 0 t 0) = (f 0 t : EReal) := (congrArg x (rc0_idx t)).trans (h 0 t)
theorem ld_c1 {x : Vec Ideal S2x512x1 .f32} {f : Fin 2 → Fin 512 → ℝ} (h : ∀ a t, x (ix3 a t 0) = (f a t : EReal)) (t : Fin 512) :
    View.ld (Val := Elt Ideal) (e' := .f32) x rc1 (ix3 0 t 0) = (f 1 t : EReal) := (congrArg x (rc1_idx t)).trans (h 1 t)
theorem ld_l0 {x : Vec Ideal S2x1x512 .f32} {f : Fin 2 → Fin 512 → ℝ} (h : ∀ a t, x (ix3 a 0 t) = (f a t : EReal)) (t : Fin 512) :
    View.ld (Val := Elt Ideal) (e' := .f32) x rl0 (ix3 0 0 t) = (f 0 t : EReal) := (congrArg x (rl0_idx t)).trans (h 0 t)
theorem ld_l1 {x : Vec Ideal S2x1x512 .f32} {f : Fin 2 → Fin 512 → ℝ} (h : ∀ a t, x (ix3 a 0 t) = (f a t : EReal)) (t : Fin 512) :
    View.ld (Val := Elt Ideal) (e' := .f32) x rl1 (ix3 0 0 t) = (f 1 t : EReal) := (congrArg x (rl1_idx t)).trans (h 1 t)

section blocks
variable (B : Blk) (w : Fin 2 → Fin 512 → Fin 512 → ℝ) (W0 W1 : FVec Ideal S512x512 .f32)
  (x0 x1 x2 : Vec Ideal S512x128 .bf16) (x3 : Vec Ideal S2x512x1 .f32) (x4 : Vec Ideal S512x128 .bf16) (x5 x6 : Vec Ideal S2x1x512 .f32)
  (H : B.Holds x0 x1 x2 x3 x4 x5 x6) (h0 : ∀ s t, W0 (ix2 s t) = (w 0 s t : EReal)) (h1 : ∀ s t, W1 (ix2 s t) = (w 1 s t : EReal))
include H

theorem wF0 (s t : Fin 512) : k0_pay15 (F := Ideal) (View.ld x0 rh0) (View.ld x1 rh0) (View.ld x3 rc0) (View.ld x5 rl0) (ix2 s t) = (B.wF 0 s t : EReal) :=
  pay15_ideal _ _ _ _ _ _ _ _ (ld_h0 H.q) (ld_h0 H.k) (ld_c0 H.c) (ld_l0 H.l) s t
theorem wF1 (s t : Fin 512) : k0_pay15 (F := Ideal) (View.ld x0 rh1) (View.ld x1 rh1) (View.ld x3 rc1) (View.ld x5 rl1) (ix2 s t) = (B.wF 1 s t : EReal) :=
  pay15_ideal _ _ _ _ _ _ _ _ (ld_h1 H.q) (ld_h1 H.k) (ld_c1 H.c) (ld_l1 H.l) s t
theorem wT0 (s t : Fin 512) : k0_pay36 (F := Ideal) (View.ld x0 rh0) (View.ld x1 rh0) (View.ld x3 rc0) (View.ld x5 rl0) (ix2 s t) = (B.wT 0 s t : EReal) :=
  pay36_ideal _ _ _ _ _ _ _ _ (ld_h0 H.q) (ld_h0 H.k) (ld_c0 H.c) (ld_l0 H.l) s t
theorem wT1 (s t : Fin 512) : k0_pay36 (F := Ideal) (View.ld x0 rh1) (View.ld x1 rh1) (View.ld x3 rc1) (View.ld x5 rl1) (ix2 s t) = (B.wT 1 s t : EReal) :=
  pay36_ideal _ _ _ _ _ _ _ _ (ld_h1 H.q) (ld_h1 H.k) (ld_c1 H.c) (ld_l1 H.l) s t

include h0 h1

theorem ds0 (s t : Fin 512) : dsOf (F := Ideal) W0 (View.ld x2 rh0) (View.ld x4 rh0) (View.ld x6 rl0) (ix2 s t) = (B.dS w 0 s t : EReal) :=
  dsOf_ideal _ _ _ _ _ _ _ _ (ld_h0 H.v) (ld_h0 H.o) (ld_l0 H.δ) h0 s t
theorem ds1 (s t : Fin 512) : dsOf (F := Ideal) W1 (View.ld x2 rh1) (View.ld x4 rh1) (View.ld x6 rl1) (ix2 s t) = (B.dS w 1 s t : EReal) :=
  dsOf_ideal _ _ _ _ _ _ _ _ (ld_h1 H.v) (ld_h1 H.o) (ld_l1 H.δ) h1 s t

theorem dvG_ideal (old : Vec Ideal S512x128 .f32) (a : Fin 2) (s : Fin 512) (d : Fin 64) :
    dvG W0 W1 x4 old (ix2 s (col a d)) = old (ix2 s (col a d)) + ((∑ t, w a s t * B.o a t d : ℝ) : EReal) := by
  unfold dvG
  match a with
  | 0 =>
    rw [over_lo _ _ _ _ _ _ _ (rh0_idx s d) (lo_h s d), hv_ideal _ _ _ _ (ld_h0 H.o) h0]
    exact congrArg (· + _) (congrArg old (rh0_idx s d))
  | 1 =>
    rw [over_hi _ _ _ _ _ _ _ (rh1_idx s d), hv_ideal _ _ _ _ (ld_h1 H.o) h1]
    exact congrArg (· + _) (congrArg old (rh1_idx s d))

theorem dkG_ideal (old : Vec Ideal S512x128 .f32) (a : Fin 2) (s : Fin 512) (d : Fin 64) :
    dkG W0 W1 x0 x2 x4 x6 old (ix2 s (col a d)) = old (ix2 s (col a d)) + ((∑ t, B.dS w a s t * (B.q a t d * 0.125) : ℝ) : EReal) := by
  unfold dkG
  match a with
  | 0 =>
    rw [over_lo _ _ _ _ _ _ _ (rh0_idx s d) (lo_h s d), hk_ideal _ _ _ _ (ld_h0 H.q) (ds0 B w W0 W1 x0 x1 x2 x3 x4 x5 x6 H h0 h1)]
    exact congrArg (· + _) (congrArg old (rh0_idx s d))
  | 1 =>
    rw [over_hi _ _ _ _ _ _ _ (rh1_idx s d), hk_ideal _ _ _ _ (ld_h1 H.q) (ds1 B w W0 W1 x0 x1 x2 x3 x4 x5 x6 H h0 h1)]
    exact congrArg (· + _) (congrArg old (rh1_idx s d))

theorem dsG_ideal (old : Vec Ideal S2x512x1 .f32) (a : Fin 2) (s : Fin 512) :
    dsG W0 W1 x2 x4 x6 old (ix3 a s 0) = old (ix3 a s 0) - ((∑ t, B.dS w a s t : ℝ) : EReal) := by
  unfold dsG
  match a with
  | 0 =>
    rw [over_lo _ _ _ _ _ _ _ (rc0_idx s) (lo_c s), hs_ideal _ _ (ds0 B w W0 W1 x0 x1 x2 x3 x4 x5 x6 H h0 h1)]
    exact congrArg (· - _) (congrArg old (rc0_idx s))
  | 1 =>
    rw [over_hi _ _ _ _ _ _ _ (rc1_idx s), hs_ideal _ _ (ds1 B w W0 W1 x0 x1 x2 x3 x4 x5 x6 H h0 h1)]
    exact congrArg (· - _) (congrArg old (rc1_idx s))

/-- The query gradient's block: inside the tile's columns its share is added, elsewhere nothing changes. -/
theorem dqG_ideal (i : Fin 8) (g0 g1) (old : Vec Ideal S128x4096 .f32) (a : Fin 2) (d : Fin 64) (t : Fin 4096) :
    dqG W0 W1 x1 x2 x4 x6 ![0, 512 * i.val] ![64, 512 * i.val] g0 g1 old (ix2 (col a d) t)
      = old (ix2 (col a d) t) + ((if h : t.val / 512 = i.val then (∑ s, B.k a s d * B.dS w a s ⟨t.val % 512, by omega⟩) * 0.125 else 0 : ℝ) : EReal) := by
  unfold dqG
  have ht := t.isLt
  by_cases h : t.val / 512 = i.val
  · rw [dif_pos h]
    have e0 : (Rect.unit (s := S128x4096) ![0, 512 * i.val] S64x512.size g0).idx (ix2 d ⟨t.val % 512, by omega⟩) = ix2 (col 0 d) t := by
      funext b
      match b with
      | ⟨0, _⟩ => exact Fin.ext (by simp [LoadRect.idx, Rect.unit])
      | ⟨1, _⟩ => exact Fin.ext (by simp [LoadRect.idx, Rect.unit]; omega)
    have e1 : (Rect.unit (s := S128x4096) ![64, 512 * i.val] S64x512.size g1).idx (ix2 d ⟨t.val % 512, by omega⟩) = ix2 (col 1 d) t := by
      funext b
      match b with
      | ⟨0, _⟩ => exact Fin.ext (by simp [LoadRect.idx, Rect.unit])
      | ⟨1, _⟩ => exact Fin.ext (by simp [LoadRect.idx, Rect.unit]; omega)
    match a with
    | 0 =>
      rw [over_lo _ _ _ _ _ _ _ e0 (fun h => by have := (Rect.mem_set_unit.mp h) (0 : Fin 2); simp at this; omega), hq_ideal _ _ _ _ (ld_h0 H.k) (ds0 B w W0 W1 x0 x1 x2 x3 x4 x5 x6 H h0 h1)]
      exact congrArg (· + _) (congrArg old e0)
    | 1 =>
      rw [over_hi _ _ _ _ _ _ _ e1, hq_ideal _ _ _ _ (ld_h1 H.k) (ds1 B w W0 W1 x0 x1 x2 x3 x4 x5 x6 H h0 h1)]
      exact congrArg (· + _) (congrArg old e1)
  · rw [dif_neg h, Rect.overlay_of_not_mem, Rect.overlay_of_not_mem, EReal.coe_zero, add_zero]
    · intro hm; have := (Rect.mem_set_unit.mp hm) (1 : Fin 2); simp at this; omega
    · intro hm; have := (Rect.mem_set_unit.mp hm) (1 : Fin 2); simp at this; omega

end blocks

end Cert.KernelIdeal.Hand

end
-- ==== Proof.Host.lean ====
module

public import proofs.«01_k».proof.Proof.Setup
public import proofs.«01_k».proof.Proof.Real
public import Idealize.ShloMosaic.Lib.StableHlo.RunRead
public import Idealize.ShloMosaic.Lib.Pipeline.Value
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape

/-! What the lines before the launch hand it, over the extended reals, where the arguments are real numbers. -/

@[expose] public section

set_option maxRecDepth 16384

noncomputable section

namespace Cert.KernelIdeal.Hand

open Cert.KernelIdeal.Gen Attn
open Idealize.ShloMosaic Idealize.ShloMosaic.TcCoe Idealize.SL.Sem

section lines
variable {F : FTy → Type} [FloatOps F] [Named F]
variable (x0 : FVec F S4096x1024 .f32) (x1 : FVec F S4096x2048 .f32) (x2 : FVec F S4096x16 .f32) (x3 : FVec F S4096x1024 .f32)

def hQ : FVec F S4096x16x64 .f32 := shapeCast _ x0 shapeCasts_S4096x1024_S4096x16x64
def hK : FVec F S4096x16x64 .f32 := shapeCast _ (extractStridedSlice S4096x1024 ![0, 0] x1 slices_S4096x2048_S4096x1024_0_0) shapeCasts_S4096x1024_S4096x16x64
def hV : FVec F S4096x16x64 .f32 := shapeCast _ (extractStridedSlice S4096x1024 ![0, 1024] x1 slices_S4096x2048_S4096x1024_0_1024) shapeCasts_S4096x1024_S4096x16x64
def hC : FVec F S16x1x4096 .f32 := shapeCast _ (transpose S16x4096 [1, 0] x2 transposes_S4096x16_S16x4096_1_0) shapeCasts_S16x4096_S16x1x4096
/-- The scores, the mask and the masked scores. -/
def hA : FVec F S16x4096x4096 .f32 :=
  subf (mulf (Host.dotGeneral dot_S4096x16x64_S4096x16x64_S16x4096x4096_2_2_0_0_1_1 none (hQ x0) (hK x1)) (broadcastInDim S16x4096x4096 ![] bcast_S_S16x4096x4096 (constant S_ .f32 0x3E000000#32)))
    (broadcastInDim S16x4096x4096 ![0, 1, 2] bcast_S16x1x4096_S16x4096x4096_0_1_2 (hC x2))
def hM : IVec S16x4096x4096 1 :=
  broadcastInDim S16x4096x4096 ![1, 2] bcast_S4096x4096_S16x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))
def hS : FVec F S16x4096x4096 .f32 := select hM (hA x0 x1 x2) (broadcastInDim S16x4096x4096 ![] bcast_S_S16x4096x4096 (constant S_ .f32 0xFF800000#32))
/-- The row maxima, the exponentials and their sums. -/
def hX0 : FVec F S16x4096 .f32 := Host.reduce FloatOps.maximumf (hS x0 x1 x2) (constant S_ .f32 0xFF800000#32) reducesTo_S16x4096x4096_S16x4096_d2 h_S_
def hX : FVec F S16x4096x1 .f32 := broadcastInDim S16x4096x1 ![0, 1] bcast_S16x4096_S16x4096x1_0_1 (hX0 x0 x1 x2)
def hE : FVec F S16x4096x4096 .f32 := Host.exp (subf (hS x0 x1 x2) (broadcastInDim S16x4096x4096 ![0, 1, 2] bcast_S16x4096x1_S16x4096x4096_0_1_2 (hX x0 x1 x2)))
def hZ : FVec F S16x4096x1 .f32 :=
  broadcastInDim S16x4096x1 ![0, 1] bcast_S16x4096_S16x4096x1_0_1 (Host.reduceAdd (hE x0 x1 x2) (constant S_ .f32 0x00000000#32) reducesTo_S16x4096x4096_S16x4096_d2 h_S_)
def hL0 : FVec F S16x4096x1 .f32 := addf (hX x0 x1 x2) (Host.log (hZ x0 x1 x2))
/-- The logarithms of the sums, and the products of the results with their cotangent. -/
def hL : FVec F S16x1x4096 .f32 := shapeCast _ (hL0 x0 x1 x2) shapeCasts_S16x4096x1_S16x1x4096
def hP : FVec F S16x4096x4096 .f32 := Host.divf (hE x0 x1 x2) (broadcastInDim S16x4096x4096 ![0, 1, 2] bcast_S16x4096x1_S16x4096x4096_0_1_2 (hZ x0 x1 x2))
def hR : FVec F S4096x16x64 .f32 :=
  transpose S4096x16x64 [2, 0, 1] (Host.dotGeneral dot_S4096x16x64_S16x4096x4096_S16x64x4096_0_2_2_1_1_0 none (hV x1) (hP x0 x1 x2)) transposes_S16x64x4096_S4096x16x64_2_0_1
def hD : FVec F S16x1x4096 .f32 :=
  shapeCast _ (transpose S16x4096 [1, 0] (Host.reduceAdd (mulf (shapeCast _ x3 shapeCasts_S4096x1024_S4096x16x64) (hR x0 x1 x2)) (constant S_ .f32 0x00000000#32) reducesTo_S4096x16x64_S4096x16_d2 h_S_) transposes_S4096x16_S16x4096_1_0) shapeCasts_S16x4096_S16x1x4096

variable (m : (ℓ : Loc nD τ sig) → Buf (Elt F) ℓ) (c : Dev nD)
abbrev a0 : FVec F S4096x1024 .f32 := m ((c.tc : Thread nD τ).loc main_arg0)
abbrev a1 : FVec F S4096x2048 .f32 := m ((c.tc : Thread nD τ).loc main_arg1)
abbrev a2 : FVec F S4096x16 .f32 := m ((c.tc : Thread nD τ).loc main_arg2)
abbrev a3 : FVec F S4096x1024 .f32 := m ((c.tc : Thread nD τ).loc main_arg3)

theorem V30 : V m c main_v30 = hL (a0 m c) (a1 m c) (a2 m c) := by
  unfold V; after_reads_simp; rfl
theorem V39 : V m c main_v39 = hD (a0 m c) (a1 m c) (a2 m c) (a3 m c) := by
  unfold V; after_reads_simp; rfl
theorem V40 : V m c main_v40 = truncf .bf16 (a0 m c) bitsLt_bf16_f32 := by
  unfold V; after_reads_simp
theorem V41 : V m c main_v41 = truncf .bf16 (a1 m c) bitsLt_bf16_f32 := by
  unfold V; after_reads_simp
theorem V42 : V m c main_v42 = shapeCast _ (hC (a2 m c)) shapeCasts_S16x1x4096_S16x4096x1 := by
  unfold V; after_reads_simp; rfl
theorem V43 : V m c main_v43 = truncf .bf16 (a3 m c) bitsLt_bf16_f32 := by
  unfold V; after_reads_simp
end lines

section ideal

/-- A column of each head as a row of it, and back. -/
theorem to_row {α : Type} (y : S16x4096x1.Idx → α) (h : Fin 16) (t : Fin 4096) :
    shapeCast S16x1x4096 y shapeCasts_S16x4096x1_S16x1x4096 (ix3 h 0 t) = y (ix3 h t 0) :=
  shapeCast_apply y _ _ _ (by rewrite [Shape.rowMajor_val_three, Shape.rowMajor_val_three]; show (h.val * 4096 + t.val) * 1 + 0 = (h.val * 1 + 0) * 4096 + t.val; omega)
theorem to_col {α : Type} (y : S16x1x4096.Idx → α) (h : Fin 16) (t : Fin 4096) :
    shapeCast S16x4096x1 y shapeCasts_S16x1x4096_S16x4096x1 (ix3 h t 0) = y (ix3 h 0 t) :=
  shapeCast_apply y _ _ _ (by rewrite [Shape.rowMajor_val_three, Shape.rowMajor_val_three]; show (h.val * 1 + 0) * 4096 + t.val = (h.val * 4096 + t.val) * 1 + 0; omega)

variable (X : Data) (x0 : FVec Ideal S4096x1024 .f32) (x1 : FVec Ideal S4096x2048 .f32) (x2 : FVec Ideal S4096x16 .f32) (x3 : FVec Ideal S4096x1024 .f32)
  (H : X.Args x0 x1 x2 x3)
include H

theorem hQ_at (h : Fin 16) (t : Fin 4096) (d : Fin 64) : hQ (F := Ideal) x0 (ix3 t h d) = (X.q h t d : EReal) := by
  unfold hQ; pointwise; exact H.q h t d
theorem hK_at (h : Fin 16) (t : Fin 4096) (d : Fin 64) : hK (F := Ideal) x1 (ix3 t h d) = (X.k h t d : EReal) := by
  unfold hK; pointwise; exact H.k h t d
theorem hV_at (h : Fin 16) (t : Fin 4096) (d : Fin 64) : hV (F := Ideal) x1 (ix3 t h d) = (X.v h t d : EReal) := by
  unfold hV; pointwise; exact H.v h t d
theorem hC_at (h : Fin 16) (t : Fin 4096) : hC (F := Ideal) x2 (ix3 h 0 t) = (X.c h t : EReal) := by
  unfold hC; pointwise; exact H.c h t
theorem hA_at (h : Fin 16) (t s : Fin 4096) : hA (F := Ideal) x0 x1 x2 (ix3 h t s) = (X.A h t s : EReal) := by
  unfold hA
  pointwise
  simp only [hQ_at X x0 x1 x2 x3 H, hK_at X x0 x1 x2 x3 H, hC_at X x0 x1 x2 x3 H, eighth_f32, ← EReal.coe_mul, ← EReal.coe_sub, coe_sum]
  rfl
omit H in
theorem hM_at (h : Fin 16) (t s : Fin 4096) : hM (ix3 h t s) = if s ≤ t then 1#1 else 0#1 := by
  unfold hM
  pointwise
  exact sle_ofNat _ _ (by omega) (by omega)
theorem hS_at (h : Fin 16) (t s : Fin 4096) : hS (F := Ideal) x0 x1 x2 (ix3 h t s) = if s ≤ t then (X.A h t s : EReal) else ⊥ := by
  unfold hS
  pointwise
  rw [hM_at, hA_at X x0 x1 x2 x3 H, neg_inf]
  split <;> rfl
theorem hX0_at (h : Fin 16) (t : Fin 4096) : ∃ M : ℝ, hX0 (F := Ideal) x0 x1 x2 (ix2 h t) = (M : EReal) := by
  unfold hX0
  rw [Host.reduce_eq_fold]
  pointwise
  rw [neg_inf]
  generalize hf : (fun x => hS (F := Ideal) x0 x1 x2 (ix3 h t x)) = f
  have hf' : ∀ s, f s = if s ≤ t then (X.A h t s : EReal) else ⊥ := fun s => by subst hf; exact hS_at X x0 x1 x2 x3 H h t s
  clear hf
  exact max_masked' _ rfl f _ t hf'
theorem hX_at : ∃ M : Fin 16 → Fin 4096 → ℝ, ∀ h t, hX (F := Ideal) x0 x1 x2 (ix3 h t 0) = (M h t : EReal) := by
  choose M hM using hX0_at X x0 x1 x2 x3 H
  refine ⟨M, fun h t => ?_⟩
  unfold hX
  pointwise
  exact hM h t

variable (M : Fin 16 → Fin 4096 → ℝ) (hM : ∀ h t, hX (F := Ideal) x0 x1 x2 (ix3 h t 0) = (M h t : EReal))
include hM

omit hM H in
theorem log_read {s : Shape} (A B : FVec Ideal s .f32) (i : s.Idx) (a z : ℝ) (ha : A i = a)
    (hb : B i = z) (h : 0 < z) : addf A (Host.log B) i = ((a + Real.log z : ℝ) : EReal) := by
  have e : addf A (Host.log B) i = (A i + Ideal.log (B i) : EReal) := rfl
  rw [e, ha, hb, Ideal.log_coe, if_neg h.not_ge, EReal.coe_add]

theorem hE_at (h : Fin 16) (t s : Fin 4096) : hE (F := Ideal) x0 x1 x2 (ix3 h t s) = (X.E h t s (M h t) : EReal) := by
  unfold hE
  pointwise
  rw [hS_at X x0 x1 x2 x3 H, hM]
  unfold Data.E
  split
  · rw [← EReal.coe_sub, Ideal.exp_coe]
  · rw [EReal.bot_sub, Ideal.exp_bot]; rfl
theorem hZ_at (h : Fin 16) (t : Fin 4096) : hZ (F := Ideal) x0 x1 x2 (ix3 h t 0) = (X.Z h t (M h t) : EReal) := by
  unfold hZ
  pointwise
  simp only [hE_at X x0 x1 x2 x3 H M hM, coe_sum]
  rfl
theorem hL_at (h : Fin 16) (t : Fin 4096) : hL (F := Ideal) x0 x1 x2 (ix3 h 0 t) =
    ((M h t + Real.log (X.Z h t (M h t)) : ℝ) : EReal) := by
  unfold hL
  rw [to_row]
  unfold hL0
  exact log_read _ _ _ _ _ (hM h t) (hZ_at X x0 x1 x2 x3 H M hM h t) (Data.Z_pos ..)

theorem hP_at (h : Fin 16) (t s : Fin 4096) : hP (F := Ideal) x0 x1 x2 (ix3 h t s) = (X.P h t s : EReal) := by
  unfold hP
  pointwise
  rw [hZ_at X x0 x1 x2 x3 H M hM, hE_at X x0 x1 x2 x3 H M hM, Ideal.div_coe (X.Z_pos h t _).ne', ← EReal.coe_mul, X.P_eq h t s (M h t)]
  congr 1; ring
theorem hD_at (h : Fin 16) (t : Fin 4096) : hD (F := Ideal) x0 x1 x2 x3 (ix3 h 0 t) = (X.D h t : EReal) := by
  unfold hD hR
  pointwise
  simp only [hV_at X x0 x1 x2 x3 H, hP_at X x0 x1 x2 x3 H M hM, H.o, ← EReal.coe_mul, coe_sum]
  rw [X.D_eq]
end ideal

end Cert.KernelIdeal.Hand

end
-- ==== Proof.Blocks.lean ====
module

public import proofs.«01_k».proof.Proof.Sched
public import proofs.«01_k».proof.Proof.Elem
public import proofs.«01_k».proof.Proof.Host
public import Idealize.ShloMosaic.Lib.Pipeline.Value

/-! What the blocks of a point hold over the extended reals, where the arguments are real numbers. -/

@[expose] public section

set_option maxRecDepth 16384

noncomputable section

namespace Cert.KernelIdeal.Hand

open Cert.KernelIdeal.Gen Attn
open Idealize.ShloMosaic Idealize.ShloMosaic.TcCoe Idealize.SL.Sem
open Idealize.ShloMosaic.Pipeline (Window)

/-- A row of a block of rows, and a head of a pair. -/
abbrev row (i : Fin 8) (r : Fin 512) : Fin 4096 := ⟨512 * i.val + r.val, by omega⟩
abbrev hp (p : Fin 8) (a : Fin 2) : Fin 16 := ⟨2 * p.val + a.val, by omega⟩

/-- A tile's query block and key block, and a point's head pair. -/
abbrev qi (s : Fin 36) : Fin 8 := ⟨(lit0 s).toNat, lit0_lt s⟩
abbrev kj (s : Fin 36) : Fin 8 := ⟨(lit1 s).toNat, lit1_lt s⟩

section reads
variable {F : FTy → Type} [FloatOps F] [Named F]
variable (m : (ℓ : Loc nD τ sig) → Buf (Elt F) ℓ) (hO : Ok m) (c : Dev nD) (t : Fin grid0.N)

/-- A point's tile and head pair. -/
abbrev pt : Fin 36 := tileOf (grid0.coords t)
abbrev pp : Fin 8 := (grid0.coords t) 0

theorem ib0 (a : Fin 2) (r : Fin 512) (d : Fin 64) : iblk m hO c 0 t (ix2 r (col a d)) = V m c main_v40 (ix2 (row (qi (pt t)) r) (hd (hp (pp t) a) d)) := by
  have e : ((cfgM m hO).win 0).index t = _ := tr0 m (grid0.coords t)
  refine congrArg (V m c main_v40) (funext fun b => Fin.ext ?_)
  match b with
  | ⟨0, _⟩ =>
    refine (Window.rect_emb_val ((cfgM m hO).win 0) t (ix2 r (col a d)) ⟨0, (by decide : 0 < 2)⟩ rfl).trans ?_
    rw [congrFun e ⟨0, (by decide : 0 < 2)⟩]
    show (lit0 (pt t)).toNat * 512 + r.val = 512 * (lit0 (pt t)).toNat + r.val; omega
  | ⟨1, _⟩ =>
    refine (Window.rect_emb_val ((cfgM m hO).win 0) t (ix2 r (col a d)) ⟨1, (by decide : 1 < 2)⟩ rfl).trans ?_
    rw [congrFun e ⟨1, (by decide : 1 < 2)⟩]
    show (pp t).val * 128 + (64 * a.val + d.val) = (2 * (pp t).val + a.val) * 64 + d.val; omega
theorem ib1 (a : Fin 2) (r : Fin 512) (d : Fin 64) : iblk m hO c 1 t (ix2 r (col a d)) = V m c main_v41 (ix2 (row (kj (pt t)) r) ⟨(hp (pp t) a).val * 64 + d.val, by omega⟩) := by
  have e : ((cfgM m hO).win 1).index t = _ := tr1 m (grid0.coords t)
  refine congrArg (V m c main_v41) (funext fun b => Fin.ext ?_)
  match b with
  | ⟨0, _⟩ =>
    refine (Window.rect_emb_val ((cfgM m hO).win 1) t (ix2 r (col a d)) ⟨0, (by decide : 0 < 2)⟩ rfl).trans ?_
    rw [congrFun e ⟨0, (by decide : 0 < 2)⟩]
    show (lit1 (pt t)).toNat * 512 + r.val = 512 * (lit1 (pt t)).toNat + r.val; omega
  | ⟨1, _⟩ =>
    refine (Window.rect_emb_val ((cfgM m hO).win 1) t (ix2 r (col a d)) ⟨1, (by decide : 1 < 2)⟩ rfl).trans ?_
    rw [congrFun e ⟨1, (by decide : 1 < 2)⟩]
    show (pp t).val * 128 + (64 * a.val + d.val) = (2 * (pp t).val + a.val) * 64 + d.val; omega
theorem ib2 (a : Fin 2) (r : Fin 512) (d : Fin 64) : iblk m hO c 2 t (ix2 r (col a d)) = V m c main_v41 (ix2 (row (kj (pt t)) r) (hdv (hp (pp t) a) d)) := by
  have e : ((cfgM m hO).win 2).index t = _ := tr2 m (grid0.coords t)
  refine congrArg (V m c main_v41) (funext fun b => Fin.ext ?_)
  match b with
  | ⟨0, _⟩ =>
    refine (Window.rect_emb_val ((cfgM m hO).win 2) t (ix2 r (col a d)) ⟨0, (by decide : 0 < 2)⟩ rfl).trans ?_
    rw [congrFun e ⟨0, (by decide : 0 < 2)⟩]
    show (lit1 (pt t)).toNat * 512 + r.val = 512 * (lit1 (pt t)).toNat + r.val; omega
  | ⟨1, _⟩ =>
    refine (Window.rect_emb_val ((cfgM m hO).win 2) t (ix2 r (col a d)) ⟨1, (by decide : 1 < 2)⟩ rfl).trans ?_
    rw [congrFun e ⟨1, (by decide : 1 < 2)⟩]
    show (8 + (pp t).val) * 128 + (64 * a.val + d.val) = 1024 + ((2 * (pp t).val + a.val) * 64 + d.val); omega
theorem ib3 (a : Fin 2) (r : Fin 512) : iblk m hO c 3 t (ix3 a r 0) = V m c main_v42 (ix3 (hp (pp t) a) (row (kj (pt t)) r) 0) := by
  have e : ((cfgM m hO).win 3).index t = _ := tr3 m (grid0.coords t)
  refine congrArg (V m c main_v42) (funext fun b => Fin.ext ?_)
  match b with
  | ⟨0, _⟩ =>
    refine (Window.rect_emb_val ((cfgM m hO).win 3) t (ix3 a r 0) ⟨0, (by decide : 0 < 3)⟩ rfl).trans ?_
    rw [congrFun e ⟨0, (by decide : 0 < 3)⟩]
    show (pp t).val * 2 + a.val = 2 * (pp t).val + a.val; omega
  | ⟨1, _⟩ =>
    refine (Window.rect_emb_val ((cfgM m hO).win 3) t (ix3 a r 0) ⟨1, (by decide : 1 < 3)⟩ rfl).trans ?_
    rw [congrFun e ⟨1, (by decide : 1 < 3)⟩]
    show (lit1 (pt t)).toNat * 512 + r.val = 512 * (lit1 (pt t)).toNat + r.val; omega
  | ⟨2, _⟩ =>
    refine (Window.rect_emb_val ((cfgM m hO).win 3) t (ix3 a r 0) ⟨2, (by decide : 2 < 3)⟩ rfl).trans ?_
    rw [congrFun e ⟨2, (by decide : 2 < 3)⟩]
    rfl
theorem ib4 (a : Fin 2) (r : Fin 512) (d : Fin 64) : iblk m hO c 4 t (ix2 r (col a d)) = V m c main_v43 (ix2 (row (qi (pt t)) r) (hd (hp (pp t) a) d)) := by
  have e : ((cfgM m hO).win 4).index t = _ := tr4 m (grid0.coords t)
  refine congrArg (V m c main_v43) (funext fun b => Fin.ext ?_)
  match b with
  | ⟨0, _⟩ =>
    refine (Window.rect_emb_val ((cfgM m hO).win 4) t (ix2 r (col a d)) ⟨0, (by decide : 0 < 2)⟩ rfl).trans ?_
    rw [congrFun e ⟨0, (by decide : 0 < 2)⟩]
    show (lit0 (pt t)).toNat * 512 + r.val = 512 * (lit0 (pt t)).toNat + r.val; omega
  | ⟨1, _⟩ =>
    refine (Window.rect_emb_val ((cfgM m hO).win 4) t (ix2 r (col a d)) ⟨1, (by decide : 1 < 2)⟩ rfl).trans ?_
    rw [congrFun e ⟨1, (by decide : 1 < 2)⟩]
    show (pp t).val * 128 + (64 * a.val + d.val) = (2 * (pp t).val + a.val) * 64 + d.val; omega
theorem ib5 (a : Fin 2) (r : Fin 512) : iblk m hO c 5 t (ix3 a 0 r) = V m c main_v30 (ix3 (hp (pp t) a) 0 (row (qi (pt t)) r)) := by
  have e : ((cfgM m hO).win 5).index t = _ := tr5 m (grid0.coords t)
  refine congrArg (V m c main_v30) (funext fun b => Fin.ext ?_)
  match b with
  | ⟨0, _⟩ =>
    refine (Window.rect_emb_val ((cfgM m hO).win 5) t (ix3 a 0 r) ⟨0, (by decide : 0 < 3)⟩ rfl).trans ?_
    rw [congrFun e ⟨0, (by decide : 0 < 3)⟩]
    show (pp t).val * 2 + a.val = 2 * (pp t).val + a.val; omega
  | ⟨1, _⟩ =>
    refine (Window.rect_emb_val ((cfgM m hO).win 5) t (ix3 a 0 r) ⟨1, (by decide : 1 < 3)⟩ rfl).trans ?_
    rw [congrFun e ⟨1, (by decide : 1 < 3)⟩]
    rfl
  | ⟨2, _⟩ =>
    refine (Window.rect_emb_val ((cfgM m hO).win 5) t (ix3 a 0 r) ⟨2, (by decide : 2 < 3)⟩ rfl).trans ?_
    rw [congrFun e ⟨2, (by decide : 2 < 3)⟩]
    show (lit0 (pt t)).toNat * 512 + r.val = 512 * (lit0 (pt t)).toNat + r.val; omega
theorem ib6 (a : Fin 2) (r : Fin 512) : iblk m hO c 6 t (ix3 a 0 r) = V m c main_v39 (ix3 (hp (pp t) a) 0 (row (qi (pt t)) r)) := by
  have e : ((cfgM m hO).win 6).index t = _ := tr6 m (grid0.coords t)
  refine congrArg (V m c main_v39) (funext fun b => Fin.ext ?_)
  match b with
  | ⟨0, _⟩ =>
    refine (Window.rect_emb_val ((cfgM m hO).win 6) t (ix3 a 0 r) ⟨0, (by decide : 0 < 3)⟩ rfl).trans ?_
    rw [congrFun e ⟨0, (by decide : 0 < 3)⟩]
    show (pp t).val * 2 + a.val = 2 * (pp t).val + a.val; omega
  | ⟨1, _⟩ =>
    refine (Window.rect_emb_val ((cfgM m hO).win 6) t (ix3 a 0 r) ⟨1, (by decide : 1 < 3)⟩ rfl).trans ?_
    rw [congrFun e ⟨1, (by decide : 1 < 3)⟩]
    rfl
  | ⟨2, _⟩ =>
    refine (Window.rect_emb_val ((cfgM m hO).win 6) t (ix3 a 0 r) ⟨2, (by decide : 2 < 3)⟩ rfl).trans ?_
    rw [congrFun e ⟨2, (by decide : 2 < 3)⟩]
    show (lit0 (pt t)).toNat * 512 + r.val = 512 * (lit0 (pt t)).toNat + r.val; omega
end reads

section ideal
variable (X : Data) (M : Fin 16 → Fin 4096 → ℝ)

/-- The numbers of a tile's blocks. -/
def tile (p : Fin 8) (s : Fin 36) : Blk where
  q a r d := X.q (hp p a) (row (qi s) r) d
  k a r d := X.k (hp p a) (row (kj s) r) d
  v a r d := X.v (hp p a) (row (kj s) r) d
  c a r := X.c (hp p a) (row (kj s) r)
  o a r d := X.o (hp p a) (row (qi s) r) d
  l a r := M (hp p a) (row (qi s) r) + Real.log (X.Z (hp p a) (row (qi s) r) (M (hp p a) (row (qi s) r)))
  δ a r := X.D (hp p a) (row (qi s) r)

variable (m : (ℓ : Loc nD τ sig) → Buf (Elt Ideal) ℓ) (hO : Ok m) (c : Dev nD) (t : Fin grid0.N)
  (H : X.Args (a0 m c) (a1 m c) (a2 m c) (a3 m c)) (hM : ∀ h t, hX (F := Ideal) (a0 m c) (a1 m c) (a2 m c) (ix3 h t 0) = (M h t : EReal))
include H hM

theorem holds : (tile X M (pp t) (pt t)).Holds (iblk m hO c 0 t) (iblk m hO c 1 t) (iblk m hO c 2 t) (iblk m hO c 3 t) (iblk m hO c 4 t) (iblk m hO c 5 t) (iblk m hO c 6 t) where
  q a r d := by rw [ib0, V40]; exact H.q _ _ _
  k a r d := by rw [ib1, V41]; exact H.k _ _ _
  v a r d := by rw [ib2, V41]; exact H.v _ _ _
  c a r := by rw [ib3, V42, to_col]; exact hC_at X _ _ _ _ H _ _
  o a r d := by rw [ib4, V43]; exact H.o _ _ _
  l a r := by rw [ib5, V30]; exact hL_at X _ _ _ _ H M hM _ _
  δ a r := by rw [ib6, V39]; exact hD_at X _ _ _ _ H M hM _ _

omit H hM

/-- A tile's weights and score cotangents are the attention's own: off the diagonal, where each key comes before each
query, and on it, where the mask leaves out the late ones. -/
theorem wF_tile (p : Fin 8) (s : Fin 36) (hd : kj s < qi s) (a : Fin 2) (r u : Fin 512) :
    (tile X M p s).wF a r u = X.P (hp p a) (row (qi s) u) (row (kj s) r) := by
  refine X.P_lse _ _ _ _ ?_
  rw [Fin.lt_def] at hd
  rw [Fin.le_def]
  show 512 * (kj s).val + r.val ≤ 512 * (qi s).val + u.val
  omega
theorem wT_tile (p : Fin 8) (s : Fin 36) (hd : kj s = qi s) (a : Fin 2) (r u : Fin 512) :
    (tile X M p s).wT a r u = X.P (hp p a) (row (qi s) u) (row (kj s) r) := by
  have hv : (kj s).val = (qi s).val := congrArg Fin.val hd
  unfold Blk.wT tM
  split
  · next h =>
    rw [Fin.lt_def] at h
    refine (X.P_late _ _ _ ?_).symm
    rw [Fin.le_def]
    show ¬ 512 * (kj s).val + r.val ≤ 512 * (qi s).val + u.val
    omega
  · next h =>
    rw [Fin.lt_def] at h
    refine X.P_lse _ _ _ _ ?_
    rw [Fin.le_def]
    show 512 * (kj s).val + r.val ≤ 512 * (qi s).val + u.val
    omega

/-- The weights of a tile. -/
def tw (p : Fin 8) (s : Fin 36) (a : Fin 2) (r u : Fin 512) : ℝ := X.P (hp p a) (row (qi s) u) (row (kj s) r)

theorem dS_tile (p : Fin 8) (s : Fin 36) (a : Fin 2) (r u : Fin 512) :
    (tile X M p s).dS (tw X p s) a r u = X.dS (hp p a) (row (qi s) u) (row (kj s) r) := rfl
end ideal

end Cert.KernelIdeal.Hand

end
-- ==== Proof.Sums.lean ====
module

public import proofs.«01_k».proof.Proof.Blocks

/-! The tiles' shares of the gradients, summed along a column of tiles and along a head pair. -/

@[expose] public section

set_option maxRecDepth 16384

noncomputable section

namespace Cert.KernelIdeal.Hand

open Cert.KernelIdeal.Gen Attn
open Idealize.ShloMosaic Idealize.ShloMosaic.TcCoe Idealize.SL.Sem

/-- A sum over the rows is one over the blocks and the rows of each. -/
theorem sum_rows (f : Fin 4096 → ℝ) : ∑ t, f t = ∑ i : Fin 8, ∑ u : Fin 512, f (row i u) := by
  rw [← Fintype.sum_prod_type' fun i u => f (row i u)]
  refine (Fintype.sum_equiv ((finProdFinEquiv (m := 8) (n := 512)).trans (finCongr (by decide))) _ _ fun x => ?_).symm
  refine congrArg f (Fin.ext ?_)
  show 512 * x.1.val + x.2.val = x.2.val + 512 * x.1.val
  omega

/-- The tiles of a column up to one of them, and those of a head pair. -/
def colTo (s : Fin 36) : Finset (Fin 36) := Finset.univ.filter fun s' => kj s' = kj s ∧ s' ≤ s
def upTo (s : Fin 36) : Finset (Fin 36) := Finset.univ.filter fun s' => s' ≤ s

theorem colTo_diag : ∀ s, Diag s → colTo s = {s} := by decide +kernel
theorem colTo_next : ∀ s s' : Fin 36, s'.val + 1 = s.val → ¬ Diag s → s ∉ colTo s' ∧ colTo s = insert s (colTo s') := by decide +kernel
theorem upTo_next : ∀ s s' : Fin 36, s'.val + 1 = s.val → s ∉ upTo s' ∧ upTo s = insert s (upTo s') := by decide +kernel
theorem upTo_zero : upTo 0 = {0} := by decide +kernel
theorem upTo_last : upTo 35 = Finset.univ := by decide +kernel

theorem before_diag : ∀ t : Fin grid0.N, ¬ Diag (pt t) → ∃ t' : Fin grid0.N, t'.val + 1 = t.val ∧ pp t' = pp t ∧ (pt t').val + 1 = (pt t).val := by decide +kernel
theorem before_tile : ∀ t : Fin grid0.N, pt t ≠ 0 → ∃ t' : Fin grid0.N, t'.val + 1 = t.val ∧ pp t' = pp t ∧ (pt t').val + 1 = (pt t).val := by decide +kernel

/-- What starts anew at each diagonal tile is, after a point, the sum of its column's shares so far. -/
theorem along_col (f : ℕ → EReal) (g : Fin 8 → Fin 36 → ℝ)
    (hf : ∀ t : Fin grid0.N, f (t.val + 1) = (if Diag (pt t) then 0 else f t.val) + (g (pp t) (pt t) : EReal)) :
    ∀ n : ℕ, ∀ t : Fin grid0.N, t.val = n → f (n + 1) = ((∑ s ∈ colTo (pt t), g (pp t) s : ℝ) : EReal) := by
  intro n
  induction n with
  | zero =>
    rintro t ht
    have hd := at_first t ht
    rw [← ht, hf t, if_pos hd, colTo_diag _ hd, Finset.sum_singleton, zero_add]
  | succ n ih =>
    rintro t ht
    by_cases hd : Diag (pt t)
    · rw [← ht, hf t, if_pos hd, colTo_diag _ hd, Finset.sum_singleton, zero_add]
    · obtain ⟨t', h1, h2, h3⟩ := before_diag t hd
      obtain ⟨h4, h5⟩ := colTo_next _ _ h3 hd
      have h6 := ih t' (by omega)
      rw [← ht, hf t, if_neg hd, ht, h6, h5, Finset.sum_insert h4, h2, ← EReal.coe_add, add_comm]

/-- What starts anew at each head pair is the sum of its tiles' shares so far. -/
theorem along_pair (f : ℕ → EReal) (g : Fin 8 → Fin 36 → ℝ)
    (hf : ∀ t : Fin grid0.N, f (t.val + 1) = (if pt t = 0 then 0 else f t.val) + (g (pp t) (pt t) : EReal)) :
    ∀ n : ℕ, ∀ t : Fin grid0.N, t.val = n → f (n + 1) = ((∑ s ∈ upTo (pt t), g (pp t) s : ℝ) : EReal) := by
  intro n
  induction n with
  | zero =>
    rintro t ht
    obtain rfl : t = ⟨0, by decide⟩ := Fin.ext ht
    have hd := first_tile (by decide)
    have e := hf ⟨0, by decide⟩
    rw [if_pos hd, zero_add] at e
    rw [e, show pt ⟨0, by decide⟩ = 0 from hd, upTo_zero, Finset.sum_singleton, zero_add]
  | succ n ih =>
    rintro t ht
    by_cases hd : pt t = 0
    · rw [← ht, hf t, if_pos hd, zero_add, hd, upTo_zero, Finset.sum_singleton]
    · obtain ⟨t', h1, h2, h3⟩ := before_tile t hd
      obtain ⟨h4, h5⟩ := upTo_next _ _ h3
      have h6 := ih t' (by omega)
      rw [← ht, hf t, if_neg hd, ht, h6, h5, Finset.sum_insert h4, h2, ← EReal.coe_add, add_comm]

theorem colTo_inj : ∀ s, ∀ x ∈ colTo s, ∀ y ∈ colTo s, qi x = qi y → x = y := by decide +kernel
theorem colTo_mem : ∀ s, ColEnd s → ∀ i : Fin 8, kj s ≤ i → ∃ x ∈ colTo s, qi x = i := by decide +kernel
theorem colTo_kj : ∀ s, ∀ x ∈ colTo s, kj x = kj s := by decide +kernel
theorem row_inj : ∀ b, ∀ x, qi x = b → ∀ y, qi y = b → kj x = kj y → x = y := by decide +kernel
theorem row_mem : ∀ b, ∀ j : Fin 8, j ≤ b → ∃ x, qi x = b ∧ kj x = j := by decide +kernel

/-- A whole column's sum runs over the blocks of rows from its own on: over all, where the earlier ones are nothing. -/
theorem sum_col (s : Fin 36) (he : ColEnd s) (f : Fin 8 → ℝ) (h0 : ∀ i, ¬ kj s ≤ i → f i = 0) :
    ∑ x ∈ colTo s, f (qi x) = ∑ i, f i := by
  rw [← Finset.sum_image (f := f) (g := qi) (fun x hx y hy e => colTo_inj s x hx y hy e)]
  refine Finset.sum_subset (Finset.subset_univ _) fun i _ hi => h0 i fun hle => hi ?_
  obtain ⟨x, hx, e⟩ := colTo_mem s he i hle
  exact Finset.mem_image.mpr ⟨x, hx, e⟩

/-- A row of tiles' sum runs over the blocks of keys up to its own. -/
theorem sum_row (b : Fin 8) (f : Fin 8 → ℝ) (h0 : ∀ j, ¬ j ≤ b → f j = 0) :
    ∑ x : Fin 36, (if qi x = b then f (kj x) else 0) = ∑ j, f j := by
  rw [← Finset.sum_filter]
  rw [← Finset.sum_image (f := f) (g := kj) (fun x hx y hy e =>
    row_inj b x (Finset.mem_filter.mp hx).2 y (Finset.mem_filter.mp hy).2 e)]
  refine Finset.sum_subset (Finset.subset_univ _) fun j _ hj => h0 j fun hle => hj ?_
  obtain ⟨x, hx, e⟩ := row_mem b j hle
  exact Finset.mem_image.mpr ⟨x, Finset.mem_filter.mpr ⟨Finset.mem_univ _, hx⟩, e⟩

section
variable (X : Data) (p : Fin 8) (s : Fin 36) (a : Fin 2) (r : Fin 512) (d : Fin 64) (t : Fin 4096)

/-- A tile's shares. -/
def cV : ℝ := ∑ u, X.P (hp p a) (row (qi s) u) (row (kj s) r) * X.o (hp p a) (row (qi s) u) d
def cK : ℝ := ∑ u, X.dS (hp p a) (row (qi s) u) (row (kj s) r) * (X.q (hp p a) (row (qi s) u) d * 0.125)
def cS : ℝ := -∑ u, X.dS (hp p a) (row (qi s) u) (row (kj s) r)
def cQ : ℝ := if t.val / 512 = (qi s).val then (∑ r, X.k (hp p a) (row (kj s) r) d * X.dS (hp p a) t (row (kj s) r)) * 0.125 else 0

theorem late_row (i j : Fin 8) (h : ¬ j ≤ i) (u r : Fin 512) : ¬ row j r ≤ row i u := by
  rw [Fin.le_def] at h ⊢
  show ¬ 512 * j.val + r.val ≤ 512 * i.val + u.val
  omega

theorem sum_cV (he : ColEnd s) : ∑ x ∈ colTo s, cV X p x a r d = X.dV (hp p a) (row (kj s) r) d := by
  unfold Data.dV
  rw [sum_rows, ← sum_col s he _ fun i hi => Finset.sum_eq_zero fun u _ => by rw [X.P_late _ _ _ (late_row i _ hi u r), zero_mul]]
  exact Finset.sum_congr rfl fun x hx => by unfold cV; rw [colTo_kj s x hx]
theorem sum_cK (he : ColEnd s) : ∑ x ∈ colTo s, cK X p x a r d = X.dK (hp p a) (row (kj s) r) d := by
  unfold Data.dK
  rw [sum_rows, ← sum_col s he _ fun i hi => Finset.sum_eq_zero fun u _ => by rw [X.dS_late _ _ _ (late_row i _ hi u r), zero_mul]]
  exact Finset.sum_congr rfl fun x hx => by unfold cK; rw [colTo_kj s x hx]
theorem sum_cS (he : ColEnd s) : ∑ x ∈ colTo s, cS X p x a r = X.dC (hp p a) (row (kj s) r) := by
  unfold Data.dC
  rw [sum_rows, ← sum_col s he _ fun i hi => Finset.sum_eq_zero fun u _ => X.dS_late _ _ _ (late_row i _ hi u r), ← Finset.sum_neg_distrib]
  exact Finset.sum_congr rfl fun x hx => by unfold cS; rw [colTo_kj s x hx]
theorem sum_cQ : ∑ x, cQ X p x a d t = X.dQ (hp p a) t d := by
  have ht := t.isLt
  unfold Data.dQ
  rw [sum_rows, Finset.sum_mul, ← sum_row ⟨t.val / 512, by omega⟩ _ fun j hj => by
    rw [Finset.sum_eq_zero fun r _ => ?_, zero_mul]
    rw [X.dS_late _ _ _ ?_, mul_zero]
    rw [Fin.le_def] at hj ⊢
    have hj' : ¬ j.val ≤ t.val / 512 := hj
    show ¬ 512 * j.val + r.val ≤ t.val
    omega]
  refine Finset.sum_congr rfl fun x _ => ?_
  unfold cQ
  by_cases h : t.val / 512 = (qi x).val
  · rw [if_pos h, if_pos (Fin.ext h.symm)]
  · rw [if_neg h, if_neg fun e => h (congrArg Fin.val e).symm]
end

end Cert.KernelIdeal.Hand

end
-- ==== Proof.Acc.lean ====
module

public import proofs.«01_k».proof.Proof.Sums

/-! What the carried buffers hold after a point: the sums of the tiles' shares. -/

@[expose] public section

set_option maxRecDepth 16384

noncomputable section

namespace Cert.KernelIdeal.Hand

open Cert.KernelIdeal.Gen Attn
open Idealize.ShloMosaic Idealize.ShloMosaic.TcCoe Idealize.SL.Sem

theorem pay1_zero (i) : k0_pay1 (F := Ideal) i = 0 := Ideal.ofBits_zero .f32
theorem pay2_zero (i) : k0_pay2 (F := Ideal) i = 0 := Ideal.ofBits_zero .f32
theorem pay3_zero (i) : k0_pay3 (F := Ideal) i = 0 := Ideal.ofBits_zero .f32
theorem pay4_zero (i) : k0_pay4 (F := Ideal) i = 0 := Ideal.ofBits_zero .f32

theorem full_lt : ∀ s, ¬ Diag s → kj s < qi s := by decide +kernel
theorem diag_eq : ∀ s, Diag s → kj s = qi s := by decide +kernel
theorem diag_zero : Diag 0 := by decide +kernel

section tiles
variable (X : Data) (M : Fin 16 → Fin 4096 → ℝ) (p : Fin 8) (n : Fin 36)
  (x0 x1 x2 : Vec Ideal S512x128 .bf16) (x3 : Vec Ideal S2x512x1 .f32) (x4 : Vec Ideal S512x128 .bf16) (x5 x6 : Vec Ideal S2x1x512 .f32)
  (H : (tile X M p n).Holds x0 x1 x2 x3 x4 x5 x6)
include H

theorem wt0 (h : Diag n) (s u : Fin 512) : k0_pay36 (F := Ideal) (View.ld x0 rh0) (View.ld x1 rh0) (View.ld x3 rc0) (View.ld x5 rl0) (ix2 s u) = (tw X p n 0 s u : EReal) :=
  (wT0 _ _ _ _ _ _ _ _ H s u).trans (congrArg _ (wT_tile X M _ _ (diag_eq _ h) 0 s u))
theorem wf0 (h : ¬ Diag n) (s u : Fin 512) : k0_pay15 (F := Ideal) (View.ld x0 rh0) (View.ld x1 rh0) (View.ld x3 rc0) (View.ld x5 rl0) (ix2 s u) = (tw X p n 0 s u : EReal) :=
  (wF0 _ _ _ _ _ _ _ _ H s u).trans (congrArg _ (wF_tile X M _ _ (full_lt _ h) 0 s u))
theorem wt1 (h : Diag n) (s u : Fin 512) : k0_pay36 (F := Ideal) (View.ld x0 rh1) (View.ld x1 rh1) (View.ld x3 rc1) (View.ld x5 rl1) (ix2 s u) = (tw X p n 1 s u : EReal) :=
  (wT1 _ _ _ _ _ _ _ _ H s u).trans (congrArg _ (wT_tile X M _ _ (diag_eq _ h) 1 s u))
theorem wf1 (h : ¬ Diag n) (s u : Fin 512) : k0_pay15 (F := Ideal) (View.ld x0 rh1) (View.ld x1 rh1) (View.ld x3 rc1) (View.ld x5 rl1) (ix2 s u) = (tw X p n 1 s u : EReal) :=
  (wF1 _ _ _ _ _ _ _ _ H s u).trans (congrArg _ (wF_tile X M _ _ (full_lt _ h) 1 s u))

variable (a : Fin 2) (r : Fin 512) (d : Fin 64) (u : Fin 4096)

omit H in
theorem cQ_tile : (if h : u.val / 512 = (qi n).val then (∑ r, (tile X M p n).k a r d * (tile X M p n).dS (tw X p n) a r ⟨u.val % 512, by omega⟩) * 0.125 else 0 : ℝ) = cQ X p n a d u := by
  unfold cQ
  by_cases h : u.val / 512 = (qi n).val
  · rw [dif_pos h, if_pos h]
    have e : row (qi n) ⟨u.val % 512, by omega⟩ = u := Fin.ext (by show 512 * (qi n).val + u.val % 512 = u.val; rw [← h]; omega)
    refine congrArg (· * 0.125) (Finset.sum_congr rfl fun r _ => ?_)
    rw [dS_tile, e]; rfl
  · rw [dif_neg h, if_neg h]

/-- A tile's step, on the diagonal and off it. -/
theorem tile_vT (hd : Diag n) (old : Vec Ideal S512x128 .f32) : dvT x0 x1 x2 x3 x4 x5 x6 old (ix2 r (col a d)) = old (ix2 r (col a d)) + (cV X p n a r d : EReal) := by
  rw [dvT_eq, dvG_ideal _ (tw X p n) _ _ _ _ _ _ _ _ _ H (wt0 X M p n x0 x1 x2 x3 x4 x5 x6 H hd) (wt1 X M p n x0 x1 x2 x3 x4 x5 x6 H hd)]
  rfl
theorem tile_vF (hd : ¬ Diag n) (old : Vec Ideal S512x128 .f32) : dvF x0 x1 x2 x3 x4 x5 x6 old (ix2 r (col a d)) = old (ix2 r (col a d)) + (cV X p n a r d : EReal) := by
  rw [dvF_eq, dvG_ideal _ (tw X p n) _ _ _ _ _ _ _ _ _ H (wf0 X M p n x0 x1 x2 x3 x4 x5 x6 H hd) (wf1 X M p n x0 x1 x2 x3 x4 x5 x6 H hd)]
  rfl
theorem tile_kT (hd : Diag n) (old : Vec Ideal S512x128 .f32) : dkT x0 x1 x2 x3 x4 x5 x6 old (ix2 r (col a d)) = old (ix2 r (col a d)) + (cK X p n a r d : EReal) := by
  rw [dkT_eq, dkG_ideal _ (tw X p n) _ _ _ _ _ _ _ _ _ H (wt0 X M p n x0 x1 x2 x3 x4 x5 x6 H hd) (wt1 X M p n x0 x1 x2 x3 x4 x5 x6 H hd)]
  rfl
theorem tile_kF (hd : ¬ Diag n) (old : Vec Ideal S512x128 .f32) : dkF x0 x1 x2 x3 x4 x5 x6 old (ix2 r (col a d)) = old (ix2 r (col a d)) + (cK X p n a r d : EReal) := by
  rw [dkF_eq, dkG_ideal _ (tw X p n) _ _ _ _ _ _ _ _ _ H (wf0 X M p n x0 x1 x2 x3 x4 x5 x6 H hd) (wf1 X M p n x0 x1 x2 x3 x4 x5 x6 H hd)]
  rfl
theorem tile_sT (hd : Diag n) (old : Vec Ideal S2x512x1 .f32) : dsT x0 x1 x2 x3 x4 x5 x6 old (ix3 a r 0) = old (ix3 a r 0) + (cS X p n a r : EReal) := by
  unfold cS; rw [EReal.coe_neg, ← sub_eq_add_neg]
  rw [dsT_eq, dsG_ideal _ (tw X p n) _ _ _ _ _ _ _ _ _ H (wt0 X M p n x0 x1 x2 x3 x4 x5 x6 H hd) (wt1 X M p n x0 x1 x2 x3 x4 x5 x6 H hd)]
  rfl
theorem tile_sF (hd : ¬ Diag n) (old : Vec Ideal S2x512x1 .f32) : dsF x0 x1 x2 x3 x4 x5 x6 old (ix3 a r 0) = old (ix3 a r 0) + (cS X p n a r : EReal) := by
  unfold cS; rw [EReal.coe_neg, ← sub_eq_add_neg]
  rw [dsF_eq, dsG_ideal _ (tw X p n) _ _ _ _ _ _ _ _ _ H (wf0 X M p n x0 x1 x2 x3 x4 x5 x6 H hd) (wf1 X M p n x0 x1 x2 x3 x4 x5 x6 H hd)]
  rfl
theorem tile_qT (hd : Diag n) (h0 h1) (old : Vec Ideal S128x4096 .f32) : dqT x0 x1 x2 x3 x4 x5 x6 (qo0 n) (qo1 n) h0 h1 old (ix2 (col a d) u) = old (ix2 (col a d) u) + (cQ X p n a d u : EReal) := by
  rw [← cQ_tile X M]
  exact (congrFun (dqT_eq x0 x1 x2 x3 x4 x5 x6 (qo0 n) (qo1 n) h0 h1 old) _).trans (dqG_ideal _ (tw X p n) _ _ _ _ _ _ _ _ _ H (wt0 X M p n x0 x1 x2 x3 x4 x5 x6 H hd) (wt1 X M p n x0 x1 x2 x3 x4 x5 x6 H hd) (qi n) h0 h1 old a d u)
theorem tile_qF (hd : ¬ Diag n) (h0 h1) (old : Vec Ideal S128x4096 .f32) : dqF x0 x1 x2 x3 x4 x5 x6 (qo0 n) (qo1 n) h0 h1 old (ix2 (col a d) u) = old (ix2 (col a d) u) + (cQ X p n a d u : EReal) := by
  rw [← cQ_tile X M]
  exact (congrFun (dqF_eq x0 x1 x2 x3 x4 x5 x6 (qo0 n) (qo1 n) h0 h1 old) _).trans (dqG_ideal _ (tw X p n) _ _ _ _ _ _ _ _ _ H (wf0 X M p n x0 x1 x2 x3 x4 x5 x6 H hd) (wf1 X M p n x0 x1 x2 x3 x4 x5 x6 H hd) (qi n) h0 h1 old a d u)
end tiles

section
variable (X : Data) (M : Fin 16 → Fin 4096 → ℝ)
variable (m : (ℓ : Loc nD τ sig) → Buf (Elt Ideal) ℓ) (hO : Ok m) (c : Dev nD) (t : Fin grid0.N)
  (H : X.Args (a0 m c) (a1 m c) (a2 m c) (a3 m c)) (hM : ∀ h t, hX (F := Ideal) (a0 m c) (a1 m c) (a2 m c) (ix3 h t 0) = (M h t : EReal))
include H hM
variable (σ : St Ideal) (a : Fin 2) (r : Fin 512) (d : Fin 64) (u : Fin 4096)

theorem step_v : (step m hO c t σ).v (ix2 r (col a d)) = (if Diag (pt t) then 0 else σ.v (ix2 r (col a d))) + (cV X (pp t) (pt t) a r d : EReal) := by
  unfold step
  by_cases hd : Diag (pt t)
  · rw [if_pos hd, if_pos hd]
    exact (tile_vT X M _ _ _ _ _ _ _ _ _ (holds X M m hO c t H hM) a r d hd _).trans (congrArg (· + _) (pay3_zero _))
  · rw [if_neg hd, if_neg hd]
    exact tile_vF X M _ _ _ _ _ _ _ _ _ (holds X M m hO c t H hM) a r d hd _

theorem step_k : (step m hO c t σ).k (ix2 r (col a d)) = (if Diag (pt t) then 0 else σ.k (ix2 r (col a d))) + (cK X (pp t) (pt t) a r d : EReal) := by
  unfold step
  by_cases hd : Diag (pt t)
  · rw [if_pos hd, if_pos hd]
    exact (tile_kT X M _ _ _ _ _ _ _ _ _ (holds X M m hO c t H hM) a r d hd _).trans (congrArg (· + _) (pay2_zero _))
  · rw [if_neg hd, if_neg hd]
    exact tile_kF X M _ _ _ _ _ _ _ _ _ (holds X M m hO c t H hM) a r d hd _

theorem step_s : (step m hO c t σ).s (ix3 a r 0) = (if Diag (pt t) then 0 else σ.s (ix3 a r 0)) + (cS X (pp t) (pt t) a r : EReal) := by
  unfold step
  by_cases hd : Diag (pt t)
  · rw [if_pos hd, if_pos hd]
    exact (tile_sT X M _ _ _ _ _ _ _ _ _ (holds X M m hO c t H hM) a r hd _).trans (congrArg (· + _) (pay4_zero _))
  · rw [if_neg hd, if_neg hd]
    exact tile_sF X M _ _ _ _ _ _ _ _ _ (holds X M m hO c t H hM) a r hd _

theorem step_q : (step m hO c t σ).q (ix2 (col a d) u) = (if pt t = 0 then 0 else σ.q (ix2 (col a d) u)) + (cQ X (pp t) (pt t) a d u : EReal) := by
  unfold step
  by_cases hd : Diag (pt t)
  · rw [if_pos hd]
    by_cases h0 : pt t = 0
    · rw [if_pos h0, if_pos ((cond1_iff _).mpr h0)]
      have e := tile_qT X M _ _ _ _ _ _ _ _ _ (holds X M m hO c t H hM) a d u hd (qo0_inb _) (qo1_inb _) (k0_pay1 (F := Ideal))
      rw [pay1_zero] at e
      dsimp only
      exact e
    · rw [if_neg h0, if_neg fun h => h0 ((cond1_iff _).mp h)]
      have e := tile_qT X M _ _ _ _ _ _ _ _ _ (holds X M m hO c t H hM) a d u hd (qo0_inb _) (qo1_inb _) σ.q
      dsimp only
      exact e
  · have h0 : ¬ pt t = 0 := fun h => hd (by rw [h]; exact diag_zero)
    rw [if_neg hd, if_neg h0]
    have e := tile_qF X M _ _ _ _ _ _ _ _ _ (holds X M m hO c t H hM) a d u hd (qo0_inb _) (qo1_inb _) σ.q
    dsimp only
    exact e

/-- At the end of a column the key, value and gate gradients are complete, at the end of a head pair the query gradient. -/
theorem at_v (he : ColEnd (pt t)) : (stAt m hO c (t.val + 1)).v (ix2 r (col a d)) = (X.dV (hp (pp t) a) (row (kj (pt t)) r) d : EReal) :=
  (along_col (fun n => (stAt m hO c n).v (ix2 r (col a d))) (fun p s => cV X p s a r d)
    (fun t => (congrArg (fun σ : St Ideal => σ.v (ix2 r (col a d))) (stAt_succ m hO c t)).trans (step_v X M m hO c t H hM _ a r d)) t.val t rfl).trans
    (congrArg _ (sum_cV X (pp t) (pt t) a r d he))
theorem at_k (he : ColEnd (pt t)) : (stAt m hO c (t.val + 1)).k (ix2 r (col a d)) = (X.dK (hp (pp t) a) (row (kj (pt t)) r) d : EReal) :=
  (along_col (fun n => (stAt m hO c n).k (ix2 r (col a d))) (fun p s => cK X p s a r d)
    (fun t => (congrArg (fun σ : St Ideal => σ.k (ix2 r (col a d))) (stAt_succ m hO c t)).trans (step_k X M m hO c t H hM _ a r d)) t.val t rfl).trans
    (congrArg _ (sum_cK X (pp t) (pt t) a r d he))
theorem at_s (he : ColEnd (pt t)) : (stAt m hO c (t.val + 1)).s (ix3 a r 0) = (X.dC (hp (pp t) a) (row (kj (pt t)) r) : EReal) :=
  (along_col (fun n => (stAt m hO c n).s (ix3 a r 0)) (fun p s => cS X p s a r)
    (fun t => (congrArg (fun σ : St Ideal => σ.s (ix3 a r 0)) (stAt_succ m hO c t)).trans (step_s X M m hO c t H hM _ a r)) t.val t rfl).trans
    (congrArg _ (sum_cS X (pp t) (pt t) a r he))
theorem at_q (he : pt t = 35) : (stAt m hO c (t.val + 1)).q (ix2 (col a d) u) = (X.dQ (hp (pp t) a) u d : EReal) := by
  refine (along_pair (fun n => (stAt m hO c n).q (ix2 (col a d) u)) (fun p s => cQ X p s a d u)
    (fun t => (congrArg (fun σ : St Ideal => σ.q (ix2 (col a d) u)) (stAt_succ m hO c t)).trans (step_q X M m hO c t H hM _ a d u)) t.val t rfl).trans ?_
  rw [he, upTo_last, sum_cQ]
end

end Cert.KernelIdeal.Hand

end
-- ==== Proof.Body.lean ====
module

public import proofs.«01_k».proof.Proof.Sched
public import Idealize.ShloMosaic.Lib.Claim

/-! The launch with what it leaves: what each buffer holds before a point, the body at any point, the run. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

attribute [local irreducible] stAt step dckOut

/-- The scratch before the point of a number, with the generator register and the tables. -/
def Phi (hO : Ok m) (c : Dev nD) (n : ℕ) : sProp 𝕄 :=
  iprop(iprop((∃ d, ⌜n ≠ 0 → d = (stAt m hO c n).s⌝ ∗ owns (c : Thread nD τ) scM0_0 fullShare d) ∗ (∃ r, prngReg c r)) ∗ Pipeline.ΦT pre0 (tbl m) c)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (stAt m hO c (t.val + 1)).q
    | ⟨8, _⟩ => (stAt m hO c (t.val + 1)).k
    | ⟨9, _⟩ => (stAt m hO c (t.val + 1)).v
    | ⟨10, _⟩ => dckOut (stAt m hO c (t.val + 1)).s anyC
  Φ t := Phi m hO c t.val
  q w := Pipeline.shareOf spec0 w
  owed _ := 0

theorem gate_leaves (c : Dev nD) {sp : Space} {sh : Shape} {e : EltTy} (M : Memref sig .tc sp sh e) {T : Type} (x : BitVec 1) (A : sh.Idx → Elt F e) (B : T → sh.Idx → Elt F e) (d : T) :
    (owns (c : Thread nD τ) M fullShare (if x = 1#1 then A else B d) : sProp 𝕄)
      ⊢ (match !(x == 1#1) with | true => iprop(∃ d, owns (c : Thread nD τ) M fullShare (B d)) | false => owns (c : Thread nD τ) M fullShare A) := by
  by_cases h5 : x = 1#1
  · rw [if_pos h5, h5]
    exact .rfl
  · rw [if_neg h5, beq_eq_false_iff_ne.mpr h5]
    show (owns (c : Thread nD τ) M fullShare (B d) : sProp 𝕄) ⊢ iprop(∃ d, owns (c : Thread nD τ) M fullShare (B d))
    iintro H
    iexists d
    iexact H

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = (stAt m hO c (t.val + 1)).q := by dsimp only [dats]; try rfl
theorem after0_8 (hO : Ok m) (c : Dev nD) (t : Fin (cfgM m hO).N) : (dats m hO 0 c).after 8 t = (stAt m hO c (t.val + 1)).k := by dsimp only [dats]; try rfl
theorem after0_9 (hO : Ok m) (c : Dev nD) (t : Fin (cfgM m hO).N) : (dats m hO 0 c).after 9 t = (stAt m hO c (t.val + 1)).v := by dsimp only [dats]; try rfl
theorem after0_10 (hO : Ok m) (c : Dev nD) (t : Fin (cfgM m hO).N) : (dats m hO 0 c).after 10 t = dckOut (stAt m hO c (t.val + 1)).s anyC := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin grid0.N) (h : tileOf (grid0.coords t) ≠ 0) (d) : (dats m hO 0 c).before 7 t d = (stAt m hO c t.val).q := by
  have hf : (cfgM m hO).fresh 7 t.val = false := fresh7 m hO t.val t.isLt h
  have h0 : t.val ≠ 0 := fun e => by rw [e] at hf; exact Bool.false_ne_true hf.symm
  rw [(dats m hO 0 c).before_out_traj 7 rfl (fun _ _ => rfl) (fun t _ hi _ => absurd ((idle_7 m hO t).symm.trans hi) Bool.false_ne_true) t.val t rfl d, hf,
    if_neg Bool.false_ne_true, after0_7]
  show (stAt m hO c (t.val - 1 + 1)).q = _
  rw [Nat.sub_add_cancel (Nat.pos_of_ne_zero h0)]
theorem before0_8 (hO : Ok m) (c : Dev nD) (t : Fin grid0.N) (h : ¬ Diag (tileOf (grid0.coords t))) (d) : (dats m hO 0 c).before 8 t d = (stAt m hO c t.val).k := by
  have hf : (cfgM m hO).fresh 8 t.val = false := fresh8 m hO t.val t.isLt h
  have h0 : t.val ≠ 0 := fun e => by rw [e] at hf; exact Bool.false_ne_true hf.symm
  rw [(dats m hO 0 c).before_out_traj 8 rfl (fun _ _ => rfl) (fun t _ hi _ => absurd ((idle_8 m hO t).symm.trans hi) Bool.false_ne_true) t.val t rfl d, hf,
    if_neg Bool.false_ne_true, after0_8]
  show (stAt m hO c (t.val - 1 + 1)).k = _
  rw [Nat.sub_add_cancel (Nat.pos_of_ne_zero h0)]
theorem before0_9 (hO : Ok m) (c : Dev nD) (t : Fin grid0.N) (h : ¬ Diag (tileOf (grid0.coords t))) (d) : (dats m hO 0 c).before 9 t d = (stAt m hO c t.val).v := by
  have hf : (cfgM m hO).fresh 9 t.val = false := fresh9 m hO t.val t.isLt h
  have h0 : t.val ≠ 0 := fun e => by rw [e] at hf; exact Bool.false_ne_true hf.symm
  rw [(dats m hO 0 c).before_out_traj 9 rfl (fun _ _ => rfl) (fun t _ hi _ => absurd ((idle_9 m hO t).symm.trans hi) Bool.false_ne_true) t.val t rfl d, hf,
    if_neg Bool.false_ne_true, after0_9]
  show (stAt m hO c (t.val - 1 + 1)).v = _
  rw [Nat.sub_add_cancel (Nat.pos_of_ne_zero h0)]

def bodyPre (hO : Ok m) (c : Dev nD) (t : Fin grid0.N) : sProp 𝕄 :=
  iprop(Phi m hO c t.val ∗ (dats m hO 0 c).owesAt () t.castSucc
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ owns (c : Thread nD τ) (ms0_4 m hO t) fullShare (iblk m hO c 4 t)
    ∗ owns (c : Thread nD τ) (ms0_5 m hO t) fullShare (iblk m hO c 5 t)
    ∗ owns (c : Thread nD τ) (ms0_6 m hO t) fullShare (iblk m hO c 6 t)
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d)))

def bodyPost (hO : Ok m) (c : Dev nD) (t : Fin grid0.N) : sProp 𝕄 :=
  iprop(Phi m hO c (t.val + 1) ∗ (dats m hO 0 c).owesAt () t.castSucc
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ owns (c : Thread nD τ) (ms0_4 m hO t) fullShare (iblk m hO c 4 t)
    ∗ owns (c : Thread nD τ) (ms0_5 m hO t) fullShare (iblk m hO c 5 t)
    ∗ owns (c : Thread nD τ) (ms0_6 m hO t) fullShare (iblk m hO c 6 t)
    ∗ owns (c : Thread nD τ) (ms0_7 m hO t) fullShare (stAt m hO c (t.val + 1)).q
    ∗ owns (c : Thread nD τ) (ms0_8 m hO t) fullShare (stAt m hO c (t.val + 1)).k
    ∗ owns (c : Thread nD τ) (ms0_9 m hO t) fullShare (stAt m hO c (t.val + 1)).v
    ∗ (match !(k0_cond5 (lit0 (tileOf (grid0.coords t))) == 1#1) with
        | true => iprop(∃ d, owns (c : Thread nD τ) (ms0_10 m hO t) fullShare ((dats m hO 0 c).before 10 t d))
        | false => owns (c : Thread nD τ) (ms0_10 m hO t) fullShare (dckOut (stAt m hO c (t.val + 1)).s anyC)))

set_option maxHeartbeats 1200000 in
/-- The body at any point. -/
theorem sound_body (hO : Ok m) (c : Dev nD) (t : Fin grid0.N) :
    bodyPre m hO c t ⊢ wp frame (wpE (defs₀ (F := F)) Variants.none c none) Set.univ (bodyAt0 (adm m hO) t) (fun _ => bodyPost m hO c t) := by
  have b7 : tileOf (grid0.coords t) ≠ 0 → ∀ d, (dats m hO 0 c).before 7 t d = (stAt m hO c t.val).q := fun h d => before0_7 m hO c t h d
  have b8 : ¬ Diag (tileOf (grid0.coords t)) → ∀ d, (dats m hO 0 c).before 8 t d = (stAt m hO c t.val).k := fun h d => before0_8 m hO c t h d
  have b9 : ¬ Diag (tileOf (grid0.coords t)) → ∀ d, (dats m hO 0 c).before 9 t d = (stAt m hO c t.val).v := fun h d => before0_9 m hO c t h d
  unfold bodyPre bodyPost Phi
  generalize (dats m hO 0 c).owesAt () t.castSucc = O
  generalize (dats m hO 0 c).before 7 t = B7 at *
  generalize (dats m hO 0 c).before 8 t = B8 at *
  generalize (dats m hO 0 c).before 9 t = B9 at *
  generalize (dats m hO 0 c).before 10 t = B10 at *
  rw [PhiT0_eq, stAt_succ]
  iintro ⟨⟨⟨⟨%z, %hz, HS0⟩, Hg⟩, ⟨HT0, HT1⟩⟩, Ho, H0, H1, H2, H3, H4, H5, H6, ⟨%d7, H7⟩, ⟨%d8, H8⟩, ⟨%d9, H9⟩, ⟨%d10, H10⟩⟩
  iapply (run_at m hO c t (stAt m hO c t.val) (B7 d7) (B8 d8) (B9 d9) (B10 d10) z
    (fun h => b7 h d7) (fun h => ⟨b8 h d8, b9 h d9, hz fun e => h (at_first t e)⟩) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HT0]; · iexact HT0
  isplitl [HT1]; · iexact HT1
  iintro ⟨H0, H1, H2, H3, H4, H5, H6, H7, H8, H9, H10, HS0, HT0, HT1⟩
  isplitl [HS0 Hg HT0 HT1]
  · isplitl [HS0 Hg]
    · isplitl [HS0]
      · iexists _
        isplitr; · ipureintro; exact fun _ => rfl
        iexact HS0
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (gate_leaves c (ms0_10 m hO t) (k0_cond5 (lit0 (tileOf (grid0.coords t)))) (dckOut (step m hO c t (stAt m hO c t.val)).s anyC) B10 d10)
  iexact H10

end Cert.KernelIdeal.Hand

end
-- ==== Proof.Final.lean ====
module

public import proofs.«01_k».proof.Proof.Acc
public import proofs.«01_k».proof.Proof.Body
public import Idealize.ShloMosaic.Lib.Pipeline.ValueKit

/-! What the launch leaves in its four results. -/

@[expose] public section

set_option maxRecDepth 16384

noncomputable section

namespace Cert.KernelIdeal.Hand

open Cert.KernelIdeal.Gen Attn
open Idealize.ShloMosaic Idealize.ShloMosaic.TcCoe Idealize.SL.Sem
open Idealize.ShloMosaic.Pipeline (Window Dat)

theorem ends_pair : ∀ p : Fin 8, ∃ t : Fin grid0.N, pp t = p ∧ pt t = 35 := by decide +kernel
theorem ends_col : ∀ p j : Fin 8, ∃ t : Fin grid0.N, pp t = p ∧ kj (pt t) = j ∧ ColEnd (pt t) := by decide +kernel

section cover
variable {F : FTy → Type} [FloatOps F] [Named F]
variable (m : (ℓ : Loc nD τ sig) → Buf (Elt F) ℓ) (hO : Ok m)

theorem cov7 : ((cfgM m hO).win 7).Covers := by
  refine ⟨fun a => ?_, fun β => ?_⟩
  · match a with
    | ⟨0, _⟩ => exact (by decide : 0 < 128)
    | ⟨1, _⟩ => exact (by decide : 0 < 4096)
  · have b0 : 0 < 2 := by decide
    have h0 : (β ⟨0, b0⟩).val < 8 := lt_of_lt_of_eq (β ⟨0, b0⟩).isLt (show (1024 + 128 - 1) / 128 = 8 from rfl)
    have b1 : 1 < 2 := by decide
    have h1 : (β ⟨1, b1⟩).val < 1 := lt_of_lt_of_eq (β ⟨1, b1⟩).isLt (show (4096 + 4096 - 1) / 4096 = 1 from rfl)
    obtain ⟨t, hp, hs⟩ := ends_pair ⟨_, h0⟩
    have e := idx7 m hO t
    refine ⟨t, (flush7 m hO t).mpr hs, fun a => ?_⟩
    match a with
    | ⟨0, _⟩ => exact ⟨(show _ = (pp t).val from congrFun e ⟨0, (by decide : 0 < 2)⟩).trans (congrArg Fin.val hp), .inl rfl⟩
    | ⟨1, _⟩ => exact ⟨(show _ = 0 from congrFun e ⟨1, (by decide : 1 < 2)⟩).trans (Nat.lt_one_iff.mp h1).symm, .inl rfl⟩

theorem cov8 : ((cfgM m hO).win 8).Covers := by
  refine ⟨fun a => ?_, fun β => ?_⟩
  · match a with
    | ⟨0, _⟩ => exact (by decide : 0 < 512)
    | ⟨1, _⟩ => exact (by decide : 0 < 128)
  · have b0 : 0 < 2 := by decide
    have h0 : (β ⟨0, b0⟩).val < 8 := lt_of_lt_of_eq (β ⟨0, b0⟩).isLt (show (4096 + 512 - 1) / 512 = 8 from rfl)
    have b1 : 1 < 2 := by decide
    have h1 : (β ⟨1, b1⟩).val < 8 := lt_of_lt_of_eq (β ⟨1, b1⟩).isLt (show (1024 + 128 - 1) / 128 = 8 from rfl)
    obtain ⟨t, hp, hj, hs⟩ := ends_col ⟨_, h1⟩ ⟨_, h0⟩
    have e := idx8 m hO t
    refine ⟨t, (flush8 m hO t).mpr hs, fun a => ?_⟩
    match a with
    | ⟨0, _⟩ => exact ⟨(show _ = (kj (pt t)).val from congrFun e ⟨0, (by decide : 0 < 2)⟩).trans (congrArg Fin.val hj), .inl rfl⟩
    | ⟨1, _⟩ => exact ⟨(show _ = (pp t).val from congrFun e ⟨1, (by decide : 1 < 2)⟩).trans (congrArg Fin.val hp), .inl rfl⟩

theorem cov9 : ((cfgM m hO).win 9).Covers := by
  refine ⟨fun a => ?_, fun β => ?_⟩
  · match a with
    | ⟨0, _⟩ => exact (by decide : 0 < 512)
    | ⟨1, _⟩ => exact (by decide : 0 < 128)
  · have b0 : 0 < 2 := by decide
    have h0 : (β ⟨0, b0⟩).val < 8 := lt_of_lt_of_eq (β ⟨0, b0⟩).isLt (show (4096 + 512 - 1) / 512 = 8 from rfl)
    have b1 : 1 < 2 := by decide
    have h1 : (β ⟨1, b1⟩).val < 8 := lt_of_lt_of_eq (β ⟨1, b1⟩).isLt (show (1024 + 128 - 1) / 128 = 8 from rfl)
    obtain ⟨t, hp, hj, hs⟩ := ends_col ⟨_, h1⟩ ⟨_, h0⟩
    have e := idx9 m hO t
    refine ⟨t, (flush9 m hO t).mpr hs, fun a => ?_⟩
    match a with
    | ⟨0, _⟩ => exact ⟨(show _ = (kj (pt t)).val from congrFun e ⟨0, (by decide : 0 < 2)⟩).trans (congrArg Fin.val hj), .inl rfl⟩
    | ⟨1, _⟩ => exact ⟨(show _ = (pp t).val from congrFun e ⟨1, (by decide : 1 < 2)⟩).trans (congrArg Fin.val hp), .inl rfl⟩

theorem cov10 : ((cfgM m hO).win 10).Covers := by
  refine ⟨fun a => ?_, fun β => ?_⟩
  · match a with
    | ⟨0, _⟩ => exact (by decide : 0 < 2)
    | ⟨1, _⟩ => exact (by decide : 0 < 1)
    | ⟨2, _⟩ => exact (by decide : 0 < 512)
  · have b0 : 0 < 3 := by decide
    have h0 : (β ⟨0, b0⟩).val < 8 := lt_of_lt_of_eq (β ⟨0, b0⟩).isLt (show (16 + 2 - 1) / 2 = 8 from rfl)
    have b1 : 1 < 3 := by decide
    have h1 : (β ⟨1, b1⟩).val < 1 := lt_of_lt_of_eq (β ⟨1, b1⟩).isLt (show (1 + 1 - 1) / 1 = 1 from rfl)
    have b2 : 2 < 3 := by decide
    have h2 : (β ⟨2, b2⟩).val < 8 := lt_of_lt_of_eq (β ⟨2, b2⟩).isLt (show (4096 + 512 - 1) / 512 = 8 from rfl)
    obtain ⟨t, hp, hj, hs⟩ := ends_col ⟨_, h0⟩ ⟨_, h2⟩
    have e := idx10 m hO t
    refine ⟨t, (flush10 m hO t).mpr hs, fun a => ?_⟩
    match a with
    | ⟨0, _⟩ => exact ⟨(show _ = (pp t).val from congrFun e ⟨0, (by decide : 0 < 3)⟩).trans (congrArg Fin.val hp), .inl rfl⟩
    | ⟨1, _⟩ => exact ⟨(show _ = 0 from congrFun e ⟨1, (by decide : 1 < 3)⟩).trans (Nat.lt_one_iff.mp h1).symm, .inl rfl⟩
    | ⟨2, _⟩ => exact ⟨(show _ = (kj (pt t)).val from congrFun e ⟨2, (by decide : 2 < 3)⟩).trans (congrArg Fin.val hj), .inl rfl⟩
end cover

/-- The gate scratch laid out as a row of each head. -/
theorem pay10_at (z : Vec Ideal S1x512x1 .f32) (r : Fin 512) : k0_pay10 (F := Ideal) z (ix3 0 0 r) = z (ix3 0 r 0) := by
  unfold k0_pay10
  pointwise
theorem pay11_at (z : Vec Ideal S1x512x1 .f32) (r : Fin 512) : k0_pay11 (F := Ideal) z (ix3 0 0 r) = z (ix3 0 r 0) := by
  unfold k0_pay11
  pointwise
theorem lo_l (r : Fin 512) : (ix3 0 0 r : S2x1x512.Idx) ∉ rl1.set := fun h => by
  have := (Rect.mem_set_unit.mp h) (0 : Fin 3)
  simp at this
theorem dckOut_at (z : Vec Ideal S2x512x1 .f32) (old : Vec Ideal S2x1x512 .f32) (a : Fin 2) (r : Fin 512) : dckOut z old (ix3 a 0 r) = z (ix3 a r 0) := by
  unfold dckOut
  match a with
  | 0 =>
    rw [over_lo _ _ _ _ _ _ _ (rl0_idx r) (lo_l r), pay10_at]
    exact congrArg z (rc0_idx r)
  | 1 =>
    rw [over_hi _ _ _ _ _ _ _ (rl1_idx r), pay11_at]
    exact congrArg z (rc1_idx r)

section
variable (X : Data) (M : Fin 16 → Fin 4096 → ℝ)
variable (m : (ℓ : Loc nD τ sig) → Buf (Elt Ideal) ℓ) (hO : Ok m) (c : Dev nD) (t : Fin grid0.N)
  (H : X.Args (a0 m c) (a1 m c) (a2 m c) (a3 m c)) (hM : ∀ h t, hX (F := Ideal) (a0 m c) (a1 m c) (a2 m c) (ix3 h t 0) = (M h t : EReal))
include H hM

theorem blk_q (he : pt t = 35) (y : S128x4096.Idx) (Y : S1024x4096.Idx) (h0 : (Y 0).val = (pp t).val * 128 + (y 0).val) (h1 : (Y 1).val = (y 1).val) :
    (stAt m hO c (t.val + 1)).q y = (X.dQ (ch (Y 0)) (Y 1) (cd (Y 0)) : EReal) := by
  have hy : (y 0).val < 128 := (y 0).isLt
  have e : y = ix2 (col ⟨(y 0).val / 64, by omega⟩ ⟨(y 0).val % 64, by omega⟩) (y 1) := by
    funext b
    match b with
    | ⟨0, _⟩ => exact Fin.ext (by show (y 0).val = 64 * ((y 0).val / 64) + (y 0).val % 64; omega)
    | ⟨1, _⟩ => rfl
  rw [e]
  refine (at_q X M m hO c t H hM _ _ (y 1) he).trans ?_
  have e1 : hp (pp t) ⟨(y 0).val / 64, by omega⟩ = ch (Y 0) := Fin.ext (by show 2 * (pp t).val + (y 0).val / 64 = (Y 0).val / 64; omega)
  have e2 : (⟨(y 0).val % 64, by omega⟩ : Fin 64) = cd (Y 0) := Fin.ext (by show (y 0).val % 64 = (Y 0).val % 64; omega)
  have e3 : y 1 = Y 1 := Fin.ext h1.symm
  rw [e1, e2, e3]

theorem blk_k (he : ColEnd (pt t)) (y : S512x128.Idx) (Y : S4096x1024.Idx) (h0 : (Y 0).val = (kj (pt t)).val * 512 + (y 0).val) (h1 : (Y 1).val = (pp t).val * 128 + (y 1).val) :
    (stAt m hO c (t.val + 1)).k y = (X.dK (ch (Y 1)) (Y 0) (cd (Y 1)) : EReal)
    ∧ (stAt m hO c (t.val + 1)).v y = (X.dV (ch (Y 1)) (Y 0) (cd (Y 1)) : EReal) := by
  have hy : (y 1).val < 128 := (y 1).isLt
  have e : y = ix2 (y 0) (col ⟨(y 1).val / 64, by omega⟩ ⟨(y 1).val % 64, by omega⟩) := by
    funext b
    match b with
    | ⟨0, _⟩ => rfl
    | ⟨1, _⟩ => exact Fin.ext (by show (y 1).val = 64 * ((y 1).val / 64) + (y 1).val % 64; omega)
  have e1 : hp (pp t) ⟨(y 1).val / 64, by omega⟩ = ch (Y 1) := Fin.ext (by show 2 * (pp t).val + (y 1).val / 64 = (Y 1).val / 64; omega)
  have e2 : (⟨(y 1).val % 64, by omega⟩ : Fin 64) = cd (Y 1) := Fin.ext (by show (y 1).val % 64 = (Y 1).val % 64; omega)
  have e3 : row (kj (pt t)) (y 0) = Y 0 := Fin.ext (by show 512 * (kj (pt t)).val + (y 0).val = (Y 0).val; omega)
  rw [e]
  refine ⟨(at_k X M m hO c t H hM _ (y 0) _ he).trans ?_, (at_v X M m hO c t H hM _ (y 0) _ he).trans ?_⟩
  · rw [e1, e2, e3]
  · rw [e1, e2, e3]

theorem blk_s (he : ColEnd (pt t)) (y : S2x1x512.Idx) (Y : S16x1x4096.Idx) (h0 : (Y 0).val = (pp t).val * 2 + (y 0).val) (h2 : (Y 2).val = (kj (pt t)).val * 512 + (y 2).val) :
    dckOut (stAt m hO c (t.val + 1)).s anyC y = (X.dC (Y 0) (Y 2) : EReal) := by
  have e : y = ix3 (y 0) 0 (y 2) := by
    funext b
    match b with
    | ⟨0, _⟩ => rfl
    | ⟨1, _⟩ => exact Fin.ext (Nat.lt_one_iff.mp (y 1).isLt)
    | ⟨2, _⟩ => rfl
  have e1 : hp (pp t) (y 0) = Y 0 := Fin.ext (by show 2 * (pp t).val + (y 0).val = (Y 0).val; omega)
  have e3 : row (kj (pt t)) (y 2) = Y 2 := Fin.ext (by show 512 * (kj (pt t)).val + (y 2).val = (Y 2).val; omega)
  rw [e]
  refine (dckOut_at _ _ (y 0) (y 2)).trans ((at_s X M m hO c t H hM (y 0) (y 2) he).trans ?_)
  rw [e1, e3]

theorem out7 : (dats m hO 0 c).arrAt 7 (cfgM m hO).N = fun y : S1024x4096.Idx => (X.dQ (ch (y 0)) (y 1) (cd (y 0)) : EReal) := by
  refine Dat.arrAt_eq_of_covers (dats m hO 0 c) 7 _ (cov7 m hO) fun t hf y => ?_
  refine (show _ = (stAt m hO c (t.val + 1)).q y from congrFun (after0_7 m hO c t) y).trans ?_
  have e := idx7 m hO t
  refine blk_q X M m hO c t H hM ((flush7 m hO t).mp hf) y _ ?_ ?_
  · exact (Window.rect_emb_val ((cfgM m hO).win 7) t y ⟨0, (by decide : 0 < 2)⟩ rfl).trans (by rw [congrFun e ⟨0, (by decide : 0 < 2)⟩]; rfl)
  · exact (Window.rect_emb_val ((cfgM m hO).win 7) t y ⟨1, (by decide : 1 < 2)⟩ rfl).trans (by rw [congrFun e ⟨1, (by decide : 1 < 2)⟩]; show 0 * 4096 + _ = _; rw [Nat.zero_mul, Nat.zero_add]; rfl)

theorem out8 : (dats m hO 0 c).arrAt 8 (cfgM m hO).N = fun y : S4096x1024.Idx => (X.dK (ch (y 1)) (y 0) (cd (y 1)) : EReal) := by
  refine Dat.arrAt_eq_of_covers (dats m hO 0 c) 8 _ (cov8 m hO) fun t hf y => ?_
  refine (show _ = (stAt m hO c (t.val + 1)).k y from congrFun (after0_8 m hO c t) y).trans ?_
  have e := idx8 m hO t
  refine (blk_k X M m hO c t H hM ((flush8 m hO t).mp hf) y _ ?_ ?_).1
  · exact (Window.rect_emb_val ((cfgM m hO).win 8) t y ⟨0, (by decide : 0 < 2)⟩ rfl).trans (by rw [congrFun e ⟨0, (by decide : 0 < 2)⟩]; rfl)
  · exact (Window.rect_emb_val ((cfgM m hO).win 8) t y ⟨1, (by decide : 1 < 2)⟩ rfl).trans (by rw [congrFun e ⟨1, (by decide : 1 < 2)⟩]; rfl)

theorem out9 : (dats m hO 0 c).arrAt 9 (cfgM m hO).N = fun y : S4096x1024.Idx => (X.dV (ch (y 1)) (y 0) (cd (y 1)) : EReal) := by
  refine Dat.arrAt_eq_of_covers (dats m hO 0 c) 9 _ (cov9 m hO) fun t hf y => ?_
  refine (show _ = (stAt m hO c (t.val + 1)).v y from congrFun (after0_9 m hO c t) y).trans ?_
  have e := idx9 m hO t
  refine (blk_k X M m hO c t H hM ((flush9 m hO t).mp hf) y _ ?_ ?_).2
  · exact (Window.rect_emb_val ((cfgM m hO).win 9) t y ⟨0, (by decide : 0 < 2)⟩ rfl).trans (by rw [congrFun e ⟨0, (by decide : 0 < 2)⟩]; rfl)
  · exact (Window.rect_emb_val ((cfgM m hO).win 9) t y ⟨1, (by decide : 1 < 2)⟩ rfl).trans (by rw [congrFun e ⟨1, (by decide : 1 < 2)⟩]; rfl)

theorem out10 : (dats m hO 0 c).arrAt 10 (cfgM m hO).N = fun y : S16x1x4096.Idx => (X.dC (y 0) (y 2) : EReal) := by
  refine Dat.arrAt_eq_of_covers (dats m hO 0 c) 10 _ (cov10 m hO) fun t hf y => ?_
  refine (show _ = dckOut (stAt m hO c (t.val + 1)).s anyC y from congrFun (after0_10 m hO c t) y).trans ?_
  have e := idx10 m hO t
  refine blk_s X M m hO c t H hM ((flush10 m hO t).mp hf) y _ ?_ ?_
  · exact (Window.rect_emb_val ((cfgM m hO).win 10) t y ⟨0, (by decide : 0 < 3)⟩ rfl).trans (by rw [congrFun e ⟨0, (by decide : 0 < 3)⟩]; rfl)
  · exact (Window.rect_emb_val ((cfgM m hO).win 10) t y ⟨2, (by decide : 2 < 3)⟩ rfl).trans (by rw [congrFun e ⟨2, (by decide : 2 < 3)⟩]; rfl)
end

end Cert.KernelIdeal.Hand

end
-- ==== Proof.Launch.lean ====
module

public import proofs.«01_k».proof.Proof.Body

/-! The run of the launch, from the body at any point. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem held_in (c : Dev nD) {sp : Space} {sh : Shape} {e : EltTy} (M : Memref sig .tc sp sh e) {T : Type} (B : T → sh.Idx → Elt F e) (X : sh.Idx → Elt F e) (h : ∀ d, B d = X) :
    iprop(∃ d, owns (c : Thread nD τ) M fullShare (B d)) ⊢ (owns (c : Thread nD τ) M fullShare X : sProp 𝕄) := by
  iintro ⟨%d, H⟩
  rw [← h d]
  iexact H
theorem owns_at (c : Dev nD) {sp : Space} {sh : Shape} {e : EltTy} (M : Memref sig .tc sp sh e) (z z' : sh.Idx → Elt F e) (h' : z' = z) :
    (owns (c : Thread nD τ) M fullShare z' : sProp 𝕄) ⊢ owns (c : Thread nD τ) M fullShare z := by
  subst h'; exact .rfl
theorem phi_at (hO : Ok m) (c : Dev nD) (t : Fin (cfgM m hO).N) : (dats m hO 0 c).Φ t.castSucc = Phi m hO c t.val :=
  congrArg (Phi m hO c) (Fin.val_castSucc t)
theorem phi_next (hO : Ok m) (c : Dev nD) (t : Fin (cfgM m hO).N) : (dats m hO 0 c).Φ t.succ = Phi m hO c (t.val + 1) :=
  congrArg (Phi m hO c) (Fin.val_succ t)
theorem owes_next (hO : Ok m) (c : Dev nD) (t : Fin (cfgM m hO).N) : (dats m hO 0 c).owesAt () t.succ = (dats m hO 0 c).owesAt () t.castSucc := rfl
/-- What a point that stores leaves. -/
theorem leaves_stored (c : Dev nD) {sp : Space} {sh : Shape} {e : EltTy} (M : Memref sig .tc sp sh e) (b f : Bool) (X Y : sProp 𝕄) (z z' : sh.Idx → Elt F e) (h' : z' = z) (h : b = false) :
    owns (c : Thread nD τ) M fullShare z' ⊢ (match b with | true => (match f with | false => X | true => Y) | false => owns (c : Thread nD τ) M fullShare z) := by
  subst h; subst h'; exact .rfl
/-- What a point leaves that either stores or neither stores nor writes back. -/
theorem leaves_either (c : Dev nD) {sp : Space} {sh : Shape} {e : EltTy} (M : Memref sig .tc sp sh e) (b b' f : Bool) (X Y : sProp 𝕄) (z z' : sh.Idx → Elt F e) (h' : z' = z) : b' = b → (b = true → f = false) →
    ((match b' with | true => X | false => owns (c : Thread nD τ) M fullShare z') ⊢ (match b with | true => (match f with | false => X | true => Y) | false => owns (c : Thread nD τ) M fullShare z)) := by
  intro e; subst e; subst h'
  intro h
  cases b' with
  | true => obtain rfl := h rfl; exact .rfl
  | false => exact .rfl

theorem idle_kept (hO : Ok m) (t : Fin grid0.N) : (cfgM m hO).idle 10 (grid0.coords t) = true → ((cfgM m hO).win 10).flush t = false := fun hi => by
  rw [idle_10] at hi
  refine Bool.eq_false_iff.mpr fun e => ?_
  rw [show k0_cond5 (lit0 (tileOf (grid0.coords t))) = 1#1 from (flush10 m hO t).mp e] at hi
  exact Bool.false_ne_true hi

set_option maxHeartbeats 1000000 in
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl ?_ fun _ => ?_
  · unfold bodyPre
    rw [← phi_at]
    refine BIClass.sep_mono .rfl (BIClass.sep_mono .rfl ?_)
    refine BIClass.sep_mono (held_in c (ms0_0 m hO t) _ _ (before0_0 m hO c t)) ?_
    refine BIClass.sep_mono (held_in c (ms0_1 m hO t) _ _ (before0_1 m hO c t)) ?_
    refine BIClass.sep_mono (held_in c (ms0_2 m hO t) _ _ (before0_2 m hO c t)) ?_
    refine BIClass.sep_mono (held_in c (ms0_3 m hO t) _ _ (before0_3 m hO c t)) ?_
    refine BIClass.sep_mono (held_in c (ms0_4 m hO t) _ _ (before0_4 m hO c t)) ?_
    refine BIClass.sep_mono (held_in c (ms0_5 m hO t) _ _ (before0_5 m hO c t)) ?_
    refine BIClass.sep_mono (held_in c (ms0_6 m hO t) _ _ (before0_6 m hO c t)) ?_
    exact .rfl
  · unfold bodyPost
    rw [← phi_next, ← owes_next]
    refine BIClass.sep_mono .rfl (BIClass.sep_mono .rfl ?_)
    refine BIClass.sep_mono (owns_at c (ms0_0 m hO t) _ _ (after0_0 m hO c t).symm) ?_
    refine BIClass.sep_mono (owns_at c (ms0_1 m hO t) _ _ (after0_1 m hO c t).symm) ?_
    refine BIClass.sep_mono (owns_at c (ms0_2 m hO t) _ _ (after0_2 m hO c t).symm) ?_
    refine BIClass.sep_mono (owns_at c (ms0_3 m hO t) _ _ (after0_3 m hO c t).symm) ?_
    refine BIClass.sep_mono (owns_at c (ms0_4 m hO t) _ _ (after0_4 m hO c t).symm) ?_
    refine BIClass.sep_mono (owns_at c (ms0_5 m hO t) _ _ (after0_5 m hO c t).symm) ?_
    refine BIClass.sep_mono (owns_at c (ms0_6 m hO t) _ _ (after0_6 m hO c t).symm) ?_
    refine BIClass.sep_mono (leaves_stored c (ms0_7 m hO t) _ _ _ _ _ _ (after0_7 m hO c t).symm (idle_7 m hO t)) ?_
    refine BIClass.sep_mono (leaves_stored c (ms0_8 m hO t) _ _ _ _ _ _ (after0_8 m hO c t).symm (idle_8 m hO t)) ?_
    refine BIClass.sep_mono (leaves_stored c (ms0_9 m hO t) _ _ _ _ _ _ (after0_9 m hO c t).symm (idle_9 m hO t)) ?_
    exact leaves_either c (ms0_10 m hO t) _ _ _ _ _ _ _ (after0_10 m hO c t).symm (idle_10 m hO t).symm (idle_kept m hO t)

set_option backward.isDefEq.respectTransparency.types false in
theorem run_main_quiescent (ρ : Dev nD → PrngReg) (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := fun c => by
      rw [show (dats m hO 0 c).Φ 0 = Phi m hO c 0 from rfl]
      unfold Phi
      rw [show (Pipeline.ΦA ((Pipeline.pin pcfgs fun _ => adm m hO) 0).spec c : sProp 𝕄) = _ from PhiA0_eq c]
      iintro ⟨⟨⟨%z, HS0⟩, Hg⟩, HT⟩
      isplitl [HS0 Hg]
      · isplitl [HS0]
        · iexists z
          isplitr; · ipureintro; exact fun h => absurd rfl h
          iexact HS0
        iexact Hg
      iexact HT)
    (hout := fun c => by
      rw [show (dats m hO 0 c).Φ (Fin.last _) = Phi m hO c grid0.N from rfl]
      unfold Phi
      rw [show (Pipeline.ΦA ((Pipeline.pin pcfgs fun _ => adm m hO) 0).spec c : sProp 𝕄) = _ from PhiA0_eq c]
      iintro ⟨⟨⟨%z, %hz, HS0⟩, Hg⟩, HT⟩
      isplitl [HS0]
      · iexists z
        iexact HS0
      iexact Hg)

theorem run_main (ρ : Dev nD → PrngReg) (hO : Ok m) : θ_run defs (onTc (τ := τ) (main (F := F))) (s₀ m ρ)
    (Pipeline.FramePost (Pipeline.pin pcfgs fun _ => adm m hO) (dats m hO) 0 (V m)) :=
  (θ_run defs _ _).mono (fun _ h => h.1) (run_main_quiescent m ρ hO)

theorem frame (ρ : Dev nD → PrngReg) (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (by decide : main_arg0 ∈ Pipeline.restRefs sig spec0)).trans (V_main_arg0 m c), ((h.1 c).2 main_arg1 (by decide : main_arg1 ∈ Pipeline.restRefs sig spec0)).trans (V_main_arg1 m c), ((h.1 c).2 main_arg2 (by decide : main_arg2 ∈ Pipeline.restRefs sig spec0)).trans (V_main_arg2 m c), ((h.1 c).2 main_arg3 (by decide : main_arg3 ∈ Pipeline.restRefs sig spec0)).trans (V_main_arg3 m c)⟩, h.2⟩) (run_main_quiescent m ρ hO)

end Cert.KernelIdeal.Hand

end
-- ==== Proof.Ref.lean ====
module

public import proofs.«01_k».proof.Proof.Real
public import proofs.«01_k».proof.Proof.Gen.ReferenceIdeal.Read
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape

/-! The reference's stages over the extended reals, where the arguments are real numbers. -/

@[expose] public section

set_option maxRecDepth 16384

noncomputable section

namespace Cert.ReferenceIdeal.Hand

open Cert.ReferenceIdeal Cert.ReferenceIdeal.Gen Cert.ReferenceIdeal.Read Attn
open Idealize.ShloMosaic

variable (X : Data) (x0 : FVec Ideal S4096x1024 .f32) (x1 : FVec Ideal S4096x2048 .f32) (x2 : FVec Ideal S4096x16 .f32) (x3 : FVec Ideal S4096x1024 .f32)
  (H : X.Args x0 x1 x2 x3)
include H

theorem r0 (h : Fin 16) (t : Fin 4096) (d : Fin 64) : val_main_v0 (F := Ideal) x0 (ix3 t h d) = (X.q h t d : EReal) := by
  unfold val_main_v0; pointwise; exact H.q h t d
theorem r2 (h : Fin 16) (t : Fin 4096) (d : Fin 64) : val_main_v2 (F := Ideal) x1 (ix3 t h d) = (X.k h t d : EReal) := by
  unfold val_main_v2 val_main_v1; pointwise; exact H.k h t d
theorem r4 (h : Fin 16) (t : Fin 4096) (d : Fin 64) : val_main_v4 (F := Ideal) x1 (ix3 t h d) = (X.v h t d : EReal) := by
  unfold val_main_v4 val_main_v3; pointwise; exact H.v h t d
theorem r53 (h : Fin 16) (t : Fin 4096) (d : Fin 64) : val_main_v53 (F := Ideal) x3 (ix3 t h d) = (X.o h t d : EReal) := by
  unfold val_main_v53; pointwise; exact H.o h t d

theorem r15 (h : Fin 16) (t s : Fin 4096) : val_main_v15 (F := Ideal) x0 x1 x2 (ix3 h t s) = ((X.A h t s + X.c h t : ℝ) : EReal) := by
  unfold val_main_v15 val_main_v14 val_main_v13 val_main_v12 val_main_v11 val_main_v10 val_main_v9 val_main_v8 val_main_v7 val_main_v6 val_main_v5 val_main_cst
  pointwise
  simp only [r0 X x0 x1 x2 x3 H, r2 X x0 x1 x2 x3 H, H.c, eighth_f32, ← EReal.coe_mul, ← EReal.coe_add, ← EReal.coe_sub, coe_sum]
  unfold Data.A
  congr 1; ring

omit H in
theorem r22_1 (h : Fin 16) (t s : Fin 4096) : val_main_v22_1 (F := Ideal) (ix3 h t s) = if s ≤ t then 1#1 else 0#1 := by
  unfold val_main_v22_1 val_main_v21 val_main_v20 val_main_v19 val_main_v18 val_main_v17 val_main_v16
  pointwise
  exact sle_ofNat _ _ (by omega) (by omega)

theorem r22 (h : Fin 16) (t s : Fin 4096) : val_main_v22_0 (F := Ideal) x0 x1 x2 (ix3 h t s) = if s ≤ t then ((X.A h t s + X.c h t : ℝ) : EReal) else ⊥ := by
  unfold val_main_v22_0 val_main_call0_v2 val_main_call0_v0 val_main_cst_0
  pointwise
  rw [r22_1, r15 X x0 x1 x2 x3 H]
  rw [show (id (constant (F := Ideal) S_ FTy.f32 4286578688#32) ix0 : EReal) = ⊥ from neg_inf]
  split <;> rfl

theorem r30 : ∃ M : Fin 16 → Fin 4096 → ℝ, ∀ h t, val_main_v30 (F := Ideal) x0 x1 x2 (ix2 h t) = ((M h t + X.c h t : ℝ) : EReal) := by
  suffices e : ∀ h t, ∃ M : ℝ, val_main_v30 (F := Ideal) x0 x1 x2 (ix2 h t) = (M : EReal) by
    choose M hM using e
    exact ⟨fun h t => M h t - X.c h t, fun h t => by rw [hM, sub_add_cancel]⟩
  intro h t
  unfold val_main_v30 val_main_v29 val_main_v23 val_main_cst_3 val_main_cst_1
  rw [Idealize.ShloMosaic.maximumf_apply, Host.reduce_eq_fold]
  pointwise
  rw [neg_inf]
  obtain ⟨M, hM⟩ := max_masked (fun s => val_main_v22_0 (F := Ideal) x0 x1 x2 (ix3 h t s)) _ t (r22 X x0 x1 x2 x3 H h t)
  exact ⟨M, (max_eq_right bot_le).trans hM⟩

variable (M : Fin 16 → Fin 4096 → ℝ) (hM : ∀ h t, val_main_v30 (F := Ideal) x0 x1 x2 (ix2 h t) = ((M h t + X.c h t : ℝ) : EReal))
include hM

theorem r43 (h : Fin 16) (t s : Fin 4096) : val_main_v43 (F := Ideal) x0 x1 x2 (ix3 h t s) = (X.E h t s (M h t) : EReal) := by
  unfold val_main_v43 val_main_v42 val_main_v41 val_main_v40
  pointwise
  rw [r22 X x0 x1 x2 x3 H, hM]
  unfold Data.E
  split
  · rw [← EReal.coe_sub, Ideal.exp_coe]; congr 2; ring
  · rw [EReal.bot_sub, Ideal.exp_bot]; rfl

theorem r45 (h : Fin 16) (t : Fin 4096) : val_main_v45 (F := Ideal) x0 x1 x2 (ix3 h t 0) = (X.Z h t (M h t) : EReal) := by
  unfold val_main_v45 val_main_v44 val_main_cst_9
  pointwise
  simp only [r43 X x0 x1 x2 x3 H M hM, coe_sum]
  rfl

theorem r47 (h : Fin 16) (t s : Fin 4096) : val_main_v47 (F := Ideal) x0 x1 x2 (ix3 h t s) = (X.P h t s : EReal) := by
  unfold val_main_v47 val_main_v46
  pointwise
  rw [r45 X x0 x1 x2 x3 H M hM, r43 X x0 x1 x2 x3 H M hM, Ideal.div_coe (X.Z_pos h t _).ne', ← EReal.coe_mul, X.P_eq h t s (M h t)]
  congr 1; ring

theorem r50 (h : Fin 16) (t : Fin 4096) : val_main_v50 (F := Ideal) x0 x1 x2 (ix3 h t 0) = ((1 / (X.Z h t (M h t) * X.Z h t (M h t)) : ℝ) : EReal) := by
  unfold val_main_v50 val_main_v49 val_main_v48 val_main_cst_10
  pointwise
  rw [r45 X x0 x1 x2 x3 H M hM, ← EReal.coe_mul, Ideal.div_coe (mul_pos (X.Z_pos h t _) (X.Z_pos h t _)).ne', one_mul]

omit hM in
theorem r55 (h : Fin 16) (t s : Fin 4096) : val_main_v55 (F := Ideal) x1 x3 (ix3 h t s) = (X.dP h t s : EReal) := by
  unfold val_main_v55 val_main_v54
  pointwise
  simp only [r53 X x0 x1 x2 x3 H, r4 X x0 x1 x2 x3 H, ← EReal.coe_mul, coe_sum]
  unfold Data.dP
  exact congrArg _ (Finset.sum_congr rfl fun d _ => mul_comm _ _)

theorem r90 (s : Fin 4096) (e : Fin 1024) : val_main_v90 (F := Ideal) x0 x1 x2 x3 (ix2 s e) = (X.dV (ch e) s (cd e) : EReal) := by
  unfold val_main_v90 val_main_v57 val_main_v56 val_main_v54
  pointwise
  simp only [r53 X x0 x1 x2 x3 H, r47 X x0 x1 x2 x3 H M hM, ← EReal.coe_mul, coe_sum]
  unfold Data.dV
  exact congrArg _ (Finset.sum_congr rfl fun d _ => mul_comm _ _)

theorem r68 (h : Fin 16) (t s : Fin 4096) : val_main_v68 (F := Ideal) x0 x1 x2 x3 (ix3 h t s)
    = ((X.dP h t s / X.Z h t (M h t) + -∑ s', X.dP h t s' * (1 / (X.Z h t (M h t) * X.Z h t (M h t))) * X.E h t s' (M h t) : ℝ) : EReal) := by
  unfold val_main_v68 val_main_v67 val_main_v66 val_main_v65 val_main_v64 val_main_v63 val_main_v62 val_main_v61 val_main_v60 val_main_v59 val_main_v58 val_main_cst_11 val_main_cst_12
  pointwise
  simp only [r45 X x0 x1 x2 x3 H M hM, r43 X x0 x1 x2 x3 H M hM, r55 X x0 x1 x2 x3 H, r50 X x0 x1 x2 x3 H M hM, Ideal.div_coe (X.Z_pos h t _).ne', ← EReal.coe_mul, coe_sum, ← EReal.coe_neg, ← EReal.coe_add]
  rw [Fin.sum_univ_one, mul_one_div]

theorem r70 (h : Fin 16) (t s : Fin 4096) : val_main_v70 (F := Ideal) x0 x1 x2 x3 (ix3 h t s) = (X.dS h t s : EReal) := by
  unfold val_main_v70 val_main_call1_v0 val_main_call1_cst val_main_v69
  pointwise
  rw [r22_1, r68 X x0 x1 x2 x3 H M hM, r43 X x0 x1 x2 x3 H M hM, ← EReal.coe_mul, X.dS_quot]
  split
  · rfl
  · rename_i hs; rw [X.dS_late h t s hs]; rfl

theorem r92 (h : Fin 16) (s : Fin 4096) : val_main_v92 (F := Ideal) x0 x1 x2 x3 (ix3 h 0 s) = (X.dC h s : EReal) := by
  unfold val_main_v92 val_main_v91 val_main_v80 val_main_v79 val_main_v78 val_main_v77 val_main_v76 val_main_v75 val_main_v74 val_main_v73 val_main_v72 val_main_v71 val_main_cst_13 val_main_cst_14 val_main_cst_15 val_main_cst_16
  pointwise
  simp only [r70 X x0 x1 x2 x3 H M hM, coe_sum, ← EReal.coe_neg]
  rw [← EReal.coe_add, Fin.sum_univ_one, Fin.sum_univ_one, X.dS_sum, add_zero, Finset.sum_neg_distrib]
  rfl

theorem r88 (e : Fin 1024) (t : Fin 4096) : val_main_v88 (F := Ideal) x0 x1 x2 x3 (ix2 e t) = (X.dQ (ch e) t (cd e) : EReal) := by
  unfold val_main_v88 val_main_v87 val_main_v86 val_main_v85 val_main_v82 val_main_v81 val_main_cst_17
  pointwise
  simp only [r70 X x0 x1 x2 x3 H M hM, r2 X x0 x1 x2 x3 H, eighth_f32, ← EReal.coe_mul, coe_sum]
  exact congrArg _ (X.dQ_eq _ _ _)

theorem r89 (s : Fin 4096) (e : Fin 1024) : val_main_v89 (F := Ideal) x0 x1 x2 x3 (ix2 s e) = (X.dK (ch e) s (cd e) : EReal) := by
  unfold val_main_v89 val_main_v84 val_main_v83 val_main_v82 val_main_v81 val_main_cst_17
  pointwise
  simp only [r70 X x0 x1 x2 x3 H M hM, r0 X x0 x1 x2 x3 H, eighth_f32, ← EReal.coe_mul, coe_sum]
  unfold Data.dK
  exact congrArg _ (Finset.sum_congr rfl fun d _ => by ring)

end Cert.ReferenceIdeal.Hand

end
-- ==== Proof.Value.lean ====
module

public import proofs.«01_k».proof.Defs
public import proofs.«01_k».proof.Proof.Final
public import proofs.«01_k».proof.Proof.Launch
public import proofs.«01_k».proof.Proof.Ref
public import proofs.«01_k».proof.Proof.Gen.ReferenceIdeal.Run
public import proofs.«01_k».proof.Proof.Gen.ReferenceIdeal.Read

/-! The two programs' results are the same gradients where the arguments are real numbers. -/

@[expose] public section

set_option maxRecDepth 16384

noncomputable section

namespace Attn

open Idealize.ShloMosaic Idealize.ShloMosaic.TcCoe Idealize.SL.Sem

/-- An entry whose absolute value is below +∞ is a real number. -/
theorem real_of_abs (x : EReal) (h : Ideal.cmp .olt (max x (-x)) ⊤ = 1#1) : x = ((x.toReal : ℝ) : EReal) := by
  have hl : max x (-x) < ⊤ := by
    by_contra hn
    rw [show Ideal.cmp .olt (max x (-x)) ⊤ = BitVec.ofBool (decide (max x (-x) < ⊤)) from rfl, decide_eq_false hn] at h
    exact absurd h (by decide)
  have h1 : x ≠ ⊤ := ne_of_lt (lt_of_le_of_lt (le_max_left _ _) hl)
  have h2 : x ≠ ⊥ := fun e => by
    rw [e, EReal.neg_bot] at hl
    exact absurd hl (by simp)
  exact (EReal.coe_toReal h1 h2).symm

theorem real_at {s : Shape} (x B : FVec Ideal s .f32) (hB : ∀ i, B i = Ideal.ofBits .f32 0x7F800000#32) (h : cmpf .olt (Host.absf x) B = fun _ => 1#1) (i : s.Idx) :
    x i = (((x i : EReal).toReal : ℝ) : EReal) := by
  refine real_of_abs (x i) ?_
  have e : cmpf .olt (Host.absf x) B i = Ideal.cmp .olt (max (x i : EReal) (-(x i : EReal))) (B i) := rfl
  rw [← pos_inf, ← hB i, ← e, h]

/-- The numbers the arguments hold. -/
def numbers (x0 : FVec Ideal ⟨2, ![4096, 1024]⟩ .f32) (x1 : FVec Ideal ⟨2, ![4096, 2048]⟩ .f32) (x2 : FVec Ideal ⟨2, ![4096, 16]⟩ .f32) (x3 : FVec Ideal ⟨2, ![4096, 1024]⟩ .f32) : Data where
  q h t d := (x0 (ix2 t (hd h d)) : EReal).toReal
  k h t d := (x1 (ix2 t ⟨h.val * 64 + d.val, by omega⟩) : EReal).toReal
  v h t d := (x1 (ix2 t (hdv h d)) : EReal).toReal
  c h t := (x2 (ix2 t h) : EReal).toReal
  o h t d := (x3 (ix2 t (hd h d)) : EReal).toReal

theorem args_of [Cert.Pre_finite.Facts] (x0 : FVec Ideal ⟨2, ![4096, 1024]⟩ .f32) (x1 : FVec Ideal ⟨2, ![4096, 2048]⟩ .f32) (x2 : FVec Ideal ⟨2, ![4096, 16]⟩ .f32) (x3 : FVec Ideal ⟨2, ![4096, 1024]⟩ .f32)
    (h0 : (Cert.Pre_finite.fn (F := Ideal) x0 x1 x2 x3).1 = fun _ => 1#1)
    (h1 : (Cert.Pre_finite.fn (F := Ideal) x0 x1 x2 x3).2.1 = fun _ => 1#1)
    (h2 : (Cert.Pre_finite.fn (F := Ideal) x0 x1 x2 x3).2.2.1 = fun _ => 1#1)
    (h3 : (Cert.Pre_finite.fn (F := Ideal) x0 x1 x2 x3).2.2.2 = fun _ => 1#1) : (numbers x0 x1 x2 x3).Args x0 x1 x2 x3 where
  q h t d := real_at x0 _ (fun _ => rfl) h0 _
  k h t d := real_at x1 _ (fun _ => rfl) h1 _
  v h t d := real_at x1 _ (fun _ => rfl) h1 _
  c h t := real_at x2 _ (fun _ => rfl) h2 _
  o h t d := real_at x3 _ (fun _ => rfl) h3 _

/-- The four gradients as arrays. -/
def gQ (X : Data) : FVec Ideal ⟨2, ![1024, 4096]⟩ .f32 := fun y => (X.dQ (ch (y 0)) (y 1) (cd (y 0)) : EReal)
def gK (X : Data) : FVec Ideal ⟨2, ![4096, 1024]⟩ .f32 := fun y => (X.dK (ch (y 1)) (y 0) (cd (y 1)) : EReal)
def gV (X : Data) : FVec Ideal ⟨2, ![4096, 1024]⟩ .f32 := fun y => (X.dV (ch (y 1)) (y 0) (cd (y 1)) : EReal)
def gC (X : Data) : FVec Ideal ⟨3, ![16, 1, 4096]⟩ .f32 := fun y => (X.dC (y 0) (y 2) : EReal)

end Attn

namespace Cert.KernelIdeal.Hand

open Cert.KernelIdeal.Gen Attn
open Idealize.ShloMosaic Idealize.ShloMosaic.TcCoe Idealize.SL.Sem

/-- The kernel's run, its results the gradients. -/
theorem run_value (m : (ℓ : Loc nD τ sig) → Buf (Elt Ideal) ℓ) (ρ : Dev nD → PrngReg) (X : Dev nD → Data)
    (H : ∀ c, (X c).Args (a0 m c) (a1 m c) (a2 m c) (a3 m c)) :
    θ_run (defs (F := Ideal)) (onTc (τ := τ) (main (F := Ideal))) ⟨m, fun _ => 0, ρ⟩ (fun r => ∀ c : Dev nD,
      r.2.mem ((c.tc : Thread nD τ).loc main_v44_0) = gQ (X c)
      ∧ r.2.mem ((c.tc : Thread nD τ).loc main_v44_1) = gK (X c)
      ∧ r.2.mem ((c.tc : Thread nD τ).loc main_v44_2) = gV (X c)
      ∧ r.2.mem ((c.tc : Thread nD τ).loc main_v44_3) = gC (X c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hM : ∀ c, ∃ M : Fin 16 → Fin 4096 → ℝ, ∀ h t, hX (F := Ideal) (a0 m c) (a1 m c) (a2 m c) (ix3 h t 0) = (M h t : EReal) :=
    fun c => hX_at (X c) _ _ _ _ (H c)
  choose M hM using hM
  refine (θ_run defs _ _).mono (fun r h c => ?_) (run_main m ρ (ok m))
  refine ⟨((h c).1 7).trans (out7 (X c) (M c) m (ok m) c (H c) (hM c)), ((h c).1 8).trans (out8 (X c) (M c) m (ok m) c (H c) (hM c)),
    ((h c).1 9).trans (out9 (X c) (M c) m (ok m) c (H c) (hM c)), ((h c).1 10).trans (out10 (X c) (M c) m (ok m) c (H c) (hM c)), ?_, ?_, ?_, ?_⟩
  · exact ((h c).2 main_arg0 (by decide : main_arg0 ∈ Pipeline.restRefs sig spec0)).trans (V_main_arg0 m c)
  · exact ((h c).2 main_arg1 (by decide : main_arg1 ∈ Pipeline.restRefs sig spec0)).trans (V_main_arg1 m c)
  · exact ((h c).2 main_arg2 (by decide : main_arg2 ∈ Pipeline.restRefs sig spec0)).trans (V_main_arg2 m c)
  · exact ((h c).2 main_arg3 (by decide : main_arg3 ∈ Pipeline.restRefs sig spec0)).trans (V_main_arg3 m c)

end Cert.KernelIdeal.Hand

namespace Cert.ReferenceIdeal.Hand

open Cert.ReferenceIdeal Cert.ReferenceIdeal.Gen Cert.ReferenceIdeal.Read Attn
open Idealize.ShloMosaic Idealize.ShloMosaic.TcCoe Idealize.SL.Sem

section
variable (X : Data) (x0 : FVec Ideal S4096x1024 .f32) (x1 : FVec Ideal S4096x2048 .f32) (x2 : FVec Ideal S4096x16 .f32) (x3 : FVec Ideal S4096x1024 .f32)
  (H : X.Args x0 x1 x2 x3)
include H

theorem val_eq : val_main_v88 (F := Ideal) x0 x1 x2 x3 = gQ X ∧ val_main_v89 (F := Ideal) x0 x1 x2 x3 = gK X
    ∧ val_main_v90 (F := Ideal) x0 x1 x2 x3 = gV X ∧ val_main_v92 (F := Ideal) x0 x1 x2 x3 = gC X := by
  obtain ⟨M, hM⟩ := r30 X x0 x1 x2 x3 H
  refine ⟨funext fun y => ?_, funext fun y => ?_, funext fun y => ?_, funext fun y => ?_⟩
  · have e : y = ix2 (y 0) (y 1) := by
      funext b
      match b with
      | ⟨0, _⟩ => rfl
      | ⟨1, _⟩ => rfl
    exact (congrArg (val_main_v88 (F := Ideal) x0 x1 x2 x3) e).trans (r88 X x0 x1 x2 x3 H M hM (y 0) (y 1))
  · have e : y = ix2 (y 0) (y 1) := by
      funext b
      match b with
      | ⟨0, _⟩ => rfl
      | ⟨1, _⟩ => rfl
    exact (congrArg (val_main_v89 (F := Ideal) x0 x1 x2 x3) e).trans (r89 X x0 x1 x2 x3 H M hM (y 0) (y 1))
  · have e : y = ix2 (y 0) (y 1) := by
      funext b
      match b with
      | ⟨0, _⟩ => rfl
      | ⟨1, _⟩ => rfl
    exact (congrArg (val_main_v90 (F := Ideal) x0 x1 x2 x3) e).trans (r90 X x0 x1 x2 x3 H M hM (y 0) (y 1))
  · have e : y = ix3 (y 0) 0 (y 2) := by
      funext b
      match b with
      | ⟨0, _⟩ => rfl
      | ⟨1, _⟩ => exact Fin.ext (Nat.lt_one_iff.mp (y 1).isLt)
      | ⟨2, _⟩ => rfl
    exact (congrArg (val_main_v92 (F := Ideal) x0 x1 x2 x3) e).trans (r92 X x0 x1 x2 x3 H M hM (y 0) (y 2))
end

/-- The reference's run, its results the gradients. -/
theorem run_value (m : (ℓ : Loc nD τ sig) → Buf (Elt Ideal) ℓ) (ρ : Dev nD → PrngReg) (X : Dev nD → Data)
    (H : ∀ c, (X c).Args (m ((c.tc : Thread nD τ).loc main_arg0)) (m ((c.tc : Thread nD τ).loc main_arg1)) (m ((c.tc : Thread nD τ).loc main_arg2)) (m ((c.tc : Thread nD τ).loc main_arg3))) :
    θ_run (defs (F := Ideal)) (onTc (τ := τ) (main (F := Ideal))) ⟨m, fun _ => 0, ρ⟩ (fun r => ∀ c : Dev nD,
      r.2.mem ((c.tc : Thread nD τ).loc main_v88) = gQ (X c)
      ∧ r.2.mem ((c.tc : Thread nD τ).loc main_v89) = gK (X c)
      ∧ r.2.mem ((c.tc : Thread nD τ).loc main_v90) = gV (X c)
      ∧ r.2.mem ((c.tc : Thread nD τ).loc main_v92) = gC (X c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.ReferenceIdeal.Value.run m ρ)
  obtain ⟨h0, h1, h2, h3, h4⟩ := h c
  obtain ⟨e0, e1, e2, e3⟩ := val_eq (X c) _ _ _ _ (H c)
  exact ⟨h0.trans ((val_main_v88_eq m c).trans e0), h1.trans ((val_main_v89_eq m c).trans e1), h2.trans ((val_main_v90_eq m c).trans e2),
    h3.trans ((val_main_v92_eq m c).trans e3), h4⟩

end Cert.ReferenceIdeal.Hand

end
-- ==== Proof.FwdFinal.lean ====
module

public import proofs.«01_k».proof.Proof.FwdRun
public import proofs.«01_k».proof.Proof.FwdRef
public import proofs.«01_k».proof.Proof.Value
public import proofs.«01_k».proof.Pre_finite_fwd

/-! What the attention's launch leaves in its results. -/

@[expose] public section

set_option maxRecDepth 16384

noncomputable section

namespace Cert.FwdKernelIdeal.Hand

open Cert.FwdKernelIdeal Cert.FwdKernelIdeal.Gen Attn
open Idealize.ShloMosaic Idealize.ShloMosaic.TcCoe Idealize.SL.Sem
open Idealize.ShloMosaic.Pipeline (Window Dat)

theorem idx0 : ∀ t : Fin grid0.N, win0_0.index t = ![t.val / 8 % 8, t.val / 64] := by decide +kernel
theorem idx1 : ∀ t : Fin grid0.N, win0_1.index t = ![min (t.val / 8 % 8) (t.val % 8), t.val / 64] := by decide +kernel
theorem idx2 : ∀ t : Fin grid0.N, win0_2.index t = ![min (t.val / 8 % 8) (t.val % 8), 8 + t.val / 64] := by decide +kernel
theorem idx3 : ∀ t : Fin grid0.N, win0_3.index t = ![t.val / 64, 0, min (t.val / 8 % 8) (t.val % 8)] := by decide +kernel
theorem idx4 : ∀ t : Fin grid0.N, win0_4.index t = ![t.val / 8 % 8, t.val / 64] := by decide +kernel
theorem idx5 : ∀ t : Fin grid0.N, win0_5.index t = ![t.val / 8 % 8, t.val / 64] := by decide +kernel
theorem idx6 : ∀ t : Fin grid0.N, win0_6.index t = ![t.val / 64, 0, t.val / 8 % 8] := by decide +kernel

variable (m : (ℓ : Loc nD τ sig) → Buf (Elt Ideal) ℓ) (c : Dev nD)

abbrev x0 : FVec Ideal S4096x1024 .bf16 := m ((c.tc : Thread nD τ).loc main_arg0)
abbrev x1 : FVec Ideal S4096x2048 .bf16 := m ((c.tc : Thread nD τ).loc main_arg1)
abbrev x2 : FVec Ideal S16x1x4096 .f32 := m ((c.tc : Thread nD τ).loc main_arg2)

theorem blk0 (t : Fin grid0.N) (r : Fin 512) (e : Fin 128) (R : Fin 4096) (E : Fin 1024) (hR : R.val = t.val / 8 % 8 * 512 + r.val) (hE : E.val = t.val / 64 * 128 + e.val) :
    iblk m c 0 t (ix2 r e) = x0 m c (ix2 R E) := by
  refine congrArg (x0 m c) (funext fun b => Fin.ext ?_)
  match b with
  | ⟨0, _⟩ => exact (Window.rect_emb_val win0_0 t (ix2 r e) ⟨0, (by decide : 0 < 2)⟩ rfl).trans (by rw [idx0 t]; exact hR.symm)
  | ⟨1, _⟩ => exact (Window.rect_emb_val win0_0 t (ix2 r e) ⟨1, (by decide : 1 < 2)⟩ rfl).trans (by rw [idx0 t]; exact hE.symm)

theorem blk1 (t : Fin grid0.N) (r : Fin 512) (e : Fin 128) (R : Fin 4096) (E : Fin 2048) (hR : R.val = min (t.val / 8 % 8) (t.val % 8) * 512 + r.val) (hE : E.val = t.val / 64 * 128 + e.val) :
    iblk m c 1 t (ix2 r e) = x1 m c (ix2 R E) := by
  refine congrArg (x1 m c) (funext fun b => Fin.ext ?_)
  match b with
  | ⟨0, _⟩ => exact (Window.rect_emb_val win0_1 t (ix2 r e) ⟨0, (by decide : 0 < 2)⟩ rfl).trans (by rw [idx1 t]; exact hR.symm)
  | ⟨1, _⟩ => exact (Window.rect_emb_val win0_1 t (ix2 r e) ⟨1, (by decide : 1 < 2)⟩ rfl).trans (by rw [idx1 t]; exact hE.symm)

theorem blk2 (t : Fin grid0.N) (r : Fin 512) (e : Fin 128) (R : Fin 4096) (E : Fin 2048) (hR : R.val = min (t.val / 8 % 8) (t.val % 8) * 512 + r.val) (hE : E.val = (8 + t.val / 64) * 128 + e.val) :
    iblk m c 2 t (ix2 r e) = x1 m c (ix2 R E) := by
  refine congrArg (x1 m c) (funext fun b => Fin.ext ?_)
  match b with
  | ⟨0, _⟩ => exact (Window.rect_emb_val win0_2 t (ix2 r e) ⟨0, (by decide : 0 < 2)⟩ rfl).trans (by rw [idx2 t]; exact hR.symm)
  | ⟨1, _⟩ => exact (Window.rect_emb_val win0_2 t (ix2 r e) ⟨1, (by decide : 1 < 2)⟩ rfl).trans (by rw [idx2 t]; exact hE.symm)

theorem blk3 (t : Fin grid0.N) (e : Fin 2) (r : Fin 512) (h : Fin 16) (R : Fin 4096) (hh : h.val = t.val / 64 * 2 + e.val) (hR : R.val = min (t.val / 8 % 8) (t.val % 8) * 512 + r.val) :
    iblk m c 3 t (ix3 e 0 r) = x2 m c (ix3 h 0 R) := by
  refine congrArg (x2 m c) (funext fun b => Fin.ext ?_)
  match b with
  | ⟨0, _⟩ => exact (Window.rect_emb_val win0_3 t (ix3 e 0 r) ⟨0, (by decide : 0 < 3)⟩ rfl).trans (by rw [idx3 t]; exact hh.symm)
  | ⟨1, _⟩ => exact (Window.rect_emb_val win0_3 t (ix3 e 0 r) ⟨1, (by decide : 1 < 3)⟩ rfl).trans (by rw [idx3 t]; rfl)
  | ⟨2, _⟩ => exact (Window.rect_emb_val win0_3 t (ix3 e 0 r) ⟨2, (by decide : 2 < 3)⟩ rfl).trans (by rw [idx3 t]; exact hR.symm)

section values
variable (X : Data) (H : X.FwdArgs (x0 m c) (x1 m c) (x2 m c))
include H

/-- A point's scores, and its values, where its block of keys is not past its block of rows. -/
theorem full_eq (t : Fin cfg0.N) (hj : t.val % 8 ≤ t.val / 8 % 8) (e : Fin 2) (r k : Fin 512) (h : Fin 16) (R : Fin 4096) (hh : h.val = t.val / 64 * 2 + e.val)
    (hR : R.val = t.val / 8 % 8 * 512 + r.val) :
    full (iblk m c 0 t) (iblk m c 1 t) (iblk m c 3 t) e r k = (X.A h R ⟨512 * (t.val % 8) + k.val, by omega⟩ : EReal) := by
  have hk : 512 * (t.val % 8) + k.val = min (t.val / 8 % 8) (t.val % 8) * 512 + k.val := by rw [min_eq_right hj]; omega
  unfold full Data.A
  rw [blk3 m c t e k h ⟨512 * (t.val % 8) + k.val, by omega⟩ hh hk, H.c]
  have hs : (∑ d : Fin 64, (HMul.hMul (α := EReal) (HMul.hMul (α := EReal) (iblk m c 0 t (ix2 r (two e d))) ((0.125 : ℝ) : EReal)) (iblk m c 1 t (ix2 k (two e d))) : EReal))
      = ∑ d : Fin 64, ((X.q h R d * 0.125 * X.k h ⟨512 * (t.val % 8) + k.val, by omega⟩ d : ℝ) : EReal) :=
    Finset.sum_congr rfl fun d _ => by
      have h1 := (blk0 m c t r (two e d) R (hd h d) hR (by show h.val * 64 + d.val = _ + (e.val * 64 + d.val); omega)).trans (H.q h R d)
      have h2 := (blk1 m c t k (two e d) ⟨512 * (t.val % 8) + k.val, by omega⟩ ⟨h.val * 64 + d.val, by omega⟩ hk (by show h.val * 64 + d.val = _ + (e.val * 64 + d.val); omega)).trans (H.k h _ d)
      rw [EReal.coe_mul, EReal.coe_mul]
      exact congrArg₂ (fun a b : EReal => a * ((0.125 : ℝ) : EReal) * b) h1 h2
  refine (congrArg (fun s : EReal => s - _) hs).trans ?_
  rw [coe_sum, ← EReal.coe_sub, Finset.sum_mul]
  congr 2
  exact Finset.sum_congr rfl fun d _ => by ring

theorem value_eq (t : Fin cfg0.N) (hj : t.val % 8 ≤ t.val / 8 % 8) (e : Fin 2) (k : Fin 512) (d : Fin 64) (h : Fin 16) (hh : h.val = t.val / 64 * 2 + e.val) :
    iblk m c 2 t (ix2 k (two e d)) = (X.v h ⟨512 * (t.val % 8) + k.val, by omega⟩ d : EReal) :=
  (blk2 m c t k (two e d) ⟨512 * (t.val % 8) + k.val, by omega⟩ (hdv h d) (by show 512 * (t.val % 8) + k.val = _; rw [min_eq_right hj]; omega)
    (by show 1024 + (h.val * 64 + d.val) = _ + (e.val * 64 + d.val); omega)).trans (H.v h _ d)

/-- A row of a point goes on from the keys before its block to those up to the block's end. -/
theorem row_next (t : Fin cfg0.N) (hj : t.val % 8 ≤ t.val / 8 % 8) (f : Fin 2 → Fin 512 → Fin 512 → EReal)
    (hf : ∀ e r k, f e r k = if t.val % 8 = t.val / 8 % 8 then masked (iblk m c 0 t) (iblk m c 1 t) (iblk m c 3 t) e r k else full (iblk m c 0 t) (iblk m c 1 t) (iblk m c 3 t) e r k)
    (pm pl : Vec Ideal S2x512x1 .f32) (pa : Vec Ideal S2x512x64 .f32) (qm ql : Vec Ideal S2x512x1 .f32) (qa : Vec Ideal S2x512x64 .f32) (S : Step f (iblk m c 2 t) pm pl pa qm ql qa)
    (e : Fin 2) (r : Fin 512) (h : Fin 16) (R : Fin 4096) (hh : h.val = t.val / 64 * 2 + e.val) (hR : R.val = t.val / 8 % 8 * 512 + r.val)
    (K : X.Kept h R (512 * (t.val % 8)) (pm (ix3 e r 0)) (pl (ix3 e r 0)) (fun d => pa (ix3 e r d))) :
    X.Kept h R (512 * (t.val % 8 + 1)) (qm (ix3 e r 0)) (ql (ix3 e r 0)) (fun d => qa (ix3 e r d)) := by
  obtain ⟨S1, S2, S3⟩ := S e r
  refine Data.Kept.next X h R (t.val % 8) (Nat.mod_lt _ (by decide)) K (by omega) (f e r) (fun k => ?_) (fun k d => iblk m c 2 t (ix2 k (two e d))) (fun k d => value_eq m c X H t hj e k d h hh) _ _ _ S1 S2 S3
  have hr := r.isLt
  have hk := k.isLt
  rw [hf]
  by_cases hd : t.val % 8 = t.val / 8 % 8
  · rw [if_pos hd]
    unfold masked
    rw [full_eq m c X H t hj e r k h R hh hR]
    by_cases hkr : k ≤ r
    · rw [if_pos hkr, if_pos (by have : k.val ≤ r.val := hkr; omega)]
    · rw [if_neg hkr, if_neg (by have : ¬k.val ≤ r.val := hkr; omega)]
  · rw [if_neg hd, if_pos (by omega), full_eq m c X H t hj e r k h R hh hR]

/-- What is kept of a row after a point. -/
theorem kept (j : ℕ) : ∀ (t : Fin cfg0.N), t.val % 8 = j → ∀ (e : Fin 2) (r : Fin 512) (h : Fin 16) (R : Fin 4096), h.val = t.val / 64 * 2 + e.val → R.val = t.val / 8 % 8 * 512 + r.val →
    X.Kept h R (512 * (min (t.val / 8 % 8) (t.val % 8) + 1)) (keptM m c t.val t.isLt (ix3 e r 0)) (keptL m c t.val t.isLt (ix3 e r 0)) (fun d => keptA m c t.val t.isLt (ix3 e r d)) := by
  induction j with
  | zero =>
    intro t hj e r h R hh hR
    rw [min_eq_right (by omega)]
    have K : X.Kept h R (512 * (t.val % 8)) (k0_pay1 (F := Ideal) (ix3 e r 0)) (k0_pay2 (F := Ideal) (ix3 e r 0)) (fun d => k0_pay3 (F := Ideal) (ix3 e r d)) :=
      .inl ⟨by omega, pay1_at e r, pay2_at e r, fun d => pay3_at e r d⟩
    by_cases hi : t.val / 8 % 8 = 0
    · exact row_next m c X H t (by omega) _ (fun e r k => (if_pos (by omega)).symm) _ _ _ _ _ _ (stepA m c t hj (by omega) (by omega) (by omega)) e r h R hh hR K
    · exact row_next m c X H t (by omega) _ (fun e r k => (if_neg (by omega)).symm) _ _ _ _ _ _ (stepD m c t hj (by omega) (by omega) (by omega)) e r h R hh hR K
  | succ j ih =>
    intro t hj e r h R hh hR
    have K := ih ⟨t.val - 1, pred t⟩ (by show (t.val - 1) % 8 = j; omega) e r h R (by show h.val = (t.val - 1) / 64 * 2 + e.val; omega) (by show R.val = (t.val - 1) / 8 % 8 * 512 + r.val; omega)
    by_cases hi : t.val % 8 ≤ t.val / 8 % 8
    · rw [min_eq_right hi]
      have K' : X.Kept h R (512 * (t.val % 8)) (keptM m c (t.val - 1) (pred t) (ix3 e r 0)) (keptL m c (t.val - 1) (pred t) (ix3 e r 0)) (fun d => keptA m c (t.val - 1) (pred t) (ix3 e r d)) := by
        have : 512 * (min ((t.val - 1) / 8 % 8) ((t.val - 1) % 8) + 1) = 512 * (t.val % 8) := by omega
        rw [← this]
        exact K
      by_cases hd : t.val % 8 = t.val / 8 % 8
      · by_cases h7 : t.val % 8 = 7
        · exact row_next m c X H t hi _ (fun e r k => (if_pos hd).symm) _ _ _ _ _ _ (stepG m c t (by omega) (by omega) (by omega) h7) e r h R hh hR K'
        · exact row_next m c X H t hi _ (fun e r k => (if_pos hd).symm) _ _ _ _ _ _ (stepE m c t (by omega) (by omega) (by omega) h7) e r h R hh hR K'
      · exact row_next m c X H t hi _ (fun e r k => (if_neg hd).symm) _ _ _ _ _ _ (stepF m c t (by omega) (by omega) (by omega) (by omega)) e r h R hh hR K'
    · obtain ⟨hm, hl, ha⟩ := stepB m c t (by omega) (by omega) (by omega)
      rw [hm, hl, ha]
      have : 512 * (min (t.val / 8 % 8) (t.val % 8) + 1) = 512 * (min ((t.val - 1) / 8 % 8) ((t.val - 1) % 8) + 1) := by omega
      rw [this]
      exact K

/-- What the last point of a block of rows writes back. -/
theorem results (t : Fin cfg0.N) (h7 : t.val % 8 = 7) (e : Fin 2) (r : Fin 512) (h : Fin 16) (R : Fin 4096) (hh : h.val = t.val / 64 * 2 + e.val) (hR : R.val = t.val / 8 % 8 * 512 + r.val) :
    (∀ d, (outsAt0 m c t.val t.isLt).1 (ix2 r (two e d)) = (X.O h R d : EReal)) ∧ (∀ d, (outsAt0 m c t.val t.isLt).2.1 (ix2 r (two e d)) = (X.O h R d : EReal))
      ∧ (outsAt0 m c t.val t.isLt).2.2.1 (ix3 e 0 r) = (X.lse h R : EReal) := by
  obtain ⟨w1, w2, w3⟩ := written m c t h7 e r
  obtain ⟨k1, k2⟩ := Data.Kept.done X h R _ (by have := r.isLt; omega) (kept m c X H 7 t h7 e r h R hh hR)
  exact ⟨fun d => (w1 d).trans (k2 d), fun d => (w2 d).trans (k2 d), w3.trans k1⟩

/-- The results as arrays. -/
def arrO (X : Data) : S4096x1024.Idx → EReal := fun y => (X.O (ch (y 1)) (y 0) (cd (y 1)) : EReal)
def arrL (X : Data) : S16x1x4096.Idx → EReal := fun y => (X.lse (y 0) (y 2) : EReal)

/-- The point that writes an entry of the result back, and the entry's place in its block. -/
theorem at_o (y : S4096x1024.Idx) (lt : Value.pt4Of y < cfg0.N) :
    (outsAt0 m c (Value.pt4Of y) lt).1 (Value.loc4Of y) = arrO X y ∧ (outsAt0 m c (Value.pt4Of y) lt).2.1 (Value.loc4Of y) = arrO X y := by
  have y0 : (y 0).val < 4096 := (y 0).isLt
  have y1 : (y 1).val < 1024 := (y 1).isLt
  have hp : Value.pt4Of y = 8 * ((y 0).val / 512 + 8 * ((y 1).val / 128)) + 7 := by show 8 * (1 * ((y 0).val / 512 - 0) + 8 * ((y 1).val / 128 - 0)) + 7 = _; omega
  have e : Value.loc4Of y = ix2 ⟨(y 0).val % 512, by omega⟩ (two ⟨(y 1).val % 128 / 64, by omega⟩ (cd (y 1))) := by
    funext b
    match b with
    | ⟨0, _⟩ => rfl
    | ⟨1, _⟩ => exact Fin.ext (by show (y 1).val % 128 = (y 1).val % 128 / 64 * 64 + (y 1).val % 64; omega)
  obtain ⟨r1, r2, -⟩ := results m c X H ⟨Value.pt4Of y, lt⟩ (by show Value.pt4Of y % 8 = 7; omega) ⟨(y 1).val % 128 / 64, by omega⟩ ⟨(y 0).val % 512, by omega⟩ (ch (y 1)) (y 0)
    (by show (y 1).val / 64 = Value.pt4Of y / 64 * 2 + (y 1).val % 128 / 64; omega) (by show (y 0).val = Value.pt4Of y / 8 % 8 * 512 + (y 0).val % 512; omega)
  rw [e]
  exact ⟨r1 (cd (y 1)), r2 (cd (y 1))⟩

theorem at_l (y : S16x1x4096.Idx) (lt : Value.pt6Of y < cfg0.N) : (outsAt0 m c (Value.pt6Of y) lt).2.2.1 (Value.loc6Of y) = arrL X y := by
  have y0 : (y 0).val < 16 := (y 0).isLt
  have y1 : (y 1).val < 1 := (y 1).isLt
  have y2 : (y 2).val < 4096 := (y 2).isLt
  have hp : Value.pt6Of y = 8 * ((y 2).val / 512 + 8 * ((y 0).val / 2)) + 7 := by
    show 8 * (8 * ((y 0).val / 2 - 0) + 8 * ((y 1).val / 1 - 0) + 1 * ((y 2).val / 512 - 0)) + 7 = _; omega
  have e : Value.loc6Of y = ix3 ⟨(y 0).val % 2, by omega⟩ 0 ⟨(y 2).val % 512, by omega⟩ := by
    funext b
    match b with
    | ⟨0, _⟩ => rfl
    | ⟨1, _⟩ => exact Fin.ext (Nat.mod_one _)
    | ⟨2, _⟩ => rfl
  obtain ⟨-, -, r3⟩ := results m c X H ⟨Value.pt6Of y, lt⟩ (by show Value.pt6Of y % 8 = 7; omega) ⟨(y 0).val % 2, by omega⟩ ⟨(y 2).val % 512, by omega⟩ (y 0) (y 2)
    (by show (y 0).val = Value.pt6Of y / 64 * 2 + (y 0).val % 2; omega) (by show (y 2).val = Value.pt6Of y / 8 % 8 * 512 + (y 2).val % 512; omega)
  rw [e]
  exact r3

omit H in
theorem pt4_lt (y : S4096x1024.Idx) : Value.pt4Of y < cfg0.N := by
  have y0 : (y 0).val < 4096 := (y 0).isLt
  have y1 : (y 1).val < 1024 := (y 1).isLt
  show 8 * (1 * ((y 0).val / 512 - 0) + 8 * ((y 1).val / 128 - 0)) + 7 < 512
  omega

omit H in
theorem pt6_lt (y : S16x1x4096.Idx) : Value.pt6Of y < cfg0.N := by
  have y0 : (y 0).val < 16 := (y 0).isLt
  have y1 : (y 1).val < 1 := (y 1).isLt
  have y2 : (y 2).val < 4096 := (y 2).isLt
  show 8 * (8 * ((y 0).val / 2 - 0) + 8 * ((y 1).val / 1 - 0) + 1 * ((y 2).val / 512 - 0)) + 7 < 512
  omega

theorem value_o : Value.G4 m c = arrO X := funext fun y => by
  unfold Value.G4
  rw [dif_pos (pt4_lt y), ← Value.outsAt0_sweep m c _ (pt4_lt y)]
  exact (at_o m c X H y (pt4_lt y)).1

theorem value_o32 : Value.G5 m c = arrO X := funext fun y => by
  unfold Value.G5
  rw [dif_pos (pt4_lt y), ← Value.outsAt0_sweep m c _ (pt4_lt y)]
  exact (at_o m c X H y (pt4_lt y)).2

theorem value_l : Value.G6 m c = arrL X := funext fun y => by
  unfold Value.G6
  rw [dif_pos (pt6_lt y), ← Value.outsAt0_sweep m c _ (pt6_lt y)]
  exact at_l m c X H y (pt6_lt y)

end values

/-- The numbers the arguments hold. -/
def numbers (x0 : FVec Ideal ⟨2, ![4096, 1024]⟩ .bf16) (x1 : FVec Ideal ⟨2, ![4096, 2048]⟩ .bf16) (x2 : FVec Ideal ⟨3, ![16, 1, 4096]⟩ .f32) : Data where
  q h t d := (x0 (ix2 t (hd h d)) : EReal).toReal
  k h t d := (x1 (ix2 t ⟨h.val * 64 + d.val, by omega⟩) : EReal).toReal
  v h t d := (x1 (ix2 t (hdv h d)) : EReal).toReal
  c h t := (x2 (ix3 h 0 t) : EReal).toReal
  o h t d := 0

theorem args_of [Cert.Pre_finite_fwd.Facts] (x0 : FVec Ideal ⟨2, ![4096, 1024]⟩ .bf16) (x1 : FVec Ideal ⟨2, ![4096, 2048]⟩ .bf16) (x2 : FVec Ideal ⟨3, ![16, 1, 4096]⟩ .f32)
    (h0 : (Cert.Pre_finite_fwd.fn (F := Ideal) x0 x1 x2).1 = fun _ => 1#1)
    (h1 : (Cert.Pre_finite_fwd.fn (F := Ideal) x0 x1 x2).2.1 = fun _ => 1#1)
    (h2 : (Cert.Pre_finite_fwd.fn (F := Ideal) x0 x1 x2).2.2 = fun _ => 1#1) : (numbers x0 x1 x2).FwdArgs x0 x1 x2 where
  q h t d := real_at x0 _ (fun _ => rfl) h0 _
  k h t d := real_at x1 _ (fun _ => rfl) h1 _
  v h t d := real_at x1 _ (fun _ => rfl) h1 _
  c h t := real_at x2 _ (fun _ => rfl) h2 _

end Cert.FwdKernelIdeal.Hand

end
-- ==== Proof.Glu.lean ====
module

public import proofs.«01_k».proof.Proof.Gen.GluKernelIdeal.Value
public import proofs.«01_k».proof.Proof.Gen.GluReferenceIdeal.Read
public import proofs.«01_k».proof.Proof.Gen.GluDwKernelIdeal.Value
public import proofs.«01_k».proof.Proof.Gen.GluDwReferenceIdeal.Read
public import proofs.«01_k».proof.Proof.Gen.GluDyKernelIdeal.Value
public import proofs.«01_k».proof.Proof.Gen.GluDyReferenceIdeal.Read
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import Idealize.ShloMosaic.Lib.Pipeline.ValueKit

/-! The product of a gated output layer, whose columns lie in eight blocks of 256, and its two gradients. -/

@[expose] public section

set_option maxRecDepth 16384

noncomputable section

namespace Cert.GluKernelIdeal.Hand

open Cert.GluKernelIdeal.Gen
open Idealize.ShloMosaic Idealize.ShloMosaic.TcCoe Idealize.SL.Sem
open Idealize.ShloMosaic.Pipeline (Window Dat)

/-- Entry (j, t, f) of the product. -/
def glu (y : FVec Ideal ⟨2, ![4096, 1024]⟩ .bf16) (w : FVec Ideal ⟨3, ![8, 1024, 256]⟩ .bf16) : FVec Ideal ⟨3, ![8, 4096, 256]⟩ .f32 :=
  fun i => ∑ k : Fin 1024, (y (ix2 (i 1) k) * w (ix3 (i 0) k (i 2)) : EReal)

theorem pay (x : Vec Ideal S4096x1024 .bf16) (w : Vec Ideal S1x1024x256 .bf16) (r : Fin 4096) (f : Fin 256) :
    k0_pay1 (F := Ideal) x w (ix3 0 r f) = ∑ k : Fin 1024, (x (ix2 r k) * w (ix3 0 k f) : EReal) := by
  unfold k0_pay1
  pointwise

theorem out_at (x : Vec Ideal S4096x1024 .bf16) (w : Vec Ideal S1x1024x256 .bf16) (r : Fin 4096) (f : Fin 256) :
    out0_2 (F := Ideal) x w (ix3 0 r f) = ∑ k : Fin 1024, (x (ix2 r k) * w (ix3 0 k f) : EReal) := by
  unfold out0_2
  rw [View.canon_unit_zero (by decide), View.ld_unit_zero (by decide), View.ld_unit_zero (by decide)]
  exact pay x w r f

theorem idx0 : ∀ t : Fin grid0.N, win0_0.index t = ![0, 0] := by decide +kernel
theorem idx1 : ∀ t : Fin grid0.N, win0_1.index t = ![t.val, 0, 0] := by decide +kernel
theorem idx2 : ∀ t : Fin grid0.N, win0_2.index t = ![t.val, 0, 0] := by decide +kernel

variable (m : (ℓ : Loc nD τ sig) → Buf (Elt Ideal) ℓ) (c : Dev nD)

abbrev a0 : FVec Ideal S4096x1024 .bf16 := m ((c.tc : Thread nD τ).loc main_arg0)
abbrev a1 : FVec Ideal S8x1024x256 .bf16 := m ((c.tc : Thread nD τ).loc main_arg1)

theorem blk0 (t : Fin grid0.N) (r : Fin 4096) (k : Fin 1024) : iblk m c 0 t (ix2 r k) = a0 m c (ix2 r k) := by
  refine congrArg (a0 m c) (funext fun b => Fin.ext ?_)
  match b with
  | ⟨0, _⟩ => exact (Window.rect_emb_val win0_0 t (ix2 r k) ⟨0, (by decide : 0 < 2)⟩ rfl).trans (by rw [idx0 t]; show 0 * 4096 + r.val = r.val; omega)
  | ⟨1, _⟩ => exact (Window.rect_emb_val win0_0 t (ix2 r k) ⟨1, (by decide : 1 < 2)⟩ rfl).trans (by rw [idx0 t]; show 0 * 1024 + k.val = k.val; omega)

theorem blk1 (t : Fin grid0.N) (k : Fin 1024) (f : Fin 256) (J : Fin 8) (hJ : J.val = t.val) : iblk m c 1 t (ix3 0 k f) = a1 m c (ix3 J k f) := by
  refine congrArg (a1 m c) (funext fun b => Fin.ext ?_)
  match b with
  | ⟨0, _⟩ => exact (Window.rect_emb_val win0_1 t (ix3 0 k f) ⟨0, (by decide : 0 < 3)⟩ rfl).trans (by rw [idx1 t]; show t.val * 1 + 0 = J.val; omega)
  | ⟨1, _⟩ => exact (Window.rect_emb_val win0_1 t (ix3 0 k f) ⟨1, (by decide : 1 < 3)⟩ rfl).trans (by rw [idx1 t]; show 0 * 1024 + k.val = k.val; omega)
  | ⟨2, _⟩ => exact (Window.rect_emb_val win0_1 t (ix3 0 k f) ⟨2, (by decide : 2 < 3)⟩ rfl).trans (by rw [idx1 t]; show 0 * 256 + f.val = f.val; omega)

theorem at2 (t : Fin grid0.N) (r : Fin 4096) (f : Fin 256) (J : Fin 8) (hJ : J.val = t.val) :
    ((cfg0.win 2).blk t).view.emb (ix3 0 r f) = ix3 J r f := by
  refine funext fun b => Fin.ext ?_
  match b with
  | ⟨0, _⟩ => exact (Window.rect_emb_val win0_2 t (ix3 0 r f) ⟨0, (by decide : 0 < 3)⟩ rfl).trans (by rw [idx2 t]; show t.val * 1 + 0 = J.val; omega)
  | ⟨1, _⟩ => exact (Window.rect_emb_val win0_2 t (ix3 0 r f) ⟨1, (by decide : 1 < 3)⟩ rfl).trans (by rw [idx2 t]; show 0 * 4096 + r.val = r.val; omega)
  | ⟨2, _⟩ => exact (Window.rect_emb_val win0_2 t (ix3 0 r f) ⟨2, (by decide : 2 < 3)⟩ rfl).trans (by rw [idx2 t]; show 0 * 256 + f.val = f.val; omega)

theorem flushed (t : Fin grid0.N) : (dats m 0 c).flushed 2 t = ((cfg0.win 2).blk t).view.read (Elt Ideal) (glu (a0 m c) (a1 m c)) := by
  rw [Value.flushed2]
  funext y
  obtain ⟨r, f, rfl⟩ : ∃ (r : Fin 4096) (f : Fin 256), y = ix3 0 r f := ⟨y 1, y 2, (eq_ix3 y).trans (congrArg (fun j : Fin 1 => ix3 j (y 1) (y 2)) (Subsingleton.elim _ _))⟩
  let J : Fin 8 := ⟨t.val, lt_of_lt_of_eq t.isLt N_0⟩
  show out0_2 (F := Ideal) (iblk m c 0 t) (iblk m c 1 t) (ix3 0 r f) = glu (a0 m c) (a1 m c) (((cfg0.win 2).blk t).view.emb (ix3 0 r f))
  rw [at2 t r f J rfl]
  exact (out_at _ _ r f).trans (Finset.sum_congr rfl fun k _ => congrArg₂ (fun a b : EReal => a * b) (blk0 m c t r k) (blk1 m c t k f J rfl))

theorem covered (i : S8x4096x256.Idx) : ∃ t : Fin cfg0.N, (cfg0.win 2).flush t = true ∧ i ∈ ((cfg0.win 2).blk t).view.set := by
  let t : Fin grid0.N := ⟨(i 0).val, lt_of_lt_of_eq (i 0).isLt N_0.symm⟩
  have e := (at2 t (i 1) (i 2) (i 0) rfl).trans (ix3_eta i)
  exact ⟨t, flush0_2 t, e ▸ View.emb_mem_set _ _⟩

/-- The launch's result is the product. -/
theorem final : (dats m 0 c).arrAt 2 cfg0.N = glu (a0 m c) (a1 m c) :=
  (dats m 0 c).arrAt_eq_of_cover 2 _ (fun t _ => flushed m c t) covered

end Cert.GluKernelIdeal.Hand

namespace Cert.GluReferenceIdeal.Hand

open Cert.GluReferenceIdeal Cert.GluReferenceIdeal.Gen Cert.GluReferenceIdeal.Read
open Idealize.ShloMosaic

/-- The reference's result is the product. -/
theorem value (x0 : FVec Ideal S4096x1024 .bf16) (x1 : FVec Ideal S8x1024x256 .bf16) : val_main_v6 (F := Ideal) x0 x1 = Cert.GluKernelIdeal.Hand.glu x0 x1 := by
  funext y
  rw [val_main_v6_apply, val_main_v5_apply, val_main_v4_apply]
  refine Finset.sum_congr rfl fun k _ => ?_
  rw [val_main_v0_apply, val_main_v3_apply, val_main_v2_apply, val_main_v1_apply]
  have h1 : (y 1).val < 4096 := (y 1).isLt
  have h0 : (y 0).val < 8 := (y 0).isLt
  have h2 : (y 2).val < 256 := (y 2).isLt
  have hk := k.isLt
  refine congrArg₂ (fun a b : EReal => a * b) (congrArg x0 (funext fun b => Fin.ext ?_)) (congrArg x1 (funext fun b => Fin.ext ?_))
  · match b with
    | ⟨0, _⟩ => show (((y 1).val * 8 + (y 0).val) * 256 + (y 2).val) / 2048 = (y 1).val; omega
    | ⟨1, _⟩ => rfl
  · match b with
    | ⟨0, _⟩ => show (k.val * 2048 + (((y 1).val * 8 + (y 0).val) * 256 + (y 2).val) % 2048) / 256 % 8 = (y 0).val; omega
    | ⟨1, _⟩ => show (k.val * 2048 + (((y 1).val * 8 + (y 0).val) * 256 + (y 2).val) % 2048) / 2048 = k.val; omega
    | ⟨2, _⟩ => show (k.val * 2048 + (((y 1).val * 8 + (y 0).val) * 256 + (y 2).val) % 2048) % 256 = (y 2).val; omega

end Cert.GluReferenceIdeal.Hand

namespace Cert.GluDwKernelIdeal.Hand

open Cert.GluDwKernelIdeal.Gen
open Idealize.ShloMosaic Idealize.ShloMosaic.TcCoe Idealize.SL.Sem
open Idealize.ShloMosaic.Pipeline (Window Dat)

/-- Entry (j, d, f) of the weights' gradient. -/
def gluDw (y : FVec Ideal ⟨2, ![4096, 1024]⟩ .bf16) (z : FVec Ideal ⟨3, ![8, 4096, 256]⟩ .bf16) : FVec Ideal ⟨3, ![8, 1024, 256]⟩ .bf16 :=
  fun i => ∑ k : Fin 4096, (y (ix2 k (i 1)) * z (ix3 (i 0) k (i 2)) : EReal)

theorem pay (x : Vec Ideal S4096x1024 .bf16) (w : Vec Ideal S1x4096x256 .bf16) (d : Fin 1024) (f : Fin 256) :
    k0_pay1 (F := Ideal) x w (ix3 0 d f) = ∑ k : Fin 4096, (x (ix2 k d) * w (ix3 0 k f) : EReal) := by
  unfold k0_pay1
  pointwise

theorem out_at (x : Vec Ideal S4096x1024 .bf16) (w : Vec Ideal S1x4096x256 .bf16) (d : Fin 1024) (f : Fin 256) :
    out0_2 (F := Ideal) x w (ix3 0 d f) = ∑ k : Fin 4096, (x (ix2 k d) * w (ix3 0 k f) : EReal) := by
  unfold out0_2
  rw [View.canon_unit_zero (by decide), View.ld_unit_zero (by decide), View.ld_unit_zero (by decide)]
  exact pay x w d f

theorem idx0 : ∀ t : Fin grid0.N, win0_0.index t = ![0, 0] := by decide +kernel
theorem idx1 : ∀ t : Fin grid0.N, win0_1.index t = ![t.val, 0, 0] := by decide +kernel
theorem idx2 : ∀ t : Fin grid0.N, win0_2.index t = ![t.val, 0, 0] := by decide +kernel

variable (m : (ℓ : Loc nD τ sig) → Buf (Elt Ideal) ℓ) (c : Dev nD)

abbrev a0 : FVec Ideal S4096x1024 .bf16 := m ((c.tc : Thread nD τ).loc main_arg0)
abbrev a1 : FVec Ideal S8x4096x256 .bf16 := m ((c.tc : Thread nD τ).loc main_arg1)

theorem blk0 (t : Fin grid0.N) (k : Fin 4096) (d : Fin 1024) : iblk m c 0 t (ix2 k d) = a0 m c (ix2 k d) := by
  refine congrArg (a0 m c) (funext fun b => Fin.ext ?_)
  match b with
  | ⟨0, _⟩ => exact (Window.rect_emb_val win0_0 t (ix2 k d) ⟨0, (by decide : 0 < 2)⟩ rfl).trans (by rw [idx0 t]; show 0 * 4096 + k.val = k.val; omega)
  | ⟨1, _⟩ => exact (Window.rect_emb_val win0_0 t (ix2 k d) ⟨1, (by decide : 1 < 2)⟩ rfl).trans (by rw [idx0 t]; show 0 * 1024 + d.val = d.val; omega)

theorem blk1 (t : Fin grid0.N) (k : Fin 4096) (f : Fin 256) (J : Fin 8) (hJ : J.val = t.val) : iblk m c 1 t (ix3 0 k f) = a1 m c (ix3 J k f) := by
  refine congrArg (a1 m c) (funext fun b => Fin.ext ?_)
  match b with
  | ⟨0, _⟩ => exact (Window.rect_emb_val win0_1 t (ix3 0 k f) ⟨0, (by decide : 0 < 3)⟩ rfl).trans (by rw [idx1 t]; show t.val * 1 + 0 = J.val; omega)
  | ⟨1, _⟩ => exact (Window.rect_emb_val win0_1 t (ix3 0 k f) ⟨1, (by decide : 1 < 3)⟩ rfl).trans (by rw [idx1 t]; show 0 * 4096 + k.val = k.val; omega)
  | ⟨2, _⟩ => exact (Window.rect_emb_val win0_1 t (ix3 0 k f) ⟨2, (by decide : 2 < 3)⟩ rfl).trans (by rw [idx1 t]; show 0 * 256 + f.val = f.val; omega)

theorem at2 (t : Fin grid0.N) (d : Fin 1024) (f : Fin 256) (J : Fin 8) (hJ : J.val = t.val) :
    ((cfg0.win 2).blk t).view.emb (ix3 0 d f) = ix3 J d f := by
  refine funext fun b => Fin.ext ?_
  match b with
  | ⟨0, _⟩ => exact (Window.rect_emb_val win0_2 t (ix3 0 d f) ⟨0, (by decide : 0 < 3)⟩ rfl).trans (by rw [idx2 t]; show t.val * 1 + 0 = J.val; omega)
  | ⟨1, _⟩ => exact (Window.rect_emb_val win0_2 t (ix3 0 d f) ⟨1, (by decide : 1 < 3)⟩ rfl).trans (by rw [idx2 t]; show 0 * 1024 + d.val = d.val; omega)
  | ⟨2, _⟩ => exact (Window.rect_emb_val win0_2 t (ix3 0 d f) ⟨2, (by decide : 2 < 3)⟩ rfl).trans (by rw [idx2 t]; show 0 * 256 + f.val = f.val; omega)

theorem flushed (t : Fin grid0.N) : (dats m 0 c).flushed 2 t = ((cfg0.win 2).blk t).view.read (Elt Ideal) (gluDw (a0 m c) (a1 m c)) := by
  rw [Value.flushed2]
  funext y
  obtain ⟨d, f, rfl⟩ : ∃ (d : Fin 1024) (f : Fin 256), y = ix3 0 d f := ⟨y 1, y 2, (eq_ix3 y).trans (congrArg (fun j : Fin 1 => ix3 j (y 1) (y 2)) (Subsingleton.elim _ _))⟩
  let J : Fin 8 := ⟨t.val, lt_of_lt_of_eq t.isLt N_0⟩
  show out0_2 (F := Ideal) (iblk m c 0 t) (iblk m c 1 t) (ix3 0 d f) = gluDw (a0 m c) (a1 m c) (((cfg0.win 2).blk t).view.emb (ix3 0 d f))
  rw [at2 t d f J rfl]
  exact (out_at _ _ d f).trans (Finset.sum_congr rfl fun k _ => congrArg₂ (fun a b : EReal => a * b) (blk0 m c t k d) (blk1 m c t k f J rfl))

theorem covered (i : S8x1024x256.Idx) : ∃ t : Fin cfg0.N, (cfg0.win 2).flush t = true ∧ i ∈ ((cfg0.win 2).blk t).view.set := by
  let t : Fin grid0.N := ⟨(i 0).val, lt_of_lt_of_eq (i 0).isLt N_0.symm⟩
  have e := (at2 t (i 1) (i 2) (i 0) rfl).trans (ix3_eta i)
  exact ⟨t, flush0_2 t, e ▸ View.emb_mem_set _ _⟩

/-- The launch's result is the weights' gradient. -/
theorem final : (dats m 0 c).arrAt 2 cfg0.N = gluDw (a0 m c) (a1 m c) :=
  (dats m 0 c).arrAt_eq_of_cover 2 _ (fun t _ => flushed m c t) covered

end Cert.GluDwKernelIdeal.Hand

namespace Cert.GluDwReferenceIdeal.Hand

open Cert.GluDwReferenceIdeal Cert.GluDwReferenceIdeal.Gen Cert.GluDwReferenceIdeal.Read
open Idealize.ShloMosaic

/-- The reference's result is the weights' gradient. -/
theorem value (x0 : FVec Ideal S4096x1024 .bf16) (x1 : FVec Ideal S8x4096x256 .bf16) : val_main_v10 (F := Ideal) x0 x1 = Cert.GluDwKernelIdeal.Hand.gluDw x0 x1 := by
  funext y
  rw [val_main_v10_apply, val_main_v9_apply, val_main_v8_apply, val_main_v7_apply, val_main_v6_apply]
  refine Finset.sum_congr rfl fun k _ => ?_
  rw [val_main_v4_apply, val_main_v2_apply, val_main_v1_apply, val_main_v0_apply]
  have h1 : (y 1).val < 1024 := (y 1).isLt
  have h0 : (y 0).val < 8 := (y 0).isLt
  have h2 : (y 2).val < 256 := (y 2).isLt
  have hk := k.isLt
  refine (mul_comm (G := EReal) _ _).trans (congrArg₂ (fun a b : EReal => a * b) (congrArg x0 (funext fun b => Fin.ext ?_)) (congrArg x1 (funext fun b => Fin.ext ?_)))
  · match b with
    | ⟨0, _⟩ => rfl
    | ⟨1, _⟩ => show (((y 1).val * 8 + (y 0).val) * 256 + (y 2).val) / 2048 = (y 1).val; omega
  · match b with
    | ⟨0, _⟩ => show (k.val * 2048 + (((y 1).val * 8 + (y 0).val) * 256 + (y 2).val) % 2048) / 256 % 8 = (y 0).val; omega
    | ⟨1, _⟩ => show (k.val * 2048 + (((y 1).val * 8 + (y 0).val) * 256 + (y 2).val) % 2048) / 2048 = k.val; omega
    | ⟨2, _⟩ => show (k.val * 2048 + (((y 1).val * 8 + (y 0).val) * 256 + (y 2).val) % 2048) % 256 = (y 2).val; omega

end Cert.GluDwReferenceIdeal.Hand

namespace Cert.GluDyKernelIdeal.Hand

open Cert.GluDyKernelIdeal.Gen
open Idealize.ShloMosaic Idealize.ShloMosaic.TcCoe Idealize.SL.Sem
open Idealize.ShloMosaic.Pipeline (Window Dat)

/-- Entry (t, d) of the operand's gradient: over the eight blocks and over the columns of each. -/
def gluDy (z : FVec Ideal ⟨3, ![8, 4096, 256]⟩ .bf16) (w : FVec Ideal ⟨3, ![8, 1024, 256]⟩ .bf16) : FVec Ideal ⟨2, ![4096, 1024]⟩ .bf16 :=
  fun i => ∑ j : Fin 8, ∑ f : Fin 256, (z (ix3 j (i 0) f) * w (ix3 j (i 1) f) : EReal)

/-- The product of two blocks at an entry. -/
def dot (x : Vec Ideal S1x2048x256 .bf16) (w : Vec Ideal S1x1024x256 .bf16) (r : Fin 2048) (d : Fin 1024) : EReal :=
  ∑ f : Fin 256, (x (ix3 0 r f) * w (ix3 0 d f) : EReal)

theorem pay2 (x0 : Vec Ideal S1x2048x256 .bf16) (w0 : Vec Ideal S1x1024x256 .bf16) (x1 : Vec Ideal S1x2048x256 .bf16) (w1 : Vec Ideal S1x1024x256 .bf16)
    (x2 : Vec Ideal S1x2048x256 .bf16) (w2 : Vec Ideal S1x1024x256 .bf16) (x3 : Vec Ideal S1x2048x256 .bf16) (w3 : Vec Ideal S1x1024x256 .bf16) (r : Fin 2048) (d : Fin 1024) :
    k0_pay2 (F := Ideal) x0 w0 x1 w1 x2 w2 x3 w3 (ix2 r d) = dot x0 w0 r d + dot x1 w1 r d + dot x2 w2 r d + dot x3 w3 r d := by
  rw [← zero_add (dot x0 w0 r d)]
  unfold dot k0_pay2
  pointwise

theorem pay1 (s : FVec Ideal S2048x1024 .f32) (x0 : Vec Ideal S1x2048x256 .bf16) (w0 : Vec Ideal S1x1024x256 .bf16) (x1 : Vec Ideal S1x2048x256 .bf16) (w1 : Vec Ideal S1x1024x256 .bf16)
    (x2 : Vec Ideal S1x2048x256 .bf16) (w2 : Vec Ideal S1x1024x256 .bf16) (x3 : Vec Ideal S1x2048x256 .bf16) (w3 : Vec Ideal S1x1024x256 .bf16) (r : Fin 2048) (d : Fin 1024) :
    k0_pay1 (F := Ideal) s x0 w0 x1 w1 x2 w2 x3 w3 (ix2 r d) = (s (ix2 r d) + dot x0 w0 r d + dot x1 w1 r d + dot x2 w2 r d + dot x3 w3 r d : EReal) := by
  unfold dot k0_pay1
  pointwise

theorem dot_ld (x : Vec Ideal S8x2048x256 .bf16) (w : Vec Ideal S8x1024x256 .bf16) (j : Fin 8) (hx hw) (r : Fin 2048) (d : Fin 1024) :
    dot (View.ld x (Rect.unit ![j.val, 0, 0] ![1, 2048, 256] hx)) (View.ld w (Rect.unit ![j.val, 0, 0] ![1, 1024, 256] hw)) r d
      = ∑ f : Fin 256, (x (ix3 j r f) * w (ix3 j d f) : EReal) :=
  Finset.sum_congr rfl fun f _ => congrArg₂ (fun a b : EReal => a * b)
    (View.ld_unit_apply_of x _ _ hx _ (ix3 j r f) fun b => match b with | ⟨0, _⟩ => rfl | ⟨1, _⟩ => (Nat.zero_add _).symm | ⟨2, _⟩ => (Nat.zero_add _).symm)
    (View.ld_unit_apply_of w _ _ hw _ (ix3 j d f) fun b => match b with | ⟨0, _⟩ => rfl | ⟨1, _⟩ => (Nat.zero_add _).symm | ⟨2, _⟩ => (Nat.zero_add _).symm)

theorem out_at (x : Vec Ideal S8x2048x256 .bf16) (w : Vec Ideal S8x1024x256 .bf16) (r : Fin 2048) (d : Fin 1024) :
    out0_2 (F := Ideal) x w (ix2 r d) = ∑ j : Fin 8, ∑ f : Fin 256, (x (ix3 j r f) * w (ix3 j d f) : EReal) := by
  unfold out0_2
  rw [View.canon_unit_zero (by decide), pay1, pay2, Fin.sum_univ_eight]
  exact congrArg₂ (· + ·) (congrArg₂ (· + ·) (congrArg₂ (· + ·) (congrArg₂ (· + ·) (congrArg₂ (· + ·) (congrArg₂ (· + ·) (congrArg₂ (· + ·)
    (dot_ld x w 0 _ _ r d) (dot_ld x w 1 _ _ r d)) (dot_ld x w 2 _ _ r d)) (dot_ld x w 3 _ _ r d)) (dot_ld x w 4 _ _ r d)) (dot_ld x w 5 _ _ r d))
    (dot_ld x w 6 _ _ r d)) (dot_ld x w 7 _ _ r d)

theorem idx0 : ∀ t : Fin grid0.N, win0_0.index t = ![0, t.val, 0] := by decide +kernel
theorem idx1 : ∀ t : Fin grid0.N, win0_1.index t = ![0, 0, 0] := by decide +kernel
theorem idx2 : ∀ t : Fin grid0.N, win0_2.index t = ![t.val, 0] := by decide +kernel

variable (m : (ℓ : Loc nD τ sig) → Buf (Elt Ideal) ℓ) (c : Dev nD)

abbrev a0 : FVec Ideal S8x4096x256 .bf16 := m ((c.tc : Thread nD τ).loc main_arg0)
abbrev a1 : FVec Ideal S8x1024x256 .bf16 := m ((c.tc : Thread nD τ).loc main_arg1)

theorem blk0 (t : Fin grid0.N) (j : Fin 8) (r : Fin 2048) (f : Fin 256) (R : Fin 4096) (hR : R.val = t.val * 2048 + r.val) :
    iblk m c 0 t (ix3 j r f) = a0 m c (ix3 j R f) := by
  refine congrArg (a0 m c) (funext fun b => Fin.ext ?_)
  match b with
  | ⟨0, _⟩ => exact (Window.rect_emb_val win0_0 t (ix3 j r f) ⟨0, (by decide : 0 < 3)⟩ rfl).trans (by rw [idx0 t]; show 0 * 8 + j.val = j.val; omega)
  | ⟨1, _⟩ => exact (Window.rect_emb_val win0_0 t (ix3 j r f) ⟨1, (by decide : 1 < 3)⟩ rfl).trans (by rw [idx0 t]; exact hR.symm)
  | ⟨2, _⟩ => exact (Window.rect_emb_val win0_0 t (ix3 j r f) ⟨2, (by decide : 2 < 3)⟩ rfl).trans (by rw [idx0 t]; show 0 * 256 + f.val = f.val; omega)

theorem blk1 (t : Fin grid0.N) (j : Fin 8) (d : Fin 1024) (f : Fin 256) : iblk m c 1 t (ix3 j d f) = a1 m c (ix3 j d f) := by
  refine congrArg (a1 m c) (funext fun b => Fin.ext ?_)
  match b with
  | ⟨0, _⟩ => exact (Window.rect_emb_val win0_1 t (ix3 j d f) ⟨0, (by decide : 0 < 3)⟩ rfl).trans (by rw [idx1 t]; show 0 * 8 + j.val = j.val; omega)
  | ⟨1, _⟩ => exact (Window.rect_emb_val win0_1 t (ix3 j d f) ⟨1, (by decide : 1 < 3)⟩ rfl).trans (by rw [idx1 t]; show 0 * 1024 + d.val = d.val; omega)
  | ⟨2, _⟩ => exact (Window.rect_emb_val win0_1 t (ix3 j d f) ⟨2, (by decide : 2 < 3)⟩ rfl).trans (by rw [idx1 t]; show 0 * 256 + f.val = f.val; omega)

theorem at2 (t : Fin grid0.N) (r : Fin 2048) (d : Fin 1024) (R : Fin 4096) (hR : R.val = t.val * 2048 + r.val) :
    ((cfg0.win 2).blk t).view.emb (ix2 r d) = ix2 R d := by
  refine funext fun b => Fin.ext ?_
  match b with
  | ⟨0, _⟩ => exact (Window.rect_emb_val win0_2 t (ix2 r d) ⟨0, (by decide : 0 < 2)⟩ rfl).trans (by rw [idx2 t]; exact hR.symm)
  | ⟨1, _⟩ => exact (Window.rect_emb_val win0_2 t (ix2 r d) ⟨1, (by decide : 1 < 2)⟩ rfl).trans (by rw [idx2 t]; show 0 * 1024 + d.val = d.val; omega)

theorem flushed (t : Fin grid0.N) : (dats m 0 c).flushed 2 t = ((cfg0.win 2).blk t).view.read (Elt Ideal) (gluDy (a0 m c) (a1 m c)) := by
  rw [Value.flushed2]
  funext y
  obtain ⟨r, d, rfl⟩ : ∃ (r : Fin 2048) (d : Fin 1024), y = ix2 r d := ⟨y 0, y 1, eq_ix2 y⟩
  have ht : t.val < 2 := lt_of_lt_of_eq t.isLt N_0
  let R : Fin 4096 := ⟨t.val * 2048 + r.val, by have := r.isLt; omega⟩
  show out0_2 (F := Ideal) (iblk m c 0 t) (iblk m c 1 t) (ix2 r d) = gluDy (a0 m c) (a1 m c) (((cfg0.win 2).blk t).view.emb (ix2 r d))
  rw [at2 t r d R rfl]
  exact (out_at _ _ r d).trans (Finset.sum_congr rfl fun j _ => Finset.sum_congr rfl fun f _ =>
    congrArg₂ (fun a b : EReal => a * b) (blk0 m c t j r f R rfl) (blk1 m c t j d f))

theorem covered (i : S4096x1024.Idx) : ∃ t : Fin cfg0.N, (cfg0.win 2).flush t = true ∧ i ∈ ((cfg0.win 2).blk t).view.set := by
  have h0 : (i 0).val < 4096 := (i 0).isLt
  let t : Fin grid0.N := ⟨(i 0).val / 2048, lt_of_lt_of_eq (by omega) N_0.symm⟩
  let r : Fin 2048 := ⟨(i 0).val % 2048, Nat.mod_lt _ (by decide)⟩
  have e := (at2 t r (i 1) (i 0) (Nat.div_add_mod' _ _).symm).trans (ix2_eta i)
  exact ⟨t, flush0_2 t, e ▸ View.emb_mem_set _ _⟩

/-- The launch's result is the operand's gradient. -/
theorem final : (dats m 0 c).arrAt 2 cfg0.N = gluDy (a0 m c) (a1 m c) :=
  (dats m 0 c).arrAt_eq_of_cover 2 _ (fun t _ => flushed m c t) covered

end Cert.GluDyKernelIdeal.Hand

namespace Cert.GluDyReferenceIdeal.Hand

open Cert.GluDyReferenceIdeal Cert.GluDyReferenceIdeal.Gen Cert.GluDyReferenceIdeal.Read
open Idealize.ShloMosaic

/-- The reference's result is the operand's gradient. -/
theorem value (x0 : FVec Ideal S8x4096x256 .bf16) (x1 : FVec Ideal S8x1024x256 .bf16) : val_main_v9 (F := Ideal) x0 x1 = Cert.GluDyKernelIdeal.Hand.gluDy x0 x1 := by
  funext y
  rw [val_main_v9_apply, val_main_v8_apply]
  refine (Fin.sum_mul_add_congr fun j f hl => ?_).symm
  rw [val_main_v2_apply, val_main_v1_apply, val_main_v0_apply, val_main_v6_apply, val_main_v5_apply, val_main_v4_apply]
  have hj := j.isLt
  have hf := f.isLt
  have h0 : (y 0).val < 4096 := (y 0).isLt
  have h1 : (y 1).val < 1024 := (y 1).isLt
  refine congrArg₂ (fun a b : EReal => a * b) (congrArg x0 (funext fun b => Fin.ext ?_)) (congrArg x1 (funext fun b => Fin.ext ?_))
  · match b with
    | ⟨0, _⟩ => show j.val = ((y 0).val * 2048 + (j.val * 256 + f.val)) / 256 % 8; omega
    | ⟨1, _⟩ => show (y 0).val = ((y 0).val * 2048 + (j.val * 256 + f.val)) / 2048; omega
    | ⟨2, _⟩ => show f.val = ((y 0).val * 2048 + (j.val * 256 + f.val)) % 256; omega
  · match b with
    | ⟨0, _⟩ => show j.val = ((y 1).val * 2048 + (j.val * 256 + f.val)) / 256 % 8; omega
    | ⟨1, _⟩ => show (y 1).val = ((y 1).val * 2048 + (j.val * 256 + f.val)) / 2048; omega
    | ⟨2, _⟩ => show f.val = ((y 1).val * 2048 + (j.val * 256 + f.val)) % 256; omega

end Cert.GluDyReferenceIdeal.Hand

end
-- ==== Proof.Proj.lean ====
module

public import proofs.«01_k».proof.Proof.Gen.QueryKernelIdeal.Value
public import proofs.«01_k».proof.Proof.Gen.QueryReferenceIdeal.Read
public import proofs.«01_k».proof.Proof.Gen.SharedKernelIdeal.Value
public import proofs.«01_k».proof.Proof.Gen.SharedReferenceIdeal.Read
public import proofs.«01_k».proof.Proof.Gen.OutDxKernelIdeal.Value
public import proofs.«01_k».proof.Proof.Gen.OutDxReferenceIdeal.Read
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import Idealize.ShloMosaic.Lib.Pipeline.ValueKit

/-! The attention's projections that contract a row in one go: the queries, the shared keys and values, and the gradient of the output projection's operand. -/

@[expose] public section

set_option maxRecDepth 16384

noncomputable section

namespace Cert.Proj

open Idealize.ShloMosaic

/-- The product of all rows with a weight of N columns. -/
def times {N : Nat} (x : FVec Ideal ⟨2, ![4096, 1024]⟩ .bf16) (w : FVec Ideal ⟨2, ![1024, N]⟩ .bf16) : FVec Ideal ⟨2, ![4096, N]⟩ .bf16 :=
  fun y => ∑ k : Fin 1024, (x (ix2 (y 0) k) * w (ix2 k (y 1)) : EReal)

/-- The product of all rows with the transpose of a weight. -/
def timesT (x : FVec Ideal ⟨2, ![4096, 1024]⟩ .f32) (w : FVec Ideal ⟨2, ![1024, 1024]⟩ .bf16) : FVec Ideal ⟨2, ![4096, 1024]⟩ .bf16 :=
  fun y => ∑ k : Fin 1024, (x (ix2 (y 0) k) * w (ix2 (y 1) k) : EReal)

/-- A block's product at an entry. -/
def dot (x w : FVec Ideal ⟨2, ![1024, 1024]⟩ .bf16) (r d : Fin 1024) : EReal := ∑ k : Fin 1024, (x (ix2 r k) * w (ix2 k d) : EReal)

end Cert.Proj

namespace Cert.QueryKernelIdeal.Hand

open Cert.QueryKernelIdeal.Gen
open Cert.Proj (times dot)
open Idealize.ShloMosaic Idealize.ShloMosaic.TcCoe Idealize.SL.Sem
open Idealize.ShloMosaic.Pipeline (Window Dat)

theorem pay (x w : Vec Ideal S1024x1024 .bf16) (r d : Fin 1024) : k0_pay1 (F := Ideal) x w (ix2 r d) = dot x w r d := by
  unfold dot k0_pay1
  pointwise

theorem out_at (x w : Vec Ideal S1024x1024 .bf16) (r d : Fin 1024) : out0_2 (F := Ideal) x w (ix2 r d) = dot x w r d := by
  unfold out0_2
  rw [View.canon_unit_zero (by decide), View.ld_unit_zero (by decide), View.ld_unit_zero (by decide)]
  exact pay x w r d

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

variable (m : (ℓ : Loc nD τ sig) → Buf (Elt Ideal) ℓ) (c : Dev nD)

abbrev a0 : FVec Ideal S4096x1024 .bf16 := m ((c.tc : Thread nD τ).loc main_arg0)
abbrev a1 : FVec Ideal S1024x1024 .bf16 := m ((c.tc : Thread nD τ).loc main_arg1)

theorem blk0 (t : Fin grid0.N) (r k : Fin 1024) (R : Fin 4096) (hR : R.val = t.val * 1024 + r.val) : iblk m c 0 t (ix2 r k) = a0 m c (ix2 R k) := by
  refine congrArg (a0 m c) (funext fun b => Fin.ext ?_)
  match b with
  | ⟨0, _⟩ => exact (Window.rect_emb_val win0_0 t (ix2 r k) ⟨0, (by decide : 0 < 2)⟩ rfl).trans (by rw [idx0 t]; exact hR.symm)
  | ⟨1, _⟩ => exact (Window.rect_emb_val win0_0 t (ix2 r k) ⟨1, (by decide : 1 < 2)⟩ rfl).trans (by rw [idx0 t]; show 0 * 1024 + k.val = k.val; omega)

theorem blk1 (t : Fin grid0.N) (k d : Fin 1024) : iblk m c 1 t (ix2 k d) = a1 m c (ix2 k d) := by
  refine congrArg (a1 m c) (funext fun b => Fin.ext ?_)
  match b with
  | ⟨0, _⟩ => exact (Window.rect_emb_val win0_1 t (ix2 k d) ⟨0, (by decide : 0 < 2)⟩ rfl).trans (by rw [idx1 t]; show 0 * 1024 + k.val = k.val; omega)
  | ⟨1, _⟩ => exact (Window.rect_emb_val win0_1 t (ix2 k d) ⟨1, (by decide : 1 < 2)⟩ rfl).trans (by rw [idx1 t]; show 0 * 1024 + d.val = d.val; omega)

theorem at2 (t : Fin grid0.N) (r d : Fin 1024) (R : Fin 4096) (hR : R.val = t.val * 1024 + r.val) : ((cfg0.win 2).blk t).view.emb (ix2 r d) = ix2 R d := by
  refine funext fun b => Fin.ext ?_
  match b with
  | ⟨0, _⟩ => exact (Window.rect_emb_val win0_2 t (ix2 r d) ⟨0, (by decide : 0 < 2)⟩ rfl).trans (by rw [idx2 t]; exact hR.symm)
  | ⟨1, _⟩ => exact (Window.rect_emb_val win0_2 t (ix2 r d) ⟨1, (by decide : 1 < 2)⟩ rfl).trans (by rw [idx2 t]; show 0 * 1024 + d.val = d.val; omega)

theorem flushed (t : Fin grid0.N) : (dats m 0 c).flushed 2 t = ((cfg0.win 2).blk t).view.read (Elt Ideal) (times (a0 m c) (a1 m c)) := by
  rw [Value.flushed2]
  funext y
  obtain ⟨r, d, rfl⟩ : ∃ r d : Fin 1024, y = ix2 r d := ⟨y 0, y 1, eq_ix2 y⟩
  have ht : t.val < 4 := lt_of_lt_of_eq t.isLt N_0
  let R : Fin 4096 := ⟨t.val * 1024 + r.val, by have := r.isLt; omega⟩
  show out0_2 (F := Ideal) (iblk m c 0 t) (iblk m c 1 t) (ix2 r d) = times (a0 m c) (a1 m c) (((cfg0.win 2).blk t).view.emb (ix2 r d))
  rw [at2 t r d R rfl]
  exact (out_at _ _ r d).trans (Finset.sum_congr rfl fun k _ => congrArg₂ (fun a b : EReal => a * b) (blk0 m c t r k R rfl) (blk1 m c t k d))

theorem covered (i : S4096x1024.Idx) : ∃ t : Fin cfg0.N, (cfg0.win 2).flush t = true ∧ i ∈ ((cfg0.win 2).blk t).view.set := by
  have h0 : (i 0).val < 4096 := (i 0).isLt
  let t : Fin grid0.N := ⟨(i 0).val / 1024, lt_of_lt_of_eq (by omega) N_0.symm⟩
  have e := (at2 t ⟨(i 0).val % 1024, Nat.mod_lt _ (by decide)⟩ (i 1) (i 0) (Nat.div_add_mod' _ _).symm).trans (ix2_eta i)
  exact ⟨t, flush0_2 t, e ▸ View.emb_mem_set _ _⟩

/-- The launch's result is the product. -/
theorem final : (dats m 0 c).arrAt 2 cfg0.N = times (a0 m c) (a1 m c) :=
  (dats m 0 c).arrAt_eq_of_cover 2 _ (fun t _ => flushed m c t) covered

end Cert.QueryKernelIdeal.Hand

namespace Cert.QueryReferenceIdeal.Hand

open Cert.QueryReferenceIdeal Cert.QueryReferenceIdeal.Gen Cert.QueryReferenceIdeal.Read
open Idealize.ShloMosaic

/-- The reference's result is the product. -/
theorem value (x0 : FVec Ideal S4096x1024 .bf16) (x1 : FVec Ideal S1024x1024 .bf16) : val_main_v3 (F := Ideal) x0 x1 = Cert.Proj.times x0 x1 := by
  funext y
  rw [val_main_v3_apply, val_main_v2_apply]
  refine Finset.sum_congr rfl fun k _ => ?_
  rw [val_main_v0_apply, val_main_v1_apply]
  exact congrArg₂ (fun a b : EReal => a * b) (congrArg x0 (eq_ix2 _)) (congrArg x1 (eq_ix2 _))

end Cert.QueryReferenceIdeal.Hand

namespace Cert.SharedKernelIdeal.Hand

open Cert.SharedKernelIdeal.Gen
open Cert.Proj (times dot)
open Idealize.ShloMosaic Idealize.ShloMosaic.TcCoe Idealize.SL.Sem
open Idealize.ShloMosaic.Pipeline (Window Dat)

/-- A point computes what a point of the queries' projection does. -/
theorem out_at (x w : Vec Ideal S1024x1024 .bf16) (r d : Fin 1024) : out0_2 (F := Ideal) x w (ix2 r d) = dot x w r d :=
  Cert.QueryKernelIdeal.Hand.out_at x w r d

theorem idx0 : ∀ t : Fin grid0.N, win0_0.index t = ![t.val / 2, 0] := by decide +kernel
theorem idx1 : ∀ t : Fin grid0.N, win0_1.index t = ![0, t.val % 2] := by decide +kernel
theorem idx2 : ∀ t : Fin grid0.N, win0_2.index t = ![t.val / 2, t.val % 2] := by decide +kernel

variable (m : (ℓ : Loc nD τ sig) → Buf (Elt Ideal) ℓ) (c : Dev nD)

abbrev a0 : FVec Ideal S4096x1024 .bf16 := m ((c.tc : Thread nD τ).loc main_arg0)
abbrev a1 : FVec Ideal S1024x2048 .bf16 := m ((c.tc : Thread nD τ).loc main_arg1)

theorem blk0 (t : Fin grid0.N) (r k : Fin 1024) (R : Fin 4096) (hR : R.val = t.val / 2 * 1024 + r.val) : iblk m c 0 t (ix2 r k) = a0 m c (ix2 R k) := by
  refine congrArg (a0 m c) (funext fun b => Fin.ext ?_)
  match b with
  | ⟨0, _⟩ => exact (Window.rect_emb_val win0_0 t (ix2 r k) ⟨0, (by decide : 0 < 2)⟩ rfl).trans (by rw [idx0 t]; exact hR.symm)
  | ⟨1, _⟩ => exact (Window.rect_emb_val win0_0 t (ix2 r k) ⟨1, (by decide : 1 < 2)⟩ rfl).trans (by rw [idx0 t]; show 0 * 1024 + k.val = k.val; omega)

theorem blk1 (t : Fin grid0.N) (k d : Fin 1024) (D : Fin 2048) (hD : D.val = t.val % 2 * 1024 + d.val) : iblk m c 1 t (ix2 k d) = a1 m c (ix2 k D) := by
  refine congrArg (a1 m c) (funext fun b => Fin.ext ?_)
  match b with
  | ⟨0, _⟩ => exact (Window.rect_emb_val win0_1 t (ix2 k d) ⟨0, (by decide : 0 < 2)⟩ rfl).trans (by rw [idx1 t]; show 0 * 1024 + k.val = k.val; omega)
  | ⟨1, _⟩ => exact (Window.rect_emb_val win0_1 t (ix2 k d) ⟨1, (by decide : 1 < 2)⟩ rfl).trans (by rw [idx1 t]; exact hD.symm)

theorem at2 (t : Fin grid0.N) (r d : Fin 1024) (R : Fin 4096) (hR : R.val = t.val / 2 * 1024 + r.val) (D : Fin 2048) (hD : D.val = t.val % 2 * 1024 + d.val) :
    ((cfg0.win 2).blk t).view.emb (ix2 r d) = ix2 R D := by
  refine funext fun b => Fin.ext ?_
  match b with
  | ⟨0, _⟩ => exact (Window.rect_emb_val win0_2 t (ix2 r d) ⟨0, (by decide : 0 < 2)⟩ rfl).trans (by rw [idx2 t]; exact hR.symm)
  | ⟨1, _⟩ => exact (Window.rect_emb_val win0_2 t (ix2 r d) ⟨1, (by decide : 1 < 2)⟩ rfl).trans (by rw [idx2 t]; exact hD.symm)

theorem flushed (t : Fin grid0.N) : (dats m 0 c).flushed 2 t = ((cfg0.win 2).blk t).view.read (Elt Ideal) (times (a0 m c) (a1 m c)) := by
  rw [Value.flushed2]
  funext y
  obtain ⟨r, d, rfl⟩ : ∃ r d : Fin 1024, y = ix2 r d := ⟨y 0, y 1, eq_ix2 y⟩
  have ht : t.val < 8 := lt_of_lt_of_eq t.isLt N_0
  let R : Fin 4096 := ⟨t.val / 2 * 1024 + r.val, by have := r.isLt; omega⟩
  let D : Fin 2048 := ⟨t.val % 2 * 1024 + d.val, by have := d.isLt; omega⟩
  show out0_2 (F := Ideal) (iblk m c 0 t) (iblk m c 1 t) (ix2 r d) = times (a0 m c) (a1 m c) (((cfg0.win 2).blk t).view.emb (ix2 r d))
  rw [at2 t r d R rfl D rfl]
  exact (out_at _ _ r d).trans (Finset.sum_congr rfl fun k _ => congrArg₂ (fun a b : EReal => a * b) (blk0 m c t r k R rfl) (blk1 m c t k d D rfl))

theorem covered (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  let t : Fin grid0.N := ⟨(i 0).val / 1024 * 2 + (i 1).val / 1024, lt_of_lt_of_eq (by omega) N_0.symm⟩
  have ht : t.val = (i 0).val / 1024 * 2 + (i 1).val / 1024 := rfl
  have e := (at2 t ⟨(i 0).val % 1024, Nat.mod_lt _ (by decide)⟩ ⟨(i 1).val % 1024, Nat.mod_lt _ (by decide)⟩ (i 0)
    (by show (i 0).val = t.val / 2 * 1024 + (i 0).val % 1024; omega) (i 1) (by show (i 1).val = t.val % 2 * 1024 + (i 1).val % 1024; omega)).trans (ix2_eta i)
  exact ⟨t, flush0_2 t, e ▸ View.emb_mem_set _ _⟩

/-- The launch's result is the product. -/
theorem final : (dats m 0 c).arrAt 2 cfg0.N = times (a0 m c) (a1 m c) :=
  (dats m 0 c).arrAt_eq_of_cover 2 _ (fun t _ => flushed m c t) covered

end Cert.SharedKernelIdeal.Hand

namespace Cert.SharedReferenceIdeal.Hand

open Cert.SharedReferenceIdeal Cert.SharedReferenceIdeal.Gen Cert.SharedReferenceIdeal.Read
open Idealize.ShloMosaic

/-- The reference's result is the product. -/
theorem value (x0 : FVec Ideal S4096x1024 .bf16) (x1 : FVec Ideal S1024x2048 .bf16) : val_main_v3 (F := Ideal) x0 x1 = Cert.Proj.times x0 x1 := by
  funext y
  rw [val_main_v3_apply, val_main_v2_apply]
  refine Finset.sum_congr rfl fun k _ => ?_
  rw [val_main_v0_apply, val_main_v1_apply]
  exact congrArg₂ (fun a b : EReal => a * b) (congrArg x0 (eq_ix2 _)) (congrArg x1 (eq_ix2 _))

end Cert.SharedReferenceIdeal.Hand

namespace Cert.OutDxKernelIdeal.Hand

open Cert.OutDxKernelIdeal.Gen
open Cert.Proj (timesT)
open Idealize.ShloMosaic Idealize.ShloMosaic.TcCoe Idealize.SL.Sem
open Idealize.ShloMosaic.Pipeline (Window Dat)

theorem pay (x : Vec Ideal S1024x1024 .f32) (w : Vec Ideal S1024x1024 .bf16) (r d : Fin 1024) :
    k0_pay1 (F := Ideal) x w (ix2 r d) = ∑ k : Fin 1024, (x (ix2 r k) * w (ix2 d k) : EReal) := by
  unfold k0_pay1
  pointwise

theorem out_at (x : Vec Ideal S1024x1024 .f32) (w : Vec Ideal S1024x1024 .bf16) (r d : Fin 1024) :
    out0_2 (F := Ideal) x w (ix2 r d) = ∑ k : Fin 1024, (x (ix2 r k) * w (ix2 d k) : EReal) := by
  unfold out0_2
  rw [View.canon_unit_zero (by decide), View.ld_unit_zero (by decide), View.ld_unit_zero (by decide)]
  exact pay x w r d

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

variable (m : (ℓ : Loc nD τ sig) → Buf (Elt Ideal) ℓ) (c : Dev nD)

abbrev a0 : FVec Ideal S4096x1024 .f32 := m ((c.tc : Thread nD τ).loc main_arg0)
abbrev a1 : FVec Ideal S1024x1024 .bf16 := m ((c.tc : Thread nD τ).loc main_arg1)

theorem blk0 (t : Fin grid0.N) (r k : Fin 1024) (R : Fin 4096) (hR : R.val = t.val * 1024 + r.val) : iblk m c 0 t (ix2 r k) = a0 m c (ix2 R k) := by
  refine congrArg (a0 m c) (funext fun b => Fin.ext ?_)
  match b with
  | ⟨0, _⟩ => exact (Window.rect_emb_val win0_0 t (ix2 r k) ⟨0, (by decide : 0 < 2)⟩ rfl).trans (by rw [idx0 t]; exact hR.symm)
  | ⟨1, _⟩ => exact (Window.rect_emb_val win0_0 t (ix2 r k) ⟨1, (by decide : 1 < 2)⟩ rfl).trans (by rw [idx0 t]; show 0 * 1024 + k.val = k.val; omega)

theorem blk1 (t : Fin grid0.N) (d k : Fin 1024) : iblk m c 1 t (ix2 d k) = a1 m c (ix2 d k) := by
  refine congrArg (a1 m c) (funext fun b => Fin.ext ?_)
  match b with
  | ⟨0, _⟩ => exact (Window.rect_emb_val win0_1 t (ix2 d k) ⟨0, (by decide : 0 < 2)⟩ rfl).trans (by rw [idx1 t]; show 0 * 1024 + d.val = d.val; omega)
  | ⟨1, _⟩ => exact (Window.rect_emb_val win0_1 t (ix2 d k) ⟨1, (by decide : 1 < 2)⟩ rfl).trans (by rw [idx1 t]; show 0 * 1024 + k.val = k.val; omega)

theorem at2 (t : Fin grid0.N) (r d : Fin 1024) (R : Fin 4096) (hR : R.val = t.val * 1024 + r.val) : ((cfg0.win 2).blk t).view.emb (ix2 r d) = ix2 R d := by
  refine funext fun b => Fin.ext ?_
  match b with
  | ⟨0, _⟩ => exact (Window.rect_emb_val win0_2 t (ix2 r d) ⟨0, (by decide : 0 < 2)⟩ rfl).trans (by rw [idx2 t]; exact hR.symm)
  | ⟨1, _⟩ => exact (Window.rect_emb_val win0_2 t (ix2 r d) ⟨1, (by decide : 1 < 2)⟩ rfl).trans (by rw [idx2 t]; show 0 * 1024 + d.val = d.val; omega)

theorem flushed (t : Fin grid0.N) : (dats m 0 c).flushed 2 t = ((cfg0.win 2).blk t).view.read (Elt Ideal) (timesT (a0 m c) (a1 m c)) := by
  rw [Value.flushed2]
  funext y
  obtain ⟨r, d, rfl⟩ : ∃ r d : Fin 1024, y = ix2 r d := ⟨y 0, y 1, eq_ix2 y⟩
  have ht : t.val < 4 := lt_of_lt_of_eq t.isLt N_0
  let R : Fin 4096 := ⟨t.val * 1024 + r.val, by have := r.isLt; omega⟩
  show out0_2 (F := Ideal) (iblk m c 0 t) (iblk m c 1 t) (ix2 r d) = timesT (a0 m c) (a1 m c) (((cfg0.win 2).blk t).view.emb (ix2 r d))
  rw [at2 t r d R rfl]
  exact (out_at _ _ r d).trans (Finset.sum_congr rfl fun k _ => congrArg₂ (fun a b : EReal => a * b) (blk0 m c t r k R rfl) (blk1 m c t d k))

theorem covered (i : S4096x1024.Idx) : ∃ t : Fin cfg0.N, (cfg0.win 2).flush t = true ∧ i ∈ ((cfg0.win 2).blk t).view.set := by
  have h0 : (i 0).val < 4096 := (i 0).isLt
  let t : Fin grid0.N := ⟨(i 0).val / 1024, lt_of_lt_of_eq (by omega) N_0.symm⟩
  have e := (at2 t ⟨(i 0).val % 1024, Nat.mod_lt _ (by decide)⟩ (i 1) (i 0) (Nat.div_add_mod' _ _).symm).trans (ix2_eta i)
  exact ⟨t, flush0_2 t, e ▸ View.emb_mem_set _ _⟩

/-- The launch's result is the operand's gradient. -/
theorem final : (dats m 0 c).arrAt 2 cfg0.N = timesT (a0 m c) (a1 m c) :=
  (dats m 0 c).arrAt_eq_of_cover 2 _ (fun t _ => flushed m c t) covered

end Cert.OutDxKernelIdeal.Hand

namespace Cert.OutDxReferenceIdeal.Hand

open Cert.OutDxReferenceIdeal Cert.OutDxReferenceIdeal.Gen Cert.OutDxReferenceIdeal.Read
open Idealize.ShloMosaic

/-- The reference's result is the operand's gradient. -/
theorem value (x0 : FVec Ideal S4096x1024 .f32) (x1 : FVec Ideal S1024x1024 .bf16) : val_main_v4 (F := Ideal) x0 x1 = Cert.Proj.timesT x0 x1 := by
  funext y
  rw [val_main_v4_apply, val_main_v3_apply]
  refine Finset.sum_congr rfl fun k _ => ?_
  rw [val_main_v1_apply]
  exact congrArg₂ (fun a b : EReal => a * b) (congrArg x0 (eq_ix2 _)) (congrArg x1 (eq_ix2 _))

end Cert.OutDxReferenceIdeal.Hand

end
-- ==== Proof.ProjDw.lean ====
module

public import proofs.«01_k».proof.Proof.Gen.OutDwKernelIdeal.Value
public import proofs.«01_k».proof.Proof.Gen.OutDwReferenceIdeal.Read
public import proofs.«01_k».proof.Proof.Gen.QueryDwKernelIdeal.Value
public import proofs.«01_k».proof.Proof.Gen.QueryDwReferenceIdeal.Read
public import proofs.«01_k».proof.Proof.Gen.SharedDwKernelIdeal.Value
public import proofs.«01_k».proof.Proof.Gen.SharedDwReferenceIdeal.Read
public import proofs.«01_k».proof.Proof.Gen.SharedDxKernelIdeal.Value
public import proofs.«01_k».proof.Proof.Gen.SharedDxReferenceIdeal.Read
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import Idealize.ShloMosaic.Lib.Pipeline.ValueKit
public import Idealize.ShloMosaic.Lib.Pipeline.ReadBack

/-! The gradients of the attention's projections that are summed up in runs of 1024: those of the weights, over all rows, and that of the shared projection's operand, over all columns. -/

@[expose] public section

set_option maxRecDepth 16384

noncomputable section

namespace Cert.ProjDw

open Idealize.ShloMosaic

/-- The gradient of a weight: over all rows, the operand's entry times the incoming one. -/
def outDw (x : FVec Ideal ⟨2, ![4096, 1024]⟩ .bf16) (g : FVec Ideal ⟨2, ![4096, 1024]⟩ .f32) : FVec Ideal ⟨2, ![1024, 1024]⟩ .bf16 :=
  fun y => ∑ k : Fin 4096, (x (ix2 k (y 0)) * g (ix2 k (y 1)) : EReal)

/-- The same, of an incoming gradient that is transposed. -/
def queryDw (x : FVec Ideal ⟨2, ![4096, 1024]⟩ .bf16) (g : FVec Ideal ⟨2, ![1024, 4096]⟩ .f32) : FVec Ideal ⟨2, ![1024, 1024]⟩ .bf16 :=
  fun y => ∑ k : Fin 4096, (x (ix2 k (y 0)) * g (ix2 (y 1) k) : EReal)

/-- The gradient of the shared projection's weight. -/
def sharedDw (x : FVec Ideal ⟨2, ![4096, 1024]⟩ .bf16) (g : FVec Ideal ⟨2, ![4096, 2048]⟩ .bf16) : FVec Ideal ⟨2, ![1024, 2048]⟩ .f32 :=
  fun y => ∑ k : Fin 4096, (x (ix2 k (y 0)) * g (ix2 k (y 1)) : EReal)

/-- The gradient of its operand. -/
def sharedDx (g : FVec Ideal ⟨2, ![4096, 2048]⟩ .bf16) (w : FVec Ideal ⟨2, ![1024, 2048]⟩ .bf16) : FVec Ideal ⟨2, ![4096, 1024]⟩ .f32 :=
  fun y => ∑ k : Fin 2048, (g (ix2 (y 0) k) * w (ix2 (y 1) k) : EReal)

end Cert.ProjDw

namespace Cert.OutDwKernelIdeal.Hand

open Cert.OutDwKernelIdeal.Gen
open Cert.ProjDw (outDw)
open Idealize.ShloMosaic Idealize.ShloMosaic.TcCoe Idealize.SL.Sem
open Idealize.ShloMosaic.Pipeline (Window Dat)

/-- The product of two blocks at an entry. -/
def dot (x : Vec Ideal S1024x1024 .bf16) (w : Vec Ideal S1024x1024 .f32) (d e : Fin 1024) : EReal := ∑ k : Fin 1024, (x (ix2 k d) * w (ix2 k e) : EReal)

theorem pay2 (x : Vec Ideal S1024x1024 .bf16) (w : Vec Ideal S1024x1024 .f32) (d e : Fin 1024) : k0_pay2 (F := Ideal) x w (ix2 d e) = (0 + dot x w d e : EReal) := by
  rw [zero_add]
  unfold dot k0_pay2 k0_pay1
  pointwise

theorem pay3 (x : Vec Ideal S1024x1024 .bf16) (w : Vec Ideal S1024x1024 .f32) (s : Vec Ideal S1024x1024 .f32) (d e : Fin 1024) :
    k0_pay3 (F := Ideal) x w s (ix2 d e) = (s (ix2 d e) + dot x w d e : EReal) := by
  unfold dot k0_pay3 k0_pay1
  pointwise

theorem idx0 : ∀ t : Fin grid0.N, win0_0.index t = ![t.val % 4, 0] := by decide +kernel
theorem idx1 : ∀ t : Fin grid0.N, win0_1.index t = ![t.val % 4, 0] := by decide +kernel
theorem idx2 : ∀ t : Fin grid0.N, win0_2.index t = ![0, 0] := by decide +kernel

variable (m : (ℓ : Loc nD τ sig) → Buf (Elt Ideal) ℓ) (c : Dev nD)

abbrev a0 : FVec Ideal S4096x1024 .bf16 := m ((c.tc : Thread nD τ).loc main_arg0)
abbrev a1 : FVec Ideal S4096x1024 .f32 := m ((c.tc : Thread nD τ).loc main_arg1)

theorem blk0 (t : Fin grid0.N) (p q : Fin 1024) (P : Fin 4096) (Q : Fin 1024) (hP : P.val = t.val % 4 * 1024 + p.val) (hQ : Q.val = 0 * 1024 + q.val) :
    iblk m c 0 t (ix2 p q) = a0 m c (ix2 P Q) := by
  refine congrArg (a0 m c) (funext fun b => Fin.ext ?_)
  match b with
  | ⟨0, _⟩ => exact (Window.rect_emb_val win0_0 t (ix2 p q) ⟨0, (by decide : 0 < 2)⟩ rfl).trans (by rw [idx0 t]; exact hP.symm)
  | ⟨1, _⟩ => exact (Window.rect_emb_val win0_0 t (ix2 p q) ⟨1, (by decide : 1 < 2)⟩ rfl).trans (by rw [idx0 t]; exact hQ.symm)

theorem blk1 (t : Fin grid0.N) (p q : Fin 1024) (P : Fin 4096) (Q : Fin 1024) (hP : P.val = t.val % 4 * 1024 + p.val) (hQ : Q.val = 0 * 1024 + q.val) :
    iblk m c 1 t (ix2 p q) = a1 m c (ix2 P Q) := by
  refine congrArg (a1 m c) (funext fun b => Fin.ext ?_)
  match b with
  | ⟨0, _⟩ => exact (Window.rect_emb_val win0_1 t (ix2 p q) ⟨0, (by decide : 0 < 2)⟩ rfl).trans (by rw [idx1 t]; exact hP.symm)
  | ⟨1, _⟩ => exact (Window.rect_emb_val win0_1 t (ix2 p q) ⟨1, (by decide : 1 < 2)⟩ rfl).trans (by rw [idx1 t]; exact hQ.symm)

theorem at2 (t : Fin grid0.N) (p q : Fin 1024) (P : Fin 1024) (Q : Fin 1024) (hP : P.val = 0 * 1024 + p.val) (hQ : Q.val = 0 * 1024 + q.val) :
    ((cfg0.win 2).blk t).view.emb (ix2 p q) = ix2 P Q := by
  refine funext fun b => Fin.ext ?_
  match b with
  | ⟨0, _⟩ => exact (Window.rect_emb_val win0_2 t (ix2 p q) ⟨0, (by decide : 0 < 2)⟩ rfl).trans (by rw [idx2 t]; exact hP.symm)
  | ⟨1, _⟩ => exact (Window.rect_emb_val win0_2 t (ix2 p q) ⟨1, (by decide : 1 < 2)⟩ rfl).trans (by rw [idx2 t]; exact hQ.symm)

/-- One point's part of the sum. -/
def part (d e : Fin 1024) (t : Fin cfg0.N) : EReal := dot (iblk m c 0 t) (iblk m c 1 t) d e

theorem first (d e : Fin 1024) (t : Fin cfg0.N) (h : t.val % 4 = 0) : (outsAt0 m c t.val t.isLt).2 (ix2 d e) = 0 + part m c d e t := by
  have ht : t.val < 4 := lt_of_lt_of_eq t.isLt N_0
  rw [outsAt0_A m c t h (by omega) (by omega)]
  frame_out
  exact pay2 _ _ d e

theorem next (d e : Fin 1024) (t : Fin cfg0.N) (h : ¬t.val % 4 = 0) : (outsAt0 m c t.val t.isLt).2 (ix2 d e)
    = (outsAt0 m c (t.val - 1) (Nat.lt_of_le_of_lt (Nat.sub_le _ _) t.isLt)).2 (ix2 d e) + part m c d e t := by
  by_cases h3 : t.val % 4 = 3
  · rw [outsAt0_C m c t h (by omega) h3]
    frame_out
    simp only [read_unread_whole]
    exact pay3 _ _ _ d e
  · rw [outsAt0_B m c t h (by omega) h3]
    frame_out
    simp only [read_unread_whole]
    exact pay3 _ _ _ d e

theorem out_scratch (t : Fin cfg0.N) (h3 : t.val % 4 = 3) (d e : Fin 1024) : (outsAt0 m c t.val t.isLt).1 (ix2 d e) = (outsAt0 m c t.val t.isLt).2 (ix2 d e) := by
  rw [outsAt0_C m c t (by omega) (by omega) h3]
  frame_out
  unfold k0_pay4
  pointwise

/-- The scratch at the last point of a run: the whole sum. -/
theorem total (d e : Fin 1024) (t : Fin cfg0.N) (h3 : t.val % 4 = 3) (D : Fin 1024) (E : Fin 1024) (hD : D.val = 0 * 1024 + d.val) (hE : E.val = 0 * 1024 + e.val) :
    (outsAt0 m c t.val t.isLt).2 (ix2 d e) = outDw (a0 m c) (a1 m c) (ix2 D E) := by
  rw [Pipeline.eq_sum_fin_of_reset_step_of_flush (fun n h => (outsAt0 m c n h).2 (ix2 d e)) 4 (0 : EReal) (part m c d e)
    (fun t h => first m c d e t h) (fun t h => next m c d e t h) t h3, zero_add]
  have ht : t.val < 4 := lt_of_lt_of_eq t.isLt N_0
  refine Fin.sum_mul_add_congr fun s k hl => ?_
  have hs := s.isLt
  have hK : s.val * 1024 + k.val = (4 * (t.val / 4) + s.val) % 4 * 1024 + k.val := by omega
  exact congrArg₂ (fun a b : EReal => a * b)
    (blk0 m c _ k d ⟨_, hl⟩ D hK (by show _ = 0 * 1024 + _; omega))
    (blk1 m c _ k e ⟨_, hl⟩ E hK (by show _ = 0 * 1024 + _; omega))

theorem flushed (t : Fin grid0.N) (h3 : t.val % 4 = 3) :
    (dats m 0 c).flushed 2 t = ((cfg0.win 2).blk t).view.read (Elt Ideal) (outDw (a0 m c) (a1 m c)) := by
  rw [Value.flushed2]
  funext y
  obtain ⟨d, e, rfl⟩ : ∃ d e : Fin 1024, y = ix2 d e := ⟨y 0, y 1, eq_ix2 y⟩
  have ht : t.val < 4 := lt_of_lt_of_eq t.isLt N_0
  let D : Fin 1024 := ⟨0 * 1024 + d.val, by have := d.isLt; omega⟩
  let E : Fin 1024 := ⟨0 * 1024 + e.val, by have := e.isLt; omega⟩
  show (outsAt0 m c t.val t.isLt).1 (ix2 d e) = outDw (a0 m c) (a1 m c) (((cfg0.win 2).blk t).view.emb (ix2 d e))
  rw [at2 t d e D E rfl rfl, out_scratch m c t h3 d e]
  exact total m c d e t h3 D E rfl rfl

theorem covered (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  let t : Fin grid0.N := ⟨3, lt_of_lt_of_eq (by omega) N_0.symm⟩
  have ht : t.val = 3 := rfl
  have e := (at2 t ⟨(i 0).val % 1024, Nat.mod_lt _ (by decide)⟩ ⟨(i 1).val % 1024, Nat.mod_lt _ (by decide)⟩ (i 0) (i 1)
    (by show (i 0).val = 0 * 1024 + (i 0).val % 1024; omega) (by show (i 1).val = 0 * 1024 + (i 1).val % 1024; omega)).trans (ix2_eta i)
  exact ⟨t, (flush0_2 t).mpr (by omega), e ▸ View.emb_mem_set _ _⟩

/-- The launch's result is the gradient. -/
theorem final : (dats m 0 c).arrAt 2 cfg0.N = outDw (a0 m c) (a1 m c) :=
  (dats m 0 c).arrAt_eq_of_cover 2 _ (fun t ht => flushed m c t ((flush0_2 t).mp ht)) covered

end Cert.OutDwKernelIdeal.Hand

namespace Cert.OutDwReferenceIdeal.Hand

open Cert.OutDwReferenceIdeal Cert.OutDwReferenceIdeal.Gen Cert.OutDwReferenceIdeal.Read
open Idealize.ShloMosaic

/-- The reference's result is the gradient. -/
theorem value (x0 : FVec Ideal S4096x1024 .bf16) (x1 : FVec Ideal S4096x1024 .f32) : val_main_v5 (F := Ideal) x0 x1 = Cert.ProjDw.outDw x0 x1 := by
  funext y
  rw [val_main_v5_apply, val_main_v4_apply, val_main_v3_apply]
  refine Finset.sum_congr rfl fun k _ => ?_
  rw [val_main_v1_apply]
  exact (mul_comm (G := EReal) _ _).trans (congrArg₂ (fun a b : EReal => a * b) (congrArg x0 (eq_ix2 _)) (congrArg x1 (eq_ix2 _)))

end Cert.OutDwReferenceIdeal.Hand

namespace Cert.QueryDwKernelIdeal.Hand

open Cert.QueryDwKernelIdeal.Gen
open Cert.ProjDw (queryDw)
open Idealize.ShloMosaic Idealize.ShloMosaic.TcCoe Idealize.SL.Sem
open Idealize.ShloMosaic.Pipeline (Window Dat)

/-- The product of two blocks at an entry. -/
def dot (x : Vec Ideal S1024x1024 .bf16) (w : Vec Ideal S1024x1024 .f32) (d e : Fin 1024) : EReal := ∑ k : Fin 1024, (x (ix2 k d) * w (ix2 e k) : EReal)

theorem pay2 (x : Vec Ideal S1024x1024 .bf16) (w : Vec Ideal S1024x1024 .f32) (d e : Fin 1024) : k0_pay2 (F := Ideal) x w (ix2 d e) = (0 + dot x w d e : EReal) := by
  rw [zero_add]
  unfold dot k0_pay2 k0_pay1
  pointwise

theorem pay3 (x : Vec Ideal S1024x1024 .bf16) (w : Vec Ideal S1024x1024 .f32) (s : Vec Ideal S1024x1024 .f32) (d e : Fin 1024) :
    k0_pay3 (F := Ideal) x w s (ix2 d e) = (s (ix2 d e) + dot x w d e : EReal) := by
  unfold dot k0_pay3 k0_pay1
  pointwise

theorem idx0 : ∀ t : Fin grid0.N, win0_0.index t = ![t.val % 4, 0] := by decide +kernel
theorem idx1 : ∀ t : Fin grid0.N, win0_1.index t = ![0, t.val % 4] := by decide +kernel
theorem idx2 : ∀ t : Fin grid0.N, win0_2.index t = ![0, 0] := by decide +kernel

variable (m : (ℓ : Loc nD τ sig) → Buf (Elt Ideal) ℓ) (c : Dev nD)

abbrev a0 : FVec Ideal S4096x1024 .bf16 := m ((c.tc : Thread nD τ).loc main_arg0)
abbrev a1 : FVec Ideal S1024x4096 .f32 := m ((c.tc : Thread nD τ).loc main_arg1)

theorem blk0 (t : Fin grid0.N) (p q : Fin 1024) (P : Fin 4096) (Q : Fin 1024) (hP : P.val = t.val % 4 * 1024 + p.val) (hQ : Q.val = 0 * 1024 + q.val) :
    iblk m c 0 t (ix2 p q) = a0 m c (ix2 P Q) := by
  refine congrArg (a0 m c) (funext fun b => Fin.ext ?_)
  match b with
  | ⟨0, _⟩ => exact (Window.rect_emb_val win0_0 t (ix2 p q) ⟨0, (by decide : 0 < 2)⟩ rfl).trans (by rw [idx0 t]; exact hP.symm)
  | ⟨1, _⟩ => exact (Window.rect_emb_val win0_0 t (ix2 p q) ⟨1, (by decide : 1 < 2)⟩ rfl).trans (by rw [idx0 t]; exact hQ.symm)

theorem blk1 (t : Fin grid0.N) (p q : Fin 1024) (P : Fin 1024) (Q : Fin 4096) (hP : P.val = 0 * 1024 + p.val) (hQ : Q.val = t.val % 4 * 1024 + q.val) :
    iblk m c 1 t (ix2 p q) = a1 m c (ix2 P Q) := by
  refine congrArg (a1 m c) (funext fun b => Fin.ext ?_)
  match b with
  | ⟨0, _⟩ => exact (Window.rect_emb_val win0_1 t (ix2 p q) ⟨0, (by decide : 0 < 2)⟩ rfl).trans (by rw [idx1 t]; exact hP.symm)
  | ⟨1, _⟩ => exact (Window.rect_emb_val win0_1 t (ix2 p q) ⟨1, (by decide : 1 < 2)⟩ rfl).trans (by rw [idx1 t]; exact hQ.symm)

theorem at2 (t : Fin grid0.N) (p q : Fin 1024) (P : Fin 1024) (Q : Fin 1024) (hP : P.val = 0 * 1024 + p.val) (hQ : Q.val = 0 * 1024 + q.val) :
    ((cfg0.win 2).blk t).view.emb (ix2 p q) = ix2 P Q := by
  refine funext fun b => Fin.ext ?_
  match b with
  | ⟨0, _⟩ => exact (Window.rect_emb_val win0_2 t (ix2 p q) ⟨0, (by decide : 0 < 2)⟩ rfl).trans (by rw [idx2 t]; exact hP.symm)
  | ⟨1, _⟩ => exact (Window.rect_emb_val win0_2 t (ix2 p q) ⟨1, (by decide : 1 < 2)⟩ rfl).trans (by rw [idx2 t]; exact hQ.symm)

/-- One point's part of the sum. -/
def part (d e : Fin 1024) (t : Fin cfg0.N) : EReal := dot (iblk m c 0 t) (iblk m c 1 t) d e

theorem first (d e : Fin 1024) (t : Fin cfg0.N) (h : t.val % 4 = 0) : (outsAt0 m c t.val t.isLt).2 (ix2 d e) = 0 + part m c d e t := by
  have ht : t.val < 4 := lt_of_lt_of_eq t.isLt N_0
  rw [outsAt0_A m c t h (by omega) (by omega)]
  frame_out
  exact pay2 _ _ d e

theorem next (d e : Fin 1024) (t : Fin cfg0.N) (h : ¬t.val % 4 = 0) : (outsAt0 m c t.val t.isLt).2 (ix2 d e)
    = (outsAt0 m c (t.val - 1) (Nat.lt_of_le_of_lt (Nat.sub_le _ _) t.isLt)).2 (ix2 d e) + part m c d e t := by
  by_cases h3 : t.val % 4 = 3
  · rw [outsAt0_C m c t h (by omega) h3]
    frame_out
    simp only [read_unread_whole]
    exact pay3 _ _ _ d e
  · rw [outsAt0_B m c t h (by omega) h3]
    frame_out
    simp only [read_unread_whole]
    exact pay3 _ _ _ d e

theorem out_scratch (t : Fin cfg0.N) (h3 : t.val % 4 = 3) (d e : Fin 1024) : (outsAt0 m c t.val t.isLt).1 (ix2 d e) = (outsAt0 m c t.val t.isLt).2 (ix2 d e) := by
  rw [outsAt0_C m c t (by omega) (by omega) h3]
  frame_out
  unfold k0_pay4
  pointwise

/-- The scratch at the last point of a run: the whole sum. -/
theorem total (d e : Fin 1024) (t : Fin cfg0.N) (h3 : t.val % 4 = 3) (D : Fin 1024) (E : Fin 1024) (hD : D.val = 0 * 1024 + d.val) (hE : E.val = 0 * 1024 + e.val) :
    (outsAt0 m c t.val t.isLt).2 (ix2 d e) = queryDw (a0 m c) (a1 m c) (ix2 D E) := by
  rw [Pipeline.eq_sum_fin_of_reset_step_of_flush (fun n h => (outsAt0 m c n h).2 (ix2 d e)) 4 (0 : EReal) (part m c d e)
    (fun t h => first m c d e t h) (fun t h => next m c d e t h) t h3, zero_add]
  have ht : t.val < 4 := lt_of_lt_of_eq t.isLt N_0
  refine Fin.sum_mul_add_congr fun s k hl => ?_
  have hs := s.isLt
  have hK : s.val * 1024 + k.val = (4 * (t.val / 4) + s.val) % 4 * 1024 + k.val := by omega
  exact congrArg₂ (fun a b : EReal => a * b)
    (blk0 m c _ k d ⟨_, hl⟩ D hK (by show _ = 0 * 1024 + _; omega))
    (blk1 m c _ e k E ⟨_, hl⟩ (by show _ = 0 * 1024 + _; omega) hK)

theorem flushed (t : Fin grid0.N) (h3 : t.val % 4 = 3) :
    (dats m 0 c).flushed 2 t = ((cfg0.win 2).blk t).view.read (Elt Ideal) (queryDw (a0 m c) (a1 m c)) := by
  rw [Value.flushed2]
  funext y
  obtain ⟨d, e, rfl⟩ : ∃ d e : Fin 1024, y = ix2 d e := ⟨y 0, y 1, eq_ix2 y⟩
  have ht : t.val < 4 := lt_of_lt_of_eq t.isLt N_0
  let D : Fin 1024 := ⟨0 * 1024 + d.val, by have := d.isLt; omega⟩
  let E : Fin 1024 := ⟨0 * 1024 + e.val, by have := e.isLt; omega⟩
  show (outsAt0 m c t.val t.isLt).1 (ix2 d e) = queryDw (a0 m c) (a1 m c) (((cfg0.win 2).blk t).view.emb (ix2 d e))
  rw [at2 t d e D E rfl rfl, out_scratch m c t h3 d e]
  exact total m c d e t h3 D E rfl rfl

theorem covered (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  let t : Fin grid0.N := ⟨3, lt_of_lt_of_eq (by omega) N_0.symm⟩
  have ht : t.val = 3 := rfl
  have e := (at2 t ⟨(i 0).val % 1024, Nat.mod_lt _ (by decide)⟩ ⟨(i 1).val % 1024, Nat.mod_lt _ (by decide)⟩ (i 0) (i 1)
    (by show (i 0).val = 0 * 1024 + (i 0).val % 1024; omega) (by show (i 1).val = 0 * 1024 + (i 1).val % 1024; omega)).trans (ix2_eta i)
  exact ⟨t, (flush0_2 t).mpr (by omega), e ▸ View.emb_mem_set _ _⟩

/-- The launch's result is the gradient. -/
theorem final : (dats m 0 c).arrAt 2 cfg0.N = queryDw (a0 m c) (a1 m c) :=
  (dats m 0 c).arrAt_eq_of_cover 2 _ (fun t ht => flushed m c t ((flush0_2 t).mp ht)) covered

end Cert.QueryDwKernelIdeal.Hand

namespace Cert.QueryDwReferenceIdeal.Hand

open Cert.QueryDwReferenceIdeal Cert.QueryDwReferenceIdeal.Gen Cert.QueryDwReferenceIdeal.Read
open Idealize.ShloMosaic

/-- The reference's result is the gradient. -/
theorem value (x0 : FVec Ideal S4096x1024 .bf16) (x1 : FVec Ideal S1024x4096 .f32) : val_main_v6 (F := Ideal) x0 x1 = Cert.ProjDw.queryDw x0 x1 := by
  funext y
  rw [val_main_v6_apply, val_main_v5_apply, val_main_v4_apply]
  refine Finset.sum_congr rfl fun k _ => ?_
  rw [val_main_v0_apply, val_main_v2_apply]
  exact (mul_comm (G := EReal) _ _).trans (congrArg₂ (fun a b : EReal => a * b) (congrArg x0 (eq_ix2 _)) (congrArg x1 (eq_ix2 _)))

end Cert.QueryDwReferenceIdeal.Hand

namespace Cert.SharedDwKernelIdeal.Hand

open Cert.SharedDwKernelIdeal.Gen
open Cert.ProjDw (sharedDw)
open Idealize.ShloMosaic Idealize.ShloMosaic.TcCoe Idealize.SL.Sem
open Idealize.ShloMosaic.Pipeline (Window Dat)

/-- The product of two blocks at an entry. -/
def dot (x : Vec Ideal S1024x1024 .bf16) (w : Vec Ideal S1024x1024 .bf16) (d e : Fin 1024) : EReal := ∑ k : Fin 1024, (x (ix2 k d) * w (ix2 k e) : EReal)

theorem pay2 (x : Vec Ideal S1024x1024 .bf16) (w : Vec Ideal S1024x1024 .bf16) (d e : Fin 1024) : k0_pay2 (F := Ideal) x w (ix2 d e) = (0 + dot x w d e : EReal) := by
  rw [zero_add]
  unfold dot k0_pay2 k0_pay1
  pointwise

theorem pay3 (x : Vec Ideal S1024x1024 .bf16) (w : Vec Ideal S1024x1024 .bf16) (s : Vec Ideal S1024x1024 .f32) (d e : Fin 1024) :
    k0_pay3 (F := Ideal) x w s (ix2 d e) = (s (ix2 d e) + dot x w d e : EReal) := by
  unfold dot k0_pay3 k0_pay1
  pointwise

theorem idx0 : ∀ t : Fin grid0.N, win0_0.index t = ![t.val % 4, 0] := by decide +kernel
theorem idx1 : ∀ t : Fin grid0.N, win0_1.index t = ![t.val % 4, (t.val / 4)] := by decide +kernel
theorem idx2 : ∀ t : Fin grid0.N, win0_2.index t = ![0, (t.val / 4)] := by decide +kernel

variable (m : (ℓ : Loc nD τ sig) → Buf (Elt Ideal) ℓ) (c : Dev nD)

abbrev a0 : FVec Ideal S4096x1024 .bf16 := m ((c.tc : Thread nD τ).loc main_arg0)
abbrev a1 : FVec Ideal S4096x2048 .bf16 := m ((c.tc : Thread nD τ).loc main_arg1)

theorem blk0 (t : Fin grid0.N) (p q : Fin 1024) (P : Fin 4096) (Q : Fin 1024) (hP : P.val = t.val % 4 * 1024 + p.val) (hQ : Q.val = 0 * 1024 + q.val) :
    iblk m c 0 t (ix2 p q) = a0 m c (ix2 P Q) := by
  refine congrArg (a0 m c) (funext fun b => Fin.ext ?_)
  match b with
  | ⟨0, _⟩ => exact (Window.rect_emb_val win0_0 t (ix2 p q) ⟨0, (by decide : 0 < 2)⟩ rfl).trans (by rw [idx0 t]; exact hP.symm)
  | ⟨1, _⟩ => exact (Window.rect_emb_val win0_0 t (ix2 p q) ⟨1, (by decide : 1 < 2)⟩ rfl).trans (by rw [idx0 t]; exact hQ.symm)

theorem blk1 (t : Fin grid0.N) (p q : Fin 1024) (P : Fin 4096) (Q : Fin 2048) (hP : P.val = t.val % 4 * 1024 + p.val) (hQ : Q.val = (t.val / 4) * 1024 + q.val) :
    iblk m c 1 t (ix2 p q) = a1 m c (ix2 P Q) := by
  refine congrArg (a1 m c) (funext fun b => Fin.ext ?_)
  match b with
  | ⟨0, _⟩ => exact (Window.rect_emb_val win0_1 t (ix2 p q) ⟨0, (by decide : 0 < 2)⟩ rfl).trans (by rw [idx1 t]; exact hP.symm)
  | ⟨1, _⟩ => exact (Window.rect_emb_val win0_1 t (ix2 p q) ⟨1, (by decide : 1 < 2)⟩ rfl).trans (by rw [idx1 t]; exact hQ.symm)

theorem at2 (t : Fin grid0.N) (p q : Fin 1024) (P : Fin 1024) (Q : Fin 2048) (hP : P.val = 0 * 1024 + p.val) (hQ : Q.val = (t.val / 4) * 1024 + q.val) :
    ((cfg0.win 2).blk t).view.emb (ix2 p q) = ix2 P Q := by
  refine funext fun b => Fin.ext ?_
  match b with
  | ⟨0, _⟩ => exact (Window.rect_emb_val win0_2 t (ix2 p q) ⟨0, (by decide : 0 < 2)⟩ rfl).trans (by rw [idx2 t]; exact hP.symm)
  | ⟨1, _⟩ => exact (Window.rect_emb_val win0_2 t (ix2 p q) ⟨1, (by decide : 1 < 2)⟩ rfl).trans (by rw [idx2 t]; exact hQ.symm)

/-- One point's part of the sum. -/
def part (d e : Fin 1024) (t : Fin cfg0.N) : EReal := dot (iblk m c 0 t) (iblk m c 1 t) d e

theorem first (d e : Fin 1024) (t : Fin cfg0.N) (h : t.val % 4 = 0) : (outsAt0 m c t.val t.isLt).2 (ix2 d e) = 0 + part m c d e t := by
  have ht : t.val < 8 := lt_of_lt_of_eq t.isLt N_0
  rw [outsAt0_A m c t h (by omega) (by omega)]
  frame_out
  exact pay2 _ _ d e

theorem next (d e : Fin 1024) (t : Fin cfg0.N) (h : ¬t.val % 4 = 0) : (outsAt0 m c t.val t.isLt).2 (ix2 d e)
    = (outsAt0 m c (t.val - 1) (Nat.lt_of_le_of_lt (Nat.sub_le _ _) t.isLt)).2 (ix2 d e) + part m c d e t := by
  by_cases h3 : t.val % 4 = 3
  · rw [outsAt0_C m c t h (by omega) h3]
    frame_out
    simp only [read_unread_whole]
    exact pay3 _ _ _ d e
  · rw [outsAt0_B m c t h (by omega) h3]
    frame_out
    simp only [read_unread_whole]
    exact pay3 _ _ _ d e

theorem out_scratch (t : Fin cfg0.N) (h3 : t.val % 4 = 3) (d e : Fin 1024) : (outsAt0 m c t.val t.isLt).1 (ix2 d e) = (outsAt0 m c t.val t.isLt).2 (ix2 d e) := by
  rw [outsAt0_C m c t (by omega) (by omega) h3]
  frame_out

/-- The scratch at the last point of a run: the whole sum. -/
theorem total (d e : Fin 1024) (t : Fin cfg0.N) (h3 : t.val % 4 = 3) (D : Fin 1024) (E : Fin 2048) (hD : D.val = 0 * 1024 + d.val) (hE : E.val = (t.val / 4) * 1024 + e.val) :
    (outsAt0 m c t.val t.isLt).2 (ix2 d e) = sharedDw (a0 m c) (a1 m c) (ix2 D E) := by
  rw [Pipeline.eq_sum_fin_of_reset_step_of_flush (fun n h => (outsAt0 m c n h).2 (ix2 d e)) 4 (0 : EReal) (part m c d e)
    (fun t h => first m c d e t h) (fun t h => next m c d e t h) t h3, zero_add]
  have ht : t.val < 8 := lt_of_lt_of_eq t.isLt N_0
  refine Fin.sum_mul_add_congr fun s k hl => ?_
  have hs := s.isLt
  have hK : s.val * 1024 + k.val = (4 * (t.val / 4) + s.val) % 4 * 1024 + k.val := by omega
  exact congrArg₂ (fun a b : EReal => a * b)
    (blk0 m c _ k d ⟨_, hl⟩ D hK (by show _ = 0 * 1024 + _; omega))
    (blk1 m c _ k e ⟨_, hl⟩ E hK (by show _ = ((4 * (t.val / 4) + s.val) / 4) * 1024 + _; omega))

theorem flushed (t : Fin grid0.N) (h3 : t.val % 4 = 3) :
    (dats m 0 c).flushed 2 t = ((cfg0.win 2).blk t).view.read (Elt Ideal) (sharedDw (a0 m c) (a1 m c)) := by
  rw [Value.flushed2]
  funext y
  obtain ⟨d, e, rfl⟩ : ∃ d e : Fin 1024, y = ix2 d e := ⟨y 0, y 1, eq_ix2 y⟩
  have ht : t.val < 8 := lt_of_lt_of_eq t.isLt N_0
  let D : Fin 1024 := ⟨0 * 1024 + d.val, by have := d.isLt; omega⟩
  let E : Fin 2048 := ⟨(t.val / 4) * 1024 + e.val, by have := e.isLt; omega⟩
  show (outsAt0 m c t.val t.isLt).1 (ix2 d e) = sharedDw (a0 m c) (a1 m c) (((cfg0.win 2).blk t).view.emb (ix2 d e))
  rw [at2 t d e D E rfl rfl, out_scratch m c t h3 d e]
  exact total m c d e t h3 D E rfl rfl

theorem covered (i : S1024x2048.Idx) : ∃ t : Fin cfg0.N, (cfg0.win 2).flush t = true ∧ i ∈ ((cfg0.win 2).blk t).view.set := by
  have h0 : (i 0).val < 1024 := (i 0).isLt
  have h1 : (i 1).val < 2048 := (i 1).isLt
  let t : Fin grid0.N := ⟨(i 1).val / 1024 * 4 + 3, lt_of_lt_of_eq (by omega) N_0.symm⟩
  have ht : t.val = (i 1).val / 1024 * 4 + 3 := rfl
  have e := (at2 t ⟨(i 0).val % 1024, Nat.mod_lt _ (by decide)⟩ ⟨(i 1).val % 1024, Nat.mod_lt _ (by decide)⟩ (i 0) (i 1)
    (by show (i 0).val = 0 * 1024 + (i 0).val % 1024; omega) (by show (i 1).val = (t.val / 4) * 1024 + (i 1).val % 1024; omega)).trans (ix2_eta i)
  exact ⟨t, (flush0_2 t).mpr (by omega), e ▸ View.emb_mem_set _ _⟩

/-- The launch's result is the gradient. -/
theorem final : (dats m 0 c).arrAt 2 cfg0.N = sharedDw (a0 m c) (a1 m c) :=
  (dats m 0 c).arrAt_eq_of_cover 2 _ (fun t ht => flushed m c t ((flush0_2 t).mp ht)) covered

end Cert.SharedDwKernelIdeal.Hand

namespace Cert.SharedDwReferenceIdeal.Hand

open Cert.SharedDwReferenceIdeal Cert.SharedDwReferenceIdeal.Gen Cert.SharedDwReferenceIdeal.Read
open Idealize.ShloMosaic

/-- The reference's result is the gradient. -/
theorem value (x0 : FVec Ideal S4096x1024 .bf16) (x1 : FVec Ideal S4096x2048 .bf16) : val_main_v5 (F := Ideal) x0 x1 = Cert.ProjDw.sharedDw x0 x1 := by
  funext y
  rw [val_main_v5_apply, val_main_v4_apply]
  refine Finset.sum_congr rfl fun k _ => ?_
  rw [val_main_v1_apply, val_main_v3_apply]
  exact (mul_comm (G := EReal) _ _).trans (congrArg₂ (fun a b : EReal => a * b) (congrArg x0 (eq_ix2 _)) (congrArg x1 (eq_ix2 _)))

end Cert.SharedDwReferenceIdeal.Hand

namespace Cert.SharedDxKernelIdeal.Hand

open Cert.SharedDxKernelIdeal.Gen
open Cert.ProjDw (sharedDx)
open Idealize.ShloMosaic Idealize.ShloMosaic.TcCoe Idealize.SL.Sem
open Idealize.ShloMosaic.Pipeline (Window Dat)

/-- The product of two blocks at an entry. -/
def dot (x : Vec Ideal S1024x1024 .bf16) (w : Vec Ideal S1024x1024 .bf16) (d e : Fin 1024) : EReal := ∑ k : Fin 1024, (x (ix2 d k) * w (ix2 e k) : EReal)

theorem pay2 (x : Vec Ideal S1024x1024 .bf16) (w : Vec Ideal S1024x1024 .bf16) (d e : Fin 1024) : k0_pay2 (F := Ideal) x w (ix2 d e) = (0 + dot x w d e : EReal) := by
  rw [zero_add]
  unfold dot k0_pay2 k0_pay1
  pointwise

theorem pay3 (x : Vec Ideal S1024x1024 .bf16) (w : Vec Ideal S1024x1024 .bf16) (s : Vec Ideal S1024x1024 .f32) (d e : Fin 1024) :
    k0_pay3 (F := Ideal) x w s (ix2 d e) = (s (ix2 d e) + dot x w d e : EReal) := by
  unfold dot k0_pay3 k0_pay1
  pointwise

theorem idx0 : ∀ t : Fin grid0.N, win0_0.index t = ![(t.val / 2), t.val % 2] := by decide +kernel
theorem idx1 : ∀ t : Fin grid0.N, win0_1.index t = ![0, t.val % 2] := by decide +kernel
theorem idx2 : ∀ t : Fin grid0.N, win0_2.index t = ![(t.val / 2), 0] := by decide +kernel

variable (m : (ℓ : Loc nD τ sig) → Buf (Elt Ideal) ℓ) (c : Dev nD)

abbrev a0 : FVec Ideal S4096x2048 .bf16 := m ((c.tc : Thread nD τ).loc main_arg0)
abbrev a1 : FVec Ideal S1024x2048 .bf16 := m ((c.tc : Thread nD τ).loc main_arg1)

theorem blk0 (t : Fin grid0.N) (p q : Fin 1024) (P : Fin 4096) (Q : Fin 2048) (hP : P.val = (t.val / 2) * 1024 + p.val) (hQ : Q.val = t.val % 2 * 1024 + q.val) :
    iblk m c 0 t (ix2 p q) = a0 m c (ix2 P Q) := by
  refine congrArg (a0 m c) (funext fun b => Fin.ext ?_)
  match b with
  | ⟨0, _⟩ => exact (Window.rect_emb_val win0_0 t (ix2 p q) ⟨0, (by decide : 0 < 2)⟩ rfl).trans (by rw [idx0 t]; exact hP.symm)
  | ⟨1, _⟩ => exact (Window.rect_emb_val win0_0 t (ix2 p q) ⟨1, (by decide : 1 < 2)⟩ rfl).trans (by rw [idx0 t]; exact hQ.symm)

theorem blk1 (t : Fin grid0.N) (p q : Fin 1024) (P : Fin 1024) (Q : Fin 2048) (hP : P.val = 0 * 1024 + p.val) (hQ : Q.val = t.val % 2 * 1024 + q.val) :
    iblk m c 1 t (ix2 p q) = a1 m c (ix2 P Q) := by
  refine congrArg (a1 m c) (funext fun b => Fin.ext ?_)
  match b with
  | ⟨0, _⟩ => exact (Window.rect_emb_val win0_1 t (ix2 p q) ⟨0, (by decide : 0 < 2)⟩ rfl).trans (by rw [idx1 t]; exact hP.symm)
  | ⟨1, _⟩ => exact (Window.rect_emb_val win0_1 t (ix2 p q) ⟨1, (by decide : 1 < 2)⟩ rfl).trans (by rw [idx1 t]; exact hQ.symm)

theorem at2 (t : Fin grid0.N) (p q : Fin 1024) (P : Fin 4096) (Q : Fin 1024) (hP : P.val = (t.val / 2) * 1024 + p.val) (hQ : Q.val = 0 * 1024 + q.val) :
    ((cfg0.win 2).blk t).view.emb (ix2 p q) = ix2 P Q := by
  refine funext fun b => Fin.ext ?_
  match b with
  | ⟨0, _⟩ => exact (Window.rect_emb_val win0_2 t (ix2 p q) ⟨0, (by decide : 0 < 2)⟩ rfl).trans (by rw [idx2 t]; exact hP.symm)
  | ⟨1, _⟩ => exact (Window.rect_emb_val win0_2 t (ix2 p q) ⟨1, (by decide : 1 < 2)⟩ rfl).trans (by rw [idx2 t]; exact hQ.symm)

/-- One point's part of the sum. -/
def part (d e : Fin 1024) (t : Fin cfg0.N) : EReal := dot (iblk m c 0 t) (iblk m c 1 t) d e

theorem first (d e : Fin 1024) (t : Fin cfg0.N) (h : t.val % 2 = 0) : (outsAt0 m c t.val t.isLt).2 (ix2 d e) = 0 + part m c d e t := by
  have ht : t.val < 8 := lt_of_lt_of_eq t.isLt N_0
  rw [outsAt0_A m c t h (by omega) (by omega)]
  frame_out
  exact pay2 _ _ d e

theorem next (d e : Fin 1024) (t : Fin cfg0.N) (h : ¬t.val % 2 = 0) : (outsAt0 m c t.val t.isLt).2 (ix2 d e)
    = (outsAt0 m c (t.val - 1) (Nat.lt_of_le_of_lt (Nat.sub_le _ _) t.isLt)).2 (ix2 d e) + part m c d e t := by
  rw [outsAt0_B m c t h (by omega) (by omega)]
  frame_out
  simp only [read_unread_whole]
  exact pay3 _ _ _ d e

theorem out_scratch (t : Fin cfg0.N) (h3 : t.val % 2 = 1) (d e : Fin 1024) : (outsAt0 m c t.val t.isLt).1 (ix2 d e) = (outsAt0 m c t.val t.isLt).2 (ix2 d e) := by
  rw [outsAt0_B m c t (by omega) (by omega) h3]
  frame_out

/-- The scratch at the last point of a run: the whole sum. -/
theorem total (d e : Fin 1024) (t : Fin cfg0.N) (h3 : t.val % 2 = 1) (D : Fin 4096) (E : Fin 1024) (hD : D.val = (t.val / 2) * 1024 + d.val) (hE : E.val = 0 * 1024 + e.val) :
    (outsAt0 m c t.val t.isLt).2 (ix2 d e) = sharedDx (a0 m c) (a1 m c) (ix2 D E) := by
  rw [Pipeline.eq_sum_fin_of_reset_step_of_flush (fun n h => (outsAt0 m c n h).2 (ix2 d e)) 2 (0 : EReal) (part m c d e)
    (fun t h => first m c d e t h) (fun t h => next m c d e t h) t h3, zero_add]
  have ht : t.val < 8 := lt_of_lt_of_eq t.isLt N_0
  refine Fin.sum_mul_add_congr fun s k hl => ?_
  have hs := s.isLt
  have hK : s.val * 1024 + k.val = (2 * (t.val / 2) + s.val) % 2 * 1024 + k.val := by omega
  exact congrArg₂ (fun a b : EReal => a * b)
    (blk0 m c _ d k D ⟨_, hl⟩ (by show _ = ((2 * (t.val / 2) + s.val) / 2) * 1024 + _; omega) hK)
    (blk1 m c _ e k E ⟨_, hl⟩ (by show _ = 0 * 1024 + _; omega) hK)

theorem flushed (t : Fin grid0.N) (h3 : t.val % 2 = 1) :
    (dats m 0 c).flushed 2 t = ((cfg0.win 2).blk t).view.read (Elt Ideal) (sharedDx (a0 m c) (a1 m c)) := by
  rw [Value.flushed2]
  funext y
  obtain ⟨d, e, rfl⟩ : ∃ d e : Fin 1024, y = ix2 d e := ⟨y 0, y 1, eq_ix2 y⟩
  have ht : t.val < 8 := lt_of_lt_of_eq t.isLt N_0
  let D : Fin 4096 := ⟨(t.val / 2) * 1024 + d.val, by have := d.isLt; omega⟩
  let E : Fin 1024 := ⟨0 * 1024 + e.val, by have := e.isLt; omega⟩
  show (outsAt0 m c t.val t.isLt).1 (ix2 d e) = sharedDx (a0 m c) (a1 m c) (((cfg0.win 2).blk t).view.emb (ix2 d e))
  rw [at2 t d e D E rfl rfl, out_scratch m c t h3 d e]
  exact total m c d e t h3 D E rfl rfl

theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  let t : Fin grid0.N := ⟨(i 0).val / 1024 * 2 + 1, lt_of_lt_of_eq (by omega) N_0.symm⟩
  have ht : t.val = (i 0).val / 1024 * 2 + 1 := rfl
  have e := (at2 t ⟨(i 0).val % 1024, Nat.mod_lt _ (by decide)⟩ ⟨(i 1).val % 1024, Nat.mod_lt _ (by decide)⟩ (i 0) (i 1)
    (by show (i 0).val = (t.val / 2) * 1024 + (i 0).val % 1024; omega) (by show (i 1).val = 0 * 1024 + (i 1).val % 1024; omega)).trans (ix2_eta i)
  exact ⟨t, (flush0_2 t).mpr (by omega), e ▸ View.emb_mem_set _ _⟩

/-- The launch's result is the gradient. -/
theorem final : (dats m 0 c).arrAt 2 cfg0.N = sharedDx (a0 m c) (a1 m c) :=
  (dats m 0 c).arrAt_eq_of_cover 2 _ (fun t ht => flushed m c t ((flush0_2 t).mp ht)) covered

end Cert.SharedDxKernelIdeal.Hand

namespace Cert.SharedDxReferenceIdeal.Hand

open Cert.SharedDxReferenceIdeal Cert.SharedDxReferenceIdeal.Gen Cert.SharedDxReferenceIdeal.Read
open Idealize.ShloMosaic

/-- The reference's result is the gradient. -/
theorem value (x0 : FVec Ideal S4096x2048 .bf16) (x1 : FVec Ideal S1024x2048 .bf16) : val_main_v4 (F := Ideal) x0 x1 = Cert.ProjDw.sharedDx x0 x1 := by
  funext y
  rw [val_main_v4_apply]
  refine Finset.sum_congr rfl fun k _ => ?_
  rw [val_main_v3_apply, val_main_v1_apply]
  exact congrArg₂ (fun a b : EReal => a * b) (congrArg x0 (eq_ix2 _)) (congrArg x1 (eq_ix2 _))

end Cert.SharedDxReferenceIdeal.Hand

end
-- ==== Proof.RmsBack.lean ====
module

public import Idealize.ShloMosaic.PureOps.Ideal
public import Idealize.ShloMosaic.PureOps.Ideal.Laws

/-! The gradient of a root-mean-square norm at one row, over the extended reals: what the chain rule gives, with the reciprocal root and its derivative apart, is the closed form. No entry need be a real number: the reciprocal root is one, and not negative, whatever the row holds. -/

@[expose] public section

noncomputable section

namespace Rms

open Idealize.ShloMosaic

theorem width : Ideal.ofBits .f32 0x44800000#32 = ((1024 : ℝ) : EReal) := by
  simp [Ideal.ofBits, Ideal.ieee, -EReal.coe_mul]; norm_num

theorem minus_half : Ideal.ofBits .f32 0xBF000000#32 = ((-(1 / 2) : ℝ) : EReal) := by
  simp [Ideal.ofBits, Ideal.ieee, -EReal.coe_mul]; norm_num

theorem eps_pos : ∃ e : ℝ, 0 < e ∧ Ideal.ofBits .f32 0x358637BD#32 = (e : EReal) := by
  refine ⟨_, ?_, (by simp [Ideal.ofBits, Ideal.ieee, -EReal.coe_mul]; rfl)⟩
  norm_num

theorem sq_nonneg (a : EReal) : 0 ≤ a * a := by
  rcases le_total 0 a with h | h
  · exact EReal.mul_nonneg h h
  · rw [← neg_mul_neg]
    exact EReal.mul_nonneg (EReal.neg_nonneg.2 h) (EReal.neg_nonneg.2 h)

theorem div_width (a : EReal) : Ideal.div a (Ideal.ofBits .f32 0x44800000#32) = a * ((1 / 1024 : ℝ) : EReal) := by
  rw [width]
  exact Ideal.div_coe (by norm_num) a

/-- The mean square of a row with the norm's small constant. -/
def meanSq (h : Fin 1024 → EReal) : EReal :=
  Ideal.div (∑ k, h k * h k) (Ideal.ofBits .f32 0x44800000#32) + Ideal.ofBits .f32 0x358637BD#32

theorem meanSq_pos (h : Fin 1024 → EReal) : 0 < meanSq h := by
  obtain ⟨e, he, hE⟩ := eps_pos
  unfold meanSq
  rw [div_width, hE]
  refine lt_of_lt_of_le (EReal.coe_pos.2 he) (le_add_of_nonneg_left (EReal.mul_nonneg (Finset.sum_nonneg fun k _ => sq_nonneg _) ?_))
  exact EReal.coe_nonneg.2 (by norm_num)

theorem root (x : EReal) (hx : 0 < x) : ∃ r : ℝ, 0 ≤ r ∧ Ideal.rsqrt x = r ∧ Ideal.div (Ideal.rsqrt x) x = ((r * r * r : ℝ) : EReal) := by
  induction x with
  | bot => exact absurd hx (by simp)
  | top => exact ⟨0, le_rfl, by simp, by simp [Ideal.div]⟩
  | coe x =>
    have hx' : 0 < x := EReal.coe_pos.1 hx
    have hs : Ideal.rsqrt (x : EReal) = (((Real.sqrt x)⁻¹ : ℝ) : EReal) := by
      rw [Ideal.rsqrt_coe, if_neg (not_lt.2 hx'.le), if_neg hx'.ne']
    refine ⟨(Real.sqrt x)⁻¹, inv_nonneg.2 (Real.sqrt_nonneg x), hs, ?_⟩
    rw [hs, Ideal.div_coe hx'.ne', ← EReal.coe_mul, EReal.coe_eq_coe_iff, mul_assoc, ← mul_inv, Real.mul_self_sqrt hx'.le, one_div]

theorem sum_mul (v : Fin 1024 → EReal) (r : ℝ) (hr : 0 ≤ r) : ∑ k, v k * (r : EReal) = (∑ k, v k) * (r : EReal) := by
  induction (Finset.univ : Finset (Fin 1024)) using Finset.induction_on with
  | empty => simp
  | insert a s ha ih =>
    rw [Finset.sum_insert ha, Finset.sum_insert ha, ih]
    exact (EReal.right_distrib_of_nonneg_of_ne_top (EReal.coe_nonneg.2 hr) (EReal.coe_ne_top r) _ _).symm

/-- The factor that the chain rule gives a row's entries through the reciprocal root. -/
def slope (h y : Fin 1024 → EReal) : EReal :=
  Ideal.div ((∑ k, h k * y k) * (Ideal.ofBits .f32 0xBF000000#32 * Ideal.div (Ideal.rsqrt (meanSq h)) (meanSq h))) (Ideal.ofBits .f32 0x44800000#32)

/-- The gradient of the norm at one entry of a row, with what comes by the residual path. -/
def grad (h y : Fin 1024 → EReal) (d : EReal) (i : Fin 1024) : EReal :=
  d + Ideal.rsqrt (meanSq h) * (y i - h i * Ideal.rsqrt (meanSq h) * Ideal.div (∑ k, y k * (h k * Ideal.rsqrt (meanSq h))) (Ideal.ofBits .f32 0x44800000#32))

theorem grad_eq (h y : Fin 1024 → EReal) (d : EReal) (i : Fin 1024) :
    d + y i * Ideal.rsqrt (meanSq h) + h i * slope h y + slope h y * h i = grad h y d i := by
  obtain ⟨r, hr, hR, hS⟩ := root _ (meanSq_pos h)
  unfold grad slope
  rw [hS, hR, div_width, div_width, minus_half]
  have e1 : ∑ k, y k * (h k * (r : EReal)) = (∑ k, h k * y k) * (r : EReal) := by
    rw [← sum_mul _ r hr]
    exact Finset.sum_congr rfl fun k _ => by rw [← mul_assoc, mul_comm (y k)]
  rw [e1]
  generalize ∑ k, h k * y k = T
  have hc : T * (((-(1 / 2) : ℝ) : EReal) * ((r * r * r : ℝ) : EReal)) * ((1 / 1024 : ℝ) : EReal) = -T * ((r * r * r * (1 / 2048) : ℝ) : EReal) := by
    rw [mul_assoc, ← EReal.coe_mul, ← EReal.coe_mul, EReal.neg_mul T, ← mul_neg, ← EReal.coe_neg]
    exact congrArg (fun a : ℝ => T * (a : EReal)) (by ring)
  rw [hc, EReal.mul_sub_of_nonneg_of_ne_top (EReal.coe_nonneg.2 hr) (EReal.coe_ne_top r), mul_comm (-T * _) (h i), add_assoc, add_assoc]
  refine congrArg (d + ·) ?_
  rw [mul_comm (y i), sub_eq_add_neg]
  refine congrArg ((r : EReal) * y i + ·) ?_
  have hk : (0 : EReal) ≤ ((r * r * r * (1 / 2048) : ℝ) : EReal) := EReal.coe_nonneg.2 (by positivity)
  rw [← mul_assoc, ← EReal.left_distrib_of_nonneg hk hk, ← EReal.coe_add, mul_neg, neg_mul]
  refine congrArg Neg.neg ?_
  have e2 : ((r * r * r * (1 / 2048) + r * r * r * (1 / 2048) : ℝ) : EReal) = (r : EReal) * (r : EReal) * (r : EReal) * ((1 / 1024 : ℝ) : EReal) := by
    rw [← EReal.coe_mul, ← EReal.coe_mul, ← EReal.coe_mul]
    exact congrArg (fun a : ℝ => (a : EReal)) (by ring)
  rw [e2]
  ac_rfl

end Rms

end
-- ==== Proof.FfnDown.lean ====
module

public import proofs.«01_k».proof.Proof.Gen.DownKernelIdeal.Value
public import proofs.«01_k».proof.Proof.Gen.DownReferenceIdeal.Read
public import proofs.«01_k».proof.Proof.RmsBack
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import Idealize.ShloMosaic.Lib.Pipeline.ValueKit

/-! The feed-forward layer's second product, added to the residual path, and the norm of that sum which the next layer reads. -/

@[expose] public section

set_option maxRecDepth 16384

noncomputable section

namespace Cert.DownKernelIdeal.Hand

open Cert.DownKernelIdeal.Gen
open Idealize.ShloMosaic Idealize.ShloMosaic.TcCoe Idealize.SL.Sem
open Idealize.ShloMosaic.Pipeline (Window Dat)

/-- Entry (t, d) of the layer's result. -/
def entry (a : FVec Ideal ⟨3, ![4, 4096, 704]⟩ .bf16) (w : FVec Ideal ⟨3, ![4, 704, 1024]⟩ .bf16) (h : FVec Ideal ⟨2, ![4096, 1024]⟩ .f32)
    (t : Fin 4096) (d : Fin 1024) : EReal :=
  (∑ j : Fin 4, ∑ f : Fin 704, (a (ix3 j t f) * w (ix3 j f d) : EReal)) + h (ix2 t d)

/-- The layer's result. -/
def out (a : FVec Ideal ⟨3, ![4, 4096, 704]⟩ .bf16) (w : FVec Ideal ⟨3, ![4, 704, 1024]⟩ .bf16) (h : FVec Ideal ⟨2, ![4096, 1024]⟩ .f32) :
    FVec Ideal ⟨2, ![4096, 1024]⟩ .f32 :=
  fun y => entry a w h (y 0) (y 1)

/-- A row under the norm with a scale. -/
def normed (x g : Fin 1024 → EReal) (d : Fin 1024) : EReal := x d * Ideal.rsqrt (Rms.meanSq x) * g d

/-- The norm of the layer's result. -/
def outNorm (a : FVec Ideal ⟨3, ![4, 4096, 704]⟩ .bf16) (w : FVec Ideal ⟨3, ![4, 704, 1024]⟩ .bf16) (h : FVec Ideal ⟨2, ![4096, 1024]⟩ .f32)
    (g : FVec Ideal ⟨2, ![1, 1024]⟩ .f32) : FVec Ideal ⟨2, ![4096, 1024]⟩ .bf16 :=
  fun y => normed (entry a w h (y 0)) (fun d => g (ix2 0 d)) (y 1)

/-- The product of two blocks at an entry. -/
def dot (x : Vec Ideal S1x1024x704 .bf16) (w : Vec Ideal S1x704x1024 .bf16) (r : Fin 1024) (d : Fin 1024) : EReal :=
  ∑ f : Fin 704, (x (ix3 0 r f) * w (ix3 0 f d) : EReal)

theorem pay1 (x y : Vec Ideal S1024x1024 .f32) (r d : Fin 1024) : k0_pay1 (F := Ideal) x y (ix2 r d) = (x (ix2 r d) + y (ix2 r d) : EReal) := by
  unfold k0_pay1
  pointwise

theorem pay2 (x y : Vec Ideal S1024x1024 .f32) (g : Vec Ideal S1x1024 .f32) (r d : Fin 1024) :
    k0_pay2 (F := Ideal) x y g (ix2 r d) = normed (fun d => k0_pay1 (F := Ideal) x y (ix2 r d)) (fun d => g (ix2 0 d)) d := by
  unfold normed Rms.meanSq k0_pay2
  pointwise

theorem pay3 (x0 : Vec Ideal S1x1024x704 .bf16) (w0 : Vec Ideal S1x704x1024 .bf16) (x1 : Vec Ideal S1x1024x704 .bf16) (w1 : Vec Ideal S1x704x1024 .bf16)
    (x2 : Vec Ideal S1x1024x704 .bf16) (w2 : Vec Ideal S1x704x1024 .bf16) (x3 : Vec Ideal S1x1024x704 .bf16) (w3 : Vec Ideal S1x704x1024 .bf16) (r d : Fin 1024) :
    k0_pay3 (F := Ideal) x0 w0 x1 w1 x2 w2 x3 w3 (ix2 r d) = dot x0 w0 r d + dot x1 w1 r d + dot x2 w2 r d + dot x3 w3 r d := by
  rw [← zero_add (dot x0 w0 r d)]
  unfold dot k0_pay3
  pointwise

theorem dot_ld (x : Vec Ideal S4x1024x704 .bf16) (w : Vec Ideal S4x704x1024 .bf16) (j : Fin 4) (hx hw) (r d : Fin 1024) :
    dot (View.ld x (Rect.unit ![j.val, 0, 0] ![1, 1024, 704] hx)) (View.ld w (Rect.unit ![j.val, 0, 0] ![1, 704, 1024] hw)) r d
      = ∑ f : Fin 704, (x (ix3 j r f) * w (ix3 j f d) : EReal) :=
  Finset.sum_congr rfl fun f _ => congrArg₂ (fun a b : EReal => a * b)
    (View.ld_unit_apply_of x _ _ hx _ (ix3 j r f) fun b => match b with | ⟨0, _⟩ => rfl | ⟨1, _⟩ => (Nat.zero_add _).symm | ⟨2, _⟩ => (Nat.zero_add _).symm)
    (View.ld_unit_apply_of w _ _ hw _ (ix3 j f d) fun b => match b with | ⟨0, _⟩ => rfl | ⟨1, _⟩ => (Nat.zero_add _).symm | ⟨2, _⟩ => (Nat.zero_add _).symm)

theorem four (x : Vec Ideal S4x1024x704 .bf16) (w : Vec Ideal S4x704x1024 .bf16) (h : Vec Ideal S1024x1024 .f32) (g : Vec Ideal S1x1024 .f32) (r d : Fin 1024) :
    k0_pay4 (F := Ideal) x w h g (ix2 r d) = ∑ j : Fin 4, ∑ f : Fin 704, (x (ix3 j r f) * w (ix3 j f d) : EReal) := by
  unfold k0_pay4
  rw [pay3, Fin.sum_univ_four]
  exact congrArg₂ (· + ·) (congrArg₂ (· + ·) (congrArg₂ (· + ·) (dot_ld x w 0 _ _ r d) (dot_ld x w 1 _ _ r d)) (dot_ld x w 2 _ _ r d)) (dot_ld x w 3 _ _ r d)

/-- What a point adds up at an entry of its block. -/
def part (x : Vec Ideal S4x1024x704 .bf16) (w : Vec Ideal S4x704x1024 .bf16) (h : Vec Ideal S1024x1024 .f32) (r d : Fin 1024) : EReal :=
  (∑ j : Fin 4, ∑ f : Fin 704, (x (ix3 j r f) * w (ix3 j f d) : EReal)) + h (ix2 r d)

theorem sum_at (x : Vec Ideal S4x1024x704 .bf16) (w : Vec Ideal S4x704x1024 .bf16) (h : Vec Ideal S1024x1024 .f32) (g : Vec Ideal S1x1024 .f32) (r d : Fin 1024) :
    k0_pay1 (F := Ideal) (k0_pay4 (F := Ideal) x w h g) (View.ld h r0_8) (ix2 r d) = part x w h r d :=
  (pay1 _ _ r d).trans (congrArg₂ (fun a b : EReal => a + b) (four x w h g r d) (congrFun (View.ld_unit_zero (by decide) _ h) _))

theorem out_at4 (x : Vec Ideal S4x1024x704 .bf16) (w : Vec Ideal S4x704x1024 .bf16) (h : Vec Ideal S1024x1024 .f32) (g : Vec Ideal S1x1024 .f32) (r d : Fin 1024) :
    out0_4 (F := Ideal) x w h g (ix2 r d) = part x w h r d := by
  unfold out0_4
  rw [View.canon_unit_zero (by decide)]
  exact sum_at x w h g r d

theorem out_at5 (x : Vec Ideal S4x1024x704 .bf16) (w : Vec Ideal S4x704x1024 .bf16) (h : Vec Ideal S1024x1024 .f32) (g : Vec Ideal S1x1024 .f32) (r d : Fin 1024) :
    out0_5 (F := Ideal) x w h g (ix2 r d) = normed (part x w h r) (fun d => g (ix2 0 d)) d := by
  unfold out0_5
  rw [View.canon_unit_zero (by decide)]
  refine (pay2 _ _ _ r d).trans ?_
  exact congrArg₂ (fun x g => normed x g d) (funext fun d => sum_at x w h g r d) (funext fun d => congrFun (View.ld_unit_zero (by decide) _ g) _)

theorem idx0 : ∀ t : Fin grid0.N, win0_0.index t = ![0, t.val, 0] := by decide +kernel
theorem idx1 : ∀ t : Fin grid0.N, win0_1.index t = ![0, 0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel

variable (m : (ℓ : Loc nD τ sig) → Buf (Elt Ideal) ℓ) (c : Dev nD)

abbrev a0 : FVec Ideal S4x4096x704 .bf16 := m ((c.tc : Thread nD τ).loc main_arg0)
abbrev a1 : FVec Ideal S4x704x1024 .bf16 := m ((c.tc : Thread nD τ).loc main_arg1)
abbrev a2 : FVec Ideal S4096x1024 .f32 := m ((c.tc : Thread nD τ).loc main_arg2)
abbrev a3 : FVec Ideal S1x1024 .f32 := m ((c.tc : Thread nD τ).loc main_arg3)

theorem blk0 (t : Fin grid0.N) (j : Fin 4) (r : Fin 1024) (f : Fin 704) (R : Fin 4096) (hR : R.val = t.val * 1024 + r.val) :
    iblk m c 0 t (ix3 j r f) = a0 m c (ix3 j R f) := by
  refine congrArg (a0 m c) (funext fun b => Fin.ext ?_)
  match b with
  | ⟨0, _⟩ => exact (Window.rect_emb_val win0_0 t (ix3 j r f) ⟨0, (by decide : 0 < 3)⟩ rfl).trans (by rw [idx0 t]; show 0 * 4 + j.val = j.val; omega)
  | ⟨1, _⟩ => exact (Window.rect_emb_val win0_0 t (ix3 j r f) ⟨1, (by decide : 1 < 3)⟩ rfl).trans (by rw [idx0 t]; exact hR.symm)
  | ⟨2, _⟩ => exact (Window.rect_emb_val win0_0 t (ix3 j r f) ⟨2, (by decide : 2 < 3)⟩ rfl).trans (by rw [idx0 t]; show 0 * 704 + f.val = f.val; omega)

theorem blk1 (t : Fin grid0.N) (j : Fin 4) (f : Fin 704) (d : Fin 1024) : iblk m c 1 t (ix3 j f d) = a1 m c (ix3 j f d) := by
  refine congrArg (a1 m c) (funext fun b => Fin.ext ?_)
  match b with
  | ⟨0, _⟩ => exact (Window.rect_emb_val win0_1 t (ix3 j f d) ⟨0, (by decide : 0 < 3)⟩ rfl).trans (by rw [idx1 t]; show 0 * 4 + j.val = j.val; omega)
  | ⟨1, _⟩ => exact (Window.rect_emb_val win0_1 t (ix3 j f d) ⟨1, (by decide : 1 < 3)⟩ rfl).trans (by rw [idx1 t]; show 0 * 704 + f.val = f.val; omega)
  | ⟨2, _⟩ => exact (Window.rect_emb_val win0_1 t (ix3 j f d) ⟨2, (by decide : 2 < 3)⟩ rfl).trans (by rw [idx1 t]; show 0 * 1024 + d.val = d.val; omega)

theorem blk2 (t : Fin grid0.N) (r d : Fin 1024) (R : Fin 4096) (hR : R.val = t.val * 1024 + r.val) : iblk m c 2 t (ix2 r d) = a2 m c (ix2 R d) := by
  refine congrArg (a2 m c) (funext fun b => Fin.ext ?_)
  match b with
  | ⟨0, _⟩ => exact (Window.rect_emb_val win0_2 t (ix2 r d) ⟨0, (by decide : 0 < 2)⟩ rfl).trans (by rw [idx2 t]; exact hR.symm)
  | ⟨1, _⟩ => exact (Window.rect_emb_val win0_2 t (ix2 r d) ⟨1, (by decide : 1 < 2)⟩ rfl).trans (by rw [idx2 t]; show 0 * 1024 + d.val = d.val; omega)

theorem blk3 (t : Fin grid0.N) (d : Fin 1024) : iblk m c 3 t (ix2 0 d) = a3 m c (ix2 0 d) := by
  refine congrArg (a3 m c) (funext fun b => Fin.ext ?_)
  match b with
  | ⟨0, _⟩ => exact (Window.rect_emb_val win0_3 t (ix2 0 d) ⟨0, (by decide : 0 < 2)⟩ rfl).trans (by rw [idx3 t]; rfl)
  | ⟨1, _⟩ => exact (Window.rect_emb_val win0_3 t (ix2 0 d) ⟨1, (by decide : 1 < 2)⟩ rfl).trans (by rw [idx3 t]; show 0 * 1024 + d.val = d.val; omega)

theorem part_eq (t : Fin grid0.N) (r d : Fin 1024) (R : Fin 4096) (hR : R.val = t.val * 1024 + r.val) :
    part (iblk m c 0 t) (iblk m c 1 t) (iblk m c 2 t) r d = entry (a0 m c) (a1 m c) (a2 m c) R d :=
  congrArg₂ (fun a b : EReal => a + b) (Finset.sum_congr rfl fun j _ => Finset.sum_congr rfl fun f _ =>
    congrArg₂ (fun a b : EReal => a * b) (blk0 m c t j r f R hR) (blk1 m c t j f d)) (blk2 m c t r d R hR)

theorem block4 (t : Fin grid0.N) (r d : Fin 1024) :
    out0_4 (F := Ideal) (iblk m c 0 t) (iblk m c 1 t) (iblk m c 2 t) (iblk m c 3 t) (ix2 r d) = out (a0 m c) (a1 m c) (a2 m c) (((cfg0.win 4).blk t).view.emb (ix2 r d)) := by
  have h0 : (((cfg0.win 4).blk t).view.emb (ix2 r d) 0).val = t.val * 1024 + r.val :=
    (Window.rect_emb_val win0_4 t (ix2 r d) ⟨0, (by decide : 0 < 2)⟩ rfl).trans (by rw [idx4 t]; rfl)
  have h1 : ((cfg0.win 4).blk t).view.emb (ix2 r d) 1 = d := Fin.ext
    ((Window.rect_emb_val win0_4 t (ix2 r d) ⟨1, (by decide : 1 < 2)⟩ rfl).trans (by rw [idx4 t]; show 0 * 1024 + d.val = _; omega))
  exact (out_at4 _ _ _ _ r d).trans ((part_eq m c t r d _ h0).trans (congrArg (entry (a0 m c) (a1 m c) (a2 m c) _) h1.symm))

theorem block5 (t : Fin grid0.N) (r d : Fin 1024) :
    out0_5 (F := Ideal) (iblk m c 0 t) (iblk m c 1 t) (iblk m c 2 t) (iblk m c 3 t) (ix2 r d)
      = outNorm (a0 m c) (a1 m c) (a2 m c) (a3 m c) (((cfg0.win 5).blk t).view.emb (ix2 r d)) := by
  have h0 : (((cfg0.win 5).blk t).view.emb (ix2 r d) 0).val = t.val * 1024 + r.val :=
    (Window.rect_emb_val win0_5 t (ix2 r d) ⟨0, (by decide : 0 < 2)⟩ rfl).trans (by rw [idx5 t]; rfl)
  have h1 : ((cfg0.win 5).blk t).view.emb (ix2 r d) 1 = d := Fin.ext
    ((Window.rect_emb_val win0_5 t (ix2 r d) ⟨1, (by decide : 1 < 2)⟩ rfl).trans (by rw [idx5 t]; show 0 * 1024 + d.val = _; omega))
  refine (out_at5 _ _ _ _ r d).trans ?_
  exact (congrArg₂ (fun x g => normed x g d) (funext fun d => part_eq m c t r d _ h0) (funext fun d => blk3 m c t d)).trans
    (congrArg (normed (entry (a0 m c) (a1 m c) (a2 m c) _) (fun d => a3 m c (ix2 0 d))) h1.symm)

theorem flushed4 (t : Fin grid0.N) : (dats m 0 c).flushed 4 t = ((cfg0.win 4).blk t).view.read (Elt Ideal) (out (a0 m c) (a1 m c) (a2 m c)) := by
  rw [Value.flushed4]
  funext y
  rw [← (ix2_eta y : (ix2 (y 0) (y 1) : S1024x1024.Idx) = y)]
  exact block4 m c t _ _

theorem flushed5 (t : Fin grid0.N) : (dats m 0 c).flushed 5 t = ((cfg0.win 5).blk t).view.read (Elt Ideal) (outNorm (a0 m c) (a1 m c) (a2 m c) (a3 m c)) := by
  rw [Value.flushed5]
  funext y
  rw [← (ix2_eta y : (ix2 (y 0) (y 1) : S1024x1024.Idx) = y)]
  exact block5 m c t _ _

/-- The point whose block holds a row. -/
def point (i : S4096x1024.Idx) : Fin grid0.N := ⟨(i 0).val / 1024, lt_of_lt_of_eq (by have : (i 0).val < 4096 := (i 0).isLt; omega) N_0.symm⟩

theorem covered4 (i : S4096x1024.Idx) : ∃ t : Fin cfg0.N, (cfg0.win 4).flush t = true ∧ i ∈ ((cfg0.win 4).blk t).view.set := by
  have h1 : (i 1).val < 1024 := (i 1).isLt
  refine ⟨point i, flush0_4 _, ?_⟩
  show i ∈ ((View.whole main_v0_0).slice (win0_4.rect (point i))).set
  rw [View.set_slice_whole, Rect.mem_set_unit]
  intro a
  match a with
  | ⟨0, _⟩ => show win0_4.index (point i) 0 * 1024 ≤ (i 0).val ∧ (i 0).val < win0_4.index (point i) 0 * 1024 + 1024; rw [idx4]; show (i 0).val / 1024 * 1024 ≤ _ ∧ _ < (i 0).val / 1024 * 1024 + 1024; omega
  | ⟨1, _⟩ => show win0_4.index (point i) 1 * 1024 ≤ (i 1).val ∧ (i 1).val < win0_4.index (point i) 1 * 1024 + 1024; rw [idx4]; show 0 * 1024 ≤ _ ∧ _ < 0 * 1024 + 1024; omega

theorem covered5 (i : S4096x1024.Idx) : ∃ t : Fin cfg0.N, (cfg0.win 5).flush t = true ∧ i ∈ ((cfg0.win 5).blk t).view.set := by
  have h1 : (i 1).val < 1024 := (i 1).isLt
  refine ⟨point i, flush0_5 _, ?_⟩
  show i ∈ ((View.whole main_v0_1).slice (win0_5.rect (point i))).set
  rw [View.set_slice_whole, Rect.mem_set_unit]
  intro a
  match a with
  | ⟨0, _⟩ => show win0_5.index (point i) 0 * 1024 ≤ (i 0).val ∧ (i 0).val < win0_5.index (point i) 0 * 1024 + 1024; rw [idx5]; show (i 0).val / 1024 * 1024 ≤ _ ∧ _ < (i 0).val / 1024 * 1024 + 1024; omega
  | ⟨1, _⟩ => show win0_5.index (point i) 1 * 1024 ≤ (i 1).val ∧ (i 1).val < win0_5.index (point i) 1 * 1024 + 1024; rw [idx5]; show 0 * 1024 ≤ _ ∧ _ < 0 * 1024 + 1024; omega

/-- The launch's first result is the layer's. -/
theorem final4 : (dats m 0 c).arrAt 4 cfg0.N = out (a0 m c) (a1 m c) (a2 m c) :=
  (dats m 0 c).arrAt_eq_of_cover 4 _ (fun t _ => flushed4 m c t) covered4

/-- The launch's second result is its norm. -/
theorem final5 : (dats m 0 c).arrAt 5 cfg0.N = outNorm (a0 m c) (a1 m c) (a2 m c) (a3 m c) :=
  (dats m 0 c).arrAt_eq_of_cover 5 _ (fun t _ => flushed5 m c t) covered5

end Cert.DownKernelIdeal.Hand

namespace Cert.DownReferenceIdeal.Hand

open Cert.DownReferenceIdeal Cert.DownReferenceIdeal.Gen Cert.DownReferenceIdeal.Read
open Cert.DownKernelIdeal.Hand (entry out normed outNorm)
open Idealize.ShloMosaic

variable (x0 : FVec Ideal S4x4096x704 .bf16) (x1 : FVec Ideal S4x704x1024 .bf16) (x2 : FVec Ideal S4096x1024 .f32) (x3 : FVec Ideal S1x1024 .f32)

theorem v5 (t : Fin 4096) (d : Fin 1024) : val_main_v5 (F := Ideal) x0 x1 (ix2 t d) = ∑ j : Fin 4, ∑ f : Fin 704, (x0 (ix3 j t f) * x1 (ix3 j f d) : EReal) := by
  rw [val_main_v5_apply]
  refine (Fin.sum_mul_add_congr fun j f hl => ?_).symm
  rw [val_main_v4_apply, val_main_v3_apply, val_main_v2_apply, val_main_v1_apply, val_main_v0_apply]
  have hj := j.isLt
  have hf := f.isLt
  have ht := t.isLt
  have hd := d.isLt
  refine congrArg₂ (fun a b : EReal => a * b) (congrArg x0 (funext fun b => Fin.ext ?_)) (congrArg x1 (funext fun b => Fin.ext ?_))
  · match b with
    | ⟨0, _⟩ => show j.val = (t.val * 2816 + (j.val * 704 + f.val)) / 704 % 4; omega
    | ⟨1, _⟩ => show t.val = (t.val * 2816 + (j.val * 704 + f.val)) / 2816; omega
    | ⟨2, _⟩ => show f.val = (t.val * 2816 + (j.val * 704 + f.val)) % 704; omega
  · match b with
    | ⟨0, _⟩ => show j.val = ((j.val * 704 + f.val) * 1024 + d.val) / 720896; omega
    | ⟨1, _⟩ => show f.val = ((j.val * 704 + f.val) * 1024 + d.val) / 1024 % 704; omega
    | ⟨2, _⟩ => show d.val = ((j.val * 704 + f.val) * 1024 + d.val) % 1024; omega

theorem v6 (t : Fin 4096) (d : Fin 1024) : val_main_v6 (F := Ideal) x0 x1 x2 (ix2 t d) = entry x0 x1 x2 t d := by
  rw [val_main_v6_apply, v5]
  exact add_comm _ _

/-- The reference's first result is the layer's. -/
theorem value6 : val_main_v6 (F := Ideal) x0 x1 x2 = out x0 x1 x2 := by
  funext y
  rw [← (ix2_eta y : (ix2 (y 0) (y 1) : S4096x1024.Idx) = y)]
  exact v6 x0 x1 x2 _ _

theorem v15 (t : Fin 4096) : val_main_v15 (F := Ideal) x0 x1 x2 (ix2 t 0) = Ideal.rsqrt (Rms.meanSq (entry x0 x1 x2 t)) := by
  rw [val_main_v15_apply, val_main_v14_apply, val_main_v13_apply, val_main_cst_1_apply, val_main_v12_apply, val_main_v11_apply, val_main_cst_0_apply, val_main_v10_apply, val_main_v9_apply]
  refine congrArg (fun a => Ideal.rsqrt (Ideal.div a _ + _)) ((congrArg (· + _) (Ideal.ofBits_zero .f32)).trans ((zero_add _).trans (Finset.sum_congr rfl fun k _ => ?_)))
  rw [val_main_v8_apply, ← ix2_eta (idx_main_v9 _ k)]
  exact congrArg (fun a => (a * a : EReal)) (v6 x0 x1 x2 t k)

theorem v19 (t : Fin 4096) (d : Fin 1024) : val_main_v19 (F := Ideal) x3 (ix2 t d) = x3 (ix2 0 d) := by
  rw [val_main_v19_apply, val_main_v18_apply, val_main_v7_apply]
  refine congrArg x3 (funext fun b => Fin.ext ?_)
  match b with
  | ⟨0, _⟩ => rfl
  | ⟨1, _⟩ => exact Nat.mod_eq_of_lt d.isLt

theorem v21 (t : Fin 4096) (d : Fin 1024) : val_main_v21 (F := Ideal) x0 x1 x2 x3 (ix2 t d) = outNorm x0 x1 x2 x3 (ix2 t d) := by
  rw [val_main_v21_apply, val_main_v20_apply, v19, val_main_v17_apply, val_main_v16_apply, v6, ← ix2_eta (idx_main_v16 _)]
  exact congrArg (fun r : EReal => (entry x0 x1 x2 t d * r * x3 (ix2 0 d) : EReal)) (v15 x0 x1 x2 t)

/-- The reference's second result is its norm. -/
theorem value21 : val_main_v21 (F := Ideal) x0 x1 x2 x3 = outNorm x0 x1 x2 x3 := by
  funext y
  rw [← (ix2_eta y : (ix2 (y 0) (y 1) : S4096x1024.Idx) = y)]
  exact v21 x0 x1 x2 x3 _ _

end Cert.DownReferenceIdeal.Hand

end
-- ==== Proof.ProjOut.lean ====
module

public import proofs.«01_k».proof.Proof.Gen.OutKernelIdeal.Value
public import proofs.«01_k».proof.Proof.Gen.OutReferenceIdeal.Read
public import proofs.«01_k».proof.Proof.FfnDown
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import Idealize.ShloMosaic.Lib.Pipeline.ValueKit

/-! The attention's output projection, added to the residual path, and the norm of that sum which the feed-forward layer reads. -/

@[expose] public section

set_option maxRecDepth 16384

noncomputable section

namespace Cert.OutKernelIdeal.Hand

open Cert.OutKernelIdeal.Gen
open Cert.DownKernelIdeal.Hand (normed)
open Idealize.ShloMosaic Idealize.ShloMosaic.TcCoe Idealize.SL.Sem
open Idealize.ShloMosaic.Pipeline (Window Dat)

/-- Entry (t, d) of the projection, added to the residual path. -/
def entry (a : FVec Ideal ⟨2, ![4096, 1024]⟩ .bf16) (w : FVec Ideal ⟨2, ![1024, 1024]⟩ .bf16) (h : FVec Ideal ⟨2, ![4096, 1024]⟩ .f32)
    (t : Fin 4096) (d : Fin 1024) : EReal :=
  (∑ k : Fin 1024, (a (ix2 t k) * w (ix2 k d) : EReal)) + h (ix2 t d)

/-- The projection, added to the residual path. -/
def out (a : FVec Ideal ⟨2, ![4096, 1024]⟩ .bf16) (w : FVec Ideal ⟨2, ![1024, 1024]⟩ .bf16) (h : FVec Ideal ⟨2, ![4096, 1024]⟩ .f32) :
    FVec Ideal ⟨2, ![4096, 1024]⟩ .f32 :=
  fun y => entry a w h (y 0) (y 1)

/-- The norm of that sum. -/
def outNorm (a : FVec Ideal ⟨2, ![4096, 1024]⟩ .bf16) (w : FVec Ideal ⟨2, ![1024, 1024]⟩ .bf16) (h : FVec Ideal ⟨2, ![4096, 1024]⟩ .f32)
    (g : FVec Ideal ⟨2, ![1, 1024]⟩ .f32) : FVec Ideal ⟨2, ![4096, 1024]⟩ .bf16 :=
  fun y => normed (entry a w h (y 0)) (fun d => g (ix2 0 d)) (y 1)

/-- What a point forms at an entry of its block. -/
def part (x w : Vec Ideal S1024x1024 .bf16) (h : Vec Ideal S1024x1024 .f32) (r d : Fin 1024) : EReal :=
  (∑ k : Fin 1024, (x (ix2 r k) * w (ix2 k d) : EReal)) + h (ix2 r d)

theorem pay1 (x w : Vec Ideal S1024x1024 .bf16) (h : Vec Ideal S1024x1024 .f32) (r d : Fin 1024) : k0_pay1 (F := Ideal) x w h (ix2 r d) = part x w h r d := by
  unfold part k0_pay1
  pointwise

theorem pay2 (x w : Vec Ideal S1024x1024 .bf16) (h : Vec Ideal S1024x1024 .f32) (g : Vec Ideal S1x1024 .f32) (r d : Fin 1024) :
    k0_pay2 (F := Ideal) x w h g (ix2 r d) = normed (fun d => k0_pay1 (F := Ideal) x w h (ix2 r d)) (fun d => g (ix2 0 d)) d := by
  unfold normed Rms.meanSq k0_pay2
  pointwise

theorem whole (x : Vec Ideal S1024x1024 .bf16) : View.ld x r0_0 = x := View.ld_unit_zero (by decide) _ x

theorem whole_sum (x : Vec Ideal S1024x1024 .f32) : View.ld x r0_0 = x := View.ld_unit_zero (by decide) _ x

theorem whole_scale (x : Vec Ideal S1x1024 .f32) : View.ld x r0_1 = x := View.ld_unit_zero (by decide) _ x

theorem out_at4 (x w : Vec Ideal S1024x1024 .bf16) (h : Vec Ideal S1024x1024 .f32) (g : Vec Ideal S1x1024 .f32) (r d : Fin 1024) :
    out0_4 (F := Ideal) x w h g (ix2 r d) = part x w h r d := by
  unfold out0_4
  rw [View.canon_unit_zero (by decide)]
  rw [whole x, whole w, whole_sum h]
  exact pay1 x w h r d

theorem out_at5 (x w : Vec Ideal S1024x1024 .bf16) (h : Vec Ideal S1024x1024 .f32) (g : Vec Ideal S1x1024 .f32) (r d : Fin 1024) :
    out0_5 (F := Ideal) x w h g (ix2 r d) = normed (part x w h r) (fun d => g (ix2 0 d)) d := by
  unfold out0_5
  rw [View.canon_unit_zero (by decide)]
  rw [whole x, whole w, whole_sum h, whole_scale g]
  exact (pay2 x w h g r d).trans (congrArg (fun x => normed x _ d) (funext fun d => pay1 x w h r d))

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel

variable (m : (ℓ : Loc nD τ sig) → Buf (Elt Ideal) ℓ) (c : Dev nD)

abbrev a0 : FVec Ideal S4096x1024 .bf16 := m ((c.tc : Thread nD τ).loc main_arg0)
abbrev a1 : FVec Ideal S1024x1024 .bf16 := m ((c.tc : Thread nD τ).loc main_arg1)
abbrev a2 : FVec Ideal S4096x1024 .f32 := m ((c.tc : Thread nD τ).loc main_arg2)
abbrev a3 : FVec Ideal S1x1024 .f32 := m ((c.tc : Thread nD τ).loc main_arg3)

theorem blk0 (t : Fin grid0.N) (r k : Fin 1024) (R : Fin 4096) (hR : R.val = t.val * 1024 + r.val) : iblk m c 0 t (ix2 r k) = a0 m c (ix2 R k) := by
  refine congrArg (a0 m c) (funext fun b => Fin.ext ?_)
  match b with
  | ⟨0, _⟩ => exact (Window.rect_emb_val win0_0 t (ix2 r k) ⟨0, (by decide : 0 < 2)⟩ rfl).trans (by rw [idx0 t]; exact hR.symm)
  | ⟨1, _⟩ => exact (Window.rect_emb_val win0_0 t (ix2 r k) ⟨1, (by decide : 1 < 2)⟩ rfl).trans (by rw [idx0 t]; show 0 * 1024 + k.val = k.val; omega)

theorem blk1 (t : Fin grid0.N) (k d : Fin 1024) : iblk m c 1 t (ix2 k d) = a1 m c (ix2 k d) := by
  refine congrArg (a1 m c) (funext fun b => Fin.ext ?_)
  match b with
  | ⟨0, _⟩ => exact (Window.rect_emb_val win0_1 t (ix2 k d) ⟨0, (by decide : 0 < 2)⟩ rfl).trans (by rw [idx1 t]; show 0 * 1024 + k.val = k.val; omega)
  | ⟨1, _⟩ => exact (Window.rect_emb_val win0_1 t (ix2 k d) ⟨1, (by decide : 1 < 2)⟩ rfl).trans (by rw [idx1 t]; show 0 * 1024 + d.val = d.val; omega)

theorem blk2 (t : Fin grid0.N) (r d : Fin 1024) (R : Fin 4096) (hR : R.val = t.val * 1024 + r.val) : iblk m c 2 t (ix2 r d) = a2 m c (ix2 R d) := by
  refine congrArg (a2 m c) (funext fun b => Fin.ext ?_)
  match b with
  | ⟨0, _⟩ => exact (Window.rect_emb_val win0_2 t (ix2 r d) ⟨0, (by decide : 0 < 2)⟩ rfl).trans (by rw [idx2 t]; exact hR.symm)
  | ⟨1, _⟩ => exact (Window.rect_emb_val win0_2 t (ix2 r d) ⟨1, (by decide : 1 < 2)⟩ rfl).trans (by rw [idx2 t]; show 0 * 1024 + d.val = d.val; omega)

theorem blk3 (t : Fin grid0.N) (d : Fin 1024) : iblk m c 3 t (ix2 0 d) = a3 m c (ix2 0 d) := by
  refine congrArg (a3 m c) (funext fun b => Fin.ext ?_)
  match b with
  | ⟨0, _⟩ => exact (Window.rect_emb_val win0_3 t (ix2 0 d) ⟨0, (by decide : 0 < 2)⟩ rfl).trans (by rw [idx3 t]; rfl)
  | ⟨1, _⟩ => exact (Window.rect_emb_val win0_3 t (ix2 0 d) ⟨1, (by decide : 1 < 2)⟩ rfl).trans (by rw [idx3 t]; show 0 * 1024 + d.val = d.val; omega)

theorem part_eq (t : Fin grid0.N) (r d : Fin 1024) (R : Fin 4096) (hR : R.val = t.val * 1024 + r.val) :
    part (iblk m c 0 t) (iblk m c 1 t) (iblk m c 2 t) r d = entry (a0 m c) (a1 m c) (a2 m c) R d :=
  congrArg₂ (fun a b : EReal => a + b) (Finset.sum_congr rfl fun k _ =>
    congrArg₂ (fun a b : EReal => a * b) (blk0 m c t r k R hR) (blk1 m c t k d)) (blk2 m c t r d R hR)

theorem block4 (t : Fin grid0.N) (r d : Fin 1024) :
    out0_4 (F := Ideal) (iblk m c 0 t) (iblk m c 1 t) (iblk m c 2 t) (iblk m c 3 t) (ix2 r d) = out (a0 m c) (a1 m c) (a2 m c) (((cfg0.win 4).blk t).view.emb (ix2 r d)) := by
  have h0 : (((cfg0.win 4).blk t).view.emb (ix2 r d) 0).val = t.val * 1024 + r.val :=
    (Window.rect_emb_val win0_4 t (ix2 r d) ⟨0, (by decide : 0 < 2)⟩ rfl).trans (by rw [idx4 t]; rfl)
  have h1 : ((cfg0.win 4).blk t).view.emb (ix2 r d) 1 = d := Fin.ext
    ((Window.rect_emb_val win0_4 t (ix2 r d) ⟨1, (by decide : 1 < 2)⟩ rfl).trans (by rw [idx4 t]; show 0 * 1024 + d.val = _; omega))
  exact (out_at4 _ _ _ _ r d).trans ((part_eq m c t r d _ h0).trans (congrArg (entry (a0 m c) (a1 m c) (a2 m c) _) h1.symm))

theorem block5 (t : Fin grid0.N) (r d : Fin 1024) :
    out0_5 (F := Ideal) (iblk m c 0 t) (iblk m c 1 t) (iblk m c 2 t) (iblk m c 3 t) (ix2 r d)
      = outNorm (a0 m c) (a1 m c) (a2 m c) (a3 m c) (((cfg0.win 5).blk t).view.emb (ix2 r d)) := by
  have h0 : (((cfg0.win 5).blk t).view.emb (ix2 r d) 0).val = t.val * 1024 + r.val :=
    (Window.rect_emb_val win0_5 t (ix2 r d) ⟨0, (by decide : 0 < 2)⟩ rfl).trans (by rw [idx5 t]; rfl)
  have h1 : ((cfg0.win 5).blk t).view.emb (ix2 r d) 1 = d := Fin.ext
    ((Window.rect_emb_val win0_5 t (ix2 r d) ⟨1, (by decide : 1 < 2)⟩ rfl).trans (by rw [idx5 t]; show 0 * 1024 + d.val = _; omega))
  refine (out_at5 _ _ _ _ r d).trans ?_
  exact (congrArg₂ (fun x g => normed x g d) (funext fun d => part_eq m c t r d _ h0) (funext fun d => blk3 m c t d)).trans
    (congrArg (normed (entry (a0 m c) (a1 m c) (a2 m c) _) (fun d => a3 m c (ix2 0 d))) h1.symm)

theorem flushed4 (t : Fin grid0.N) : (dats m 0 c).flushed 4 t = ((cfg0.win 4).blk t).view.read (Elt Ideal) (out (a0 m c) (a1 m c) (a2 m c)) := by
  rw [Value.flushed4]
  funext y
  rw [← (ix2_eta y : (ix2 (y 0) (y 1) : S1024x1024.Idx) = y)]
  exact block4 m c t _ _

theorem flushed5 (t : Fin grid0.N) : (dats m 0 c).flushed 5 t = ((cfg0.win 5).blk t).view.read (Elt Ideal) (outNorm (a0 m c) (a1 m c) (a2 m c) (a3 m c)) := by
  rw [Value.flushed5]
  funext y
  rw [← (ix2_eta y : (ix2 (y 0) (y 1) : S1024x1024.Idx) = y)]
  exact block5 m c t _ _

/-- The point whose block holds a row. -/
def point (i : S4096x1024.Idx) : Fin grid0.N := ⟨(i 0).val / 1024, lt_of_lt_of_eq (by have : (i 0).val < 4096 := (i 0).isLt; omega) N_0.symm⟩

theorem covered4 (i : S4096x1024.Idx) : ∃ t : Fin cfg0.N, (cfg0.win 4).flush t = true ∧ i ∈ ((cfg0.win 4).blk t).view.set := by
  have h1 : (i 1).val < 1024 := (i 1).isLt
  refine ⟨point i, flush0_4 _, ?_⟩
  show i ∈ ((View.whole main_v0_0).slice (win0_4.rect (point i))).set
  rw [View.set_slice_whole, Rect.mem_set_unit]
  intro a
  match a with
  | ⟨0, _⟩ => show win0_4.index (point i) 0 * 1024 ≤ (i 0).val ∧ (i 0).val < win0_4.index (point i) 0 * 1024 + 1024; rw [idx4]; show (i 0).val / 1024 * 1024 ≤ _ ∧ _ < (i 0).val / 1024 * 1024 + 1024; omega
  | ⟨1, _⟩ => show win0_4.index (point i) 1 * 1024 ≤ (i 1).val ∧ (i 1).val < win0_4.index (point i) 1 * 1024 + 1024; rw [idx4]; show 0 * 1024 ≤ _ ∧ _ < 0 * 1024 + 1024; omega

theorem covered5 (i : S4096x1024.Idx) : ∃ t : Fin cfg0.N, (cfg0.win 5).flush t = true ∧ i ∈ ((cfg0.win 5).blk t).view.set := by
  have h1 : (i 1).val < 1024 := (i 1).isLt
  refine ⟨point i, flush0_5 _, ?_⟩
  show i ∈ ((View.whole main_v0_1).slice (win0_5.rect (point i))).set
  rw [View.set_slice_whole, Rect.mem_set_unit]
  intro a
  match a with
  | ⟨0, _⟩ => show win0_5.index (point i) 0 * 1024 ≤ (i 0).val ∧ (i 0).val < win0_5.index (point i) 0 * 1024 + 1024; rw [idx5]; show (i 0).val / 1024 * 1024 ≤ _ ∧ _ < (i 0).val / 1024 * 1024 + 1024; omega
  | ⟨1, _⟩ => show win0_5.index (point i) 1 * 1024 ≤ (i 1).val ∧ (i 1).val < win0_5.index (point i) 1 * 1024 + 1024; rw [idx5]; show 0 * 1024 ≤ _ ∧ _ < 0 * 1024 + 1024; omega

/-- The launch's first result is the projection's sum. -/
theorem final4 : (dats m 0 c).arrAt 4 cfg0.N = out (a0 m c) (a1 m c) (a2 m c) :=
  (dats m 0 c).arrAt_eq_of_cover 4 _ (fun t _ => flushed4 m c t) covered4

/-- The launch's second result is its norm. -/
theorem final5 : (dats m 0 c).arrAt 5 cfg0.N = outNorm (a0 m c) (a1 m c) (a2 m c) (a3 m c) :=
  (dats m 0 c).arrAt_eq_of_cover 5 _ (fun t _ => flushed5 m c t) covered5

end Cert.OutKernelIdeal.Hand

namespace Cert.OutReferenceIdeal.Hand

open Cert.OutReferenceIdeal Cert.OutReferenceIdeal.Gen Cert.OutReferenceIdeal.Read
open Cert.OutKernelIdeal.Hand (entry out outNorm)
open Idealize.ShloMosaic

variable (x0 : FVec Ideal S4096x1024 .bf16) (x1 : FVec Ideal S1024x1024 .bf16) (x2 : FVec Ideal S4096x1024 .f32) (x3 : FVec Ideal S1x1024 .f32)

theorem v2 (t : Fin 4096) (d : Fin 1024) : val_main_v2 (F := Ideal) x0 x1 (ix2 t d) = ∑ k : Fin 1024, (x0 (ix2 t k) * x1 (ix2 k d) : EReal) := by
  rw [val_main_v2_apply]
  refine Finset.sum_congr rfl fun k _ => ?_
  rw [val_main_v0_apply, val_main_v1_apply]
  exact congrArg₂ (fun i j => (x0 i * x1 j : EReal)) (ix2_eta _).symm (ix2_eta _).symm

theorem v3 (t : Fin 4096) (d : Fin 1024) : val_main_v3 (F := Ideal) x0 x1 x2 (ix2 t d) = entry x0 x1 x2 t d := by
  rw [val_main_v3_apply, v2]
  exact add_comm _ _

/-- The reference's first result is the projection's sum. -/
theorem value3 : val_main_v3 (F := Ideal) x0 x1 x2 = out x0 x1 x2 := by
  funext y
  rw [← (ix2_eta y : (ix2 (y 0) (y 1) : S4096x1024.Idx) = y)]
  exact v3 x0 x1 x2 _ _

theorem v12 (t : Fin 4096) : val_main_v12 (F := Ideal) x0 x1 x2 (ix2 t 0) = Ideal.rsqrt (Rms.meanSq (entry x0 x1 x2 t)) := by
  rw [val_main_v12_apply, val_main_v11_apply, val_main_v10_apply, val_main_cst_1_apply, val_main_v9_apply, val_main_v8_apply, val_main_cst_0_apply, val_main_v7_apply, val_main_v6_apply]
  refine congrArg (fun a => Ideal.rsqrt (Ideal.div a _ + _)) ((congrArg (· + _) (Ideal.ofBits_zero .f32)).trans ((zero_add _).trans (Finset.sum_congr rfl fun k _ => ?_)))
  rw [val_main_v5_apply, ← ix2_eta (idx_main_v6 _ k)]
  exact congrArg (fun a => (a * a : EReal)) (v3 x0 x1 x2 t k)

theorem v16 (t : Fin 4096) (d : Fin 1024) : val_main_v16 (F := Ideal) x3 (ix2 t d) = x3 (ix2 0 d) := by
  rw [val_main_v16_apply, val_main_v15_apply, val_main_v4_apply]
  refine congrArg x3 (funext fun b => Fin.ext ?_)
  match b with
  | ⟨0, _⟩ => rfl
  | ⟨1, _⟩ => exact Nat.mod_eq_of_lt d.isLt

theorem v18 (t : Fin 4096) (d : Fin 1024) : val_main_v18 (F := Ideal) x0 x1 x2 x3 (ix2 t d) = outNorm x0 x1 x2 x3 (ix2 t d) := by
  rw [val_main_v18_apply, val_main_v17_apply, v16, val_main_v14_apply, val_main_v13_apply, v3, ← ix2_eta (idx_main_v13 _)]
  exact congrArg (fun r : EReal => (entry x0 x1 x2 t d * r * x3 (ix2 0 d) : EReal)) (v12 x0 x1 x2 t)

/-- The reference's second result is its norm. -/
theorem value18 : val_main_v18 (F := Ideal) x0 x1 x2 x3 = outNorm x0 x1 x2 x3 := by
  funext y
  rw [← (ix2_eta y : (ix2 (y 0) (y 1) : S4096x1024.Idx) = y)]
  exact v18 x0 x1 x2 x3 _ _

end Cert.OutReferenceIdeal.Hand

end
-- ==== Proof.QueryDx.lean ====
module

public import proofs.«01_k».proof.Proof.Gen.QueryDxKernelIdeal.Value
public import proofs.«01_k».proof.Proof.Gen.QueryDxReferenceIdeal.Read
public import proofs.«01_k».proof.Proof.RmsBack
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import Idealize.ShloMosaic.Lib.Pipeline.ValueKit
public import Idealize.ShloMosaic.Lib.Pipeline.ReadBack

/-! The gradients that the queries' projection gives the norm before it: of the norm's operand, with what comes by the residual path, and of its scale. -/

@[expose] public section

set_option maxRecDepth 16384

noncomputable section

namespace Cert.QueryDxKernelIdeal.Hand

open Cert.QueryDxKernelIdeal.Gen
open Idealize.ShloMosaic Idealize.ShloMosaic.TcCoe Idealize.SL.Sem
open Idealize.ShloMosaic.Pipeline (Window Dat)

/-- Entry (t, d) of the gradient of the product's operand. -/
def back (a : FVec Ideal ⟨2, ![1024, 4096]⟩ .f32) (w : FVec Ideal ⟨2, ![1024, 1024]⟩ .bf16) (t : Fin 4096) (d : Fin 1024) : EReal :=
  ∑ k : Fin 1024, (a (ix2 k t) * w (ix2 d k) : EReal)

/-- The gradient of the norm's operand, with what comes by the residual path. -/
def queryDx (a : FVec Ideal ⟨2, ![1024, 4096]⟩ .f32) (w : FVec Ideal ⟨2, ![1024, 1024]⟩ .bf16) (h : FVec Ideal ⟨2, ![4096, 1024]⟩ .f32)
    (g : FVec Ideal ⟨2, ![1, 1024]⟩ .f32) (dres : FVec Ideal ⟨2, ![4096, 1024]⟩ .f32) : FVec Ideal ⟨2, ![4096, 1024]⟩ .f32 :=
  fun y => Rms.grad (fun k => h (ix2 (y 0) k)) (fun k => (back a w (y 0) k * g (ix2 0 k) : EReal)) (dres (ix2 (y 0) (y 1))) (y 1)

/-- Entry d of the gradient of the norm's scale. -/
def queryDg (a : FVec Ideal ⟨2, ![1024, 4096]⟩ .f32) (w : FVec Ideal ⟨2, ![1024, 1024]⟩ .bf16) (h : FVec Ideal ⟨2, ![4096, 1024]⟩ .f32) :
    FVec Ideal ⟨2, ![1, 1024]⟩ .f32 :=
  fun y => ∑ t : Fin 4096, (back a w t (y 1) * (h (ix2 t (y 1)) * Ideal.rsqrt (Rms.meanSq fun k => h (ix2 t k))) : EReal)

/-- The product of two blocks at an entry. -/
def dot (x : Vec Ideal S1024x1024 .f32) (w : Vec Ideal S1024x1024 .bf16) (r d : Fin 1024) : EReal :=
  ∑ k : Fin 1024, (x (ix2 k r) * w (ix2 d k) : EReal)

/-- A row of a block. -/
def row (h : Vec Ideal S1024x1024 .f32) (r : Fin 1024) : Fin 1024 → EReal := fun d => h (ix2 r d)

theorem pay2 (x : Vec Ideal S1024x1024 .f32) (w : Vec Ideal S1024x1024 .bf16) (r d : Fin 1024) : k0_pay2 (F := Ideal) x w (ix2 r d) = dot x w r d := by
  unfold dot k0_pay2
  pointwise

theorem pay3 (d : Fin 1024) : k0_pay3 (F := Ideal) (ix2 0 d) = (0 : EReal) := by
  unfold k0_pay3
  pointwise

theorem pay4 (h : Vec Ideal S1024x1024 .f32) (r : Fin 1024) : k0_pay4 (F := Ideal) h (ix2 r 0) = Ideal.rsqrt (Rms.meanSq (row h r)) := by
  unfold Rms.meanSq row k0_pay4
  pointwise

theorem pay5 (h : Vec Ideal S1024x1024 .f32) (r d : Fin 1024) :
    k0_pay5 (F := Ideal) h (ix2 r d) = (h (ix2 r d) * Ideal.rsqrt (Rms.meanSq (row h r)) : EReal) := by
  rw [← pay4]
  unfold k0_pay5
  pointwise

/-- A row's term of the scale's gradient. -/
def rowTerm (x : Vec Ideal S1024x1024 .f32) (w : Vec Ideal S1024x1024 .bf16) (h : Vec Ideal S1024x1024 .f32) (d r : Fin 1024) : EReal :=
  (dot x w r d * (h (ix2 r d) * Ideal.rsqrt (Rms.meanSq (row h r))) : EReal)

theorem pay7 (x : Vec Ideal S1024x1024 .f32) (w : Vec Ideal S1024x1024 .bf16) (h : Vec Ideal S1024x1024 .f32) (s : Vec Ideal S1x1024 .f32) (d : Fin 1024) :
    k0_pay7 (F := Ideal) x w h s (ix2 0 d) = (s (ix2 0 d) + ∑ r, rowTerm x w h d r : EReal) := by
  refine Eq.trans (b := (s (ix2 0 d) + ∑ r, k0_pay2 (F := Ideal) x w (ix2 r d) * k0_pay5 (F := Ideal) h (ix2 r d) : EReal)) ?_
    (congrArg (_ + ·) (Finset.sum_congr rfl fun r _ => congrArg₂ (fun a b : EReal => a * b) (pay2 x w r d) (pay5 h r d)))
  unfold k0_pay7
  pointwise

/-- What a point stores as the operand's gradient. -/
abbrev stored (x : Vec Ideal S1024x1024 .f32) (w : Vec Ideal S1024x1024 .bf16) (h : Vec Ideal S1024x1024 .f32) (g : Vec Ideal S1x1024 .f32)
    (dres : Vec Ideal S1024x1024 .f32) : Vec Ideal S1024x1024 .f32 :=
  k0_pay1 (F := Ideal) (k0_pay4 (F := Ideal) h) (k0_pay5 (F := Ideal) h) (k0_pay6 (F := Ideal) x w g) dres (k0_pay8 (F := Ideal) x w h g)

theorem stored_eq (x : Vec Ideal S1024x1024 .f32) (w : Vec Ideal S1024x1024 .bf16) (h : Vec Ideal S1024x1024 .f32) (g : Vec Ideal S1x1024 .f32)
    (dres : Vec Ideal S1024x1024 .f32) (r d : Fin 1024) :
    stored x w h g dres (ix2 r d) = Rms.grad (row h r) (fun k => (dot x w r k * g (ix2 0 k) : EReal)) (dres (ix2 r d)) d := by
  rw [show (fun k => (dot x w r k * g (ix2 0 k) : EReal)) = fun k => (k0_pay2 (F := Ideal) x w (ix2 r k) * g (ix2 0 k) : EReal) from
    funext fun k => congrArg (fun a : EReal => a * g (ix2 0 k)) (pay2 x w r k).symm]
  unfold Rms.grad
  rw [← pay4]
  unfold stored k0_pay1 k0_pay8 k0_pay6 k0_pay5 row
  pointwise

theorem idx0 : ∀ t : Fin grid0.N, win0_0.index t = ![0, t.val] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![0, 0] := by decide +kernel

variable (m : (ℓ : Loc nD τ sig) → Buf (Elt Ideal) ℓ) (c : Dev nD)

abbrev a0 : FVec Ideal S1024x4096 .f32 := m ((c.tc : Thread nD τ).loc main_arg0)
abbrev a1 : FVec Ideal S1024x1024 .bf16 := m ((c.tc : Thread nD τ).loc main_arg1)
abbrev a2 : FVec Ideal S4096x1024 .f32 := m ((c.tc : Thread nD τ).loc main_arg2)
abbrev a3 : FVec Ideal S1x1024 .f32 := m ((c.tc : Thread nD τ).loc main_arg3)
abbrev a4 : FVec Ideal S4096x1024 .f32 := m ((c.tc : Thread nD τ).loc main_arg4)

theorem blk0 (t : Fin grid0.N) (k r : Fin 1024) (R : Fin 4096) (hR : R.val = t.val * 1024 + r.val) : iblk m c 0 t (ix2 k r) = a0 m c (ix2 k R) := by
  refine congrArg (a0 m c) (funext fun b => Fin.ext ?_)
  match b with
  | ⟨0, _⟩ => exact (Window.rect_emb_val win0_0 t (ix2 k r) ⟨0, (by decide : 0 < 2)⟩ rfl).trans (by rw [idx0 t]; show 0 * 1024 + k.val = k.val; omega)
  | ⟨1, _⟩ => exact (Window.rect_emb_val win0_0 t (ix2 k r) ⟨1, (by decide : 1 < 2)⟩ rfl).trans (by rw [idx0 t]; exact hR.symm)

theorem blk1 (t : Fin grid0.N) (d k : Fin 1024) : iblk m c 1 t (ix2 d k) = a1 m c (ix2 d k) := by
  refine congrArg (a1 m c) (funext fun b => Fin.ext ?_)
  match b with
  | ⟨0, _⟩ => exact (Window.rect_emb_val win0_1 t (ix2 d k) ⟨0, (by decide : 0 < 2)⟩ rfl).trans (by rw [idx1 t]; show 0 * 1024 + d.val = d.val; omega)
  | ⟨1, _⟩ => exact (Window.rect_emb_val win0_1 t (ix2 d k) ⟨1, (by decide : 1 < 2)⟩ rfl).trans (by rw [idx1 t]; show 0 * 1024 + k.val = k.val; omega)

theorem blk2 (t : Fin grid0.N) (r : Fin 1024) (d : Fin 1024) (R : Fin 4096) (hR : R.val = t.val * 1024 + r.val) :
    iblk m c 2 t (ix2 r d) = a2 m c (ix2 R d) := by
  refine congrArg (a2 m c) (funext fun b => Fin.ext ?_)
  match b with
  | ⟨0, _⟩ => exact (Window.rect_emb_val win0_2 t (ix2 r d) ⟨0, (by decide : 0 < 2)⟩ rfl).trans (by rw [idx2 t]; exact hR.symm)
  | ⟨1, _⟩ => exact (Window.rect_emb_val win0_2 t (ix2 r d) ⟨1, (by decide : 1 < 2)⟩ rfl).trans (by rw [idx2 t]; show 0 * 1024 + d.val = d.val; omega)

theorem blk3 (t : Fin grid0.N) (d : Fin 1024) : iblk m c 3 t (ix2 0 d) = a3 m c (ix2 0 d) := by
  refine congrArg (a3 m c) (funext fun b => Fin.ext ?_)
  match b with
  | ⟨0, _⟩ => exact (Window.rect_emb_val win0_3 t (ix2 0 d) ⟨0, (by decide : 0 < 2)⟩ rfl).trans (by rw [idx3 t]; rfl)
  | ⟨1, _⟩ => exact (Window.rect_emb_val win0_3 t (ix2 0 d) ⟨1, (by decide : 1 < 2)⟩ rfl).trans (by rw [idx3 t]; show 0 * 1024 + d.val = d.val; omega)

theorem blk4 (t : Fin grid0.N) (r : Fin 1024) (d : Fin 1024) (R : Fin 4096) (hR : R.val = t.val * 1024 + r.val) :
    iblk m c 4 t (ix2 r d) = a4 m c (ix2 R d) := by
  refine congrArg (a4 m c) (funext fun b => Fin.ext ?_)
  match b with
  | ⟨0, _⟩ => exact (Window.rect_emb_val win0_4 t (ix2 r d) ⟨0, (by decide : 0 < 2)⟩ rfl).trans (by rw [idx4 t]; exact hR.symm)
  | ⟨1, _⟩ => exact (Window.rect_emb_val win0_4 t (ix2 r d) ⟨1, (by decide : 1 < 2)⟩ rfl).trans (by rw [idx4 t]; show 0 * 1024 + d.val = d.val; omega)

theorem row_eq (t : Fin cfg0.N) (r : Fin 1024) (R : Fin 4096) (hR : R.val = t.val * 1024 + r.val) :
    row (iblk m c 2 t) r = fun k => a2 m c (ix2 R k) := funext fun k => blk2 m c t r k R hR

theorem dot_eq (t : Fin cfg0.N) (r d : Fin 1024) (R : Fin 4096) (hR : R.val = t.val * 1024 + r.val) :
    dot (iblk m c 0 t) (iblk m c 1 t) r d = back (a0 m c) (a1 m c) R d :=
  Finset.sum_congr rfl fun k _ => congrArg₂ (fun a b : EReal => a * b) (blk0 m c t k r R hR) (blk1 m c t d k)

abbrev pred (t : Fin cfg0.N) : t.val - 1 < cfg0.N := Nat.lt_of_le_of_lt (Nat.sub_le _ _) t.isLt

theorem out_dx (t : Fin cfg0.N) :
    (outsAt0 m c t.val t.isLt).1 = stored (iblk m c 0 t) (iblk m c 1 t) (iblk m c 2 t) (iblk m c 3 t) (iblk m c 4 t) := by
  by_cases h : t.val % 4 = 0
  · rw [outsAt0_A m c t h]
    frame_out
  · rw [outsAt0_B m c t h]
    frame_out

/-- One row's term of the scale's gradient. -/
def term (d : Fin 1024) (R : Fin 4096) : EReal :=
  back (a0 m c) (a1 m c) R d * (a2 m c (ix2 R d) * Ideal.rsqrt (Rms.meanSq fun k => a2 m c (ix2 R k)))

/-- What a point adds to the scale's gradient: the terms of its rows. -/
def add (d : Fin 1024) (t : Fin cfg0.N) : EReal := ∑ r, rowTerm (iblk m c 0 t) (iblk m c 1 t) (iblk m c 2 t) d r

theorem rowTerm_eq (d : Fin 1024) (t : Fin cfg0.N) (r : Fin 1024) (R : Fin 4096) (hR : R.val = t.val * 1024 + r.val) :
    rowTerm (iblk m c 0 t) (iblk m c 1 t) (iblk m c 2 t) d r = term m c d R := by
  unfold rowTerm term
  rw [dot_eq m c t r d R hR, row_eq m c t r R hR]
  exact congrArg (fun a : EReal => (back (a0 m c) (a1 m c) R d * (a * Ideal.rsqrt (Rms.meanSq fun k => a2 m c (ix2 R k))) : EReal)) (blk2 m c t r d R hR)

theorem dg_first (d : Fin 1024) (t : Fin cfg0.N) (h : t.val % 4 = 0) : (outsAt0 m c t.val t.isLt).2 (ix2 0 d) = 0 + add m c d t := by
  rw [outsAt0_A m c t h]
  frame_out
  exact (pay7 _ _ _ _ d).trans (congrArg (· + _) (pay3 d))

theorem dg_next (d : Fin 1024) (t : Fin cfg0.N) (h : ¬t.val % 4 = 0) :
    (outsAt0 m c t.val t.isLt).2 (ix2 0 d) = (outsAt0 m c (t.val - 1) (pred t)).2 (ix2 0 d) + add m c d t := by
  rw [outsAt0_B m c t h]
  frame_out
  exact pay7 _ _ _ _ d

theorem dg_total (d : Fin 1024) (t : Fin cfg0.N) (h : t.val % 4 = 3) :
    (outsAt0 m c t.val t.isLt).2 (ix2 0 d) = ∑ R : Fin 4096, term m c d R := by
  have hN : t.val < 4 := lt_of_lt_of_eq t.isLt N_0
  rw [Pipeline.eq_sum_fin_of_reset_step_of_flush (fun n h => (outsAt0 m c n h).2 (ix2 0 d)) 4 (0 : EReal) (add m c d)
    (fun t h => dg_first m c d t h) (fun t h => dg_next m c d t h) t h, zero_add]
  refine Fin.sum_mul_add_congr fun s r hl => ?_
  have hs := s.isLt
  have hR : s.val * 1024 + r.val = (4 * (t.val / 4) + s.val) * 1024 + r.val := by omega
  exact (rowTerm_eq m c d _ r ⟨_, hl⟩ hR)

theorem block5 (t : Fin grid0.N) (r d : Fin 1024) :
    (outsAt0 m c t.val t.isLt).1 (ix2 r d) = queryDx (a0 m c) (a1 m c) (a2 m c) (a3 m c) (a4 m c) (((cfg0.win 5).blk t).view.emb (ix2 r d)) := by
  have h0 : (((cfg0.win 5).blk t).view.emb (ix2 r d) 0).val = t.val * 1024 + r.val :=
    (Window.rect_emb_val win0_5 t (ix2 r d) ⟨0, (by decide : 0 < 2)⟩ rfl).trans (by rw [idx5 t]; rfl)
  have h1 : ((cfg0.win 5).blk t).view.emb (ix2 r d) 1 = d := Fin.ext
    ((Window.rect_emb_val win0_5 t (ix2 r d) ⟨1, (by decide : 1 < 2)⟩ rfl).trans (by rw [idx5 t]; show 0 * 1024 + d.val = _; omega))
  have key (R : Fin 4096) (hR : R.val = t.val * 1024 + r.val) (e : Fin 1024) (he : e = d) :
      stored (iblk m c 0 t) (iblk m c 1 t) (iblk m c 2 t) (iblk m c 3 t) (iblk m c 4 t) (ix2 r d)
        = Rms.grad (fun k => a2 m c (ix2 R k)) (fun k => (back (a0 m c) (a1 m c) R k * a3 m c (ix2 0 k) : EReal)) (a4 m c (ix2 R e)) e := by
    subst he
    refine (stored_eq _ _ _ _ _ r e).trans ?_
    have hy : (fun k => (dot (iblk m c 0 t) (iblk m c 1 t) r k * iblk m c 3 t (ix2 0 k) : EReal)) = fun k => (back (a0 m c) (a1 m c) R k * a3 m c (ix2 0 k) : EReal) :=
      funext fun k => congrArg₂ (fun a b : EReal => a * b) (dot_eq m c t r k R hR) (blk3 m c t k)
    rw [row_eq m c t r R hR]
    exact congrArg₂ (fun y d => Rms.grad (fun k => a2 m c (ix2 R k)) y d e) hy (blk4 m c t r e R hR)
  rw [out_dx m c t]
  exact key _ h0 _ h1

theorem block6 (t : Fin grid0.N) (h : t.val % 4 = 3) (d : Fin 1024) :
    (outsAt0 m c t.val t.isLt).2 (ix2 0 d) = queryDg (a0 m c) (a1 m c) (a2 m c) (((cfg0.win 6).blk t).view.emb (ix2 0 d)) := by
  have h1 : ((cfg0.win 6).blk t).view.emb (ix2 0 d) 1 = d := Fin.ext
    ((Window.rect_emb_val win0_6 t (ix2 0 d) ⟨1, (by decide : 1 < 2)⟩ rfl).trans (by rw [idx6 t]; show 0 * 1024 + d.val = _; omega))
  exact (dg_total m c d t h).trans (congrArg (fun e => ∑ R : Fin 4096, term m c e R) h1.symm)

theorem flushed5 (t : Fin grid0.N) :
    (dats m 0 c).flushed 5 t = ((cfg0.win 5).blk t).view.read (Elt Ideal) (queryDx (a0 m c) (a1 m c) (a2 m c) (a3 m c) (a4 m c)) := by
  rw [Value.flushed5]
  funext y
  rw [← (ix2_eta y : (ix2 (y 0) (y 1) : S1024x1024.Idx) = y)]
  exact block5 m c t _ _

theorem flushed6 (t : Fin grid0.N) (h : t.val % 4 = 3) :
    (dats m 0 c).flushed 6 t = ((cfg0.win 6).blk t).view.read (Elt Ideal) (queryDg (a0 m c) (a1 m c) (a2 m c)) := by
  rw [Value.flushed6]
  funext y
  have e : y = (ix2 0 (y 1) : S1x1024.Idx) := by
    funext b
    match b with
    | ⟨0, _⟩ => exact Subsingleton.elim (α := Fin 1) _ _
    | ⟨1, _⟩ => rfl
  rw [e]
  exact block6 m c t h _

theorem covered5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  let t : Fin grid0.N := ⟨(i 0).val / 1024, lt_of_lt_of_eq (by omega) N_0.symm⟩
  have ht : t.val = (i 0).val / 1024 := rfl
  refine ⟨t, flush0_5 t, ?_⟩
  show i ∈ ((View.whole main_v0_0).slice (win0_5.rect t)).set
  rw [View.set_slice_whole, Rect.mem_set_unit]
  intro a
  match a with
  | ⟨0, _⟩ => show win0_5.index t 0 * 1024 ≤ (i 0).val ∧ (i 0).val < win0_5.index t 0 * 1024 + 1024; rw [idx5 t]; show t.val * 1024 ≤ _ ∧ _ < t.val * 1024 + 1024; omega
  | ⟨1, _⟩ => show win0_5.index t 1 * 1024 ≤ (i 1).val ∧ (i 1).val < win0_5.index t 1 * 1024 + 1024; rw [idx5 t]; show 0 * 1024 ≤ _ ∧ _ < 0 * 1024 + 1024; omega

theorem covered6 (i : S1x1024.Idx) : ∃ t : Fin cfg0.N, (cfg0.win 6).flush t = true ∧ i ∈ ((cfg0.win 6).blk t).view.set := by
  have h0 : (i 0).val < 1 := (i 0).isLt
  have h1 : (i 1).val < 1024 := (i 1).isLt
  let t : Fin grid0.N := ⟨3, lt_of_lt_of_eq (by omega) N_0.symm⟩
  refine ⟨t, (flush0_6 t).mpr rfl, ?_⟩
  show i ∈ ((View.whole main_v0_1).slice (win0_6.rect t)).set
  rw [View.set_slice_whole, Rect.mem_set_unit]
  intro a
  match a with
  | ⟨0, _⟩ => show win0_6.index t 0 * 1 ≤ (i 0).val ∧ (i 0).val < win0_6.index t 0 * 1 + 1; rw [idx6 t]; show 0 * 1 ≤ _ ∧ _ < 0 * 1 + 1; omega
  | ⟨1, _⟩ => show win0_6.index t 1 * 1024 ≤ (i 1).val ∧ (i 1).val < win0_6.index t 1 * 1024 + 1024; rw [idx6 t]; show 0 * 1024 ≤ _ ∧ _ < 0 * 1024 + 1024; omega

/-- The launch's first result is the gradient of the norm's operand. -/
theorem final5 : (dats m 0 c).arrAt 5 cfg0.N = queryDx (a0 m c) (a1 m c) (a2 m c) (a3 m c) (a4 m c) :=
  (dats m 0 c).arrAt_eq_of_cover 5 _ (fun t _ => flushed5 m c t) covered5

/-- The launch's second result is the gradient of the norm's scale. -/
theorem final6 : (dats m 0 c).arrAt 6 cfg0.N = queryDg (a0 m c) (a1 m c) (a2 m c) :=
  (dats m 0 c).arrAt_eq_of_cover 6 _ (fun t ht => flushed6 m c t ((flush0_6 t).mp ht)) covered6

end Cert.QueryDxKernelIdeal.Hand

namespace Cert.QueryDxReferenceIdeal.Hand

open Cert.QueryDxReferenceIdeal Cert.QueryDxReferenceIdeal.Gen Cert.QueryDxReferenceIdeal.Read
open Cert.QueryDxKernelIdeal.Hand (back queryDx queryDg)
open Idealize.ShloMosaic

variable (x0 : FVec Ideal S1024x4096 .f32) (x1 : FVec Ideal S1024x1024 .bf16) (x2 : FVec Ideal S4096x1024 .f32) (x3 : FVec Ideal S1x1024 .f32) (x4 : FVec Ideal S4096x1024 .f32)

theorem v22 (t : Fin 4096) (d : Fin 1024) : val_main_v22 (F := Ideal) x0 x1 (ix2 t d) = back x0 x1 t d := by
  rw [val_main_v22_apply]
  refine Finset.sum_congr rfl fun k _ => ?_
  rw [val_main_v19_apply, val_main_v1_apply]
  exact congrArg₂ (fun i j => (x0 i * x1 j : EReal)) (ix2_eta _).symm (ix2_eta _).symm

theorem v8 (t : Fin 4096) : val_main_v8 (F := Ideal) x2 (ix2 t 0) = Rms.meanSq fun k => x2 (ix2 t k) := by
  rw [val_main_v8_apply, val_main_v7_apply, val_main_cst_1_apply, val_main_v6_apply, val_main_v5_apply, val_main_cst_0_apply, val_main_v4_apply, val_main_v3_apply]
  refine congrArg (fun a => Ideal.div a _ + _) ((congrArg (· + _) (Ideal.ofBits_zero .f32)).trans ((zero_add _).trans (Finset.sum_congr rfl fun k _ => ?_)))
  rw [val_main_v2_apply]
  exact congrArg (fun i => (x2 i * x2 i : EReal)) (ix2_eta _).symm

theorem v9 (t : Fin 4096) : val_main_v9 (F := Ideal) x2 (ix2 t 0) = Ideal.rsqrt (Rms.meanSq fun k => x2 (ix2 t k)) := by
  rw [val_main_v9_apply, v8]
  rfl

theorem v12 (t : Fin 4096) : val_main_v12 (F := Ideal) x2 (ix2 t 0)
    = (Ideal.ofBits .f32 0xBF000000#32 * Ideal.div (Ideal.rsqrt (Rms.meanSq fun k => x2 (ix2 t k))) (Rms.meanSq fun k => x2 (ix2 t k)) : EReal) := by
  rw [val_main_v12_apply, val_main_v11_apply, val_main_cst_2_apply, val_main_v10_apply, v9, v8]
  rfl

theorem v27 (t : Fin 4096) (d : Fin 1024) : val_main_v27 (F := Ideal) x0 x1 x3 (ix2 t d) = (back x0 x1 t d * x3 (ix2 0 d) : EReal) := by
  rw [val_main_v27_apply, v22, val_main_v26_apply, val_main_v15_apply, val_main_v0_apply]
  refine congrArg (fun i => (back x0 x1 t d * x3 i : EReal)) (funext fun b => Fin.ext ?_)
  match b with
  | ⟨0, _⟩ => rfl
  | ⟨1, _⟩ => exact Nat.mod_eq_of_lt d.isLt

theorem v30 (t : Fin 4096) : val_main_v30 (F := Ideal) x0 x1 x2 x3 (ix1 t) = ∑ k : Fin 1024, (x2 (ix2 t k) * (back x0 x1 t k * x3 (ix2 0 k)) : EReal) := by
  rw [val_main_v30_apply]
  refine (congrArg (· + _) (Ideal.ofBits_zero .f32)).trans ((zero_add _).trans (Finset.sum_congr rfl fun k _ => ?_))
  rw [← ix2_eta (idx_main_v30 _ k), val_main_v29_apply]
  exact congrArg (fun a : EReal => (x2 (ix2 t k) * a : EReal)) (v27 x0 x1 x3 t k)

theorem v39 (t : Fin 4096) (d : Fin 1024) : val_main_v39 (F := Ideal) x0 x1 x2 x3 (ix2 t d)
    = Rms.slope (fun k => x2 (ix2 t k)) fun k => (back x0 x1 t k * x3 (ix2 0 k) : EReal) := by
  rw [val_main_v39_apply, val_main_v38_apply, Fin.sum_univ_one, val_main_v37_apply, val_main_v36_apply, val_main_cst_6_apply, val_main_v35_apply, val_main_v31_apply]
  refine (congrArg (· + _) (Ideal.ofBits_zero .f32)).trans ((zero_add _).trans ?_)
  have e35 : idx_main_v31 (idx_main_v38 (idx_main_v39 (ix2 t d)) 0) = ix1 t := funext fun b => Fin.ext (by
    match b with
    | ⟨0, _⟩ => show t.val * 1 + 0 = t.val; omega)
  have e42 : idx_main_v38 (idx_main_v39 (ix2 t d)) 0 = (ix2 t 0 : S4096x1.Idx) := (ix2_eta _).symm
  rw [e35, e42, v30, v12]
  rfl

theorem v43 (t : Fin 4096) (d : Fin 1024) : val_main_v43 (F := Ideal) x0 x1 x2 x3 x4 (ix2 t d) = queryDx x0 x1 x2 x3 x4 (ix2 t d) := by
  rw [val_main_v43_apply, val_main_v42_apply, val_main_v41_apply, val_main_v40_apply, val_main_v34_apply, val_main_v33_apply, val_main_v32_apply,
    v39, v27, ← ix2_eta (idx_main_v32 _)]
  refine (congrArg (fun r : EReal => (x4 (ix2 t d) + back x0 x1 t d * x3 (ix2 0 d) * r + _ + _ : EReal)) (v9 x2 t)).trans ?_
  exact Rms.grad_eq (fun k => x2 (ix2 t k)) (fun k => (back x0 x1 t k * x3 (ix2 0 k) : EReal)) (x4 (ix2 t d)) d

/-- The reference's first result is the gradient of the norm's operand. -/
theorem value43 : val_main_v43 (F := Ideal) x0 x1 x2 x3 x4 = queryDx x0 x1 x2 x3 x4 := by
  funext y
  rw [← (ix2_eta y : (ix2 (y 0) (y 1) : S4096x1024.Idx) = y)]
  exact v43 x0 x1 x2 x3 x4 _ _

theorem v14 (t : Fin 4096) (d : Fin 1024) : val_main_v14 (F := Ideal) x2 (ix2 t d) = (x2 (ix2 t d) * Ideal.rsqrt (Rms.meanSq fun k => x2 (ix2 t k)) : EReal) := by
  rw [val_main_v14_apply, val_main_v13_apply, ← ix2_eta (idx_main_v13 _)]
  exact congrArg (fun a : EReal => (x2 (ix2 t d) * a : EReal)) (v9 x2 t)

theorem v23 (t : Fin 4096) (d : Fin 1024) : val_main_v23 (F := Ideal) x0 x1 x2 (ix2 t d)
    = (back x0 x1 t d * (x2 (ix2 t d) * Ideal.rsqrt (Rms.meanSq fun k => x2 (ix2 t k))) : EReal) := by
  rw [val_main_v23_apply, v14, v22]
  exact mul_comm _ _

/-- The reference's second result is the gradient of the norm's scale. -/
theorem value44 : val_main_v44 (F := Ideal) x0 x1 x2 = queryDg x0 x1 x2 := by
  funext y
  rw [val_main_v44_apply, val_main_v28_apply, Fin.sum_univ_one, val_main_v25_apply, val_main_v24_apply]
  refine (congrArg₂ (fun a b : EReal => a + (b + _)) (Ideal.ofBits_zero .f32) (Ideal.ofBits_zero .f32)).trans ?_
  rw [zero_add, zero_add]
  refine Finset.sum_congr rfl fun t _ => ?_
  have e : idx_main_v24 (idx_main_v25 (idx_main_v28 (idx_main_v44 y) 0)) t = (ix2 t (y 1) : S4096x1024.Idx) := funext fun b => Fin.ext (by
    have h0 : (y 0).val < 1 := (y 0).isLt
    match b with
    | ⟨0, _⟩ => rfl
    | ⟨1, _⟩ => show 0 * 1024 + ((y 0).val * 1024 + (y 1).val) = (y 1).val; omega)
  rw [e]
  exact v23 x0 x1 x2 t _

end Cert.QueryDxReferenceIdeal.Hand

end
-- ==== Proof.FfnUp.lean ====
module

public import proofs.«01_k».proof.Proof.Gen.UpKernelIdeal.Value
public import proofs.«01_k».proof.Proof.Gen.UpReferenceIdeal.Read
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import Idealize.ShloMosaic.Lib.Pipeline.ValueKit

/-! The feed-forward layer's first product: each block of columns is the product of all rows with that block's weights. -/

@[expose] public section

set_option maxRecDepth 16384

noncomputable section

namespace Cert.UpKernelIdeal.Hand

open Cert.UpKernelIdeal.Gen
open Idealize.ShloMosaic Idealize.ShloMosaic.TcCoe Idealize.SL.Sem
open Idealize.ShloMosaic.Pipeline (Window Dat)

/-- Entry (j, t, f) of the product. -/
def up (a : FVec Ideal ⟨2, ![4096, 1024]⟩ .bf16) (w : FVec Ideal ⟨3, ![8, 704, 1024]⟩ .bf16) : FVec Ideal ⟨3, ![8, 4096, 704]⟩ .f32 :=
  fun y => ∑ k : Fin 1024, (a (ix2 (y 1) k) * w (ix3 (y 0) (y 2) k) : EReal)

/-- One point's product at an entry. -/
theorem pay (x : Vec Ideal S2048x1024 .bf16) (w : Vec Ideal S1x704x1024 .bf16) (r : Fin 2048) (f : Fin 704) :
    k0_pay1 (F := Ideal) x w (ix3 0 r f) = ∑ k : Fin 1024, (x (ix2 r k) * w (ix3 0 f k) : EReal) := by
  unfold k0_pay1
  pointwise

theorem out_at (x : Vec Ideal S2048x1024 .bf16) (w : Vec Ideal S1x704x1024 .bf16) (r : Fin 2048) (f : Fin 704) :
    out0_2 (F := Ideal) x w (ix3 0 r f) = ∑ k : Fin 1024, (x (ix2 r k) * w (ix3 0 f k) : EReal) := by
  unfold out0_2
  rw [View.canon_unit_zero (by decide)]
  exact (pay _ _ r f).trans (Finset.sum_congr rfl fun k _ => congrArg₂ (fun a b : EReal => a * b)
    (congrFun (View.ld_unit_zero (by decide) _ x) _) (congrFun (View.ld_unit_zero (by decide) _ w) _))

theorem idx0 : ∀ t : Fin grid0.N, win0_0.index t = ![t.val / 8, 0] := by decide +kernel
theorem idx1 : ∀ t : Fin grid0.N, win0_1.index t = ![t.val % 8, 0, 0] := by decide +kernel
theorem idx2 : ∀ t : Fin grid0.N, win0_2.index t = ![t.val % 8, t.val / 8, 0] := by decide +kernel

variable (m : (ℓ : Loc nD τ sig) → Buf (Elt Ideal) ℓ) (c : Dev nD)

abbrev a0 : FVec Ideal S4096x1024 .bf16 := m ((c.tc : Thread nD τ).loc main_arg0)
abbrev a1 : FVec Ideal S8x704x1024 .bf16 := m ((c.tc : Thread nD τ).loc main_arg1)

theorem blk0 (t : Fin grid0.N) (r : Fin 2048) (k : Fin 1024) (R : Fin 4096) (hR : R.val = t.val / 8 * 2048 + r.val) :
    iblk m c 0 t (ix2 r k) = a0 m c (ix2 R k) := by
  refine congrArg (a0 m c) (funext fun b => Fin.ext ?_)
  match b with
  | ⟨0, _⟩ => exact (Window.rect_emb_val win0_0 t (ix2 r k) ⟨0, (by decide : 0 < 2)⟩ rfl).trans (by rw [idx0 t]; exact hR.symm)
  | ⟨1, _⟩ => exact (Window.rect_emb_val win0_0 t (ix2 r k) ⟨1, (by decide : 1 < 2)⟩ rfl).trans (by rw [idx0 t]; show 0 * 1024 + k.val = k.val; omega)

theorem blk1 (t : Fin grid0.N) (f : Fin 704) (k : Fin 1024) (J : Fin 8) (hJ : J.val = t.val % 8) :
    iblk m c 1 t (ix3 0 f k) = a1 m c (ix3 J f k) := by
  refine congrArg (a1 m c) (funext fun b => Fin.ext ?_)
  match b with
  | ⟨0, _⟩ => exact (Window.rect_emb_val win0_1 t (ix3 0 f k) ⟨0, (by decide : 0 < 3)⟩ rfl).trans (by rw [idx1 t]; show t.val % 8 * 1 + 0 = J.val; omega)
  | ⟨1, _⟩ => exact (Window.rect_emb_val win0_1 t (ix3 0 f k) ⟨1, (by decide : 1 < 3)⟩ rfl).trans (by rw [idx1 t]; show 0 * 704 + f.val = f.val; omega)
  | ⟨2, _⟩ => exact (Window.rect_emb_val win0_1 t (ix3 0 f k) ⟨2, (by decide : 2 < 3)⟩ rfl).trans (by rw [idx1 t]; show 0 * 1024 + k.val = k.val; omega)

theorem block (t : Fin grid0.N) (j : Fin 1) (r : Fin 2048) (f : Fin 704) :
    out0_2 (F := Ideal) (iblk m c 0 t) (iblk m c 1 t) (ix3 j r f) = up (a0 m c) (a1 m c) (((cfg0.win 2).blk t).view.emb (ix3 j r f)) := by
  obtain rfl : j = 0 := Subsingleton.elim _ _
  have h0 : (((cfg0.win 2).blk t).view.emb (ix3 0 r f) 0).val = t.val % 8 :=
    (Window.rect_emb_val win0_2 t (ix3 0 r f) ⟨0, (by decide : 0 < 3)⟩ rfl).trans (by rw [idx2 t]; show t.val % 8 * 1 + 0 = _; omega)
  have h1 : (((cfg0.win 2).blk t).view.emb (ix3 0 r f) 1).val = t.val / 8 * 2048 + r.val :=
    (Window.rect_emb_val win0_2 t (ix3 0 r f) ⟨1, (by decide : 1 < 3)⟩ rfl).trans (by rw [idx2 t]; rfl)
  have h2 : ((cfg0.win 2).blk t).view.emb (ix3 0 r f) 2 = f := Fin.ext
    ((Window.rect_emb_val win0_2 t (ix3 0 r f) ⟨2, (by decide : 2 < 3)⟩ rfl).trans (by rw [idx2 t]; show 0 * 704 + f.val = _; omega))
  refine (out_at _ _ r f).trans (Finset.sum_congr rfl fun k _ => ?_)
  exact congrArg₂ (fun a b : EReal => a * b) (blk0 m c t r k _ h1) ((blk1 m c t f k _ h0).trans (congrArg (fun f => a1 m c (ix3 _ f k)) h2.symm))

theorem flushed (t : Fin grid0.N) : (dats m 0 c).flushed 2 t = ((cfg0.win 2).blk t).view.read (Elt Ideal) (up (a0 m c) (a1 m c)) := by
  rw [Value.flushed2]
  funext y
  have e : y = (ix3 (y 0) (y 1) (y 2) : S1x2048x704.Idx) := by
    funext b
    match b with
    | ⟨0, _⟩ => rfl
    | ⟨1, _⟩ => rfl
    | ⟨2, _⟩ => rfl
  rw [e]
  exact block m c t _ _ _

theorem covered (i : S8x4096x704.Idx) : ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 704 := (i 2).isLt
  let t : Fin grid0.N := ⟨(i 1).val / 2048 * 8 + (i 0).val, lt_of_lt_of_eq (by omega) N_0.symm⟩
  refine ⟨t, flush0_2 t, ?_⟩
  show i ∈ ((View.whole main_v0).slice (win0_2.rect t)).set
  rw [View.set_slice_whole, Rect.mem_set_unit]
  intro a
  have ht : t.val = (i 1).val / 2048 * 8 + (i 0).val := rfl
  match a with
  | ⟨0, _⟩ => show win0_2.index t 0 * 1 ≤ (i 0).val ∧ (i 0).val < win0_2.index t 0 * 1 + 1; rw [idx2 t]; show t.val % 8 * 1 ≤ _ ∧ _ < t.val % 8 * 1 + 1; omega
  | ⟨1, _⟩ => show win0_2.index t 1 * 2048 ≤ (i 1).val ∧ (i 1).val < win0_2.index t 1 * 2048 + 2048; rw [idx2 t]; show t.val / 8 * 2048 ≤ _ ∧ _ < t.val / 8 * 2048 + 2048; omega
  | ⟨2, _⟩ => show win0_2.index t 2 * 704 ≤ (i 2).val ∧ (i 2).val < win0_2.index t 2 * 704 + 704; rw [idx2 t]; show 0 * 704 ≤ _ ∧ _ < 0 * 704 + 704; omega

/-- The launch's result is the product. -/
theorem final : (dats m 0 c).arrAt 2 cfg0.N = up (a0 m c) (a1 m c) :=
  (dats m 0 c).arrAt_eq_of_cover 2 _ (fun t _ => flushed m c t) covered

end Cert.UpKernelIdeal.Hand

namespace Cert.UpReferenceIdeal.Hand

open Cert.UpReferenceIdeal Cert.UpReferenceIdeal.Gen Cert.UpReferenceIdeal.Read
open Idealize.ShloMosaic

/-- The reference's result is the product. -/
theorem value (x0 : FVec Ideal S4096x1024 .bf16) (x1 : FVec Ideal S8x704x1024 .bf16) : val_main_v6 (F := Ideal) x0 x1 = Cert.UpKernelIdeal.Hand.up x0 x1 := by
  funext y
  rw [val_main_v6_apply, val_main_v5_apply, val_main_v4_apply]
  refine Finset.sum_congr rfl fun k _ => ?_
  rw [val_main_v0_apply, val_main_v3_apply, val_main_v2_apply, val_main_v1_apply]
  have h1 : (y 1).val < 4096 := (y 1).isLt
  have h0 : (y 0).val < 8 := (y 0).isLt
  have h2 : (y 2).val < 704 := (y 2).isLt
  have hk := k.isLt
  refine congrArg₂ (fun a b : EReal => a * b) (congrArg x0 (funext fun b => Fin.ext ?_)) (congrArg x1 (funext fun b => Fin.ext ?_))
  · match b with
    | ⟨0, _⟩ => show (((y 1).val * 8 + (y 0).val) * 704 + (y 2).val) / 5632 = (y 1).val; omega
    | ⟨1, _⟩ => rfl
  · match b with
    | ⟨0, _⟩ => show ((((y 1).val * 8 + (y 0).val) * 704 + (y 2).val) % 5632 * 1024 + k.val) / 720896 = (y 0).val; omega
    | ⟨1, _⟩ => show ((((y 1).val * 8 + (y 0).val) * 704 + (y 2).val) % 5632 * 1024 + k.val) / 1024 % 704 = (y 2).val; omega
    | ⟨2, _⟩ => show ((((y 1).val * 8 + (y 0).val) * 704 + (y 2).val) % 5632 * 1024 + k.val) % 1024 = k.val; omega

end Cert.UpReferenceIdeal.Hand

end
-- ==== Proof.FfnLast.lean ====
module

public import proofs.«01_k».proof.Proof.Gen.LastKernelIdeal.Value
public import proofs.«01_k».proof.Proof.Gen.LastReferenceIdeal.Read
public import proofs.«01_k».proof.Proof.FfnDown

/-! The second product of the last feed-forward layer, added to the residual path: half as many columns a point, and no norm. -/

@[expose] public section

set_option maxRecDepth 16384

noncomputable section

namespace Cert.LastKernelIdeal.Hand

open Cert.LastKernelIdeal.Gen
open Cert.DownKernelIdeal.Hand (entry out)
open Idealize.ShloMosaic Idealize.ShloMosaic.TcCoe Idealize.SL.Sem
open Idealize.ShloMosaic.Pipeline (Window Dat)

/-- The product of two blocks at an entry. -/
def dot (x : Vec Ideal S1x1024x704 .bf16) (w : Vec Ideal S1x704x512 .bf16) (r : Fin 1024) (d : Fin 512) : EReal :=
  ∑ f : Fin 704, (x (ix3 0 r f) * w (ix3 0 f d) : EReal)

theorem pay1 (x y : Vec Ideal S1024x512 .f32) (r : Fin 1024) (d : Fin 512) : k0_pay1 (F := Ideal) x y (ix2 r d) = (x (ix2 r d) + y (ix2 r d) : EReal) := by
  unfold k0_pay1
  pointwise

theorem pay2 (x0 : Vec Ideal S1x1024x704 .bf16) (w0 : Vec Ideal S1x704x512 .bf16) (x1 : Vec Ideal S1x1024x704 .bf16) (w1 : Vec Ideal S1x704x512 .bf16)
    (x2 : Vec Ideal S1x1024x704 .bf16) (w2 : Vec Ideal S1x704x512 .bf16) (x3 : Vec Ideal S1x1024x704 .bf16) (w3 : Vec Ideal S1x704x512 .bf16) (r : Fin 1024) (d : Fin 512) :
    k0_pay2 (F := Ideal) x0 w0 x1 w1 x2 w2 x3 w3 (ix2 r d) = dot x0 w0 r d + dot x1 w1 r d + dot x2 w2 r d + dot x3 w3 r d := by
  rw [← zero_add (dot x0 w0 r d)]
  unfold dot k0_pay2
  pointwise

theorem dot_ld (x : Vec Ideal S4x1024x704 .bf16) (w : Vec Ideal S4x704x512 .bf16) (j : Fin 4) (hx hw) (r : Fin 1024) (d : Fin 512) :
    dot (View.ld x (Rect.unit ![j.val, 0, 0] ![1, 1024, 704] hx)) (View.ld w (Rect.unit ![j.val, 0, 0] ![1, 704, 512] hw)) r d
      = ∑ f : Fin 704, (x (ix3 j r f) * w (ix3 j f d) : EReal) :=
  Finset.sum_congr rfl fun f _ => congrArg₂ (fun a b : EReal => a * b)
    (View.ld_unit_apply_of x _ _ hx _ (ix3 j r f) fun b => match b with | ⟨0, _⟩ => rfl | ⟨1, _⟩ => (Nat.zero_add _).symm | ⟨2, _⟩ => (Nat.zero_add _).symm)
    (View.ld_unit_apply_of w _ _ hw _ (ix3 j f d) fun b => match b with | ⟨0, _⟩ => rfl | ⟨1, _⟩ => (Nat.zero_add _).symm | ⟨2, _⟩ => (Nat.zero_add _).symm)

theorem out_at (x : Vec Ideal S4x1024x704 .bf16) (w : Vec Ideal S4x704x512 .bf16) (h : Vec Ideal S1024x512 .f32) (r : Fin 1024) (d : Fin 512) :
    out0_3 (F := Ideal) x w h (ix2 r d) = (∑ j : Fin 4, ∑ f : Fin 704, (x (ix3 j r f) * w (ix3 j f d) : EReal)) + (h (ix2 r d) : EReal) := by
  unfold out0_3
  rw [View.canon_unit_zero (by decide)]
  refine (pay1 _ _ r d).trans (congrArg₂ (fun a b : EReal => a + b) ?_ (congrFun (View.ld_unit_zero (by decide) _ h) _))
  rw [pay2, Fin.sum_univ_four]
  exact congrArg₂ (· + ·) (congrArg₂ (· + ·) (congrArg₂ (· + ·) (dot_ld x w 0 _ _ r d) (dot_ld x w 1 _ _ r d)) (dot_ld x w 2 _ _ r d)) (dot_ld x w 3 _ _ r d)

theorem idx0 : ∀ t : Fin grid0.N, win0_0.index t = ![0, t.val / 2, 0] := by decide +kernel
theorem idx1 : ∀ t : Fin grid0.N, win0_1.index t = ![0, 0, t.val % 2] := by decide +kernel
theorem idx2 : ∀ t : Fin grid0.N, win0_2.index t = ![t.val / 2, t.val % 2] := by decide +kernel
theorem idx3 : ∀ t : Fin grid0.N, win0_3.index t = ![t.val / 2, t.val % 2] := by decide +kernel

variable (m : (ℓ : Loc nD τ sig) → Buf (Elt Ideal) ℓ) (c : Dev nD)

abbrev a0 : FVec Ideal S4x4096x704 .bf16 := m ((c.tc : Thread nD τ).loc main_arg0)
abbrev a1 : FVec Ideal S4x704x1024 .bf16 := m ((c.tc : Thread nD τ).loc main_arg1)
abbrev a2 : FVec Ideal S4096x1024 .f32 := m ((c.tc : Thread nD τ).loc main_arg2)

theorem blk0 (t : Fin grid0.N) (j : Fin 4) (r : Fin 1024) (f : Fin 704) (R : Fin 4096) (hR : R.val = t.val / 2 * 1024 + r.val) :
    iblk m c 0 t (ix3 j r f) = a0 m c (ix3 j R f) := by
  refine congrArg (a0 m c) (funext fun b => Fin.ext ?_)
  match b with
  | ⟨0, _⟩ => exact (Window.rect_emb_val win0_0 t (ix3 j r f) ⟨0, (by decide : 0 < 3)⟩ rfl).trans (by rw [idx0 t]; show 0 * 4 + j.val = j.val; omega)
  | ⟨1, _⟩ => exact (Window.rect_emb_val win0_0 t (ix3 j r f) ⟨1, (by decide : 1 < 3)⟩ rfl).trans (by rw [idx0 t]; exact hR.symm)
  | ⟨2, _⟩ => exact (Window.rect_emb_val win0_0 t (ix3 j r f) ⟨2, (by decide : 2 < 3)⟩ rfl).trans (by rw [idx0 t]; show 0 * 704 + f.val = f.val; omega)

theorem blk1 (t : Fin grid0.N) (j : Fin 4) (f : Fin 704) (d : Fin 512) (D : Fin 1024) (hD : D.val = t.val % 2 * 512 + d.val) :
    iblk m c 1 t (ix3 j f d) = a1 m c (ix3 j f D) := by
  refine congrArg (a1 m c) (funext fun b => Fin.ext ?_)
  match b with
  | ⟨0, _⟩ => exact (Window.rect_emb_val win0_1 t (ix3 j f d) ⟨0, (by decide : 0 < 3)⟩ rfl).trans (by rw [idx1 t]; show 0 * 4 + j.val = j.val; omega)
  | ⟨1, _⟩ => exact (Window.rect_emb_val win0_1 t (ix3 j f d) ⟨1, (by decide : 1 < 3)⟩ rfl).trans (by rw [idx1 t]; show 0 * 704 + f.val = f.val; omega)
  | ⟨2, _⟩ => exact (Window.rect_emb_val win0_1 t (ix3 j f d) ⟨2, (by decide : 2 < 3)⟩ rfl).trans (by rw [idx1 t]; exact hD.symm)

theorem blk2 (t : Fin grid0.N) (r : Fin 1024) (d : Fin 512) (R : Fin 4096) (hR : R.val = t.val / 2 * 1024 + r.val) (D : Fin 1024) (hD : D.val = t.val % 2 * 512 + d.val) :
    iblk m c 2 t (ix2 r d) = a2 m c (ix2 R D) := by
  refine congrArg (a2 m c) (funext fun b => Fin.ext ?_)
  match b with
  | ⟨0, _⟩ => exact (Window.rect_emb_val win0_2 t (ix2 r d) ⟨0, (by decide : 0 < 2)⟩ rfl).trans (by rw [idx2 t]; exact hR.symm)
  | ⟨1, _⟩ => exact (Window.rect_emb_val win0_2 t (ix2 r d) ⟨1, (by decide : 1 < 2)⟩ rfl).trans (by rw [idx2 t]; exact hD.symm)

theorem block (t : Fin grid0.N) (r : Fin 1024) (d : Fin 512) :
    out0_3 (F := Ideal) (iblk m c 0 t) (iblk m c 1 t) (iblk m c 2 t) (ix2 r d) = out (a0 m c) (a1 m c) (a2 m c) (((cfg0.win 3).blk t).view.emb (ix2 r d)) := by
  have h0 : (((cfg0.win 3).blk t).view.emb (ix2 r d) 0).val = t.val / 2 * 1024 + r.val :=
    (Window.rect_emb_val win0_3 t (ix2 r d) ⟨0, (by decide : 0 < 2)⟩ rfl).trans (by rw [idx3 t]; rfl)
  have h1 : (((cfg0.win 3).blk t).view.emb (ix2 r d) 1).val = t.val % 2 * 512 + d.val :=
    (Window.rect_emb_val win0_3 t (ix2 r d) ⟨1, (by decide : 1 < 2)⟩ rfl).trans (by rw [idx3 t]; rfl)
  exact (out_at _ _ _ r d).trans (congrArg₂ (fun a b : EReal => a + b) (Finset.sum_congr rfl fun j _ => Finset.sum_congr rfl fun f _ =>
    congrArg₂ (fun a b : EReal => a * b) (blk0 m c t j r f _ h0) (blk1 m c t j f d _ h1)) (blk2 m c t r d _ h0 _ h1))

theorem flushed (t : Fin grid0.N) : (dats m 0 c).flushed 3 t = ((cfg0.win 3).blk t).view.read (Elt Ideal) (out (a0 m c) (a1 m c) (a2 m c)) := by
  rw [Value.flushed3]
  funext y
  rw [← (ix2_eta y : (ix2 (y 0) (y 1) : S1024x512.Idx) = y)]
  exact block m c t _ _

theorem covered (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  let t : Fin grid0.N := ⟨(i 0).val / 1024 * 2 + (i 1).val / 512, lt_of_lt_of_eq (by omega) N_0.symm⟩
  have ht : t.val = (i 0).val / 1024 * 2 + (i 1).val / 512 := rfl
  refine ⟨t, flush0_3 t, ?_⟩
  show i ∈ ((View.whole main_v0).slice (win0_3.rect t)).set
  rw [View.set_slice_whole, Rect.mem_set_unit]
  intro a
  match a with
  | ⟨0, _⟩ => show win0_3.index t 0 * 1024 ≤ (i 0).val ∧ (i 0).val < win0_3.index t 0 * 1024 + 1024; rw [idx3 t]; show t.val / 2 * 1024 ≤ _ ∧ _ < t.val / 2 * 1024 + 1024; omega
  | ⟨1, _⟩ => show win0_3.index t 1 * 512 ≤ (i 1).val ∧ (i 1).val < win0_3.index t 1 * 512 + 512; rw [idx3 t]; show t.val % 2 * 512 ≤ _ ∧ _ < t.val % 2 * 512 + 512; omega

/-- The launch's result is the layer's. -/
theorem final : (dats m 0 c).arrAt 3 cfg0.N = out (a0 m c) (a1 m c) (a2 m c) :=
  (dats m 0 c).arrAt_eq_of_cover 3 _ (fun t _ => flushed m c t) covered

end Cert.LastKernelIdeal.Hand

namespace Cert.LastReferenceIdeal.Hand

open Idealize.ShloMosaic

/-- The reference's result is the layer's: it is the first result of the other layers' reference. -/
theorem value6 (x0 : FVec Ideal ⟨3, ![4, 4096, 704]⟩ .bf16) (x1 : FVec Ideal ⟨3, ![4, 704, 1024]⟩ .bf16) (x2 : FVec Ideal ⟨2, ![4096, 1024]⟩ .f32) :
    Cert.LastReferenceIdeal.Read.val_main_v6 (F := Ideal) x0 x1 x2 = Cert.DownKernelIdeal.Hand.out x0 x1 x2 :=
  Eq.trans (b := Cert.DownReferenceIdeal.Read.val_main_v6 (F := Ideal) x0 x1 x2) rfl (Cert.DownReferenceIdeal.Hand.value6 x0 x1 x2)

end Cert.LastReferenceIdeal.Hand

end
-- ==== Proof.FfnUpDw.lean ====
module

public import proofs.«01_k».proof.Proof.Gen.UpDwKernelIdeal.Value
public import proofs.«01_k».proof.Proof.Gen.UpDwReferenceIdeal.Read
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import Idealize.ShloMosaic.Lib.Pipeline.ValueKit
public import Idealize.ShloMosaic.Lib.Pipeline.ReadBack

/-! The gradient of the feed-forward layer's first product in its weights: a sum over all rows, taken in four runs of 1024. -/

@[expose] public section

set_option maxRecDepth 16384

noncomputable section

namespace Cert.UpDwKernelIdeal.Hand

open Cert.UpDwKernelIdeal.Gen
open Idealize.ShloMosaic Idealize.ShloMosaic.TcCoe Idealize.SL.Sem
open Idealize.ShloMosaic.Pipeline (Window Dat)

/-- Entry (j, f, d) of the weights' gradient. -/
def upDw (a : FVec Ideal ⟨3, ![8, 4096, 704]⟩ .bf16) (b : FVec Ideal ⟨2, ![4096, 1024]⟩ .bf16) : FVec Ideal ⟨3, ![8, 704, 1024]⟩ .bf16 :=
  fun y => ∑ k : Fin 4096, (a (ix3 (y 0) k (y 1)) * b (ix2 k (y 2)) : EReal)

/-- The product of two blocks at an entry. -/
def dot (x : Vec Ideal S1x1024x704 .bf16) (w : Vec Ideal S1024x1024 .bf16) (f : Fin 704) (d : Fin 1024) : EReal :=
  ∑ k : Fin 1024, (x (ix3 0 k f) * w (ix2 k d) : EReal)

theorem pay2 (x : Vec Ideal S1x1024x704 .bf16) (w : Vec Ideal S1024x1024 .bf16) (f : Fin 704) (d : Fin 1024) :
    k0_pay2 (F := Ideal) x w (ix2 f d) = (0 + dot x w f d : EReal) := by
  rw [zero_add]
  unfold dot k0_pay2 k0_pay1
  pointwise

theorem pay3 (x : Vec Ideal S1x1024x704 .bf16) (w : Vec Ideal S1024x1024 .bf16) (s : Vec Ideal S704x1024 .f32) (f : Fin 704) (d : Fin 1024) :
    k0_pay3 (F := Ideal) x w s (ix2 f d) = (s (ix2 f d) + dot x w f d : EReal) := by
  unfold dot k0_pay3 k0_pay1
  pointwise

theorem pay4 (s : Vec Ideal S704x1024 .f32) (f : Fin 704) (d : Fin 1024) : k0_pay4 (F := Ideal) s (ix3 0 f d) = s (ix2 f d) := by
  unfold k0_pay4
  pointwise

theorem idx0 : ∀ t : Fin grid0.N, win0_0.index t = ![t.val / 4, t.val % 4, 0] := by decide +kernel
theorem idx1 : ∀ t : Fin grid0.N, win0_1.index t = ![t.val % 4, 0] := by decide +kernel
theorem idx2 : ∀ t : Fin grid0.N, win0_2.index t = ![t.val / 4, 0, 0] := by decide +kernel

variable (m : (ℓ : Loc nD τ sig) → Buf (Elt Ideal) ℓ) (c : Dev nD)

abbrev a0 : FVec Ideal S8x4096x704 .bf16 := m ((c.tc : Thread nD τ).loc main_arg0)
abbrev a1 : FVec Ideal S4096x1024 .bf16 := m ((c.tc : Thread nD τ).loc main_arg1)

theorem blk0 (t : Fin grid0.N) (k : Fin 1024) (f : Fin 704) (J : Fin 8) (K : Fin 4096) (hJ : J.val = t.val / 4) (hK : K.val = t.val % 4 * 1024 + k.val) :
    iblk m c 0 t (ix3 0 k f) = a0 m c (ix3 J K f) := by
  refine congrArg (a0 m c) (funext fun b => Fin.ext ?_)
  match b with
  | ⟨0, _⟩ => exact (Window.rect_emb_val win0_0 t (ix3 0 k f) ⟨0, (by decide : 0 < 3)⟩ rfl).trans (by rw [idx0 t]; show t.val / 4 * 1 + 0 = J.val; omega)
  | ⟨1, _⟩ => exact (Window.rect_emb_val win0_0 t (ix3 0 k f) ⟨1, (by decide : 1 < 3)⟩ rfl).trans (by rw [idx0 t]; exact hK.symm)
  | ⟨2, _⟩ => exact (Window.rect_emb_val win0_0 t (ix3 0 k f) ⟨2, (by decide : 2 < 3)⟩ rfl).trans (by rw [idx0 t]; show 0 * 704 + f.val = f.val; omega)

theorem blk1 (t : Fin grid0.N) (k : Fin 1024) (d : Fin 1024) (K : Fin 4096) (hK : K.val = t.val % 4 * 1024 + k.val) :
    iblk m c 1 t (ix2 k d) = a1 m c (ix2 K d) := by
  refine congrArg (a1 m c) (funext fun b => Fin.ext ?_)
  match b with
  | ⟨0, _⟩ => exact (Window.rect_emb_val win0_1 t (ix2 k d) ⟨0, (by decide : 0 < 2)⟩ rfl).trans (by rw [idx1 t]; exact hK.symm)
  | ⟨1, _⟩ => exact (Window.rect_emb_val win0_1 t (ix2 k d) ⟨1, (by decide : 1 < 2)⟩ rfl).trans (by rw [idx1 t]; show 0 * 1024 + d.val = d.val; omega)

/-- One point's part of the sum. -/
def part (f : Fin 704) (d : Fin 1024) (t : Fin cfg0.N) : EReal := dot (iblk m c 0 t) (iblk m c 1 t) f d

theorem first (f : Fin 704) (d : Fin 1024) (t : Fin cfg0.N) (h : t.val % 4 = 0) :
    (outsAt0 m c t.val t.isLt).2 (ix2 f d) = 0 + part m c f d t := by
  rw [outsAt0_A m c t h (by omega) (by omega)]
  frame_out
  exact pay2 _ _ f d

theorem next (f : Fin 704) (d : Fin 1024) (t : Fin cfg0.N) (h : ¬t.val % 4 = 0) :
    (outsAt0 m c t.val t.isLt).2 (ix2 f d)
      = (outsAt0 m c (t.val - 1) (Nat.lt_of_le_of_lt (Nat.sub_le _ _) t.isLt)).2 (ix2 f d) + part m c f d t := by
  by_cases h3 : t.val % 4 = 3
  · rw [outsAt0_C m c t h (by omega) h3]
    frame_out
    simp only [read_unread_whole]
    exact pay3 _ _ _ f d
  · rw [outsAt0_B m c t h (by omega) h3]
    frame_out
    simp only [read_unread_whole]
    exact pay3 _ _ _ f d

theorem out_scratch (t : Fin cfg0.N) (h3 : t.val % 4 = 3) :
    (outsAt0 m c t.val t.isLt).1 = k0_pay4 (F := Ideal) (outsAt0 m c t.val t.isLt).2 := by
  rw [outsAt0_C m c t (by omega) (by omega) h3]
  frame_out

/-- The scratch at the last point of a run: the whole sum. -/
theorem total (f : Fin 704) (d : Fin 1024) (t : Fin cfg0.N) (h3 : t.val % 4 = 3) (J : Fin 8) (hJ : J.val = t.val / 4) :
    (outsAt0 m c t.val t.isLt).2 (ix2 f d) = ∑ k : Fin 4096, (a0 m c (ix3 J k f) * a1 m c (ix2 k d) : EReal) := by
  rw [Pipeline.eq_sum_fin_of_reset_step_of_flush (fun n h => (outsAt0 m c n h).2 (ix2 f d)) 4 (0 : EReal) (part m c f d)
    (fun t h => first m c f d t h) (fun t h => next m c f d t h) t h3, zero_add]
  refine Fin.sum_mul_add_congr fun s k hl => ?_
  have hs := s.isLt
  have hJ' : J.val = (4 * (t.val / 4) + s.val) / 4 := by omega
  have hK : s.val * 1024 + k.val = (4 * (t.val / 4) + s.val) % 4 * 1024 + k.val := by omega
  exact congrArg₂ (fun a b : EReal => a * b) (blk0 m c _ k f J ⟨_, hl⟩ hJ' hK) (blk1 m c _ k d ⟨_, hl⟩ hK)

theorem block (t : Fin grid0.N) (h3 : t.val % 4 = 3) (j : Fin 1) (f : Fin 704) (d : Fin 1024) :
    (outsAt0 m c t.val t.isLt).1 (ix3 j f d) = upDw (a0 m c) (a1 m c) (((cfg0.win 2).blk t).view.emb (ix3 j f d)) := by
  obtain rfl : j = 0 := Subsingleton.elim _ _
  have h0 : (((cfg0.win 2).blk t).view.emb (ix3 0 f d) 0).val = t.val / 4 :=
    (Window.rect_emb_val win0_2 t (ix3 0 f d) ⟨0, (by decide : 0 < 3)⟩ rfl).trans (by rw [idx2 t]; show t.val / 4 * 1 + 0 = _; omega)
  have h1 : ((cfg0.win 2).blk t).view.emb (ix3 0 f d) 1 = f := Fin.ext
    ((Window.rect_emb_val win0_2 t (ix3 0 f d) ⟨1, (by decide : 1 < 3)⟩ rfl).trans (by rw [idx2 t]; show 0 * 704 + f.val = _; omega))
  have h2 : ((cfg0.win 2).blk t).view.emb (ix3 0 f d) 2 = d := Fin.ext
    ((Window.rect_emb_val win0_2 t (ix3 0 f d) ⟨2, (by decide : 2 < 3)⟩ rfl).trans (by rw [idx2 t]; show 0 * 1024 + d.val = _; omega))
  rw [out_scratch m c t h3]
  refine (pay4 _ f d).trans ((total m c f d t h3 _ h0).trans (Finset.sum_congr rfl fun k _ => ?_))
  exact congrArg₂ (fun a b : EReal => a * b) (congrArg (fun f => a0 m c (ix3 _ k f)) h1.symm) (congrArg (fun d => a1 m c (ix2 k d)) h2.symm)

theorem flushed (t : Fin grid0.N) (h3 : t.val % 4 = 3) :
    (dats m 0 c).flushed 2 t = ((cfg0.win 2).blk t).view.read (Elt Ideal) (upDw (a0 m c) (a1 m c)) := by
  rw [Value.flushed2]
  funext y
  have e : y = (ix3 (y 0) (y 1) (y 2) : S1x704x1024.Idx) := by
    funext b
    match b with
    | ⟨0, _⟩ => rfl
    | ⟨1, _⟩ => rfl
    | ⟨2, _⟩ => rfl
  rw [e]
  exact block m c t h3 _ _ _

theorem covered (i : S8x704x1024.Idx) : ∃ t : Fin cfg0.N, (cfg0.win 2).flush t = true ∧ i ∈ ((cfg0.win 2).blk t).view.set := by
  have h0 : (i 0).val < 8 := (i 0).isLt
  have h1 : (i 1).val < 704 := (i 1).isLt
  have h2 : (i 2).val < 1024 := (i 2).isLt
  let t : Fin grid0.N := ⟨(i 0).val * 4 + 3, lt_of_lt_of_eq (by omega) N_0.symm⟩
  have ht : t.val = (i 0).val * 4 + 3 := rfl
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [idx2 t]; show t.val / 4 * 1 ≤ _ ∧ _ < t.val / 4 * 1 + 1; omega
  | ⟨1, _⟩ => show win0_2.index t 1 * 704 ≤ (i 1).val ∧ (i 1).val < win0_2.index t 1 * 704 + 704; rw [idx2 t]; show 0 * 704 ≤ _ ∧ _ < 0 * 704 + 704; omega
  | ⟨2, _⟩ => show win0_2.index t 2 * 1024 ≤ (i 2).val ∧ (i 2).val < win0_2.index t 2 * 1024 + 1024; rw [idx2 t]; show 0 * 1024 ≤ _ ∧ _ < 0 * 1024 + 1024; omega

/-- The launch's result is the weights' gradient. -/
theorem final : (dats m 0 c).arrAt 2 cfg0.N = upDw (a0 m c) (a1 m c) :=
  (dats m 0 c).arrAt_eq_of_cover 2 _ (fun t ht => flushed m c t ((flush0_2 t).mp ht)) covered

end Cert.UpDwKernelIdeal.Hand

namespace Cert.UpDwReferenceIdeal.Hand

open Cert.UpDwReferenceIdeal Cert.UpDwReferenceIdeal.Gen Cert.UpDwReferenceIdeal.Read
open Idealize.ShloMosaic

/-- The reference's result is the weights' gradient. -/
theorem value (x0 : FVec Ideal S8x4096x704 .bf16) (x1 : FVec Ideal S4096x1024 .bf16) :
    val_main_v10 (F := Ideal) x0 x1 = Cert.UpDwKernelIdeal.Hand.upDw x0 x1 := by
  funext y
  rw [val_main_v10_apply, val_main_v9_apply, val_main_v8_apply, val_main_v7_apply, val_main_v6_apply]
  refine Finset.sum_congr rfl fun k _ => ?_
  rw [val_main_v2_apply, val_main_v1_apply, val_main_v0_apply, val_main_v4_apply]
  have h1 : (y 1).val < 704 := (y 1).isLt
  have h0 : (y 0).val < 8 := (y 0).isLt
  have h2 : (y 2).val < 1024 := (y 2).isLt
  have hk := k.isLt
  refine congrArg₂ (fun a b : EReal => a * b) (congrArg x0 (funext fun b => Fin.ext ?_)) (congrArg x1 (funext fun b => Fin.ext ?_))
  · match b with
    | ⟨0, _⟩ => show (k.val * 5632 + (((y 0).val * 704 + (y 1).val) * 1024 + (y 2).val) / 1024) / 704 % 8 = (y 0).val; omega
    | ⟨1, _⟩ => show (k.val * 5632 + (((y 0).val * 704 + (y 1).val) * 1024 + (y 2).val) / 1024) / 5632 = k.val; omega
    | ⟨2, _⟩ => show (k.val * 5632 + (((y 0).val * 704 + (y 1).val) * 1024 + (y 2).val) / 1024) % 704 = (y 1).val; omega
  · match b with
    | ⟨0, _⟩ => rfl
    | ⟨1, _⟩ => show (((y 0).val * 704 + (y 1).val) * 1024 + (y 2).val) % 1024 = (y 2).val; omega

end Cert.UpDwReferenceIdeal.Hand

end
-- ==== Proof.FfnUpDx.lean ====
module

public import proofs.«01_k».proof.Proof.Gen.UpDxKernelIdeal.Value
public import proofs.«01_k».proof.Proof.Gen.UpDxReferenceIdeal.Read
public import proofs.«01_k».proof.Proof.RmsBack
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import Idealize.ShloMosaic.Lib.Pipeline.ValueKit
public import Idealize.ShloMosaic.Lib.Pipeline.ReadBack

/-! The gradients that the feed-forward layer's first product gives the norm before it: of the norm's operand, with what comes by the residual path, and of its scale. -/

@[expose] public section

set_option maxRecDepth 16384

noncomputable section

namespace Cert.UpDxKernelIdeal.Hand

open Cert.UpDxKernelIdeal.Gen
open Idealize.ShloMosaic Idealize.ShloMosaic.TcCoe Idealize.SL.Sem
open Idealize.ShloMosaic.Pipeline (Window Dat)

/-- Entry (t, d) of the gradient of the product's operand. -/
def up (a : FVec Ideal ⟨3, ![8, 4096, 704]⟩ .bf16) (w : FVec Ideal ⟨3, ![8, 704, 1024]⟩ .bf16) (t : Fin 4096) (d : Fin 1024) : EReal :=
  ∑ j : Fin 8, ∑ f : Fin 704, (a (ix3 j t f) * w (ix3 j f d) : EReal)

/-- The gradient of the norm's operand, with what comes by the residual path. -/
def upDx (a : FVec Ideal ⟨3, ![8, 4096, 704]⟩ .bf16) (w : FVec Ideal ⟨3, ![8, 704, 1024]⟩ .bf16) (h : FVec Ideal ⟨2, ![4096, 1024]⟩ .f32)
    (g : FVec Ideal ⟨2, ![1, 1024]⟩ .f32) (dres : FVec Ideal ⟨2, ![4096, 1024]⟩ .f32) : FVec Ideal ⟨2, ![4096, 1024]⟩ .f32 :=
  fun y => Rms.grad (fun k => h (ix2 (y 0) k)) (fun k => (up a w (y 0) k * g (ix2 0 k) : EReal)) (dres (ix2 (y 0) (y 1))) (y 1)

/-- Entry d of the gradient of the norm's scale. -/
def upDg (a : FVec Ideal ⟨3, ![8, 4096, 704]⟩ .bf16) (w : FVec Ideal ⟨3, ![8, 704, 1024]⟩ .bf16) (h : FVec Ideal ⟨2, ![4096, 1024]⟩ .f32) :
    FVec Ideal ⟨2, ![1, 1024]⟩ .f32 :=
  fun y => ∑ t : Fin 4096, (up a w t (y 1) * (h (ix2 t (y 1)) * Ideal.rsqrt (Rms.meanSq fun k => h (ix2 t k))) : EReal)

/-- The product of two blocks at an entry. -/
def dot (x : Vec Ideal S1x512x704 .bf16) (w : Vec Ideal S1x704x1024 .bf16) (r : Fin 512) (d : Fin 1024) : EReal :=
  ∑ f : Fin 704, (x (ix3 0 r f) * w (ix3 0 f d) : EReal)

/-- A row of a block. -/
def row (h : Vec Ideal S512x1024 .f32) (r : Fin 512) : Fin 1024 → EReal := fun d => h (ix2 r d)

theorem pay1 (d : Fin 1024) : k0_pay1 (F := Ideal) (ix2 0 d) = (0 : EReal) := by
  unfold k0_pay1
  pointwise

theorem pay2 (x : Vec Ideal S512x1024 .f32) (r : Fin 512) (d : Fin 1024) : k0_pay2 (F := Ideal) x (ix2 r d) = x (ix2 r d) := by
  unfold k0_pay2
  pointwise

theorem pay3 (x y : Vec Ideal S512x1024 .f32) (r : Fin 512) (d : Fin 1024) : k0_pay3 (F := Ideal) x y (ix2 r d) = (y (ix2 r d) + x (ix2 r d) : EReal) := by
  unfold k0_pay3
  pointwise

theorem pay4 (h : Vec Ideal S512x1024 .f32) (r : Fin 512) : k0_pay4 (F := Ideal) h (ix2 r 0) = Ideal.rsqrt (Rms.meanSq (row h r)) := by
  unfold Rms.meanSq row k0_pay4
  pointwise

theorem pay5 (h : Vec Ideal S512x1024 .f32) (r : Fin 512) (d : Fin 1024) :
    k0_pay5 (F := Ideal) h (ix2 r d) = (h (ix2 r d) * Ideal.rsqrt (Rms.meanSq (row h r)) : EReal) := by
  rw [← pay4]
  unfold k0_pay5
  pointwise

/-- A row's term of the scale's gradient. -/
def rowTerm (R h : Vec Ideal S512x1024 .f32) (d : Fin 1024) (r : Fin 512) : EReal :=
  (R (ix2 r d) * (h (ix2 r d) * Ideal.rsqrt (Rms.meanSq (row h r))) : EReal)

theorem pay6 (R h : Vec Ideal S512x1024 .f32) (s : Vec Ideal S1x1024 .f32) (d : Fin 1024) :
    k0_pay6 (F := Ideal) R h s (ix2 0 d) = (s (ix2 0 d) + ∑ r, rowTerm R h d r : EReal) := by
  refine Eq.trans (b := (s (ix2 0 d) + ∑ r, R (ix2 r d) * k0_pay5 (F := Ideal) h (ix2 r d) : EReal)) ?_
    (congrArg (_ + ·) (Finset.sum_congr rfl fun r _ => congrArg (_ * ·) (pay5 h r d)))
  unfold k0_pay6
  pointwise

theorem pay7 (R h : Vec Ideal S512x1024 .f32) (g : Vec Ideal S1x1024 .f32) (dres : Vec Ideal S512x1024 .f32) (r : Fin 512) (d : Fin 1024) :
    k0_pay7 (F := Ideal) R h g dres (ix2 r d) = Rms.grad (row h r) (fun k => (R (ix2 r k) * g (ix2 0 k) : EReal)) (dres (ix2 r d)) d := by
  unfold Rms.grad
  rw [← pay4]
  unfold k0_pay7 k0_pay5 row
  pointwise

theorem pay8 (x0 : Vec Ideal S1x512x704 .bf16) (w0 : Vec Ideal S1x704x1024 .bf16) (x1 : Vec Ideal S1x512x704 .bf16) (w1 : Vec Ideal S1x704x1024 .bf16)
    (x2 : Vec Ideal S1x512x704 .bf16) (w2 : Vec Ideal S1x704x1024 .bf16) (x3 : Vec Ideal S1x512x704 .bf16) (w3 : Vec Ideal S1x704x1024 .bf16) (r : Fin 512) (d : Fin 1024) :
    k0_pay8 (F := Ideal) x0 w0 x1 w1 x2 w2 x3 w3 (ix2 r d) = dot x0 w0 r d + dot x1 w1 r d + dot x2 w2 r d + dot x3 w3 r d := by
  rw [← zero_add (dot x0 w0 r d)]
  unfold dot k0_pay8
  pointwise

theorem idx0 : ∀ t : Fin grid0.N, win0_0.index t = ![t.val % 2, t.val / 2, 0] := by decide +kernel
theorem idx1 : ∀ t : Fin grid0.N, win0_1.index t = ![t.val % 2, 0, 0] := by decide +kernel
theorem idx2 : ∀ t : Fin grid0.N, win0_2.index t = ![t.val / 2, 0] := by decide +kernel
theorem idx3 : ∀ t : Fin grid0.N, win0_3.index t = ![0, 0] := by decide +kernel
theorem idx4 : ∀ t : Fin grid0.N, win0_4.index t = ![t.val / 2, 0] := by decide +kernel
theorem idx5 : ∀ t : Fin grid0.N, win0_5.index t = ![t.val / 2, 0] := by decide +kernel
theorem idx6 : ∀ t : Fin grid0.N, win0_6.index t = ![0, 0] := by decide +kernel

/-- A point's part of the operand's gradient at an entry of its block. -/
def part (x : Vec Ideal S4x512x704 .bf16) (w : Vec Ideal S4x704x1024 .bf16) (r : Fin 512) (d : Fin 1024) : EReal :=
  ∑ j : Fin 4, ∑ f : Fin 704, (x (ix3 j r f) * w (ix3 j f d) : EReal)

theorem dot_ld (x : Vec Ideal S4x512x704 .bf16) (w : Vec Ideal S4x704x1024 .bf16) (j : Fin 4) (hx hw) (r : Fin 512) (d : Fin 1024) :
    dot (View.ld x (Rect.unit ![j.val, 0, 0] ![1, 512, 704] hx)) (View.ld w (Rect.unit ![j.val, 0, 0] ![1, 704, 1024] hw)) r d
      = ∑ f : Fin 704, (x (ix3 j r f) * w (ix3 j f d) : EReal) :=
  Finset.sum_congr rfl fun f _ => congrArg₂ (fun a b : EReal => a * b)
    (View.ld_unit_apply_of x _ _ hx _ (ix3 j r f) fun b => match b with | ⟨0, _⟩ => rfl | ⟨1, _⟩ => (Nat.zero_add _).symm | ⟨2, _⟩ => (Nat.zero_add _).symm)
    (View.ld_unit_apply_of w _ _ hw _ (ix3 j f d) fun b => match b with | ⟨0, _⟩ => rfl | ⟨1, _⟩ => (Nat.zero_add _).symm | ⟨2, _⟩ => (Nat.zero_add _).symm)

/-- The sum of the four products that a point forms. -/
abbrev four (x : Vec Ideal S4x512x704 .bf16) (w : Vec Ideal S4x704x1024 .bf16) : Vec Ideal S512x1024 .f32 :=
  k0_pay8 (F := Ideal) (View.ld x (Rect.unit ![0, 0, 0] ![1, 512, 704] inb_S4x512x704_S1x512x704_0_0_0))
    (View.ld w (Rect.unit ![0, 0, 0] ![1, 704, 1024] inb_S4x704x1024_S1x704x1024_0_0_0))
    (View.ld x (Rect.unit ![1, 0, 0] ![1, 512, 704] inb_S4x512x704_S1x512x704_1_0_0))
    (View.ld w (Rect.unit ![1, 0, 0] ![1, 704, 1024] inb_S4x704x1024_S1x704x1024_1_0_0))
    (View.ld x (Rect.unit ![2, 0, 0] ![1, 512, 704] inb_S4x512x704_S1x512x704_2_0_0))
    (View.ld w (Rect.unit ![2, 0, 0] ![1, 704, 1024] inb_S4x704x1024_S1x704x1024_2_0_0))
    (View.ld x (Rect.unit ![3, 0, 0] ![1, 512, 704] inb_S4x512x704_S1x512x704_3_0_0))
    (View.ld w (Rect.unit ![3, 0, 0] ![1, 704, 1024] inb_S4x704x1024_S1x704x1024_3_0_0))

theorem four_eq (x : Vec Ideal S4x512x704 .bf16) (w : Vec Ideal S4x704x1024 .bf16) (r : Fin 512) (d : Fin 1024) : four x w (ix2 r d) = part x w r d := by
  unfold four part
  rw [pay8, Fin.sum_univ_four]
  exact congrArg₂ (· + ·) (congrArg₂ (· + ·) (congrArg₂ (· + ·) (dot_ld x w 0 _ _ r d) (dot_ld x w 1 _ _ r d)) (dot_ld x w 2 _ _ r d)) (dot_ld x w 3 _ _ r d)

variable (m : (ℓ : Loc nD τ sig) → Buf (Elt Ideal) ℓ) (c : Dev nD)

abbrev a0 : FVec Ideal S8x4096x704 .bf16 := m ((c.tc : Thread nD τ).loc main_arg0)
abbrev a1 : FVec Ideal S8x704x1024 .bf16 := m ((c.tc : Thread nD τ).loc main_arg1)
abbrev a2 : FVec Ideal S4096x1024 .f32 := m ((c.tc : Thread nD τ).loc main_arg2)
abbrev a3 : FVec Ideal S1x1024 .f32 := m ((c.tc : Thread nD τ).loc main_arg3)
abbrev a4 : FVec Ideal S4096x1024 .f32 := m ((c.tc : Thread nD τ).loc main_arg4)

theorem blk0 (t : Fin grid0.N) (j : Fin 4) (r : Fin 512) (f : Fin 704) (J : Fin 8) (R : Fin 4096) (hJ : J.val = t.val % 2 * 4 + j.val) (hR : R.val = t.val / 2 * 512 + r.val) :
    iblk m c 0 t (ix3 j r f) = a0 m c (ix3 J R f) := by
  refine congrArg (a0 m c) (funext fun b => Fin.ext ?_)
  match b with
  | ⟨0, _⟩ => exact (Window.rect_emb_val win0_0 t (ix3 j r f) ⟨0, (by decide : 0 < 3)⟩ rfl).trans (by rw [idx0 t]; exact hJ.symm)
  | ⟨1, _⟩ => exact (Window.rect_emb_val win0_0 t (ix3 j r f) ⟨1, (by decide : 1 < 3)⟩ rfl).trans (by rw [idx0 t]; exact hR.symm)
  | ⟨2, _⟩ => exact (Window.rect_emb_val win0_0 t (ix3 j r f) ⟨2, (by decide : 2 < 3)⟩ rfl).trans (by rw [idx0 t]; show 0 * 704 + f.val = f.val; omega)

theorem blk1 (t : Fin grid0.N) (j : Fin 4) (f : Fin 704) (d : Fin 1024) (J : Fin 8) (hJ : J.val = t.val % 2 * 4 + j.val) :
    iblk m c 1 t (ix3 j f d) = a1 m c (ix3 J f d) := by
  refine congrArg (a1 m c) (funext fun b => Fin.ext ?_)
  match b with
  | ⟨0, _⟩ => exact (Window.rect_emb_val win0_1 t (ix3 j f d) ⟨0, (by decide : 0 < 3)⟩ rfl).trans (by rw [idx1 t]; exact hJ.symm)
  | ⟨1, _⟩ => exact (Window.rect_emb_val win0_1 t (ix3 j f d) ⟨1, (by decide : 1 < 3)⟩ rfl).trans (by rw [idx1 t]; show 0 * 704 + f.val = f.val; omega)
  | ⟨2, _⟩ => exact (Window.rect_emb_val win0_1 t (ix3 j f d) ⟨2, (by decide : 2 < 3)⟩ rfl).trans (by rw [idx1 t]; show 0 * 1024 + d.val = d.val; omega)

theorem blk2 (t : Fin grid0.N) (r : Fin 512) (d : Fin 1024) (R : Fin 4096) (hR : R.val = t.val / 2 * 512 + r.val) :
    iblk m c 2 t (ix2 r d) = a2 m c (ix2 R d) := by
  refine congrArg (a2 m c) (funext fun b => Fin.ext ?_)
  match b with
  | ⟨0, _⟩ => exact (Window.rect_emb_val win0_2 t (ix2 r d) ⟨0, (by decide : 0 < 2)⟩ rfl).trans (by rw [idx2 t]; exact hR.symm)
  | ⟨1, _⟩ => exact (Window.rect_emb_val win0_2 t (ix2 r d) ⟨1, (by decide : 1 < 2)⟩ rfl).trans (by rw [idx2 t]; show 0 * 1024 + d.val = d.val; omega)

theorem blk3 (t : Fin grid0.N) (d : Fin 1024) : iblk m c 3 t (ix2 0 d) = a3 m c (ix2 0 d) := by
  refine congrArg (a3 m c) (funext fun b => Fin.ext ?_)
  match b with
  | ⟨0, _⟩ => exact (Window.rect_emb_val win0_3 t (ix2 0 d) ⟨0, (by decide : 0 < 2)⟩ rfl).trans (by rw [idx3 t]; rfl)
  | ⟨1, _⟩ => exact (Window.rect_emb_val win0_3 t (ix2 0 d) ⟨1, (by decide : 1 < 2)⟩ rfl).trans (by rw [idx3 t]; show 0 * 1024 + d.val = d.val; omega)

theorem blk4 (t : Fin grid0.N) (r : Fin 512) (d : Fin 1024) (R : Fin 4096) (hR : R.val = t.val / 2 * 512 + r.val) :
    iblk m c 4 t (ix2 r d) = a4 m c (ix2 R d) := by
  refine congrArg (a4 m c) (funext fun b => Fin.ext ?_)
  match b with
  | ⟨0, _⟩ => exact (Window.rect_emb_val win0_4 t (ix2 r d) ⟨0, (by decide : 0 < 2)⟩ rfl).trans (by rw [idx4 t]; exact hR.symm)
  | ⟨1, _⟩ => exact (Window.rect_emb_val win0_4 t (ix2 r d) ⟨1, (by decide : 1 < 2)⟩ rfl).trans (by rw [idx4 t]; show 0 * 1024 + d.val = d.val; omega)

abbrev pred (t : Fin cfg0.N) : t.val - 1 < cfg0.N := Nat.lt_of_le_of_lt (Nat.sub_le _ _) t.isLt

theorem first (t : Fin cfg0.N) (h : t.val % 2 = 0) (r : Fin 512) (d : Fin 1024) :
    (outsAt0 m c t.val t.isLt).2.2 (ix2 r d) = 0 + part (iblk m c 0 t) (iblk m c 1 t) r d := by
  rw [zero_add]
  by_cases h16 : t.val % 16 = 0
  · rw [outsAt0_A m c t h16 h (by omega) (by omega)]
    frame_out
    exact (pay2 _ r d).trans (four_eq _ _ r d)
  · rw [outsAt0_C m c t h16 h (by omega) (by omega)]
    frame_out
    exact (pay2 _ r d).trans (four_eq _ _ r d)

theorem next (t : Fin cfg0.N) (h : ¬t.val % 2 = 0) (r : Fin 512) (d : Fin 1024) :
    (outsAt0 m c t.val t.isLt).2.2 (ix2 r d) = (outsAt0 m c (t.val - 1) (pred t)).2.2 (ix2 r d) + part (iblk m c 0 t) (iblk m c 1 t) r d := by
  rw [outsAt0_B m c t (by omega) h (by omega) (by omega)]
  frame_out
  simp only [read_unread_whole]
  exact (pay3 _ _ r d).trans (congrArg (_ + ·) (four_eq _ _ r d))

/-- The scratch at the second point of a row block: the operand's gradient. -/
theorem total (t : Fin cfg0.N) (h : t.val % 2 = 1) (r : Fin 512) (d : Fin 1024) (R : Fin 4096) (hR : R.val = t.val / 2 * 512 + r.val) :
    (outsAt0 m c t.val t.isLt).2.2 (ix2 r d) = up (a0 m c) (a1 m c) R d := by
  rw [Pipeline.eq_sum_fin_of_reset_step_of_flush (fun n h => (outsAt0 m c n h).2.2 (ix2 r d)) 2 (0 : EReal) (fun t => part (iblk m c 0 t) (iblk m c 1 t) r d)
    (fun t h => first m c t h r d) (fun t h => next m c t h r d) t h, zero_add]
  refine Fin.sum_mul_add_congr fun s j hl => Finset.sum_congr rfl fun f _ => ?_
  have hs := s.isLt
  have hJ : s.val * 4 + j.val = (2 * (t.val / 2) + s.val) % 2 * 4 + j.val := by omega
  have hR' : R.val = (2 * (t.val / 2) + s.val) / 2 * 512 + r.val := by omega
  exact congrArg₂ (fun a b : EReal => a * b) (blk0 m c _ j r f ⟨_, hl⟩ R hJ hR') (blk1 m c _ j f d ⟨_, hl⟩ hJ)

theorem out_dx (t : Fin cfg0.N) (h : t.val % 2 = 1) :
    (outsAt0 m c t.val t.isLt).1 = k0_pay7 (F := Ideal) (outsAt0 m c t.val t.isLt).2.2 (iblk m c 2 t) (iblk m c 3 t) (iblk m c 4 t) := by
  rw [outsAt0_B m c t (by omega) (by omega) h h]
  frame_out

theorem out_dg (t : Fin cfg0.N) (h : t.val % 2 = 1) :
    (outsAt0 m c t.val t.isLt).2.1 = k0_pay6 (F := Ideal) (outsAt0 m c t.val t.isLt).2.2 (iblk m c 2 t) (outsAt0 m c (t.val - 1) (pred t)).2.1 := by
  rw [outsAt0_B m c t (by omega) (by omega) h h]
  frame_out

/-- One row's term of the scale's gradient. -/
def term (d : Fin 1024) (R : Fin 4096) : EReal :=
  up (a0 m c) (a1 m c) R d * (a2 m c (ix2 R d) * Ideal.rsqrt (Rms.meanSq fun k => a2 m c (ix2 R k)))

/-- The terms of one row block. -/
def rows (d : Fin 1024) (i : ℕ) : EReal := ∑ r : Fin 512, term m c d ⟨i % 8 * 512 + r.val, by have := r.isLt; omega⟩

/-- What a point adds to the scale's gradient: at the second point of a row block the terms of its rows. -/
def add (d : Fin 1024) (t : Fin cfg0.N) : EReal := if t.val % 2 = 1 then rows m c d (t.val / 2) else 0

theorem seconds (g : ℕ → EReal) : ∑ s : Fin 16, (if s.val % 2 = 1 then g (s.val / 2) else 0) = ∑ i : Fin 8, g i.val := by
  rw [← Fin.sum_mul_add_fin 8 2]
  refine Finset.sum_congr rfl fun i _ => ?_
  rw [Fin.sum_univ_two, if_neg (by show ¬(i.val * 2 + 0) % 2 = 1; omega), if_pos (by show (i.val * 2 + 1) % 2 = 1; omega), zero_add]
  exact congrArg g (by show (i.val * 2 + 1) / 2 = i.val; omega)

theorem row_eq (t : Fin cfg0.N) (r : Fin 512) (R : Fin 4096) (hR : R.val = t.val / 2 * 512 + r.val) :
    row (iblk m c 2 t) r = fun k => a2 m c (ix2 R k) := funext fun k => blk2 m c t r k R hR

theorem dg_first (d : Fin 1024) (t : Fin cfg0.N) (h : t.val % 16 = 0) : (outsAt0 m c t.val t.isLt).2.1 (ix2 0 d) = 0 + add m c d t := by
  unfold add
  rw [if_neg (by omega), outsAt0_A m c t h (by omega) (by omega) (by omega), add_zero]
  frame_out
  exact pay1 d

theorem dg_next (d : Fin 1024) (t : Fin cfg0.N) (h : ¬t.val % 16 = 0) :
    (outsAt0 m c t.val t.isLt).2.1 (ix2 0 d) = (outsAt0 m c (t.val - 1) (pred t)).2.1 (ix2 0 d) + add m c d t := by
  have hN : t.val < 16 := lt_of_lt_of_eq t.isLt N_0
  unfold add
  by_cases h2 : t.val % 2 = 1
  · rw [if_pos h2, out_dg m c t h2]
    refine (pay6 _ _ _ d).trans (congrArg (_ + ·) (Finset.sum_congr rfl fun r _ => ?_))
    have key (R : Fin 4096) (hR : R.val = t.val / 2 * 512 + r.val) : rowTerm (outsAt0 m c t.val t.isLt).2.2 (iblk m c 2 t) d r = term m c d R := by
      unfold rowTerm term
      rw [total m c t h2 r d R hR, row_eq m c t r R hR]
      exact congrArg (fun a : EReal => (up (a0 m c) (a1 m c) R d * (a * Ideal.rsqrt (Rms.meanSq fun k => a2 m c (ix2 R k))) : EReal)) (blk2 m c t r d R hR)
    have hR : t.val / 2 % 8 * 512 + r.val = t.val / 2 * 512 + r.val := by omega
    exact key _ hR
  · rw [if_neg h2, add_zero, outsAt0_C m c t h (by omega) h2 h2]
    exact rfl

theorem dg_total (d : Fin 1024) (t : Fin cfg0.N) (h : t.val % 16 = 15) :
    (outsAt0 m c t.val t.isLt).2.1 (ix2 0 d) = ∑ R : Fin 4096, term m c d R := by
  have hN : t.val < 16 := lt_of_lt_of_eq t.isLt N_0
  rw [Pipeline.eq_sum_fin_of_reset_step_of_flush (fun n h => (outsAt0 m c n h).2.1 (ix2 0 d)) 16 (0 : EReal) (add m c d)
    (fun t h => dg_first m c d t h) (fun t h => dg_next m c d t h) t h, zero_add]
  have e (s : Fin 16) (hs : 16 * (t.val / 16) + s.val < cfg0.N) : add m c d ⟨16 * (t.val / 16) + s.val, hs⟩ = if s.val % 2 = 1 then rows m c d (s.val / 2) else 0 := by
    have h16 : 16 * (t.val / 16) + s.val = s.val := by omega
    unfold add
    simp only [h16]
  rw [Finset.sum_congr rfl fun s _ => e s _, seconds]
  refine Fin.sum_mul_add_congr fun i r hl => ?_
  exact congrArg (term m c d) (Fin.ext (by show i.val % 8 * 512 + r.val = i.val * 512 + r.val; have := i.isLt; omega))

theorem block5 (t : Fin grid0.N) (h : t.val % 2 = 1) (r : Fin 512) (d : Fin 1024) :
    (outsAt0 m c t.val t.isLt).1 (ix2 r d) = upDx (a0 m c) (a1 m c) (a2 m c) (a3 m c) (a4 m c) (((cfg0.win 5).blk t).view.emb (ix2 r d)) := by
  have h0 : (((cfg0.win 5).blk t).view.emb (ix2 r d) 0).val = t.val / 2 * 512 + r.val :=
    (Window.rect_emb_val win0_5 t (ix2 r d) ⟨0, (by decide : 0 < 2)⟩ rfl).trans (by rw [idx5 t]; rfl)
  have h1 : ((cfg0.win 5).blk t).view.emb (ix2 r d) 1 = d := Fin.ext
    ((Window.rect_emb_val win0_5 t (ix2 r d) ⟨1, (by decide : 1 < 2)⟩ rfl).trans (by rw [idx5 t]; show 0 * 1024 + d.val = _; omega))
  have key (R : Fin 4096) (hR : R.val = t.val / 2 * 512 + r.val) (e : Fin 1024) (he : e = d) :
      k0_pay7 (F := Ideal) (outsAt0 m c t.val t.isLt).2.2 (iblk m c 2 t) (iblk m c 3 t) (iblk m c 4 t) (ix2 r d)
        = Rms.grad (fun k => a2 m c (ix2 R k)) (fun k => (up (a0 m c) (a1 m c) R k * a3 m c (ix2 0 k) : EReal)) (a4 m c (ix2 R e)) e := by
    subst he
    refine (pay7 _ _ _ _ r e).trans ?_
    have hy : (fun k => ((outsAt0 m c t.val t.isLt).2.2 (ix2 r k) * iblk m c 3 t (ix2 0 k) : EReal)) = fun k => (up (a0 m c) (a1 m c) R k * a3 m c (ix2 0 k) : EReal) :=
      funext fun k => congrArg₂ (fun a b : EReal => a * b) (total m c t h r k R hR) (blk3 m c t k)
    rw [row_eq m c t r R hR]
    exact congrArg₂ (fun y d => Rms.grad (fun k => a2 m c (ix2 R k)) y d e) hy (blk4 m c t r e R hR)
  rw [out_dx m c t h]
  exact key _ h0 _ h1

theorem block6 (t : Fin grid0.N) (h : t.val % 16 = 15) (d : Fin 1024) :
    (outsAt0 m c t.val t.isLt).2.1 (ix2 0 d) = upDg (a0 m c) (a1 m c) (a2 m c) (((cfg0.win 6).blk t).view.emb (ix2 0 d)) := by
  have h1 : ((cfg0.win 6).blk t).view.emb (ix2 0 d) 1 = d := Fin.ext
    ((Window.rect_emb_val win0_6 t (ix2 0 d) ⟨1, (by decide : 1 < 2)⟩ rfl).trans (by rw [idx6 t]; show 0 * 1024 + d.val = _; omega))
  exact (dg_total m c d t h).trans (congrArg (fun e => ∑ R : Fin 4096, term m c e R) h1.symm)

theorem flushed5 (t : Fin grid0.N) (h : t.val % 2 = 1) :
    (dats m 0 c).flushed 5 t = ((cfg0.win 5).blk t).view.read (Elt Ideal) (upDx (a0 m c) (a1 m c) (a2 m c) (a3 m c) (a4 m c)) := by
  rw [Value.flushed5]
  funext y
  rw [← (ix2_eta y : (ix2 (y 0) (y 1) : S512x1024.Idx) = y)]
  exact block5 m c t h _ _

theorem flushed6 (t : Fin grid0.N) (h : t.val % 16 = 15) :
    (dats m 0 c).flushed 6 t = ((cfg0.win 6).blk t).view.read (Elt Ideal) (upDg (a0 m c) (a1 m c) (a2 m c)) := by
  rw [Value.flushed6]
  funext y
  have e : y = (ix2 0 (y 1) : S1x1024.Idx) := by
    funext b
    match b with
    | ⟨0, _⟩ => exact Subsingleton.elim (α := Fin 1) _ _
    | ⟨1, _⟩ => rfl
  rw [e]
  exact block6 m c t h _

theorem covered5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  let t : Fin grid0.N := ⟨(i 0).val / 512 * 2 + 1, lt_of_lt_of_eq (by omega) N_0.symm⟩
  have ht : t.val = (i 0).val / 512 * 2 + 1 := rfl
  refine ⟨t, (flush0_5 t).mpr (by omega), ?_⟩
  show i ∈ ((View.whole main_v0_0).slice (win0_5.rect t)).set
  rw [View.set_slice_whole, Rect.mem_set_unit]
  intro a
  match a with
  | ⟨0, _⟩ => show win0_5.index t 0 * 512 ≤ (i 0).val ∧ (i 0).val < win0_5.index t 0 * 512 + 512; rw [idx5 t]; show t.val / 2 * 512 ≤ _ ∧ _ < t.val / 2 * 512 + 512; omega
  | ⟨1, _⟩ => show win0_5.index t 1 * 1024 ≤ (i 1).val ∧ (i 1).val < win0_5.index t 1 * 1024 + 1024; rw [idx5 t]; show 0 * 1024 ≤ _ ∧ _ < 0 * 1024 + 1024; omega

theorem covered6 (i : S1x1024.Idx) : ∃ t : Fin cfg0.N, (cfg0.win 6).flush t = true ∧ i ∈ ((cfg0.win 6).blk t).view.set := by
  have h0 : (i 0).val < 1 := (i 0).isLt
  have h1 : (i 1).val < 1024 := (i 1).isLt
  let t : Fin grid0.N := ⟨15, lt_of_lt_of_eq (by omega) N_0.symm⟩
  refine ⟨t, (flush0_6 t).mpr rfl, ?_⟩
  show i ∈ ((View.whole main_v0_1).slice (win0_6.rect t)).set
  rw [View.set_slice_whole, Rect.mem_set_unit]
  intro a
  match a with
  | ⟨0, _⟩ => show win0_6.index t 0 * 1 ≤ (i 0).val ∧ (i 0).val < win0_6.index t 0 * 1 + 1; rw [idx6 t]; show 0 * 1 ≤ _ ∧ _ < 0 * 1 + 1; omega
  | ⟨1, _⟩ => show win0_6.index t 1 * 1024 ≤ (i 1).val ∧ (i 1).val < win0_6.index t 1 * 1024 + 1024; rw [idx6 t]; show 0 * 1024 ≤ _ ∧ _ < 0 * 1024 + 1024; omega

/-- The launch's first result is the gradient of the norm's operand. -/
theorem final5 : (dats m 0 c).arrAt 5 cfg0.N = upDx (a0 m c) (a1 m c) (a2 m c) (a3 m c) (a4 m c) :=
  (dats m 0 c).arrAt_eq_of_cover 5 _ (fun t ht => flushed5 m c t ((flush0_5 t).mp ht)) covered5

/-- The launch's second result is the gradient of the norm's scale. -/
theorem final6 : (dats m 0 c).arrAt 6 cfg0.N = upDg (a0 m c) (a1 m c) (a2 m c) :=
  (dats m 0 c).arrAt_eq_of_cover 6 _ (fun t ht => flushed6 m c t ((flush0_6 t).mp ht)) covered6

end Cert.UpDxKernelIdeal.Hand

namespace Cert.UpDxReferenceIdeal.Hand

open Cert.UpDxReferenceIdeal Cert.UpDxReferenceIdeal.Gen Cert.UpDxReferenceIdeal.Read
open Cert.UpDxKernelIdeal.Hand (up upDx upDg)
open Idealize.ShloMosaic

variable (x0 : FVec Ideal S8x4096x704 .bf16) (x1 : FVec Ideal S8x704x1024 .bf16) (x2 : FVec Ideal S4096x1024 .f32) (x3 : FVec Ideal S1x1024 .f32) (x4 : FVec Ideal S4096x1024 .f32)

theorem v26 (t : Fin 4096) (d : Fin 1024) : val_main_v26 (F := Ideal) x0 x1 (ix2 t d) = up x0 x1 t d := by
  rw [val_main_v26_apply]
  refine (Fin.sum_mul_add_congr fun j f hl => ?_).symm
  rw [val_main_v5_apply, val_main_v4_apply, val_main_v3_apply, val_main_v2_apply, val_main_v1_apply, val_main_v0_apply]
  have hj := j.isLt
  have hf := f.isLt
  have ht := t.isLt
  have hd := d.isLt
  refine congrArg₂ (fun a b : EReal => a * b) (congrArg x0 (funext fun b => Fin.ext ?_)) (congrArg x1 (funext fun b => Fin.ext ?_))
  · match b with
    | ⟨0, _⟩ => show j.val = (t.val * 5632 + (j.val * 704 + f.val)) / 704 % 8; omega
    | ⟨1, _⟩ => show t.val = (t.val * 5632 + (j.val * 704 + f.val)) / 5632; omega
    | ⟨2, _⟩ => show f.val = (t.val * 5632 + (j.val * 704 + f.val)) % 704; omega
  · match b with
    | ⟨0, _⟩ => show j.val = ((j.val * 704 + f.val) * 1024 + d.val) / 720896; omega
    | ⟨1, _⟩ => show f.val = ((j.val * 704 + f.val) * 1024 + d.val) / 1024 % 704; omega
    | ⟨2, _⟩ => show d.val = ((j.val * 704 + f.val) * 1024 + d.val) % 1024; omega

theorem v13 (t : Fin 4096) : val_main_v13 (F := Ideal) x2 (ix2 t 0) = Rms.meanSq fun k => x2 (ix2 t k) := by
  rw [val_main_v13_apply, val_main_v12_apply, val_main_cst_1_apply, val_main_v11_apply, val_main_v10_apply, val_main_cst_0_apply, val_main_v9_apply, val_main_v8_apply]
  refine congrArg (fun a => Ideal.div a _ + _) ((congrArg (· + _) (Ideal.ofBits_zero .f32)).trans ((zero_add _).trans (Finset.sum_congr rfl fun k _ => ?_)))
  rw [val_main_v7_apply]
  exact congrArg (fun i => (x2 i * x2 i : EReal)) (ix2_eta _).symm

theorem v14 (t : Fin 4096) : val_main_v14 (F := Ideal) x2 (ix2 t 0) = Ideal.rsqrt (Rms.meanSq fun k => x2 (ix2 t k)) := by
  rw [val_main_v14_apply, v13]
  rfl

theorem v17 (t : Fin 4096) : val_main_v17 (F := Ideal) x2 (ix2 t 0)
    = (Ideal.ofBits .f32 0xBF000000#32 * Ideal.div (Ideal.rsqrt (Rms.meanSq fun k => x2 (ix2 t k))) (Rms.meanSq fun k => x2 (ix2 t k)) : EReal) := by
  rw [val_main_v17_apply, val_main_v16_apply, val_main_cst_2_apply, val_main_v15_apply, v14, v13]
  rfl

theorem v31 (t : Fin 4096) (d : Fin 1024) : val_main_v31 (F := Ideal) x0 x1 x3 (ix2 t d) = (up x0 x1 t d * x3 (ix2 0 d) : EReal) := by
  rw [val_main_v31_apply, v26, val_main_v30_apply, val_main_v20_apply, val_main_v6_apply]
  refine congrArg (fun i => (up x0 x1 t d * x3 i : EReal)) (funext fun b => Fin.ext ?_)
  match b with
  | ⟨0, _⟩ => rfl
  | ⟨1, _⟩ => exact Nat.mod_eq_of_lt d.isLt

theorem v34 (t : Fin 4096) : val_main_v34 (F := Ideal) x0 x1 x2 x3 (ix1 t) = ∑ k : Fin 1024, (x2 (ix2 t k) * (up x0 x1 t k * x3 (ix2 0 k)) : EReal) := by
  rw [val_main_v34_apply]
  refine (congrArg (· + _) (Ideal.ofBits_zero .f32)).trans ((zero_add _).trans (Finset.sum_congr rfl fun k _ => ?_))
  rw [← ix2_eta (idx_main_v34 _ k), val_main_v33_apply]
  exact congrArg (fun a : EReal => (x2 (ix2 t k) * a : EReal)) (v31 x0 x1 x3 t k)

theorem v43 (t : Fin 4096) (d : Fin 1024) : val_main_v43 (F := Ideal) x0 x1 x2 x3 (ix2 t d)
    = Rms.slope (fun k => x2 (ix2 t k)) fun k => (up x0 x1 t k * x3 (ix2 0 k) : EReal) := by
  rw [val_main_v43_apply, val_main_v42_apply, Fin.sum_univ_one, val_main_v41_apply, val_main_v40_apply, val_main_cst_6_apply, val_main_v39_apply, val_main_v35_apply]
  refine (congrArg (· + _) (Ideal.ofBits_zero .f32)).trans ((zero_add _).trans ?_)
  have e35 : idx_main_v35 (idx_main_v42 (idx_main_v43 (ix2 t d)) 0) = ix1 t := funext fun b => Fin.ext (by
    match b with
    | ⟨0, _⟩ => show t.val * 1 + 0 = t.val; omega)
  have e42 : idx_main_v42 (idx_main_v43 (ix2 t d)) 0 = (ix2 t 0 : S4096x1.Idx) := (ix2_eta _).symm
  rw [e35, e42, v34, v17]
  rfl

theorem v47 (t : Fin 4096) (d : Fin 1024) : val_main_v47 (F := Ideal) x0 x1 x2 x3 x4 (ix2 t d) = upDx x0 x1 x2 x3 x4 (ix2 t d) := by
  rw [val_main_v47_apply, val_main_v46_apply, val_main_v45_apply, val_main_v44_apply, val_main_v38_apply, val_main_v37_apply, val_main_v36_apply,
    v43, v31, ← ix2_eta (idx_main_v36 _)]
  refine (congrArg (fun r : EReal => (x4 (ix2 t d) + up x0 x1 t d * x3 (ix2 0 d) * r + _ + _ : EReal)) (v14 x2 t)).trans ?_
  exact Rms.grad_eq (fun k => x2 (ix2 t k)) (fun k => (up x0 x1 t k * x3 (ix2 0 k) : EReal)) (x4 (ix2 t d)) d

/-- The reference's first result is the gradient of the norm's operand. -/
theorem value47 : val_main_v47 (F := Ideal) x0 x1 x2 x3 x4 = upDx x0 x1 x2 x3 x4 := by
  funext y
  rw [← (ix2_eta y : (ix2 (y 0) (y 1) : S4096x1024.Idx) = y)]
  exact v47 x0 x1 x2 x3 x4 _ _

theorem v19 (t : Fin 4096) (d : Fin 1024) : val_main_v19 (F := Ideal) x2 (ix2 t d) = (x2 (ix2 t d) * Ideal.rsqrt (Rms.meanSq fun k => x2 (ix2 t k)) : EReal) := by
  rw [val_main_v19_apply, val_main_v18_apply, ← ix2_eta (idx_main_v18 _)]
  exact congrArg (fun a : EReal => (x2 (ix2 t d) * a : EReal)) (v14 x2 t)

theorem v27 (t : Fin 4096) (d : Fin 1024) : val_main_v27 (F := Ideal) x0 x1 x2 (ix2 t d)
    = (up x0 x1 t d * (x2 (ix2 t d) * Ideal.rsqrt (Rms.meanSq fun k => x2 (ix2 t k))) : EReal) := by
  rw [val_main_v27_apply, v19, v26]
  exact mul_comm _ _

/-- The reference's second result is the gradient of the norm's scale. -/
theorem value48 : val_main_v48 (F := Ideal) x0 x1 x2 = upDg x0 x1 x2 := by
  funext y
  rw [val_main_v48_apply, val_main_v32_apply, Fin.sum_univ_one, val_main_v29_apply, val_main_v28_apply]
  refine (congrArg₂ (fun a b : EReal => a + (b + _)) (Ideal.ofBits_zero .f32) (Ideal.ofBits_zero .f32)).trans ?_
  rw [zero_add, zero_add]
  refine Finset.sum_congr rfl fun t _ => ?_
  have e : idx_main_v28 (idx_main_v29 (idx_main_v32 (idx_main_v48 y) 0)) t = (ix2 t (y 1) : S4096x1024.Idx) := funext fun b => Fin.ext (by
    have h0 : (y 0).val < 1 := (y 0).isLt
    match b with
    | ⟨0, _⟩ => rfl
    | ⟨1, _⟩ => show 0 * 1024 + ((y 0).val * 1024 + (y 1).val) = (y 1).val; omega)
  rw [e]
  exact v27 x0 x1 x2 t _

end Cert.UpDxReferenceIdeal.Hand

end
-- ==== Proof.FfnDownDx.lean ====
module

public import proofs.«01_k».proof.Proof.Gen.DownDxKernelIdeal.Value
public import proofs.«01_k».proof.Proof.Gen.DownDxReferenceIdeal.Read
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import Idealize.ShloMosaic.Lib.Pipeline.ValueKit

/-! The gradient of the feed-forward layer's second product in its left operand: each block of columns is the product of all rows with that block's weights. -/

@[expose] public section

set_option maxRecDepth 16384

noncomputable section

namespace Cert.DownDxKernelIdeal.Hand

open Cert.DownDxKernelIdeal.Gen
open Idealize.ShloMosaic Idealize.ShloMosaic.TcCoe Idealize.SL.Sem
open Idealize.ShloMosaic.Pipeline (Window Dat)

/-- Entry (j, t, f) of the product. -/
def down (a : FVec Ideal ⟨2, ![4096, 1024]⟩ .f32) (w : FVec Ideal ⟨3, ![4, 704, 1024]⟩ .bf16) : FVec Ideal ⟨3, ![4, 4096, 704]⟩ .f32 :=
  fun y => ∑ k : Fin 1024, (a (ix2 (y 1) k) * w (ix3 (y 0) (y 2) k) : EReal)

/-- One point's product at an entry. -/
theorem pay (x : Vec Ideal S2048x1024 .f32) (w : Vec Ideal S1x704x1024 .bf16) (r : Fin 2048) (f : Fin 704) :
    k0_pay1 (F := Ideal) x w (ix3 0 r f) = ∑ k : Fin 1024, (x (ix2 r k) * w (ix3 0 f k) : EReal) := by
  unfold k0_pay1
  pointwise

theorem out_at (x : Vec Ideal S2048x1024 .f32) (w : Vec Ideal S1x704x1024 .bf16) (r : Fin 2048) (f : Fin 704) :
    out0_2 (F := Ideal) x w (ix3 0 r f) = ∑ k : Fin 1024, (x (ix2 r k) * w (ix3 0 f k) : EReal) := by
  unfold out0_2
  rw [View.canon_unit_zero (by decide)]
  exact (pay _ _ r f).trans (Finset.sum_congr rfl fun k _ => congrArg₂ (fun a b : EReal => a * b)
    (congrFun (View.ld_unit_zero (by decide) _ x) _) (congrFun (View.ld_unit_zero (by decide) _ w) _))

theorem idx0 : ∀ t : Fin grid0.N, win0_0.index t = ![t.val / 4, 0] := by decide +kernel
theorem idx1 : ∀ t : Fin grid0.N, win0_1.index t = ![t.val % 4, 0, 0] := by decide +kernel
theorem idx2 : ∀ t : Fin grid0.N, win0_2.index t = ![t.val % 4, t.val / 4, 0] := by decide +kernel

variable (m : (ℓ : Loc nD τ sig) → Buf (Elt Ideal) ℓ) (c : Dev nD)

abbrev a0 : FVec Ideal S4096x1024 .f32 := m ((c.tc : Thread nD τ).loc main_arg0)
abbrev a1 : FVec Ideal S4x704x1024 .bf16 := m ((c.tc : Thread nD τ).loc main_arg1)

theorem blk0 (t : Fin grid0.N) (r : Fin 2048) (k : Fin 1024) (R : Fin 4096) (hR : R.val = t.val / 4 * 2048 + r.val) :
    iblk m c 0 t (ix2 r k) = a0 m c (ix2 R k) := by
  refine congrArg (a0 m c) (funext fun b => Fin.ext ?_)
  match b with
  | ⟨0, _⟩ => exact (Window.rect_emb_val win0_0 t (ix2 r k) ⟨0, (by decide : 0 < 2)⟩ rfl).trans (by rw [idx0 t]; exact hR.symm)
  | ⟨1, _⟩ => exact (Window.rect_emb_val win0_0 t (ix2 r k) ⟨1, (by decide : 1 < 2)⟩ rfl).trans (by rw [idx0 t]; show 0 * 1024 + k.val = k.val; omega)

theorem blk1 (t : Fin grid0.N) (f : Fin 704) (k : Fin 1024) (J : Fin 4) (hJ : J.val = t.val % 4) :
    iblk m c 1 t (ix3 0 f k) = a1 m c (ix3 J f k) := by
  refine congrArg (a1 m c) (funext fun b => Fin.ext ?_)
  match b with
  | ⟨0, _⟩ => exact (Window.rect_emb_val win0_1 t (ix3 0 f k) ⟨0, (by decide : 0 < 3)⟩ rfl).trans (by rw [idx1 t]; show t.val % 4 * 1 + 0 = J.val; omega)
  | ⟨1, _⟩ => exact (Window.rect_emb_val win0_1 t (ix3 0 f k) ⟨1, (by decide : 1 < 3)⟩ rfl).trans (by rw [idx1 t]; show 0 * 704 + f.val = f.val; omega)
  | ⟨2, _⟩ => exact (Window.rect_emb_val win0_1 t (ix3 0 f k) ⟨2, (by decide : 2 < 3)⟩ rfl).trans (by rw [idx1 t]; show 0 * 1024 + k.val = k.val; omega)

theorem block (t : Fin grid0.N) (j : Fin 1) (r : Fin 2048) (f : Fin 704) :
    out0_2 (F := Ideal) (iblk m c 0 t) (iblk m c 1 t) (ix3 j r f) = down (a0 m c) (a1 m c) (((cfg0.win 2).blk t).view.emb (ix3 j r f)) := by
  obtain rfl : j = 0 := Subsingleton.elim _ _
  have h0 : (((cfg0.win 2).blk t).view.emb (ix3 0 r f) 0).val = t.val % 4 :=
    (Window.rect_emb_val win0_2 t (ix3 0 r f) ⟨0, (by decide : 0 < 3)⟩ rfl).trans (by rw [idx2 t]; show t.val % 4 * 1 + 0 = _; omega)
  have h1 : (((cfg0.win 2).blk t).view.emb (ix3 0 r f) 1).val = t.val / 4 * 2048 + r.val :=
    (Window.rect_emb_val win0_2 t (ix3 0 r f) ⟨1, (by decide : 1 < 3)⟩ rfl).trans (by rw [idx2 t]; rfl)
  have h2 : ((cfg0.win 2).blk t).view.emb (ix3 0 r f) 2 = f := Fin.ext
    ((Window.rect_emb_val win0_2 t (ix3 0 r f) ⟨2, (by decide : 2 < 3)⟩ rfl).trans (by rw [idx2 t]; show 0 * 704 + f.val = _; omega))
  refine (out_at _ _ r f).trans (Finset.sum_congr rfl fun k _ => ?_)
  exact congrArg₂ (fun a b : EReal => a * b) (blk0 m c t r k _ h1) ((blk1 m c t f k _ h0).trans (congrArg (fun f => a1 m c (ix3 _ f k)) h2.symm))

theorem flushed (t : Fin grid0.N) : (dats m 0 c).flushed 2 t = ((cfg0.win 2).blk t).view.read (Elt Ideal) (down (a0 m c) (a1 m c)) := by
  rw [Value.flushed2]
  funext y
  have e : y = (ix3 (y 0) (y 1) (y 2) : S1x2048x704.Idx) := by
    funext b
    match b with
    | ⟨0, _⟩ => rfl
    | ⟨1, _⟩ => rfl
    | ⟨2, _⟩ => rfl
  rw [e]
  exact block m c t _ _ _

theorem covered (i : S4x4096x704.Idx) : ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 704 := (i 2).isLt
  let t : Fin grid0.N := ⟨(i 1).val / 2048 * 4 + (i 0).val, lt_of_lt_of_eq (by omega) N_0.symm⟩
  refine ⟨t, flush0_2 t, ?_⟩
  show i ∈ ((View.whole main_v0).slice (win0_2.rect t)).set
  rw [View.set_slice_whole, Rect.mem_set_unit]
  intro a
  have ht : t.val = (i 1).val / 2048 * 4 + (i 0).val := rfl
  match a with
  | ⟨0, _⟩ => show win0_2.index t 0 * 1 ≤ (i 0).val ∧ (i 0).val < win0_2.index t 0 * 1 + 1; rw [idx2 t]; show t.val % 4 * 1 ≤ _ ∧ _ < t.val % 4 * 1 + 1; omega
  | ⟨1, _⟩ => show win0_2.index t 1 * 2048 ≤ (i 1).val ∧ (i 1).val < win0_2.index t 1 * 2048 + 2048; rw [idx2 t]; show t.val / 4 * 2048 ≤ _ ∧ _ < t.val / 4 * 2048 + 2048; omega
  | ⟨2, _⟩ => show win0_2.index t 2 * 704 ≤ (i 2).val ∧ (i 2).val < win0_2.index t 2 * 704 + 704; rw [idx2 t]; show 0 * 704 ≤ _ ∧ _ < 0 * 704 + 704; omega

/-- The launch's result is the product. -/
theorem final : (dats m 0 c).arrAt 2 cfg0.N = down (a0 m c) (a1 m c) :=
  (dats m 0 c).arrAt_eq_of_cover 2 _ (fun t _ => flushed m c t) covered

end Cert.DownDxKernelIdeal.Hand

namespace Cert.DownDxReferenceIdeal.Hand

open Cert.DownDxReferenceIdeal Cert.DownDxReferenceIdeal.Gen Cert.DownDxReferenceIdeal.Read
open Idealize.ShloMosaic

/-- The reference's result is the product. -/
theorem value (x0 : FVec Ideal S4096x1024 .f32) (x1 : FVec Ideal S4x704x1024 .bf16) : val_main_v6 (F := Ideal) x0 x1 = Cert.DownDxKernelIdeal.Hand.down x0 x1 := by
  funext y
  rw [val_main_v6_apply, val_main_v5_apply, val_main_v4_apply]
  refine Finset.sum_congr rfl fun k _ => ?_
  rw [val_main_v2_apply, val_main_v1_apply]
  have h1 : (y 1).val < 4096 := (y 1).isLt
  have h0 : (y 0).val < 4 := (y 0).isLt
  have h2 : (y 2).val < 704 := (y 2).isLt
  have hk := k.isLt
  refine congrArg₂ (fun a b : EReal => a * b) (congrArg x0 (funext fun b => Fin.ext ?_)) (congrArg x1 (funext fun b => Fin.ext ?_))
  · match b with
    | ⟨0, _⟩ => show (((y 1).val * 4 + (y 0).val) * 704 + (y 2).val) / 2816 = (y 1).val; omega
    | ⟨1, _⟩ => rfl
  · match b with
    | ⟨0, _⟩ => show ((((y 1).val * 4 + (y 0).val) * 704 + (y 2).val) % 2816 * 1024 + k.val) / 720896 = (y 0).val; omega
    | ⟨1, _⟩ => show ((((y 1).val * 4 + (y 0).val) * 704 + (y 2).val) % 2816 * 1024 + k.val) / 1024 % 704 = (y 2).val; omega
    | ⟨2, _⟩ => show ((((y 1).val * 4 + (y 0).val) * 704 + (y 2).val) % 2816 * 1024 + k.val) % 1024 = k.val; omega

end Cert.DownDxReferenceIdeal.Hand

end
-- ==== Proof.FfnDownDw.lean ====
module

public import proofs.«01_k».proof.Proof.Gen.DownDwKernelIdeal.Value
public import proofs.«01_k».proof.Proof.Gen.DownDwReferenceIdeal.Read
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import Idealize.ShloMosaic.Lib.Pipeline.ValueKit
public import Idealize.ShloMosaic.Lib.Pipeline.ReadBack

/-! The gradient of the feed-forward layer's second product in its weights: a sum over all rows, taken in four runs of 1024. -/

@[expose] public section

set_option maxRecDepth 16384

noncomputable section

namespace Cert.DownDwKernelIdeal.Hand

open Cert.DownDwKernelIdeal.Gen
open Idealize.ShloMosaic Idealize.ShloMosaic.TcCoe Idealize.SL.Sem
open Idealize.ShloMosaic.Pipeline (Window Dat)

/-- Entry (j, f, d) of the weights' gradient. -/
def downDw (a : FVec Ideal ⟨3, ![4, 4096, 704]⟩ .bf16) (b : FVec Ideal ⟨2, ![4096, 1024]⟩ .f32) : FVec Ideal ⟨3, ![4, 704, 1024]⟩ .bf16 :=
  fun y => ∑ k : Fin 4096, (a (ix3 (y 0) k (y 1)) * b (ix2 k (y 2)) : EReal)

/-- The product of two blocks at an entry. -/
def dot (x : Vec Ideal S1x1024x704 .bf16) (w : Vec Ideal S1024x1024 .f32) (f : Fin 704) (d : Fin 1024) : EReal :=
  ∑ k : Fin 1024, (x (ix3 0 k f) * w (ix2 k d) : EReal)

theorem pay2 (x : Vec Ideal S1x1024x704 .bf16) (w : Vec Ideal S1024x1024 .f32) (f : Fin 704) (d : Fin 1024) :
    k0_pay2 (F := Ideal) x w (ix2 f d) = (0 + dot x w f d : EReal) := by
  rw [zero_add]
  unfold dot k0_pay2 k0_pay1
  pointwise

theorem pay3 (x : Vec Ideal S1x1024x704 .bf16) (w : Vec Ideal S1024x1024 .f32) (s : Vec Ideal S704x1024 .f32) (f : Fin 704) (d : Fin 1024) :
    k0_pay3 (F := Ideal) x w s (ix2 f d) = (s (ix2 f d) + dot x w f d : EReal) := by
  unfold dot k0_pay3 k0_pay1
  pointwise

theorem pay4 (s : Vec Ideal S704x1024 .f32) (f : Fin 704) (d : Fin 1024) : k0_pay4 (F := Ideal) s (ix3 0 f d) = s (ix2 f d) := by
  unfold k0_pay4
  pointwise

theorem idx0 : ∀ t : Fin grid0.N, win0_0.index t = ![t.val / 4, t.val % 4, 0] := by decide +kernel
theorem idx1 : ∀ t : Fin grid0.N, win0_1.index t = ![t.val % 4, 0] := by decide +kernel
theorem idx2 : ∀ t : Fin grid0.N, win0_2.index t = ![t.val / 4, 0, 0] := by decide +kernel

variable (m : (ℓ : Loc nD τ sig) → Buf (Elt Ideal) ℓ) (c : Dev nD)

abbrev a0 : FVec Ideal S4x4096x704 .bf16 := m ((c.tc : Thread nD τ).loc main_arg0)
abbrev a1 : FVec Ideal S4096x1024 .f32 := m ((c.tc : Thread nD τ).loc main_arg1)

theorem blk0 (t : Fin grid0.N) (k : Fin 1024) (f : Fin 704) (J : Fin 4) (K : Fin 4096) (hJ : J.val = t.val / 4) (hK : K.val = t.val % 4 * 1024 + k.val) :
    iblk m c 0 t (ix3 0 k f) = a0 m c (ix3 J K f) := by
  refine congrArg (a0 m c) (funext fun b => Fin.ext ?_)
  match b with
  | ⟨0, _⟩ => exact (Window.rect_emb_val win0_0 t (ix3 0 k f) ⟨0, (by decide : 0 < 3)⟩ rfl).trans (by rw [idx0 t]; show t.val / 4 * 1 + 0 = J.val; omega)
  | ⟨1, _⟩ => exact (Window.rect_emb_val win0_0 t (ix3 0 k f) ⟨1, (by decide : 1 < 3)⟩ rfl).trans (by rw [idx0 t]; exact hK.symm)
  | ⟨2, _⟩ => exact (Window.rect_emb_val win0_0 t (ix3 0 k f) ⟨2, (by decide : 2 < 3)⟩ rfl).trans (by rw [idx0 t]; show 0 * 704 + f.val = f.val; omega)

theorem blk1 (t : Fin grid0.N) (k : Fin 1024) (d : Fin 1024) (K : Fin 4096) (hK : K.val = t.val % 4 * 1024 + k.val) :
    iblk m c 1 t (ix2 k d) = a1 m c (ix2 K d) := by
  refine congrArg (a1 m c) (funext fun b => Fin.ext ?_)
  match b with
  | ⟨0, _⟩ => exact (Window.rect_emb_val win0_1 t (ix2 k d) ⟨0, (by decide : 0 < 2)⟩ rfl).trans (by rw [idx1 t]; exact hK.symm)
  | ⟨1, _⟩ => exact (Window.rect_emb_val win0_1 t (ix2 k d) ⟨1, (by decide : 1 < 2)⟩ rfl).trans (by rw [idx1 t]; show 0 * 1024 + d.val = d.val; omega)

/-- One point's part of the sum. -/
def part (f : Fin 704) (d : Fin 1024) (t : Fin cfg0.N) : EReal := dot (iblk m c 0 t) (iblk m c 1 t) f d

theorem first (f : Fin 704) (d : Fin 1024) (t : Fin cfg0.N) (h : t.val % 4 = 0) :
    (outsAt0 m c t.val t.isLt).2 (ix2 f d) = 0 + part m c f d t := by
  rw [outsAt0_A m c t h (by omega) (by omega)]
  frame_out
  exact pay2 _ _ f d

theorem next (f : Fin 704) (d : Fin 1024) (t : Fin cfg0.N) (h : ¬t.val % 4 = 0) :
    (outsAt0 m c t.val t.isLt).2 (ix2 f d)
      = (outsAt0 m c (t.val - 1) (Nat.lt_of_le_of_lt (Nat.sub_le _ _) t.isLt)).2 (ix2 f d) + part m c f d t := by
  by_cases h3 : t.val % 4 = 3
  · rw [outsAt0_C m c t h (by omega) h3]
    frame_out
    simp only [read_unread_whole]
    exact pay3 _ _ _ f d
  · rw [outsAt0_B m c t h (by omega) h3]
    frame_out
    simp only [read_unread_whole]
    exact pay3 _ _ _ f d

theorem out_scratch (t : Fin cfg0.N) (h3 : t.val % 4 = 3) :
    (outsAt0 m c t.val t.isLt).1 = k0_pay4 (F := Ideal) (outsAt0 m c t.val t.isLt).2 := by
  rw [outsAt0_C m c t (by omega) (by omega) h3]
  frame_out

/-- The scratch at the last point of a run: the whole sum. -/
theorem total (f : Fin 704) (d : Fin 1024) (t : Fin cfg0.N) (h3 : t.val % 4 = 3) (J : Fin 4) (hJ : J.val = t.val / 4) :
    (outsAt0 m c t.val t.isLt).2 (ix2 f d) = ∑ k : Fin 4096, (a0 m c (ix3 J k f) * a1 m c (ix2 k d) : EReal) := by
  rw [Pipeline.eq_sum_fin_of_reset_step_of_flush (fun n h => (outsAt0 m c n h).2 (ix2 f d)) 4 (0 : EReal) (part m c f d)
    (fun t h => first m c f d t h) (fun t h => next m c f d t h) t h3, zero_add]
  refine Fin.sum_mul_add_congr fun s k hl => ?_
  have hs := s.isLt
  have hJ' : J.val = (4 * (t.val / 4) + s.val) / 4 := by omega
  have hK : s.val * 1024 + k.val = (4 * (t.val / 4) + s.val) % 4 * 1024 + k.val := by omega
  exact congrArg₂ (fun a b : EReal => a * b) (blk0 m c _ k f J ⟨_, hl⟩ hJ' hK) (blk1 m c _ k d ⟨_, hl⟩ hK)

theorem block (t : Fin grid0.N) (h3 : t.val % 4 = 3) (j : Fin 1) (f : Fin 704) (d : Fin 1024) :
    (outsAt0 m c t.val t.isLt).1 (ix3 j f d) = downDw (a0 m c) (a1 m c) (((cfg0.win 2).blk t).view.emb (ix3 j f d)) := by
  obtain rfl : j = 0 := Subsingleton.elim _ _
  have h0 : (((cfg0.win 2).blk t).view.emb (ix3 0 f d) 0).val = t.val / 4 :=
    (Window.rect_emb_val win0_2 t (ix3 0 f d) ⟨0, (by decide : 0 < 3)⟩ rfl).trans (by rw [idx2 t]; show t.val / 4 * 1 + 0 = _; omega)
  have h1 : ((cfg0.win 2).blk t).view.emb (ix3 0 f d) 1 = f := Fin.ext
    ((Window.rect_emb_val win0_2 t (ix3 0 f d) ⟨1, (by decide : 1 < 3)⟩ rfl).trans (by rw [idx2 t]; show 0 * 704 + f.val = _; omega))
  have h2 : ((cfg0.win 2).blk t).view.emb (ix3 0 f d) 2 = d := Fin.ext
    ((Window.rect_emb_val win0_2 t (ix3 0 f d) ⟨2, (by decide : 2 < 3)⟩ rfl).trans (by rw [idx2 t]; show 0 * 1024 + d.val = _; omega))
  rw [out_scratch m c t h3]
  refine (pay4 _ f d).trans ((total m c f d t h3 _ h0).trans (Finset.sum_congr rfl fun k _ => ?_))
  exact congrArg₂ (fun a b : EReal => a * b) (congrArg (fun f => a0 m c (ix3 _ k f)) h1.symm) (congrArg (fun d => a1 m c (ix2 k d)) h2.symm)

theorem flushed (t : Fin grid0.N) (h3 : t.val % 4 = 3) :
    (dats m 0 c).flushed 2 t = ((cfg0.win 2).blk t).view.read (Elt Ideal) (downDw (a0 m c) (a1 m c)) := by
  rw [Value.flushed2]
  funext y
  have e : y = (ix3 (y 0) (y 1) (y 2) : S1x704x1024.Idx) := by
    funext b
    match b with
    | ⟨0, _⟩ => rfl
    | ⟨1, _⟩ => rfl
    | ⟨2, _⟩ => rfl
  rw [e]
  exact block m c t h3 _ _ _

theorem covered (i : S4x704x1024.Idx) : ∃ t : Fin cfg0.N, (cfg0.win 2).flush t = true ∧ i ∈ ((cfg0.win 2).blk t).view.set := by
  have h0 : (i 0).val < 4 := (i 0).isLt
  have h1 : (i 1).val < 704 := (i 1).isLt
  have h2 : (i 2).val < 1024 := (i 2).isLt
  let t : Fin grid0.N := ⟨(i 0).val * 4 + 3, lt_of_lt_of_eq (by omega) N_0.symm⟩
  have ht : t.val = (i 0).val * 4 + 3 := rfl
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [idx2 t]; show t.val / 4 * 1 ≤ _ ∧ _ < t.val / 4 * 1 + 1; omega
  | ⟨1, _⟩ => show win0_2.index t 1 * 704 ≤ (i 1).val ∧ (i 1).val < win0_2.index t 1 * 704 + 704; rw [idx2 t]; show 0 * 704 ≤ _ ∧ _ < 0 * 704 + 704; omega
  | ⟨2, _⟩ => show win0_2.index t 2 * 1024 ≤ (i 2).val ∧ (i 2).val < win0_2.index t 2 * 1024 + 1024; rw [idx2 t]; show 0 * 1024 ≤ _ ∧ _ < 0 * 1024 + 1024; omega

/-- The launch's result is the weights' gradient. -/
theorem final : (dats m 0 c).arrAt 2 cfg0.N = downDw (a0 m c) (a1 m c) :=
  (dats m 0 c).arrAt_eq_of_cover 2 _ (fun t ht => flushed m c t ((flush0_2 t).mp ht)) covered

end Cert.DownDwKernelIdeal.Hand

namespace Cert.DownDwReferenceIdeal.Hand

open Cert.DownDwReferenceIdeal Cert.DownDwReferenceIdeal.Gen Cert.DownDwReferenceIdeal.Read
open Idealize.ShloMosaic

/-- The reference's result is the weights' gradient. -/
theorem value (x0 : FVec Ideal S4x4096x704 .bf16) (x1 : FVec Ideal S4096x1024 .f32) :
    val_main_v8 (F := Ideal) x0 x1 = Cert.DownDwKernelIdeal.Hand.downDw x0 x1 := by
  funext y
  rw [val_main_v8_apply, val_main_v7_apply, val_main_v6_apply, val_main_v5_apply]
  refine Finset.sum_congr rfl fun k _ => ?_
  rw [val_main_v3_apply, val_main_v2_apply, val_main_v1_apply, mul_comm]
  have h1 : (y 1).val < 704 := (y 1).isLt
  have h0 : (y 0).val < 4 := (y 0).isLt
  have h2 : (y 2).val < 1024 := (y 2).isLt
  have hk := k.isLt
  refine congrArg₂ (fun a b : EReal => a * b) (congrArg x0 (funext fun b => Fin.ext ?_)) (congrArg x1 (funext fun b => Fin.ext ?_))
  · match b with
    | ⟨0, _⟩ => show (k.val * 2816 + (((y 0).val * 704 + (y 1).val) * 1024 + (y 2).val) / 1024) / 704 % 4 = (y 0).val; omega
    | ⟨1, _⟩ => show (k.val * 2816 + (((y 0).val * 704 + (y 1).val) * 1024 + (y 2).val) / 1024) / 2816 = k.val; omega
    | ⟨2, _⟩ => show (k.val * 2816 + (((y 0).val * 704 + (y 1).val) * 1024 + (y 2).val) / 1024) % 704 = (y 1).val; omega
  · match b with
    | ⟨0, _⟩ => rfl
    | ⟨1, _⟩ => show (((y 0).val * 704 + (y 1).val) * 1024 + (y 2).val) % 1024 = (y 2).val; omega

end Cert.DownDwReferenceIdeal.Hand

end
-- ==== Proof.KRun.lean ====
module

public import proofs.«01_k».proof.Proof.KTables

/-! The two kinds of grid points of the machine program, run with nothing said of what the outputs hold: a full
tile and a diagonal tile. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A full tile. -/
theorem runF (c : Dev nD) (i : grid0.Coords)
    (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2x512x1 .f32) (harg7 : arg7.IsWhole) (arg8 : Memref sig .tc .vmem S512x128 .bf16) (harg8 : arg8.IsWhole) (arg9 : Memref sig .tc .vmem S2x1x512 .f32) (harg9 : arg9.IsWhole) (arg10 : Memref sig .tc .vmem S2x1x512 .f32) (harg10 : arg10.IsWhole) (arg11 : Memref sig .tc .vmem S128x4096 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S2x1x512 .f32) (harg14 : arg14.IsWhole) (arg15 : Memref sig .tc .vmem S2x512x1 .f32) (harg15 : arg15.IsWhole)
    (x0 : Vec F S512x128 .bf16) (x1 : Vec F S512x128 .bf16) (x2 : Vec F S512x128 .bf16) (x3 : Vec F S2x512x1 .f32) (x4 : Vec F S512x128 .bf16) (x5 : Vec F S2x1x512 .f32) (x6 : Vec F S2x1x512 .f32) (xt0 : TbBuf0 (F := F) c tbM0_0) (xt1 : TbBuf0 (F := F) c tbM0_1)
    (hchk : k0_chk1 (View.readAt (Elt F) tbM0_0.view (Rect.unit (s := S36) (k0_off1 i) S1.size (k0_off1_inb i)).toLoadRect xt0 (Shape.Idx.first (numel1_S1.symm ▸ Nat.one_pos))) (View.readAt (Elt F) tbM0_1.view (Rect.unit (s := S36) (k0_off1 i) S1.size (k0_off1_inb i)).toLoadRect xt1 (Shape.Idx.first (numel1_S1.symm ▸ Nat.one_pos)))) (h1 : ¬ k0_cond1 i = 1#1) (h2 : ¬ k0_cond2 (View.readAt (Elt F) tbM0_0.view (Rect.unit (s := S36) (k0_off1 i) S1.size (k0_off1_inb i)).toLoadRect xt0 (Shape.Idx.first (numel1_S1.symm ▸ Nat.one_pos))) (View.readAt (Elt F) tbM0_1.view (Rect.unit (s := S36) (k0_off1 i) S1.size (k0_off1_inb i)).toLoadRect xt1 (Shape.Idx.first (numel1_S1.symm ▸ Nat.one_pos))) = 1#1) (h3 : k0_cond3 (View.readAt (Elt F) tbM0_0.view (Rect.unit (s := S36) (k0_off1 i) S1.size (k0_off1_inb i)).toLoadRect xt0 (Shape.Idx.first (numel1_S1.symm ▸ Nat.one_pos))) (View.readAt (Elt F) tbM0_1.view (Rect.unit (s := S36) (k0_off1 i) S1.size (k0_off1_inb i)).toLoadRect xt1 (Shape.Idx.first (numel1_S1.symm ▸ Nat.one_pos))) = 1#1) (h4 : ¬ k0_cond4 (View.readAt (Elt F) tbM0_0.view (Rect.unit (s := S36) (k0_off1 i) S1.size (k0_off1_inb i)).toLoadRect xt0 (Shape.Idx.first (numel1_S1.symm ▸ Nat.one_pos))) (View.readAt (Elt F) tbM0_1.view (Rect.unit (s := S36) (k0_off1 i) S1.size (k0_off1_inb i)).toLoadRect xt1 (Shape.Idx.first (numel1_S1.symm ▸ Nat.one_pos))) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ tbPt0 c tbM0_1 xt1) -∗ K ⟨⟩))
      ⊢ wp frame (wpE (defs₀ (F := F)) Variants.none c none) E (cc0_attn_bwd i tbM0_0 htbM0_0 tbM0_1 htbM0_1 arg4 harg4 arg5 harg5 arg6 harg6 arg7 harg7 arg8 harg8 arg9 harg9 arg10 harg10 arg11 harg11 arg12 harg12 arg13 harg13 arg14 harg14 arg15 harg15) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, HT0, HT1, Hk⟩
  subst hf0; subst hf1; subst hf2; subst hf3; subst hf4; subst hf5; subst hf6
  sl_exec
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [HT0]; · iexact HT0
  iexact HT1

set_option maxHeartbeats 4000000 in
/-- A diagonal tile. -/
theorem runT (c : Dev nD) (i : grid0.Coords)
    (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S2x512x1 .f32) (harg7 : arg7.IsWhole) (arg8 : Memref sig .tc .vmem S512x128 .bf16) (harg8 : arg8.IsWhole) (arg9 : Memref sig .tc .vmem S2x1x512 .f32) (harg9 : arg9.IsWhole) (arg10 : Memref sig .tc .vmem S2x1x512 .f32) (harg10 : arg10.IsWhole) (arg11 : Memref sig .tc .vmem S128x4096 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S2x1x512 .f32) (harg14 : arg14.IsWhole) (arg15 : Memref sig .tc .vmem S2x512x1 .f32) (harg15 : arg15.IsWhole)
    (x0 : Vec F S512x128 .bf16) (x1 : Vec F S512x128 .bf16) (x2 : Vec F S512x128 .bf16) (x3 : Vec F S2x512x1 .f32) (x4 : Vec F S512x128 .bf16) (x5 : Vec F S2x1x512 .f32) (x6 : Vec F S2x1x512 .f32) (xt0 : TbBuf0 (F := F) c tbM0_0) (xt1 : TbBuf0 (F := F) c tbM0_1)
    (hchk : k0_chk1 (View.readAt (Elt F) tbM0_0.view (Rect.unit (s := S36) (k0_off1 i) S1.size (k0_off1_inb i)).toLoadRect xt0 (Shape.Idx.first (numel1_S1.symm ▸ Nat.one_pos))) (View.readAt (Elt F) tbM0_1.view (Rect.unit (s := S36) (k0_off1 i) S1.size (k0_off1_inb i)).toLoadRect xt1 (Shape.Idx.first (numel1_S1.symm ▸ Nat.one_pos)))) (h2 : k0_cond2 (View.readAt (Elt F) tbM0_0.view (Rect.unit (s := S36) (k0_off1 i) S1.size (k0_off1_inb i)).toLoadRect xt0 (Shape.Idx.first (numel1_S1.symm ▸ Nat.one_pos))) (View.readAt (Elt F) tbM0_1.view (Rect.unit (s := S36) (k0_off1 i) S1.size (k0_off1_inb i)).toLoadRect xt1 (Shape.Idx.first (numel1_S1.symm ▸ Nat.one_pos))) = 1#1) (h3 : ¬ k0_cond3 (View.readAt (Elt F) tbM0_0.view (Rect.unit (s := S36) (k0_off1 i) S1.size (k0_off1_inb i)).toLoadRect xt0 (Shape.Idx.first (numel1_S1.symm ▸ Nat.one_pos))) (View.readAt (Elt F) tbM0_1.view (Rect.unit (s := S36) (k0_off1 i) S1.size (k0_off1_inb i)).toLoadRect xt1 (Shape.Idx.first (numel1_S1.symm ▸ Nat.one_pos))) = 1#1) (h4 : k0_cond4 (View.readAt (Elt F) tbM0_0.view (Rect.unit (s := S36) (k0_off1 i) S1.size (k0_off1_inb i)).toLoadRect xt0 (Shape.Idx.first (numel1_S1.symm ▸ Nat.one_pos))) (View.readAt (Elt F) tbM0_1.view (Rect.unit (s := S36) (k0_off1 i) S1.size (k0_off1_inb i)).toLoadRect xt1 (Shape.Idx.first (numel1_S1.symm ▸ Nat.one_pos))) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ tbPt0 c tbM0_1 xt1) -∗ K ⟨⟩))
      ⊢ wp frame (wpE (defs₀ (F := F)) Variants.none c none) E (cc0_attn_bwd i tbM0_0 htbM0_0 tbM0_1 htbM0_1 arg4 harg4 arg5 harg5 arg6 harg6 arg7 harg7 arg8 harg8 arg9 harg9 arg10 harg10 arg11 harg11 arg12 harg12 arg13 harg13 arg14 harg14 arg15 harg15) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, HT0, HT1, Hk⟩
  subst hf0; subst hf1; subst hf2; subst hf3; subst hf4; subst hf5; subst hf6
  sl_exec
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [HT0]; · iexact HT0
  iexact HT1

end Cert.Kernel.Hand

end
-- ==== Proof.KFrame.lean ====
module

public import proofs.«01_k».proof.Proof.KRun
public import Idealize.ShloMosaic.Lib.Claim

/-! The launch of the machine program: it ends, its arguments stay as they were, its counters end at zero; nothing is
said here of what it leaves in its results. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 11 → Bool := fun w => w.val == 7 || w.val == 8 || w.val == 9 || w.val == 10

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d))

set_option maxHeartbeats 1200000 in
/-- The body at any point: its tile is a diagonal one or a full one. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq, PhiA0_eq]
  iintro ⟨⟨⟨HS0, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rcases lit_cases (tileOf (grid0.coords t)) with ⟨k2, k3, k4⟩ | ⟨k1, k2, k3, k4⟩
  · iapply (runT c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (chk m c (grid0.coords t)) (by rw [w0_eq m c, w1_eq m c]; exact k2) (by rw [w0_eq m c, w1_eq m c]; exact k3) (by rw [w0_eq m c, w1_eq m c]; exact k4) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HT0]; · iexact HT0
    isplitl [HT1]; · iexact HT1
    iintro ⟨H0, H1, H2, H3, H4, H5, H6, H7, H8, H9, H10, HS0, HT0, HT1⟩
    isplitl [HS0 Hg HT0 HT1]
    · isplitl [HS0 Hg]
      · isplitl [HS0]
        · iexact HS0
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iapply (runF c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (chk m c (grid0.coords t)) (fun h => k1 ((cond1_iff _).mp h)) (by rw [w0_eq m c, w1_eq m c]; exact k2) (by rw [w0_eq m c, w1_eq m c]; exact k3) (by rw [w0_eq m c, w1_eq m c]; exact k4) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HT0]; · iexact HT0
    isplitl [HT1]; · iexact HT1
    iintro ⟨H0, H1, H2, H3, H4, H5, H6, H7, H8, H9, H10, HS0, HT0, HT1⟩
    isplitl [HS0 Hg HT0 HT1]
    · isplitl [HS0 Hg]
      · isplitl [HS0]
        · iexact HS0
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

-- `θ_run_frameP_forget_shared`'s implicit arguments are found by unifying its conclusion with this one, which takes unfolding plain
-- definitions in a metavariable's type
set_option backward.isDefEq.respectTransparency.types false in
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget_shared (Q' := _) pcfgs (fun _ => adm m hO) (dats m hO) (0 : Fin 1) launch₀0 defs₀ Variants.none forgets0 m ρ main
    (hbody := fun c => (body_obligation m hO c).loose) (hq := fun _ _ _ => rfl)
    (howed := fun _ _ => rfl) (V := V m) (hmain := hmain m Variants.none) (hA := A_eq m hO) (hpf := V_pre m) (hΦ := fun _ _ => rfl)

theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.Kernel.Hand

end
-- ==== Proof.lean ====
module

public import proofs.«01_k».proof.Defs
public import proofs.«01_k».proof.Proof.Gen.UpKernel
public import proofs.«01_k».proof.Proof.Gen.UpDwKernel
public import proofs.«01_k».proof.Proof.Gen.UpDxKernel
public import proofs.«01_k».proof.Proof.Gen.DownDxKernel
public import proofs.«01_k».proof.Proof.Gen.DownDwKernel
public import proofs.«01_k».proof.Proof.FwdFinal
public import proofs.«01_k».proof.Proof.Gen.FwdKernel
public import proofs.«01_k».proof.Proof.Gen.GluKernel
public import proofs.«01_k».proof.Proof.Gen.GluKernelIdeal.Value
public import proofs.«01_k».proof.Proof.Gen.GluReferenceIdeal.Read
public import proofs.«01_k».proof.Proof.Gen.GluDwKernel
public import proofs.«01_k».proof.Proof.Gen.GluDwKernelIdeal.Value
public import proofs.«01_k».proof.Proof.Gen.GluDwReferenceIdeal.Read
public import proofs.«01_k».proof.Proof.Gen.GluDyKernel
public import proofs.«01_k».proof.Proof.Gen.GluDyKernelIdeal.Value
public import proofs.«01_k».proof.Proof.Gen.GluDyReferenceIdeal.Read
public import proofs.«01_k».proof.Proof.Gen.QueryKernel
public import proofs.«01_k».proof.Proof.Gen.QueryKernelIdeal.Value
public import proofs.«01_k».proof.Proof.Gen.QueryReferenceIdeal.Read
public import proofs.«01_k».proof.Proof.Gen.SharedKernel
public import proofs.«01_k».proof.Proof.Gen.SharedKernelIdeal.Value
public import proofs.«01_k».proof.Proof.Gen.SharedReferenceIdeal.Read
public import proofs.«01_k».proof.Proof.Gen.OutDxKernel
public import proofs.«01_k».proof.Proof.Gen.OutDxKernelIdeal.Value
public import proofs.«01_k».proof.Proof.Gen.OutDxReferenceIdeal.Read
public import proofs.«01_k».proof.Proof.Glu
public import proofs.«01_k».proof.Proof.Proj
public import proofs.«01_k».proof.Proof.ProjDw
public import proofs.«01_k».proof.Proof.ProjOut
public import proofs.«01_k».proof.Proof.QueryDx
public import proofs.«01_k».proof.Proof.Gen.OutKernel
public import proofs.«01_k».proof.Proof.Gen.OutKernelIdeal.Value
public import proofs.«01_k».proof.Proof.Gen.OutReferenceIdeal.Read
public import proofs.«01_k».proof.Proof.Gen.OutDwKernel
public import proofs.«01_k».proof.Proof.Gen.OutDwKernelIdeal.Value
public import proofs.«01_k».proof.Proof.Gen.OutDwReferenceIdeal.Read
public import proofs.«01_k».proof.Proof.Gen.QueryDwKernel
public import proofs.«01_k».proof.Proof.Gen.QueryDwKernelIdeal.Value
public import proofs.«01_k».proof.Proof.Gen.QueryDwReferenceIdeal.Read
public import proofs.«01_k».proof.Proof.Gen.SharedDwKernel
public import proofs.«01_k».proof.Proof.Gen.SharedDwKernelIdeal.Value
public import proofs.«01_k».proof.Proof.Gen.SharedDwReferenceIdeal.Read
public import proofs.«01_k».proof.Proof.Gen.SharedDxKernel
public import proofs.«01_k».proof.Proof.Gen.SharedDxKernelIdeal.Value
public import proofs.«01_k».proof.Proof.Gen.SharedDxReferenceIdeal.Read
public import proofs.«01_k».proof.Proof.Gen.QueryDxKernel
public import proofs.«01_k».proof.Proof.Gen.QueryDxKernelIdeal.Value
public import proofs.«01_k».proof.Proof.Gen.QueryDxReferenceIdeal.Read
public import proofs.«01_k».proof.Proof.FfnUp
public import proofs.«01_k».proof.Proof.FfnDown
public import proofs.«01_k».proof.Proof.FfnLast
public import proofs.«01_k».proof.Proof.Gen.DownKernel
public import proofs.«01_k».proof.Proof.Gen.LastKernel
public import proofs.«01_k».proof.Proof.FfnUpDw
public import proofs.«01_k».proof.Proof.FfnUpDx
public import proofs.«01_k».proof.Proof.FfnDownDx
public import proofs.«01_k».proof.Proof.FfnDownDw
public import proofs.«01_k».proof.Proof.Gen.ReferenceIdeal.Run
public import proofs.«01_k».proof.Proof.KFrame
public import proofs.«01_k».proof.Proof.Launch
public import proofs.«01_k».proof.Proof.Value

/-! The proof of the claim. -/

@[expose] public section

noncomputable section

namespace Cert.Proof

open Idealize.ShloMosaic Idealize.SL.Sem Cert.Kernel

instance : Cert.FwdKernel.Facts := Cert.FwdKernel.Gen.facts
instance : Cert.FwdKernelIdeal.Facts := Cert.FwdKernelIdeal.Gen.facts
instance : Cert.UpKernel.Facts := Cert.UpKernel.Gen.facts
instance : Cert.UpKernelIdeal.Facts := Cert.UpKernelIdeal.Gen.facts
instance : Cert.UpDwKernel.Facts := Cert.UpDwKernel.Gen.facts
instance : Cert.UpDwKernelIdeal.Facts := Cert.UpDwKernelIdeal.Gen.facts
instance : Cert.UpDxKernel.Facts := Cert.UpDxKernel.Gen.facts
instance : Cert.UpDxKernelIdeal.Facts := Cert.UpDxKernelIdeal.Gen.facts
instance : Cert.DownKernel.Facts := Cert.DownKernel.Gen.facts
instance : Cert.DownKernelIdeal.Facts := Cert.DownKernelIdeal.Gen.facts
instance : Cert.LastKernel.Facts := Cert.LastKernel.Gen.facts
instance : Cert.LastKernelIdeal.Facts := Cert.LastKernelIdeal.Gen.facts
instance : Cert.DownDxKernel.Facts := Cert.DownDxKernel.Gen.facts
instance : Cert.DownDxKernelIdeal.Facts := Cert.DownDxKernelIdeal.Gen.facts
instance : Cert.DownDwKernel.Facts := Cert.DownDwKernel.Gen.facts
instance : Cert.DownDwKernelIdeal.Facts := Cert.DownDwKernelIdeal.Gen.facts
instance : Cert.GluKernel.Facts := Cert.GluKernel.Gen.facts
instance : Cert.GluKernelIdeal.Facts := Cert.GluKernelIdeal.Gen.facts
instance : Cert.GluDwKernel.Facts := Cert.GluDwKernel.Gen.facts
instance : Cert.GluDwKernelIdeal.Facts := Cert.GluDwKernelIdeal.Gen.facts
instance : Cert.GluDyKernel.Facts := Cert.GluDyKernel.Gen.facts
instance : Cert.GluDyKernelIdeal.Facts := Cert.GluDyKernelIdeal.Gen.facts
instance : Cert.QueryKernel.Facts := Cert.QueryKernel.Gen.facts
instance : Cert.QueryKernelIdeal.Facts := Cert.QueryKernelIdeal.Gen.facts
instance : Cert.SharedKernel.Facts := Cert.SharedKernel.Gen.facts
instance : Cert.SharedKernelIdeal.Facts := Cert.SharedKernelIdeal.Gen.facts
instance : Cert.OutDxKernel.Facts := Cert.OutDxKernel.Gen.facts
instance : Cert.OutDxKernelIdeal.Facts := Cert.OutDxKernelIdeal.Gen.facts
instance : Cert.OutKernel.Facts := Cert.OutKernel.Gen.facts
instance : Cert.OutKernelIdeal.Facts := Cert.OutKernelIdeal.Gen.facts
instance : Cert.OutDwKernel.Facts := Cert.OutDwKernel.Gen.facts
instance : Cert.OutDwKernelIdeal.Facts := Cert.OutDwKernelIdeal.Gen.facts
instance : Cert.QueryDwKernel.Facts := Cert.QueryDwKernel.Gen.facts
instance : Cert.QueryDwKernelIdeal.Facts := Cert.QueryDwKernelIdeal.Gen.facts
instance : Cert.SharedDwKernel.Facts := Cert.SharedDwKernel.Gen.facts
instance : Cert.SharedDwKernelIdeal.Facts := Cert.SharedDwKernelIdeal.Gen.facts
instance : Cert.SharedDxKernel.Facts := Cert.SharedDxKernel.Gen.facts
instance : Cert.SharedDxKernelIdeal.Facts := Cert.SharedDxKernelIdeal.Gen.facts
instance : Cert.QueryDxKernel.Facts := Cert.QueryDxKernel.Gen.facts
instance : Cert.QueryDxKernelIdeal.Facts := Cert.QueryDxKernelIdeal.Gen.facts

/-- Families over a single label are equal where they are equal at it. -/
theorem funext_one {β : Fin 1 → Type 1} {f g : (l : Fin 1) → β l} (h : f 0 = g 0) : f = g :=
  funext fun l => match l with
    | 0 => h

theorem finite_facts : Cert.Pre_finite.Facts := ⟨by decide, by decide, by decide⟩
theorem finite_fwd_facts : Cert.Pre_finite_fwd.Facts := ⟨by decide, by decide, by decide, by decide⟩

/-- Where the arguments are real numbers both programs leave the four gradients of the attention's real-number data. -/
theorem algebraic : algebraic_KernelIdeal_ReferenceIdeal_pre_finite (hKernelIdeal := Cert.KernelIdeal.Gen.facts)
    (hReferenceIdeal := Cert.ReferenceIdeal.Gen.facts) (hPre_finite := finite_facts) := by
  intro m g m' g' hpre hargs
  have H := fun c => @Attn.args_of finite_facts _ _ _ _ (hpre c).1 (hpre c).2.1 (hpre c).2.2.1 (hpre c).2.2.2
  refine ⟨fun c => Attn.gQ _, fun c => Attn.gK _, fun c => Attn.gV _, fun c => Attn.gC _,
    Cert.KernelIdeal.Hand.run_value m g _ H, Cert.ReferenceIdeal.Hand.run_value m' g' _ fun c => ?_⟩
  obtain ⟨h0, h1, h2, h3⟩ := hargs c
  rw [h0, h1, h2, h3]
  exact H c

/-- The machine's floats with each named constant at the number that the machine program has in its place. -/
abbrev machine : Named Bits := ⟨fun _ _ {φ} b => Scalar.ofBits φ b⟩

theorem defs_fwd : Cert.FwdKernel.defs (F := Bits) = letI := machine; Cert.FwdKernelIdeal.defs (F := Bits) :=
  congrArg (Pipeline.defs Cert.FwdKernelIdeal.pcfgs) (congrArg Defs.onTc (funext_one rfl))

theorem frame_fwd : quiescent_FwdKernel (hFwdKernel := Cert.FwdKernel.Gen.facts) := fun m ρ _ => by
  letI := machine
  rw [defs_fwd]
  exact Cert.FwdKernelIdeal.Gen.frame (F := Bits) m ρ

/-- Where the arguments are real numbers both programs leave the attention's result and the rows' log-sums of the same real-number data. -/
theorem algebraic_fwd : algebraic_FwdKernelIdeal_FwdReferenceIdeal_pre_finite_fwd (hFwdKernelIdeal := Cert.FwdKernelIdeal.Gen.facts)
    (hFwdReferenceIdeal := Cert.FwdReferenceIdeal.Gen.facts) (hPre_finite_fwd := finite_fwd_facts) := by
  intro m g m' g' hpre hargs
  have H := fun c => @Cert.FwdKernelIdeal.Hand.args_of finite_fwd_facts _ _ _ (hpre c).1 (hpre c).2.1 (hpre c).2.2
  refine ⟨fun c => Cert.FwdKernelIdeal.Hand.arrO _, fun c => Cert.FwdKernelIdeal.Hand.arrO _, fun c => Cert.FwdKernelIdeal.Hand.arrL _,
    (θ_run Cert.FwdKernelIdeal.defs _ _).mono (fun _ h c => ⟨(h c).1.trans (Cert.FwdKernelIdeal.Hand.value_o m c _ (H c)),
      (h c).2.1.trans (Cert.FwdKernelIdeal.Hand.value_o32 m c _ (H c)), (h c).2.2.1.trans (Cert.FwdKernelIdeal.Hand.value_l m c _ (H c)), (h c).2.2.2⟩)
      (Cert.FwdKernelIdeal.Value.run (F := Ideal) m g),
    (θ_run Cert.FwdReferenceIdeal.defs _ _).mono (fun _ h c => ?_) (Cert.FwdReferenceIdeal.Value.run (F := Ideal) m' g')⟩
  obtain ⟨h0, h1, h2⟩ := hargs c
  have K := H c
  rw [← h0, ← h1, ← h2] at K
  exact ⟨(h c).1.trans ((Cert.FwdReferenceIdeal.Read.val_main_v58_eq m' c).trans ((Cert.FwdReferenceIdeal.Hand.value58 _ _ _ _ K).trans (by rw [h0, h1, h2]; rfl))),
    (h c).2.1.trans ((Cert.FwdReferenceIdeal.Read.val_main_v41_eq m' c).trans ((Cert.FwdReferenceIdeal.Hand.value41 _ _ _ _ K).trans (by rw [h0, h1, h2]; rfl))),
    (h c).2.2.1.trans ((Cert.FwdReferenceIdeal.Read.val_main_v59_eq _ _ _).trans ((Cert.FwdReferenceIdeal.Hand.value59 _ _ _ _ K).trans (by rw [h0, h1, h2]; rfl))), (h c).2.2.2⟩

theorem defs_up : Cert.UpKernel.defs (F := Bits) = Cert.UpKernelIdeal.defs (F := Bits) :=
  congrArg (Pipeline.defs Cert.UpKernelIdeal.pcfgs) (congrArg Defs.onTc (funext_one rfl))

theorem frame_up : quiescent_UpKernel (hUpKernel := Cert.UpKernel.Gen.facts) := fun m ρ _ => by
  rw [defs_up]
  exact Cert.UpKernelIdeal.Gen.frame (F := Bits) m ρ

/-- Both programs leave `up` of the arguments. -/
theorem algebraic_up : algebraic_UpKernelIdeal_UpReferenceIdeal (hUpKernelIdeal := Cert.UpKernelIdeal.Gen.facts)
    (hUpReferenceIdeal := Cert.UpReferenceIdeal.Gen.facts) := by
  intro m g m' g' _ hargs
  refine ⟨fun c => Cert.UpKernelIdeal.Hand.up _ _,
    (θ_run Cert.UpKernelIdeal.defs _ _).mono (fun _ h c => ⟨(h c).1.trans (Cert.UpKernelIdeal.Hand.final m c), (h c).2⟩)
      (Cert.UpKernelIdeal.Value.run_blocks (F := Ideal) m g),
    (θ_run Cert.UpReferenceIdeal.defs _ _).mono (fun _ h c => ⟨?_, (h c).2⟩) (Cert.UpReferenceIdeal.Value.run (F := Ideal) m' g')⟩
  refine (h c).1.trans ((Cert.UpReferenceIdeal.Read.val_main_v6_eq _ _).trans ((Cert.UpReferenceIdeal.Hand.value _ _).trans ?_))
  rw [(hargs c).1, (hargs c).2]

theorem defs_upDw : Cert.UpDwKernel.defs (F := Bits) = Cert.UpDwKernelIdeal.defs (F := Bits) :=
  congrArg (Pipeline.defs Cert.UpDwKernelIdeal.pcfgs) (congrArg Defs.onTc (funext_one rfl))

theorem frame_upDw : quiescent_UpDwKernel (hUpDwKernel := Cert.UpDwKernel.Gen.facts) := fun m ρ _ => by
  rw [defs_upDw]
  exact Cert.UpDwKernelIdeal.Gen.frame (F := Bits) m ρ

/-- Both programs leave `upDw` of the arguments. -/
theorem algebraic_upDw : algebraic_UpDwKernelIdeal_UpDwReferenceIdeal (hUpDwKernelIdeal := Cert.UpDwKernelIdeal.Gen.facts)
    (hUpDwReferenceIdeal := Cert.UpDwReferenceIdeal.Gen.facts) := by
  intro m g m' g' _ hargs
  refine ⟨fun c => Cert.UpDwKernelIdeal.Hand.upDw _ _,
    (θ_run Cert.UpDwKernelIdeal.defs _ _).mono (fun _ h c => ⟨(h c).1.trans (Cert.UpDwKernelIdeal.Hand.final m c), (h c).2⟩)
      (Cert.UpDwKernelIdeal.Value.run_blocks (F := Ideal) m g),
    (θ_run Cert.UpDwReferenceIdeal.defs _ _).mono (fun _ h c => ⟨?_, (h c).2⟩) (Cert.UpDwReferenceIdeal.Value.run (F := Ideal) m' g')⟩
  refine (h c).1.trans ((Cert.UpDwReferenceIdeal.Read.val_main_v10_eq _ _).trans ((Cert.UpDwReferenceIdeal.Hand.value _ _).trans ?_))
  rw [(hargs c).1, (hargs c).2]

theorem defs_upDx : Cert.UpDxKernel.defs (F := Bits) = Cert.UpDxKernelIdeal.defs (F := Bits) :=
  congrArg (Pipeline.defs Cert.UpDxKernelIdeal.pcfgs) (congrArg Defs.onTc (funext_one rfl))

theorem frame_upDx : quiescent_UpDxKernel (hUpDxKernel := Cert.UpDxKernel.Gen.facts) := fun m ρ _ => by
  rw [defs_upDx]
  exact Cert.UpDxKernelIdeal.Gen.frame (F := Bits) m ρ

/-- Both programs leave `upDx` and `upDg` of the arguments. -/
theorem algebraic_upDx : algebraic_UpDxKernelIdeal_UpDxReferenceIdeal (hUpDxKernelIdeal := Cert.UpDxKernelIdeal.Gen.facts)
    (hUpDxReferenceIdeal := Cert.UpDxReferenceIdeal.Gen.facts) := by
  intro m g m' g' _ hargs
  refine ⟨fun c => Cert.UpDxKernelIdeal.Hand.upDx _ _ _ _ _, fun c => Cert.UpDxKernelIdeal.Hand.upDg _ _ _,
    (θ_run Cert.UpDxKernelIdeal.defs _ _).mono (fun _ h c => ⟨(h c).1.trans (Cert.UpDxKernelIdeal.Hand.final5 m c),
      (h c).2.1.trans (Cert.UpDxKernelIdeal.Hand.final6 m c), (h c).2.2⟩) (Cert.UpDxKernelIdeal.Value.run_blocks (F := Ideal) m g),
    (θ_run Cert.UpDxReferenceIdeal.defs _ _).mono (fun _ h c => ⟨?_, ?_, (h c).2.2⟩) (Cert.UpDxReferenceIdeal.Value.run (F := Ideal) m' g')⟩
  · refine (h c).1.trans ((Cert.UpDxReferenceIdeal.Read.val_main_v47_eq _ _).trans ((Cert.UpDxReferenceIdeal.Hand.value47 _ _ _ _ _).trans ?_))
    rw [(hargs c).1, (hargs c).2.1, (hargs c).2.2.1, (hargs c).2.2.2.1, (hargs c).2.2.2.2]
  · refine (h c).2.1.trans ((Cert.UpDxReferenceIdeal.Read.val_main_v48_eq _ _ _).trans ((Cert.UpDxReferenceIdeal.Hand.value48 _ _ _).trans ?_))
    rw [(hargs c).1, (hargs c).2.1, (hargs c).2.2.1]

theorem defs_out : Cert.DownKernel.defs (F := Bits) = Cert.DownKernelIdeal.defs (F := Bits) :=
  congrArg (Pipeline.defs Cert.DownKernelIdeal.pcfgs) (congrArg Defs.onTc (funext_one rfl))

theorem frame_out : quiescent_DownKernel (hDownKernel := Cert.DownKernel.Gen.facts) := fun m ρ _ => by
  rw [defs_out]
  exact Cert.DownKernelIdeal.Gen.frame (F := Bits) m ρ

/-- Both programs leave `out` and `outNorm` of the arguments. -/
theorem algebraic_out : algebraic_DownKernelIdeal_DownReferenceIdeal (hDownKernelIdeal := Cert.DownKernelIdeal.Gen.facts)
    (hDownReferenceIdeal := Cert.DownReferenceIdeal.Gen.facts) := by
  intro m g m' g' _ hargs
  refine ⟨fun c => Cert.DownKernelIdeal.Hand.out _ _ _, fun c => Cert.DownKernelIdeal.Hand.outNorm _ _ _ _,
    (θ_run Cert.DownKernelIdeal.defs _ _).mono (fun _ h c => ⟨(h c).1.trans (Cert.DownKernelIdeal.Hand.final4 m c),
      (h c).2.1.trans (Cert.DownKernelIdeal.Hand.final5 m c), (h c).2.2⟩) (Cert.DownKernelIdeal.Value.run_blocks (F := Ideal) m g),
    (θ_run Cert.DownReferenceIdeal.defs _ _).mono (fun _ h c => ⟨?_, ?_, (h c).2.2⟩) (Cert.DownReferenceIdeal.Value.run (F := Ideal) m' g')⟩
  · refine (h c).1.trans ((Cert.DownReferenceIdeal.Read.val_main_v6_eq _ _ _).trans ((Cert.DownReferenceIdeal.Hand.value6 _ _ _).trans ?_))
    rw [(hargs c).1, (hargs c).2.1, (hargs c).2.2.1]
  · refine (h c).2.1.trans ((Cert.DownReferenceIdeal.Read.val_main_v21_eq _ _ _ _).trans ((Cert.DownReferenceIdeal.Hand.value21 _ _ _ _).trans ?_))
    rw [(hargs c).1, (hargs c).2.1, (hargs c).2.2.1, (hargs c).2.2.2]

theorem defs_last : Cert.LastKernel.defs (F := Bits) = Cert.LastKernelIdeal.defs (F := Bits) :=
  congrArg (Pipeline.defs Cert.LastKernelIdeal.pcfgs) (congrArg Defs.onTc (funext_one rfl))

theorem frame_last : quiescent_LastKernel (hLastKernel := Cert.LastKernel.Gen.facts) := fun m ρ _ => by
  rw [defs_last]
  exact Cert.LastKernelIdeal.Gen.frame (F := Bits) m ρ

/-- Both programs leave `out` of the arguments. -/
theorem algebraic_last : algebraic_LastKernelIdeal_LastReferenceIdeal (hLastKernelIdeal := Cert.LastKernelIdeal.Gen.facts)
    (hLastReferenceIdeal := Cert.LastReferenceIdeal.Gen.facts) := by
  intro m g m' g' _ hargs
  refine ⟨fun c => Cert.DownKernelIdeal.Hand.out _ _ _,
    (θ_run Cert.LastKernelIdeal.defs _ _).mono (fun _ h c => ⟨(h c).1.trans (Cert.LastKernelIdeal.Hand.final m c), (h c).2⟩)
      (Cert.LastKernelIdeal.Value.run_blocks (F := Ideal) m g),
    (θ_run Cert.LastReferenceIdeal.defs _ _).mono (fun _ h c => ⟨?_, (h c).2⟩) (Cert.LastReferenceIdeal.Value.run (F := Ideal) m' g')⟩
  refine (h c).1.trans ((Cert.LastReferenceIdeal.Read.val_main_v6_eq _ _ _).trans ((Cert.LastReferenceIdeal.Hand.value6 _ _ _).trans ?_))
  rw [(hargs c).1, (hargs c).2.1, (hargs c).2.2]

theorem defs_down : Cert.DownDxKernel.defs (F := Bits) = Cert.DownDxKernelIdeal.defs (F := Bits) :=
  congrArg (Pipeline.defs Cert.DownDxKernelIdeal.pcfgs) (congrArg Defs.onTc (funext_one rfl))

theorem frame_down : quiescent_DownDxKernel (hDownDxKernel := Cert.DownDxKernel.Gen.facts) := fun m ρ _ => by
  rw [defs_down]
  exact Cert.DownDxKernelIdeal.Gen.frame (F := Bits) m ρ

/-- Both programs leave `down` of the arguments. -/
theorem algebraic_down : algebraic_DownDxKernelIdeal_DownDxReferenceIdeal (hDownDxKernelIdeal := Cert.DownDxKernelIdeal.Gen.facts)
    (hDownDxReferenceIdeal := Cert.DownDxReferenceIdeal.Gen.facts) := by
  intro m g m' g' _ hargs
  refine ⟨fun c => Cert.DownDxKernelIdeal.Hand.down _ _,
    (θ_run Cert.DownDxKernelIdeal.defs _ _).mono (fun _ h c => ⟨(h c).1.trans (Cert.DownDxKernelIdeal.Hand.final m c), (h c).2⟩)
      (Cert.DownDxKernelIdeal.Value.run_blocks (F := Ideal) m g),
    (θ_run Cert.DownDxReferenceIdeal.defs _ _).mono (fun _ h c => ⟨?_, (h c).2⟩) (Cert.DownDxReferenceIdeal.Value.run (F := Ideal) m' g')⟩
  refine (h c).1.trans ((Cert.DownDxReferenceIdeal.Read.val_main_v6_eq _ _).trans ((Cert.DownDxReferenceIdeal.Hand.value _ _).trans ?_))
  rw [(hargs c).1, (hargs c).2]

theorem defs_downDw : Cert.DownDwKernel.defs (F := Bits) = Cert.DownDwKernelIdeal.defs (F := Bits) :=
  congrArg (Pipeline.defs Cert.DownDwKernelIdeal.pcfgs) (congrArg Defs.onTc (funext_one rfl))

theorem frame_downDw : quiescent_DownDwKernel (hDownDwKernel := Cert.DownDwKernel.Gen.facts) := fun m ρ _ => by
  rw [defs_downDw]
  exact Cert.DownDwKernelIdeal.Gen.frame (F := Bits) m ρ

/-- Both programs leave `downDw` of the arguments. -/
theorem algebraic_downDw : algebraic_DownDwKernelIdeal_DownDwReferenceIdeal (hDownDwKernelIdeal := Cert.DownDwKernelIdeal.Gen.facts)
    (hDownDwReferenceIdeal := Cert.DownDwReferenceIdeal.Gen.facts) := by
  intro m g m' g' _ hargs
  refine ⟨fun c => Cert.DownDwKernelIdeal.Hand.downDw _ _,
    (θ_run Cert.DownDwKernelIdeal.defs _ _).mono (fun _ h c => ⟨(h c).1.trans (Cert.DownDwKernelIdeal.Hand.final m c), (h c).2⟩)
      (Cert.DownDwKernelIdeal.Value.run_blocks (F := Ideal) m g),
    (θ_run Cert.DownDwReferenceIdeal.defs _ _).mono (fun _ h c => ⟨?_, (h c).2⟩) (Cert.DownDwReferenceIdeal.Value.run (F := Ideal) m' g')⟩
  refine (h c).1.trans ((Cert.DownDwReferenceIdeal.Read.val_main_v8_eq _ _).trans ((Cert.DownDwReferenceIdeal.Hand.value _ _).trans ?_))
  rw [(hargs c).1, (hargs c).2]

theorem defs_glu : Cert.GluKernel.defs (F := Bits) = Cert.GluKernelIdeal.defs (F := Bits) :=
  congrArg (Pipeline.defs Cert.GluKernelIdeal.pcfgs) (congrArg Defs.onTc (funext_one rfl))

theorem frame_glu : quiescent_GluKernel (hGluKernel := Cert.GluKernel.Gen.facts) := fun m ρ _ => by
  rw [defs_glu]
  exact Cert.GluKernelIdeal.Gen.frame (F := Bits) m ρ

/-- Both programs leave `glu` of the arguments. -/
theorem algebraic_glu : algebraic_GluKernelIdeal_GluReferenceIdeal (hGluKernelIdeal := Cert.GluKernelIdeal.Gen.facts)
    (hGluReferenceIdeal := Cert.GluReferenceIdeal.Gen.facts) := by
  intro m g m' g' _ hargs
  refine ⟨fun c => Cert.GluKernelIdeal.Hand.glu _ _,
    (θ_run Cert.GluKernelIdeal.defs _ _).mono (fun _ h c => ⟨(h c).1.trans (Cert.GluKernelIdeal.Hand.final m c), (h c).2⟩)
      (Cert.GluKernelIdeal.Value.run_blocks (F := Ideal) m g),
    (θ_run Cert.GluReferenceIdeal.defs _ _).mono (fun _ h c => ⟨?_, (h c).2⟩) (Cert.GluReferenceIdeal.Value.run (F := Ideal) m' g')⟩
  refine (h c).1.trans ((Cert.GluReferenceIdeal.Read.val_main_v6_eq _ _).trans ((Cert.GluReferenceIdeal.Hand.value _ _).trans ?_))
  rw [(hargs c).1, (hargs c).2]

theorem defs_gluDw : Cert.GluDwKernel.defs (F := Bits) = Cert.GluDwKernelIdeal.defs (F := Bits) :=
  congrArg (Pipeline.defs Cert.GluDwKernelIdeal.pcfgs) (congrArg Defs.onTc (funext_one rfl))

theorem frame_gluDw : quiescent_GluDwKernel (hGluDwKernel := Cert.GluDwKernel.Gen.facts) := fun m ρ _ => by
  rw [defs_gluDw]
  exact Cert.GluDwKernelIdeal.Gen.frame (F := Bits) m ρ

/-- Both programs leave `gluDw` of the arguments. -/
theorem algebraic_gluDw : algebraic_GluDwKernelIdeal_GluDwReferenceIdeal (hGluDwKernelIdeal := Cert.GluDwKernelIdeal.Gen.facts)
    (hGluDwReferenceIdeal := Cert.GluDwReferenceIdeal.Gen.facts) := by
  intro m g m' g' _ hargs
  refine ⟨fun c => Cert.GluDwKernelIdeal.Hand.gluDw _ _,
    (θ_run Cert.GluDwKernelIdeal.defs _ _).mono (fun _ h c => ⟨(h c).1.trans (Cert.GluDwKernelIdeal.Hand.final m c), (h c).2⟩)
      (Cert.GluDwKernelIdeal.Value.run_blocks (F := Ideal) m g),
    (θ_run Cert.GluDwReferenceIdeal.defs _ _).mono (fun _ h c => ⟨?_, (h c).2⟩) (Cert.GluDwReferenceIdeal.Value.run (F := Ideal) m' g')⟩
  refine (h c).1.trans ((Cert.GluDwReferenceIdeal.Read.val_main_v10_eq _ _).trans ((Cert.GluDwReferenceIdeal.Hand.value _ _).trans ?_))
  rw [(hargs c).1, (hargs c).2]

theorem defs_gluDy : Cert.GluDyKernel.defs (F := Bits) = Cert.GluDyKernelIdeal.defs (F := Bits) :=
  congrArg (Pipeline.defs Cert.GluDyKernelIdeal.pcfgs) (congrArg Defs.onTc (funext_one rfl))

theorem frame_gluDy : quiescent_GluDyKernel (hGluDyKernel := Cert.GluDyKernel.Gen.facts) := fun m ρ _ => by
  rw [defs_gluDy]
  exact Cert.GluDyKernelIdeal.Gen.frame (F := Bits) m ρ

/-- Both programs leave `gluDy` of the arguments. -/
theorem algebraic_gluDy : algebraic_GluDyKernelIdeal_GluDyReferenceIdeal (hGluDyKernelIdeal := Cert.GluDyKernelIdeal.Gen.facts)
    (hGluDyReferenceIdeal := Cert.GluDyReferenceIdeal.Gen.facts) := by
  intro m g m' g' _ hargs
  refine ⟨fun c => Cert.GluDyKernelIdeal.Hand.gluDy _ _,
    (θ_run Cert.GluDyKernelIdeal.defs _ _).mono (fun _ h c => ⟨(h c).1.trans (Cert.GluDyKernelIdeal.Hand.final m c), (h c).2⟩)
      (Cert.GluDyKernelIdeal.Value.run_blocks (F := Ideal) m g),
    (θ_run Cert.GluDyReferenceIdeal.defs _ _).mono (fun _ h c => ⟨?_, (h c).2⟩) (Cert.GluDyReferenceIdeal.Value.run (F := Ideal) m' g')⟩
  refine (h c).1.trans ((Cert.GluDyReferenceIdeal.Read.val_main_v9_eq _ _).trans ((Cert.GluDyReferenceIdeal.Hand.value _ _).trans ?_))
  rw [(hargs c).1, (hargs c).2]

theorem defs_query : Cert.QueryKernel.defs (F := Bits) = Cert.QueryKernelIdeal.defs (F := Bits) :=
  congrArg (Pipeline.defs Cert.QueryKernelIdeal.pcfgs) (congrArg Defs.onTc (funext_one rfl))

theorem frame_query : quiescent_QueryKernel (hQueryKernel := Cert.QueryKernel.Gen.facts) := fun m ρ _ => by
  rw [defs_query]
  exact Cert.QueryKernelIdeal.Gen.frame (F := Bits) m ρ

/-- Both programs leave `times` of the arguments. -/
theorem algebraic_query : algebraic_QueryKernelIdeal_QueryReferenceIdeal (hQueryKernelIdeal := Cert.QueryKernelIdeal.Gen.facts)
    (hQueryReferenceIdeal := Cert.QueryReferenceIdeal.Gen.facts) := by
  intro m g m' g' _ hargs
  refine ⟨fun c => Cert.Proj.times _ _,
    (θ_run Cert.QueryKernelIdeal.defs _ _).mono (fun _ h c => ⟨(h c).1.trans (Cert.QueryKernelIdeal.Hand.final m c), (h c).2⟩)
      (Cert.QueryKernelIdeal.Value.run_blocks (F := Ideal) m g),
    (θ_run Cert.QueryReferenceIdeal.defs _ _).mono (fun _ h c => ⟨?_, (h c).2⟩) (Cert.QueryReferenceIdeal.Value.run (F := Ideal) m' g')⟩
  refine (h c).1.trans ((Cert.QueryReferenceIdeal.Read.val_main_v3_eq _ _).trans ((Cert.QueryReferenceIdeal.Hand.value _ _).trans ?_))
  rw [(hargs c).1, (hargs c).2]

theorem defs_shared : Cert.SharedKernel.defs (F := Bits) = Cert.SharedKernelIdeal.defs (F := Bits) :=
  congrArg (Pipeline.defs Cert.SharedKernelIdeal.pcfgs) (congrArg Defs.onTc (funext_one rfl))

theorem frame_shared : quiescent_SharedKernel (hSharedKernel := Cert.SharedKernel.Gen.facts) := fun m ρ _ => by
  rw [defs_shared]
  exact Cert.SharedKernelIdeal.Gen.frame (F := Bits) m ρ

/-- Both programs leave `times` of the arguments. -/
theorem algebraic_shared : algebraic_SharedKernelIdeal_SharedReferenceIdeal (hSharedKernelIdeal := Cert.SharedKernelIdeal.Gen.facts)
    (hSharedReferenceIdeal := Cert.SharedReferenceIdeal.Gen.facts) := by
  intro m g m' g' _ hargs
  refine ⟨fun c => Cert.Proj.times _ _,
    (θ_run Cert.SharedKernelIdeal.defs _ _).mono (fun _ h c => ⟨(h c).1.trans (Cert.SharedKernelIdeal.Hand.final m c), (h c).2⟩)
      (Cert.SharedKernelIdeal.Value.run_blocks (F := Ideal) m g),
    (θ_run Cert.SharedReferenceIdeal.defs _ _).mono (fun _ h c => ⟨?_, (h c).2⟩) (Cert.SharedReferenceIdeal.Value.run (F := Ideal) m' g')⟩
  refine (h c).1.trans ((Cert.SharedReferenceIdeal.Read.val_main_v3_eq _ _).trans ((Cert.SharedReferenceIdeal.Hand.value _ _).trans ?_))
  rw [(hargs c).1, (hargs c).2]

theorem defs_outDx : Cert.OutDxKernel.defs (F := Bits) = Cert.OutDxKernelIdeal.defs (F := Bits) :=
  congrArg (Pipeline.defs Cert.OutDxKernelIdeal.pcfgs) (congrArg Defs.onTc (funext_one rfl))

theorem frame_outDx : quiescent_OutDxKernel (hOutDxKernel := Cert.OutDxKernel.Gen.facts) := fun m ρ _ => by
  rw [defs_outDx]
  exact Cert.OutDxKernelIdeal.Gen.frame (F := Bits) m ρ

/-- Both programs leave `timesT` of the arguments. -/
theorem algebraic_outDx : algebraic_OutDxKernelIdeal_OutDxReferenceIdeal (hOutDxKernelIdeal := Cert.OutDxKernelIdeal.Gen.facts)
    (hOutDxReferenceIdeal := Cert.OutDxReferenceIdeal.Gen.facts) := by
  intro m g m' g' _ hargs
  refine ⟨fun c => Cert.Proj.timesT _ _,
    (θ_run Cert.OutDxKernelIdeal.defs _ _).mono (fun _ h c => ⟨(h c).1.trans (Cert.OutDxKernelIdeal.Hand.final m c), (h c).2⟩)
      (Cert.OutDxKernelIdeal.Value.run_blocks (F := Ideal) m g),
    (θ_run Cert.OutDxReferenceIdeal.defs _ _).mono (fun _ h c => ⟨?_, (h c).2⟩) (Cert.OutDxReferenceIdeal.Value.run (F := Ideal) m' g')⟩
  refine (h c).1.trans ((Cert.OutDxReferenceIdeal.Read.val_main_v4_eq _ _).trans ((Cert.OutDxReferenceIdeal.Hand.value _ _).trans ?_))
  rw [(hargs c).1, (hargs c).2]

theorem defs_outMm : Cert.OutKernel.defs (F := Bits) = Cert.OutKernelIdeal.defs (F := Bits) :=
  congrArg (Pipeline.defs Cert.OutKernelIdeal.pcfgs) (congrArg Defs.onTc (funext_one rfl))

theorem frame_outMm : quiescent_OutKernel (hOutKernel := Cert.OutKernel.Gen.facts) := fun m ρ _ => by
  rw [defs_outMm]
  exact Cert.OutKernelIdeal.Gen.frame (F := Bits) m ρ

/-- Both programs leave the projection's sum and its norm. -/
theorem algebraic_outMm : algebraic_OutKernelIdeal_OutReferenceIdeal (hOutKernelIdeal := Cert.OutKernelIdeal.Gen.facts)
    (hOutReferenceIdeal := Cert.OutReferenceIdeal.Gen.facts) := by
  intro m g m' g' _ hargs
  refine ⟨fun c => Cert.OutKernelIdeal.Hand.out _ _ _, fun c => Cert.OutKernelIdeal.Hand.outNorm _ _ _ _,
    (θ_run Cert.OutKernelIdeal.defs _ _).mono (fun _ h c => ⟨(h c).1.trans (Cert.OutKernelIdeal.Hand.final4 m c),
      (h c).2.1.trans (Cert.OutKernelIdeal.Hand.final5 m c), (h c).2.2⟩) (Cert.OutKernelIdeal.Value.run_blocks (F := Ideal) m g),
    (θ_run Cert.OutReferenceIdeal.defs _ _).mono (fun _ h c => ⟨?_, ?_, (h c).2.2⟩) (Cert.OutReferenceIdeal.Value.run (F := Ideal) m' g')⟩
  · refine (h c).1.trans ((Cert.OutReferenceIdeal.Read.val_main_v3_eq _ _ _).trans ((Cert.OutReferenceIdeal.Hand.value3 _ _ _).trans ?_))
    rw [(hargs c).1, (hargs c).2.1, (hargs c).2.2.1]
  · refine (h c).2.1.trans ((Cert.OutReferenceIdeal.Read.val_main_v18_eq _ _ _ _).trans ((Cert.OutReferenceIdeal.Hand.value18 _ _ _ _).trans ?_))
    rw [(hargs c).1, (hargs c).2.1, (hargs c).2.2.1, (hargs c).2.2.2]

theorem defs_outDw : Cert.OutDwKernel.defs (F := Bits) = Cert.OutDwKernelIdeal.defs (F := Bits) :=
  congrArg (Pipeline.defs Cert.OutDwKernelIdeal.pcfgs) (congrArg Defs.onTc (funext_one rfl))

theorem frame_outDw : quiescent_OutDwKernel (hOutDwKernel := Cert.OutDwKernel.Gen.facts) := fun m ρ _ => by
  rw [defs_outDw]
  exact Cert.OutDwKernelIdeal.Gen.frame (F := Bits) m ρ

/-- Both programs leave `outDw` of the arguments. -/
theorem algebraic_outDw : algebraic_OutDwKernelIdeal_OutDwReferenceIdeal (hOutDwKernelIdeal := Cert.OutDwKernelIdeal.Gen.facts)
    (hOutDwReferenceIdeal := Cert.OutDwReferenceIdeal.Gen.facts) := by
  intro m g m' g' _ hargs
  refine ⟨fun c => Cert.ProjDw.outDw _ _,
    (θ_run Cert.OutDwKernelIdeal.defs _ _).mono (fun _ h c => ⟨(h c).1.trans (Cert.OutDwKernelIdeal.Hand.final m c), (h c).2⟩)
      (Cert.OutDwKernelIdeal.Value.run_blocks (F := Ideal) m g),
    (θ_run Cert.OutDwReferenceIdeal.defs _ _).mono (fun _ h c => ⟨?_, (h c).2⟩) (Cert.OutDwReferenceIdeal.Value.run (F := Ideal) m' g')⟩
  refine (h c).1.trans ((Cert.OutDwReferenceIdeal.Read.val_main_v5_eq _ _).trans ((Cert.OutDwReferenceIdeal.Hand.value _ _).trans ?_))
  rw [(hargs c).1, (hargs c).2]

theorem defs_queryDw : Cert.QueryDwKernel.defs (F := Bits) = Cert.QueryDwKernelIdeal.defs (F := Bits) :=
  congrArg (Pipeline.defs Cert.QueryDwKernelIdeal.pcfgs) (congrArg Defs.onTc (funext_one rfl))

theorem frame_queryDw : quiescent_QueryDwKernel (hQueryDwKernel := Cert.QueryDwKernel.Gen.facts) := fun m ρ _ => by
  rw [defs_queryDw]
  exact Cert.QueryDwKernelIdeal.Gen.frame (F := Bits) m ρ

/-- Both programs leave `queryDw` of the arguments. -/
theorem algebraic_queryDw : algebraic_QueryDwKernelIdeal_QueryDwReferenceIdeal (hQueryDwKernelIdeal := Cert.QueryDwKernelIdeal.Gen.facts)
    (hQueryDwReferenceIdeal := Cert.QueryDwReferenceIdeal.Gen.facts) := by
  intro m g m' g' _ hargs
  refine ⟨fun c => Cert.ProjDw.queryDw _ _,
    (θ_run Cert.QueryDwKernelIdeal.defs _ _).mono (fun _ h c => ⟨(h c).1.trans (Cert.QueryDwKernelIdeal.Hand.final m c), (h c).2⟩)
      (Cert.QueryDwKernelIdeal.Value.run_blocks (F := Ideal) m g),
    (θ_run Cert.QueryDwReferenceIdeal.defs _ _).mono (fun _ h c => ⟨?_, (h c).2⟩) (Cert.QueryDwReferenceIdeal.Value.run (F := Ideal) m' g')⟩
  refine (h c).1.trans ((Cert.QueryDwReferenceIdeal.Read.val_main_v6_eq _ _).trans ((Cert.QueryDwReferenceIdeal.Hand.value _ _).trans ?_))
  rw [(hargs c).1, (hargs c).2]

theorem defs_sharedDw : Cert.SharedDwKernel.defs (F := Bits) = Cert.SharedDwKernelIdeal.defs (F := Bits) :=
  congrArg (Pipeline.defs Cert.SharedDwKernelIdeal.pcfgs) (congrArg Defs.onTc (funext_one rfl))

theorem frame_sharedDw : quiescent_SharedDwKernel (hSharedDwKernel := Cert.SharedDwKernel.Gen.facts) := fun m ρ _ => by
  rw [defs_sharedDw]
  exact Cert.SharedDwKernelIdeal.Gen.frame (F := Bits) m ρ

/-- Both programs leave `sharedDw` of the arguments. -/
theorem algebraic_sharedDw : algebraic_SharedDwKernelIdeal_SharedDwReferenceIdeal (hSharedDwKernelIdeal := Cert.SharedDwKernelIdeal.Gen.facts)
    (hSharedDwReferenceIdeal := Cert.SharedDwReferenceIdeal.Gen.facts) := by
  intro m g m' g' _ hargs
  refine ⟨fun c => Cert.ProjDw.sharedDw _ _,
    (θ_run Cert.SharedDwKernelIdeal.defs _ _).mono (fun _ h c => ⟨(h c).1.trans (Cert.SharedDwKernelIdeal.Hand.final m c), (h c).2⟩)
      (Cert.SharedDwKernelIdeal.Value.run_blocks (F := Ideal) m g),
    (θ_run Cert.SharedDwReferenceIdeal.defs _ _).mono (fun _ h c => ⟨?_, (h c).2⟩) (Cert.SharedDwReferenceIdeal.Value.run (F := Ideal) m' g')⟩
  refine (h c).1.trans ((Cert.SharedDwReferenceIdeal.Read.val_main_v5_eq _ _).trans ((Cert.SharedDwReferenceIdeal.Hand.value _ _).trans ?_))
  rw [(hargs c).1, (hargs c).2]

theorem defs_sharedDx : Cert.SharedDxKernel.defs (F := Bits) = Cert.SharedDxKernelIdeal.defs (F := Bits) :=
  congrArg (Pipeline.defs Cert.SharedDxKernelIdeal.pcfgs) (congrArg Defs.onTc (funext_one rfl))

theorem frame_sharedDx : quiescent_SharedDxKernel (hSharedDxKernel := Cert.SharedDxKernel.Gen.facts) := fun m ρ _ => by
  rw [defs_sharedDx]
  exact Cert.SharedDxKernelIdeal.Gen.frame (F := Bits) m ρ

/-- Both programs leave `sharedDx` of the arguments. -/
theorem algebraic_sharedDx : algebraic_SharedDxKernelIdeal_SharedDxReferenceIdeal (hSharedDxKernelIdeal := Cert.SharedDxKernelIdeal.Gen.facts)
    (hSharedDxReferenceIdeal := Cert.SharedDxReferenceIdeal.Gen.facts) := by
  intro m g m' g' _ hargs
  refine ⟨fun c => Cert.ProjDw.sharedDx _ _,
    (θ_run Cert.SharedDxKernelIdeal.defs _ _).mono (fun _ h c => ⟨(h c).1.trans (Cert.SharedDxKernelIdeal.Hand.final m c), (h c).2⟩)
      (Cert.SharedDxKernelIdeal.Value.run_blocks (F := Ideal) m g),
    (θ_run Cert.SharedDxReferenceIdeal.defs _ _).mono (fun _ h c => ⟨?_, (h c).2⟩) (Cert.SharedDxReferenceIdeal.Value.run (F := Ideal) m' g')⟩
  refine (h c).1.trans ((Cert.SharedDxReferenceIdeal.Read.val_main_v4_eq _ _).trans ((Cert.SharedDxReferenceIdeal.Hand.value _ _).trans ?_))
  rw [(hargs c).1, (hargs c).2]

theorem defs_queryDx : Cert.QueryDxKernel.defs (F := Bits) = Cert.QueryDxKernelIdeal.defs (F := Bits) :=
  congrArg (Pipeline.defs Cert.QueryDxKernelIdeal.pcfgs) (congrArg Defs.onTc (funext_one rfl))

theorem frame_queryDx : quiescent_QueryDxKernel (hQueryDxKernel := Cert.QueryDxKernel.Gen.facts) := fun m ρ _ => by
  rw [defs_queryDx]
  exact Cert.QueryDxKernelIdeal.Gen.frame (F := Bits) m ρ

/-- Both programs leave `queryDx` and `queryDg` of the arguments. -/
theorem algebraic_queryDx : algebraic_QueryDxKernelIdeal_QueryDxReferenceIdeal (hQueryDxKernelIdeal := Cert.QueryDxKernelIdeal.Gen.facts)
    (hQueryDxReferenceIdeal := Cert.QueryDxReferenceIdeal.Gen.facts) := by
  intro m g m' g' _ hargs
  refine ⟨fun c => Cert.QueryDxKernelIdeal.Hand.queryDx _ _ _ _ _, fun c => Cert.QueryDxKernelIdeal.Hand.queryDg _ _ _,
    (θ_run Cert.QueryDxKernelIdeal.defs _ _).mono (fun _ h c => ⟨(h c).1.trans (Cert.QueryDxKernelIdeal.Hand.final5 m c),
      (h c).2.1.trans (Cert.QueryDxKernelIdeal.Hand.final6 m c), (h c).2.2⟩) (Cert.QueryDxKernelIdeal.Value.run_blocks (F := Ideal) m g),
    (θ_run Cert.QueryDxReferenceIdeal.defs _ _).mono (fun _ h c => ⟨?_, ?_, (h c).2.2⟩) (Cert.QueryDxReferenceIdeal.Value.run (F := Ideal) m' g')⟩
  · refine (h c).1.trans ((Cert.QueryDxReferenceIdeal.Read.val_main_v43_eq _ _).trans ((Cert.QueryDxReferenceIdeal.Hand.value43 _ _ _ _ _).trans ?_))
    rw [(hargs c).1, (hargs c).2.1, (hargs c).2.2.1, (hargs c).2.2.2.1, (hargs c).2.2.2.2]
  · refine (h c).2.1.trans ((Cert.QueryDxReferenceIdeal.Read.val_main_v44_eq _ _ _).trans ((Cert.QueryDxReferenceIdeal.Hand.value44 _ _ _).trans ?_))
    rw [(hargs c).1, (hargs c).2.1, (hargs c).2.2.1]

theorem claim : Cert.Claim := ⟨Cert.Kernel.Gen.facts, Cert.KernelIdeal.Gen.facts, Cert.ReferenceIdeal.Gen.facts,
  Cert.FwdKernel.Gen.facts, Cert.FwdKernelIdeal.Gen.facts, Cert.FwdReferenceIdeal.Gen.facts,
  Cert.UpKernel.Gen.facts, Cert.UpKernelIdeal.Gen.facts, Cert.UpReferenceIdeal.Gen.facts,
  Cert.UpDwKernel.Gen.facts, Cert.UpDwKernelIdeal.Gen.facts, Cert.UpDwReferenceIdeal.Gen.facts,
  Cert.UpDxKernel.Gen.facts, Cert.UpDxKernelIdeal.Gen.facts, Cert.UpDxReferenceIdeal.Gen.facts,
  Cert.DownKernel.Gen.facts, Cert.DownKernelIdeal.Gen.facts, Cert.DownReferenceIdeal.Gen.facts,
  Cert.LastKernel.Gen.facts, Cert.LastKernelIdeal.Gen.facts, Cert.LastReferenceIdeal.Gen.facts,
  Cert.DownDxKernel.Gen.facts, Cert.DownDxKernelIdeal.Gen.facts, Cert.DownDxReferenceIdeal.Gen.facts,
  Cert.DownDwKernel.Gen.facts, Cert.DownDwKernelIdeal.Gen.facts, Cert.DownDwReferenceIdeal.Gen.facts,
  Cert.GluKernel.Gen.facts, Cert.GluKernelIdeal.Gen.facts, Cert.GluReferenceIdeal.Gen.facts,
  Cert.GluDwKernel.Gen.facts, Cert.GluDwKernelIdeal.Gen.facts, Cert.GluDwReferenceIdeal.Gen.facts,
  Cert.GluDyKernel.Gen.facts, Cert.GluDyKernelIdeal.Gen.facts, Cert.GluDyReferenceIdeal.Gen.facts,
  Cert.QueryKernel.Gen.facts, Cert.QueryKernelIdeal.Gen.facts, Cert.QueryReferenceIdeal.Gen.facts,
  Cert.SharedKernel.Gen.facts, Cert.SharedKernelIdeal.Gen.facts, Cert.SharedReferenceIdeal.Gen.facts,
  Cert.OutDxKernel.Gen.facts, Cert.OutDxKernelIdeal.Gen.facts, Cert.OutDxReferenceIdeal.Gen.facts,
  Cert.OutKernel.Gen.facts, Cert.OutKernelIdeal.Gen.facts, Cert.OutReferenceIdeal.Gen.facts,
  Cert.OutDwKernel.Gen.facts, Cert.OutDwKernelIdeal.Gen.facts, Cert.OutDwReferenceIdeal.Gen.facts,
  Cert.QueryDwKernel.Gen.facts, Cert.QueryDwKernelIdeal.Gen.facts, Cert.QueryDwReferenceIdeal.Gen.facts,
  Cert.SharedDwKernel.Gen.facts, Cert.SharedDwKernelIdeal.Gen.facts, Cert.SharedDwReferenceIdeal.Gen.facts,
  Cert.SharedDxKernel.Gen.facts, Cert.SharedDxKernelIdeal.Gen.facts, Cert.SharedDxReferenceIdeal.Gen.facts,
  Cert.QueryDxKernel.Gen.facts, Cert.QueryDxKernelIdeal.Gen.facts, Cert.QueryDxReferenceIdeal.Gen.facts,
  finite_facts, finite_fwd_facts,
  fun m ρ _ => Cert.Kernel.Hand.frame m ρ (Cert.Kernel.Hand.ok m),
  fun m ρ _ => Cert.KernelIdeal.Hand.frame m ρ (Cert.KernelIdeal.Hand.ok m),
  fun m ρ _ => Cert.KernelIdeal.Hand.frame m ρ (Cert.KernelIdeal.Hand.ok m),
  fun m ρ _ => (θ_run Cert.ReferenceIdeal.defs _ _).mono (fun _ h => ⟨fun c => (h c).2.2.2.2,
    Idealize.ShloMosaic.sem_eq_zero_of_no_sems (by decide) _⟩) (Cert.ReferenceIdeal.Value.run m ρ),
  fun m ρ _ => (θ_run Cert.ReferenceIdeal.defs _ _).mono (fun _ h => ⟨fun c => (h c).2.2.2.2,
    Idealize.ShloMosaic.sem_eq_zero_of_no_sems (by decide) _⟩) (Cert.ReferenceIdeal.Value.run m ρ),
  frame_fwd, fun m ρ _ => Cert.FwdKernelIdeal.Gen.frame m ρ, fun m ρ _ => Cert.FwdKernelIdeal.Gen.frame m ρ,
  fun m ρ _ => (θ_run Cert.FwdReferenceIdeal.defs _ _).mono (fun _ h => ⟨fun c => (h c).2.2.2,
    Idealize.ShloMosaic.sem_eq_zero_of_no_sems (by decide) _⟩) (Cert.FwdReferenceIdeal.Value.run m ρ),
  fun m ρ _ => (θ_run Cert.FwdReferenceIdeal.defs _ _).mono (fun _ h => ⟨fun c => (h c).2.2.2,
    Idealize.ShloMosaic.sem_eq_zero_of_no_sems (by decide) _⟩) (Cert.FwdReferenceIdeal.Value.run m ρ),
  frame_up, fun m ρ _ => Cert.UpKernelIdeal.Gen.frame m ρ,
  fun m ρ _ => (θ_run Cert.UpReferenceIdeal.defs _ _).mono (fun _ h => ⟨fun c => (h c).2,
    Idealize.ShloMosaic.sem_eq_zero_of_no_sems (by decide) _⟩) (Cert.UpReferenceIdeal.Value.run m ρ),
  frame_upDw, fun m ρ _ => Cert.UpDwKernelIdeal.Gen.frame m ρ,
  fun m ρ _ => (θ_run Cert.UpDwReferenceIdeal.defs _ _).mono (fun _ h => ⟨fun c => (h c).2,
    Idealize.ShloMosaic.sem_eq_zero_of_no_sems (by decide) _⟩) (Cert.UpDwReferenceIdeal.Value.run m ρ),
  frame_upDx, fun m ρ _ => Cert.UpDxKernelIdeal.Gen.frame m ρ,
  fun m ρ _ => (θ_run Cert.UpDxReferenceIdeal.defs _ _).mono (fun _ h => ⟨fun c => (h c).2.2,
    Idealize.ShloMosaic.sem_eq_zero_of_no_sems (by decide) _⟩) (Cert.UpDxReferenceIdeal.Value.run m ρ),
  frame_out, fun m ρ _ => Cert.DownKernelIdeal.Gen.frame m ρ,
  fun m ρ _ => (θ_run Cert.DownReferenceIdeal.defs _ _).mono (fun _ h => ⟨fun c => (h c).2.2,
    Idealize.ShloMosaic.sem_eq_zero_of_no_sems (by decide) _⟩) (Cert.DownReferenceIdeal.Value.run m ρ),
  frame_last, fun m ρ _ => Cert.LastKernelIdeal.Gen.frame m ρ,
  fun m ρ _ => (θ_run Cert.LastReferenceIdeal.defs _ _).mono (fun _ h => ⟨fun c => (h c).2,
    Idealize.ShloMosaic.sem_eq_zero_of_no_sems (by decide) _⟩) (Cert.LastReferenceIdeal.Value.run m ρ),
  frame_down, fun m ρ _ => Cert.DownDxKernelIdeal.Gen.frame m ρ,
  fun m ρ _ => (θ_run Cert.DownDxReferenceIdeal.defs _ _).mono (fun _ h => ⟨fun c => (h c).2,
    Idealize.ShloMosaic.sem_eq_zero_of_no_sems (by decide) _⟩) (Cert.DownDxReferenceIdeal.Value.run m ρ),
  frame_downDw, fun m ρ _ => Cert.DownDwKernelIdeal.Gen.frame m ρ,
  fun m ρ _ => (θ_run Cert.DownDwReferenceIdeal.defs _ _).mono (fun _ h => ⟨fun c => (h c).2,
    Idealize.ShloMosaic.sem_eq_zero_of_no_sems (by decide) _⟩) (Cert.DownDwReferenceIdeal.Value.run m ρ),
  frame_glu, fun m ρ _ => Cert.GluKernelIdeal.Gen.frame m ρ,
  fun m ρ _ => (θ_run Cert.GluReferenceIdeal.defs _ _).mono (fun _ h => ⟨fun c => (h c).2,
    Idealize.ShloMosaic.sem_eq_zero_of_no_sems (by decide) _⟩) (Cert.GluReferenceIdeal.Value.run m ρ),
  frame_gluDw, fun m ρ _ => Cert.GluDwKernelIdeal.Gen.frame m ρ,
  fun m ρ _ => (θ_run Cert.GluDwReferenceIdeal.defs _ _).mono (fun _ h => ⟨fun c => (h c).2,
    Idealize.ShloMosaic.sem_eq_zero_of_no_sems (by decide) _⟩) (Cert.GluDwReferenceIdeal.Value.run m ρ),
  frame_gluDy, fun m ρ _ => Cert.GluDyKernelIdeal.Gen.frame m ρ,
  fun m ρ _ => (θ_run Cert.GluDyReferenceIdeal.defs _ _).mono (fun _ h => ⟨fun c => (h c).2,
    Idealize.ShloMosaic.sem_eq_zero_of_no_sems (by decide) _⟩) (Cert.GluDyReferenceIdeal.Value.run m ρ),
  frame_query, fun m ρ _ => Cert.QueryKernelIdeal.Gen.frame m ρ,
  fun m ρ _ => (θ_run Cert.QueryReferenceIdeal.defs _ _).mono (fun _ h => ⟨fun c => (h c).2,
    Idealize.ShloMosaic.sem_eq_zero_of_no_sems (by decide) _⟩) (Cert.QueryReferenceIdeal.Value.run m ρ),
  frame_shared, fun m ρ _ => Cert.SharedKernelIdeal.Gen.frame m ρ,
  fun m ρ _ => (θ_run Cert.SharedReferenceIdeal.defs _ _).mono (fun _ h => ⟨fun c => (h c).2,
    Idealize.ShloMosaic.sem_eq_zero_of_no_sems (by decide) _⟩) (Cert.SharedReferenceIdeal.Value.run m ρ),
  frame_outDx, fun m ρ _ => Cert.OutDxKernelIdeal.Gen.frame m ρ,
  fun m ρ _ => (θ_run Cert.OutDxReferenceIdeal.defs _ _).mono (fun _ h => ⟨fun c => (h c).2,
    Idealize.ShloMosaic.sem_eq_zero_of_no_sems (by decide) _⟩) (Cert.OutDxReferenceIdeal.Value.run m ρ),
  frame_outMm, fun m ρ _ => Cert.OutKernelIdeal.Gen.frame m ρ,
  fun m ρ _ => (θ_run Cert.OutReferenceIdeal.defs _ _).mono (fun _ h => ⟨fun c => (h c).2.2,
    Idealize.ShloMosaic.sem_eq_zero_of_no_sems (by decide) _⟩) (Cert.OutReferenceIdeal.Value.run m ρ),
  frame_outDw, fun m ρ _ => Cert.OutDwKernelIdeal.Gen.frame m ρ,
  fun m ρ _ => (θ_run Cert.OutDwReferenceIdeal.defs _ _).mono (fun _ h => ⟨fun c => (h c).2,
    Idealize.ShloMosaic.sem_eq_zero_of_no_sems (by decide) _⟩) (Cert.OutDwReferenceIdeal.Value.run m ρ),
  frame_queryDw, fun m ρ _ => Cert.QueryDwKernelIdeal.Gen.frame m ρ,
  fun m ρ _ => (θ_run Cert.QueryDwReferenceIdeal.defs _ _).mono (fun _ h => ⟨fun c => (h c).2,
    Idealize.ShloMosaic.sem_eq_zero_of_no_sems (by decide) _⟩) (Cert.QueryDwReferenceIdeal.Value.run m ρ),
  frame_sharedDw, fun m ρ _ => Cert.SharedDwKernelIdeal.Gen.frame m ρ,
  fun m ρ _ => (θ_run Cert.SharedDwReferenceIdeal.defs _ _).mono (fun _ h => ⟨fun c => (h c).2,
    Idealize.ShloMosaic.sem_eq_zero_of_no_sems (by decide) _⟩) (Cert.SharedDwReferenceIdeal.Value.run m ρ),
  frame_sharedDx, fun m ρ _ => Cert.SharedDxKernelIdeal.Gen.frame m ρ,
  fun m ρ _ => (θ_run Cert.SharedDxReferenceIdeal.defs _ _).mono (fun _ h => ⟨fun c => (h c).2,
    Idealize.ShloMosaic.sem_eq_zero_of_no_sems (by decide) _⟩) (Cert.SharedDxReferenceIdeal.Value.run m ρ),
  frame_queryDx, fun m ρ _ => Cert.QueryDxKernelIdeal.Gen.frame m ρ,
  fun m ρ _ => (θ_run Cert.QueryDxReferenceIdeal.defs _ _).mono (fun _ h => ⟨fun c => (h c).2.2,
    Idealize.ShloMosaic.sem_eq_zero_of_no_sems (by decide) _⟩) (Cert.QueryDxReferenceIdeal.Value.run m ρ),
  IdealRules.named_const.statement Cert.KernelIdeal.κ "mask" .f32 0xF149F2CA#32 ⊥ rfl,
  algebraic, IdealRules.named_const.statement Cert.FwdKernelIdeal.κ "mask" .f32 0xF149F2CA#32 ⊥ rfl, algebraic_fwd, trivial, algebraic_up, trivial, algebraic_upDw, trivial, algebraic_upDx, trivial, algebraic_out, trivial, algebraic_last, trivial, algebraic_down, trivial, algebraic_downDw,
  trivial, algebraic_glu, trivial, algebraic_gluDw, trivial, algebraic_gluDy, trivial, algebraic_query, trivial, algebraic_shared, trivial, algebraic_outDx,
  trivial, algebraic_outMm, trivial, algebraic_outDw, trivial, algebraic_queryDw, trivial, algebraic_sharedDw, trivial, algebraic_sharedDx, trivial, algebraic_queryDx⟩

end Cert.Proof

end
